-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v26_0)) (v1 : (c : Dev Cert.Kernel2Ideal.nD) → Buf (Elt Ideal) ((c.tc : Thread Cert.Kernel2Ideal.nD Cert.Kernel2Ideal.τ).loc Cert.Kernel2Ideal.main_v26_1)) (v2 : (c : Dev Cert.Kernel2Ideal.nD) → Buf (Elt Ideal) ((c.tc : Thread Cert.Kernel2Ideal.nD Cert.Kernel2Ideal.τ).loc Cert.Kernel2Ideal.main_v26_2)) (v3 : (c : Dev Cert.Kernel2Ideal.nD) → Buf (Elt Ideal) ((c.tc : Thread Cert.Kernel2Ideal.nD Cert.Kernel2Ideal.τ).loc Cert.Kernel2Ideal.main_v26_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26_0) = v0 c
          ∧ r.2.mem ((c.tc : Thread Cert.Kernel2Ideal.nD Cert.Kernel2Ideal.τ).loc Cert.Kernel2Ideal.main_v26_1) = v1 c
          ∧ r.2.mem ((c.tc : Thread Cert.Kernel2Ideal.nD Cert.Kernel2Ideal.τ).loc Cert.Kernel2Ideal.main_v26_2) = v2 c
          ∧ r.2.mem ((c.tc : Thread Cert.Kernel2Ideal.nD Cert.Kernel2Ideal.τ).loc Cert.Kernel2Ideal.main_v26_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_v75) = v1 c
          ∧ r.2.mem ((c.tc : Thread Cert.Reference2Ideal.nD Cert.Reference2Ideal.τ).loc Cert.Reference2Ideal.main_v77) = v2 c
          ∧ r.2.mem ((c.tc : Thread Cert.Reference2Ideal.nD Cert.Reference2Ideal.τ).loc Cert.Reference2Ideal.main_v78) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v27_0)) (v1 : (c : Dev Cert.Kernel3Ideal.nD) → Buf (Elt Ideal) ((c.tc : Thread Cert.Kernel3Ideal.nD Cert.Kernel3Ideal.τ).loc Cert.Kernel3Ideal.main_v27_1)) (v2 : (c : Dev Cert.Kernel3Ideal.nD) → Buf (Elt Ideal) ((c.tc : Thread Cert.Kernel3Ideal.nD Cert.Kernel3Ideal.τ).loc Cert.Kernel3Ideal.main_v27_2)) (v3 : (c : Dev Cert.Kernel3Ideal.nD) → Buf (Elt Ideal) ((c.tc : Thread Cert.Kernel3Ideal.nD Cert.Kernel3Ideal.τ).loc Cert.Kernel3Ideal.main_v27_3)) (v4 : (c : Dev Cert.Kernel3Ideal.nD) → Buf (Elt Ideal) ((c.tc : Thread Cert.Kernel3Ideal.nD Cert.Kernel3Ideal.τ).loc Cert.Kernel3Ideal.main_v27_4)) (v5 : (c : Dev Cert.Kernel3Ideal.nD) → Buf (Elt Ideal) ((c.tc : Thread Cert.Kernel3Ideal.nD Cert.Kernel3Ideal.τ).loc Cert.Kernel3Ideal.main_v27_5)) (v6 : (c : Dev Cert.Kernel3Ideal.nD) → Buf (Elt Ideal) ((c.tc : Thread Cert.Kernel3Ideal.nD Cert.Kernel3Ideal.τ).loc Cert.Kernel3Ideal.main_v27_6)) (v7 : (c : Dev Cert.Kernel3Ideal.nD) → Buf (Elt Ideal) ((c.tc : Thread Cert.Kernel3Ideal.nD Cert.Kernel3Ideal.τ).loc Cert.Kernel3Ideal.main_v27_7)) (v8 : (c : Dev Cert.Kernel3Ideal.nD) → Buf (Elt Ideal) ((c.tc : Thread Cert.Kernel3Ideal.nD Cert.Kernel3Ideal.τ).loc Cert.Kernel3Ideal.main_v27_8)) (v9 : (c : Dev Cert.Kernel3Ideal.nD) → Buf (Elt Ideal) ((c.tc : Thread Cert.Kernel3Ideal.nD Cert.Kernel3Ideal.τ).loc Cert.Kernel3Ideal.main_v27_9)) (v10 : (c : Dev Cert.Kernel3Ideal.nD) → Buf (Elt Ideal) ((c.tc : Thread Cert.Kernel3Ideal.nD Cert.Kernel3Ideal.τ).loc Cert.Kernel3Ideal.main_v27_10)) (v11 : (c : Dev Cert.Kernel3Ideal.nD) → Buf (Elt Ideal) ((c.tc : Thread Cert.Kernel3Ideal.nD Cert.Kernel3Ideal.τ).loc Cert.Kernel3Ideal.main_v27_11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27_0) = v0 c
          ∧ r.2.mem ((c.tc : Thread Cert.Kernel3Ideal.nD Cert.Kernel3Ideal.τ).loc Cert.Kernel3Ideal.main_v27_1) = v1 c
          ∧ r.2.mem ((c.tc : Thread Cert.Kernel3Ideal.nD Cert.Kernel3Ideal.τ).loc Cert.Kernel3Ideal.main_v27_2) = v2 c
          ∧ r.2.mem ((c.tc : Thread Cert.Kernel3Ideal.nD Cert.Kernel3Ideal.τ).loc Cert.Kernel3Ideal.main_v27_3) = v3 c
          ∧ r.2.mem ((c.tc : Thread Cert.Kernel3Ideal.nD Cert.Kernel3Ideal.τ).loc Cert.Kernel3Ideal.main_v27_4) = v4 c
          ∧ r.2.mem ((c.tc : Thread Cert.Kernel3Ideal.nD Cert.Kernel3Ideal.τ).loc Cert.Kernel3Ideal.main_v27_5) = v5 c
          ∧ r.2.mem ((c.tc : Thread Cert.Kernel3Ideal.nD Cert.Kernel3Ideal.τ).loc Cert.Kernel3Ideal.main_v27_6) = v6 c
          ∧ r.2.mem ((c.tc : Thread Cert.Kernel3Ideal.nD Cert.Kernel3Ideal.τ).loc Cert.Kernel3Ideal.main_v27_7) = v7 c
          ∧ r.2.mem ((c.tc : Thread Cert.Kernel3Ideal.nD Cert.Kernel3Ideal.τ).loc Cert.Kernel3Ideal.main_v27_8) = v8 c
          ∧ r.2.mem ((c.tc : Thread Cert.Kernel3Ideal.nD Cert.Kernel3Ideal.τ).loc Cert.Kernel3Ideal.main_v27_9) = v9 c
          ∧ r.2.mem ((c.tc : Thread Cert.Kernel3Ideal.nD Cert.Kernel3Ideal.τ).loc Cert.Kernel3Ideal.main_v27_10) = v10 c
          ∧ r.2.mem ((c.tc : Thread Cert.Kernel3Ideal.nD Cert.Kernel3Ideal.τ).loc Cert.Kernel3Ideal.main_v27_11) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v154) = v0 c
          ∧ r.2.mem ((c.tc : Thread Cert.Reference3Ideal.nD Cert.Reference3Ideal.τ).loc Cert.Reference3Ideal.main_v156) = v1 c
          ∧ r.2.mem ((c.tc : Thread Cert.Reference3Ideal.nD Cert.Reference3Ideal.τ).loc Cert.Reference3Ideal.main_v158) = v2 c
          ∧ r.2.mem ((c.tc : Thread Cert.Reference3Ideal.nD Cert.Reference3Ideal.τ).loc Cert.Reference3Ideal.main_v160) = v3 c
          ∧ r.2.mem ((c.tc : Thread Cert.Reference3Ideal.nD Cert.Reference3Ideal.τ).loc Cert.Reference3Ideal.main_v161) = v4 c
          ∧ r.2.mem ((c.tc : Thread Cert.Reference3Ideal.nD Cert.Reference3Ideal.τ).loc Cert.Reference3Ideal.main_v163) = v5 c
          ∧ r.2.mem ((c.tc : Thread Cert.Reference3Ideal.nD Cert.Reference3Ideal.τ).loc Cert.Reference3Ideal.main_v165) = v6 c
          ∧ r.2.mem ((c.tc : Thread Cert.Reference3Ideal.nD Cert.Reference3Ideal.τ).loc Cert.Reference3Ideal.main_v167) = v7 c
          ∧ r.2.mem ((c.tc : Thread Cert.Reference3Ideal.nD Cert.Reference3Ideal.τ).loc Cert.Reference3Ideal.main_v169) = v8 c
          ∧ r.2.mem ((c.tc : Thread Cert.Reference3Ideal.nD Cert.Reference3Ideal.τ).loc Cert.Reference3Ideal.main_v170) = v9 c
          ∧ r.2.mem ((c.tc : Thread Cert.Reference3Ideal.nD Cert.Reference3Ideal.τ).loc Cert.Reference3Ideal.main_v171) = v10 c
          ∧ r.2.mem ((c.tc : Thread Cert.Reference3Ideal.nD Cert.Reference3Ideal.τ).loc Cert.Reference3Ideal.main_v172) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v109_0)) (v1 : (c : Dev Cert.Kernel4Ideal.nD) → Buf (Elt Ideal) ((c.tc : Thread Cert.Kernel4Ideal.nD Cert.Kernel4Ideal.τ).loc Cert.Kernel4Ideal.main_v109_1)) (v2 : (c : Dev Cert.Kernel4Ideal.nD) → Buf (Elt Ideal) ((c.tc : Thread Cert.Kernel4Ideal.nD Cert.Kernel4Ideal.τ).loc Cert.Kernel4Ideal.main_v109_4)) (v3 : (c : Dev Cert.Kernel4Ideal.nD) → Buf (Elt Ideal) ((c.tc : Thread Cert.Kernel4Ideal.nD Cert.Kernel4Ideal.τ).loc Cert.Kernel4Ideal.main_v109_5)) (v4 : (c : Dev Cert.Kernel4Ideal.nD) → Buf (Elt Ideal) ((c.tc : Thread Cert.Kernel4Ideal.nD Cert.Kernel4Ideal.τ).loc Cert.Kernel4Ideal.main_v109_6)) (v5 : (c : Dev Cert.Kernel4Ideal.nD) → Buf (Elt Ideal) ((c.tc : Thread Cert.Kernel4Ideal.nD Cert.Kernel4Ideal.τ).loc Cert.Kernel4Ideal.main_v109_7)) (v6 : (c : Dev Cert.Kernel4Ideal.nD) → Buf (Elt Ideal) ((c.tc : Thread Cert.Kernel4Ideal.nD Cert.Kernel4Ideal.τ).loc Cert.Kernel4Ideal.main_v109_8)) (v7 : (c : Dev Cert.Kernel4Ideal.nD) → Buf (Elt Ideal) ((c.tc : Thread Cert.Kernel4Ideal.nD Cert.Kernel4Ideal.τ).loc Cert.Kernel4Ideal.main_v109_9)) (v8 : (c : Dev Cert.Kernel4Ideal.nD) → Buf (Elt Ideal) ((c.tc : Thread Cert.Kernel4Ideal.nD Cert.Kernel4Ideal.τ).loc Cert.Kernel4Ideal.main_v109_10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v109_0) = v0 c
          ∧ r.2.mem ((c.tc : Thread Cert.Kernel4Ideal.nD Cert.Kernel4Ideal.τ).loc Cert.Kernel4Ideal.main_v109_1) = v1 c
          ∧ r.2.mem ((c.tc : Thread Cert.Kernel4Ideal.nD Cert.Kernel4Ideal.τ).loc Cert.Kernel4Ideal.main_v109_4) = v2 c
          ∧ r.2.mem ((c.tc : Thread Cert.Kernel4Ideal.nD Cert.Kernel4Ideal.τ).loc Cert.Kernel4Ideal.main_v109_5) = v3 c
          ∧ r.2.mem ((c.tc : Thread Cert.Kernel4Ideal.nD Cert.Kernel4Ideal.τ).loc Cert.Kernel4Ideal.main_v109_6) = v4 c
          ∧ r.2.mem ((c.tc : Thread Cert.Kernel4Ideal.nD Cert.Kernel4Ideal.τ).loc Cert.Kernel4Ideal.main_v109_7) = v5 c
          ∧ r.2.mem ((c.tc : Thread Cert.Kernel4Ideal.nD Cert.Kernel4Ideal.τ).loc Cert.Kernel4Ideal.main_v109_8) = v6 c
          ∧ r.2.mem ((c.tc : Thread Cert.Kernel4Ideal.nD Cert.Kernel4Ideal.τ).loc Cert.Kernel4Ideal.main_v109_9) = v7 c
          ∧ r.2.mem ((c.tc : Thread Cert.Kernel4Ideal.nD Cert.Kernel4Ideal.τ).loc Cert.Kernel4Ideal.main_v109_10) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v230) = v0 c
          ∧ r.2.mem ((c.tc : Thread Cert.Reference4Ideal.nD Cert.Reference4Ideal.τ).loc Cert.Reference4Ideal.main_v232) = v1 c
          ∧ r.2.mem ((c.tc : Thread Cert.Reference4Ideal.nD Cert.Reference4Ideal.τ).loc Cert.Reference4Ideal.main_v233) = v2 c
          ∧ r.2.mem ((c.tc : Thread Cert.Reference4Ideal.nD Cert.Reference4Ideal.τ).loc Cert.Reference4Ideal.main_v234) = v3 c
          ∧ r.2.mem ((c.tc : Thread Cert.Reference4Ideal.nD Cert.Reference4Ideal.τ).loc Cert.Reference4Ideal.main_v235) = v4 c
          ∧ r.2.mem ((c.tc : Thread Cert.Reference4Ideal.nD Cert.Reference4Ideal.τ).loc Cert.Reference4Ideal.main_v236) = v5 c
          ∧ r.2.mem ((c.tc : Thread Cert.Reference4Ideal.nD Cert.Reference4Ideal.τ).loc Cert.Reference4Ideal.main_v121) = v6 c
          ∧ r.2.mem ((c.tc : Thread Cert.Reference4Ideal.nD Cert.Reference4Ideal.τ).loc Cert.Reference4Ideal.main_v237) = v7 c
          ∧ r.2.mem ((c.tc : Thread Cert.Reference4Ideal.nD Cert.Reference4Ideal.τ).loc Cert.Reference4Ideal.main_v238) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v17)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v17) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite2 : Cert.Pre_finite2.Facts) (hPre_finite4 : Cert.Pre_finite4.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ preserves_Kernel7_Kernel7Ideal
    ∧ algebraic_Kernel7Ideal_Reference7Ideal (hKernel7Ideal := hKernel7Ideal) (hReference7Ideal := hReference7Ideal)
    ∧ preserves_Kernel8_Kernel8Ideal
-- ==== Pre_finite2.lean ====
abbrev S2x4096x1024 : Shape := ⟨3, ![2, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S2x4096x1024 : S_.BroadcastsInDim S2x4096x1024 (![] : Fin 0 → Fin S2x4096x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S2x4096x1024 .f32) (main_arg1 : FVec F S2x4096x1024 .f32) (main_arg2 : FVec F S1024 .f32) (main_arg3 : FVec F S1024x2816 .f32) (main_arg4 : FVec F S1024x2816 .f32) (main_arg5 : FVec F S2816x1024 .f32) : IVec S2x4096x1024 1 × IVec S1024 1 × IVec S1024x2816 1 × IVec S2816x1024 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg4
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S2816x1024 .f32 := Host.absf main_arg5
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  (main_v2, main_v5, main_v8, main_v11)
-- ==== Pre_finite4.lean ====
abbrev S2x4096x1024 : Shape := ⟨3, ![2, 4096, 1024]⟩
abbrev S2x4096x6144 : Shape := ⟨3, ![2, 4096, 6144]⟩
abbrev S2048 : Shape := ⟨1, ![2048]⟩
abbrev S1024 : Shape := ⟨1, ![1024]⟩
abbrev S1024x1024 : Shape := ⟨2, ![1024, 1024]⟩
abbrev S8x128x128 : Shape := ⟨3, ![8, 128, 128]⟩
abbrev S8x128 : Shape := ⟨2, ![8, 128]⟩
abbrev S_ : Shape := ⟨0, ![]⟩

class Facts : Prop where
  bcast_S_S2x4096x1024 : S_.BroadcastsInDim S2x4096x1024 (![] : Fin 0 → Fin S2x4096x1024.rank)
  bcast_S_S1024x1024 : S_.BroadcastsInDim S1024x1024 (![] : Fin 0 → Fin S1024x1024.rank)

variable [Facts]

def fn {F : FTy → Type} [FloatOps F] (main_arg0 : FVec F S2x4096x1024 .f32) (main_arg1 : FVec F S2x4096x1024 .f32) (main_arg2 : FVec F S2x4096x6144 .f32) (main_arg3 : FVec F S2048 .f32) (main_arg4 : FVec F S1024 .f32) (main_arg5 : FVec F S1024 .f32) (main_arg6 : FVec F S1024 .f32) (main_arg7 : FVec F S1024x1024 .f32) (main_arg8 : FVec F S1024 .f32) (main_arg9 : FVec F S1024 .f32) (main_arg10 : FVec F S8x128x128 .f32) (main_arg11 : FVec F S8x128 .f32) (main_arg12 : FVec F S1024x1024 .f32) (main_arg13 : FVec F S1024x1024 .f32) : IVec S2x4096x1024 1 × IVec S1024x1024 1 × IVec S1024x1024 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_v3 : FVec F S1024x1024 .f32 := Host.absf main_arg7
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024x1024 .f32 := Host.absf main_arg13
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  (main_v2, main_v5, main_v8)
-- ==== Kernel.lean ====
abbrev S2x4096x1024 : Shape := ⟨3, ![2, 4096, 1024]⟩
abbrev S2x4096x6144 : Shape := ⟨3, ![2, 4096, 6144]⟩
abbrev S1024 : Shape := ⟨1, ![1024]⟩
abbrev S1024x6144 : Shape := ⟨2, ![1024, 6144]⟩
abbrev S1024x4x1536 : Shape := ⟨3, ![1024, 4, 1536]⟩
abbrev S4x1024x1536 : Shape := ⟨3, ![4, 1024, 1536]⟩
abbrev S8192x1024 : Shape := ⟨2, ![8192, 1024]⟩
abbrev S8192x6144 : Shape := ⟨2, ![8192, 6144]⟩
abbrev S1x1024 : Shape := ⟨2, ![1, 1024]⟩
abbrev S512x1024 : Shape := ⟨2, ![512, 1024]⟩
abbrev S512x6144 : Shape := ⟨2, ![512, 6144]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 15
  | .vmem => 11
  | .smem => 0
  | _ => 0

abbrev bufTy : (tb : Table) → Fin (tcTables nBuf tb) → BufTy
  | .hbm, ⟨0, _⟩ => ⟨S2x4096x1024, .f32⟩
  | .hbm, ⟨1, _⟩ => ⟨S2x4096x6144, .f32⟩
  | .hbm, ⟨2, _⟩ => ⟨S2x4096x1024, .f32⟩
  | .hbm, ⟨3, _⟩ => ⟨S1024, .f32⟩
  | .hbm, ⟨4, _⟩ => ⟨S1024x6144, .f32⟩
  | .hbm, ⟨5, _⟩ => ⟨S1024x6144, .bf16⟩
  | .hbm, ⟨6, _⟩ => ⟨S1024x4x1536, .bf16⟩
  | .hbm, ⟨7, _⟩ => ⟨S4x1024x1536, .bf16⟩
  | .hbm, ⟨8, _⟩ => ⟨S8192x1024, .f32⟩
  | .hbm, ⟨9, _⟩ => ⟨S8192x6144, .f32⟩
  | .hbm, ⟨10, _⟩ => ⟨S8192x6144, .bf16⟩
  | .hbm, ⟨11, _⟩ => ⟨S8192x1024, .f32⟩
  | .hbm, ⟨12, _⟩ => ⟨S1x1024, .f32⟩
  | .hbm, ⟨13, _⟩ => ⟨S8192x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x6144, .bf16⟩
  | .local _ .vmem, ⟨3, _⟩ => ⟨S512x6144, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x1024x1536, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2x4096x1024 : Shape := ⟨3, ![2, 4096, 1024]⟩
abbrev S2x4096x6144 : Shape := ⟨3, ![2, 4096, 6144]⟩
abbrev S1024 : Shape := ⟨1, ![1024]⟩
abbrev S1024x6144 : Shape := ⟨2, ![1024, 6144]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x6144, .f32⟩
  | .hbm, ⟨2, _⟩ => ⟨S2x4096x1024, .f32⟩
  | .hbm, ⟨3, _⟩ => ⟨S1024, .f32⟩
  | .hbm, ⟨4, _⟩ => ⟨S1024x6144, .f32⟩
  | .hbm, ⟨5, _⟩ => ⟨S2x4096x1024, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S2x4096x1024, .f32⟩
  | .hbm, ⟨21, _⟩ => ⟨S2x4096x1024, .f32⟩
  | .hbm, ⟨22, _⟩ => ⟨S1x1x1024, .f32⟩
  | .hbm, ⟨23, _⟩ => ⟨S2x4096x1024, .f32⟩
  | .hbm, ⟨24, _⟩ => ⟨S2x4096x1024, .f32⟩
  | .hbm, ⟨25, _⟩ => ⟨S2x4096x6144, .f32⟩
  | .hbm, ⟨26, _⟩ => ⟨S2x4096x1024, .f32⟩
  | .hbm, ⟨27, _⟩ => ⟨S2x4096x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S2x4096x1024, .f32⟩
  | .hbm, ⟨32, _⟩ => ⟨S2x4096x1024, .f32⟩
  | .hbm, ⟨33, _⟩ => ⟨S_, .f32⟩
  | .hbm, ⟨34, _⟩ => ⟨S1024, .f32⟩
  | .hbm, ⟨35, _⟩ => ⟨S2x4096x1024, .f32⟩
  | .hbm, ⟨36, _⟩ => ⟨S_, .f32⟩
  | .hbm, ⟨37, _⟩ => ⟨S2x4096, .f32⟩
  | .hbm, ⟨38, _⟩ => ⟨S2x4096x1, .f32⟩
  | .hbm, ⟨39, _⟩ => ⟨S2x4096x1024, .f32⟩
  | .hbm, ⟨40, _⟩ => ⟨S2x4096x1024, .f32⟩
  | .hbm, ⟨41, _⟩ => ⟨S2x4096x1024, .f32⟩
  | .hbm, ⟨42, _⟩ => ⟨S2x4096x1, .f32⟩
  | .hbm, ⟨43, _⟩ => ⟨S_, .f32⟩
  | .hbm, ⟨44, _⟩ => ⟨S2x4096x1, .f32⟩
  | .hbm, ⟨45, _⟩ => ⟨S2x4096x1, .f32⟩
  | .hbm, ⟨46, _⟩ => ⟨S_, .f32⟩
  | .hbm, ⟨47, _⟩ => ⟨S2x4096, .f32⟩
  | .hbm, ⟨48, _⟩ => ⟨S2x4096x1024, .f32⟩
  | .hbm, ⟨49, _⟩ => ⟨S2x4096x1024, .f32⟩
  | .hbm, ⟨50, _⟩ => ⟨S2x4096x1024, .f32⟩
  | .hbm, ⟨51, _⟩ => ⟨S2x4096x1024, .f32⟩
  | .hbm, ⟨52, _⟩ => ⟨S2x4096x1024, .f32⟩
  | .hbm, ⟨53, _⟩ => ⟨S8192x1024, .f32⟩
  | .hbm, ⟨54, _⟩ => ⟨S1x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel2.lean ====
abbrev S2x4096x1024 : Shape := ⟨3, ![2, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩
abbrev S8192x2816 : Shape := ⟨2, ![8192, 2816]⟩
abbrev S1x1024 : Shape := ⟨2, ![1, 1024]⟩
abbrev S256x1024 : Shape := ⟨2, ![256, 1024]⟩
abbrev S256x2816 : Shape := ⟨2, ![256, 2816]⟩
abbrev S512x1024 : Shape := ⟨2, ![512, 1024]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 39
  | .vmem => 19
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2x4096x1024, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x1024, .f32⟩
  | .hbm, ⟨18, _⟩ => ⟨S2x4096x1024, .f32⟩
  | .hbm, ⟨19, _⟩ => ⟨S1x1x1024, .f32⟩
  | .hbm, ⟨20, _⟩ => ⟨S2x4096x1024, .f32⟩
  | .hbm, ⟨21, _⟩ => ⟨S2x4096x1024, .f32⟩
  | .hbm, ⟨22, _⟩ => ⟨S8192x1024, .f32⟩
  | .hbm, ⟨23, _⟩ => ⟨S8192x2816, .f32⟩
  | .hbm, ⟨24, _⟩ => ⟨S8192x2816, .bf16⟩
  | .hbm, ⟨25, _⟩ => ⟨S8192x2816, .f32⟩
  | .hbm, ⟨26, _⟩ => ⟨S8192x2816, .bf16⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S2816x1024, .f32⟩
  | .hbm, ⟨31, _⟩ => ⟨S2816x1024, .bf16⟩
  | .hbm, ⟨32, _⟩ => ⟨S2816x1024, .f32⟩
  | .hbm, ⟨33, _⟩ => ⟨S2816x1024, .bf16⟩
  | .hbm, ⟨34, _⟩ => ⟨S2816x1024, .bf16⟩
  | .hbm, ⟨35, _⟩ => ⟨S8192x1024, .f32⟩
  | .hbm, ⟨36, _⟩ => ⟨S8192x2816, .bf16⟩
  | .hbm, ⟨37, _⟩ => ⟨S8192x2816, .bf16⟩
  | .hbm, ⟨38, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev main_v26_2 : Ref sig .tc := ⟨.hbm, 37, rfl⟩
abbrev main_v26_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S2x4096x1024 : Shape := ⟨3, ![2, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x2816 : Shape := ⟨3, ![2, 4096, 2816]⟩
abbrev S8192x1024 : Shape := ⟨2, ![8192, 1024]⟩
abbrev S8192x2816 : Shape := ⟨2, ![8192, 2816]⟩
abbrev S1x1024 : Shape := ⟨2, ![1, 1024]⟩

abbrev nBuf : Space → Nat
  | .hbm => 127
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2x4096x1024, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1024, .f32⟩
  | .hbm, ⟨22, _⟩ => ⟨S2x4096x1024, .f32⟩
  | .hbm, ⟨23, _⟩ => ⟨S1x1x1024, .f32⟩
  | .hbm, ⟨24, _⟩ => ⟨S2x4096x1024, .f32⟩
  | .hbm, ⟨25, _⟩ => ⟨S2x4096x1024, .f32⟩
  | .hbm, ⟨26, _⟩ => ⟨S2x4096x2816, .f32⟩
  | .hbm, ⟨27, _⟩ => ⟨S2x4096x2816, .f32⟩
  | .hbm, ⟨28, _⟩ => ⟨S2x4096x2816, .f32⟩
  | .hbm, ⟨29, _⟩ => ⟨S2x4096x2816, .f32⟩
  | .hbm, ⟨30, _⟩ => ⟨S_, .f32⟩
  | .hbm, ⟨31, _⟩ => ⟨S2x4096x2816, .f32⟩
  | .hbm, ⟨32, _⟩ => ⟨S2x4096x2816, .f32⟩
  | .hbm, ⟨33, _⟩ => ⟨S_, .f32⟩
  | .hbm, ⟨34, _⟩ => ⟨S2x4096x2816, .f32⟩
  | .hbm, ⟨35, _⟩ => ⟨S2x4096x2816, .f32⟩
  | .hbm, ⟨36, _⟩ => ⟨S_, .f32⟩
  | .hbm, ⟨37, _⟩ => ⟨S2x4096x2816, .f32⟩
  | .hbm, ⟨38, _⟩ => ⟨S2x4096x2816, .f32⟩
  | .hbm, ⟨39, _⟩ => ⟨S2x4096x2816, .f32⟩
  | .hbm, ⟨40, _⟩ => ⟨S2x4096x2816, .f32⟩
  | .hbm, ⟨41, _⟩ => ⟨S2x4096x2816, .f32⟩
  | .hbm, ⟨42, _⟩ => ⟨S2x4096x1024, .f32⟩
  | .hbm, ⟨43, _⟩ => ⟨S2x4096x1024, .f32⟩
  | .hbm, ⟨44, _⟩ => ⟨S2x4096x1024, .f32⟩
  | .hbm, ⟨45, _⟩ => ⟨S2x4096x2816, .f32⟩
  | .hbm, ⟨46, _⟩ => ⟨S2x4096x2816, .f32⟩
  | .hbm, ⟨47, _⟩ => ⟨S2x4096x2816, .f32⟩
  | .hbm, ⟨48, _⟩ => ⟨S2x4096x2816, .f32⟩
  | .hbm, ⟨49, _⟩ => ⟨S2x4096x2816, .f32⟩
  | .hbm, ⟨50, _⟩ => ⟨S2x4096x2816, .f32⟩
  | .hbm, ⟨51, _⟩ => ⟨S2x4096x2816, .f32⟩
  | .hbm, ⟨52, _⟩ => ⟨S2x4096x1024, .f32⟩
  | .hbm, ⟨53, _⟩ => ⟨S2x4096x1024, .f32⟩
  | .hbm, ⟨54, _⟩ => ⟨S2x4096x1024, .f32⟩
  | .hbm, ⟨55, _⟩ => ⟨S2x4096x1024, .f32⟩
  | .hbm, ⟨56, _⟩ => ⟨S_, .f32⟩
  | .hbm, ⟨57, _⟩ => ⟨S1024, .f32⟩
  | .hbm, ⟨58, _⟩ => ⟨S1x1x1024, .f32⟩
  | .hbm, ⟨59, _⟩ => ⟨S2x4096x1024, .f32⟩
  | .hbm, ⟨60, _⟩ => ⟨S2x4096x1024, .f32⟩
  | .hbm, ⟨61, _⟩ => ⟨S_, .f32⟩
  | .hbm, ⟨62, _⟩ => ⟨S1024, .f32⟩
  | .hbm, ⟨63, _⟩ => ⟨S2x4096x1024, .f32⟩
  | .hbm, ⟨64, _⟩ => ⟨S_, .f32⟩
  | .hbm, ⟨65, _⟩ => ⟨S2x4096, .f32⟩
  | .hbm, ⟨66, _⟩ => ⟨S2x4096x1, .f32⟩
  | .hbm, ⟨67, _⟩ => ⟨S2x4096x1024, .f32⟩
  | .hbm, ⟨68, _⟩ => ⟨S2x4096x1024, .f32⟩
  | .hbm, ⟨69, _⟩ => ⟨S2x4096x1024, .f32⟩
  | .hbm, ⟨70, _⟩ => ⟨S2x4096x1, .f32⟩
  | .hbm, ⟨71, _⟩ => ⟨S_, .f32⟩
  | .hbm, ⟨72, _⟩ => ⟨S2x4096x1, .f32⟩
  | .hbm, ⟨73, _⟩ => ⟨S2x4096x1, .f32⟩
  | .hbm, ⟨74, _⟩ => ⟨S_, .f32⟩
  | .hbm, ⟨75, _⟩ => ⟨S2x4096, .f32⟩
  | .hbm, ⟨76, _⟩ => ⟨S2x4096x1024, .f32⟩
  | .hbm, ⟨77, _⟩ => ⟨S2x4096x1024, .f32⟩
  | .hbm, ⟨78, _⟩ => ⟨S2x4096x1024, .f32⟩
  | .hbm, ⟨79, _⟩ => ⟨S2x4096x1024, .f32⟩
  | .hbm, ⟨80, _⟩ => ⟨S2x4096x1024, .f32⟩
  | .hbm, ⟨81, _⟩ => ⟨S2x4096x1024, .f32⟩
  | .hbm, ⟨82, _⟩ => ⟨S_, .f32⟩
  | .hbm, ⟨83, _⟩ => ⟨S2x4096, .f32⟩
  | .hbm, ⟨84, _⟩ => ⟨S2x4096x1, .f32⟩
  | .hbm, ⟨85, _⟩ => ⟨S_, .f32⟩
  | .hbm, ⟨86, _⟩ => ⟨S2x4096x1, .f32⟩
  | .hbm, ⟨87, _⟩ => ⟨S2x4096x1, .f32⟩
  | .hbm, ⟨88, _⟩ => ⟨S_, .f32⟩
  | .hbm, ⟨89, _⟩ => ⟨S2x4096x1, .f32⟩
  | .hbm, ⟨90, _⟩ => ⟨S2x4096x1, .f32⟩
  | .hbm, ⟨91, _⟩ => ⟨S2x4096x1, .f32⟩
  | .hbm, ⟨92, _⟩ => ⟨S2x4096x1024, .f32⟩
  | .hbm, ⟨93, _⟩ => ⟨S2x4096x1024, .f32⟩
  | .hbm, ⟨94, _⟩ => ⟨S1x1x1024, .f32⟩
  | .hbm, ⟨95, _⟩ => ⟨S2x4096x1024, .f32⟩
  | .hbm, ⟨96, _⟩ => ⟨S2x4096x1024, .f32⟩
  | .hbm, ⟨97, _⟩ => ⟨S2x4096x2816, .f32⟩
  | .hbm, ⟨98, _⟩ => ⟨S2x4096x2816, .f32⟩
  | .hbm, ⟨99, _⟩ => ⟨S2x4096x2816, .f32⟩
  | .hbm, ⟨100, _⟩ => ⟨S2x4096x2816, .f32⟩
  | .hbm, ⟨101, _⟩ => ⟨S_, .f32⟩
  | .hbm, ⟨102, _⟩ => ⟨S2x4096x2816, .f32⟩
  | .hbm, ⟨103, _⟩ => ⟨S2x4096x2816, .f32⟩
  | .hbm, ⟨104, _⟩ => ⟨S_, .f32⟩
  | .hbm, ⟨105, _⟩ => ⟨S2x4096x2816, .f32⟩
  | .hbm, ⟨106, _⟩ => ⟨S2x4096x2816, .f32⟩
  | .hbm, ⟨107, _⟩ => ⟨S_, .f32⟩
  | .hbm, ⟨108, _⟩ => ⟨S2x4096x2816, .f32⟩
  | .hbm, ⟨109, _⟩ => ⟨S2x4096x2816, .f32⟩
  | .hbm, ⟨110, _⟩ => ⟨S2x4096x2816, .f32⟩
  | .hbm, ⟨111, _⟩ => ⟨S2x4096x2816, .f32⟩
  | .hbm, ⟨112, _⟩ => ⟨S2x4096x2816, .f32⟩
  | .hbm, ⟨113, _⟩ => ⟨S2x4096x1024, .f32⟩
  | .hbm, ⟨114, _⟩ => ⟨S2x4096x2816, .f32⟩
  | .hbm, ⟨115, _⟩ => ⟨S2x4096x2816, .f32⟩
  | .hbm, ⟨116, _⟩ => ⟨S2x4096x2816, .f32⟩
  | .hbm, ⟨117, _⟩ => ⟨S2x4096x2816, .f32⟩
  | .hbm, ⟨118, _⟩ => ⟨S2x4096x2816, .f32⟩
  | .hbm, ⟨119, _⟩ => ⟨S2x4096x2816, .f32⟩
  | .hbm, ⟨120, _⟩ => ⟨S2x4096x2816, .f32⟩
  | .hbm, ⟨121, _⟩ => ⟨S8192x1024, .f32⟩
  | .hbm, ⟨122, _⟩ => ⟨S8192x2816, .f32⟩
  | .hbm, ⟨123, _⟩ => ⟨S8192x2816, .bf16⟩
  | .hbm, ⟨124, _⟩ => ⟨S8192x2816, .f32⟩
  | .hbm, ⟨125, _⟩ => ⟨S8192x2816, .bf16⟩
  | .hbm, ⟨126, _⟩ => ⟨S1x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_3 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_4 : Ref sig .tc := ⟨.hbm, 61, rfl⟩
abbrev main_v35 : Ref sig .tc := ⟨.hbm, 62, rfl⟩
abbrev main_v36 : Ref sig .tc := ⟨.hbm, 63, rfl⟩
abbrev main_cst_5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call2_v0 : Ref sig .tc := ⟨.hbm, 99, rfl⟩
abbrev main_call2_v1 : Ref sig .tc := ⟨.hbm, 100, rfl⟩
abbrev main_call2_cst : Ref sig .tc := ⟨.hbm, 101, rfl⟩
abbrev main_call2_v2 : Ref sig .tc := ⟨.hbm, 102, rfl⟩
abbrev main_call2_v3 : Ref sig .tc := ⟨.hbm, 103, rfl⟩
abbrev main_call2_cst_0 : Ref sig .tc := ⟨.hbm, 104, rfl⟩
abbrev main_call2_v4 : Ref sig .tc := ⟨.hbm, 105, rfl⟩
abbrev main_v66_2 : Ref sig .tc := ⟨.hbm, 106, rfl⟩
abbrev main_call2_cst_1 : Ref sig .tc := ⟨.hbm, 107, rfl⟩
abbrev main_call2_v6 : Ref sig .tc := ⟨.hbm, 108, rfl⟩
abbrev main_call2_v7 : Ref sig .tc := ⟨.hbm, 109, rfl⟩
abbrev main_v66_1 : Ref sig .tc := ⟨.hbm, 110, rfl⟩
abbrev main_v66_0 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩

abbrev nD : Nat := 1
abbrev τ : Topo := Topo.v7x

variable {F : FTy → Type} [FloatOps F]
-- ==== Kernel3.lean ====
abbrev S2x4096x1024 : Shape := ⟨3, ![2, 4096, 1024]⟩
abbrev S2x4096x6144 : Shape := ⟨3, ![2, 4096, 6144]⟩
abbrev S1024 : Shape := ⟨1, ![1024]⟩
abbrev S8x128x128 : Shape := ⟨3, ![8, 128, 128]⟩
abbrev S8x128 : Shape := ⟨2, ![8, 128]⟩
abbrev S2048 : Shape := ⟨1, ![2048]⟩
abbrev S1024x1024 : Shape := ⟨2, ![1024, 1024]⟩
abbrev S1024x2816 : Shape := ⟨2, ![1024, 2816]⟩
abbrev S2816x1024 : Shape := ⟨2, ![2816, 1024]⟩
abbrev S4x256x1024 : Shape := ⟨3, ![4, 256, 1024]⟩
abbrev S4x768x1024 : Shape := ⟨3, ![4, 768, 1024]⟩
abbrev S128x8 : Shape := ⟨2, ![128, 8]⟩
abbrev S128x8x128 : Shape := ⟨3, ![128, 8, 128]⟩
abbrev S128x1024 : Shape := ⟨2, ![128, 1024]⟩
abbrev S8192x6144 : Shape := ⟨2, ![8192, 6144]⟩
abbrev S8192x1024 : Shape := ⟨2, ![8192, 1024]⟩
abbrev S1x1024 : Shape := ⟨2, ![1, 1024]⟩
abbrev S1x2048 : Shape := ⟨2, ![1, 2048]⟩
abbrev S8192x2816 : Shape := ⟨2, ![8192, 2816]⟩
abbrev S1x128 : Shape := ⟨2, ![1, 128]⟩
abbrev S256x2048 : Shape := ⟨2, ![256, 2048]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S128x128 : Shape := ⟨2, ![128, 128]⟩
abbrev S128x256 : Shape := ⟨2, ![128, 256]⟩
abbrev S1x128x128 : Shape := ⟨3, ![1, 128, 128]⟩
abbrev S512x1024 : Shape := ⟨2, ![512, 1024]⟩
abbrev S256x512 : Shape := ⟨2, ![256, 512]⟩
abbrev S256x256 : Shape := ⟨2, ![256, 256]⟩
abbrev S1 : Shape := ⟨1, ![1]⟩
abbrev S1x1 : Shape := ⟨2, ![1, 1]⟩

abbrev nBuf : Space → Nat
  | .hbm => 55
  | .vmem => 46
  | .smem => 0
  | _ => 0

abbrev bufTy : (tb : Table) → Fin (tcTables nBuf tb) → BufTy
  | .hbm, ⟨0, _⟩ => ⟨S2x4096x1024, .f32⟩
  | .hbm, ⟨1, _⟩ => ⟨S2x4096x6144, .f32⟩
  | .hbm, ⟨2, _⟩ => ⟨S2x4096x1024, .f32⟩
  | .hbm, ⟨3, _⟩ => ⟨S2x4096x1024, .f32⟩
  | .hbm, ⟨4, _⟩ => ⟨S1024, .f32⟩
  | .hbm, ⟨5, _⟩ => ⟨S1024, .f32⟩
  | .hbm, ⟨6, _⟩ => ⟨S8x128x128, .f32⟩
  | .hbm, ⟨7, _⟩ => ⟨S8x128, .f32⟩
  | .hbm, ⟨8, _⟩ => ⟨S2048, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x2816, .f32⟩
  | .hbm, ⟨13, _⟩ => ⟨S1024x2816, .f32⟩
  | .hbm, ⟨14, _⟩ => ⟨S2816x1024, .f32⟩
  | .hbm, ⟨15, _⟩ => ⟨S1024, .f32⟩
  | .hbm, ⟨16, _⟩ => ⟨S1024x1024, .bf16⟩
  | .hbm, ⟨17, _⟩ => ⟨S4x256x1024, .bf16⟩
  | .hbm, ⟨18, _⟩ => ⟨S1024x1024, .bf16⟩
  | .hbm, ⟨19, _⟩ => ⟨S4x256x1024, .bf16⟩
  | .hbm, ⟨20, _⟩ => ⟨S1024x1024, .bf16⟩
  | .hbm, ⟨21, _⟩ => ⟨S4x256x1024, .bf16⟩
  | .hbm, ⟨22, _⟩ => ⟨S4x768x1024, .bf16⟩
  | .hbm, ⟨23, _⟩ => ⟨S128x8, .f32⟩
  | .hbm, ⟨24, _⟩ => ⟨S128x8x128, .f32⟩
  | .hbm, ⟨25, _⟩ => ⟨S128x1024, .f32⟩
  | .hbm, ⟨26, _⟩ => ⟨S8192x6144, .f32⟩
  | .hbm, ⟨27, _⟩ => ⟨S8192x6144, .bf16⟩
  | .hbm, ⟨28, _⟩ => ⟨S8192x1024, .f32⟩
  | .hbm, ⟨29, _⟩ => ⟨S8192x1024, .bf16⟩
  | .hbm, ⟨30, _⟩ => ⟨S8192x1024, .f32⟩
  | .hbm, ⟨31, _⟩ => ⟨S1x1024, .f32⟩
  | .hbm, ⟨32, _⟩ => ⟨S1x1024, .f32⟩
  | .hbm, ⟨33, _⟩ => ⟨S8x128x128, .bf16⟩
  | .hbm, ⟨34, _⟩ => ⟨S1x2048, .f32⟩
  | .hbm, ⟨35, _⟩ => ⟨S1x1024, .f32⟩
  | .hbm, ⟨36, _⟩ => ⟨S2816x1024, .f32⟩
  | .hbm, ⟨37, _⟩ => ⟨S2816x1024, .bf16⟩
  | .hbm, ⟨38, _⟩ => ⟨S2816x1024, .f32⟩
  | .hbm, ⟨39, _⟩ => ⟨S2816x1024, .bf16⟩
  | .hbm, ⟨40, _⟩ => ⟨S2816x1024, .bf16⟩
  | .hbm, ⟨41, _⟩ => ⟨S1x1024, .f32⟩
  | .hbm, ⟨42, _⟩ => ⟨S8192x1024, .f32⟩
  | .hbm, ⟨43, _⟩ => ⟨S8192x1024, .bf16⟩
  | .hbm, ⟨44, _⟩ => ⟨S8192x1024, .bf16⟩
  | .hbm, ⟨45, _⟩ => ⟨S8192x1024, .bf16⟩
  | .hbm, ⟨46, _⟩ => ⟨S8192x1024, .bf16⟩
  | .hbm, ⟨47, _⟩ => ⟨S8192x1024, .f32⟩
  | .hbm, ⟨48, _⟩ => ⟨S8192x1024, .bf16⟩
  | .hbm, ⟨49, _⟩ => ⟨S8192x2816, .bf16⟩
  | .hbm, ⟨50, _⟩ => ⟨S8192x2816, .bf16⟩
  | .hbm, ⟨51, _⟩ => ⟨S8192x2816, .bf16⟩
  | .hbm, ⟨52, _⟩ => ⟨S8192x1024, .f32⟩
  | .hbm, ⟨53, _⟩ => ⟨S1x128, .f32⟩
  | .hbm, ⟨54, _⟩ => ⟨S1x1024, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S8x128x128, .bf16⟩
  | .local _ .vmem, ⟨11, _⟩ => ⟨S128x1024, .f32⟩
  | .local _ .vmem, ⟨12, _⟩ => ⟨S1x2048, .f32⟩
  | .local _ .vmem, ⟨13, _⟩ => ⟨S4x256x1024, .bf16⟩
  | .local _ .vmem, ⟨14, _⟩ => ⟨S4x256x1024, .bf16⟩
  | .local _ .vmem, ⟨15, _⟩ => ⟨S1x1024, .f32⟩
  | .local _ .vmem, ⟨16, _⟩ => ⟨S2816x1024, .bf16⟩
  | .local _ .vmem, ⟨17, _⟩ => ⟨S2816x1024, .bf16⟩
  | .local _ .vmem, ⟨18, _⟩ => ⟨S2816x1024, .bf16⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .f32⟩
  | .local _ .vmem, ⟨31, _⟩ => ⟨S256x1024, .f32⟩
  | .local _ .vmem, ⟨32, _⟩ => ⟨S256x1024, .bf16⟩
  | .local _ .vmem, ⟨33, _⟩ => ⟨S256x1024, .bf16⟩
  | .local _ .vmem, ⟨34, _⟩ => ⟨S256x2816, .bf16⟩
  | .local _ .vmem, ⟨35, _⟩ => ⟨S256x2816, .bf16⟩
  | .local _ .vmem, ⟨36, _⟩ => ⟨S256x2816, .bf16⟩
  | .local _ .vmem, ⟨37, _⟩ => ⟨S256x2816, .bf16⟩
  | .local _ .vmem, ⟨38, _⟩ => ⟨S256x2816, .bf16⟩
  | .local _ .vmem, ⟨39, _⟩ => ⟨S256x2816, .bf16⟩
  | .local _ .vmem, ⟨40, _⟩ => ⟨S256x1024, .f32⟩
  | .local _ .vmem, ⟨41, _⟩ => ⟨S256x1024, .f32⟩
  | .local _ .vmem, ⟨42, _⟩ => ⟨S1x128, .f32⟩
  | .local _ .vmem, ⟨43, _⟩ => ⟨S1x1024, .f32⟩
  | .local _ .vmem, ⟨44, _⟩ => ⟨S256x1024, .f32⟩
  | .local _ .vmem, ⟨45, _⟩ => ⟨S1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27_0 : Ref sig .tc := ⟨.hbm, 43, rfl⟩
abbrev main_v27_1 : Ref sig .tc := ⟨.hbm, 44, rfl⟩
abbrev main_v27_2 : Ref sig .tc := ⟨.hbm, 45, rfl⟩
abbrev main_v27_3 : Ref sig .tc := ⟨.hbm, 46, rfl⟩
abbrev main_v27_4 : Ref sig .tc := ⟨.hbm, 47, rfl⟩
abbrev main_v27_5 : Ref sig .tc := ⟨.hbm, 48, rfl⟩
abbrev main_v27_6 : Ref sig .tc := ⟨.hbm, 49, rfl⟩
abbrev main_v27_7 : Ref sig .tc := ⟨.hbm, 50, rfl⟩
abbrev main_v27_8 : Ref sig .tc := ⟨.hbm, 51, rfl⟩
abbrev main_v27_9 : Ref sig .tc := ⟨.hbm, 52, rfl⟩
abbrev main_v27_10 : Ref sig .tc := ⟨.hbm, 53, rfl⟩
abbrev main_v27_11 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_stg25_0 : Ref sig .tc := ⟨.vmem, 38, rfl⟩
abbrev cc0_stg25_1 : Ref sig .tc := ⟨.vmem, 39, rfl⟩
abbrev cc0_stg26_0 : Ref sig .tc := ⟨.vmem, 40, rfl⟩
abbrev cc0_stg26_1 : Ref sig .tc := ⟨.vmem, 41, rfl⟩
abbrev cc0_stg27_0 : Ref sig .tc := ⟨.vmem, 42, rfl⟩
abbrev cc0_stg28_0 : Ref sig .tc := ⟨.vmem, 43, rfl⟩
abbrev cc0_scratch0 : Ref sig .tc := ⟨.vmem, 44, rfl⟩
abbrev cc0_scratch1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37
abbrev cc0_sem25_0 : DmaSem sig := 38
abbrev cc0_sem25_1 : DmaSem sig := 39
abbrev cc0_sem26_0 : DmaSem sig := 40
abbrev cc0_sem26_1 : DmaSem sig := 41
abbrev cc0_sem27_0 : DmaSem sig := 42
abbrev cc0_sem28_0 : DmaSem sig := 43

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v463 : BitVec 1 := Scalar.cmpi .eq arg0 c31_i32
  let v464 : BitVec 32 := Scalar.extui v463
  let c0_i32_265 : BitVec 32 := 0#32
  let v465 : BitVec 1 := Scalar.cmpi .ne v464 c0_i32_265
  v465

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_10 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x2816 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x2816 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x2816 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 1 → Memref sig .tc .vmem S1x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]
-- ==== Reference3Ideal.lean ====
abbrev S2x4096x1024 : Shape := ⟨3, ![2, 4096, 1024]⟩
abbrev S2x4096x6144 : Shape := ⟨3, ![2, 4096, 6144]⟩
abbrev S1024 : Shape := ⟨1, ![1024]⟩
abbrev S8x128x128 : Shape := ⟨3, ![8, 128, 128]⟩
abbrev S8x128 : Shape := ⟨2, ![8, 128]⟩
abbrev S2048 : Shape := ⟨1, ![2048]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x32x128x8x128 : Shape := ⟨5, ![2, 32, 128, 8, 128]⟩
abbrev S8x128x2x32x128 : Shape := ⟨5, ![8, 128, 2, 32, 128]⟩
abbrev S128x8 : Shape := ⟨2, ![128, 8]⟩
abbrev S1x1x128x8x1 : Shape := ⟨5, ![1, 1, 128, 8, 1]⟩
abbrev S2x4096x2816 : Shape := ⟨3, ![2, 4096, 2816]⟩
abbrev S8192x1024 : Shape := ⟨2, ![8192, 1024]⟩
abbrev S8192x2816 : Shape := ⟨2, ![8192, 2816]⟩
abbrev S1x128 : Shape := ⟨2, ![1, 128]⟩
abbrev S1x1024 : Shape := ⟨2, ![1, 1024]⟩

abbrev nBuf : Space → Nat
  | .hbm => 233
  | .vmem => 0
  | .smem => 0
  | _ => 0

abbrev hbmTy0_0 (i : Nat) : BufTy := match i % 128 with
  | 0 => ⟨S2x4096x1024, .f32⟩
  | 1 => ⟨S2x4096x6144, .f32⟩
  | 2 => ⟨S2x4096x1024, .f32⟩
  | 3 => ⟨S2x4096x1024, .f32⟩
  | 4 => ⟨S1024, .f32⟩
  | 5 => ⟨S1024, .f32⟩
  | 6 => ⟨S8x128x128, .f32⟩
  | 7 => ⟨S8x128, .f32⟩
  | 8 => ⟨S2048, .f32⟩
  | 9 => ⟨S1024x1024, .f32⟩
  | 10 => ⟨S1024x1024, .f32⟩
  | 11 => ⟨S1024, .f32⟩
  | 12 => ⟨S1024x2816, .f32⟩
  | 13 => ⟨S1024x2816, .f32⟩
  | 14 => ⟨S2816x1024, .f32⟩
  | 15 => ⟨S1024, .f32⟩
  | 16 => ⟨S2x4096x1024, .f32⟩
  | 17 => ⟨S2x4096x1024, .f32⟩
  | 18 => ⟨S2x4096x1024, .f32⟩
  | 19 => ⟨S2x4096x1024, .f32⟩
  | 20 => ⟨S_, .f32⟩
  | 21 => ⟨S2x4096, .f32⟩
  | 22 => ⟨S2x4096x1, .f32⟩
  | 23 => ⟨S_, .f32⟩
  | 24 => ⟨S2x4096x1, .f32⟩
  | 25 => ⟨S2x4096x1, .f32⟩
  | 26 => ⟨S2x4096x1024, .f32⟩
  | 27 => ⟨S2x4096x1024, .f32⟩
  | 28 => ⟨S2x4096x1024, .f32⟩
  | 29 => ⟨S_, .f32⟩
  | 30 => ⟨S2x4096, .f32⟩
  | 31 => ⟨S2x4096x1, .f32⟩
  | 32 => ⟨S_, .f32⟩
  | 33 => ⟨S2x4096x1, .f32⟩
  | 34 => ⟨S2x4096x1, .f32⟩
  | 35 => ⟨S2x4096x1024, .f32⟩
  | 36 => ⟨S2x4096x1024, .f32⟩
  | 37 => ⟨S_, .f32⟩
  | 38 => ⟨S2x4096x1, .f32⟩
  | 39 => ⟨S2x4096x1, .f32⟩
  | 40 => ⟨S2x4096x1, .f32⟩
  | 41 => ⟨S2x4096x1024, .f32⟩
  | 42 => ⟨S2x4096x1024, .f32⟩
  | 43 => ⟨S1x1x1024, .f32⟩
  | 44 => ⟨S2x4096x1024, .f32⟩
  | 45 => ⟨S2x4096x1024, .f32⟩
  | 46 => ⟨S1x1x1024, .f32⟩
  | 47 => ⟨S2x4096x1024, .f32⟩
  | 48 => ⟨S2x4096x1024, .f32⟩
  | 49 => ⟨S2x32x128x8x128, .f32⟩
  | 50 => ⟨S8x128x2x32x128, .f32⟩
  | 51 => ⟨S2x32x128x8x128, .f32⟩
  | 52 => ⟨S128x8, .f32⟩
  | 53 => ⟨S1x1x128x8x1, .f32⟩
  | 54 => ⟨S2x32x128x8x128, .f32⟩
  | 55 => ⟨S2x32x128x8x128, .f32⟩
  | 56 => ⟨S2x4096x1024, .f32⟩
  | 57 => ⟨S2x4096x1024, .f32⟩
  | 58 => ⟨S2x4096x1024, .f32⟩
  | 59 => ⟨S1024, .f32⟩
  | 60 => ⟨S1024, .f32⟩
  | 61 => ⟨S1x1x1024, .f32⟩
  | 62 => ⟨S2x4096x1024, .f32⟩
  | 63 => ⟨S2x4096x1024, .f32⟩
  | 64 => ⟨S2x4096x1024, .f32⟩
  | 65 => ⟨S2x4096x1024, .f32⟩
  | 66 => ⟨S_, .f32⟩
  | 67 => ⟨S2x4096x1024, .f32⟩
  | 68 => ⟨S2x4096x1024, .f32⟩
  | 69 => ⟨S_, .f32⟩
  | 70 => ⟨S2x4096x1024, .f32⟩
  | 71 => ⟨S2x4096x1024, .f32⟩
  | 72 => ⟨S2x4096x1024, .f32⟩
  | 73 => ⟨S1x1x1024, .f32⟩
  | 74 => ⟨S2x4096x1024, .f32⟩
  | 75 => ⟨S2x4096x1024, .f32⟩
  | 76 => ⟨S2x4096x1024, .f32⟩
  | 77 => ⟨S2x4096x1024, .f32⟩
  | 78 => ⟨S_, .f32⟩
  | 79 => ⟨S2x4096x1024, .f32⟩
  | 80 => ⟨S2x4096x1024, .f32⟩
  | 81 => ⟨S_, .f32⟩
  | 82 => ⟨S2x4096x1024, .f32⟩
  | 83 => ⟨S2x4096x1024, .f32⟩
  | 84 => ⟨S2x4096x1024, .f32⟩
  | 85 => ⟨S2x4096x1024, .f32⟩
  | 86 => ⟨S2x4096x1024, .f32⟩
  | 87 => ⟨S2x4096x1024, .f32⟩
  | 88 => ⟨S2x4096x1024, .f32⟩
  | 89 => ⟨S_, .f32⟩
  | 90 => ⟨S2x4096, .f32⟩
  | 91 => ⟨S2x4096x1, .f32⟩
  | 92 => ⟨S_, .f32⟩
  | 93 => ⟨S2x4096x1, .f32⟩
  | 94 => ⟨S2x4096x1, .f32⟩
  | 95 => ⟨S_, .f32⟩
  | 96 => ⟨S2x4096x1, .f32⟩
  | 97 => ⟨S2x4096x1, .f32⟩
  | 98 => ⟨S2x4096x1, .f32⟩
  | 99 => ⟨S2x4096x1024, .f32⟩
  | 100 => ⟨S2x4096x1024, .f32⟩
  | 101 => ⟨S1x1x1024, .f32⟩
  | 102 => ⟨S2x4096x1024, .f32⟩
  | 103 => ⟨S2x4096x1024, .f32⟩
  | 104 => ⟨S2x4096x2816, .f32⟩
  | 105 => ⟨S2x4096x2816, .f32⟩
  | 106 => ⟨S2x4096x2816, .f32⟩
  | 107 => ⟨S2x4096x2816, .f32⟩
  | 108 => ⟨S_, .f32⟩
  | 109 => ⟨S2x4096x2816, .f32⟩
  | 110 => ⟨S2x4096x2816, .f32⟩
  | 111 => ⟨S_, .f32⟩
  | 112 => ⟨S2x4096x2816, .f32⟩
  | 113 => ⟨S2x4096x2816, .f32⟩
  | 114 => ⟨S2x4096x2816, .f32⟩
  | 115 => ⟨S2x4096x2816, .f32⟩
  | 116 => ⟨S2x4096x1024, .f32⟩
  | 117 => ⟨S2x4096x1024, .f32⟩
  | 118 => ⟨S2x4096x1024, .f32⟩
  | 119 => ⟨S_, .f32⟩
  | 120 => ⟨S2x4096, .f32⟩
  | 121 => ⟨S2x4096x1, .f32⟩
  | 122 => ⟨S_, .f32⟩
  | 123 => ⟨S2x4096x1, .f32⟩
  | 124 => ⟨S2x4096x1, .f32⟩
  | 125 => ⟨S_, .f32⟩
  | 126 => ⟨S2x4096x1, .f32⟩
  | 127 => ⟨S2x4096x1, .f32⟩
  | _ => ⟨S2x4096x1024, .f32⟩

abbrev hbmTy0_1 (i : Nat) : BufTy := match i % 128 with
  | 0 => ⟨S2x4096x1, .f32⟩
  | 1 => ⟨S2x4096x1024, .f32⟩
  | 2 => ⟨S2x4096x1024, .f32⟩
  | 3 => ⟨S1x1x1024, .f32⟩
  | 4 => ⟨S2x4096x1024, .f32⟩
  | 5 => ⟨S2x4096x1024, .f32⟩
  | 6 => ⟨S2x4096x1024, .f32⟩
  | 7 => ⟨S2x4096x1024, .f32⟩
  | 8 => ⟨S_, .f32⟩
  | 9 => ⟨S2x4096, .f32⟩
  | 10 => ⟨S_, .f32⟩
  | 11 => ⟨S2x4096, .f32⟩
  | 12 => ⟨S2x4096, .f32⟩
  | 13 => ⟨S_, .f32⟩
  | 14 => ⟨S_, .f32⟩
  | 15 => ⟨S_, .f32⟩
  | 16 => ⟨S_, .f32⟩
  | 17 => ⟨S2x4096x1024, .f32⟩
  | 18 => ⟨S_, .f32⟩
  | 19 => ⟨S2x4096, .f32⟩
  | 20 => ⟨S2x4096x1, .f32⟩
  | 21 => ⟨S_, .f32⟩
  | 22 => ⟨S2x4096x1, .f32⟩
  | 23 => ⟨S2x4096x1, .f32⟩
  | 24 => ⟨S_, .f32⟩
  | 25 => ⟨S2x4096x1, .f32⟩
  | 26 => ⟨S2x4096x1, .f32⟩
  | 27 => ⟨S2x4096x1, .f32⟩
  | 28 => ⟨S2x4096x1, .f32⟩
  | 29 => ⟨S_, .f32⟩
  | 30 => ⟨S2x4096x1, .f32⟩
  | 31 => ⟨S2x4096x1, .f32⟩
  | 32 => ⟨S2x4096x1024, .f32⟩
  | 33 => ⟨S2x4096x1024, .f32⟩
  | 34 => ⟨S1x1x1024, .f32⟩
  | 35 => ⟨S2x4096x1024, .f32⟩
  | 36 => ⟨S2x4096x1024, .f32⟩
  | 37 => ⟨S2x4096x1024, .f32⟩
  | 38 => ⟨S2x4096x1024, .f32⟩
  | 39 => ⟨S_, .f32⟩
  | 40 => ⟨S2x4096x1024, .f32⟩
  | 41 => ⟨S2x4096x1024, .f32⟩
  | 42 => ⟨S_, .f32⟩
  | 43 => ⟨S2x4096, .f32⟩
  | 44 => ⟨S_, .f32⟩
  | 45 => ⟨S2x4096, .f32⟩
  | 46 => ⟨S2x4096, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S2x4096, .f32⟩
  | 55 => ⟨S_, .f32⟩
  | 56 => ⟨S2x4096, .f32⟩
  | 57 => ⟨S2x4096, .f32⟩
  | 58 => ⟨S2x4096x1024, .f32⟩
  | 59 => ⟨S2x4096x1024, .f32⟩
  | 60 => ⟨S2x4096x1024, .f32⟩
  | 61 => ⟨S_, .f32⟩
  | 62 => ⟨S1024, .f32⟩
  | 63 => ⟨S1x1x1024, .f32⟩
  | 64 => ⟨S2x4096x1024, .f32⟩
  | 65 => ⟨S2x4096x1024, .f32⟩
  | 66 => ⟨S_, .f32⟩
  | 67 => ⟨S1024, .f32⟩
  | 68 => ⟨S2x4096x1024, .f32⟩
  | 69 => ⟨S_, .f32⟩
  | 70 => ⟨S2x4096, .f32⟩
  | 71 => ⟨S2x4096x1, .f32⟩
  | 72 => ⟨S2x4096x1024, .f32⟩
  | 73 => ⟨S2x4096x1024, .f32⟩
  | 74 => ⟨S2x4096x1, .f32⟩
  | 75 => ⟨S_, .f32⟩
  | 76 => ⟨S2x4096x1, .f32⟩
  | 77 => ⟨S2x4096x1, .f32⟩
  | 78 => ⟨S_, .f32⟩
  | 79 => ⟨S2x4096, .f32⟩
  | 80 => ⟨S2x4096x1024, .f32⟩
  | 81 => ⟨S2x4096x1024, .f32⟩
  | 82 => ⟨S2x4096x1024, .f32⟩
  | 83 => ⟨S2x4096x1024, .f32⟩
  | 84 => ⟨S2x4096x1024, .f32⟩
  | 85 => ⟨S8192x1024, .f32⟩
  | 86 => ⟨S8192x1024, .bf16⟩
  | 87 => ⟨S8192x1024, .f32⟩
  | 88 => ⟨S8192x1024, .bf16⟩
  | 89 => ⟨S8192x1024, .f32⟩
  | 90 => ⟨S8192x1024, .bf16⟩
  | 91 => ⟨S8192x1024, .f32⟩
  | 92 => ⟨S8192x1024, .bf16⟩
  | 93 => ⟨S8192x1024, .f32⟩
  | 94 => ⟨S8192x1024, .f32⟩
  | 95 => ⟨S8192x1024, .bf16⟩
  | 96 => ⟨S8192x2816, .f32⟩
  | 97 => ⟨S8192x2816, .bf16⟩
  | 98 => ⟨S8192x2816, .f32⟩
  | 99 => ⟨S8192x2816, .bf16⟩
  | 100 => ⟨S8192x2816, .f32⟩
  | 101 => ⟨S8192x2816, .bf16⟩
  | 102 => ⟨S8192x1024, .f32⟩
  | 103 => ⟨S1x128, .f32⟩
  | 104 => ⟨S1x1024, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_4 : Ref sig .tc := ⟨.hbm, 66, rfl⟩
abbrev main_v45 : Ref sig .tc := ⟨.hbm, 67, rfl⟩
abbrev main_v46 : Ref sig .tc := ⟨.hbm, 68, rfl⟩
abbrev main_cst_5 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_6 : Ref sig .tc := ⟨.hbm, 78, rfl⟩
abbrev main_v55 : Ref sig .tc := ⟨.hbm, 79, rfl⟩
abbrev main_v56 : Ref sig .tc := ⟨.hbm, 80, rfl⟩
abbrev main_cst_7 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_8 : Ref sig .tc := ⟨.hbm, 89, rfl⟩
abbrev main_v64 : Ref sig .tc := ⟨.hbm, 90, rfl⟩
abbrev main_v65 : Ref sig .tc := ⟨.hbm, 91, rfl⟩
abbrev main_cst_9 : Ref sig .tc := ⟨.hbm, 92, rfl⟩
abbrev main_v66 : Ref sig .tc := ⟨.hbm, 93, rfl⟩
abbrev main_v67 : Ref sig .tc := ⟨.hbm, 94, rfl⟩
abbrev main_cst_10 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_call0_v0 : Ref sig .tc := ⟨.hbm, 106, rfl⟩
abbrev main_call0_v1 : Ref sig .tc := ⟨.hbm, 107, rfl⟩
abbrev main_call0_cst : Ref sig .tc := ⟨.hbm, 108, rfl⟩
abbrev main_call0_v2 : Ref sig .tc := ⟨.hbm, 109, rfl⟩
abbrev main_call0_v3 : Ref sig .tc := ⟨.hbm, 110, rfl⟩
abbrev main_call0_cst_0 : Ref sig .tc := ⟨.hbm, 111, rfl⟩
abbrev main_call0_v4 : Ref sig .tc := ⟨.hbm, 112, rfl⟩
abbrev main_call0_v5 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_11 : Ref sig .tc := ⟨.hbm, 119, rfl⟩
abbrev main_v83 : Ref sig .tc := ⟨.hbm, 120, rfl⟩
abbrev main_v84 : Ref sig .tc := ⟨.hbm, 121, rfl⟩
abbrev main_cst_12 : Ref sig .tc := ⟨.hbm, 122, rfl⟩
abbrev main_v85 : Ref sig .tc := ⟨.hbm, 123, rfl⟩
abbrev main_v86 : Ref sig .tc := ⟨.hbm, 124, rfl⟩
abbrev main_cst_13 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_14 : Ref sig .tc := ⟨.hbm, 136, rfl⟩
abbrev main_v97 : Ref sig .tc := ⟨.hbm, 137, rfl⟩
abbrev main_cst_15 : Ref sig .tc := ⟨.hbm, 138, rfl⟩
abbrev main_v98 : Ref sig .tc := ⟨.hbm, 139, rfl⟩
abbrev main_v99 : Ref sig .tc := ⟨.hbm, 140, rfl⟩
abbrev main_cst_16 : Ref sig .tc := ⟨.hbm, 141, rfl⟩
abbrev main_v100 : Ref sig .tc := ⟨.hbm, 142, rfl⟩
abbrev main_cst_17 : Ref sig .tc := ⟨.hbm, 143, rfl⟩
abbrev main_v101 : Ref sig .tc := ⟨.hbm, 144, rfl⟩
abbrev main_v102 : Ref sig .tc := ⟨.hbm, 145, rfl⟩
abbrev main_cst_18 : Ref sig .tc := ⟨.hbm, 146, rfl⟩
abbrev main_v103 : Ref sig .tc := ⟨.hbm, 147, rfl⟩
abbrev main_v104 : Ref sig .tc := ⟨.hbm, 148, rfl⟩
abbrev main_cst_19 : Ref sig .tc := ⟨.hbm, 149, rfl⟩
abbrev main_v105 : Ref sig .tc := ⟨.hbm, 150, rfl⟩
abbrev main_v106 : Ref sig .tc := ⟨.hbm, 151, rfl⟩
abbrev main_cst_20 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_21 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_22 : Ref sig .tc := ⟨.hbm, 167, rfl⟩
abbrev main_v120 : Ref sig .tc := ⟨.hbm, 168, rfl⟩
abbrev main_v121 : Ref sig .tc := ⟨.hbm, 169, rfl⟩
abbrev main_cst_23 : Ref sig .tc := ⟨.hbm, 170, rfl⟩
abbrev main_v122 : Ref sig .tc := ⟨.hbm, 171, rfl⟩
abbrev main_cst_24 : Ref sig .tc := ⟨.hbm, 172, rfl⟩
abbrev main_v123 : Ref sig .tc := ⟨.hbm, 173, rfl⟩
abbrev main_v124 : Ref sig .tc := ⟨.hbm, 174, rfl⟩
abbrev main_cst_25 : Ref sig .tc := ⟨.hbm, 175, rfl⟩
abbrev main_v125 : Ref sig .tc := ⟨.hbm, 176, rfl⟩
abbrev main_cst_26 : Ref sig .tc := ⟨.hbm, 177, rfl⟩
abbrev main_v126 : Ref sig .tc := ⟨.hbm, 178, rfl⟩
abbrev main_cst_27 : Ref sig .tc := ⟨.hbm, 179, rfl⟩
abbrev main_cst_28 : Ref sig .tc := ⟨.hbm, 180, rfl⟩
abbrev main_v127 : Ref sig .tc := ⟨.hbm, 181, rfl⟩
abbrev main_v128 : Ref sig .tc := ⟨.hbm, 182, rfl⟩
abbrev main_cst_29 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_cst_30 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_cst_31 : Ref sig .tc := ⟨.hbm, 194, rfl⟩
abbrev main_v138 : Ref sig .tc := ⟨.hbm, 195, rfl⟩
abbrev main_v139 : Ref sig .tc := ⟨.hbm, 196, rfl⟩
abbrev main_cst_32 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_cst_33 : Ref sig .tc := ⟨.hbm, 203, rfl⟩
abbrev main_v145 : Ref sig .tc := ⟨.hbm, 204, rfl⟩
abbrev main_v146 : Ref sig .tc := ⟨.hbm, 205, rfl⟩
abbrev main_cst_34 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩

abbrev nD : Nat := 1
abbrev τ : Topo := Topo.v7x

variable {F : FTy → Type} [FloatOps F]
-- ==== Kernel4.lean ====
abbrev S2x4096x1024 : Shape := ⟨3, ![2, 4096, 1024]⟩
abbrev S2x4096x6144 : Shape := ⟨3, ![2, 4096, 6144]⟩
abbrev S2048 : Shape := ⟨1, ![2048]⟩
abbrev S1024 : Shape := ⟨1, ![1024]⟩
abbrev S1024x1024 : Shape := ⟨2, ![1024, 1024]⟩
abbrev S8x128x128 : Shape := ⟨3, ![8, 128, 128]⟩
abbrev S8x128 : Shape := ⟨2, ![8, 128]⟩
abbrev S1x1x1024 : Shape := ⟨3, ![1, 1, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S2x4096 : Shape := ⟨2, ![2, 4096]⟩
abbrev S2x4096x1 : Shape := ⟨3, ![2, 4096, 1]⟩
abbrev S2x32x128x8x128 : Shape := ⟨5, ![2, 32, 128, 8, 128]⟩
abbrev S8x128x2x32x128 : Shape := ⟨5, ![8, 128, 2, 32, 128]⟩
abbrev S128x8 : Shape := ⟨2, ![128, 8]⟩
abbrev S1x1x128x8x1 : Shape := ⟨5, ![1, 1, 128, 8, 1]⟩
abbrev S4x256x1024 : Shape := ⟨3, ![4, 256, 1024]⟩
abbrev S4x768x1024 : Shape := ⟨3, ![4, 768, 1024]⟩
abbrev S8192x6144 : Shape := ⟨2, ![8192, 6144]⟩
abbrev S1x1024 : Shape := ⟨2, ![1, 1024]⟩
abbrev S1x2048 : Shape := ⟨2, ![1, 2048]⟩
abbrev S256x1024 : Shape := ⟨2, ![256, 1024]⟩
abbrev S256x2048 : Shape := ⟨2, ![256, 2048]⟩
abbrev S256x1 : Shape := ⟨2, ![256, 1]⟩
abbrev S256x6144 : Shape := ⟨2, ![256, 6144]⟩
abbrev S128x1024 : Shape := ⟨2, ![128, 1024]⟩
abbrev S256 : Shape := ⟨1, ![256]⟩
abbrev S128x128 : Shape := ⟨2, ![128, 128]⟩
abbrev S128x256 : Shape := ⟨2, ![128, 256]⟩
abbrev S1x128x128 : Shape := ⟨3, ![1, 128, 128]⟩
abbrev S128 : Shape := ⟨1, ![128]⟩
abbrev S1x128 : Shape := ⟨2, ![1, 128]⟩

abbrev nBuf : Space → Nat
  | .hbm => 158
  | .vmem => 44
  | .smem => 0
  | _ => 0

abbrev hbmTy0_0 (i : Nat) : BufTy := match i % 128 with
  | 0 => ⟨S2x4096x1024, .f32⟩
  | 1 => ⟨S2x4096x1024, .f32⟩
  | 2 => ⟨S2x4096x6144, .f32⟩
  | 3 => ⟨S2048, .f32⟩
  | 4 => ⟨S1024, .f32⟩
  | 5 => ⟨S1024, .f32⟩
  | 6 => ⟨S1024, .f32⟩
  | 7 => ⟨S1024x1024, .f32⟩
  | 8 => ⟨S1024, .f32⟩
  | 9 => ⟨S1024, .f32⟩
  | 10 => ⟨S8x128x128, .f32⟩
  | 11 => ⟨S8x128, .f32⟩
  | 12 => ⟨S1024x1024, .f32⟩
  | 13 => ⟨S1024x1024, .f32⟩
  | 14 => ⟨S1x1x1024, .f32⟩
  | 15 => ⟨S2x4096x1024, .f32⟩
  | 16 => ⟨S2x4096x1024, .f32⟩
  | 17 => ⟨S8192x1024, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S8192x1024, .f32⟩
  | 27 => ⟨S_, .f32⟩
  | 28 => ⟨S8192, .f32⟩
  | 29 => ⟨S8192x1, .f32⟩
  | 30 => ⟨S_, .f32⟩
  | 31 => ⟨S8192x1, .f32⟩
  | 32 => ⟨S8192x1, .f32⟩
  | 33 => ⟨S_, .f32⟩
  | 34 => ⟨S8192x1, .f32⟩
  | 35 => ⟨S8192x1, .f32⟩
  | 36 => ⟨S8192x1, .f32⟩
  | 37 => ⟨S8192x1024, .f32⟩
  | 38 => ⟨S8192x1024, .f32⟩
  | 39 => ⟨S8192x1024, .bf16⟩
  | 40 => ⟨S1x1x1024, .f32⟩
  | 41 => ⟨S2x4096x1024, .f32⟩
  | 42 => ⟨S2x4096x1024, .f32⟩
  | 43 => ⟨S_, .f32⟩
  | 44 => ⟨S2x4096, .f32⟩
  | 45 => ⟨S2x4096x1, .f32⟩
  | 46 => ⟨S_, .f32⟩
  | 47 => ⟨S2x4096x1, .f32⟩
  | 48 => ⟨S2x4096x1, .f32⟩
  | 49 => ⟨S2x4096x1024, .f32⟩
  | 50 => ⟨S2x4096x1024, .f32⟩
  | 51 => ⟨S2x4096x1024, .f32⟩
  | 52 => ⟨S_, .f32⟩
  | 53 => ⟨S2x4096, .f32⟩
  | 54 => ⟨S2x4096x1, .f32⟩
  | 55 => ⟨S_, .f32⟩
  | 56 => ⟨S2x4096x1, .f32⟩
  | 57 => ⟨S2x4096x1, .f32⟩
  | 58 => ⟨S2x4096x1024, .f32⟩
  | 59 => ⟨S2x4096x1024, .f32⟩
  | 60 => ⟨S_, .f32⟩
  | 61 => ⟨S2x4096x1, .f32⟩
  | 62 => ⟨S2x4096x1, .f32⟩
  | 63 => ⟨S2x4096x1, .f32⟩
  | 64 => ⟨S2x4096x1024, .f32⟩
  | 65 => ⟨S2x4096x1024, .f32⟩
  | 66 => ⟨S1x1x1024, .f32⟩
  | 67 => ⟨S2x4096x1024, .f32⟩
  | 68 => ⟨S2x4096x1024, .f32⟩
  | 69 => ⟨S1x1x1024, .f32⟩
  | 70 => ⟨S2x4096x1024, .f32⟩
  | 71 => ⟨S2x4096x1024, .f32⟩
  | 72 => ⟨S2x4096x1024, .f32⟩
  | 73 => ⟨S2x4096x1024, .f32⟩
  | 74 => ⟨S_, .f32⟩
  | 75 => ⟨S2x4096x1024, .f32⟩
  | 76 => ⟨S2x4096x1024, .f32⟩
  | 77 => ⟨S_, .f32⟩
  | 78 => ⟨S2x4096x1024, .f32⟩
  | 79 => ⟨S2x4096x1024, .f32⟩
  | 80 => ⟨S2x4096x1024, .f32⟩
  | 81 => ⟨S2x4096x1024, .f32⟩
  | 82 => ⟨S8192x1024, .f32⟩
  | 83 => ⟨S8192x1024, .bf16⟩
  | 84 => ⟨S2x4096x1024, .f32⟩
  | 85 => ⟨S2x4096x1024, .f32⟩
  | 86 => ⟨S_, .f32⟩
  | 87 => ⟨S2x4096, .f32⟩
  | 88 => ⟨S2x4096x1, .f32⟩
  | 89 => ⟨S_, .f32⟩
  | 90 => ⟨S2x4096x1, .f32⟩
  | 91 => ⟨S2x4096x1, .f32⟩
  | 92 => ⟨S2x4096x1024, .f32⟩
  | 93 => ⟨S2x4096x1024, .f32⟩
  | 94 => ⟨S2x4096x1024, .f32⟩
  | 95 => ⟨S_, .f32⟩
  | 96 => ⟨S2x4096, .f32⟩
  | 97 => ⟨S2x4096x1, .f32⟩
  | 98 => ⟨S_, .f32⟩
  | 99 => ⟨S2x4096x1, .f32⟩
  | 100 => ⟨S2x4096x1, .f32⟩
  | 101 => ⟨S2x4096x1024, .f32⟩
  | 102 => ⟨S2x4096x1024, .f32⟩
  | 103 => ⟨S_, .f32⟩
  | 104 => ⟨S2x4096x1, .f32⟩
  | 105 => ⟨S2x4096x1, .f32⟩
  | 106 => ⟨S2x4096x1, .f32⟩
  | 107 => ⟨S2x4096x1024, .f32⟩
  | 108 => ⟨S2x4096x1024, .f32⟩
  | 109 => ⟨S1x1x1024, .f32⟩
  | 110 => ⟨S2x4096x1024, .f32⟩
  | 111 => ⟨S2x4096x1024, .f32⟩
  | 112 => ⟨S1x1x1024, .f32⟩
  | 113 => ⟨S2x4096x1024, .f32⟩
  | 114 => ⟨S2x4096x1024, .f32⟩
  | 115 => ⟨S2x32x128x8x128, .f32⟩
  | 116 => ⟨S8x128x2x32x128, .f32⟩
  | 117 => ⟨S2x32x128x8x128, .f32⟩
  | 118 => ⟨S128x8, .f32⟩
  | 119 => ⟨S1x1x128x8x1, .f32⟩
  | 120 => ⟨S2x32x128x8x128, .f32⟩
  | 121 => ⟨S2x32x128x8x128, .f32⟩
  | 122 => ⟨S2x4096x1024, .f32⟩
  | 123 => ⟨S2x4096x1024, .f32⟩
  | 124 => ⟨S2x4096x1024, .f32⟩
  | 125 => ⟨S8192x1024, .f32⟩
  | 126 => ⟨S8192x1024, .bf16⟩
  | 127 => ⟨S8x128x128, .bf16⟩
  | _ => ⟨S2x4096x1024, .f32⟩

abbrev hbmTy0_1 (i : Nat) : BufTy := match i % 128 with
  | 0 => ⟨S8x128x128, .bf16⟩
  | 1 => ⟨S1024x1024, .bf16⟩
  | 2 => ⟨S4x256x1024, .bf16⟩
  | 3 => ⟨S1024x1024, .bf16⟩
  | 4 => ⟨S4x256x1024, .bf16⟩
  | 5 => ⟨S1024x1024, .bf16⟩
  | 6 => ⟨S4x256x1024, .bf16⟩
  | 7 => ⟨S4x768x1024, .bf16⟩
  | 8 => ⟨S8192x1024, .f32⟩
  | 9 => ⟨S8192x6144, .f32⟩
  | 10 => ⟨S8192x6144, .bf16⟩
  | 11 => ⟨S8192x1024, .f32⟩
  | 12 => ⟨S8192x1024, .bf16⟩
  | 13 => ⟨S1x1024, .f32⟩
  | 14 => ⟨S1x1024, .f32⟩
  | 15 => ⟨S1x2048, .f32⟩
  | 16 => ⟨S1x1024, .f32⟩
  | 17 => ⟨S1x1024, .f32⟩
  | 18 => ⟨S8192x1024, .bf16⟩
  | 19 => ⟨S8192x1024, .bf16⟩
  | 20 => ⟨S8192x6144, .bf16⟩
  | 21 => ⟨S8192x1024, .f32⟩
  | 22 => ⟨S1x2048, .f32⟩
  | 23 => ⟨S1x1024, .f32⟩
  | 24 => ⟨S1x1024, .f32⟩
  | 25 => ⟨S1x1024, .f32⟩
  | 26 => ⟨S8x128x128, .f32⟩
  | 27 => ⟨S1x1024, .f32⟩
  | 28 => ⟨S1x1024, .f32⟩
  | 29 => ⟨S1x1024, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1, .f32⟩
  | .local _ .vmem, ⟨15, _⟩ => ⟨S256x1, .f32⟩
  | .local _ .vmem, ⟨16, _⟩ => ⟨S1x1024, .f32⟩
  | .local _ .vmem, ⟨17, _⟩ => ⟨S1x1024, .f32⟩
  | .local _ .vmem, ⟨18, _⟩ => ⟨S8x128x128, .bf16⟩
  | .local _ .vmem, ⟨19, _⟩ => ⟨S8x128x128, .bf16⟩
  | .local _ .vmem, ⟨20, _⟩ => ⟨S1x2048, .f32⟩
  | .local _ .vmem, ⟨21, _⟩ => ⟨S1x1024, .f32⟩
  | .local _ .vmem, ⟨22, _⟩ => ⟨S1x1024, .f32⟩
  | .local _ .vmem, ⟨23, _⟩ => ⟨S4x256x1024, .bf16⟩
  | .local _ .vmem, ⟨24, _⟩ => ⟨S4x256x1024, .bf16⟩
  | .local _ .vmem, ⟨25, _⟩ => ⟨S4x256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x6144, .bf16⟩
  | .local _ .vmem, ⟨31, _⟩ => ⟨S256x6144, .bf16⟩
  | .local _ .vmem, ⟨32, _⟩ => ⟨S256x1024, .f32⟩
  | .local _ .vmem, ⟨33, _⟩ => ⟨S256x1024, .f32⟩
  | .local _ .vmem, ⟨34, _⟩ => ⟨S1x2048, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S8x128x128, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S256x1024, .f32⟩
  | .local _ .vmem, ⟨43, _⟩ => ⟨S128x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_9 : Ref sig .tc := ⟨.hbm, 86, rfl⟩
abbrev main_v54 : Ref sig .tc := ⟨.hbm, 87, rfl⟩
abbrev main_v55 : Ref sig .tc := ⟨.hbm, 88, rfl⟩
abbrev main_cst_10 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_11 : Ref sig .tc := ⟨.hbm, 95, rfl⟩
abbrev main_v61 : Ref sig .tc := ⟨.hbm, 96, rfl⟩
abbrev main_v62 : Ref sig .tc := ⟨.hbm, 97, rfl⟩
abbrev main_cst_12 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_13 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109_0 : Ref sig .tc := ⟨.hbm, 146, rfl⟩
abbrev main_v109_1 : Ref sig .tc := ⟨.hbm, 147, rfl⟩
abbrev main_v109_2 : Ref sig .tc := ⟨.hbm, 148, rfl⟩
abbrev main_v109_3 : Ref sig .tc := ⟨.hbm, 149, rfl⟩
abbrev main_v109_4 : Ref sig .tc := ⟨.hbm, 150, rfl⟩
abbrev main_v109_5 : Ref sig .tc := ⟨.hbm, 151, rfl⟩
abbrev main_v109_6 : Ref sig .tc := ⟨.hbm, 152, rfl⟩
abbrev main_v109_7 : Ref sig .tc := ⟨.hbm, 153, rfl⟩
abbrev main_v109_8 : Ref sig .tc := ⟨.hbm, 154, rfl⟩
abbrev main_v109_9 : Ref sig .tc := ⟨.hbm, 155, rfl⟩
abbrev main_v109_10 : Ref sig .tc := ⟨.hbm, 156, rfl⟩
abbrev main_v109_11 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg23_0 : Ref sig .tc := ⟨.vmem, 35, rfl⟩
abbrev cc0_stg24_0 : Ref sig .tc := ⟨.vmem, 36, rfl⟩
abbrev cc0_stg25_0 : Ref sig .tc := ⟨.vmem, 37, rfl⟩
abbrev cc0_stg26_0 : Ref sig .tc := ⟨.vmem, 38, rfl⟩
abbrev cc0_stg27_0 : Ref sig .tc := ⟨.vmem, 39, rfl⟩
abbrev cc0_stg28_0 : Ref sig .tc := ⟨.vmem, 40, rfl⟩
abbrev cc0_stg29_0 : Ref sig .tc := ⟨.vmem, 41, rfl⟩
abbrev cc0_scratch0 : Ref sig .tc := ⟨.vmem, 42, rfl⟩
abbrev cc0_scratch1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem23_0 : DmaSem sig := 35
abbrev cc0_sem24_0 : DmaSem sig := 36
abbrev cc0_sem25_0 : DmaSem sig := 37
abbrev cc0_sem26_0 : DmaSem sig := 38
abbrev cc0_sem27_0 : DmaSem sig := 39
abbrev cc0_sem28_0 : DmaSem sig := 40
abbrev cc0_sem29_0 : DmaSem sig := 41

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v426 : BitVec 1 := Scalar.cmpi .eq arg0 c31_i32
  let v427 : BitVec 32 := Scalar.extui v426
  let c0_i32_229 : BitVec 32 := 0#32
  let v428 : BitVec 1 := Scalar.cmpi .ne v427 c0_i32_229
  v428

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_17 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x6144 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S1x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S8x128x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]
-- ==== Reference4Ideal.lean ====
abbrev S2x4096x1024 : Shape := ⟨3, ![2, 4096, 1024]⟩
abbrev S2x4096x6144 : Shape := ⟨3, ![2, 4096, 6144]⟩
abbrev S2048 : Shape := ⟨1, ![2048]⟩
abbrev S1024 : Shape := ⟨1, ![1024]⟩
abbrev S1024x1024 : Shape := ⟨2, ![1024, 1024]⟩
abbrev S8x128x128 : Shape := ⟨3, ![8, 128, 128]⟩
abbrev S8x128 : Shape := ⟨2, ![8, 128]⟩
abbrev S1x1x1024 : Shape := ⟨3, ![1, 1, 1024]⟩
abbrev S_ : Shape := ⟨0, ![]⟩
abbrev S2x4096 : Shape := ⟨2, ![2, 4096]⟩
abbrev S2x4096x1 : Shape := ⟨3, ![2, 4096, 1]⟩
abbrev S2x32x128x8x128 : Shape := ⟨5, ![2, 32, 128, 8, 128]⟩
abbrev S8x128x2x32x128 : Shape := ⟨5, ![8, 128, 2, 32, 128]⟩
abbrev S128x8 : Shape := ⟨2, ![128, 8]⟩
abbrev S1x1x128x8x1 : Shape := ⟨5, ![1, 1, 128, 8, 1]⟩
abbrev S8x2x32x128x128 : Shape := ⟨5, ![8, 2, 32, 128, 128]⟩
abbrev S8192x1024 : Shape := ⟨2, ![8192, 1024]⟩
abbrev S1x2048 : Shape := ⟨2, ![1, 2048]⟩
abbrev S1x1024 : Shape := ⟨2, ![1, 1024]⟩

abbrev nBuf : Space → Nat
  | .hbm => 320
  | .vmem => 0
  | .smem => 0
  | _ => 0

abbrev hbmTy0_0 (i : Nat) : BufTy := match i % 128 with
  | 0 => ⟨S2x4096x1024, .f32⟩
  | 1 => ⟨S2x4096x1024, .f32⟩
  | 2 => ⟨S2x4096x6144, .f32⟩
  | 3 => ⟨S2048, .f32⟩
  | 4 => ⟨S1024, .f32⟩
  | 5 => ⟨S1024, .f32⟩
  | 6 => ⟨S1024, .f32⟩
  | 7 => ⟨S1024x1024, .f32⟩
  | 8 => ⟨S1024, .f32⟩
  | 9 => ⟨S1024, .f32⟩
  | 10 => ⟨S8x128x128, .f32⟩
  | 11 => ⟨S8x128, .f32⟩
  | 12 => ⟨S1024x1024, .f32⟩
  | 13 => ⟨S1024x1024, .f32⟩
  | 14 => ⟨S2x4096x1024, .f32⟩
  | 15 => ⟨S2x4096x1024, .f32⟩
  | 16 => ⟨S2x4096x1024, .f32⟩
  | 17 => ⟨S2x4096x1024, .f32⟩
  | 18 => ⟨S1x1x1024, .f32⟩
  | 19 => ⟨S2x4096x1024, .f32⟩
  | 20 => ⟨S2x4096x1024, .f32⟩
  | 21 => ⟨S_, .f32⟩
  | 22 => ⟨S2x4096, .f32⟩
  | 23 => ⟨S2x4096x1, .f32⟩
  | 24 => ⟨S_, .f32⟩
  | 25 => ⟨S2x4096x1, .f32⟩
  | 26 => ⟨S2x4096x1, .f32⟩
  | 27 => ⟨S2x4096x1024, .f32⟩
  | 28 => ⟨S2x4096x1024, .f32⟩
  | 29 => ⟨S2x4096x1024, .f32⟩
  | 30 => ⟨S_, .f32⟩
  | 31 => ⟨S2x4096, .f32⟩
  | 32 => ⟨S2x4096x1, .f32⟩
  | 33 => ⟨S_, .f32⟩
  | 34 => ⟨S2x4096x1, .f32⟩
  | 35 => ⟨S2x4096x1, .f32⟩
  | 36 => ⟨S2x4096x1024, .f32⟩
  | 37 => ⟨S2x4096x1024, .f32⟩
  | 38 => ⟨S_, .f32⟩
  | 39 => ⟨S2x4096x1, .f32⟩
  | 40 => ⟨S2x4096x1, .f32⟩
  | 41 => ⟨S2x4096x1, .f32⟩
  | 42 => ⟨S2x4096x1024, .f32⟩
  | 43 => ⟨S2x4096x1024, .f32⟩
  | 44 => ⟨S1x1x1024, .f32⟩
  | 45 => ⟨S2x4096x1024, .f32⟩
  | 46 => ⟨S2x4096x1024, .f32⟩
  | 47 => ⟨S1x1x1024, .f32⟩
  | 48 => ⟨S2x4096x1024, .f32⟩
  | 49 => ⟨S2x4096x1024, .f32⟩
  | 50 => ⟨S2x4096x1024, .f32⟩
  | 51 => ⟨S2x4096x1024, .f32⟩
  | 52 => ⟨S_, .f32⟩
  | 53 => ⟨S2x4096x1024, .f32⟩
  | 54 => ⟨S2x4096x1024, .f32⟩
  | 55 => ⟨S_, .f32⟩
  | 56 => ⟨S2x4096x1024, .f32⟩
  | 57 => ⟨S2x4096x1024, .f32⟩
  | 58 => ⟨S_, .f32⟩
  | 59 => ⟨S2x4096x1024, .f32⟩
  | 60 => ⟨S2x4096x1024, .f32⟩
  | 61 => ⟨S2x4096x1024, .f32⟩
  | 62 => ⟨S2x4096x1024, .f32⟩
  | 63 => ⟨S2x4096x1024, .f32⟩
  | 64 => ⟨S_, .f32⟩
  | 65 => ⟨S2x4096, .f32⟩
  | 66 => ⟨S2x4096x1, .f32⟩
  | 67 => ⟨S_, .f32⟩
  | 68 => ⟨S2x4096x1, .f32⟩
  | 69 => ⟨S2x4096x1, .f32⟩
  | 70 => ⟨S2x4096x1024, .f32⟩
  | 71 => ⟨S2x4096x1024, .f32⟩
  | 72 => ⟨S2x4096x1024, .f32⟩
  | 73 => ⟨S_, .f32⟩
  | 74 => ⟨S2x4096, .f32⟩
  | 75 => ⟨S2x4096x1, .f32⟩
  | 76 => ⟨S_, .f32⟩
  | 77 => ⟨S2x4096x1, .f32⟩
  | 78 => ⟨S2x4096x1, .f32⟩
  | 79 => ⟨S2x4096x1024, .f32⟩
  | 80 => ⟨S2x4096x1024, .f32⟩
  | 81 => ⟨S_, .f32⟩
  | 82 => ⟨S2x4096x1, .f32⟩
  | 83 => ⟨S2x4096x1, .f32⟩
  | 84 => ⟨S2x4096x1, .f32⟩
  | 85 => ⟨S2x4096x1024, .f32⟩
  | 86 => ⟨S2x4096x1024, .f32⟩
  | 87 => ⟨S1x1x1024, .f32⟩
  | 88 => ⟨S2x4096x1024, .f32⟩
  | 89 => ⟨S2x4096x1024, .f32⟩
  | 90 => ⟨S1x1x1024, .f32⟩
  | 91 => ⟨S2x4096x1024, .f32⟩
  | 92 => ⟨S2x4096x1024, .f32⟩
  | 93 => ⟨S2x32x128x8x128, .f32⟩
  | 94 => ⟨S8x128x2x32x128, .f32⟩
  | 95 => ⟨S2x32x128x8x128, .f32⟩
  | 96 => ⟨S128x8, .f32⟩
  | 97 => ⟨S1x1x128x8x1, .f32⟩
  | 98 => ⟨S2x32x128x8x128, .f32⟩
  | 99 => ⟨S2x32x128x8x128, .f32⟩
  | 100 => ⟨S2x4096x1024, .f32⟩
  | 101 => ⟨S2x4096x1024, .f32⟩
  | 102 => ⟨S2x4096x1024, .f32⟩
  | 103 => ⟨S1024, .f32⟩
  | 104 => ⟨S1024, .f32⟩
  | 105 => ⟨S1x1x1024, .f32⟩
  | 106 => ⟨S2x4096x1024, .f32⟩
  | 107 => ⟨S2x4096x1024, .f32⟩
  | 108 => ⟨S2x4096x1024, .f32⟩
  | 109 => ⟨S2x4096x1024, .f32⟩
  | 110 => ⟨S_, .f32⟩
  | 111 => ⟨S2x4096x1024, .f32⟩
  | 112 => ⟨S2x4096x1024, .f32⟩
  | 113 => ⟨S_, .f32⟩
  | 114 => ⟨S2x4096x1024, .f32⟩
  | 115 => ⟨S2x4096x1024, .f32⟩
  | 116 => ⟨S_, .f32⟩
  | 117 => ⟨S2x4096x1024, .f32⟩
  | 118 => ⟨S2x4096x1024, .f32⟩
  | 119 => ⟨S2x4096x1024, .f32⟩
  | 120 => ⟨S2x4096x1024, .f32⟩
  | 121 => ⟨S1x1x1024, .f32⟩
  | 122 => ⟨S2x4096x1024, .f32⟩
  | 123 => ⟨S2x4096x1024, .f32⟩
  | 124 => ⟨S2x4096x1024, .f32⟩
  | 125 => ⟨S2x4096x1024, .f32⟩
  | 126 => ⟨S_, .f32⟩
  | 127 => ⟨S2x4096x1024, .f32⟩
  | _ => ⟨S2x4096x1024, .f32⟩

abbrev hbmTy0_1 (i : Nat) : BufTy := match i % 128 with
  | 0 => ⟨S2x4096x1024, .f32⟩
  | 1 => ⟨S_, .f32⟩
  | 2 => ⟨S2x4096x1024, .f32⟩
  | 3 => ⟨S2x4096x1024, .f32⟩
  | 4 => ⟨S_, .f32⟩
  | 5 => ⟨S2x4096x1024, .f32⟩
  | 6 => ⟨S2x4096x1024, .f32⟩
  | 7 => ⟨S2x4096x1024, .f32⟩
  | 8 => ⟨S2x4096x1024, .f32⟩
  | 9 => ⟨S2x4096x1024, .f32⟩
  | 10 => ⟨S2x4096x1024, .f32⟩
  | 11 => ⟨S2x4096x1024, .f32⟩
  | 12 => ⟨S2x4096x1024, .f32⟩
  | 13 => ⟨S2x4096x1024, .f32⟩
  | 14 => ⟨S2x4096x1024, .f32⟩
  | 15 => ⟨S_, .f32⟩
  | 16 => ⟨S1024, .f32⟩
  | 17 => ⟨S1x1x1024, .f32⟩
  | 18 => ⟨S_, .f32⟩
  | 19 => ⟨S1024, .f32⟩
  | 20 => ⟨S2x4096x1024, .f32⟩
  | 21 => ⟨S2x4096x1024, .f32⟩
  | 22 => ⟨S2x4096x1024, .f32⟩
  | 23 => ⟨S_, .f32⟩
  | 24 => ⟨S1024, .f32⟩
  | 25 => ⟨S1x1x1024, .f32⟩
  | 26 => ⟨S_, .f32⟩
  | 27 => ⟨S1024, .f32⟩
  | 28 => ⟨S2048, .f32⟩
  | 29 => ⟨S2x4096x1024, .f32⟩
  | 30 => ⟨S2x4096x1024, .f32⟩
  | 31 => ⟨S2x32x128x8x128, .f32⟩
  | 32 => ⟨S_, .f32⟩
  | 33 => ⟨S128x8, .f32⟩
  | 34 => ⟨S1x1x128x8x1, .f32⟩
  | 35 => ⟨S_, .f32⟩
  | 36 => ⟨S128x8, .f32⟩
  | 37 => ⟨S8x128, .f32⟩
  | 38 => ⟨S8x128x2x32x128, .f32⟩
  | 39 => ⟨S8x2x32x128x128, .f32⟩
  | 40 => ⟨S2x32x128x8x128, .f32⟩
  | 41 => ⟨S8x128x128, .f32⟩
  | 42 => ⟨S2x4096x1024, .f32⟩
  | 43 => ⟨S_, .f32⟩
  | 44 => ⟨S1024, .f32⟩
  | 45 => ⟨S1x1x1024, .f32⟩
  | 46 => ⟨S_, .f32⟩
  | 47 => ⟨S1024, .f32⟩
  | 48 => ⟨S2x4096x1024, .f32⟩
  | 49 => ⟨S_, .f32⟩
  | 50 => ⟨S1024, .f32⟩
  | 51 => ⟨S1x1x1024, .f32⟩
  | 52 => ⟨S_, .f32⟩
  | 53 => ⟨S1024, .f32⟩
  | 54 => ⟨S2x4096x1024, .f32⟩
  | 55 => ⟨S2x4096x1024, .f32⟩
  | 56 => ⟨S2x4096x1024, .f32⟩
  | 57 => ⟨S2x4096x1024, .f32⟩
  | 58 => ⟨S2x4096x1024, .f32⟩
  | 59 => ⟨S_, .f32⟩
  | 60 => ⟨S1024, .f32⟩
  | 61 => ⟨S1x1x1024, .f32⟩
  | 62 => ⟨S_, .f32⟩
  | 63 => ⟨S1024, .f32⟩
  | 64 => ⟨S2x4096x1024, .f32⟩
  | 65 => ⟨S_, .f32⟩
  | 66 => ⟨S1024, .f32⟩
  | 67 => ⟨S1x1x1024, .f32⟩
  | 68 => ⟨S_, .f32⟩
  | 69 => ⟨S1024, .f32⟩
  | 70 => ⟨S1x1x1024, .f32⟩
  | 71 => ⟨S2x4096x1024, .f32⟩
  | 72 => ⟨S2x4096x1024, .f32⟩
  | 73 => ⟨S_, .f32⟩
  | 74 => ⟨S2x4096, .f32⟩
  | 75 => ⟨S2x4096x1, .f32⟩
  | 76 => ⟨S_, .f32⟩
  | 77 => ⟨S2x4096x1, .f32⟩
  | 78 => ⟨S2x4096x1, .f32⟩
  | 79 => ⟨S2x4096x1024, .f32⟩
  | 80 => ⟨S2x4096x1024, .f32⟩
  | 81 => ⟨S2x4096x1024, .f32⟩
  | 82 => ⟨S_, .f32⟩
  | 83 => ⟨S2x4096, .f32⟩
  | 84 => ⟨S2x4096x1, .f32⟩
  | 85 => ⟨S_, .f32⟩
  | 86 => ⟨S2x4096x1, .f32⟩
  | 87 => ⟨S2x4096x1, .f32⟩
  | 88 => ⟨S2x4096x1024, .f32⟩
  | 89 => ⟨S2x4096x1024, .f32⟩
  | 90 => ⟨S_, .f32⟩
  | 91 => ⟨S2x4096x1, .f32⟩
  | 92 => ⟨S2x4096x1, .f32⟩
  | 93 => ⟨S2x4096x1, .f32⟩
  | 94 => ⟨S2x4096x1024, .f32⟩
  | 95 => ⟨S2x4096x1024, .f32⟩
  | 96 => ⟨S1x1x1024, .f32⟩
  | 97 => ⟨S2x4096x1024, .f32⟩
  | 98 => ⟨S2x4096x1024, .f32⟩
  | 99 => ⟨S1x1x1024, .f32⟩
  | 100 => ⟨S2x4096x1024, .f32⟩
  | 101 => ⟨S2x4096x1024, .f32⟩
  | 102 => ⟨S2x4096x1024, .f32⟩
  | 103 => ⟨S2x4096x1024, .f32⟩
  | 104 => ⟨S_, .f32⟩
  | 105 => ⟨S2x4096x1024, .f32⟩
  | 106 => ⟨S2x4096x1024, .f32⟩
  | 107 => ⟨S_, .f32⟩
  | 108 => ⟨S2x4096x1024, .f32⟩
  | 109 => ⟨S2x4096x1024, .f32⟩
  | 110 => ⟨S2x4096x1024, .f32⟩
  | 111 => ⟨S2x4096x1024, .f32⟩
  | 112 => ⟨S_, .f32⟩
  | 113 => ⟨S2x4096, .f32⟩
  | 114 => ⟨S2x4096x1, .f32⟩
  | 115 => ⟨S_, .f32⟩
  | 116 => ⟨S2x4096x1, .f32⟩
  | 117 => ⟨S2x4096x1, .f32⟩
  | 118 => ⟨S2x4096x1024, .f32⟩
  | 119 => ⟨S2x4096x1024, .f32⟩
  | 120 => ⟨S2x4096x1024, .f32⟩
  | 121 => ⟨S_, .f32⟩
  | 122 => ⟨S2x4096, .f32⟩
  | 123 => ⟨S2x4096x1, .f32⟩
  | 124 => ⟨S_, .f32⟩
  | 125 => ⟨S2x4096x1, .f32⟩
  | 126 => ⟨S2x4096x1, .f32⟩
  | 127 => ⟨S2x4096x1024, .f32⟩
  | _ => ⟨S2x4096x1024, .f32⟩

abbrev hbmTy0_2 (i : Nat) : BufTy := match i % 128 with
  | 0 => ⟨S2x4096x1024, .f32⟩
  | 1 => ⟨S_, .f32⟩
  | 2 => ⟨S2x4096x1, .f32⟩
  | 3 => ⟨S2x4096x1, .f32⟩
  | 4 => ⟨S2x4096x1, .f32⟩
  | 5 => ⟨S2x4096x1024, .f32⟩
  | 6 => ⟨S2x4096x1024, .f32⟩
  | 7 => ⟨S1x1x1024, .f32⟩
  | 8 => ⟨S2x4096x1024, .f32⟩
  | 9 => ⟨S2x4096x1024, .f32⟩
  | 10 => ⟨S1x1x1024, .f32⟩
  | 11 => ⟨S2x4096x1024, .f32⟩
  | 12 => ⟨S2x4096x1024, .f32⟩
  | 13 => ⟨S2x32x128x8x128, .f32⟩
  | 14 => ⟨S8x128x2x32x128, .f32⟩
  | 15 => ⟨S2x32x128x8x128, .f32⟩
  | 16 => ⟨S128x8, .f32⟩
  | 17 => ⟨S1x1x128x8x1, .f32⟩
  | 18 => ⟨S2x32x128x8x128, .f32⟩
  | 19 => ⟨S2x32x128x8x128, .f32⟩
  | 20 => ⟨S2x4096x1024, .f32⟩
  | 21 => ⟨S2x4096x1024, .f32⟩
  | 22 => ⟨S2x4096x1024, .f32⟩
  | 23 => ⟨S1024, .f32⟩
  | 24 => ⟨S1024, .f32⟩
  | 25 => ⟨S1x1x1024, .f32⟩
  | 26 => ⟨S2x4096x1024, .f32⟩
  | 27 => ⟨S2x4096x1024, .f32⟩
  | 28 => ⟨S2x4096x1024, .f32⟩
  | 29 => ⟨S2x4096x1024, .f32⟩
  | 30 => ⟨S_, .f32⟩
  | 31 => ⟨S2x4096x1024, .f32⟩
  | 32 => ⟨S2x4096x1024, .f32⟩
  | 33 => ⟨S_, .f32⟩
  | 34 => ⟨S2x4096x1024, .f32⟩
  | 35 => ⟨S2x4096x1024, .f32⟩
  | 36 => ⟨S2x4096x1024, .f32⟩
  | 37 => ⟨S1x1x1024, .f32⟩
  | 38 => ⟨S2x4096x1024, .f32⟩
  | 39 => ⟨S2x4096x1024, .f32⟩
  | 40 => ⟨S2x4096x1024, .f32⟩
  | 41 => ⟨S2x4096x1024, .f32⟩
  | 42 => ⟨S_, .f32⟩
  | 43 => ⟨S2x4096x1024, .f32⟩
  | 44 => ⟨S2x4096x1024, .f32⟩
  | 45 => ⟨S_, .f32⟩
  | 46 => ⟨S2x4096x1024, .f32⟩
  | 47 => ⟨S2x4096x1024, .f32⟩
  | 48 => ⟨S2x4096x1024, .f32⟩
  | 49 => ⟨S2x4096x1024, .f32⟩
  | 50 => ⟨S2x4096x1024, .f32⟩
  | 51 => ⟨S2x4096x1024, .f32⟩
  | 52 => ⟨S2x4096x1024, .f32⟩
  | 53 => ⟨S2x4096x1024, .f32⟩
  | 54 => ⟨S8192x1024, .f32⟩
  | 55 => ⟨S8192x1024, .bf16⟩
  | 56 => ⟨S8192x1024, .f32⟩
  | 57 => ⟨S8192x1024, .bf16⟩
  | 58 => ⟨S1x2048, .f32⟩
  | 59 => ⟨S1x1024, .f32⟩
  | 60 => ⟨S1x1024, .f32⟩
  | 61 => ⟨S1x1024, .f32⟩
  | 62 => ⟨S1x1024, .f32⟩
  | 63 => ⟨S1x1024, .f32⟩
  | _ => ⟨S2x4096x1024, .f32⟩

abbrev hbmTy (i : Nat) : BufTy := match i / 128 with
  | 0 => hbmTy0_0 i
  | 1 => hbmTy0_1 i
  | 2 => hbmTy0_2 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_v31_2 : Ref sig .tc := ⟨.hbm, 57, rfl⟩
abbrev main_call0_cst_1 : Ref sig .tc := ⟨.hbm, 58, rfl⟩
abbrev main_call0_v6 : Ref sig .tc := ⟨.hbm, 59, rfl⟩
abbrev main_call0_v7 : Ref sig .tc := ⟨.hbm, 60, rfl⟩
abbrev main_v31_1 : Ref sig .tc := ⟨.hbm, 61, rfl⟩
abbrev main_v31_0 : Ref sig .tc := ⟨.hbm, 62, rfl⟩
abbrev main_v32 : Ref sig .tc := ⟨.hbm, 63, rfl⟩
abbrev main_cst_4 : Ref sig .tc := ⟨.hbm, 64, rfl⟩
abbrev main_v33 : Ref sig .tc := ⟨.hbm, 65, rfl⟩
abbrev main_v34 : Ref sig .tc := ⟨.hbm, 66, rfl⟩
abbrev main_cst_5 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_6 : Ref sig .tc := ⟨.hbm, 73, rfl⟩
abbrev main_v40 : Ref sig .tc := ⟨.hbm, 74, rfl⟩
abbrev main_v41 : Ref sig .tc := ⟨.hbm, 75, rfl⟩
abbrev main_cst_7 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_8 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_9 : Ref sig .tc := ⟨.hbm, 110, rfl⟩
abbrev main_v74 : Ref sig .tc := ⟨.hbm, 111, rfl⟩
abbrev main_v75 : Ref sig .tc := ⟨.hbm, 112, rfl⟩
abbrev main_cst_10 : Ref sig .tc := ⟨.hbm, 113, rfl⟩
abbrev main_v76 : Ref sig .tc := ⟨.hbm, 114, rfl⟩
abbrev main_v77 : Ref sig .tc := ⟨.hbm, 115, rfl⟩
abbrev main_cst_11 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_12 : Ref sig .tc := ⟨.hbm, 126, rfl⟩
abbrev main_v87 : Ref sig .tc := ⟨.hbm, 127, rfl⟩
abbrev main_v88 : Ref sig .tc := ⟨.hbm, 128, rfl⟩
abbrev main_cst_13 : Ref sig .tc := ⟨.hbm, 129, rfl⟩
abbrev main_v89 : Ref sig .tc := ⟨.hbm, 130, rfl⟩
abbrev main_v90 : Ref sig .tc := ⟨.hbm, 131, rfl⟩
abbrev main_cst_14 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_15 : Ref sig .tc := ⟨.hbm, 143, rfl⟩
abbrev main_v101 : Ref sig .tc := ⟨.hbm, 144, rfl⟩
abbrev main_v102 : Ref sig .tc := ⟨.hbm, 145, rfl⟩
abbrev main_cst_16 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_17 : Ref sig .tc := ⟨.hbm, 151, rfl⟩
abbrev main_v107 : Ref sig .tc := ⟨.hbm, 152, rfl⟩
abbrev main_v108 : Ref sig .tc := ⟨.hbm, 153, rfl⟩
abbrev main_cst_18 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_19 : Ref sig .tc := ⟨.hbm, 160, rfl⟩
abbrev main_v114 : Ref sig .tc := ⟨.hbm, 161, rfl⟩
abbrev main_v115 : Ref sig .tc := ⟨.hbm, 162, rfl⟩
abbrev main_cst_20 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_21 : Ref sig .tc := ⟨.hbm, 171, rfl⟩
abbrev main_v123 : Ref sig .tc := ⟨.hbm, 172, rfl⟩
abbrev main_v124 : Ref sig .tc := ⟨.hbm, 173, rfl⟩
abbrev main_cst_22 : Ref sig .tc := ⟨.hbm, 174, rfl⟩
abbrev main_v125 : Ref sig .tc := ⟨.hbm, 175, rfl⟩
abbrev main_v126 : Ref sig .tc := ⟨.hbm, 176, rfl⟩
abbrev main_cst_23 : Ref sig .tc := ⟨.hbm, 177, rfl⟩
abbrev main_v127 : Ref sig .tc := ⟨.hbm, 178, rfl⟩
abbrev main_v128 : Ref sig .tc := ⟨.hbm, 179, rfl⟩
abbrev main_cst_24 : Ref sig .tc := ⟨.hbm, 180, rfl⟩
abbrev main_v129 : Ref sig .tc := ⟨.hbm, 181, rfl⟩
abbrev main_v130 : Ref sig .tc := ⟨.hbm, 182, rfl⟩
abbrev main_call1_v0 : Ref sig .tc := ⟨.hbm, 183, rfl⟩
abbrev main_call1_v1 : Ref sig .tc := ⟨.hbm, 184, rfl⟩
abbrev main_call1_v2 : Ref sig .tc := ⟨.hbm, 185, rfl⟩
abbrev main_v131 : Ref sig .tc := ⟨.hbm, 186, rfl⟩
abbrev main_cst_25 : Ref sig .tc := ⟨.hbm, 187, rfl⟩
abbrev main_v132 : Ref sig .tc := ⟨.hbm, 188, rfl⟩
abbrev main_v133 : Ref sig .tc := ⟨.hbm, 189, rfl⟩
abbrev main_cst_26 : Ref sig .tc := ⟨.hbm, 190, rfl⟩
abbrev main_v134 : Ref sig .tc := ⟨.hbm, 191, rfl⟩
abbrev main_v135 : Ref sig .tc := ⟨.hbm, 192, rfl⟩
abbrev main_cst_27 : Ref sig .tc := ⟨.hbm, 193, rfl⟩
abbrev main_v136 : Ref sig .tc := ⟨.hbm, 194, rfl⟩
abbrev main_v137 : Ref sig .tc := ⟨.hbm, 195, rfl⟩
abbrev main_cst_28 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_cst_29 : Ref sig .tc := ⟨.hbm, 201, rfl⟩
abbrev main_v142 : Ref sig .tc := ⟨.hbm, 202, rfl⟩
abbrev main_v143 : Ref sig .tc := ⟨.hbm, 203, rfl⟩
abbrev main_cst_30 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_cst_31 : Ref sig .tc := ⟨.hbm, 210, rfl⟩
abbrev main_v149 : Ref sig .tc := ⟨.hbm, 211, rfl⟩
abbrev main_v150 : Ref sig .tc := ⟨.hbm, 212, rfl⟩
abbrev main_cst_32 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_cst_33 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_call2_v0 : Ref sig .tc := ⟨.hbm, 230, rfl⟩
abbrev main_call2_v1 : Ref sig .tc := ⟨.hbm, 231, rfl⟩
abbrev main_call2_cst : Ref sig .tc := ⟨.hbm, 232, rfl⟩
abbrev main_call2_v2 : Ref sig .tc := ⟨.hbm, 233, rfl⟩
abbrev main_call2_v3 : Ref sig .tc := ⟨.hbm, 234, rfl⟩
abbrev main_call2_cst_0 : Ref sig .tc := ⟨.hbm, 235, rfl⟩
abbrev main_call2_v4 : Ref sig .tc := ⟨.hbm, 236, rfl⟩
abbrev main_call2_v5 : Ref sig .tc := ⟨.hbm, 237, rfl⟩
abbrev main_v166 : Ref sig .tc := ⟨.hbm, 238, rfl⟩
abbrev main_v167 : Ref sig .tc := ⟨.hbm, 239, rfl⟩
abbrev main_cst_34 : Ref sig .tc := ⟨.hbm, 240, rfl⟩
abbrev main_v168 : Ref sig .tc := ⟨.hbm, 241, rfl⟩
abbrev main_v169 : Ref sig .tc := ⟨.hbm, 242, rfl⟩
abbrev main_cst_35 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_cst_36 : Ref sig .tc := ⟨.hbm, 249, rfl⟩
abbrev main_v175 : Ref sig .tc := ⟨.hbm, 250, rfl⟩
abbrev main_v176 : Ref sig .tc := ⟨.hbm, 251, rfl⟩
abbrev main_cst_37 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_cst_38 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_cst_39 : Ref sig .tc := ⟨.hbm, 286, rfl⟩
abbrev main_v209 : Ref sig .tc := ⟨.hbm, 287, rfl⟩
abbrev main_v210 : Ref sig .tc := ⟨.hbm, 288, rfl⟩
abbrev main_cst_40 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_cst_41 : Ref sig .tc := ⟨.hbm, 298, rfl⟩
abbrev main_v219 : Ref sig .tc := ⟨.hbm, 299, rfl⟩
abbrev main_v220 : Ref sig .tc := ⟨.hbm, 300, rfl⟩
abbrev main_cst_42 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_v236 : Ref sig .tc := ⟨.hbm, 317, rfl⟩
abbrev main_v237 : Ref sig .tc := ⟨.hbm, 318, rfl⟩
abbrev main_v238 : Ref sig .tc := ⟨.hbm, 319, rfl⟩

abbrev nD : Nat := 1
abbrev τ : Topo := Topo.v7x

variable {F : FTy → Type} [FloatOps F]
-- ==== Kernel5.lean ====
abbrev S2x4096x1024 : Shape := ⟨3, ![2, 4096, 1024]⟩
abbrev S1024 : Shape := ⟨1, ![1024]⟩
abbrev S1024x6144 : Shape := ⟨2, ![1024, 6144]⟩
abbrev S1024x4x1536 : Shape := ⟨3, ![1024, 4, 1536]⟩
abbrev S4x1024x1536 : Shape := ⟨3, ![4, 1024, 1536]⟩
abbrev S8192x1024 : Shape := ⟨2, ![8192, 1024]⟩
abbrev S1x1024 : Shape := ⟨2, ![1, 1024]⟩
abbrev S8192x6144 : Shape := ⟨2, ![8192, 6144]⟩
abbrev S512x1024 : Shape := ⟨2, ![512, 1024]⟩
abbrev S512x6144 : Shape := ⟨2, ![512, 6144]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 10
  | .vmem => 8
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S1024x6144, .f32⟩
  | .hbm, ⟨3, _⟩ => ⟨S1024x6144, .bf16⟩
  | .hbm, ⟨4, _⟩ => ⟨S1024x4x1536, .bf16⟩
  | .hbm, ⟨5, _⟩ => ⟨S4x1024x1536, .bf16⟩
  | .hbm, ⟨6, _⟩ => ⟨S8192x1024, .f32⟩
  | .hbm, ⟨7, _⟩ => ⟨S1x1024, .f32⟩
  | .hbm, ⟨8, _⟩ => ⟨S8192x1024, .bf16⟩
  | .hbm, ⟨9, _⟩ => ⟨S8192x6144, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1536, .bf16⟩
  | .local _ .vmem, ⟨4, _⟩ => ⟨S512x1024, .bf16⟩
  | .local _ .vmem, ⟨5, _⟩ => ⟨S512x1024, .bf16⟩
  | .local _ .vmem, ⟨6, _⟩ => ⟨S512x6144, .bf16⟩
  | .local _ .vmem, ⟨7, _⟩ => ⟨S512x6144, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S2x4096x1024 : Shape := ⟨3, ![2, 4096, 1024]⟩
abbrev S1024 : Shape := ⟨1, ![1024]⟩
abbrev S1024x6144 : Shape := ⟨2, ![1024, 6144]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x6144 : Shape := ⟨3, ![2, 4096, 6144]⟩
abbrev S8192x1024 : Shape := ⟨2, ![8192, 1024]⟩
abbrev S8192x6144 : Shape := ⟨2, ![8192, 6144]⟩

abbrev nBuf : Space → Nat
  | .hbm => 24
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S1024x6144, .f32⟩
  | .hbm, ⟨3, _⟩ => ⟨S2x4096x1024, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x1024, .f32⟩
  | .hbm, ⟨15, _⟩ => ⟨S2x4096x1024, .f32⟩
  | .hbm, ⟨16, _⟩ => ⟨S1x1x1024, .f32⟩
  | .hbm, ⟨17, _⟩ => ⟨S2x4096x1024, .f32⟩
  | .hbm, ⟨18, _⟩ => ⟨S2x4096x1024, .f32⟩
  | .hbm, ⟨19, _⟩ => ⟨S2x4096x6144, .f32⟩
  | .hbm, ⟨20, _⟩ => ⟨S8192x1024, .f32⟩
  | .hbm, ⟨21, _⟩ => ⟨S8192x1024, .bf16⟩
  | .hbm, ⟨22, _⟩ => ⟨S8192x6144, .f32⟩
  | .hbm, ⟨23, _⟩ => ⟨S8192x6144, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel6.lean ====
abbrev S2x4096x1024 : Shape := ⟨3, ![2, 4096, 1024]⟩
abbrev S2x4096x6144 : Shape := ⟨3, ![2, 4096, 6144]⟩
abbrev S31x1x1024 : Shape := ⟨3, ![31, 1, 1024]⟩
abbrev S8192x1024 : Shape := ⟨2, ![8192, 1024]⟩
abbrev S8192x6144 : Shape := ⟨2, ![8192, 6144]⟩
abbrev S31x1024 : Shape := ⟨2, ![31, 1024]⟩
abbrev S_ : Shape := ⟨0, ![]⟩
abbrev S32x1024 : Shape := ⟨2, ![32, 1024]⟩
abbrev S32x8x128 : Shape := ⟨3, ![32, 8, 128]⟩
abbrev S8x32x128 : Shape := ⟨3, ![8, 32, 128]⟩
abbrev S512x1024 : Shape := ⟨2, ![512, 1024]⟩
abbrev S16x1024 : Shape := ⟨2, ![16, 1024]⟩
abbrev S512x2048 : Shape := ⟨2, ![512, 2048]⟩
abbrev S16x2048 : Shape := ⟨2, ![16, 2048]⟩
abbrev S8x544x128 : Shape := ⟨3, ![8, 544, 128]⟩
abbrev S8x512x128 : Shape := ⟨3, ![8, 512, 128]⟩
abbrev S8x256x128 : Shape := ⟨3, ![8, 256, 128]⟩
abbrev S512x128 : Shape := ⟨2, ![512, 128]⟩
abbrev S1x512x128 : Shape := ⟨3, ![1, 512, 128]⟩
abbrev S16x128 : Shape := ⟨2, ![16, 128]⟩
abbrev S1x16x128 : Shape := ⟨3, ![1, 16, 128]⟩
abbrev S64x128 : Shape := ⟨2, ![64, 128]⟩
abbrev S1x1x128 : Shape := ⟨3, ![1, 1, 128]⟩
abbrev S1x128 : Shape := ⟨2, ![1, 128]⟩
abbrev S1x64x128 : Shape := ⟨3, ![1, 64, 128]⟩
abbrev S1x8x128 : Shape := ⟨3, ![1, 8, 128]⟩
abbrev S8x128 : Shape := ⟨2, ![8, 128]⟩
abbrev S8x8x128 : Shape := ⟨3, ![8, 8, 128]⟩
abbrev S1x256x128 : Shape := ⟨3, ![1, 256, 128]⟩
abbrev S256x128 : Shape := ⟨2, ![256, 128]⟩
abbrev S32x128 : Shape := ⟨2, ![32, 128]⟩
abbrev S1x32x128 : Shape := ⟨3, ![1, 32, 128]⟩

abbrev nBuf : Space → Nat
  | .hbm => 18
  | .vmem => 20
  | .smem => 0
  | _ => 0

abbrev bufTy : (tb : Table) → Fin (tcTables nBuf tb) → BufTy
  | .hbm, ⟨0, _⟩ => ⟨S2x4096x1024, .f32⟩
  | .hbm, ⟨1, _⟩ => ⟨S2x4096x6144, .f32⟩
  | .hbm, ⟨2, _⟩ => ⟨S2x4096x6144, .f32⟩
  | .hbm, ⟨3, _⟩ => ⟨S31x1x1024, .f32⟩
  | .hbm, ⟨4, _⟩ => ⟨S8192x1024, .f32⟩
  | .hbm, ⟨5, _⟩ => ⟨S8192x6144, .f32⟩
  | .hbm, ⟨6, _⟩ => ⟨S8192x6144, .bf16⟩
  | .hbm, ⟨7, _⟩ => ⟨S8192x6144, .f32⟩
  | .hbm, ⟨8, _⟩ => ⟨S8192x6144, .bf16⟩
  | .hbm, ⟨9, _⟩ => ⟨S31x1024, .f32⟩
  | .hbm, ⟨10, _⟩ => ⟨S31x1024, .f32⟩
  | .hbm, ⟨11, _⟩ => ⟨S_, .i32⟩
  | .hbm, ⟨12, _⟩ => ⟨S_, .f32⟩
  | .hbm, ⟨13, _⟩ => ⟨S32x1024, .f32⟩
  | .hbm, ⟨14, _⟩ => ⟨S32x8x128, .f32⟩
  | .hbm, ⟨15, _⟩ => ⟨S8x32x128, .f32⟩
  | .hbm, ⟨16, _⟩ => ⟨S8192x6144, .bf16⟩
  | .hbm, ⟨17, _⟩ => ⟨S8x32x128, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S512x2048, .bf16⟩
  | .local _ .vmem, ⟨7, _⟩ => ⟨S512x2048, .bf16⟩
  | .local _ .vmem, ⟨8, _⟩ => ⟨S16x2048, .bf16⟩
  | .local _ .vmem, ⟨9, _⟩ => ⟨S16x2048, .bf16⟩
  | .local _ .vmem, ⟨10, _⟩ => ⟨S16x2048, .bf16⟩
  | .local _ .vmem, ⟨11, _⟩ => ⟨S16x2048, .bf16⟩
  | .local _ .vmem, ⟨12, _⟩ => ⟨S8x32x128, .f32⟩
  | .local _ .vmem, ⟨13, _⟩ => ⟨S512x2048, .bf16⟩
  | .local _ .vmem, ⟨14, _⟩ => ⟨S512x2048, .bf16⟩
  | .local _ .vmem, ⟨15, _⟩ => ⟨S8x32x128, .f32⟩
  | .local _ .vmem, ⟨16, _⟩ => ⟨S8x544x128, .f32⟩
  | .local _ .vmem, ⟨17, _⟩ => ⟨S8x544x128, .f32⟩
  | .local _ .vmem, ⟨18, _⟩ => ⟨S8x512x128, .f32⟩
  | .local _ .vmem, ⟨19, _⟩ => ⟨S8x256x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_378 : BitVec 32 := 0#32
  let c8_i32_379 : BitVec 32 := 8#32
  let v617 : BitVec 32 := Scalar.addi c0_i32_378 c8_i32_379
  let c1_i32_380 : BitVec 32 := 1#32
  ⟨c0_i32_378, v617, c1_i32_380⟩
def k0_off1 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v823 : Index := Scalar.indexCast arg15
  let c0_508 : Index := 0#32
  let c0_509 : Index := 0#32
  ![v823.toNat, 0, 0]
def k0_off2 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v826 : Index := Scalar.indexCast arg15
  let c1_510 : Index := 1#32
  let c0_511 : Index := 0#32
  ![v826.toNat, 1, 0]
def k0_off3 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v832 : Index := Scalar.indexCast arg15
  let c1_512 : Index := 1#32
  let c0_513 : Index := 0#32
  ![v832.toNat, 1, 0]
def k0_off4 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v835 : Index := Scalar.indexCast arg15
  let c2_514 : Index := 2#32
  let c0_515 : Index := 0#32
  ![v835.toNat, 2, 0]
def k0_off5 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v841 : Index := Scalar.indexCast arg15
  let c2_516 : Index := 2#32
  let c0_517 : Index := 0#32
  ![v841.toNat, 2, 0]
def k0_off6 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v844 : Index := Scalar.indexCast arg15
  let c3_518 : Index := 3#32
  let c0_519 : Index := 0#32
  ![v844.toNat, 3, 0]
def k0_off7 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v850 : Index := Scalar.indexCast arg15
  let c3_520 : Index := 3#32
  let c0_521 : Index := 0#32
  ![v850.toNat, 3, 0]
def k0_off8 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v853 : Index := Scalar.indexCast arg15
  let c4_522 : Index := 4#32
  let c0_523 : Index := 0#32
  ![v853.toNat, 4, 0]
def k0_off9 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v859 : Index := Scalar.indexCast arg15
  let c4_524 : Index := 4#32
  let c0_525 : Index := 0#32
  ![v859.toNat, 4, 0]
def k0_off10 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v862 : Index := Scalar.indexCast arg15
  let c5_526 : Index := 5#32
  let c0_527 : Index := 0#32
  ![v862.toNat, 5, 0]
def k0_off11 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v868 : Index := Scalar.indexCast arg15
  let c5_528 : Index := 5#32
  let c0_529 : Index := 0#32
  ![v868.toNat, 5, 0]
def k0_off12 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v871 : Index := Scalar.indexCast arg15
  let c6_530 : Index := 6#32
  let c0_531 : Index := 0#32
  ![v871.toNat, 6, 0]
def k0_off13 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v877 : Index := Scalar.indexCast arg15
  let c6_532 : Index := 6#32
  let c0_533 : Index := 0#32
  ![v877.toNat, 6, 0]
def k0_off14 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v880 : Index := Scalar.indexCast arg15
  let c7_534 : Index := 7#32
  let c0_535 : Index := 0#32
  ![v880.toNat, 7, 0]
def k0_off15 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v886 : Index := Scalar.indexCast arg15
  let c7_536 : Index := 7#32
  let c0_537 : Index := 0#32
  ![v886.toNat, 7, 0]
def k0_off16 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v889 : Index := Scalar.indexCast arg15
  let c8 : Index := 8#32
  let c0_538 : Index := 0#32
  ![v889.toNat, 8, 0]
def k0_off17 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v895 : Index := Scalar.indexCast arg15
  let c8_539 : Index := 8#32
  let c0_540 : Index := 0#32
  ![v895.toNat, 8, 0]
def k0_off18 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v898 : Index := Scalar.indexCast arg15
  let c9 : Index := 9#32
  let c0_541 : Index := 0#32
  ![v898.toNat, 9, 0]
def k0_off19 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v904 : Index := Scalar.indexCast arg15
  let c9_542 : Index := 9#32
  let c0_543 : Index := 0#32
  ![v904.toNat, 9, 0]
def k0_off20 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v907 : Index := Scalar.indexCast arg15
  let c10 : Index := 10#32
  let c0_544 : Index := 0#32
  ![v907.toNat, 10, 0]
def k0_off21 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v913 : Index := Scalar.indexCast arg15
  let c10_545 : Index := 10#32
  let c0_546 : Index := 0#32
  ![v913.toNat, 10, 0]
def k0_off22 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v916 : Index := Scalar.indexCast arg15
  let c11 : Index := 11#32
  let c0_547 : Index := 0#32
  ![v916.toNat, 11, 0]
def k0_off23 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v922 : Index := Scalar.indexCast arg15
  let c11_548 : Index := 11#32
  let c0_549 : Index := 0#32
  ![v922.toNat, 11, 0]
def k0_off24 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v925 : Index := Scalar.indexCast arg15
  let c12 : Index := 12#32
  let c0_550 : Index := 0#32
  ![v925.toNat, 12, 0]
def k0_off25 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v931 : Index := Scalar.indexCast arg15
  let c12_551 : Index := 12#32
  let c0_552 : Index := 0#32
  ![v931.toNat, 12, 0]
def k0_off26 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v934 : Index := Scalar.indexCast arg15
  let c13 : Index := 13#32
  let c0_553 : Index := 0#32
  ![v934.toNat, 13, 0]
def k0_off27 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v940 : Index := Scalar.indexCast arg15
  let c13_554 : Index := 13#32
  let c0_555 : Index := 0#32
  ![v940.toNat, 13, 0]
def k0_off28 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v943 : Index := Scalar.indexCast arg15
  let c14 : Index := 14#32
  let c0_556 : Index := 0#32
  ![v943.toNat, 14, 0]
def k0_off29 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v949 : Index := Scalar.indexCast arg15
  let c14_557 : Index := 14#32
  let c0_558 : Index := 0#32
  ![v949.toNat, 14, 0]
def k0_off30 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v952 : Index := Scalar.indexCast arg15
  let c15 : Index := 15#32
  let c0_559 : Index := 0#32
  ![v952.toNat, 15, 0]
def k0_off31 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v958 : Index := Scalar.indexCast arg15
  let c15_560 : Index := 15#32
  let c0_561 : Index := 0#32
  ![v958.toNat, 15, 0]
def k0_off32 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v961 : Index := Scalar.indexCast arg15
  let c16_562 : Index := 16#32
  let c0_563 : Index := 0#32
  ![v961.toNat, 16, 0]
def k0_off33 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v967 : Index := Scalar.indexCast arg15
  let c16_564 : Index := 16#32
  let c0_565 : Index := 0#32
  ![v967.toNat, 16, 0]
def k0_off34 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v970 : Index := Scalar.indexCast arg15
  let c17 : Index := 17#32
  let c0_566 : Index := 0#32
  ![v970.toNat, 17, 0]
def k0_off35 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v976 : Index := Scalar.indexCast arg15
  let c17_567 : Index := 17#32
  let c0_568 : Index := 0#32
  ![v976.toNat, 17, 0]
def k0_off36 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v979 : Index := Scalar.indexCast arg15
  let c18 : Index := 18#32
  let c0_569 : Index := 0#32
  ![v979.toNat, 18, 0]
def k0_off37 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v985 : Index := Scalar.indexCast arg15
  let c18_570 : Index := 18#32
  let c0_571 : Index := 0#32
  ![v985.toNat, 18, 0]
def k0_off38 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v988 : Index := Scalar.indexCast arg15
  let c19 : Index := 19#32
  let c0_572 : Index := 0#32
  ![v988.toNat, 19, 0]
def k0_off39 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v994 : Index := Scalar.indexCast arg15
  let c19_573 : Index := 19#32
  let c0_574 : Index := 0#32
  ![v994.toNat, 19, 0]
def k0_off40 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v997 : Index := Scalar.indexCast arg15
  let c20 : Index := 20#32
  let c0_575 : Index := 0#32
  ![v997.toNat, 20, 0]
def k0_off41 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1003 : Index := Scalar.indexCast arg15
  let c20_576 : Index := 20#32
  let c0_577 : Index := 0#32
  ![v1003.toNat, 20, 0]
def k0_off42 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1006 : Index := Scalar.indexCast arg15
  let c21 : Index := 21#32
  let c0_578 : Index := 0#32
  ![v1006.toNat, 21, 0]
def k0_off43 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1012 : Index := Scalar.indexCast arg15
  let c21_579 : Index := 21#32
  let c0_580 : Index := 0#32
  ![v1012.toNat, 21, 0]
def k0_off44 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1015 : Index := Scalar.indexCast arg15
  let c22 : Index := 22#32
  let c0_581 : Index := 0#32
  ![v1015.toNat, 22, 0]
def k0_off45 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1021 : Index := Scalar.indexCast arg15
  let c22_582 : Index := 22#32
  let c0_583 : Index := 0#32
  ![v1021.toNat, 22, 0]
def k0_off46 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1024 : Index := Scalar.indexCast arg15
  let c23 : Index := 23#32
  let c0_584 : Index := 0#32
  ![v1024.toNat, 23, 0]
def k0_off47 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1030 : Index := Scalar.indexCast arg15
  let c23_585 : Index := 23#32
  let c0_586 : Index := 0#32
  ![v1030.toNat, 23, 0]
def k0_off48 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1033 : Index := Scalar.indexCast arg15
  let c24 : Index := 24#32
  let c0_587 : Index := 0#32
  ![v1033.toNat, 24, 0]
def k0_off49 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1039 : Index := Scalar.indexCast arg15
  let c24_588 : Index := 24#32
  let c0_589 : Index := 0#32
  ![v1039.toNat, 24, 0]
def k0_off50 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1042 : Index := Scalar.indexCast arg15
  let c25 : Index := 25#32
  let c0_590 : Index := 0#32
  ![v1042.toNat, 25, 0]
def k0_off51 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1048 : Index := Scalar.indexCast arg15
  let c25_591 : Index := 25#32
  let c0_592 : Index := 0#32
  ![v1048.toNat, 25, 0]
def k0_off52 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1051 : Index := Scalar.indexCast arg15
  let c26 : Index := 26#32
  let c0_593 : Index := 0#32
  ![v1051.toNat, 26, 0]
def k0_off53 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1057 : Index := Scalar.indexCast arg15
  let c26_594 : Index := 26#32
  let c0_595 : Index := 0#32
  ![v1057.toNat, 26, 0]
def k0_off54 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1060 : Index := Scalar.indexCast arg15
  let c27 : Index := 27#32
  let c0_596 : Index := 0#32
  ![v1060.toNat, 27, 0]
def k0_off55 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1066 : Index := Scalar.indexCast arg15
  let c27_597 : Index := 27#32
  let c0_598 : Index := 0#32
  ![v1066.toNat, 27, 0]
def k0_off56 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1069 : Index := Scalar.indexCast arg15
  let c28 : Index := 28#32
  let c0_599 : Index := 0#32
  ![v1069.toNat, 28, 0]
def k0_off57 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1075 : Index := Scalar.indexCast arg15
  let c28_600 : Index := 28#32
  let c0_601 : Index := 0#32
  ![v1075.toNat, 28, 0]
def k0_off58 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1078 : Index := Scalar.indexCast arg15
  let c29 : Index := 29#32
  let c0_602 : Index := 0#32
  ![v1078.toNat, 29, 0]
def k0_off59 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1084 : Index := Scalar.indexCast arg15
  let c29_603 : Index := 29#32
  let c0_604 : Index := 0#32
  ![v1084.toNat, 29, 0]
def k0_off60 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1087 : Index := Scalar.indexCast arg15
  let c30 : Index := 30#32
  let c0_605 : Index := 0#32
  ![v1087.toNat, 30, 0]
def k0_off61 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1093 : Index := Scalar.indexCast arg15
  let c30_606 : Index := 30#32
  let c0_607 : Index := 0#32
  ![v1093.toNat, 30, 0]
def k0_off62 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1096 : Index := Scalar.indexCast arg15
  let c31 : Index := 31#32
  let c0_608 : Index := 0#32
  ![v1096.toNat, 31, 0]
def k0_off63 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1102 : Index := Scalar.indexCast arg15
  let c0_609 : Index := 0#32
  let c0_610 : Index := 0#32
  ![v1102.toNat, 0, 0]
def k0_off64 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1110 : Index := Scalar.indexCast arg15
  let c65 : Index := 65#32
  let c0_614 : Index := 0#32
  ![v1110.toNat, 65, 0]
def k0_off65 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1119 : Index := Scalar.indexCast arg15
  let c66 : Index := 66#32
  let c0_617 : Index := 0#32
  ![v1119.toNat, 66, 0]
def k0_off66 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1128 : Index := Scalar.indexCast arg15
  let c67 : Index := 67#32
  let c0_620 : Index := 0#32
  ![v1128.toNat, 67, 0]
def k0_off67 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1137 : Index := Scalar.indexCast arg15
  let c68 : Index := 68#32
  let c0_623 : Index := 0#32
  ![v1137.toNat, 68, 0]
def k0_off68 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1146 : Index := Scalar.indexCast arg15
  let c69 : Index := 69#32
  let c0_626 : Index := 0#32
  ![v1146.toNat, 69, 0]
def k0_off69 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1155 : Index := Scalar.indexCast arg15
  let c70 : Index := 70#32
  let c0_629 : Index := 0#32
  ![v1155.toNat, 70, 0]
def k0_off70 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1164 : Index := Scalar.indexCast arg15
  let c71 : Index := 71#32
  let c0_632 : Index := 0#32
  ![v1164.toNat, 71, 0]
def k0_off71 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1173 : Index := Scalar.indexCast arg15
  let c72 : Index := 72#32
  let c0_635 : Index := 0#32
  ![v1173.toNat, 72, 0]
def k0_off72 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1182 : Index := Scalar.indexCast arg15
  let c73 : Index := 73#32
  let c0_638 : Index := 0#32
  ![v1182.toNat, 73, 0]
def k0_off73 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1191 : Index := Scalar.indexCast arg15
  let c74 : Index := 74#32
  let c0_641 : Index := 0#32
  ![v1191.toNat, 74, 0]
def k0_off74 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1200 : Index := Scalar.indexCast arg15
  let c75 : Index := 75#32
  let c0_644 : Index := 0#32
  ![v1200.toNat, 75, 0]
def k0_off75 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1209 : Index := Scalar.indexCast arg15
  let c76 : Index := 76#32
  let c0_647 : Index := 0#32
  ![v1209.toNat, 76, 0]
def k0_off76 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1218 : Index := Scalar.indexCast arg15
  let c77 : Index := 77#32
  let c0_650 : Index := 0#32
  ![v1218.toNat, 77, 0]
def k0_off77 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1227 : Index := Scalar.indexCast arg15
  let c78 : Index := 78#32
  let c0_653 : Index := 0#32
  ![v1227.toNat, 78, 0]
def k0_off78 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1236 : Index := Scalar.indexCast arg15
  let c79 : Index := 79#32
  let c0_656 : Index := 0#32
  ![v1236.toNat, 79, 0]
def k0_off79 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1245 : Index := Scalar.indexCast arg15
  let c80 : Index := 80#32
  let c0_659 : Index := 0#32
  ![v1245.toNat, 80, 0]
def k0_off80 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1254 : Index := Scalar.indexCast arg15
  let c81 : Index := 81#32
  let c0_662 : Index := 0#32
  ![v1254.toNat, 81, 0]
def k0_off81 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1263 : Index := Scalar.indexCast arg15
  let c82 : Index := 82#32
  let c0_665 : Index := 0#32
  ![v1263.toNat, 82, 0]
def k0_off82 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1272 : Index := Scalar.indexCast arg15
  let c83 : Index := 83#32
  let c0_668 : Index := 0#32
  ![v1272.toNat, 83, 0]
def k0_off83 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1281 : Index := Scalar.indexCast arg15
  let c84 : Index := 84#32
  let c0_671 : Index := 0#32
  ![v1281.toNat, 84, 0]
def k0_off84 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1290 : Index := Scalar.indexCast arg15
  let c85 : Index := 85#32
  let c0_674 : Index := 0#32
  ![v1290.toNat, 85, 0]
def k0_off85 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1299 : Index := Scalar.indexCast arg15
  let c86 : Index := 86#32
  let c0_677 : Index := 0#32
  ![v1299.toNat, 86, 0]
def k0_off86 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1308 : Index := Scalar.indexCast arg15
  let c87 : Index := 87#32
  let c0_680 : Index := 0#32
  ![v1308.toNat, 87, 0]
def k0_off87 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1317 : Index := Scalar.indexCast arg15
  let c88 : Index := 88#32
  let c0_683 : Index := 0#32
  ![v1317.toNat, 88, 0]
def k0_off88 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1326 : Index := Scalar.indexCast arg15
  let c89 : Index := 89#32
  let c0_686 : Index := 0#32
  ![v1326.toNat, 89, 0]
def k0_off89 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1335 : Index := Scalar.indexCast arg15
  let c90 : Index := 90#32
  let c0_689 : Index := 0#32
  ![v1335.toNat, 90, 0]
def k0_off90 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1344 : Index := Scalar.indexCast arg15
  let c91 : Index := 91#32
  let c0_692 : Index := 0#32
  ![v1344.toNat, 91, 0]
def k0_off91 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1353 : Index := Scalar.indexCast arg15
  let c92 : Index := 92#32
  let c0_695 : Index := 0#32
  ![v1353.toNat, 92, 0]
def k0_off92 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1362 : Index := Scalar.indexCast arg15
  let c93 : Index := 93#32
  let c0_698 : Index := 0#32
  ![v1362.toNat, 93, 0]
def k0_off93 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1371 : Index := Scalar.indexCast arg15
  let c94 : Index := 94#32
  let c0_701 : Index := 0#32
  ![v1371.toNat, 94, 0]
def k0_off94 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1380 : Index := Scalar.indexCast arg15
  let c95 : Index := 95#32
  let c0_704 : Index := 0#32
  ![v1380.toNat, 95, 0]
def k0_off95 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1386 : Index := Scalar.indexCast arg15
  let c64 : Index := 64#32
  let c0_705 : Index := 0#32
  ![v1386.toNat, 64, 0]
def k0_off96 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1394 : Index := Scalar.indexCast arg15
  let c129 : Index := 129#32
  let c0_709 : Index := 0#32
  ![v1394.toNat, 129, 0]
def k0_off97 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1403 : Index := Scalar.indexCast arg15
  let c130 : Index := 130#32
  let c0_712 : Index := 0#32
  ![v1403.toNat, 130, 0]
def k0_off98 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1412 : Index := Scalar.indexCast arg15
  let c131 : Index := 131#32
  let c0_715 : Index := 0#32
  ![v1412.toNat, 131, 0]
def k0_off99 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1421 : Index := Scalar.indexCast arg15
  let c132 : Index := 132#32
  let c0_718 : Index := 0#32
  ![v1421.toNat, 132, 0]
def k0_off100 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1430 : Index := Scalar.indexCast arg15
  let c133 : Index := 133#32
  let c0_721 : Index := 0#32
  ![v1430.toNat, 133, 0]
def k0_off101 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1439 : Index := Scalar.indexCast arg15
  let c134 : Index := 134#32
  let c0_724 : Index := 0#32
  ![v1439.toNat, 134, 0]
def k0_off102 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1448 : Index := Scalar.indexCast arg15
  let c135 : Index := 135#32
  let c0_727 : Index := 0#32
  ![v1448.toNat, 135, 0]
def k0_off103 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1457 : Index := Scalar.indexCast arg15
  let c136 : Index := 136#32
  let c0_730 : Index := 0#32
  ![v1457.toNat, 136, 0]
def k0_off104 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1466 : Index := Scalar.indexCast arg15
  let c137 : Index := 137#32
  let c0_733 : Index := 0#32
  ![v1466.toNat, 137, 0]
def k0_off105 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1475 : Index := Scalar.indexCast arg15
  let c138 : Index := 138#32
  let c0_736 : Index := 0#32
  ![v1475.toNat, 138, 0]
def k0_off106 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1484 : Index := Scalar.indexCast arg15
  let c139 : Index := 139#32
  let c0_739 : Index := 0#32
  ![v1484.toNat, 139, 0]
def k0_off107 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1493 : Index := Scalar.indexCast arg15
  let c140 : Index := 140#32
  let c0_742 : Index := 0#32
  ![v1493.toNat, 140, 0]
def k0_off108 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1502 : Index := Scalar.indexCast arg15
  let c141 : Index := 141#32
  let c0_745 : Index := 0#32
  ![v1502.toNat, 141, 0]
def k0_off109 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1511 : Index := Scalar.indexCast arg15
  let c142 : Index := 142#32
  let c0_748 : Index := 0#32
  ![v1511.toNat, 142, 0]
def k0_off110 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1520 : Index := Scalar.indexCast arg15
  let c143 : Index := 143#32
  let c0_751 : Index := 0#32
  ![v1520.toNat, 143, 0]
def k0_off111 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1529 : Index := Scalar.indexCast arg15
  let c144 : Index := 144#32
  let c0_754 : Index := 0#32
  ![v1529.toNat, 144, 0]
def k0_off112 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1538 : Index := Scalar.indexCast arg15
  let c145 : Index := 145#32
  let c0_757 : Index := 0#32
  ![v1538.toNat, 145, 0]
def k0_off113 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1547 : Index := Scalar.indexCast arg15
  let c146 : Index := 146#32
  let c0_760 : Index := 0#32
  ![v1547.toNat, 146, 0]
def k0_off114 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1556 : Index := Scalar.indexCast arg15
  let c147 : Index := 147#32
  let c0_763 : Index := 0#32
  ![v1556.toNat, 147, 0]
def k0_off115 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1565 : Index := Scalar.indexCast arg15
  let c148 : Index := 148#32
  let c0_766 : Index := 0#32
  ![v1565.toNat, 148, 0]
def k0_off116 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1574 : Index := Scalar.indexCast arg15
  let c149 : Index := 149#32
  let c0_769 : Index := 0#32
  ![v1574.toNat, 149, 0]
def k0_off117 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1583 : Index := Scalar.indexCast arg15
  let c150 : Index := 150#32
  let c0_772 : Index := 0#32
  ![v1583.toNat, 150, 0]
def k0_off118 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1592 : Index := Scalar.indexCast arg15
  let c151 : Index := 151#32
  let c0_775 : Index := 0#32
  ![v1592.toNat, 151, 0]
def k0_off119 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1601 : Index := Scalar.indexCast arg15
  let c152 : Index := 152#32
  let c0_778 : Index := 0#32
  ![v1601.toNat, 152, 0]
def k0_off120 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1610 : Index := Scalar.indexCast arg15
  let c153 : Index := 153#32
  let c0_781 : Index := 0#32
  ![v1610.toNat, 153, 0]
def k0_off121 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1619 : Index := Scalar.indexCast arg15
  let c154 : Index := 154#32
  let c0_784 : Index := 0#32
  ![v1619.toNat, 154, 0]
def k0_off122 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1628 : Index := Scalar.indexCast arg15
  let c155 : Index := 155#32
  let c0_787 : Index := 0#32
  ![v1628.toNat, 155, 0]
def k0_off123 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1637 : Index := Scalar.indexCast arg15
  let c156 : Index := 156#32
  let c0_790 : Index := 0#32
  ![v1637.toNat, 156, 0]
def k0_off124 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1646 : Index := Scalar.indexCast arg15
  let c157 : Index := 157#32
  let c0_793 : Index := 0#32
  ![v1646.toNat, 157, 0]
def k0_off125 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1655 : Index := Scalar.indexCast arg15
  let c158 : Index := 158#32
  let c0_796 : Index := 0#32
  ![v1655.toNat, 158, 0]
def k0_off126 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1664 : Index := Scalar.indexCast arg15
  let c159 : Index := 159#32
  let c0_799 : Index := 0#32
  ![v1664.toNat, 159, 0]
def k0_off127 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1670 : Index := Scalar.indexCast arg15
  let c128_800 : Index := 128#32
  let c0_801 : Index := 0#32
  ![v1670.toNat, 128, 0]
def k0_off128 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1678 : Index := Scalar.indexCast arg15
  let c193 : Index := 193#32
  let c0_805 : Index := 0#32
  ![v1678.toNat, 193, 0]
def k0_off129 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1687 : Index := Scalar.indexCast arg15
  let c194 : Index := 194#32
  let c0_808 : Index := 0#32
  ![v1687.toNat, 194, 0]
def k0_off130 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1696 : Index := Scalar.indexCast arg15
  let c195 : Index := 195#32
  let c0_811 : Index := 0#32
  ![v1696.toNat, 195, 0]
def k0_off131 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1705 : Index := Scalar.indexCast arg15
  let c196 : Index := 196#32
  let c0_814 : Index := 0#32
  ![v1705.toNat, 196, 0]
def k0_off132 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1714 : Index := Scalar.indexCast arg15
  let c197 : Index := 197#32
  let c0_817 : Index := 0#32
  ![v1714.toNat, 197, 0]
def k0_off133 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1723 : Index := Scalar.indexCast arg15
  let c198 : Index := 198#32
  let c0_820 : Index := 0#32
  ![v1723.toNat, 198, 0]
def k0_off134 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1732 : Index := Scalar.indexCast arg15
  let c199 : Index := 199#32
  let c0_823 : Index := 0#32
  ![v1732.toNat, 199, 0]
def k0_off135 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1741 : Index := Scalar.indexCast arg15
  let c200 : Index := 200#32
  let c0_826 : Index := 0#32
  ![v1741.toNat, 200, 0]
def k0_off136 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1750 : Index := Scalar.indexCast arg15
  let c201 : Index := 201#32
  let c0_829 : Index := 0#32
  ![v1750.toNat, 201, 0]
def k0_off137 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1759 : Index := Scalar.indexCast arg15
  let c202 : Index := 202#32
  let c0_832 : Index := 0#32
  ![v1759.toNat, 202, 0]
def k0_off138 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1768 : Index := Scalar.indexCast arg15
  let c203 : Index := 203#32
  let c0_835 : Index := 0#32
  ![v1768.toNat, 203, 0]
def k0_off139 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1777 : Index := Scalar.indexCast arg15
  let c204 : Index := 204#32
  let c0_838 : Index := 0#32
  ![v1777.toNat, 204, 0]
def k0_off140 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1786 : Index := Scalar.indexCast arg15
  let c205 : Index := 205#32
  let c0_841 : Index := 0#32
  ![v1786.toNat, 205, 0]
def k0_off141 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1795 : Index := Scalar.indexCast arg15
  let c206 : Index := 206#32
  let c0_844 : Index := 0#32
  ![v1795.toNat, 206, 0]
def k0_off142 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1804 : Index := Scalar.indexCast arg15
  let c207 : Index := 207#32
  let c0_847 : Index := 0#32
  ![v1804.toNat, 207, 0]
def k0_off143 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1813 : Index := Scalar.indexCast arg15
  let c208 : Index := 208#32
  let c0_850 : Index := 0#32
  ![v1813.toNat, 208, 0]
def k0_off144 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1822 : Index := Scalar.indexCast arg15
  let c209 : Index := 209#32
  let c0_853 : Index := 0#32
  ![v1822.toNat, 209, 0]
def k0_off145 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1831 : Index := Scalar.indexCast arg15
  let c210 : Index := 210#32
  let c0_856 : Index := 0#32
  ![v1831.toNat, 210, 0]
def k0_off146 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1840 : Index := Scalar.indexCast arg15
  let c211 : Index := 211#32
  let c0_859 : Index := 0#32
  ![v1840.toNat, 211, 0]
def k0_off147 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1849 : Index := Scalar.indexCast arg15
  let c212 : Index := 212#32
  let c0_862 : Index := 0#32
  ![v1849.toNat, 212, 0]
def k0_off148 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1858 : Index := Scalar.indexCast arg15
  let c213 : Index := 213#32
  let c0_865 : Index := 0#32
  ![v1858.toNat, 213, 0]
def k0_off149 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1867 : Index := Scalar.indexCast arg15
  let c214 : Index := 214#32
  let c0_868 : Index := 0#32
  ![v1867.toNat, 214, 0]
def k0_off150 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1876 : Index := Scalar.indexCast arg15
  let c215 : Index := 215#32
  let c0_871 : Index := 0#32
  ![v1876.toNat, 215, 0]
def k0_off151 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1885 : Index := Scalar.indexCast arg15
  let c216 : Index := 216#32
  let c0_874 : Index := 0#32
  ![v1885.toNat, 216, 0]
def k0_off152 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1894 : Index := Scalar.indexCast arg15
  let c217 : Index := 217#32
  let c0_877 : Index := 0#32
  ![v1894.toNat, 217, 0]
def k0_off153 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1903 : Index := Scalar.indexCast arg15
  let c218 : Index := 218#32
  let c0_880 : Index := 0#32
  ![v1903.toNat, 218, 0]
def k0_off154 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1912 : Index := Scalar.indexCast arg15
  let c219 : Index := 219#32
  let c0_883 : Index := 0#32
  ![v1912.toNat, 219, 0]
def k0_off155 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1921 : Index := Scalar.indexCast arg15
  let c220 : Index := 220#32
  let c0_886 : Index := 0#32
  ![v1921.toNat, 220, 0]
def k0_off156 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1930 : Index := Scalar.indexCast arg15
  let c221 : Index := 221#32
  let c0_889 : Index := 0#32
  ![v1930.toNat, 221, 0]
def k0_off157 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1939 : Index := Scalar.indexCast arg15
  let c222 : Index := 222#32
  let c0_892 : Index := 0#32
  ![v1939.toNat, 222, 0]
def k0_off158 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1948 : Index := Scalar.indexCast arg15
  let c223 : Index := 223#32
  let c0_895 : Index := 0#32
  ![v1948.toNat, 223, 0]
def k0_off159 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1954 : Index := Scalar.indexCast arg15
  let c192 : Index := 192#32
  let c0_896 : Index := 0#32
  ![v1954.toNat, 192, 0]
def k0_off160 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1962 : Index := Scalar.indexCast arg15
  let c257 : Index := 257#32
  let c0_900 : Index := 0#32
  ![v1962.toNat, 257, 0]
def k0_off161 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1971 : Index := Scalar.indexCast arg15
  let c258 : Index := 258#32
  let c0_903 : Index := 0#32
  ![v1971.toNat, 258, 0]
def k0_off162 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1980 : Index := Scalar.indexCast arg15
  let c259 : Index := 259#32
  let c0_906 : Index := 0#32
  ![v1980.toNat, 259, 0]
def k0_off163 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1989 : Index := Scalar.indexCast arg15
  let c260 : Index := 260#32
  let c0_909 : Index := 0#32
  ![v1989.toNat, 260, 0]
def k0_off164 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v1998 : Index := Scalar.indexCast arg15
  let c261 : Index := 261#32
  let c0_912 : Index := 0#32
  ![v1998.toNat, 261, 0]
def k0_off165 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2007 : Index := Scalar.indexCast arg15
  let c262 : Index := 262#32
  let c0_915 : Index := 0#32
  ![v2007.toNat, 262, 0]
def k0_off166 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2016 : Index := Scalar.indexCast arg15
  let c263 : Index := 263#32
  let c0_918 : Index := 0#32
  ![v2016.toNat, 263, 0]
def k0_off167 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2025 : Index := Scalar.indexCast arg15
  let c264 : Index := 264#32
  let c0_921 : Index := 0#32
  ![v2025.toNat, 264, 0]
def k0_off168 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2034 : Index := Scalar.indexCast arg15
  let c265 : Index := 265#32
  let c0_924 : Index := 0#32
  ![v2034.toNat, 265, 0]
def k0_off169 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2043 : Index := Scalar.indexCast arg15
  let c266 : Index := 266#32
  let c0_927 : Index := 0#32
  ![v2043.toNat, 266, 0]
def k0_off170 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2052 : Index := Scalar.indexCast arg15
  let c267 : Index := 267#32
  let c0_930 : Index := 0#32
  ![v2052.toNat, 267, 0]
def k0_off171 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2061 : Index := Scalar.indexCast arg15
  let c268 : Index := 268#32
  let c0_933 : Index := 0#32
  ![v2061.toNat, 268, 0]
def k0_off172 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2070 : Index := Scalar.indexCast arg15
  let c269 : Index := 269#32
  let c0_936 : Index := 0#32
  ![v2070.toNat, 269, 0]
def k0_off173 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2079 : Index := Scalar.indexCast arg15
  let c270 : Index := 270#32
  let c0_939 : Index := 0#32
  ![v2079.toNat, 270, 0]
def k0_off174 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2088 : Index := Scalar.indexCast arg15
  let c271 : Index := 271#32
  let c0_942 : Index := 0#32
  ![v2088.toNat, 271, 0]
def k0_off175 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2097 : Index := Scalar.indexCast arg15
  let c272 : Index := 272#32
  let c0_945 : Index := 0#32
  ![v2097.toNat, 272, 0]
def k0_off176 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2106 : Index := Scalar.indexCast arg15
  let c273 : Index := 273#32
  let c0_948 : Index := 0#32
  ![v2106.toNat, 273, 0]
def k0_off177 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2115 : Index := Scalar.indexCast arg15
  let c274 : Index := 274#32
  let c0_951 : Index := 0#32
  ![v2115.toNat, 274, 0]
def k0_off178 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2124 : Index := Scalar.indexCast arg15
  let c275 : Index := 275#32
  let c0_954 : Index := 0#32
  ![v2124.toNat, 275, 0]
def k0_off179 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2133 : Index := Scalar.indexCast arg15
  let c276 : Index := 276#32
  let c0_957 : Index := 0#32
  ![v2133.toNat, 276, 0]
def k0_off180 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2142 : Index := Scalar.indexCast arg15
  let c277 : Index := 277#32
  let c0_960 : Index := 0#32
  ![v2142.toNat, 277, 0]
def k0_off181 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2151 : Index := Scalar.indexCast arg15
  let c278 : Index := 278#32
  let c0_963 : Index := 0#32
  ![v2151.toNat, 278, 0]
def k0_off182 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2160 : Index := Scalar.indexCast arg15
  let c279 : Index := 279#32
  let c0_966 : Index := 0#32
  ![v2160.toNat, 279, 0]
def k0_off183 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2169 : Index := Scalar.indexCast arg15
  let c280 : Index := 280#32
  let c0_969 : Index := 0#32
  ![v2169.toNat, 280, 0]
def k0_off184 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2178 : Index := Scalar.indexCast arg15
  let c281 : Index := 281#32
  let c0_972 : Index := 0#32
  ![v2178.toNat, 281, 0]
def k0_off185 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2187 : Index := Scalar.indexCast arg15
  let c282 : Index := 282#32
  let c0_975 : Index := 0#32
  ![v2187.toNat, 282, 0]
def k0_off186 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2196 : Index := Scalar.indexCast arg15
  let c283 : Index := 283#32
  let c0_978 : Index := 0#32
  ![v2196.toNat, 283, 0]
def k0_off187 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2205 : Index := Scalar.indexCast arg15
  let c284 : Index := 284#32
  let c0_981 : Index := 0#32
  ![v2205.toNat, 284, 0]
def k0_off188 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2214 : Index := Scalar.indexCast arg15
  let c285 : Index := 285#32
  let c0_984 : Index := 0#32
  ![v2214.toNat, 285, 0]
def k0_off189 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2223 : Index := Scalar.indexCast arg15
  let c286 : Index := 286#32
  let c0_987 : Index := 0#32
  ![v2223.toNat, 286, 0]
def k0_off190 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2232 : Index := Scalar.indexCast arg15
  let c287 : Index := 287#32
  let c0_990 : Index := 0#32
  ![v2232.toNat, 287, 0]
def k0_off191 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2238 : Index := Scalar.indexCast arg15
  let c256_991 : Index := 256#32
  let c0_992 : Index := 0#32
  ![v2238.toNat, 256, 0]
def k0_off192 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2246 : Index := Scalar.indexCast arg15
  let c321 : Index := 321#32
  let c0_996 : Index := 0#32
  ![v2246.toNat, 321, 0]
def k0_off193 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2255 : Index := Scalar.indexCast arg15
  let c322 : Index := 322#32
  let c0_999 : Index := 0#32
  ![v2255.toNat, 322, 0]
def k0_off194 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2264 : Index := Scalar.indexCast arg15
  let c323 : Index := 323#32
  let c0_1002 : Index := 0#32
  ![v2264.toNat, 323, 0]
def k0_off195 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2273 : Index := Scalar.indexCast arg15
  let c324 : Index := 324#32
  let c0_1005 : Index := 0#32
  ![v2273.toNat, 324, 0]
def k0_off196 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2282 : Index := Scalar.indexCast arg15
  let c325 : Index := 325#32
  let c0_1008 : Index := 0#32
  ![v2282.toNat, 325, 0]
def k0_off197 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2291 : Index := Scalar.indexCast arg15
  let c326 : Index := 326#32
  let c0_1011 : Index := 0#32
  ![v2291.toNat, 326, 0]
def k0_off198 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2300 : Index := Scalar.indexCast arg15
  let c327 : Index := 327#32
  let c0_1014 : Index := 0#32
  ![v2300.toNat, 327, 0]
def k0_off199 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2309 : Index := Scalar.indexCast arg15
  let c328 : Index := 328#32
  let c0_1017 : Index := 0#32
  ![v2309.toNat, 328, 0]
def k0_off200 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2318 : Index := Scalar.indexCast arg15
  let c329 : Index := 329#32
  let c0_1020 : Index := 0#32
  ![v2318.toNat, 329, 0]
def k0_off201 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2327 : Index := Scalar.indexCast arg15
  let c330 : Index := 330#32
  let c0_1023 : Index := 0#32
  ![v2327.toNat, 330, 0]
def k0_off202 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2336 : Index := Scalar.indexCast arg15
  let c331 : Index := 331#32
  let c0_1026 : Index := 0#32
  ![v2336.toNat, 331, 0]
def k0_off203 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2345 : Index := Scalar.indexCast arg15
  let c332 : Index := 332#32
  let c0_1029 : Index := 0#32
  ![v2345.toNat, 332, 0]
def k0_off204 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2354 : Index := Scalar.indexCast arg15
  let c333 : Index := 333#32
  let c0_1032 : Index := 0#32
  ![v2354.toNat, 333, 0]
def k0_off205 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2363 : Index := Scalar.indexCast arg15
  let c334 : Index := 334#32
  let c0_1035 : Index := 0#32
  ![v2363.toNat, 334, 0]
def k0_off206 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2372 : Index := Scalar.indexCast arg15
  let c335 : Index := 335#32
  let c0_1038 : Index := 0#32
  ![v2372.toNat, 335, 0]
def k0_off207 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2381 : Index := Scalar.indexCast arg15
  let c336 : Index := 336#32
  let c0_1041 : Index := 0#32
  ![v2381.toNat, 336, 0]
def k0_off208 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2390 : Index := Scalar.indexCast arg15
  let c337 : Index := 337#32
  let c0_1044 : Index := 0#32
  ![v2390.toNat, 337, 0]
def k0_off209 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2399 : Index := Scalar.indexCast arg15
  let c338 : Index := 338#32
  let c0_1047 : Index := 0#32
  ![v2399.toNat, 338, 0]
def k0_off210 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2408 : Index := Scalar.indexCast arg15
  let c339 : Index := 339#32
  let c0_1050 : Index := 0#32
  ![v2408.toNat, 339, 0]
def k0_off211 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2417 : Index := Scalar.indexCast arg15
  let c340 : Index := 340#32
  let c0_1053 : Index := 0#32
  ![v2417.toNat, 340, 0]
def k0_off212 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2426 : Index := Scalar.indexCast arg15
  let c341 : Index := 341#32
  let c0_1056 : Index := 0#32
  ![v2426.toNat, 341, 0]
def k0_off213 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2435 : Index := Scalar.indexCast arg15
  let c342 : Index := 342#32
  let c0_1059 : Index := 0#32
  ![v2435.toNat, 342, 0]
def k0_off214 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2444 : Index := Scalar.indexCast arg15
  let c343 : Index := 343#32
  let c0_1062 : Index := 0#32
  ![v2444.toNat, 343, 0]
def k0_off215 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2453 : Index := Scalar.indexCast arg15
  let c344 : Index := 344#32
  let c0_1065 : Index := 0#32
  ![v2453.toNat, 344, 0]
def k0_off216 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2462 : Index := Scalar.indexCast arg15
  let c345 : Index := 345#32
  let c0_1068 : Index := 0#32
  ![v2462.toNat, 345, 0]
def k0_off217 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2471 : Index := Scalar.indexCast arg15
  let c346 : Index := 346#32
  let c0_1071 : Index := 0#32
  ![v2471.toNat, 346, 0]
def k0_off218 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2480 : Index := Scalar.indexCast arg15
  let c347 : Index := 347#32
  let c0_1074 : Index := 0#32
  ![v2480.toNat, 347, 0]
def k0_off219 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2489 : Index := Scalar.indexCast arg15
  let c348 : Index := 348#32
  let c0_1077 : Index := 0#32
  ![v2489.toNat, 348, 0]
def k0_off220 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2498 : Index := Scalar.indexCast arg15
  let c349 : Index := 349#32
  let c0_1080 : Index := 0#32
  ![v2498.toNat, 349, 0]
def k0_off221 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2507 : Index := Scalar.indexCast arg15
  let c350 : Index := 350#32
  let c0_1083 : Index := 0#32
  ![v2507.toNat, 350, 0]
def k0_off222 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2516 : Index := Scalar.indexCast arg15
  let c351 : Index := 351#32
  let c0_1086 : Index := 0#32
  ![v2516.toNat, 351, 0]
def k0_off223 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2522 : Index := Scalar.indexCast arg15
  let c320 : Index := 320#32
  let c0_1087 : Index := 0#32
  ![v2522.toNat, 320, 0]
def k0_off224 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2530 : Index := Scalar.indexCast arg15
  let c385 : Index := 385#32
  let c0_1091 : Index := 0#32
  ![v2530.toNat, 385, 0]
def k0_off225 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2539 : Index := Scalar.indexCast arg15
  let c386 : Index := 386#32
  let c0_1094 : Index := 0#32
  ![v2539.toNat, 386, 0]
def k0_off226 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2548 : Index := Scalar.indexCast arg15
  let c387 : Index := 387#32
  let c0_1097 : Index := 0#32
  ![v2548.toNat, 387, 0]
def k0_off227 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2557 : Index := Scalar.indexCast arg15
  let c388 : Index := 388#32
  let c0_1100 : Index := 0#32
  ![v2557.toNat, 388, 0]
def k0_off228 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2566 : Index := Scalar.indexCast arg15
  let c389 : Index := 389#32
  let c0_1103 : Index := 0#32
  ![v2566.toNat, 389, 0]
def k0_off229 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2575 : Index := Scalar.indexCast arg15
  let c390 : Index := 390#32
  let c0_1106 : Index := 0#32
  ![v2575.toNat, 390, 0]
def k0_off230 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2584 : Index := Scalar.indexCast arg15
  let c391 : Index := 391#32
  let c0_1109 : Index := 0#32
  ![v2584.toNat, 391, 0]
def k0_off231 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2593 : Index := Scalar.indexCast arg15
  let c392 : Index := 392#32
  let c0_1112 : Index := 0#32
  ![v2593.toNat, 392, 0]
def k0_off232 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2602 : Index := Scalar.indexCast arg15
  let c393 : Index := 393#32
  let c0_1115 : Index := 0#32
  ![v2602.toNat, 393, 0]
def k0_off233 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2611 : Index := Scalar.indexCast arg15
  let c394 : Index := 394#32
  let c0_1118 : Index := 0#32
  ![v2611.toNat, 394, 0]
def k0_off234 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2620 : Index := Scalar.indexCast arg15
  let c395 : Index := 395#32
  let c0_1121 : Index := 0#32
  ![v2620.toNat, 395, 0]
def k0_off235 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2629 : Index := Scalar.indexCast arg15
  let c396 : Index := 396#32
  let c0_1124 : Index := 0#32
  ![v2629.toNat, 396, 0]
def k0_off236 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2638 : Index := Scalar.indexCast arg15
  let c397 : Index := 397#32
  let c0_1127 : Index := 0#32
  ![v2638.toNat, 397, 0]
def k0_off237 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2647 : Index := Scalar.indexCast arg15
  let c398 : Index := 398#32
  let c0_1130 : Index := 0#32
  ![v2647.toNat, 398, 0]
def k0_off238 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2656 : Index := Scalar.indexCast arg15
  let c399 : Index := 399#32
  let c0_1133 : Index := 0#32
  ![v2656.toNat, 399, 0]
def k0_off239 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2665 : Index := Scalar.indexCast arg15
  let c400 : Index := 400#32
  let c0_1136 : Index := 0#32
  ![v2665.toNat, 400, 0]
def k0_off240 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2674 : Index := Scalar.indexCast arg15
  let c401 : Index := 401#32
  let c0_1139 : Index := 0#32
  ![v2674.toNat, 401, 0]
def k0_off241 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2683 : Index := Scalar.indexCast arg15
  let c402 : Index := 402#32
  let c0_1142 : Index := 0#32
  ![v2683.toNat, 402, 0]
def k0_off242 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2692 : Index := Scalar.indexCast arg15
  let c403 : Index := 403#32
  let c0_1145 : Index := 0#32
  ![v2692.toNat, 403, 0]
def k0_off243 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2701 : Index := Scalar.indexCast arg15
  let c404 : Index := 404#32
  let c0_1148 : Index := 0#32
  ![v2701.toNat, 404, 0]
def k0_off244 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2710 : Index := Scalar.indexCast arg15
  let c405 : Index := 405#32
  let c0_1151 : Index := 0#32
  ![v2710.toNat, 405, 0]
def k0_off245 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2719 : Index := Scalar.indexCast arg15
  let c406 : Index := 406#32
  let c0_1154 : Index := 0#32
  ![v2719.toNat, 406, 0]
def k0_off246 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2728 : Index := Scalar.indexCast arg15
  let c407 : Index := 407#32
  let c0_1157 : Index := 0#32
  ![v2728.toNat, 407, 0]
def k0_off247 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2737 : Index := Scalar.indexCast arg15
  let c408 : Index := 408#32
  let c0_1160 : Index := 0#32
  ![v2737.toNat, 408, 0]
def k0_off248 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2746 : Index := Scalar.indexCast arg15
  let c409 : Index := 409#32
  let c0_1163 : Index := 0#32
  ![v2746.toNat, 409, 0]
def k0_off249 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2755 : Index := Scalar.indexCast arg15
  let c410 : Index := 410#32
  let c0_1166 : Index := 0#32
  ![v2755.toNat, 410, 0]
def k0_off250 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2764 : Index := Scalar.indexCast arg15
  let c411 : Index := 411#32
  let c0_1169 : Index := 0#32
  ![v2764.toNat, 411, 0]
def k0_off251 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2773 : Index := Scalar.indexCast arg15
  let c412 : Index := 412#32
  let c0_1172 : Index := 0#32
  ![v2773.toNat, 412, 0]
def k0_off252 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2782 : Index := Scalar.indexCast arg15
  let c413 : Index := 413#32
  let c0_1175 : Index := 0#32
  ![v2782.toNat, 413, 0]
def k0_off253 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2791 : Index := Scalar.indexCast arg15
  let c414 : Index := 414#32
  let c0_1178 : Index := 0#32
  ![v2791.toNat, 414, 0]
def k0_off254 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2800 : Index := Scalar.indexCast arg15
  let c415 : Index := 415#32
  let c0_1181 : Index := 0#32
  ![v2800.toNat, 415, 0]
def k0_off255 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2806 : Index := Scalar.indexCast arg15
  let c384_1182 : Index := 384#32
  let c0_1183 : Index := 0#32
  ![v2806.toNat, 384, 0]
def k0_off256 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2814 : Index := Scalar.indexCast arg15
  let c449 : Index := 449#32
  let c0_1187 : Index := 0#32
  ![v2814.toNat, 449, 0]
def k0_off257 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2823 : Index := Scalar.indexCast arg15
  let c450 : Index := 450#32
  let c0_1190 : Index := 0#32
  ![v2823.toNat, 450, 0]
def k0_off258 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2832 : Index := Scalar.indexCast arg15
  let c451 : Index := 451#32
  let c0_1193 : Index := 0#32
  ![v2832.toNat, 451, 0]
def k0_off259 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2841 : Index := Scalar.indexCast arg15
  let c452 : Index := 452#32
  let c0_1196 : Index := 0#32
  ![v2841.toNat, 452, 0]
def k0_off260 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2850 : Index := Scalar.indexCast arg15
  let c453 : Index := 453#32
  let c0_1199 : Index := 0#32
  ![v2850.toNat, 453, 0]
def k0_off261 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2859 : Index := Scalar.indexCast arg15
  let c454 : Index := 454#32
  let c0_1202 : Index := 0#32
  ![v2859.toNat, 454, 0]
def k0_off262 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2868 : Index := Scalar.indexCast arg15
  let c455 : Index := 455#32
  let c0_1205 : Index := 0#32
  ![v2868.toNat, 455, 0]
def k0_off263 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2877 : Index := Scalar.indexCast arg15
  let c456 : Index := 456#32
  let c0_1208 : Index := 0#32
  ![v2877.toNat, 456, 0]
def k0_off264 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2886 : Index := Scalar.indexCast arg15
  let c457 : Index := 457#32
  let c0_1211 : Index := 0#32
  ![v2886.toNat, 457, 0]
def k0_off265 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2895 : Index := Scalar.indexCast arg15
  let c458 : Index := 458#32
  let c0_1214 : Index := 0#32
  ![v2895.toNat, 458, 0]
def k0_off266 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2904 : Index := Scalar.indexCast arg15
  let c459 : Index := 459#32
  let c0_1217 : Index := 0#32
  ![v2904.toNat, 459, 0]
def k0_off267 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2913 : Index := Scalar.indexCast arg15
  let c460 : Index := 460#32
  let c0_1220 : Index := 0#32
  ![v2913.toNat, 460, 0]
def k0_off268 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2922 : Index := Scalar.indexCast arg15
  let c461 : Index := 461#32
  let c0_1223 : Index := 0#32
  ![v2922.toNat, 461, 0]
def k0_off269 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2931 : Index := Scalar.indexCast arg15
  let c462 : Index := 462#32
  let c0_1226 : Index := 0#32
  ![v2931.toNat, 462, 0]
def k0_off270 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2940 : Index := Scalar.indexCast arg15
  let c463 : Index := 463#32
  let c0_1229 : Index := 0#32
  ![v2940.toNat, 463, 0]
def k0_off271 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2949 : Index := Scalar.indexCast arg15
  let c464 : Index := 464#32
  let c0_1232 : Index := 0#32
  ![v2949.toNat, 464, 0]
def k0_off272 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2958 : Index := Scalar.indexCast arg15
  let c465 : Index := 465#32
  let c0_1235 : Index := 0#32
  ![v2958.toNat, 465, 0]
def k0_off273 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2967 : Index := Scalar.indexCast arg15
  let c466 : Index := 466#32
  let c0_1238 : Index := 0#32
  ![v2967.toNat, 466, 0]
def k0_off274 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2976 : Index := Scalar.indexCast arg15
  let c467 : Index := 467#32
  let c0_1241 : Index := 0#32
  ![v2976.toNat, 467, 0]
def k0_off275 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2985 : Index := Scalar.indexCast arg15
  let c468 : Index := 468#32
  let c0_1244 : Index := 0#32
  ![v2985.toNat, 468, 0]
def k0_off276 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v2994 : Index := Scalar.indexCast arg15
  let c469 : Index := 469#32
  let c0_1247 : Index := 0#32
  ![v2994.toNat, 469, 0]
def k0_off277 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v3003 : Index := Scalar.indexCast arg15
  let c470 : Index := 470#32
  let c0_1250 : Index := 0#32
  ![v3003.toNat, 470, 0]
def k0_off278 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v3012 : Index := Scalar.indexCast arg15
  let c471 : Index := 471#32
  let c0_1253 : Index := 0#32
  ![v3012.toNat, 471, 0]
def k0_off279 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v3021 : Index := Scalar.indexCast arg15
  let c472 : Index := 472#32
  let c0_1256 : Index := 0#32
  ![v3021.toNat, 472, 0]
def k0_off280 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v3030 : Index := Scalar.indexCast arg15
  let c473 : Index := 473#32
  let c0_1259 : Index := 0#32
  ![v3030.toNat, 473, 0]
def k0_off281 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v3039 : Index := Scalar.indexCast arg15
  let c474 : Index := 474#32
  let c0_1262 : Index := 0#32
  ![v3039.toNat, 474, 0]
def k0_off282 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v3048 : Index := Scalar.indexCast arg15
  let c475 : Index := 475#32
  let c0_1265 : Index := 0#32
  ![v3048.toNat, 475, 0]
def k0_off283 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v3057 : Index := Scalar.indexCast arg15
  let c476 : Index := 476#32
  let c0_1268 : Index := 0#32
  ![v3057.toNat, 476, 0]
def k0_off284 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v3066 : Index := Scalar.indexCast arg15
  let c477 : Index := 477#32
  let c0_1271 : Index := 0#32
  ![v3066.toNat, 477, 0]
def k0_off285 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v3075 : Index := Scalar.indexCast arg15
  let c478 : Index := 478#32
  let c0_1274 : Index := 0#32
  ![v3075.toNat, 478, 0]
def k0_off286 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v3084 : Index := Scalar.indexCast arg15
  let c479 : Index := 479#32
  let c0_1277 : Index := 0#32
  ![v3084.toNat, 479, 0]
def k0_off287 (k0_t1 : Fin k0_t1_loop.trips) : Fin 3 → Nat :=
  let c0_i32_378 : BitVec 32 := 0#32
  let c1_i32_380 : BitVec 32 := 1#32
  let arg15 : BitVec 32 := Scf.iv c0_i32_378 c1_i32_380 k0_t1
  let v3090 : Index := Scalar.indexCast arg15
  let c448 : Index := 448#32
  let c0_1278 : Index := 0#32
  ![v3090.toNat, 448, 0]
@[reducible] def k0_t2_loop : Scf.Loop 32 :=
  let c0_i32_382 : BitVec 32 := 0#32
  let c8_i32_383 : BitVec 32 := 8#32
  let v618 : BitVec 32 := Scalar.addi c0_i32_382 c8_i32_383
  let c1_i32_384 : BitVec 32 := 1#32
  ⟨c0_i32_382, v618, c1_i32_384⟩
def k0_off288 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v822 : Index := Scalar.indexCast arg15
  let c16_507 : Index := 16#32
  let c0_508 : Index := 0#32
  ![v822.toNat, 16, 0]
def k0_off289 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v825 : Index := Scalar.indexCast arg15
  let c1_509 : Index := 1#32
  let c0_510 : Index := 0#32
  ![v825.toNat, 1, 0]
def k0_off290 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v829 : Index := Scalar.indexCast arg15
  let c0_511 : Index := 0#32
  let c0_512 : Index := 0#32
  ![v829.toNat, 0, 0]
def k0_off291 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v839 : Index := Scalar.indexCast arg15
  let c2_516 : Index := 2#32
  let c0_517 : Index := 0#32
  ![v839.toNat, 2, 0]
def k0_off292 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v843 : Index := Scalar.indexCast arg15
  let c8 : Index := 8#32
  let c0_518 : Index := 0#32
  ![v843.toNat, 8, 0]
def k0_off293 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v853 : Index := Scalar.indexCast arg15
  let c3_522 : Index := 3#32
  let c0_523 : Index := 0#32
  ![v853.toNat, 3, 0]
def k0_off294 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v857 : Index := Scalar.indexCast arg15
  let c16_524 : Index := 16#32
  let c0_525 : Index := 0#32
  ![v857.toNat, 16, 0]
def k0_off295 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v867 : Index := Scalar.indexCast arg15
  let c4_529 : Index := 4#32
  let c0_530 : Index := 0#32
  ![v867.toNat, 4, 0]
def k0_off296 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v871 : Index := Scalar.indexCast arg15
  let c24 : Index := 24#32
  let c0_531 : Index := 0#32
  ![v871.toNat, 24, 0]
def k0_off297 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v881 : Index := Scalar.indexCast arg15
  let c5_535 : Index := 5#32
  let c0_536 : Index := 0#32
  ![v881.toNat, 5, 0]
def k0_off298 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v885 : Index := Scalar.indexCast arg15
  let c32 : Index := 32#32
  let c0_537 : Index := 0#32
  ![v885.toNat, 32, 0]
def k0_off299 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v895 : Index := Scalar.indexCast arg15
  let c6_541 : Index := 6#32
  let c0_542 : Index := 0#32
  ![v895.toNat, 6, 0]
def k0_off300 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v899 : Index := Scalar.indexCast arg15
  let c40 : Index := 40#32
  let c0_543 : Index := 0#32
  ![v899.toNat, 40, 0]
def k0_off301 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v909 : Index := Scalar.indexCast arg15
  let c7_547 : Index := 7#32
  let c0_548 : Index := 0#32
  ![v909.toNat, 7, 0]
def k0_off302 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v913 : Index := Scalar.indexCast arg15
  let c48 : Index := 48#32
  let c0_549 : Index := 0#32
  ![v913.toNat, 48, 0]
def k0_off303 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v923 : Index := Scalar.indexCast arg15
  let c8_553 : Index := 8#32
  let c0_554 : Index := 0#32
  ![v923.toNat, 8, 0]
def k0_off304 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v927 : Index := Scalar.indexCast arg15
  let c56 : Index := 56#32
  let c0_555 : Index := 0#32
  ![v927.toNat, 56, 0]
def k0_off305 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v937 : Index := Scalar.indexCast arg15
  let c9 : Index := 9#32
  let c0_559 : Index := 0#32
  ![v937.toNat, 9, 0]
def k0_off306 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v941 : Index := Scalar.indexCast arg15
  let c64 : Index := 64#32
  let c0_560 : Index := 0#32
  ![v941.toNat, 64, 0]
def k0_off307 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v951 : Index := Scalar.indexCast arg15
  let c10 : Index := 10#32
  let c0_564 : Index := 0#32
  ![v951.toNat, 10, 0]
def k0_off308 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v955 : Index := Scalar.indexCast arg15
  let c72 : Index := 72#32
  let c0_565 : Index := 0#32
  ![v955.toNat, 72, 0]
def k0_off309 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v965 : Index := Scalar.indexCast arg15
  let c11 : Index := 11#32
  let c0_569 : Index := 0#32
  ![v965.toNat, 11, 0]
def k0_off310 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v969 : Index := Scalar.indexCast arg15
  let c80 : Index := 80#32
  let c0_570 : Index := 0#32
  ![v969.toNat, 80, 0]
def k0_off311 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v979 : Index := Scalar.indexCast arg15
  let c12 : Index := 12#32
  let c0_574 : Index := 0#32
  ![v979.toNat, 12, 0]
def k0_off312 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v983 : Index := Scalar.indexCast arg15
  let c88 : Index := 88#32
  let c0_575 : Index := 0#32
  ![v983.toNat, 88, 0]
def k0_off313 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v993 : Index := Scalar.indexCast arg15
  let c13 : Index := 13#32
  let c0_579 : Index := 0#32
  ![v993.toNat, 13, 0]
def k0_off314 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v997 : Index := Scalar.indexCast arg15
  let c96 : Index := 96#32
  let c0_580 : Index := 0#32
  ![v997.toNat, 96, 0]
def k0_off315 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1007 : Index := Scalar.indexCast arg15
  let c14 : Index := 14#32
  let c0_584 : Index := 0#32
  ![v1007.toNat, 14, 0]
def k0_off316 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1011 : Index := Scalar.indexCast arg15
  let c104 : Index := 104#32
  let c0_585 : Index := 0#32
  ![v1011.toNat, 104, 0]
def k0_off317 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1021 : Index := Scalar.indexCast arg15
  let c15 : Index := 15#32
  let c0_589 : Index := 0#32
  ![v1021.toNat, 15, 0]
def k0_off318 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1025 : Index := Scalar.indexCast arg15
  let c112 : Index := 112#32
  let c0_590 : Index := 0#32
  ![v1025.toNat, 112, 0]
def k0_off319 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1039 : Index := Scalar.indexCast arg15
  let c120 : Index := 120#32
  let c0_596 : Index := 0#32
  ![v1039.toNat, 120, 0]
def k0_off320 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1049 : Index := Scalar.indexCast arg15
  let c17 : Index := 17#32
  let c0_600 : Index := 0#32
  ![v1049.toNat, 17, 0]
def k0_off321 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1053 : Index := Scalar.indexCast arg15
  let c128_601 : Index := 128#32
  let c0_602 : Index := 0#32
  ![v1053.toNat, 128, 0]
def k0_off322 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1063 : Index := Scalar.indexCast arg15
  let c18 : Index := 18#32
  let c0_606 : Index := 0#32
  ![v1063.toNat, 18, 0]
def k0_off323 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1067 : Index := Scalar.indexCast arg15
  let c136 : Index := 136#32
  let c0_607 : Index := 0#32
  ![v1067.toNat, 136, 0]
def k0_off324 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1077 : Index := Scalar.indexCast arg15
  let c19 : Index := 19#32
  let c0_611 : Index := 0#32
  ![v1077.toNat, 19, 0]
def k0_off325 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1081 : Index := Scalar.indexCast arg15
  let c144 : Index := 144#32
  let c0_612 : Index := 0#32
  ![v1081.toNat, 144, 0]
def k0_off326 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1091 : Index := Scalar.indexCast arg15
  let c20 : Index := 20#32
  let c0_616 : Index := 0#32
  ![v1091.toNat, 20, 0]
def k0_off327 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1095 : Index := Scalar.indexCast arg15
  let c152 : Index := 152#32
  let c0_617 : Index := 0#32
  ![v1095.toNat, 152, 0]
def k0_off328 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1105 : Index := Scalar.indexCast arg15
  let c21 : Index := 21#32
  let c0_621 : Index := 0#32
  ![v1105.toNat, 21, 0]
def k0_off329 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1109 : Index := Scalar.indexCast arg15
  let c160 : Index := 160#32
  let c0_622 : Index := 0#32
  ![v1109.toNat, 160, 0]
def k0_off330 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1119 : Index := Scalar.indexCast arg15
  let c22 : Index := 22#32
  let c0_626 : Index := 0#32
  ![v1119.toNat, 22, 0]
def k0_off331 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1123 : Index := Scalar.indexCast arg15
  let c168 : Index := 168#32
  let c0_627 : Index := 0#32
  ![v1123.toNat, 168, 0]
def k0_off332 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1133 : Index := Scalar.indexCast arg15
  let c23 : Index := 23#32
  let c0_631 : Index := 0#32
  ![v1133.toNat, 23, 0]
def k0_off333 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1137 : Index := Scalar.indexCast arg15
  let c176 : Index := 176#32
  let c0_632 : Index := 0#32
  ![v1137.toNat, 176, 0]
def k0_off334 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1147 : Index := Scalar.indexCast arg15
  let c24_636 : Index := 24#32
  let c0_637 : Index := 0#32
  ![v1147.toNat, 24, 0]
def k0_off335 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1151 : Index := Scalar.indexCast arg15
  let c184 : Index := 184#32
  let c0_638 : Index := 0#32
  ![v1151.toNat, 184, 0]
def k0_off336 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1161 : Index := Scalar.indexCast arg15
  let c25 : Index := 25#32
  let c0_642 : Index := 0#32
  ![v1161.toNat, 25, 0]
def k0_off337 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1165 : Index := Scalar.indexCast arg15
  let c192 : Index := 192#32
  let c0_643 : Index := 0#32
  ![v1165.toNat, 192, 0]
def k0_off338 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1175 : Index := Scalar.indexCast arg15
  let c26 : Index := 26#32
  let c0_647 : Index := 0#32
  ![v1175.toNat, 26, 0]
def k0_off339 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1179 : Index := Scalar.indexCast arg15
  let c200 : Index := 200#32
  let c0_648 : Index := 0#32
  ![v1179.toNat, 200, 0]
def k0_off340 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1189 : Index := Scalar.indexCast arg15
  let c27 : Index := 27#32
  let c0_652 : Index := 0#32
  ![v1189.toNat, 27, 0]
def k0_off341 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1193 : Index := Scalar.indexCast arg15
  let c208 : Index := 208#32
  let c0_653 : Index := 0#32
  ![v1193.toNat, 208, 0]
def k0_off342 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1203 : Index := Scalar.indexCast arg15
  let c28 : Index := 28#32
  let c0_657 : Index := 0#32
  ![v1203.toNat, 28, 0]
def k0_off343 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1207 : Index := Scalar.indexCast arg15
  let c216 : Index := 216#32
  let c0_658 : Index := 0#32
  ![v1207.toNat, 216, 0]
def k0_off344 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1217 : Index := Scalar.indexCast arg15
  let c29 : Index := 29#32
  let c0_662 : Index := 0#32
  ![v1217.toNat, 29, 0]
def k0_off345 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1221 : Index := Scalar.indexCast arg15
  let c224 : Index := 224#32
  let c0_663 : Index := 0#32
  ![v1221.toNat, 224, 0]
def k0_off346 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1231 : Index := Scalar.indexCast arg15
  let c30 : Index := 30#32
  let c0_667 : Index := 0#32
  ![v1231.toNat, 30, 0]
def k0_off347 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1235 : Index := Scalar.indexCast arg15
  let c232 : Index := 232#32
  let c0_668 : Index := 0#32
  ![v1235.toNat, 232, 0]
def k0_off348 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1245 : Index := Scalar.indexCast arg15
  let c31 : Index := 31#32
  let c0_672 : Index := 0#32
  ![v1245.toNat, 31, 0]
def k0_off349 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1249 : Index := Scalar.indexCast arg15
  let c240 : Index := 240#32
  let c0_673 : Index := 0#32
  ![v1249.toNat, 240, 0]
def k0_off350 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1259 : Index := Scalar.indexCast arg15
  let c80_677 : Index := 80#32
  let c0_678 : Index := 0#32
  ![v1259.toNat, 80, 0]
def k0_off351 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1262 : Index := Scalar.indexCast arg15
  let c65 : Index := 65#32
  let c0_679 : Index := 0#32
  ![v1262.toNat, 65, 0]
def k0_off352 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1276 : Index := Scalar.indexCast arg15
  let c66 : Index := 66#32
  let c0_685 : Index := 0#32
  ![v1276.toNat, 66, 0]
def k0_off353 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1290 : Index := Scalar.indexCast arg15
  let c67 : Index := 67#32
  let c0_691 : Index := 0#32
  ![v1290.toNat, 67, 0]
def k0_off354 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1304 : Index := Scalar.indexCast arg15
  let c68 : Index := 68#32
  let c0_697 : Index := 0#32
  ![v1304.toNat, 68, 0]
def k0_off355 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1318 : Index := Scalar.indexCast arg15
  let c69 : Index := 69#32
  let c0_703 : Index := 0#32
  ![v1318.toNat, 69, 0]
def k0_off356 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1332 : Index := Scalar.indexCast arg15
  let c70 : Index := 70#32
  let c0_709 : Index := 0#32
  ![v1332.toNat, 70, 0]
def k0_off357 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1346 : Index := Scalar.indexCast arg15
  let c71 : Index := 71#32
  let c0_715 : Index := 0#32
  ![v1346.toNat, 71, 0]
def k0_off358 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1360 : Index := Scalar.indexCast arg15
  let c72_721 : Index := 72#32
  let c0_722 : Index := 0#32
  ![v1360.toNat, 72, 0]
def k0_off359 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1374 : Index := Scalar.indexCast arg15
  let c73 : Index := 73#32
  let c0_728 : Index := 0#32
  ![v1374.toNat, 73, 0]
def k0_off360 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1388 : Index := Scalar.indexCast arg15
  let c74 : Index := 74#32
  let c0_734 : Index := 0#32
  ![v1388.toNat, 74, 0]
def k0_off361 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1402 : Index := Scalar.indexCast arg15
  let c75 : Index := 75#32
  let c0_740 : Index := 0#32
  ![v1402.toNat, 75, 0]
def k0_off362 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1416 : Index := Scalar.indexCast arg15
  let c76 : Index := 76#32
  let c0_746 : Index := 0#32
  ![v1416.toNat, 76, 0]
def k0_off363 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1430 : Index := Scalar.indexCast arg15
  let c77 : Index := 77#32
  let c0_752 : Index := 0#32
  ![v1430.toNat, 77, 0]
def k0_off364 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1444 : Index := Scalar.indexCast arg15
  let c78 : Index := 78#32
  let c0_758 : Index := 0#32
  ![v1444.toNat, 78, 0]
def k0_off365 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1458 : Index := Scalar.indexCast arg15
  let c79 : Index := 79#32
  let c0_764 : Index := 0#32
  ![v1458.toNat, 79, 0]
def k0_off366 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1486 : Index := Scalar.indexCast arg15
  let c81 : Index := 81#32
  let c0_777 : Index := 0#32
  ![v1486.toNat, 81, 0]
def k0_off367 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1500 : Index := Scalar.indexCast arg15
  let c82 : Index := 82#32
  let c0_783 : Index := 0#32
  ![v1500.toNat, 82, 0]
def k0_off368 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1514 : Index := Scalar.indexCast arg15
  let c83 : Index := 83#32
  let c0_789 : Index := 0#32
  ![v1514.toNat, 83, 0]
def k0_off369 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1528 : Index := Scalar.indexCast arg15
  let c84 : Index := 84#32
  let c0_795 : Index := 0#32
  ![v1528.toNat, 84, 0]
def k0_off370 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1542 : Index := Scalar.indexCast arg15
  let c85 : Index := 85#32
  let c0_801 : Index := 0#32
  ![v1542.toNat, 85, 0]
def k0_off371 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1556 : Index := Scalar.indexCast arg15
  let c86 : Index := 86#32
  let c0_807 : Index := 0#32
  ![v1556.toNat, 86, 0]
def k0_off372 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1570 : Index := Scalar.indexCast arg15
  let c87 : Index := 87#32
  let c0_813 : Index := 0#32
  ![v1570.toNat, 87, 0]
def k0_off373 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1584 : Index := Scalar.indexCast arg15
  let c88_819 : Index := 88#32
  let c0_820 : Index := 0#32
  ![v1584.toNat, 88, 0]
def k0_off374 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1598 : Index := Scalar.indexCast arg15
  let c89 : Index := 89#32
  let c0_826 : Index := 0#32
  ![v1598.toNat, 89, 0]
def k0_off375 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1612 : Index := Scalar.indexCast arg15
  let c90 : Index := 90#32
  let c0_832 : Index := 0#32
  ![v1612.toNat, 90, 0]
def k0_off376 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1626 : Index := Scalar.indexCast arg15
  let c91 : Index := 91#32
  let c0_838 : Index := 0#32
  ![v1626.toNat, 91, 0]
def k0_off377 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1640 : Index := Scalar.indexCast arg15
  let c92 : Index := 92#32
  let c0_844 : Index := 0#32
  ![v1640.toNat, 92, 0]
def k0_off378 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1654 : Index := Scalar.indexCast arg15
  let c93 : Index := 93#32
  let c0_850 : Index := 0#32
  ![v1654.toNat, 93, 0]
def k0_off379 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1668 : Index := Scalar.indexCast arg15
  let c94 : Index := 94#32
  let c0_856 : Index := 0#32
  ![v1668.toNat, 94, 0]
def k0_off380 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1682 : Index := Scalar.indexCast arg15
  let c95 : Index := 95#32
  let c0_862 : Index := 0#32
  ![v1682.toNat, 95, 0]
def k0_off381 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1696 : Index := Scalar.indexCast arg15
  let c144_868 : Index := 144#32
  let c0_869 : Index := 0#32
  ![v1696.toNat, 144, 0]
def k0_off382 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1699 : Index := Scalar.indexCast arg15
  let c129 : Index := 129#32
  let c0_870 : Index := 0#32
  ![v1699.toNat, 129, 0]
def k0_off383 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1713 : Index := Scalar.indexCast arg15
  let c130 : Index := 130#32
  let c0_876 : Index := 0#32
  ![v1713.toNat, 130, 0]
def k0_off384 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1727 : Index := Scalar.indexCast arg15
  let c131 : Index := 131#32
  let c0_882 : Index := 0#32
  ![v1727.toNat, 131, 0]
def k0_off385 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1741 : Index := Scalar.indexCast arg15
  let c132 : Index := 132#32
  let c0_888 : Index := 0#32
  ![v1741.toNat, 132, 0]
def k0_off386 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1755 : Index := Scalar.indexCast arg15
  let c133 : Index := 133#32
  let c0_894 : Index := 0#32
  ![v1755.toNat, 133, 0]
def k0_off387 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1769 : Index := Scalar.indexCast arg15
  let c134 : Index := 134#32
  let c0_900 : Index := 0#32
  ![v1769.toNat, 134, 0]
def k0_off388 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1783 : Index := Scalar.indexCast arg15
  let c135 : Index := 135#32
  let c0_906 : Index := 0#32
  ![v1783.toNat, 135, 0]
def k0_off389 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1797 : Index := Scalar.indexCast arg15
  let c136_912 : Index := 136#32
  let c0_913 : Index := 0#32
  ![v1797.toNat, 136, 0]
def k0_off390 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1811 : Index := Scalar.indexCast arg15
  let c137 : Index := 137#32
  let c0_919 : Index := 0#32
  ![v1811.toNat, 137, 0]
def k0_off391 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1825 : Index := Scalar.indexCast arg15
  let c138 : Index := 138#32
  let c0_925 : Index := 0#32
  ![v1825.toNat, 138, 0]
def k0_off392 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1839 : Index := Scalar.indexCast arg15
  let c139 : Index := 139#32
  let c0_931 : Index := 0#32
  ![v1839.toNat, 139, 0]
def k0_off393 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1853 : Index := Scalar.indexCast arg15
  let c140 : Index := 140#32
  let c0_937 : Index := 0#32
  ![v1853.toNat, 140, 0]
def k0_off394 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1867 : Index := Scalar.indexCast arg15
  let c141 : Index := 141#32
  let c0_943 : Index := 0#32
  ![v1867.toNat, 141, 0]
def k0_off395 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1881 : Index := Scalar.indexCast arg15
  let c142 : Index := 142#32
  let c0_949 : Index := 0#32
  ![v1881.toNat, 142, 0]
def k0_off396 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1895 : Index := Scalar.indexCast arg15
  let c143 : Index := 143#32
  let c0_955 : Index := 0#32
  ![v1895.toNat, 143, 0]
def k0_off397 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1923 : Index := Scalar.indexCast arg15
  let c145 : Index := 145#32
  let c0_968 : Index := 0#32
  ![v1923.toNat, 145, 0]
def k0_off398 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1937 : Index := Scalar.indexCast arg15
  let c146 : Index := 146#32
  let c0_974 : Index := 0#32
  ![v1937.toNat, 146, 0]
def k0_off399 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1951 : Index := Scalar.indexCast arg15
  let c147 : Index := 147#32
  let c0_980 : Index := 0#32
  ![v1951.toNat, 147, 0]
def k0_off400 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1965 : Index := Scalar.indexCast arg15
  let c148 : Index := 148#32
  let c0_986 : Index := 0#32
  ![v1965.toNat, 148, 0]
def k0_off401 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1979 : Index := Scalar.indexCast arg15
  let c149 : Index := 149#32
  let c0_992 : Index := 0#32
  ![v1979.toNat, 149, 0]
def k0_off402 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v1993 : Index := Scalar.indexCast arg15
  let c150 : Index := 150#32
  let c0_998 : Index := 0#32
  ![v1993.toNat, 150, 0]
def k0_off403 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2007 : Index := Scalar.indexCast arg15
  let c151 : Index := 151#32
  let c0_1004 : Index := 0#32
  ![v2007.toNat, 151, 0]
def k0_off404 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2021 : Index := Scalar.indexCast arg15
  let c152_1010 : Index := 152#32
  let c0_1011 : Index := 0#32
  ![v2021.toNat, 152, 0]
def k0_off405 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2035 : Index := Scalar.indexCast arg15
  let c153 : Index := 153#32
  let c0_1017 : Index := 0#32
  ![v2035.toNat, 153, 0]
def k0_off406 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2049 : Index := Scalar.indexCast arg15
  let c154 : Index := 154#32
  let c0_1023 : Index := 0#32
  ![v2049.toNat, 154, 0]
def k0_off407 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2063 : Index := Scalar.indexCast arg15
  let c155 : Index := 155#32
  let c0_1029 : Index := 0#32
  ![v2063.toNat, 155, 0]
def k0_off408 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2077 : Index := Scalar.indexCast arg15
  let c156 : Index := 156#32
  let c0_1035 : Index := 0#32
  ![v2077.toNat, 156, 0]
def k0_off409 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2091 : Index := Scalar.indexCast arg15
  let c157 : Index := 157#32
  let c0_1041 : Index := 0#32
  ![v2091.toNat, 157, 0]
def k0_off410 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2105 : Index := Scalar.indexCast arg15
  let c158 : Index := 158#32
  let c0_1047 : Index := 0#32
  ![v2105.toNat, 158, 0]
def k0_off411 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2119 : Index := Scalar.indexCast arg15
  let c159 : Index := 159#32
  let c0_1053 : Index := 0#32
  ![v2119.toNat, 159, 0]
def k0_off412 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2133 : Index := Scalar.indexCast arg15
  let c208_1059 : Index := 208#32
  let c0_1060 : Index := 0#32
  ![v2133.toNat, 208, 0]
def k0_off413 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2136 : Index := Scalar.indexCast arg15
  let c193 : Index := 193#32
  let c0_1061 : Index := 0#32
  ![v2136.toNat, 193, 0]
def k0_off414 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2150 : Index := Scalar.indexCast arg15
  let c194 : Index := 194#32
  let c0_1067 : Index := 0#32
  ![v2150.toNat, 194, 0]
def k0_off415 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2164 : Index := Scalar.indexCast arg15
  let c195 : Index := 195#32
  let c0_1073 : Index := 0#32
  ![v2164.toNat, 195, 0]
def k0_off416 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2178 : Index := Scalar.indexCast arg15
  let c196 : Index := 196#32
  let c0_1079 : Index := 0#32
  ![v2178.toNat, 196, 0]
def k0_off417 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2192 : Index := Scalar.indexCast arg15
  let c197 : Index := 197#32
  let c0_1085 : Index := 0#32
  ![v2192.toNat, 197, 0]
def k0_off418 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2206 : Index := Scalar.indexCast arg15
  let c198 : Index := 198#32
  let c0_1091 : Index := 0#32
  ![v2206.toNat, 198, 0]
def k0_off419 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2220 : Index := Scalar.indexCast arg15
  let c199 : Index := 199#32
  let c0_1097 : Index := 0#32
  ![v2220.toNat, 199, 0]
def k0_off420 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2234 : Index := Scalar.indexCast arg15
  let c200_1103 : Index := 200#32
  let c0_1104 : Index := 0#32
  ![v2234.toNat, 200, 0]
def k0_off421 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2248 : Index := Scalar.indexCast arg15
  let c201 : Index := 201#32
  let c0_1110 : Index := 0#32
  ![v2248.toNat, 201, 0]
def k0_off422 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2262 : Index := Scalar.indexCast arg15
  let c202 : Index := 202#32
  let c0_1116 : Index := 0#32
  ![v2262.toNat, 202, 0]
def k0_off423 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2276 : Index := Scalar.indexCast arg15
  let c203 : Index := 203#32
  let c0_1122 : Index := 0#32
  ![v2276.toNat, 203, 0]
def k0_off424 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2290 : Index := Scalar.indexCast arg15
  let c204 : Index := 204#32
  let c0_1128 : Index := 0#32
  ![v2290.toNat, 204, 0]
def k0_off425 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2304 : Index := Scalar.indexCast arg15
  let c205 : Index := 205#32
  let c0_1134 : Index := 0#32
  ![v2304.toNat, 205, 0]
def k0_off426 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2318 : Index := Scalar.indexCast arg15
  let c206 : Index := 206#32
  let c0_1140 : Index := 0#32
  ![v2318.toNat, 206, 0]
def k0_off427 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2332 : Index := Scalar.indexCast arg15
  let c207 : Index := 207#32
  let c0_1146 : Index := 0#32
  ![v2332.toNat, 207, 0]
def k0_off428 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2360 : Index := Scalar.indexCast arg15
  let c209 : Index := 209#32
  let c0_1159 : Index := 0#32
  ![v2360.toNat, 209, 0]
def k0_off429 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2374 : Index := Scalar.indexCast arg15
  let c210 : Index := 210#32
  let c0_1165 : Index := 0#32
  ![v2374.toNat, 210, 0]
def k0_off430 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2388 : Index := Scalar.indexCast arg15
  let c211 : Index := 211#32
  let c0_1171 : Index := 0#32
  ![v2388.toNat, 211, 0]
def k0_off431 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2402 : Index := Scalar.indexCast arg15
  let c212 : Index := 212#32
  let c0_1177 : Index := 0#32
  ![v2402.toNat, 212, 0]
def k0_off432 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2416 : Index := Scalar.indexCast arg15
  let c213 : Index := 213#32
  let c0_1183 : Index := 0#32
  ![v2416.toNat, 213, 0]
def k0_off433 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2430 : Index := Scalar.indexCast arg15
  let c214 : Index := 214#32
  let c0_1189 : Index := 0#32
  ![v2430.toNat, 214, 0]
def k0_off434 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2444 : Index := Scalar.indexCast arg15
  let c215 : Index := 215#32
  let c0_1195 : Index := 0#32
  ![v2444.toNat, 215, 0]
def k0_off435 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2458 : Index := Scalar.indexCast arg15
  let c216_1201 : Index := 216#32
  let c0_1202 : Index := 0#32
  ![v2458.toNat, 216, 0]
def k0_off436 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2472 : Index := Scalar.indexCast arg15
  let c217 : Index := 217#32
  let c0_1208 : Index := 0#32
  ![v2472.toNat, 217, 0]
def k0_off437 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2486 : Index := Scalar.indexCast arg15
  let c218 : Index := 218#32
  let c0_1214 : Index := 0#32
  ![v2486.toNat, 218, 0]
def k0_off438 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2500 : Index := Scalar.indexCast arg15
  let c219 : Index := 219#32
  let c0_1220 : Index := 0#32
  ![v2500.toNat, 219, 0]
def k0_off439 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2514 : Index := Scalar.indexCast arg15
  let c220 : Index := 220#32
  let c0_1226 : Index := 0#32
  ![v2514.toNat, 220, 0]
def k0_off440 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2528 : Index := Scalar.indexCast arg15
  let c221 : Index := 221#32
  let c0_1232 : Index := 0#32
  ![v2528.toNat, 221, 0]
def k0_off441 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2542 : Index := Scalar.indexCast arg15
  let c222 : Index := 222#32
  let c0_1238 : Index := 0#32
  ![v2542.toNat, 222, 0]
def k0_off442 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2556 : Index := Scalar.indexCast arg15
  let c223 : Index := 223#32
  let c0_1244 : Index := 0#32
  ![v2556.toNat, 223, 0]
def k0_off443 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2570 : Index := Scalar.indexCast arg15
  let c272 : Index := 272#32
  let c0_1250 : Index := 0#32
  ![v2570.toNat, 272, 0]
def k0_off444 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2573 : Index := Scalar.indexCast arg15
  let c257 : Index := 257#32
  let c0_1251 : Index := 0#32
  ![v2573.toNat, 257, 0]
def k0_off445 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2587 : Index := Scalar.indexCast arg15
  let c258 : Index := 258#32
  let c0_1257 : Index := 0#32
  ![v2587.toNat, 258, 0]
def k0_off446 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2601 : Index := Scalar.indexCast arg15
  let c259 : Index := 259#32
  let c0_1263 : Index := 0#32
  ![v2601.toNat, 259, 0]
def k0_off447 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2615 : Index := Scalar.indexCast arg15
  let c260 : Index := 260#32
  let c0_1269 : Index := 0#32
  ![v2615.toNat, 260, 0]
def k0_off448 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2629 : Index := Scalar.indexCast arg15
  let c261 : Index := 261#32
  let c0_1275 : Index := 0#32
  ![v2629.toNat, 261, 0]
def k0_off449 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2643 : Index := Scalar.indexCast arg15
  let c262 : Index := 262#32
  let c0_1281 : Index := 0#32
  ![v2643.toNat, 262, 0]
def k0_off450 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2657 : Index := Scalar.indexCast arg15
  let c263 : Index := 263#32
  let c0_1287 : Index := 0#32
  ![v2657.toNat, 263, 0]
def k0_off451 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2671 : Index := Scalar.indexCast arg15
  let c264 : Index := 264#32
  let c0_1293 : Index := 0#32
  ![v2671.toNat, 264, 0]
def k0_off452 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2685 : Index := Scalar.indexCast arg15
  let c265 : Index := 265#32
  let c0_1299 : Index := 0#32
  ![v2685.toNat, 265, 0]
def k0_off453 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2699 : Index := Scalar.indexCast arg15
  let c266 : Index := 266#32
  let c0_1305 : Index := 0#32
  ![v2699.toNat, 266, 0]
def k0_off454 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2713 : Index := Scalar.indexCast arg15
  let c267 : Index := 267#32
  let c0_1311 : Index := 0#32
  ![v2713.toNat, 267, 0]
def k0_off455 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2727 : Index := Scalar.indexCast arg15
  let c268 : Index := 268#32
  let c0_1317 : Index := 0#32
  ![v2727.toNat, 268, 0]
def k0_off456 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2741 : Index := Scalar.indexCast arg15
  let c269 : Index := 269#32
  let c0_1323 : Index := 0#32
  ![v2741.toNat, 269, 0]
def k0_off457 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2755 : Index := Scalar.indexCast arg15
  let c270 : Index := 270#32
  let c0_1329 : Index := 0#32
  ![v2755.toNat, 270, 0]
def k0_off458 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2769 : Index := Scalar.indexCast arg15
  let c271 : Index := 271#32
  let c0_1335 : Index := 0#32
  ![v2769.toNat, 271, 0]
def k0_off459 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2797 : Index := Scalar.indexCast arg15
  let c273 : Index := 273#32
  let c0_1348 : Index := 0#32
  ![v2797.toNat, 273, 0]
def k0_off460 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2811 : Index := Scalar.indexCast arg15
  let c274 : Index := 274#32
  let c0_1354 : Index := 0#32
  ![v2811.toNat, 274, 0]
def k0_off461 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2825 : Index := Scalar.indexCast arg15
  let c275 : Index := 275#32
  let c0_1360 : Index := 0#32
  ![v2825.toNat, 275, 0]
def k0_off462 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2839 : Index := Scalar.indexCast arg15
  let c276 : Index := 276#32
  let c0_1366 : Index := 0#32
  ![v2839.toNat, 276, 0]
def k0_off463 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2853 : Index := Scalar.indexCast arg15
  let c277 : Index := 277#32
  let c0_1372 : Index := 0#32
  ![v2853.toNat, 277, 0]
def k0_off464 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2867 : Index := Scalar.indexCast arg15
  let c278 : Index := 278#32
  let c0_1378 : Index := 0#32
  ![v2867.toNat, 278, 0]
def k0_off465 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2881 : Index := Scalar.indexCast arg15
  let c279 : Index := 279#32
  let c0_1384 : Index := 0#32
  ![v2881.toNat, 279, 0]
def k0_off466 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2895 : Index := Scalar.indexCast arg15
  let c280 : Index := 280#32
  let c0_1390 : Index := 0#32
  ![v2895.toNat, 280, 0]
def k0_off467 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2909 : Index := Scalar.indexCast arg15
  let c281 : Index := 281#32
  let c0_1396 : Index := 0#32
  ![v2909.toNat, 281, 0]
def k0_off468 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2923 : Index := Scalar.indexCast arg15
  let c282 : Index := 282#32
  let c0_1402 : Index := 0#32
  ![v2923.toNat, 282, 0]
def k0_off469 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2937 : Index := Scalar.indexCast arg15
  let c283 : Index := 283#32
  let c0_1408 : Index := 0#32
  ![v2937.toNat, 283, 0]
def k0_off470 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2951 : Index := Scalar.indexCast arg15
  let c284 : Index := 284#32
  let c0_1414 : Index := 0#32
  ![v2951.toNat, 284, 0]
def k0_off471 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2965 : Index := Scalar.indexCast arg15
  let c285 : Index := 285#32
  let c0_1420 : Index := 0#32
  ![v2965.toNat, 285, 0]
def k0_off472 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2979 : Index := Scalar.indexCast arg15
  let c286 : Index := 286#32
  let c0_1426 : Index := 0#32
  ![v2979.toNat, 286, 0]
def k0_off473 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v2993 : Index := Scalar.indexCast arg15
  let c287 : Index := 287#32
  let c0_1432 : Index := 0#32
  ![v2993.toNat, 287, 0]
def k0_off474 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3007 : Index := Scalar.indexCast arg15
  let c336 : Index := 336#32
  let c0_1438 : Index := 0#32
  ![v3007.toNat, 336, 0]
def k0_off475 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3010 : Index := Scalar.indexCast arg15
  let c321 : Index := 321#32
  let c0_1439 : Index := 0#32
  ![v3010.toNat, 321, 0]
def k0_off476 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3024 : Index := Scalar.indexCast arg15
  let c322 : Index := 322#32
  let c0_1445 : Index := 0#32
  ![v3024.toNat, 322, 0]
def k0_off477 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3038 : Index := Scalar.indexCast arg15
  let c323 : Index := 323#32
  let c0_1451 : Index := 0#32
  ![v3038.toNat, 323, 0]
def k0_off478 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3052 : Index := Scalar.indexCast arg15
  let c324 : Index := 324#32
  let c0_1457 : Index := 0#32
  ![v3052.toNat, 324, 0]
def k0_off479 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3066 : Index := Scalar.indexCast arg15
  let c325 : Index := 325#32
  let c0_1463 : Index := 0#32
  ![v3066.toNat, 325, 0]
def k0_off480 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3080 : Index := Scalar.indexCast arg15
  let c326 : Index := 326#32
  let c0_1469 : Index := 0#32
  ![v3080.toNat, 326, 0]
def k0_off481 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3094 : Index := Scalar.indexCast arg15
  let c327 : Index := 327#32
  let c0_1475 : Index := 0#32
  ![v3094.toNat, 327, 0]
def k0_off482 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3108 : Index := Scalar.indexCast arg15
  let c328 : Index := 328#32
  let c0_1481 : Index := 0#32
  ![v3108.toNat, 328, 0]
def k0_off483 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3122 : Index := Scalar.indexCast arg15
  let c329 : Index := 329#32
  let c0_1487 : Index := 0#32
  ![v3122.toNat, 329, 0]
def k0_off484 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3136 : Index := Scalar.indexCast arg15
  let c330 : Index := 330#32
  let c0_1493 : Index := 0#32
  ![v3136.toNat, 330, 0]
def k0_off485 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3150 : Index := Scalar.indexCast arg15
  let c331 : Index := 331#32
  let c0_1499 : Index := 0#32
  ![v3150.toNat, 331, 0]
def k0_off486 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3164 : Index := Scalar.indexCast arg15
  let c332 : Index := 332#32
  let c0_1505 : Index := 0#32
  ![v3164.toNat, 332, 0]
def k0_off487 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3178 : Index := Scalar.indexCast arg15
  let c333 : Index := 333#32
  let c0_1511 : Index := 0#32
  ![v3178.toNat, 333, 0]
def k0_off488 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3192 : Index := Scalar.indexCast arg15
  let c334 : Index := 334#32
  let c0_1517 : Index := 0#32
  ![v3192.toNat, 334, 0]
def k0_off489 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3206 : Index := Scalar.indexCast arg15
  let c335 : Index := 335#32
  let c0_1523 : Index := 0#32
  ![v3206.toNat, 335, 0]
def k0_off490 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3234 : Index := Scalar.indexCast arg15
  let c337 : Index := 337#32
  let c0_1536 : Index := 0#32
  ![v3234.toNat, 337, 0]
def k0_off491 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3248 : Index := Scalar.indexCast arg15
  let c338 : Index := 338#32
  let c0_1542 : Index := 0#32
  ![v3248.toNat, 338, 0]
def k0_off492 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3262 : Index := Scalar.indexCast arg15
  let c339 : Index := 339#32
  let c0_1548 : Index := 0#32
  ![v3262.toNat, 339, 0]
def k0_off493 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3276 : Index := Scalar.indexCast arg15
  let c340 : Index := 340#32
  let c0_1554 : Index := 0#32
  ![v3276.toNat, 340, 0]
def k0_off494 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3290 : Index := Scalar.indexCast arg15
  let c341 : Index := 341#32
  let c0_1560 : Index := 0#32
  ![v3290.toNat, 341, 0]
def k0_off495 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3304 : Index := Scalar.indexCast arg15
  let c342 : Index := 342#32
  let c0_1566 : Index := 0#32
  ![v3304.toNat, 342, 0]
def k0_off496 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3318 : Index := Scalar.indexCast arg15
  let c343 : Index := 343#32
  let c0_1572 : Index := 0#32
  ![v3318.toNat, 343, 0]
def k0_off497 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3332 : Index := Scalar.indexCast arg15
  let c344 : Index := 344#32
  let c0_1578 : Index := 0#32
  ![v3332.toNat, 344, 0]
def k0_off498 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3346 : Index := Scalar.indexCast arg15
  let c345 : Index := 345#32
  let c0_1584 : Index := 0#32
  ![v3346.toNat, 345, 0]
def k0_off499 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3360 : Index := Scalar.indexCast arg15
  let c346 : Index := 346#32
  let c0_1590 : Index := 0#32
  ![v3360.toNat, 346, 0]
def k0_off500 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3374 : Index := Scalar.indexCast arg15
  let c347 : Index := 347#32
  let c0_1596 : Index := 0#32
  ![v3374.toNat, 347, 0]
def k0_off501 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3388 : Index := Scalar.indexCast arg15
  let c348 : Index := 348#32
  let c0_1602 : Index := 0#32
  ![v3388.toNat, 348, 0]
def k0_off502 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3402 : Index := Scalar.indexCast arg15
  let c349 : Index := 349#32
  let c0_1608 : Index := 0#32
  ![v3402.toNat, 349, 0]
def k0_off503 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3416 : Index := Scalar.indexCast arg15
  let c350 : Index := 350#32
  let c0_1614 : Index := 0#32
  ![v3416.toNat, 350, 0]
def k0_off504 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3430 : Index := Scalar.indexCast arg15
  let c351 : Index := 351#32
  let c0_1620 : Index := 0#32
  ![v3430.toNat, 351, 0]
def k0_off505 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3444 : Index := Scalar.indexCast arg15
  let c400 : Index := 400#32
  let c0_1626 : Index := 0#32
  ![v3444.toNat, 400, 0]
def k0_off506 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3447 : Index := Scalar.indexCast arg15
  let c385 : Index := 385#32
  let c0_1627 : Index := 0#32
  ![v3447.toNat, 385, 0]
def k0_off507 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3461 : Index := Scalar.indexCast arg15
  let c386 : Index := 386#32
  let c0_1633 : Index := 0#32
  ![v3461.toNat, 386, 0]
def k0_off508 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3475 : Index := Scalar.indexCast arg15
  let c387 : Index := 387#32
  let c0_1639 : Index := 0#32
  ![v3475.toNat, 387, 0]
def k0_off509 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3489 : Index := Scalar.indexCast arg15
  let c388 : Index := 388#32
  let c0_1645 : Index := 0#32
  ![v3489.toNat, 388, 0]
def k0_off510 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3503 : Index := Scalar.indexCast arg15
  let c389 : Index := 389#32
  let c0_1651 : Index := 0#32
  ![v3503.toNat, 389, 0]
def k0_off511 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3517 : Index := Scalar.indexCast arg15
  let c390 : Index := 390#32
  let c0_1657 : Index := 0#32
  ![v3517.toNat, 390, 0]
def k0_off512 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3531 : Index := Scalar.indexCast arg15
  let c391 : Index := 391#32
  let c0_1663 : Index := 0#32
  ![v3531.toNat, 391, 0]
def k0_off513 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3545 : Index := Scalar.indexCast arg15
  let c392 : Index := 392#32
  let c0_1669 : Index := 0#32
  ![v3545.toNat, 392, 0]
def k0_off514 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3559 : Index := Scalar.indexCast arg15
  let c393 : Index := 393#32
  let c0_1675 : Index := 0#32
  ![v3559.toNat, 393, 0]
def k0_off515 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3573 : Index := Scalar.indexCast arg15
  let c394 : Index := 394#32
  let c0_1681 : Index := 0#32
  ![v3573.toNat, 394, 0]
def k0_off516 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3587 : Index := Scalar.indexCast arg15
  let c395 : Index := 395#32
  let c0_1687 : Index := 0#32
  ![v3587.toNat, 395, 0]
def k0_off517 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3601 : Index := Scalar.indexCast arg15
  let c396 : Index := 396#32
  let c0_1693 : Index := 0#32
  ![v3601.toNat, 396, 0]
def k0_off518 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3615 : Index := Scalar.indexCast arg15
  let c397 : Index := 397#32
  let c0_1699 : Index := 0#32
  ![v3615.toNat, 397, 0]
def k0_off519 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3629 : Index := Scalar.indexCast arg15
  let c398 : Index := 398#32
  let c0_1705 : Index := 0#32
  ![v3629.toNat, 398, 0]
def k0_off520 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3643 : Index := Scalar.indexCast arg15
  let c399 : Index := 399#32
  let c0_1711 : Index := 0#32
  ![v3643.toNat, 399, 0]
def k0_off521 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3671 : Index := Scalar.indexCast arg15
  let c401 : Index := 401#32
  let c0_1724 : Index := 0#32
  ![v3671.toNat, 401, 0]
def k0_off522 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3685 : Index := Scalar.indexCast arg15
  let c402 : Index := 402#32
  let c0_1730 : Index := 0#32
  ![v3685.toNat, 402, 0]
def k0_off523 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3699 : Index := Scalar.indexCast arg15
  let c403 : Index := 403#32
  let c0_1736 : Index := 0#32
  ![v3699.toNat, 403, 0]
def k0_off524 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3713 : Index := Scalar.indexCast arg15
  let c404 : Index := 404#32
  let c0_1742 : Index := 0#32
  ![v3713.toNat, 404, 0]
def k0_off525 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3727 : Index := Scalar.indexCast arg15
  let c405 : Index := 405#32
  let c0_1748 : Index := 0#32
  ![v3727.toNat, 405, 0]
def k0_off526 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3741 : Index := Scalar.indexCast arg15
  let c406 : Index := 406#32
  let c0_1754 : Index := 0#32
  ![v3741.toNat, 406, 0]
def k0_off527 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3755 : Index := Scalar.indexCast arg15
  let c407 : Index := 407#32
  let c0_1760 : Index := 0#32
  ![v3755.toNat, 407, 0]
def k0_off528 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3769 : Index := Scalar.indexCast arg15
  let c408 : Index := 408#32
  let c0_1766 : Index := 0#32
  ![v3769.toNat, 408, 0]
def k0_off529 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3783 : Index := Scalar.indexCast arg15
  let c409 : Index := 409#32
  let c0_1772 : Index := 0#32
  ![v3783.toNat, 409, 0]
def k0_off530 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3797 : Index := Scalar.indexCast arg15
  let c410 : Index := 410#32
  let c0_1778 : Index := 0#32
  ![v3797.toNat, 410, 0]
def k0_off531 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3811 : Index := Scalar.indexCast arg15
  let c411 : Index := 411#32
  let c0_1784 : Index := 0#32
  ![v3811.toNat, 411, 0]
def k0_off532 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3825 : Index := Scalar.indexCast arg15
  let c412 : Index := 412#32
  let c0_1790 : Index := 0#32
  ![v3825.toNat, 412, 0]
def k0_off533 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3839 : Index := Scalar.indexCast arg15
  let c413 : Index := 413#32
  let c0_1796 : Index := 0#32
  ![v3839.toNat, 413, 0]
def k0_off534 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3853 : Index := Scalar.indexCast arg15
  let c414 : Index := 414#32
  let c0_1802 : Index := 0#32
  ![v3853.toNat, 414, 0]
def k0_off535 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3867 : Index := Scalar.indexCast arg15
  let c415 : Index := 415#32
  let c0_1808 : Index := 0#32
  ![v3867.toNat, 415, 0]
def k0_off536 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3881 : Index := Scalar.indexCast arg15
  let c464 : Index := 464#32
  let c0_1814 : Index := 0#32
  ![v3881.toNat, 464, 0]
def k0_off537 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3884 : Index := Scalar.indexCast arg15
  let c449 : Index := 449#32
  let c0_1815 : Index := 0#32
  ![v3884.toNat, 449, 0]
def k0_off538 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3898 : Index := Scalar.indexCast arg15
  let c450 : Index := 450#32
  let c0_1821 : Index := 0#32
  ![v3898.toNat, 450, 0]
def k0_off539 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3912 : Index := Scalar.indexCast arg15
  let c451 : Index := 451#32
  let c0_1827 : Index := 0#32
  ![v3912.toNat, 451, 0]
def k0_off540 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3926 : Index := Scalar.indexCast arg15
  let c452 : Index := 452#32
  let c0_1833 : Index := 0#32
  ![v3926.toNat, 452, 0]
def k0_off541 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3940 : Index := Scalar.indexCast arg15
  let c453 : Index := 453#32
  let c0_1839 : Index := 0#32
  ![v3940.toNat, 453, 0]
def k0_off542 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3954 : Index := Scalar.indexCast arg15
  let c454 : Index := 454#32
  let c0_1845 : Index := 0#32
  ![v3954.toNat, 454, 0]
def k0_off543 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3968 : Index := Scalar.indexCast arg15
  let c455 : Index := 455#32
  let c0_1851 : Index := 0#32
  ![v3968.toNat, 455, 0]
def k0_off544 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3982 : Index := Scalar.indexCast arg15
  let c456 : Index := 456#32
  let c0_1857 : Index := 0#32
  ![v3982.toNat, 456, 0]
def k0_off545 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v3996 : Index := Scalar.indexCast arg15
  let c457 : Index := 457#32
  let c0_1863 : Index := 0#32
  ![v3996.toNat, 457, 0]
def k0_off546 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v4010 : Index := Scalar.indexCast arg15
  let c458 : Index := 458#32
  let c0_1869 : Index := 0#32
  ![v4010.toNat, 458, 0]
def k0_off547 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v4024 : Index := Scalar.indexCast arg15
  let c459 : Index := 459#32
  let c0_1875 : Index := 0#32
  ![v4024.toNat, 459, 0]
def k0_off548 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v4038 : Index := Scalar.indexCast arg15
  let c460 : Index := 460#32
  let c0_1881 : Index := 0#32
  ![v4038.toNat, 460, 0]
def k0_off549 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v4052 : Index := Scalar.indexCast arg15
  let c461 : Index := 461#32
  let c0_1887 : Index := 0#32
  ![v4052.toNat, 461, 0]
def k0_off550 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v4066 : Index := Scalar.indexCast arg15
  let c462 : Index := 462#32
  let c0_1893 : Index := 0#32
  ![v4066.toNat, 462, 0]
def k0_off551 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v4080 : Index := Scalar.indexCast arg15
  let c463 : Index := 463#32
  let c0_1899 : Index := 0#32
  ![v4080.toNat, 463, 0]
def k0_off552 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v4108 : Index := Scalar.indexCast arg15
  let c465 : Index := 465#32
  let c0_1912 : Index := 0#32
  ![v4108.toNat, 465, 0]
def k0_off553 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v4122 : Index := Scalar.indexCast arg15
  let c466 : Index := 466#32
  let c0_1918 : Index := 0#32
  ![v4122.toNat, 466, 0]
def k0_off554 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v4136 : Index := Scalar.indexCast arg15
  let c467 : Index := 467#32
  let c0_1924 : Index := 0#32
  ![v4136.toNat, 467, 0]
def k0_off555 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v4150 : Index := Scalar.indexCast arg15
  let c468 : Index := 468#32
  let c0_1930 : Index := 0#32
  ![v4150.toNat, 468, 0]
def k0_off556 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v4164 : Index := Scalar.indexCast arg15
  let c469 : Index := 469#32
  let c0_1936 : Index := 0#32
  ![v4164.toNat, 469, 0]
def k0_off557 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v4178 : Index := Scalar.indexCast arg15
  let c470 : Index := 470#32
  let c0_1942 : Index := 0#32
  ![v4178.toNat, 470, 0]
def k0_off558 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v4192 : Index := Scalar.indexCast arg15
  let c471 : Index := 471#32
  let c0_1948 : Index := 0#32
  ![v4192.toNat, 471, 0]
def k0_off559 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v4206 : Index := Scalar.indexCast arg15
  let c472 : Index := 472#32
  let c0_1954 : Index := 0#32
  ![v4206.toNat, 472, 0]
def k0_off560 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v4220 : Index := Scalar.indexCast arg15
  let c473 : Index := 473#32
  let c0_1960 : Index := 0#32
  ![v4220.toNat, 473, 0]
def k0_off561 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v4234 : Index := Scalar.indexCast arg15
  let c474 : Index := 474#32
  let c0_1966 : Index := 0#32
  ![v4234.toNat, 474, 0]
def k0_off562 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v4248 : Index := Scalar.indexCast arg15
  let c475 : Index := 475#32
  let c0_1972 : Index := 0#32
  ![v4248.toNat, 475, 0]
def k0_off563 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v4262 : Index := Scalar.indexCast arg15
  let c476 : Index := 476#32
  let c0_1978 : Index := 0#32
  ![v4262.toNat, 476, 0]
def k0_off564 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v4276 : Index := Scalar.indexCast arg15
  let c477 : Index := 477#32
  let c0_1984 : Index := 0#32
  ![v4276.toNat, 477, 0]
def k0_off565 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v4290 : Index := Scalar.indexCast arg15
  let c478 : Index := 478#32
  let c0_1990 : Index := 0#32
  ![v4290.toNat, 478, 0]
def k0_off566 (k0_t2 : Fin k0_t2_loop.trips) : Fin 3 → Nat :=
  let c0_i32_382 : BitVec 32 := 0#32
  let c1_i32_384 : BitVec 32 := 1#32
  let arg15 : BitVec 32 := Scf.iv c0_i32_382 c1_i32_384 k0_t2
  let v4304 : Index := Scalar.indexCast arg15
  let c479 : Index := 479#32
  let c0_1996 : Index := 0#32
  ![v4304.toNat, 479, 0]
def k0_cond2 (i : grid0.Coords) : BitVec 1 :=
  let arg0 : BitVec 32 := BitVec.ofNat 32 (i 0).val
  let c15_i32 : BitVec 32 := 15#32
  let v819 : BitVec 1 := Scalar.cmpi .eq arg0 c15_i32
  let v820 : BitVec 32 := Scalar.extui v819
  let c0_i32_506 : BitVec 32 := 0#32
  let v821 : BitVec 1 := Scalar.cmpi .ne v820 c0_i32_506
  v821

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S2x4096x1024 : Shape := ⟨3, ![2, 4096, 1024]⟩
abbrev S2x4096x6144 : Shape := ⟨3, ![2, 4096, 6144]⟩
abbrev S31x1x1024 : Shape := ⟨3, ![31, 1, 1024]⟩
abbrev S_ : Shape := ⟨0, ![]⟩
abbrev S2x15x1024 : Shape := ⟨3, ![2, 15, 1024]⟩
abbrev S2x4126x1024 : Shape := ⟨3, ![2, 4126, 1024]⟩
abbrev S1x1x1024 : Shape := ⟨3, ![1, 1, 1024]⟩
abbrev S1024 : Shape := ⟨1, ![1024]⟩
abbrev S2x4096x4096 : Shape := ⟨3, ![2, 4096, 4096]⟩
abbrev S8192x6144 : Shape := ⟨2, ![8192, 6144]⟩
abbrev S31x1024 : Shape := ⟨2, ![31, 1024]⟩
abbrev S32x1024 : Shape := ⟨2, ![32, 1024]⟩
abbrev S32x8x128 : Shape := ⟨3, ![32, 8, 128]⟩
abbrev S8x32x128 : Shape := ⟨3, ![8, 32, 128]⟩

abbrev nBuf : Space → Nat
  | .hbm => 726
  | .vmem => 0
  | .smem => 0
  | _ => 0

abbrev hbmTy0_0 (i : Nat) : BufTy := match i % 128 with
  | 0 => ⟨S2x4096x1024, .f32⟩
  | 1 => ⟨S2x4096x6144, .f32⟩
  | 2 => ⟨S2x4096x6144, .f32⟩
  | 3 => ⟨S31x1x1024, .f32⟩
  | 4 => ⟨S2x4096x1024, .f32⟩
  | 5 => ⟨S2x4096x1024, .f32⟩
  | 6 => ⟨S2x4096x1024, .f32⟩
  | 7 => ⟨S2x4096x1024, .f32⟩
  | 8 => ⟨S_, .f32⟩
  | 9 => ⟨S2x4096x1024, .f32⟩
  | 10 => ⟨S2x4096x1024, .f32⟩
  | 11 => ⟨S_, .f32⟩
  | 12 => ⟨S2x4096x1024, .f32⟩
  | 13 => ⟨S2x4096x1024, .f32⟩
  | 14 => ⟨S_, .f32⟩
  | 15 => ⟨S2x4096x1024, .f32⟩
  | 16 => ⟨S2x4096x1024, .f32⟩
  | 17 => ⟨S2x4096x1024, .f32⟩
  | 18 => ⟨S2x4096x1024, .f32⟩
  | 19 => ⟨S_, .f32⟩
  | 20 => ⟨S2x15x1024, .f32⟩
  | 21 => ⟨S2x4126x1024, .f32⟩
  | 22 => ⟨S_, .f32⟩
  | 23 => ⟨S2x15x1024, .f32⟩
  | 24 => ⟨S_, .f32⟩
  | 25 => ⟨S2x15x1024, .f32⟩
  | 26 => ⟨S2x4096x1024, .f32⟩
  | 27 => ⟨S1x1x1024, .f32⟩
  | 28 => ⟨S1024, .f32⟩
  | 29 => ⟨S1x1x1024, .f32⟩
  | 30 => ⟨S2x4096x1024, .f32⟩
  | 31 => ⟨S2x4096x1024, .f32⟩
  | 32 => ⟨S_, .f32⟩
  | 33 => ⟨S2x4096x1024, .f32⟩
  | 34 => ⟨S2x4096x1024, .f32⟩
  | 35 => ⟨S2x4096x1024, .f32⟩
  | 36 => ⟨S1x1x1024, .f32⟩
  | 37 => ⟨S1024, .f32⟩
  | 38 => ⟨S1x1x1024, .f32⟩
  | 39 => ⟨S2x4096x1024, .f32⟩
  | 40 => ⟨S2x4096x1024, .f32⟩
  | 41 => ⟨S2x4096x1024, .f32⟩
  | 42 => ⟨S2x4096x1024, .f32⟩
  | 43 => ⟨S1x1x1024, .f32⟩
  | 44 => ⟨S1024, .f32⟩
  | 45 => ⟨S1x1x1024, .f32⟩
  | 46 => ⟨S2x4096x1024, .f32⟩
  | 47 => ⟨S2x4096x1024, .f32⟩
  | 48 => ⟨S2x4096x1024, .f32⟩
  | 49 => ⟨S2x4096x1024, .f32⟩
  | 50 => ⟨S1x1x1024, .f32⟩
  | 51 => ⟨S1024, .f32⟩
  | 52 => ⟨S1x1x1024, .f32⟩
  | 53 => ⟨S2x4096x1024, .f32⟩
  | 54 => ⟨S2x4096x1024, .f32⟩
  | 55 => ⟨S2x4096x1024, .f32⟩
  | 56 => ⟨S2x4096x1024, .f32⟩
  | 57 => ⟨S1x1x1024, .f32⟩
  | 58 => ⟨S1024, .f32⟩
  | 59 => ⟨S1x1x1024, .f32⟩
  | 60 => ⟨S2x4096x1024, .f32⟩
  | 61 => ⟨S2x4096x1024, .f32⟩
  | 62 => ⟨S2x4096x1024, .f32⟩
  | 63 => ⟨S2x4096x1024, .f32⟩
  | 64 => ⟨S1x1x1024, .f32⟩
  | 65 => ⟨S1024, .f32⟩
  | 66 => ⟨S1x1x1024, .f32⟩
  | 67 => ⟨S2x4096x1024, .f32⟩
  | 68 => ⟨S2x4096x1024, .f32⟩
  | 69 => ⟨S2x4096x1024, .f32⟩
  | 70 => ⟨S2x4096x1024, .f32⟩
  | 71 => ⟨S1x1x1024, .f32⟩
  | 72 => ⟨S1024, .f32⟩
  | 73 => ⟨S1x1x1024, .f32⟩
  | 74 => ⟨S2x4096x1024, .f32⟩
  | 75 => ⟨S2x4096x1024, .f32⟩
  | 76 => ⟨S2x4096x1024, .f32⟩
  | 77 => ⟨S2x4096x1024, .f32⟩
  | 78 => ⟨S1x1x1024, .f32⟩
  | 79 => ⟨S1024, .f32⟩
  | 80 => ⟨S1x1x1024, .f32⟩
  | 81 => ⟨S2x4096x1024, .f32⟩
  | 82 => ⟨S2x4096x1024, .f32⟩
  | 83 => ⟨S2x4096x1024, .f32⟩
  | 84 => ⟨S2x4096x1024, .f32⟩
  | 85 => ⟨S1x1x1024, .f32⟩
  | 86 => ⟨S1024, .f32⟩
  | 87 => ⟨S1x1x1024, .f32⟩
  | 88 => ⟨S2x4096x1024, .f32⟩
  | 89 => ⟨S2x4096x1024, .f32⟩
  | 90 => ⟨S2x4096x1024, .f32⟩
  | 91 => ⟨S2x4096x1024, .f32⟩
  | 92 => ⟨S1x1x1024, .f32⟩
  | 93 => ⟨S1024, .f32⟩
  | 94 => ⟨S1x1x1024, .f32⟩
  | 95 => ⟨S2x4096x1024, .f32⟩
  | 96 => ⟨S2x4096x1024, .f32⟩
  | 97 => ⟨S2x4096x1024, .f32⟩
  | 98 => ⟨S2x4096x1024, .f32⟩
  | 99 => ⟨S1x1x1024, .f32⟩
  | 100 => ⟨S1024, .f32⟩
  | 101 => ⟨S1x1x1024, .f32⟩
  | 102 => ⟨S2x4096x1024, .f32⟩
  | 103 => ⟨S2x4096x1024, .f32⟩
  | 104 => ⟨S2x4096x1024, .f32⟩
  | 105 => ⟨S2x4096x1024, .f32⟩
  | 106 => ⟨S1x1x1024, .f32⟩
  | 107 => ⟨S1024, .f32⟩
  | 108 => ⟨S1x1x1024, .f32⟩
  | 109 => ⟨S2x4096x1024, .f32⟩
  | 110 => ⟨S2x4096x1024, .f32⟩
  | 111 => ⟨S2x4096x1024, .f32⟩
  | 112 => ⟨S2x4096x1024, .f32⟩
  | 113 => ⟨S1x1x1024, .f32⟩
  | 114 => ⟨S1024, .f32⟩
  | 115 => ⟨S1x1x1024, .f32⟩
  | 116 => ⟨S2x4096x1024, .f32⟩
  | 117 => ⟨S2x4096x1024, .f32⟩
  | 118 => ⟨S2x4096x1024, .f32⟩
  | 119 => ⟨S2x4096x1024, .f32⟩
  | 120 => ⟨S1x1x1024, .f32⟩
  | 121 => ⟨S1024, .f32⟩
  | 122 => ⟨S1x1x1024, .f32⟩
  | 123 => ⟨S2x4096x1024, .f32⟩
  | 124 => ⟨S2x4096x1024, .f32⟩
  | 125 => ⟨S2x4096x1024, .f32⟩
  | 126 => ⟨S2x4096x1024, .f32⟩
  | 127 => ⟨S1x1x1024, .f32⟩
  | _ => ⟨S2x4096x1024, .f32⟩

abbrev hbmTy0_1 (i : Nat) : BufTy := match i % 128 with
  | 0 => ⟨S1024, .f32⟩
  | 1 => ⟨S1x1x1024, .f32⟩
  | 2 => ⟨S2x4096x1024, .f32⟩
  | 3 => ⟨S2x4096x1024, .f32⟩
  | 4 => ⟨S2x4096x1024, .f32⟩
  | 5 => ⟨S2x4096x1024, .f32⟩
  | 6 => ⟨S1x1x1024, .f32⟩
  | 7 => ⟨S1024, .f32⟩
  | 8 => ⟨S1x1x1024, .f32⟩
  | 9 => ⟨S2x4096x1024, .f32⟩
  | 10 => ⟨S2x4096x1024, .f32⟩
  | 11 => ⟨S2x4096x1024, .f32⟩
  | 12 => ⟨S2x4096x1024, .f32⟩
  | 13 => ⟨S1x1x1024, .f32⟩
  | 14 => ⟨S1024, .f32⟩
  | 15 => ⟨S1x1x1024, .f32⟩
  | 16 => ⟨S2x4096x1024, .f32⟩
  | 17 => ⟨S2x4096x1024, .f32⟩
  | 18 => ⟨S2x4096x1024, .f32⟩
  | 19 => ⟨S2x4096x1024, .f32⟩
  | 20 => ⟨S1x1x1024, .f32⟩
  | 21 => ⟨S1024, .f32⟩
  | 22 => ⟨S1x1x1024, .f32⟩
  | 23 => ⟨S2x4096x1024, .f32⟩
  | 24 => ⟨S2x4096x1024, .f32⟩
  | 25 => ⟨S2x4096x1024, .f32⟩
  | 26 => ⟨S2x4096x1024, .f32⟩
  | 27 => ⟨S1x1x1024, .f32⟩
  | 28 => ⟨S1024, .f32⟩
  | 29 => ⟨S1x1x1024, .f32⟩
  | 30 => ⟨S2x4096x1024, .f32⟩
  | 31 => ⟨S2x4096x1024, .f32⟩
  | 32 => ⟨S2x4096x1024, .f32⟩
  | 33 => ⟨S2x4096x1024, .f32⟩
  | 34 => ⟨S1x1x1024, .f32⟩
  | 35 => ⟨S1024, .f32⟩
  | 36 => ⟨S1x1x1024, .f32⟩
  | 37 => ⟨S2x4096x1024, .f32⟩
  | 38 => ⟨S2x4096x1024, .f32⟩
  | 39 => ⟨S2x4096x1024, .f32⟩
  | 40 => ⟨S2x4096x1024, .f32⟩
  | 41 => ⟨S1x1x1024, .f32⟩
  | 42 => ⟨S1024, .f32⟩
  | 43 => ⟨S1x1x1024, .f32⟩
  | 44 => ⟨S2x4096x1024, .f32⟩
  | 45 => ⟨S2x4096x1024, .f32⟩
  | 46 => ⟨S2x4096x1024, .f32⟩
  | 47 => ⟨S2x4096x1024, .f32⟩
  | 48 => ⟨S1x1x1024, .f32⟩
  | 49 => ⟨S1024, .f32⟩
  | 50 => ⟨S1x1x1024, .f32⟩
  | 51 => ⟨S2x4096x1024, .f32⟩
  | 52 => ⟨S2x4096x1024, .f32⟩
  | 53 => ⟨S2x4096x1024, .f32⟩
  | 54 => ⟨S2x4096x1024, .f32⟩
  | 55 => ⟨S1x1x1024, .f32⟩
  | 56 => ⟨S1024, .f32⟩
  | 57 => ⟨S1x1x1024, .f32⟩
  | 58 => ⟨S2x4096x1024, .f32⟩
  | 59 => ⟨S2x4096x1024, .f32⟩
  | 60 => ⟨S2x4096x1024, .f32⟩
  | 61 => ⟨S2x4096x1024, .f32⟩
  | 62 => ⟨S1x1x1024, .f32⟩
  | 63 => ⟨S1024, .f32⟩
  | 64 => ⟨S1x1x1024, .f32⟩
  | 65 => ⟨S2x4096x1024, .f32⟩
  | 66 => ⟨S2x4096x1024, .f32⟩
  | 67 => ⟨S2x4096x1024, .f32⟩
  | 68 => ⟨S2x4096x1024, .f32⟩
  | 69 => ⟨S1x1x1024, .f32⟩
  | 70 => ⟨S1024, .f32⟩
  | 71 => ⟨S1x1x1024, .f32⟩
  | 72 => ⟨S2x4096x1024, .f32⟩
  | 73 => ⟨S2x4096x1024, .f32⟩
  | 74 => ⟨S2x4096x1024, .f32⟩
  | 75 => ⟨S2x4096x1024, .f32⟩
  | 76 => ⟨S1x1x1024, .f32⟩
  | 77 => ⟨S1024, .f32⟩
  | 78 => ⟨S1x1x1024, .f32⟩
  | 79 => ⟨S2x4096x1024, .f32⟩
  | 80 => ⟨S2x4096x1024, .f32⟩
  | 81 => ⟨S2x4096x1024, .f32⟩
  | 82 => ⟨S2x4096x1024, .f32⟩
  | 83 => ⟨S1x1x1024, .f32⟩
  | 84 => ⟨S1024, .f32⟩
  | 85 => ⟨S1x1x1024, .f32⟩
  | 86 => ⟨S2x4096x1024, .f32⟩
  | 87 => ⟨S2x4096x1024, .f32⟩
  | 88 => ⟨S2x4096x1024, .f32⟩
  | 89 => ⟨S2x4096x1024, .f32⟩
  | 90 => ⟨S1x1x1024, .f32⟩
  | 91 => ⟨S1024, .f32⟩
  | 92 => ⟨S1x1x1024, .f32⟩
  | 93 => ⟨S2x4096x1024, .f32⟩
  | 94 => ⟨S2x4096x1024, .f32⟩
  | 95 => ⟨S2x4096x1024, .f32⟩
  | 96 => ⟨S2x4096x1024, .f32⟩
  | 97 => ⟨S1x1x1024, .f32⟩
  | 98 => ⟨S1024, .f32⟩
  | 99 => ⟨S1x1x1024, .f32⟩
  | 100 => ⟨S2x4096x1024, .f32⟩
  | 101 => ⟨S2x4096x1024, .f32⟩
  | 102 => ⟨S2x4096x1024, .f32⟩
  | 103 => ⟨S2x4096x1024, .f32⟩
  | 104 => ⟨S1x1x1024, .f32⟩
  | 105 => ⟨S1024, .f32⟩
  | 106 => ⟨S1x1x1024, .f32⟩
  | 107 => ⟨S2x4096x1024, .f32⟩
  | 108 => ⟨S2x4096x1024, .f32⟩
  | 109 => ⟨S2x4096x1024, .f32⟩
  | 110 => ⟨S2x4096x1024, .f32⟩
  | 111 => ⟨S1x1x1024, .f32⟩
  | 112 => ⟨S1024, .f32⟩
  | 113 => ⟨S1x1x1024, .f32⟩
  | 114 => ⟨S2x4096x1024, .f32⟩
  | 115 => ⟨S2x4096x1024, .f32⟩
  | 116 => ⟨S2x4096x1024, .f32⟩
  | 117 => ⟨S2x4096x1024, .f32⟩
  | 118 => ⟨S2x4096x1024, .f32⟩
  | 119 => ⟨S2x4096x1024, .f32⟩
  | 120 => ⟨S_, .f32⟩
  | 121 => ⟨S1024, .f32⟩
  | 122 => ⟨S1x1x1024, .f32⟩
  | 123 => ⟨S2x4096x1024, .f32⟩
  | 124 => ⟨S2x4096x1024, .f32⟩
  | 125 => ⟨S_, .f32⟩
  | 126 => ⟨S1024, .f32⟩
  | 127 => ⟨S1x1x1024, .f32⟩
  | _ => ⟨S2x4096x1024, .f32⟩

abbrev hbmTy0_2 (i : Nat) : BufTy := match i % 128 with
  | 0 => ⟨S_, .f32⟩
  | 1 => ⟨S31x1x1024, .f32⟩
  | 2 => ⟨S_, .f32⟩
  | 3 => ⟨S2x4126x1024, .f32⟩
  | 4 => ⟨S2x4096x1024, .f32⟩
  | 5 => ⟨S_, .f32⟩
  | 6 => ⟨S1024, .f32⟩
  | 7 => ⟨S1x1x1024, .f32⟩
  | 8 => ⟨S2x4096x1024, .f32⟩
  | 9 => ⟨S2x4096x1024, .f32⟩
  | 10 => ⟨S_, .f32⟩
  | 11 => ⟨S1024, .f32⟩
  | 12 => ⟨S1x1x1024, .f32⟩
  | 13 => ⟨S_, .f32⟩
  | 14 => ⟨S31x1x1024, .f32⟩
  | 15 => ⟨S31x1x1024, .f32⟩
  | 16 => ⟨S_, .f32⟩
  | 17 => ⟨S2x4126x1024, .f32⟩
  | 18 => ⟨S2x4126x1024, .f32⟩
  | 19 => ⟨S2x4096x1024, .f32⟩
  | 20 => ⟨S_, .f32⟩
  | 21 => ⟨S1024, .f32⟩
  | 22 => ⟨S1x1x1024, .f32⟩
  | 23 => ⟨S2x4096x1024, .f32⟩
  | 24 => ⟨S2x4096x1024, .f32⟩
  | 25 => ⟨S_, .f32⟩
  | 26 => ⟨S1024, .f32⟩
  | 27 => ⟨S1x1x1024, .f32⟩
  | 28 => ⟨S_, .f32⟩
  | 29 => ⟨S31x1x1024, .f32⟩
  | 30 => ⟨S31x1x1024, .f32⟩
  | 31 => ⟨S_, .f32⟩
  | 32 => ⟨S2x4126x1024, .f32⟩
  | 33 => ⟨S2x4126x1024, .f32⟩
  | 34 => ⟨S2x4096x1024, .f32⟩
  | 35 => ⟨S_, .f32⟩
  | 36 => ⟨S1024, .f32⟩
  | 37 => ⟨S1x1x1024, .f32⟩
  | 38 => ⟨S2x4096x1024, .f32⟩
  | 39 => ⟨S2x4096x1024, .f32⟩
  | 40 => ⟨S_, .f32⟩
  | 41 => ⟨S1024, .f32⟩
  | 42 => ⟨S1x1x1024, .f32⟩
  | 43 => ⟨S_, .f32⟩
  | 44 => ⟨S31x1x1024, .f32⟩
  | 45 => ⟨S31x1x1024, .f32⟩
  | 46 => ⟨S_, .f32⟩
  | 47 => ⟨S2x4126x1024, .f32⟩
  | 48 => ⟨S2x4126x1024, .f32⟩
  | 49 => ⟨S2x4096x1024, .f32⟩
  | 50 => ⟨S_, .f32⟩
  | 51 => ⟨S1024, .f32⟩
  | 52 => ⟨S1x1x1024, .f32⟩
  | 53 => ⟨S2x4096x1024, .f32⟩
  | 54 => ⟨S2x4096x1024, .f32⟩
  | 55 => ⟨S_, .f32⟩
  | 56 => ⟨S1024, .f32⟩
  | 57 => ⟨S1x1x1024, .f32⟩
  | 58 => ⟨S_, .f32⟩
  | 59 => ⟨S31x1x1024, .f32⟩
  | 60 => ⟨S31x1x1024, .f32⟩
  | 61 => ⟨S_, .f32⟩
  | 62 => ⟨S2x4126x1024, .f32⟩
  | 63 => ⟨S2x4126x1024, .f32⟩
  | 64 => ⟨S2x4096x1024, .f32⟩
  | 65 => ⟨S_, .f32⟩
  | 66 => ⟨S1024, .f32⟩
  | 67 => ⟨S1x1x1024, .f32⟩
  | 68 => ⟨S2x4096x1024, .f32⟩
  | 69 => ⟨S2x4096x1024, .f32⟩
  | 70 => ⟨S_, .f32⟩
  | 71 => ⟨S1024, .f32⟩
  | 72 => ⟨S1x1x1024, .f32⟩
  | 73 => ⟨S_, .f32⟩
  | 74 => ⟨S31x1x1024, .f32⟩
  | 75 => ⟨S31x1x1024, .f32⟩
  | 76 => ⟨S_, .f32⟩
  | 77 => ⟨S2x4126x1024, .f32⟩
  | 78 => ⟨S2x4126x1024, .f32⟩
  | 79 => ⟨S2x4096x1024, .f32⟩
  | 80 => ⟨S_, .f32⟩
  | 81 => ⟨S1024, .f32⟩
  | 82 => ⟨S1x1x1024, .f32⟩
  | 83 => ⟨S2x4096x1024, .f32⟩
  | 84 => ⟨S2x4096x1024, .f32⟩
  | 85 => ⟨S_, .f32⟩
  | 86 => ⟨S1024, .f32⟩
  | 87 => ⟨S1x1x1024, .f32⟩
  | 88 => ⟨S_, .f32⟩
  | 89 => ⟨S31x1x1024, .f32⟩
  | 90 => ⟨S31x1x1024, .f32⟩
  | 91 => ⟨S_, .f32⟩
  | 92 => ⟨S2x4126x1024, .f32⟩
  | 93 => ⟨S2x4126x1024, .f32⟩
  | 94 => ⟨S2x4096x1024, .f32⟩
  | 95 => ⟨S_, .f32⟩
  | 96 => ⟨S1024, .f32⟩
  | 97 => ⟨S1x1x1024, .f32⟩
  | 98 => ⟨S2x4096x1024, .f32⟩
  | 99 => ⟨S2x4096x1024, .f32⟩
  | 100 => ⟨S_, .f32⟩
  | 101 => ⟨S1024, .f32⟩
  | 102 => ⟨S1x1x1024, .f32⟩
  | 103 => ⟨S_, .f32⟩
  | 104 => ⟨S31x1x1024, .f32⟩
  | 105 => ⟨S31x1x1024, .f32⟩
  | 106 => ⟨S_, .f32⟩
  | 107 => ⟨S2x4126x1024, .f32⟩
  | 108 => ⟨S2x4126x1024, .f32⟩
  | 109 => ⟨S2x4096x1024, .f32⟩
  | 110 => ⟨S_, .f32⟩
  | 111 => ⟨S1024, .f32⟩
  | 112 => ⟨S1x1x1024, .f32⟩
  | 113 => ⟨S2x4096x1024, .f32⟩
  | 114 => ⟨S2x4096x1024, .f32⟩
  | 115 => ⟨S_, .f32⟩
  | 116 => ⟨S1024, .f32⟩
  | 117 => ⟨S1x1x1024, .f32⟩
  | 118 => ⟨S_, .f32⟩
  | 119 => ⟨S31x1x1024, .f32⟩
  | 120 => ⟨S31x1x1024, .f32⟩
  | 121 => ⟨S_, .f32⟩
  | 122 => ⟨S2x4126x1024, .f32⟩
  | 123 => ⟨S2x4126x1024, .f32⟩
  | 124 => ⟨S2x4096x1024, .f32⟩
  | 125 => ⟨S_, .f32⟩
  | 126 => ⟨S1024, .f32⟩
  | 127 => ⟨S1x1x1024, .f32⟩
  | _ => ⟨S2x4096x1024, .f32⟩

abbrev hbmTy0_3 (i : Nat) : BufTy := match i % 128 with
  | 0 => ⟨S2x4096x1024, .f32⟩
  | 1 => ⟨S2x4096x1024, .f32⟩
  | 2 => ⟨S_, .f32⟩
  | 3 => ⟨S1024, .f32⟩
  | 4 => ⟨S1x1x1024, .f32⟩
  | 5 => ⟨S_, .f32⟩
  | 6 => ⟨S31x1x1024, .f32⟩
  | 7 => ⟨S31x1x1024, .f32⟩
  | 8 => ⟨S_, .f32⟩
  | 9 => ⟨S2x4126x1024, .f32⟩
  | 10 => ⟨S2x4126x1024, .f32⟩
  | 11 => ⟨S2x4096x1024, .f32⟩
  | 12 => ⟨S_, .f32⟩
  | 13 => ⟨S1024, .f32⟩
  | 14 => ⟨S1x1x1024, .f32⟩
  | 15 => ⟨S2x4096x1024, .f32⟩
  | 16 => ⟨S2x4096x1024, .f32⟩
  | 17 => ⟨S_, .f32⟩
  | 18 => ⟨S1024, .f32⟩
  | 19 => ⟨S1x1x1024, .f32⟩
  | 20 => ⟨S_, .f32⟩
  | 21 => ⟨S31x1x1024, .f32⟩
  | 22 => ⟨S31x1x1024, .f32⟩
  | 23 => ⟨S_, .f32⟩
  | 24 => ⟨S2x4126x1024, .f32⟩
  | 25 => ⟨S2x4126x1024, .f32⟩
  | 26 => ⟨S2x4096x1024, .f32⟩
  | 27 => ⟨S_, .f32⟩
  | 28 => ⟨S1024, .f32⟩
  | 29 => ⟨S1x1x1024, .f32⟩
  | 30 => ⟨S2x4096x1024, .f32⟩
  | 31 => ⟨S2x4096x1024, .f32⟩
  | 32 => ⟨S_, .f32⟩
  | 33 => ⟨S1024, .f32⟩
  | 34 => ⟨S1x1x1024, .f32⟩
  | 35 => ⟨S_, .f32⟩
  | 36 => ⟨S31x1x1024, .f32⟩
  | 37 => ⟨S31x1x1024, .f32⟩
  | 38 => ⟨S_, .f32⟩
  | 39 => ⟨S2x4126x1024, .f32⟩
  | 40 => ⟨S2x4126x1024, .f32⟩
  | 41 => ⟨S2x4096x1024, .f32⟩
  | 42 => ⟨S_, .f32⟩
  | 43 => ⟨S1024, .f32⟩
  | 44 => ⟨S1x1x1024, .f32⟩
  | 45 => ⟨S2x4096x1024, .f32⟩
  | 46 => ⟨S2x4096x1024, .f32⟩
  | 47 => ⟨S_, .f32⟩
  | 48 => ⟨S1024, .f32⟩
  | 49 => ⟨S1x1x1024, .f32⟩
  | 50 => ⟨S_, .f32⟩
  | 51 => ⟨S31x1x1024, .f32⟩
  | 52 => ⟨S31x1x1024, .f32⟩
  | 53 => ⟨S_, .f32⟩
  | 54 => ⟨S2x4126x1024, .f32⟩
  | 55 => ⟨S2x4126x1024, .f32⟩
  | 56 => ⟨S2x4096x1024, .f32⟩
  | 57 => ⟨S_, .f32⟩
  | 58 => ⟨S1024, .f32⟩
  | 59 => ⟨S1x1x1024, .f32⟩
  | 60 => ⟨S2x4096x1024, .f32⟩
  | 61 => ⟨S2x4096x1024, .f32⟩
  | 62 => ⟨S_, .f32⟩
  | 63 => ⟨S1024, .f32⟩
  | 64 => ⟨S1x1x1024, .f32⟩
  | 65 => ⟨S_, .f32⟩
  | 66 => ⟨S31x1x1024, .f32⟩
  | 67 => ⟨S31x1x1024, .f32⟩
  | 68 => ⟨S_, .f32⟩
  | 69 => ⟨S2x4126x1024, .f32⟩
  | 70 => ⟨S2x4126x1024, .f32⟩
  | 71 => ⟨S2x4096x1024, .f32⟩
  | 72 => ⟨S_, .f32⟩
  | 73 => ⟨S1024, .f32⟩
  | 74 => ⟨S1x1x1024, .f32⟩
  | 75 => ⟨S2x4096x1024, .f32⟩
  | 76 => ⟨S2x4096x1024, .f32⟩
  | 77 => ⟨S_, .f32⟩
  | 78 => ⟨S1024, .f32⟩
  | 79 => ⟨S1x1x1024, .f32⟩
  | 80 => ⟨S_, .f32⟩
  | 81 => ⟨S31x1x1024, .f32⟩
  | 82 => ⟨S31x1x1024, .f32⟩
  | 83 => ⟨S_, .f32⟩
  | 84 => ⟨S2x4126x1024, .f32⟩
  | 85 => ⟨S2x4126x1024, .f32⟩
  | 86 => ⟨S2x4096x1024, .f32⟩
  | 87 => ⟨S_, .f32⟩
  | 88 => ⟨S1024, .f32⟩
  | 89 => ⟨S1x1x1024, .f32⟩
  | 90 => ⟨S2x4096x1024, .f32⟩
  | 91 => ⟨S2x4096x1024, .f32⟩
  | 92 => ⟨S_, .f32⟩
  | 93 => ⟨S1024, .f32⟩
  | 94 => ⟨S1x1x1024, .f32⟩
  | 95 => ⟨S_, .f32⟩
  | 96 => ⟨S31x1x1024, .f32⟩
  | 97 => ⟨S31x1x1024, .f32⟩
  | 98 => ⟨S_, .f32⟩
  | 99 => ⟨S2x4126x1024, .f32⟩
  | 100 => ⟨S2x4126x1024, .f32⟩
  | 101 => ⟨S2x4096x1024, .f32⟩
  | 102 => ⟨S_, .f32⟩
  | 103 => ⟨S1024, .f32⟩
  | 104 => ⟨S1x1x1024, .f32⟩
  | 105 => ⟨S2x4096x1024, .f32⟩
  | 106 => ⟨S2x4096x1024, .f32⟩
  | 107 => ⟨S_, .f32⟩
  | 108 => ⟨S1024, .f32⟩
  | 109 => ⟨S1x1x1024, .f32⟩
  | 110 => ⟨S_, .f32⟩
  | 111 => ⟨S31x1x1024, .f32⟩
  | 112 => ⟨S31x1x1024, .f32⟩
  | 113 => ⟨S_, .f32⟩
  | 114 => ⟨S2x4126x1024, .f32⟩
  | 115 => ⟨S2x4126x1024, .f32⟩
  | 116 => ⟨S2x4096x1024, .f32⟩
  | 117 => ⟨S_, .f32⟩
  | 118 => ⟨S1024, .f32⟩
  | 119 => ⟨S1x1x1024, .f32⟩
  | 120 => ⟨S2x4096x1024, .f32⟩
  | 121 => ⟨S2x4096x1024, .f32⟩
  | 122 => ⟨S_, .f32⟩
  | 123 => ⟨S1024, .f32⟩
  | 124 => ⟨S1x1x1024, .f32⟩
  | 125 => ⟨S_, .f32⟩
  | 126 => ⟨S31x1x1024, .f32⟩
  | 127 => ⟨S31x1x1024, .f32⟩
  | _ => ⟨S2x4096x1024, .f32⟩

abbrev hbmTy0_4 (i : Nat) : BufTy := match i % 128 with
  | 0 => ⟨S_, .f32⟩
  | 1 => ⟨S2x4126x1024, .f32⟩
  | 2 => ⟨S2x4126x1024, .f32⟩
  | 3 => ⟨S2x4096x1024, .f32⟩
  | 4 => ⟨S_, .f32⟩
  | 5 => ⟨S1024, .f32⟩
  | 6 => ⟨S1x1x1024, .f32⟩
  | 7 => ⟨S2x4096x1024, .f32⟩
  | 8 => ⟨S2x4096x1024, .f32⟩
  | 9 => ⟨S_, .f32⟩
  | 10 => ⟨S1024, .f32⟩
  | 11 => ⟨S1x1x1024, .f32⟩
  | 12 => ⟨S_, .f32⟩
  | 13 => ⟨S31x1x1024, .f32⟩
  | 14 => ⟨S31x1x1024, .f32⟩
  | 15 => ⟨S_, .f32⟩
  | 16 => ⟨S2x4126x1024, .f32⟩
  | 17 => ⟨S2x4126x1024, .f32⟩
  | 18 => ⟨S2x4096x1024, .f32⟩
  | 19 => ⟨S_, .f32⟩
  | 20 => ⟨S1024, .f32⟩
  | 21 => ⟨S1x1x1024, .f32⟩
  | 22 => ⟨S2x4096x1024, .f32⟩
  | 23 => ⟨S2x4096x1024, .f32⟩
  | 24 => ⟨S_, .f32⟩
  | 25 => ⟨S1024, .f32⟩
  | 26 => ⟨S1x1x1024, .f32⟩
  | 27 => ⟨S_, .f32⟩
  | 28 => ⟨S31x1x1024, .f32⟩
  | 29 => ⟨S31x1x1024, .f32⟩
  | 30 => ⟨S_, .f32⟩
  | 31 => ⟨S2x4126x1024, .f32⟩
  | 32 => ⟨S2x4126x1024, .f32⟩
  | 33 => ⟨S2x4096x1024, .f32⟩
  | 34 => ⟨S_, .f32⟩
  | 35 => ⟨S1024, .f32⟩
  | 36 => ⟨S1x1x1024, .f32⟩
  | 37 => ⟨S2x4096x1024, .f32⟩
  | 38 => ⟨S2x4096x1024, .f32⟩
  | 39 => ⟨S_, .f32⟩
  | 40 => ⟨S1024, .f32⟩
  | 41 => ⟨S1x1x1024, .f32⟩
  | 42 => ⟨S_, .f32⟩
  | 43 => ⟨S31x1x1024, .f32⟩
  | 44 => ⟨S31x1x1024, .f32⟩
  | 45 => ⟨S_, .f32⟩
  | 46 => ⟨S2x4126x1024, .f32⟩
  | 47 => ⟨S2x4126x1024, .f32⟩
  | 48 => ⟨S2x4096x1024, .f32⟩
  | 49 => ⟨S_, .f32⟩
  | 50 => ⟨S1024, .f32⟩
  | 51 => ⟨S1x1x1024, .f32⟩
  | 52 => ⟨S2x4096x1024, .f32⟩
  | 53 => ⟨S2x4096x1024, .f32⟩
  | 54 => ⟨S_, .f32⟩
  | 55 => ⟨S1024, .f32⟩
  | 56 => ⟨S1x1x1024, .f32⟩
  | 57 => ⟨S_, .f32⟩
  | 58 => ⟨S31x1x1024, .f32⟩
  | 59 => ⟨S31x1x1024, .f32⟩
  | 60 => ⟨S_, .f32⟩
  | 61 => ⟨S2x4126x1024, .f32⟩
  | 62 => ⟨S2x4126x1024, .f32⟩
  | 63 => ⟨S2x4096x1024, .f32⟩
  | 64 => ⟨S_, .f32⟩
  | 65 => ⟨S1024, .f32⟩
  | 66 => ⟨S1x1x1024, .f32⟩
  | 67 => ⟨S2x4096x1024, .f32⟩
  | 68 => ⟨S2x4096x1024, .f32⟩
  | 69 => ⟨S_, .f32⟩
  | 70 => ⟨S1024, .f32⟩
  | 71 => ⟨S1x1x1024, .f32⟩
  | 72 => ⟨S_, .f32⟩
  | 73 => ⟨S31x1x1024, .f32⟩
  | 74 => ⟨S31x1x1024, .f32⟩
  | 75 => ⟨S_, .f32⟩
  | 76 => ⟨S2x4126x1024, .f32⟩
  | 77 => ⟨S2x4126x1024, .f32⟩
  | 78 => ⟨S2x4096x1024, .f32⟩
  | 79 => ⟨S_, .f32⟩
  | 80 => ⟨S1024, .f32⟩
  | 81 => ⟨S1x1x1024, .f32⟩
  | 82 => ⟨S2x4096x1024, .f32⟩
  | 83 => ⟨S2x4096x1024, .f32⟩
  | 84 => ⟨S_, .f32⟩
  | 85 => ⟨S1024, .f32⟩
  | 86 => ⟨S1x1x1024, .f32⟩
  | 87 => ⟨S_, .f32⟩
  | 88 => ⟨S31x1x1024, .f32⟩
  | 89 => ⟨S31x1x1024, .f32⟩
  | 90 => ⟨S_, .f32⟩
  | 91 => ⟨S2x4126x1024, .f32⟩
  | 92 => ⟨S2x4126x1024, .f32⟩
  | 93 => ⟨S2x4096x1024, .f32⟩
  | 94 => ⟨S_, .f32⟩
  | 95 => ⟨S1024, .f32⟩
  | 96 => ⟨S1x1x1024, .f32⟩
  | 97 => ⟨S2x4096x1024, .f32⟩
  | 98 => ⟨S2x4096x1024, .f32⟩
  | 99 => ⟨S_, .f32⟩
  | 100 => ⟨S1024, .f32⟩
  | 101 => ⟨S1x1x1024, .f32⟩
  | 102 => ⟨S_, .f32⟩
  | 103 => ⟨S31x1x1024, .f32⟩
  | 104 => ⟨S31x1x1024, .f32⟩
  | 105 => ⟨S_, .f32⟩
  | 106 => ⟨S2x4126x1024, .f32⟩
  | 107 => ⟨S2x4126x1024, .f32⟩
  | 108 => ⟨S2x4096x1024, .f32⟩
  | 109 => ⟨S_, .f32⟩
  | 110 => ⟨S1024, .f32⟩
  | 111 => ⟨S1x1x1024, .f32⟩
  | 112 => ⟨S2x4096x1024, .f32⟩
  | 113 => ⟨S2x4096x1024, .f32⟩
  | 114 => ⟨S_, .f32⟩
  | 115 => ⟨S1024, .f32⟩
  | 116 => ⟨S1x1x1024, .f32⟩
  | 117 => ⟨S_, .f32⟩
  | 118 => ⟨S31x1x1024, .f32⟩
  | 119 => ⟨S31x1x1024, .f32⟩
  | 120 => ⟨S_, .f32⟩
  | 121 => ⟨S2x4126x1024, .f32⟩
  | 122 => ⟨S2x4126x1024, .f32⟩
  | 123 => ⟨S2x4096x1024, .f32⟩
  | 124 => ⟨S_, .f32⟩
  | 125 => ⟨S1024, .f32⟩
  | 126 => ⟨S1x1x1024, .f32⟩
  | 127 => ⟨S2x4096x1024, .f32⟩
  | _ => ⟨S2x4096x1024, .f32⟩

abbrev hbmTy0_5 (i : Nat) : BufTy := match i % 128 with
  | 0 => ⟨S2x4096x1024, .f32⟩
  | 1 => ⟨S_, .f32⟩
  | 2 => ⟨S1024, .f32⟩
  | 3 => ⟨S1x1x1024, .f32⟩
  | 4 => ⟨S_, .f32⟩
  | 5 => ⟨S31x1x1024, .f32⟩
  | 6 => ⟨S31x1x1024, .f32⟩
  | 7 => ⟨S_, .f32⟩
  | 8 => ⟨S2x4126x1024, .f32⟩
  | 9 => ⟨S2x4126x1024, .f32⟩
  | 10 => ⟨S2x4096x1024, .f32⟩
  | 11 => ⟨S_, .f32⟩
  | 12 => ⟨S1024, .f32⟩
  | 13 => ⟨S1x1x1024, .f32⟩
  | 14 => ⟨S2x4096x1024, .f32⟩
  | 15 => ⟨S2x4096x1024, .f32⟩
  | 16 => ⟨S_, .f32⟩
  | 17 => ⟨S1024, .f32⟩
  | 18 => ⟨S1x1x1024, .f32⟩
  | 19 => ⟨S_, .f32⟩
  | 20 => ⟨S31x1x1024, .f32⟩
  | 21 => ⟨S31x1x1024, .f32⟩
  | 22 => ⟨S_, .f32⟩
  | 23 => ⟨S2x4126x1024, .f32⟩
  | 24 => ⟨S2x4126x1024, .f32⟩
  | 25 => ⟨S2x4096x1024, .f32⟩
  | 26 => ⟨S_, .f32⟩
  | 27 => ⟨S1024, .f32⟩
  | 28 => ⟨S1x1x1024, .f32⟩
  | 29 => ⟨S2x4096x1024, .f32⟩
  | 30 => ⟨S2x4096x1024, .f32⟩
  | 31 => ⟨S_, .f32⟩
  | 32 => ⟨S1024, .f32⟩
  | 33 => ⟨S1x1x1024, .f32⟩
  | 34 => ⟨S_, .f32⟩
  | 35 => ⟨S31x1x1024, .f32⟩
  | 36 => ⟨S31x1x1024, .f32⟩
  | 37 => ⟨S_, .f32⟩
  | 38 => ⟨S2x4126x1024, .f32⟩
  | 39 => ⟨S2x4126x1024, .f32⟩
  | 40 => ⟨S2x4096x1024, .f32⟩
  | 41 => ⟨S_, .f32⟩
  | 42 => ⟨S1024, .f32⟩
  | 43 => ⟨S1x1x1024, .f32⟩
  | 44 => ⟨S2x4096x1024, .f32⟩
  | 45 => ⟨S2x4096x1024, .f32⟩
  | 46 => ⟨S_, .f32⟩
  | 47 => ⟨S1024, .f32⟩
  | 48 => ⟨S1x1x1024, .f32⟩
  | 49 => ⟨S_, .f32⟩
  | 50 => ⟨S31x1x1024, .f32⟩
  | 51 => ⟨S31x1x1024, .f32⟩
  | 52 => ⟨S_, .f32⟩
  | 53 => ⟨S2x4126x1024, .f32⟩
  | 54 => ⟨S2x4126x1024, .f32⟩
  | 55 => ⟨S2x4096x1024, .f32⟩
  | 56 => ⟨S_, .f32⟩
  | 57 => ⟨S1024, .f32⟩
  | 58 => ⟨S1x1x1024, .f32⟩
  | 59 => ⟨S2x4096x1024, .f32⟩
  | 60 => ⟨S2x4096x1024, .f32⟩
  | 61 => ⟨S_, .f32⟩
  | 62 => ⟨S1024, .f32⟩
  | 63 => ⟨S1x1x1024, .f32⟩
  | 64 => ⟨S_, .f32⟩
  | 65 => ⟨S31x1x1024, .f32⟩
  | 66 => ⟨S31x1x1024, .f32⟩
  | 67 => ⟨S_, .f32⟩
  | 68 => ⟨S2x4126x1024, .f32⟩
  | 69 => ⟨S2x4126x1024, .f32⟩
  | 70 => ⟨S2x15x1024, .f32⟩
  | 71 => ⟨S2x4096x1024, .f32⟩
  | 72 => ⟨S2x15x1024, .f32⟩
  | 73 => ⟨S2x4096x1024, .f32⟩
  | 74 => ⟨S2x4096x1024, .f32⟩
  | 75 => ⟨S2x4096x1024, .f32⟩
  | 76 => ⟨S2x4096x4096, .f32⟩
  | 77 => ⟨S2x4096x6144, .f32⟩
  | 78 => ⟨S8192x6144, .f32⟩
  | 79 => ⟨S8192x6144, .bf16⟩
  | 80 => ⟨S31x1024, .f32⟩
  | 81 => ⟨S_, .i32⟩
  | 82 => ⟨S_, .f32⟩
  | 83 => ⟨S32x1024, .f32⟩
  | 84 => ⟨S32x8x128, .f32⟩
  | 85 => ⟨S8x32x128, .f32⟩
  | _ => ⟨S2x4096x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_cst_6 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_cst_7 : Ref sig .tc := ⟨.hbm, 253, rfl⟩
abbrev main_v241 : Ref sig .tc := ⟨.hbm, 254, rfl⟩
abbrev main_v242 : Ref sig .tc := ⟨.hbm, 255, rfl⟩
abbrev main_cst_8 : Ref sig .tc := ⟨.hbm, 256, rfl⟩
abbrev main_v243 : Ref sig .tc := ⟨.hbm, 257, rfl⟩
abbrev main_cst_9 : Ref sig .tc := ⟨.hbm, 258, rfl⟩
abbrev main_v244 : Ref sig .tc := ⟨.hbm, 259, rfl⟩
abbrev main_v245 : Ref sig .tc := ⟨.hbm, 260, rfl⟩
abbrev main_cst_10 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_cst_11 : Ref sig .tc := ⟨.hbm, 266, rfl⟩
abbrev main_v250 : Ref sig .tc := ⟨.hbm, 267, rfl⟩
abbrev main_v251 : Ref sig .tc := ⟨.hbm, 268, rfl⟩
abbrev main_cst_12 : Ref sig .tc := ⟨.hbm, 269, rfl⟩
abbrev main_v252 : Ref sig .tc := ⟨.hbm, 270, rfl⟩
abbrev main_v253 : Ref sig .tc := ⟨.hbm, 271, rfl⟩
abbrev main_cst_13 : Ref sig .tc := ⟨.hbm, 272, rfl⟩
abbrev main_v254 : Ref sig .tc := ⟨.hbm, 273, rfl⟩
abbrev main_v255 : Ref sig .tc := ⟨.hbm, 274, rfl⟩
abbrev main_v256 : Ref sig .tc := ⟨.hbm, 275, rfl⟩
abbrev main_cst_14 : Ref sig .tc := ⟨.hbm, 276, rfl⟩
abbrev main_v257 : Ref sig .tc := ⟨.hbm, 277, rfl⟩
abbrev main_v258 : Ref sig .tc := ⟨.hbm, 278, rfl⟩
abbrev main_v259 : Ref sig .tc := ⟨.hbm, 279, rfl⟩
abbrev main_v260 : Ref sig .tc := ⟨.hbm, 280, rfl⟩
abbrev main_cst_15 : Ref sig .tc := ⟨.hbm, 281, rfl⟩
abbrev main_v261 : Ref sig .tc := ⟨.hbm, 282, rfl⟩
abbrev main_v262 : Ref sig .tc := ⟨.hbm, 283, rfl⟩
abbrev main_cst_16 : Ref sig .tc := ⟨.hbm, 284, rfl⟩
abbrev main_v263 : Ref sig .tc := ⟨.hbm, 285, rfl⟩
abbrev main_v264 : Ref sig .tc := ⟨.hbm, 286, rfl⟩
abbrev main_cst_17 : Ref sig .tc := ⟨.hbm, 287, rfl⟩
abbrev main_v265 : Ref sig .tc := ⟨.hbm, 288, rfl⟩
abbrev main_v266 : Ref sig .tc := ⟨.hbm, 289, rfl⟩
abbrev main_v267 : Ref sig .tc := ⟨.hbm, 290, rfl⟩
abbrev main_cst_18 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_cst_19 : Ref sig .tc := ⟨.hbm, 296, rfl⟩
abbrev main_v272 : Ref sig .tc := ⟨.hbm, 297, rfl⟩
abbrev main_v273 : Ref sig .tc := ⟨.hbm, 298, rfl⟩
abbrev main_cst_20 : Ref sig .tc := ⟨.hbm, 299, rfl⟩
abbrev main_v274 : Ref sig .tc := ⟨.hbm, 300, rfl⟩
abbrev main_v275 : Ref sig .tc := ⟨.hbm, 301, rfl⟩
abbrev main_cst_21 : Ref sig .tc := ⟨.hbm, 302, rfl⟩
abbrev main_v276 : Ref sig .tc := ⟨.hbm, 303, rfl⟩
abbrev main_v277 : Ref sig .tc := ⟨.hbm, 304, rfl⟩
abbrev main_v278 : Ref sig .tc := ⟨.hbm, 305, rfl⟩
abbrev main_cst_22 : Ref sig .tc := ⟨.hbm, 306, rfl⟩
abbrev main_v279 : Ref sig .tc := ⟨.hbm, 307, rfl⟩
abbrev main_v280 : Ref sig .tc := ⟨.hbm, 308, rfl⟩
abbrev main_v281 : Ref sig .tc := ⟨.hbm, 309, rfl⟩
abbrev main_v282 : Ref sig .tc := ⟨.hbm, 310, rfl⟩
abbrev main_cst_23 : Ref sig .tc := ⟨.hbm, 311, rfl⟩
abbrev main_v283 : Ref sig .tc := ⟨.hbm, 312, rfl⟩
abbrev main_v284 : Ref sig .tc := ⟨.hbm, 313, rfl⟩
abbrev main_cst_24 : Ref sig .tc := ⟨.hbm, 314, rfl⟩
abbrev main_v285 : Ref sig .tc := ⟨.hbm, 315, rfl⟩
abbrev main_v286 : Ref sig .tc := ⟨.hbm, 316, rfl⟩
abbrev main_cst_25 : Ref sig .tc := ⟨.hbm, 317, rfl⟩
abbrev main_v287 : Ref sig .tc := ⟨.hbm, 318, rfl⟩
abbrev main_v288 : Ref sig .tc := ⟨.hbm, 319, rfl⟩
abbrev main_v289 : Ref sig .tc := ⟨.hbm, 320, rfl⟩
abbrev main_cst_26 : Ref sig .tc := ⟨.hbm, 321, rfl⟩
abbrev main_v290 : Ref sig .tc := ⟨.hbm, 322, rfl⟩
abbrev main_v291 : Ref sig .tc := ⟨.hbm, 323, rfl⟩
abbrev main_v292 : Ref sig .tc := ⟨.hbm, 324, rfl⟩
abbrev main_v293 : Ref sig .tc := ⟨.hbm, 325, rfl⟩
abbrev main_cst_27 : Ref sig .tc := ⟨.hbm, 326, rfl⟩
abbrev main_v294 : Ref sig .tc := ⟨.hbm, 327, rfl⟩
abbrev main_v295 : Ref sig .tc := ⟨.hbm, 328, rfl⟩
abbrev main_cst_28 : Ref sig .tc := ⟨.hbm, 329, rfl⟩
abbrev main_v296 : Ref sig .tc := ⟨.hbm, 330, rfl⟩
abbrev main_v297 : Ref sig .tc := ⟨.hbm, 331, rfl⟩
abbrev main_cst_29 : Ref sig .tc := ⟨.hbm, 332, rfl⟩
abbrev main_v298 : Ref sig .tc := ⟨.hbm, 333, rfl⟩
abbrev main_v299 : Ref sig .tc := ⟨.hbm, 334, rfl⟩
abbrev main_v300 : Ref sig .tc := ⟨.hbm, 335, rfl⟩
abbrev main_cst_30 : Ref sig .tc := ⟨.hbm, 336, rfl⟩
abbrev main_v301 : Ref sig .tc := ⟨.hbm, 337, rfl⟩
abbrev main_v302 : Ref sig .tc := ⟨.hbm, 338, rfl⟩
abbrev main_v303 : Ref sig .tc := ⟨.hbm, 339, rfl⟩
abbrev main_v304 : Ref sig .tc := ⟨.hbm, 340, rfl⟩
abbrev main_cst_31 : Ref sig .tc := ⟨.hbm, 341, rfl⟩
abbrev main_v305 : Ref sig .tc := ⟨.hbm, 342, rfl⟩
abbrev main_v306 : Ref sig .tc := ⟨.hbm, 343, rfl⟩
abbrev main_cst_32 : Ref sig .tc := ⟨.hbm, 344, rfl⟩
abbrev main_v307 : Ref sig .tc := ⟨.hbm, 345, rfl⟩
abbrev main_v308 : Ref sig .tc := ⟨.hbm, 346, rfl⟩
abbrev main_cst_33 : Ref sig .tc := ⟨.hbm, 347, rfl⟩
abbrev main_v309 : Ref sig .tc := ⟨.hbm, 348, rfl⟩
abbrev main_v310 : Ref sig .tc := ⟨.hbm, 349, rfl⟩
abbrev main_v311 : Ref sig .tc := ⟨.hbm, 350, rfl⟩
abbrev main_cst_34 : Ref sig .tc := ⟨.hbm, 351, rfl⟩
abbrev main_v312 : Ref sig .tc := ⟨.hbm, 352, rfl⟩
abbrev main_v313 : Ref sig .tc := ⟨.hbm, 353, rfl⟩
abbrev main_v314 : Ref sig .tc := ⟨.hbm, 354, rfl⟩
abbrev main_v315 : Ref sig .tc := ⟨.hbm, 355, rfl⟩
abbrev main_cst_35 : Ref sig .tc := ⟨.hbm, 356, rfl⟩
abbrev main_v316 : Ref sig .tc := ⟨.hbm, 357, rfl⟩
abbrev main_v317 : Ref sig .tc := ⟨.hbm, 358, rfl⟩
abbrev main_cst_36 : Ref sig .tc := ⟨.hbm, 359, rfl⟩
abbrev main_v318 : Ref sig .tc := ⟨.hbm, 360, rfl⟩
abbrev main_v319 : Ref sig .tc := ⟨.hbm, 361, rfl⟩
abbrev main_cst_37 : Ref sig .tc := ⟨.hbm, 362, rfl⟩
abbrev main_v320 : Ref sig .tc := ⟨.hbm, 363, rfl⟩
abbrev main_v321 : Ref sig .tc := ⟨.hbm, 364, rfl⟩
abbrev main_v322 : Ref sig .tc := ⟨.hbm, 365, rfl⟩
abbrev main_cst_38 : Ref sig .tc := ⟨.hbm, 366, rfl⟩
abbrev main_v323 : Ref sig .tc := ⟨.hbm, 367, rfl⟩
abbrev main_v324 : Ref sig .tc := ⟨.hbm, 368, rfl⟩
abbrev main_v325 : Ref sig .tc := ⟨.hbm, 369, rfl⟩
abbrev main_v326 : Ref sig .tc := ⟨.hbm, 370, rfl⟩
abbrev main_cst_39 : Ref sig .tc := ⟨.hbm, 371, rfl⟩
abbrev main_v327 : Ref sig .tc := ⟨.hbm, 372, rfl⟩
abbrev main_v328 : Ref sig .tc := ⟨.hbm, 373, rfl⟩
abbrev main_cst_40 : Ref sig .tc := ⟨.hbm, 374, rfl⟩
abbrev main_v329 : Ref sig .tc := ⟨.hbm, 375, rfl⟩
abbrev main_v330 : Ref sig .tc := ⟨.hbm, 376, rfl⟩
abbrev main_cst_41 : Ref sig .tc := ⟨.hbm, 377, rfl⟩
abbrev main_v331 : Ref sig .tc := ⟨.hbm, 378, rfl⟩
abbrev main_v332 : Ref sig .tc := ⟨.hbm, 379, rfl⟩
abbrev main_v333 : Ref sig .tc := ⟨.hbm, 380, rfl⟩
abbrev main_cst_42 : Ref sig .tc := ⟨.hbm, 381, rfl⟩
abbrev main_v334 : Ref sig .tc := ⟨.hbm, 382, rfl⟩
abbrev main_v335 : Ref sig .tc := ⟨.hbm, 383, rfl⟩
abbrev main_v336 : Ref sig .tc := ⟨.hbm, 384, rfl⟩
abbrev main_v337 : Ref sig .tc := ⟨.hbm, 385, rfl⟩
abbrev main_cst_43 : Ref sig .tc := ⟨.hbm, 386, rfl⟩
abbrev main_v338 : Ref sig .tc := ⟨.hbm, 387, rfl⟩
abbrev main_v339 : Ref sig .tc := ⟨.hbm, 388, rfl⟩
abbrev main_cst_44 : Ref sig .tc := ⟨.hbm, 389, rfl⟩
abbrev main_v340 : Ref sig .tc := ⟨.hbm, 390, rfl⟩
abbrev main_v341 : Ref sig .tc := ⟨.hbm, 391, rfl⟩
abbrev main_cst_45 : Ref sig .tc := ⟨.hbm, 392, rfl⟩
abbrev main_v342 : Ref sig .tc := ⟨.hbm, 393, rfl⟩
abbrev main_v343 : Ref sig .tc := ⟨.hbm, 394, rfl⟩
abbrev main_v344 : Ref sig .tc := ⟨.hbm, 395, rfl⟩
abbrev main_cst_46 : Ref sig .tc := ⟨.hbm, 396, rfl⟩
abbrev main_v345 : Ref sig .tc := ⟨.hbm, 397, rfl⟩
abbrev main_v346 : Ref sig .tc := ⟨.hbm, 398, rfl⟩
abbrev main_v347 : Ref sig .tc := ⟨.hbm, 399, rfl⟩
abbrev main_v348 : Ref sig .tc := ⟨.hbm, 400, rfl⟩
abbrev main_cst_47 : Ref sig .tc := ⟨.hbm, 401, rfl⟩
abbrev main_v349 : Ref sig .tc := ⟨.hbm, 402, rfl⟩
abbrev main_v350 : Ref sig .tc := ⟨.hbm, 403, rfl⟩
abbrev main_cst_48 : Ref sig .tc := ⟨.hbm, 404, rfl⟩
abbrev main_v351 : Ref sig .tc := ⟨.hbm, 405, rfl⟩
abbrev main_v352 : Ref sig .tc := ⟨.hbm, 406, rfl⟩
abbrev main_cst_49 : Ref sig .tc := ⟨.hbm, 407, rfl⟩
abbrev main_v353 : Ref sig .tc := ⟨.hbm, 408, rfl⟩
abbrev main_v354 : Ref sig .tc := ⟨.hbm, 409, rfl⟩
abbrev main_v355 : Ref sig .tc := ⟨.hbm, 410, rfl⟩
abbrev main_cst_50 : Ref sig .tc := ⟨.hbm, 411, rfl⟩
abbrev main_v356 : Ref sig .tc := ⟨.hbm, 412, rfl⟩
abbrev main_v357 : Ref sig .tc := ⟨.hbm, 413, rfl⟩
abbrev main_v358 : Ref sig .tc := ⟨.hbm, 414, rfl⟩
abbrev main_v359 : Ref sig .tc := ⟨.hbm, 415, rfl⟩
abbrev main_cst_51 : Ref sig .tc := ⟨.hbm, 416, rfl⟩
abbrev main_v360 : Ref sig .tc := ⟨.hbm, 417, rfl⟩
abbrev main_v361 : Ref sig .tc := ⟨.hbm, 418, rfl⟩
abbrev main_cst_52 : Ref sig .tc := ⟨.hbm, 419, rfl⟩
abbrev main_v362 : Ref sig .tc := ⟨.hbm, 420, rfl⟩
abbrev main_v363 : Ref sig .tc := ⟨.hbm, 421, rfl⟩
abbrev main_cst_53 : Ref sig .tc := ⟨.hbm, 422, rfl⟩
abbrev main_v364 : Ref sig .tc := ⟨.hbm, 423, rfl⟩
abbrev main_v365 : Ref sig .tc := ⟨.hbm, 424, rfl⟩
abbrev main_v366 : Ref sig .tc := ⟨.hbm, 425, rfl⟩
abbrev main_cst_54 : Ref sig .tc := ⟨.hbm, 426, rfl⟩
abbrev main_v367 : Ref sig .tc := ⟨.hbm, 427, rfl⟩
abbrev main_v368 : Ref sig .tc := ⟨.hbm, 428, rfl⟩
abbrev main_v369 : Ref sig .tc := ⟨.hbm, 429, rfl⟩
abbrev main_v370 : Ref sig .tc := ⟨.hbm, 430, rfl⟩
abbrev main_cst_55 : Ref sig .tc := ⟨.hbm, 431, rfl⟩
abbrev main_v371 : Ref sig .tc := ⟨.hbm, 432, rfl⟩
abbrev main_v372 : Ref sig .tc := ⟨.hbm, 433, rfl⟩
abbrev main_cst_56 : Ref sig .tc := ⟨.hbm, 434, rfl⟩
abbrev main_v373 : Ref sig .tc := ⟨.hbm, 435, rfl⟩
abbrev main_v374 : Ref sig .tc := ⟨.hbm, 436, rfl⟩
abbrev main_cst_57 : Ref sig .tc := ⟨.hbm, 437, rfl⟩
abbrev main_v375 : Ref sig .tc := ⟨.hbm, 438, rfl⟩
abbrev main_v376 : Ref sig .tc := ⟨.hbm, 439, rfl⟩
abbrev main_v377 : Ref sig .tc := ⟨.hbm, 440, rfl⟩
abbrev main_cst_58 : Ref sig .tc := ⟨.hbm, 441, rfl⟩
abbrev main_v378 : Ref sig .tc := ⟨.hbm, 442, rfl⟩
abbrev main_v379 : Ref sig .tc := ⟨.hbm, 443, rfl⟩
abbrev main_v380 : Ref sig .tc := ⟨.hbm, 444, rfl⟩
abbrev main_v381 : Ref sig .tc := ⟨.hbm, 445, rfl⟩
abbrev main_cst_59 : Ref sig .tc := ⟨.hbm, 446, rfl⟩
abbrev main_v382 : Ref sig .tc := ⟨.hbm, 447, rfl⟩
abbrev main_v383 : Ref sig .tc := ⟨.hbm, 448, rfl⟩
abbrev main_cst_60 : Ref sig .tc := ⟨.hbm, 449, rfl⟩
abbrev main_v384 : Ref sig .tc := ⟨.hbm, 450, rfl⟩
abbrev main_v385 : Ref sig .tc := ⟨.hbm, 451, rfl⟩
abbrev main_cst_61 : Ref sig .tc := ⟨.hbm, 452, rfl⟩
abbrev main_v386 : Ref sig .tc := ⟨.hbm, 453, rfl⟩
abbrev main_v387 : Ref sig .tc := ⟨.hbm, 454, rfl⟩
abbrev main_v388 : Ref sig .tc := ⟨.hbm, 455, rfl⟩
abbrev main_cst_62 : Ref sig .tc := ⟨.hbm, 456, rfl⟩
abbrev main_v389 : Ref sig .tc := ⟨.hbm, 457, rfl⟩
abbrev main_v390 : Ref sig .tc := ⟨.hbm, 458, rfl⟩
abbrev main_v391 : Ref sig .tc := ⟨.hbm, 459, rfl⟩
abbrev main_v392 : Ref sig .tc := ⟨.hbm, 460, rfl⟩
abbrev main_cst_63 : Ref sig .tc := ⟨.hbm, 461, rfl⟩
abbrev main_v393 : Ref sig .tc := ⟨.hbm, 462, rfl⟩
abbrev main_v394 : Ref sig .tc := ⟨.hbm, 463, rfl⟩
abbrev main_cst_64 : Ref sig .tc := ⟨.hbm, 464, rfl⟩
abbrev main_v395 : Ref sig .tc := ⟨.hbm, 465, rfl⟩
abbrev main_v396 : Ref sig .tc := ⟨.hbm, 466, rfl⟩
abbrev main_cst_65 : Ref sig .tc := ⟨.hbm, 467, rfl⟩
abbrev main_v397 : Ref sig .tc := ⟨.hbm, 468, rfl⟩
abbrev main_v398 : Ref sig .tc := ⟨.hbm, 469, rfl⟩
abbrev main_v399 : Ref sig .tc := ⟨.hbm, 470, rfl⟩
abbrev main_cst_66 : Ref sig .tc := ⟨.hbm, 471, rfl⟩
abbrev main_v400 : Ref sig .tc := ⟨.hbm, 472, rfl⟩
abbrev main_v401 : Ref sig .tc := ⟨.hbm, 473, rfl⟩
abbrev main_v402 : Ref sig .tc := ⟨.hbm, 474, rfl⟩
abbrev main_v403 : Ref sig .tc := ⟨.hbm, 475, rfl⟩
abbrev main_cst_67 : Ref sig .tc := ⟨.hbm, 476, rfl⟩
abbrev main_v404 : Ref sig .tc := ⟨.hbm, 477, rfl⟩
abbrev main_v405 : Ref sig .tc := ⟨.hbm, 478, rfl⟩
abbrev main_cst_68 : Ref sig .tc := ⟨.hbm, 479, rfl⟩
abbrev main_v406 : Ref sig .tc := ⟨.hbm, 480, rfl⟩
abbrev main_v407 : Ref sig .tc := ⟨.hbm, 481, rfl⟩
abbrev main_cst_69 : Ref sig .tc := ⟨.hbm, 482, rfl⟩
abbrev main_v408 : Ref sig .tc := ⟨.hbm, 483, rfl⟩
abbrev main_v409 : Ref sig .tc := ⟨.hbm, 484, rfl⟩
abbrev main_v410 : Ref sig .tc := ⟨.hbm, 485, rfl⟩
abbrev main_cst_70 : Ref sig .tc := ⟨.hbm, 486, rfl⟩
abbrev main_v411 : Ref sig .tc := ⟨.hbm, 487, rfl⟩
abbrev main_v412 : Ref sig .tc := ⟨.hbm, 488, rfl⟩
abbrev main_v413 : Ref sig .tc := ⟨.hbm, 489, rfl⟩
abbrev main_v414 : Ref sig .tc := ⟨.hbm, 490, rfl⟩
abbrev main_cst_71 : Ref sig .tc := ⟨.hbm, 491, rfl⟩
abbrev main_v415 : Ref sig .tc := ⟨.hbm, 492, rfl⟩
abbrev main_v416 : Ref sig .tc := ⟨.hbm, 493, rfl⟩
abbrev main_cst_72 : Ref sig .tc := ⟨.hbm, 494, rfl⟩
abbrev main_v417 : Ref sig .tc := ⟨.hbm, 495, rfl⟩
abbrev main_v418 : Ref sig .tc := ⟨.hbm, 496, rfl⟩
abbrev main_cst_73 : Ref sig .tc := ⟨.hbm, 497, rfl⟩
abbrev main_v419 : Ref sig .tc := ⟨.hbm, 498, rfl⟩
abbrev main_v420 : Ref sig .tc := ⟨.hbm, 499, rfl⟩
abbrev main_v421 : Ref sig .tc := ⟨.hbm, 500, rfl⟩
abbrev main_cst_74 : Ref sig .tc := ⟨.hbm, 501, rfl⟩
abbrev main_v422 : Ref sig .tc := ⟨.hbm, 502, rfl⟩
abbrev main_v423 : Ref sig .tc := ⟨.hbm, 503, rfl⟩
abbrev main_v424 : Ref sig .tc := ⟨.hbm, 504, rfl⟩
abbrev main_v425 : Ref sig .tc := ⟨.hbm, 505, rfl⟩
abbrev main_cst_75 : Ref sig .tc := ⟨.hbm, 506, rfl⟩
abbrev main_v426 : Ref sig .tc := ⟨.hbm, 507, rfl⟩
abbrev main_v427 : Ref sig .tc := ⟨.hbm, 508, rfl⟩
abbrev main_cst_76 : Ref sig .tc := ⟨.hbm, 509, rfl⟩
abbrev main_v428 : Ref sig .tc := ⟨.hbm, 510, rfl⟩
abbrev main_v429 : Ref sig .tc := ⟨.hbm, 511, rfl⟩
abbrev main_cst_77 : Ref sig .tc := ⟨.hbm, 512, rfl⟩
abbrev main_v430 : Ref sig .tc := ⟨.hbm, 513, rfl⟩
abbrev main_v431 : Ref sig .tc := ⟨.hbm, 514, rfl⟩
abbrev main_v432 : Ref sig .tc := ⟨.hbm, 515, rfl⟩
abbrev main_cst_78 : Ref sig .tc := ⟨.hbm, 516, rfl⟩
abbrev main_v433 : Ref sig .tc := ⟨.hbm, 517, rfl⟩
abbrev main_v434 : Ref sig .tc := ⟨.hbm, 518, rfl⟩
abbrev main_v435 : Ref sig .tc := ⟨.hbm, 519, rfl⟩
abbrev main_v436 : Ref sig .tc := ⟨.hbm, 520, rfl⟩
abbrev main_cst_79 : Ref sig .tc := ⟨.hbm, 521, rfl⟩
abbrev main_v437 : Ref sig .tc := ⟨.hbm, 522, rfl⟩
abbrev main_v438 : Ref sig .tc := ⟨.hbm, 523, rfl⟩
abbrev main_cst_80 : Ref sig .tc := ⟨.hbm, 524, rfl⟩
abbrev main_v439 : Ref sig .tc := ⟨.hbm, 525, rfl⟩
abbrev main_v440 : Ref sig .tc := ⟨.hbm, 526, rfl⟩
abbrev main_cst_81 : Ref sig .tc := ⟨.hbm, 527, rfl⟩
abbrev main_v441 : Ref sig .tc := ⟨.hbm, 528, rfl⟩
abbrev main_v442 : Ref sig .tc := ⟨.hbm, 529, rfl⟩
abbrev main_v443 : Ref sig .tc := ⟨.hbm, 530, rfl⟩
abbrev main_cst_82 : Ref sig .tc := ⟨.hbm, 531, rfl⟩
abbrev main_v444 : Ref sig .tc := ⟨.hbm, 532, rfl⟩
abbrev main_v445 : Ref sig .tc := ⟨.hbm, 533, rfl⟩
abbrev main_v446 : Ref sig .tc := ⟨.hbm, 534, rfl⟩
abbrev main_v447 : Ref sig .tc := ⟨.hbm, 535, rfl⟩
abbrev main_cst_83 : Ref sig .tc := ⟨.hbm, 536, rfl⟩
abbrev main_v448 : Ref sig .tc := ⟨.hbm, 537, rfl⟩
abbrev main_v449 : Ref sig .tc := ⟨.hbm, 538, rfl⟩
abbrev main_cst_84 : Ref sig .tc := ⟨.hbm, 539, rfl⟩
abbrev main_v450 : Ref sig .tc := ⟨.hbm, 540, rfl⟩
abbrev main_v451 : Ref sig .tc := ⟨.hbm, 541, rfl⟩
abbrev main_cst_85 : Ref sig .tc := ⟨.hbm, 542, rfl⟩
abbrev main_v452 : Ref sig .tc := ⟨.hbm, 543, rfl⟩
abbrev main_v453 : Ref sig .tc := ⟨.hbm, 544, rfl⟩
abbrev main_v454 : Ref sig .tc := ⟨.hbm, 545, rfl⟩
abbrev main_cst_86 : Ref sig .tc := ⟨.hbm, 546, rfl⟩
abbrev main_v455 : Ref sig .tc := ⟨.hbm, 547, rfl⟩
abbrev main_v456 : Ref sig .tc := ⟨.hbm, 548, rfl⟩
abbrev main_v457 : Ref sig .tc := ⟨.hbm, 549, rfl⟩
abbrev main_v458 : Ref sig .tc := ⟨.hbm, 550, rfl⟩
abbrev main_cst_87 : Ref sig .tc := ⟨.hbm, 551, rfl⟩
abbrev main_v459 : Ref sig .tc := ⟨.hbm, 552, rfl⟩
abbrev main_v460 : Ref sig .tc := ⟨.hbm, 553, rfl⟩
abbrev main_cst_88 : Ref sig .tc := ⟨.hbm, 554, rfl⟩
abbrev main_v461 : Ref sig .tc := ⟨.hbm, 555, rfl⟩
abbrev main_v462 : Ref sig .tc := ⟨.hbm, 556, rfl⟩
abbrev main_cst_89 : Ref sig .tc := ⟨.hbm, 557, rfl⟩
abbrev main_v463 : Ref sig .tc := ⟨.hbm, 558, rfl⟩
abbrev main_v464 : Ref sig .tc := ⟨.hbm, 559, rfl⟩
abbrev main_v465 : Ref sig .tc := ⟨.hbm, 560, rfl⟩
abbrev main_cst_90 : Ref sig .tc := ⟨.hbm, 561, rfl⟩
abbrev main_v466 : Ref sig .tc := ⟨.hbm, 562, rfl⟩
abbrev main_v467 : Ref sig .tc := ⟨.hbm, 563, rfl⟩
abbrev main_v468 : Ref sig .tc := ⟨.hbm, 564, rfl⟩
abbrev main_v469 : Ref sig .tc := ⟨.hbm, 565, rfl⟩
abbrev main_cst_91 : Ref sig .tc := ⟨.hbm, 566, rfl⟩
abbrev main_v470 : Ref sig .tc := ⟨.hbm, 567, rfl⟩
abbrev main_v471 : Ref sig .tc := ⟨.hbm, 568, rfl⟩
abbrev main_cst_92 : Ref sig .tc := ⟨.hbm, 569, rfl⟩
abbrev main_v472 : Ref sig .tc := ⟨.hbm, 570, rfl⟩
abbrev main_v473 : Ref sig .tc := ⟨.hbm, 571, rfl⟩
abbrev main_cst_93 : Ref sig .tc := ⟨.hbm, 572, rfl⟩
abbrev main_v474 : Ref sig .tc := ⟨.hbm, 573, rfl⟩
abbrev main_v475 : Ref sig .tc := ⟨.hbm, 574, rfl⟩
abbrev main_v476 : Ref sig .tc := ⟨.hbm, 575, rfl⟩
abbrev main_cst_94 : Ref sig .tc := ⟨.hbm, 576, rfl⟩
abbrev main_v477 : Ref sig .tc := ⟨.hbm, 577, rfl⟩
abbrev main_v478 : Ref sig .tc := ⟨.hbm, 578, rfl⟩
abbrev main_v479 : Ref sig .tc := ⟨.hbm, 579, rfl⟩
abbrev main_v480 : Ref sig .tc := ⟨.hbm, 580, rfl⟩
abbrev main_cst_95 : Ref sig .tc := ⟨.hbm, 581, rfl⟩
abbrev main_v481 : Ref sig .tc := ⟨.hbm, 582, rfl⟩
abbrev main_v482 : Ref sig .tc := ⟨.hbm, 583, rfl⟩
abbrev main_cst_96 : Ref sig .tc := ⟨.hbm, 584, rfl⟩
abbrev main_v483 : Ref sig .tc := ⟨.hbm, 585, rfl⟩
abbrev main_v484 : Ref sig .tc := ⟨.hbm, 586, rfl⟩
abbrev main_cst_97 : Ref sig .tc := ⟨.hbm, 587, rfl⟩
abbrev main_v485 : Ref sig .tc := ⟨.hbm, 588, rfl⟩
abbrev main_v486 : Ref sig .tc := ⟨.hbm, 589, rfl⟩
abbrev main_v487 : Ref sig .tc := ⟨.hbm, 590, rfl⟩
abbrev main_cst_98 : Ref sig .tc := ⟨.hbm, 591, rfl⟩
abbrev main_v488 : Ref sig .tc := ⟨.hbm, 592, rfl⟩
abbrev main_v489 : Ref sig .tc := ⟨.hbm, 593, rfl⟩
abbrev main_v490 : Ref sig .tc := ⟨.hbm, 594, rfl⟩
abbrev main_v491 : Ref sig .tc := ⟨.hbm, 595, rfl⟩
abbrev main_cst_99 : Ref sig .tc := ⟨.hbm, 596, rfl⟩
abbrev main_v492 : Ref sig .tc := ⟨.hbm, 597, rfl⟩
abbrev main_v493 : Ref sig .tc := ⟨.hbm, 598, rfl⟩
abbrev main_cst_100 : Ref sig .tc := ⟨.hbm, 599, rfl⟩
abbrev main_v494 : Ref sig .tc := ⟨.hbm, 600, rfl⟩
abbrev main_v495 : Ref sig .tc := ⟨.hbm, 601, rfl⟩
abbrev main_cst_101 : Ref sig .tc := ⟨.hbm, 602, rfl⟩
abbrev main_v496 : Ref sig .tc := ⟨.hbm, 603, rfl⟩
abbrev main_v497 : Ref sig .tc := ⟨.hbm, 604, rfl⟩
abbrev main_v498 : Ref sig .tc := ⟨.hbm, 605, rfl⟩
abbrev main_cst_102 : Ref sig .tc := ⟨.hbm, 606, rfl⟩
abbrev main_v499 : Ref sig .tc := ⟨.hbm, 607, rfl⟩
abbrev main_v500 : Ref sig .tc := ⟨.hbm, 608, rfl⟩
abbrev main_v501 : Ref sig .tc := ⟨.hbm, 609, rfl⟩
abbrev main_v502 : Ref sig .tc := ⟨.hbm, 610, rfl⟩
abbrev main_cst_103 : Ref sig .tc := ⟨.hbm, 611, rfl⟩
abbrev main_v503 : Ref sig .tc := ⟨.hbm, 612, rfl⟩
abbrev main_v504 : Ref sig .tc := ⟨.hbm, 613, rfl⟩
abbrev main_cst_104 : Ref sig .tc := ⟨.hbm, 614, rfl⟩
abbrev main_v505 : Ref sig .tc := ⟨.hbm, 615, rfl⟩
abbrev main_v506 : Ref sig .tc := ⟨.hbm, 616, rfl⟩
abbrev main_cst_105 : Ref sig .tc := ⟨.hbm, 617, rfl⟩
abbrev main_v507 : Ref sig .tc := ⟨.hbm, 618, rfl⟩
abbrev main_v508 : Ref sig .tc := ⟨.hbm, 619, rfl⟩
abbrev main_v509 : Ref sig .tc := ⟨.hbm, 620, rfl⟩
abbrev main_cst_106 : Ref sig .tc := ⟨.hbm, 621, rfl⟩
abbrev main_v510 : Ref sig .tc := ⟨.hbm, 622, rfl⟩
abbrev main_v511 : Ref sig .tc := ⟨.hbm, 623, rfl⟩
abbrev main_v512 : Ref sig .tc := ⟨.hbm, 624, rfl⟩
abbrev main_v513 : Ref sig .tc := ⟨.hbm, 625, rfl⟩
abbrev main_cst_107 : Ref sig .tc := ⟨.hbm, 626, rfl⟩
abbrev main_v514 : Ref sig .tc := ⟨.hbm, 627, rfl⟩
abbrev main_v515 : Ref sig .tc := ⟨.hbm, 628, rfl⟩
abbrev main_cst_108 : Ref sig .tc := ⟨.hbm, 629, rfl⟩
abbrev main_v516 : Ref sig .tc := ⟨.hbm, 630, rfl⟩
abbrev main_v517 : Ref sig .tc := ⟨.hbm, 631, rfl⟩
abbrev main_cst_109 : Ref sig .tc := ⟨.hbm, 632, rfl⟩
abbrev main_v518 : Ref sig .tc := ⟨.hbm, 633, rfl⟩
abbrev main_v519 : Ref sig .tc := ⟨.hbm, 634, rfl⟩
abbrev main_v520 : Ref sig .tc := ⟨.hbm, 635, rfl⟩
abbrev main_cst_110 : Ref sig .tc := ⟨.hbm, 636, rfl⟩
abbrev main_v521 : Ref sig .tc := ⟨.hbm, 637, rfl⟩
abbrev main_v522 : Ref sig .tc := ⟨.hbm, 638, rfl⟩
abbrev main_v523 : Ref sig .tc := ⟨.hbm, 639, rfl⟩
abbrev main_v524 : Ref sig .tc := ⟨.hbm, 640, rfl⟩
abbrev main_cst_111 : Ref sig .tc := ⟨.hbm, 641, rfl⟩
abbrev main_v525 : Ref sig .tc := ⟨.hbm, 642, rfl⟩
abbrev main_v526 : Ref sig .tc := ⟨.hbm, 643, rfl⟩
abbrev main_cst_112 : Ref sig .tc := ⟨.hbm, 644, rfl⟩
abbrev main_v527 : Ref sig .tc := ⟨.hbm, 645, rfl⟩
abbrev main_v528 : Ref sig .tc := ⟨.hbm, 646, rfl⟩
abbrev main_cst_113 : Ref sig .tc := ⟨.hbm, 647, rfl⟩
abbrev main_v529 : Ref sig .tc := ⟨.hbm, 648, rfl⟩
abbrev main_v530 : Ref sig .tc := ⟨.hbm, 649, rfl⟩
abbrev main_v531 : Ref sig .tc := ⟨.hbm, 650, rfl⟩
abbrev main_cst_114 : Ref sig .tc := ⟨.hbm, 651, rfl⟩
abbrev main_v532 : Ref sig .tc := ⟨.hbm, 652, rfl⟩
abbrev main_v533 : Ref sig .tc := ⟨.hbm, 653, rfl⟩
abbrev main_v534 : Ref sig .tc := ⟨.hbm, 654, rfl⟩
abbrev main_v535 : Ref sig .tc := ⟨.hbm, 655, rfl⟩
abbrev main_cst_115 : Ref sig .tc := ⟨.hbm, 656, rfl⟩
abbrev main_v536 : Ref sig .tc := ⟨.hbm, 657, rfl⟩
abbrev main_v537 : Ref sig .tc := ⟨.hbm, 658, rfl⟩
abbrev main_cst_116 : Ref sig .tc := ⟨.hbm, 659, rfl⟩
abbrev main_v538 : Ref sig .tc := ⟨.hbm, 660, rfl⟩
abbrev main_v539 : Ref sig .tc := ⟨.hbm, 661, rfl⟩
abbrev main_cst_117 : Ref sig .tc := ⟨.hbm, 662, rfl⟩
abbrev main_v540 : Ref sig .tc := ⟨.hbm, 663, rfl⟩
abbrev main_v541 : Ref sig .tc := ⟨.hbm, 664, rfl⟩
abbrev main_v542 : Ref sig .tc := ⟨.hbm, 665, rfl⟩
abbrev main_cst_118 : Ref sig .tc := ⟨.hbm, 666, rfl⟩
abbrev main_v543 : Ref sig .tc := ⟨.hbm, 667, rfl⟩
abbrev main_v544 : Ref sig .tc := ⟨.hbm, 668, rfl⟩
abbrev main_v545 : Ref sig .tc := ⟨.hbm, 669, rfl⟩
abbrev main_v546 : Ref sig .tc := ⟨.hbm, 670, rfl⟩
abbrev main_cst_119 : Ref sig .tc := ⟨.hbm, 671, rfl⟩
abbrev main_v547 : Ref sig .tc := ⟨.hbm, 672, rfl⟩
abbrev main_v548 : Ref sig .tc := ⟨.hbm, 673, rfl⟩
abbrev main_cst_120 : Ref sig .tc := ⟨.hbm, 674, rfl⟩
abbrev main_v549 : Ref sig .tc := ⟨.hbm, 675, rfl⟩
abbrev main_v550 : Ref sig .tc := ⟨.hbm, 676, rfl⟩
abbrev main_cst_121 : Ref sig .tc := ⟨.hbm, 677, rfl⟩
abbrev main_v551 : Ref sig .tc := ⟨.hbm, 678, rfl⟩
abbrev main_v552 : Ref sig .tc := ⟨.hbm, 679, rfl⟩
abbrev main_v553 : Ref sig .tc := ⟨.hbm, 680, rfl⟩
abbrev main_cst_122 : Ref sig .tc := ⟨.hbm, 681, rfl⟩
abbrev main_v554 : Ref sig .tc := ⟨.hbm, 682, rfl⟩
abbrev main_v555 : Ref sig .tc := ⟨.hbm, 683, rfl⟩
abbrev main_v556 : Ref sig .tc := ⟨.hbm, 684, rfl⟩
abbrev main_v557 : Ref sig .tc := ⟨.hbm, 685, rfl⟩
abbrev main_cst_123 : Ref sig .tc := ⟨.hbm, 686, rfl⟩
abbrev main_v558 : Ref sig .tc := ⟨.hbm, 687, rfl⟩
abbrev main_v559 : Ref sig .tc := ⟨.hbm, 688, rfl⟩
abbrev main_cst_124 : Ref sig .tc := ⟨.hbm, 689, rfl⟩
abbrev main_v560 : Ref sig .tc := ⟨.hbm, 690, rfl⟩
abbrev main_v561 : Ref sig .tc := ⟨.hbm, 691, rfl⟩
abbrev main_cst_125 : Ref sig .tc := ⟨.hbm, 692, rfl⟩
abbrev main_v562 : Ref sig .tc := ⟨.hbm, 693, rfl⟩
abbrev main_v563 : Ref sig .tc := ⟨.hbm, 694, rfl⟩
abbrev main_v564 : Ref sig .tc := ⟨.hbm, 695, rfl⟩
abbrev main_cst_126 : Ref sig .tc := ⟨.hbm, 696, rfl⟩
abbrev main_v565 : Ref sig .tc := ⟨.hbm, 697, rfl⟩
abbrev main_v566 : Ref sig .tc := ⟨.hbm, 698, rfl⟩
abbrev main_v567 : Ref sig .tc := ⟨.hbm, 699, rfl⟩
abbrev main_v568 : Ref sig .tc := ⟨.hbm, 700, rfl⟩
abbrev main_cst_127 : Ref sig .tc := ⟨.hbm, 701, rfl⟩
abbrev main_v569 : Ref sig .tc := ⟨.hbm, 702, rfl⟩
abbrev main_v570 : Ref sig .tc := ⟨.hbm, 703, rfl⟩
abbrev main_cst_128 : Ref sig .tc := ⟨.hbm, 704, rfl⟩
abbrev main_v571 : Ref sig .tc := ⟨.hbm, 705, rfl⟩
abbrev main_v572 : Ref sig .tc := ⟨.hbm, 706, rfl⟩
abbrev main_cst_129 : Ref sig .tc := ⟨.hbm, 707, rfl⟩
abbrev main_v573 : Ref sig .tc := ⟨.hbm, 708, rfl⟩
abbrev main_v574 : Ref sig .tc := ⟨.hbm, 709, rfl⟩
abbrev main_v575 : Ref sig .tc := ⟨.hbm, 710, rfl⟩
abbrev main_v576 : Ref sig .tc := ⟨.hbm, 711, rfl⟩
abbrev main_v577 : Ref sig .tc := ⟨.hbm, 712, rfl⟩
abbrev main_v578 : Ref sig .tc := ⟨.hbm, 713, rfl⟩
abbrev main_v579 : Ref sig .tc := ⟨.hbm, 714, rfl⟩
abbrev main_v580 : Ref sig .tc := ⟨.hbm, 715, rfl⟩
abbrev main_v581 : Ref sig .tc := ⟨.hbm, 716, rfl⟩
abbrev main_v582 : Ref sig .tc := ⟨.hbm, 717, rfl⟩
abbrev main_v583 : Ref sig .tc := ⟨.hbm, 718, rfl⟩
abbrev main_v584 : Ref sig .tc := ⟨.hbm, 719, rfl⟩
abbrev main_v585 : Ref sig .tc := ⟨.hbm, 720, rfl⟩
abbrev main_c : Ref sig .tc := ⟨.hbm, 721, rfl⟩
abbrev main_call0_v0 : Ref sig .tc := ⟨.hbm, 722, rfl⟩
abbrev main_v586 : Ref sig .tc := ⟨.hbm, 723, rfl⟩
abbrev main_v587 : Ref sig .tc := ⟨.hbm, 724, rfl⟩
abbrev main_v588 : Ref sig .tc := ⟨.hbm, 725, rfl⟩

abbrev nD : Nat := 1
abbrev τ : Topo := Topo.v7x

variable {F : FTy → Type} [FloatOps F]
-- ==== Kernel7.lean ====
abbrev S2x4096x6144 : Shape := ⟨3, ![2, 4096, 6144]⟩
abbrev S2x4096x1024 : Shape := ⟨3, ![2, 4096, 1024]⟩
abbrev S1024 : Shape := ⟨1, ![1024]⟩
abbrev S1024x6144 : Shape := ⟨2, ![1024, 6144]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x6144 : Shape := ⟨2, ![8192, 6144]⟩
abbrev S4x1024x1536 : Shape := ⟨3, ![4, 1024, 1536]⟩
abbrev S2048x1024 : Shape := ⟨2, ![2048, 1024]⟩
abbrev S2048x1536 : Shape := ⟨2, ![2048, 1536]⟩
abbrev S1x1024x1536 : Shape := ⟨3, ![1, 1024, 1536]⟩
abbrev S1024x1536 : Shape := ⟨2, ![1024, 1536]⟩

abbrev nBuf : Space → Nat
  | .hbm => 25
  | .vmem => 7
  | .smem => 0
  | _ => 0

abbrev bufTy : (tb : Table) → Fin (tcTables nBuf tb) → BufTy
  | .hbm, ⟨0, _⟩ => ⟨S2x4096x6144, .f32⟩
  | .hbm, ⟨1, _⟩ => ⟨S2x4096x1024, .f32⟩
  | .hbm, ⟨2, _⟩ => ⟨S1024, .f32⟩
  | .hbm, ⟨3, _⟩ => ⟨S1024x6144, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S8192x6144, .f32⟩
  | .hbm, ⟨23, _⟩ => ⟨S8192x6144, .bf16⟩
  | .hbm, ⟨24, _⟩ => ⟨S4x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1024x1536, .f32⟩
  | _, _ => ⟨S2x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S2x4096x6144 : Shape := ⟨3, ![2, 4096, 6144]⟩
abbrev S2x4096x1024 : Shape := ⟨3, ![2, 4096, 1024]⟩
abbrev S1024 : Shape := ⟨1, ![1024]⟩
abbrev S1024x6144 : Shape := ⟨2, ![1024, 6144]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x6144 : Shape := ⟨2, ![8192, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 28
  | .vmem => 0
  | .smem => 0
  | _ => 0

abbrev bufTy : (tb : Table) → Fin (tcTables nBuf tb) → BufTy
  | .hbm, ⟨0, _⟩ => ⟨S2x4096x6144, .f32⟩
  | .hbm, ⟨1, _⟩ => ⟨S2x4096x1024, .f32⟩
  | .hbm, ⟨2, _⟩ => ⟨S1024, .f32⟩
  | .hbm, ⟨3, _⟩ => ⟨S1024x6144, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x6144, .f32⟩
  | .hbm, ⟨22, _⟩ => ⟨S8192x6144, .f32⟩
  | .hbm, ⟨23, _⟩ => ⟨S6144x1024, .f32⟩
  | .hbm, ⟨24, _⟩ => ⟨S1024x6144, .f32⟩
  | .hbm, ⟨25, _⟩ => ⟨S1024x4x1536, .f32⟩
  | .hbm, ⟨26, _⟩ => ⟨S4x1024x1536, .f32⟩
  | .hbm, ⟨27, _⟩ => ⟨S4x1024x1536, .bf16⟩
  | _, _ => ⟨S2x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel8.lean ====
abbrev S2x4096x6144 : Shape := ⟨3, ![2, 4096, 6144]⟩
abbrev S31x1x1024 : Shape := ⟨3, ![31, 1, 1024]⟩
abbrev S1024 : Shape := ⟨1, ![1024]⟩
abbrev S1024x1024 : Shape := ⟨2, ![1024, 1024]⟩
abbrev S8192x6144 : Shape := ⟨2, ![8192, 6144]⟩
abbrev S31x1024 : Shape := ⟨2, ![31, 1024]⟩
abbrev S_ : Shape := ⟨0, ![]⟩
abbrev S32x1024 : Shape := ⟨2, ![32, 1024]⟩
abbrev S32x8x128 : Shape := ⟨3, ![32, 8, 128]⟩
abbrev S8x32x128 : Shape := ⟨3, ![8, 32, 128]⟩
abbrev S1x1024 : Shape := ⟨2, ![1, 1024]⟩
abbrev S4x256x1024 : Shape := ⟨3, ![4, 256, 1024]⟩
abbrev S8192x1024 : Shape := ⟨2, ![8192, 1024]⟩
abbrev S8192x1 : Shape := ⟨2, ![8192, 1]⟩
abbrev S512x2048 : Shape := ⟨2, ![512, 2048]⟩
abbrev S16x2048 : Shape := ⟨2, ![16, 2048]⟩
abbrev S512x1024 : Shape := ⟨2, ![512, 1024]⟩
abbrev S512x1 : Shape := ⟨2, ![512, 1]⟩
abbrev S8x544x128 : Shape := ⟨3, ![8, 544, 128]⟩
abbrev S8x512x128 : Shape := ⟨3, ![8, 512, 128]⟩
abbrev S512x128 : Shape := ⟨2, ![512, 128]⟩
abbrev S1x512x128 : Shape := ⟨3, ![1, 512, 128]⟩
abbrev S16x128 : Shape := ⟨2, ![16, 128]⟩
abbrev S1x16x128 : Shape := ⟨3, ![1, 16, 128]⟩
abbrev S64x128 : Shape := ⟨2, ![64, 128]⟩
abbrev S1x1x128 : Shape := ⟨3, ![1, 1, 128]⟩
abbrev S1x128 : Shape := ⟨2, ![1, 128]⟩
abbrev S1x64x128 : Shape := ⟨3, ![1, 64, 128]⟩
abbrev S1x256x128 : Shape := ⟨3, ![1, 256, 128]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩

abbrev nBuf : Space → Nat
  | .hbm => 23
  | .vmem => 21
  | .smem => 0
  | _ => 0

abbrev bufTy : (tb : Table) → Fin (tcTables nBuf tb) → BufTy
  | .hbm, ⟨0, _⟩ => ⟨S2x4096x6144, .f32⟩
  | .hbm, ⟨1, _⟩ => ⟨S31x1x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S8192x6144, .f32⟩
  | .hbm, ⟨7, _⟩ => ⟨S8192x6144, .bf16⟩
  | .hbm, ⟨8, _⟩ => ⟨S31x1024, .f32⟩
  | .hbm, ⟨9, _⟩ => ⟨S_, .i32⟩
  | .hbm, ⟨10, _⟩ => ⟨S_, .f32⟩
  | .hbm, ⟨11, _⟩ => ⟨S32x1024, .f32⟩
  | .hbm, ⟨12, _⟩ => ⟨S32x8x128, .f32⟩
  | .hbm, ⟨13, _⟩ => ⟨S8x32x128, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1024x1024, .bf16⟩
  | .hbm, ⟨18, _⟩ => ⟨S4x256x1024, .bf16⟩
  | .hbm, ⟨19, _⟩ => ⟨S8192x1024, .bf16⟩
  | .hbm, ⟨20, _⟩ => ⟨S8192x1, .f32⟩
  | .hbm, ⟨21, _⟩ => ⟨S8192x1024, .bf16⟩
  | .hbm, ⟨22, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S16x2048, .bf16⟩
  | .local _ .vmem, ⟨3, _⟩ => ⟨S16x2048, .bf16⟩
  | .local _ .vmem, ⟨4, _⟩ => ⟨S16x2048, .bf16⟩
  | .local _ .vmem, ⟨5, _⟩ => ⟨S16x2048, .bf16⟩
  | .local _ .vmem, ⟨6, _⟩ => ⟨S8x32x128, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S4x256x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1, .f32⟩
  | .local _ .vmem, ⟨14, _⟩ => ⟨S512x1, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S8x544x128, .f32⟩
  | .local _ .vmem, ⟨20, _⟩ => ⟨S8x512x128, .f32⟩
  | _, _ => ⟨S2x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_240 : BitVec 32 := 0#32
  let c8_i32_241 : BitVec 32 := 8#32
  let v462 : BitVec 32 := Scalar.addi c0_i32_240 c8_i32_241
  let c1_i32_242 : BitVec 32 := 1#32
  ⟨c0_i32_240, v462, c1_i32_242⟩
def k0_off1 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v589 : Index := Scalar.indexCast arg15
  let c0_342 : Index := 0#32
  let c0_343 : Index := 0#32
  ![v589.toNat, 0, 0]
def k0_off2 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v592 : Index := Scalar.indexCast arg15
  let c1_344 : Index := 1#32
  let c0_345 : Index := 0#32
  ![v592.toNat, 1, 0]
def k0_off3 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v598 : Index := Scalar.indexCast arg15
  let c1_346 : Index := 1#32
  let c0_347 : Index := 0#32
  ![v598.toNat, 1, 0]
def k0_off4 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v601 : Index := Scalar.indexCast arg15
  let c2_348 : Index := 2#32
  let c0_349 : Index := 0#32
  ![v601.toNat, 2, 0]
def k0_off5 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v607 : Index := Scalar.indexCast arg15
  let c2_350 : Index := 2#32
  let c0_351 : Index := 0#32
  ![v607.toNat, 2, 0]
def k0_off6 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v610 : Index := Scalar.indexCast arg15
  let c3_352 : Index := 3#32
  let c0_353 : Index := 0#32
  ![v610.toNat, 3, 0]
def k0_off7 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v616 : Index := Scalar.indexCast arg15
  let c3_354 : Index := 3#32
  let c0_355 : Index := 0#32
  ![v616.toNat, 3, 0]
def k0_off8 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v619 : Index := Scalar.indexCast arg15
  let c4_356 : Index := 4#32
  let c0_357 : Index := 0#32
  ![v619.toNat, 4, 0]
def k0_off9 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v625 : Index := Scalar.indexCast arg15
  let c4_358 : Index := 4#32
  let c0_359 : Index := 0#32
  ![v625.toNat, 4, 0]
def k0_off10 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v628 : Index := Scalar.indexCast arg15
  let c5_360 : Index := 5#32
  let c0_361 : Index := 0#32
  ![v628.toNat, 5, 0]
def k0_off11 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v634 : Index := Scalar.indexCast arg15
  let c5_362 : Index := 5#32
  let c0_363 : Index := 0#32
  ![v634.toNat, 5, 0]
def k0_off12 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v637 : Index := Scalar.indexCast arg15
  let c6_364 : Index := 6#32
  let c0_365 : Index := 0#32
  ![v637.toNat, 6, 0]
def k0_off13 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v643 : Index := Scalar.indexCast arg15
  let c6_366 : Index := 6#32
  let c0_367 : Index := 0#32
  ![v643.toNat, 6, 0]
def k0_off14 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v646 : Index := Scalar.indexCast arg15
  let c7_368 : Index := 7#32
  let c0_369 : Index := 0#32
  ![v646.toNat, 7, 0]
def k0_off15 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v652 : Index := Scalar.indexCast arg15
  let c7_370 : Index := 7#32
  let c0_371 : Index := 0#32
  ![v652.toNat, 7, 0]
def k0_off16 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v655 : Index := Scalar.indexCast arg15
  let c8 : Index := 8#32
  let c0_372 : Index := 0#32
  ![v655.toNat, 8, 0]
def k0_off17 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v661 : Index := Scalar.indexCast arg15
  let c8_373 : Index := 8#32
  let c0_374 : Index := 0#32
  ![v661.toNat, 8, 0]
def k0_off18 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v664 : Index := Scalar.indexCast arg15
  let c9 : Index := 9#32
  let c0_375 : Index := 0#32
  ![v664.toNat, 9, 0]
def k0_off19 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v670 : Index := Scalar.indexCast arg15
  let c9_376 : Index := 9#32
  let c0_377 : Index := 0#32
  ![v670.toNat, 9, 0]
def k0_off20 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v673 : Index := Scalar.indexCast arg15
  let c10 : Index := 10#32
  let c0_378 : Index := 0#32
  ![v673.toNat, 10, 0]
def k0_off21 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v679 : Index := Scalar.indexCast arg15
  let c10_379 : Index := 10#32
  let c0_380 : Index := 0#32
  ![v679.toNat, 10, 0]
def k0_off22 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v682 : Index := Scalar.indexCast arg15
  let c11 : Index := 11#32
  let c0_381 : Index := 0#32
  ![v682.toNat, 11, 0]
def k0_off23 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v688 : Index := Scalar.indexCast arg15
  let c11_382 : Index := 11#32
  let c0_383 : Index := 0#32
  ![v688.toNat, 11, 0]
def k0_off24 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v691 : Index := Scalar.indexCast arg15
  let c12 : Index := 12#32
  let c0_384 : Index := 0#32
  ![v691.toNat, 12, 0]
def k0_off25 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v697 : Index := Scalar.indexCast arg15
  let c12_385 : Index := 12#32
  let c0_386 : Index := 0#32
  ![v697.toNat, 12, 0]
def k0_off26 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v700 : Index := Scalar.indexCast arg15
  let c13 : Index := 13#32
  let c0_387 : Index := 0#32
  ![v700.toNat, 13, 0]
def k0_off27 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v706 : Index := Scalar.indexCast arg15
  let c13_388 : Index := 13#32
  let c0_389 : Index := 0#32
  ![v706.toNat, 13, 0]
def k0_off28 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v709 : Index := Scalar.indexCast arg15
  let c14 : Index := 14#32
  let c0_390 : Index := 0#32
  ![v709.toNat, 14, 0]
def k0_off29 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v715 : Index := Scalar.indexCast arg15
  let c14_391 : Index := 14#32
  let c0_392 : Index := 0#32
  ![v715.toNat, 14, 0]
def k0_off30 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v718 : Index := Scalar.indexCast arg15
  let c15 : Index := 15#32
  let c0_393 : Index := 0#32
  ![v718.toNat, 15, 0]
def k0_off31 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v724 : Index := Scalar.indexCast arg15
  let c15_394 : Index := 15#32
  let c0_395 : Index := 0#32
  ![v724.toNat, 15, 0]
def k0_off32 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v727 : Index := Scalar.indexCast arg15
  let c16_396 : Index := 16#32
  let c0_397 : Index := 0#32
  ![v727.toNat, 16, 0]
def k0_off33 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v733 : Index := Scalar.indexCast arg15
  let c16_398 : Index := 16#32
  let c0_399 : Index := 0#32
  ![v733.toNat, 16, 0]
def k0_off34 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v736 : Index := Scalar.indexCast arg15
  let c17 : Index := 17#32
  let c0_400 : Index := 0#32
  ![v736.toNat, 17, 0]
def k0_off35 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v742 : Index := Scalar.indexCast arg15
  let c17_401 : Index := 17#32
  let c0_402 : Index := 0#32
  ![v742.toNat, 17, 0]
def k0_off36 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v745 : Index := Scalar.indexCast arg15
  let c18 : Index := 18#32
  let c0_403 : Index := 0#32
  ![v745.toNat, 18, 0]
def k0_off37 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v751 : Index := Scalar.indexCast arg15
  let c18_404 : Index := 18#32
  let c0_405 : Index := 0#32
  ![v751.toNat, 18, 0]
def k0_off38 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v754 : Index := Scalar.indexCast arg15
  let c19 : Index := 19#32
  let c0_406 : Index := 0#32
  ![v754.toNat, 19, 0]
def k0_off39 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v760 : Index := Scalar.indexCast arg15
  let c19_407 : Index := 19#32
  let c0_408 : Index := 0#32
  ![v760.toNat, 19, 0]
def k0_off40 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v763 : Index := Scalar.indexCast arg15
  let c20 : Index := 20#32
  let c0_409 : Index := 0#32
  ![v763.toNat, 20, 0]
def k0_off41 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v769 : Index := Scalar.indexCast arg15
  let c20_410 : Index := 20#32
  let c0_411 : Index := 0#32
  ![v769.toNat, 20, 0]
def k0_off42 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v772 : Index := Scalar.indexCast arg15
  let c21 : Index := 21#32
  let c0_412 : Index := 0#32
  ![v772.toNat, 21, 0]
def k0_off43 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v778 : Index := Scalar.indexCast arg15
  let c21_413 : Index := 21#32
  let c0_414 : Index := 0#32
  ![v778.toNat, 21, 0]
def k0_off44 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v781 : Index := Scalar.indexCast arg15
  let c22 : Index := 22#32
  let c0_415 : Index := 0#32
  ![v781.toNat, 22, 0]
def k0_off45 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v787 : Index := Scalar.indexCast arg15
  let c22_416 : Index := 22#32
  let c0_417 : Index := 0#32
  ![v787.toNat, 22, 0]
def k0_off46 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v790 : Index := Scalar.indexCast arg15
  let c23 : Index := 23#32
  let c0_418 : Index := 0#32
  ![v790.toNat, 23, 0]
def k0_off47 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v796 : Index := Scalar.indexCast arg15
  let c23_419 : Index := 23#32
  let c0_420 : Index := 0#32
  ![v796.toNat, 23, 0]
def k0_off48 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v799 : Index := Scalar.indexCast arg15
  let c24 : Index := 24#32
  let c0_421 : Index := 0#32
  ![v799.toNat, 24, 0]
def k0_off49 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v805 : Index := Scalar.indexCast arg15
  let c24_422 : Index := 24#32
  let c0_423 : Index := 0#32
  ![v805.toNat, 24, 0]
def k0_off50 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v808 : Index := Scalar.indexCast arg15
  let c25 : Index := 25#32
  let c0_424 : Index := 0#32
  ![v808.toNat, 25, 0]
def k0_off51 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v814 : Index := Scalar.indexCast arg15
  let c25_425 : Index := 25#32
  let c0_426 : Index := 0#32
  ![v814.toNat, 25, 0]
def k0_off52 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v817 : Index := Scalar.indexCast arg15
  let c26 : Index := 26#32
  let c0_427 : Index := 0#32
  ![v817.toNat, 26, 0]
def k0_off53 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v823 : Index := Scalar.indexCast arg15
  let c26_428 : Index := 26#32
  let c0_429 : Index := 0#32
  ![v823.toNat, 26, 0]
def k0_off54 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v826 : Index := Scalar.indexCast arg15
  let c27 : Index := 27#32
  let c0_430 : Index := 0#32
  ![v826.toNat, 27, 0]
def k0_off55 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v832 : Index := Scalar.indexCast arg15
  let c27_431 : Index := 27#32
  let c0_432 : Index := 0#32
  ![v832.toNat, 27, 0]
def k0_off56 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v835 : Index := Scalar.indexCast arg15
  let c28 : Index := 28#32
  let c0_433 : Index := 0#32
  ![v835.toNat, 28, 0]
def k0_off57 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v841 : Index := Scalar.indexCast arg15
  let c28_434 : Index := 28#32
  let c0_435 : Index := 0#32
  ![v841.toNat, 28, 0]
def k0_off58 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v844 : Index := Scalar.indexCast arg15
  let c29 : Index := 29#32
  let c0_436 : Index := 0#32
  ![v844.toNat, 29, 0]
def k0_off59 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v850 : Index := Scalar.indexCast arg15
  let c29_437 : Index := 29#32
  let c0_438 : Index := 0#32
  ![v850.toNat, 29, 0]
def k0_off60 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v853 : Index := Scalar.indexCast arg15
  let c30 : Index := 30#32
  let c0_439 : Index := 0#32
  ![v853.toNat, 30, 0]
def k0_off61 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v859 : Index := Scalar.indexCast arg15
  let c30_440 : Index := 30#32
  let c0_441 : Index := 0#32
  ![v859.toNat, 30, 0]
def k0_off62 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v862 : Index := Scalar.indexCast arg15
  let c31 : Index := 31#32
  let c0_442 : Index := 0#32
  ![v862.toNat, 31, 0]
def k0_off63 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v868 : Index := Scalar.indexCast arg15
  let c0_443 : Index := 0#32
  let c0_444 : Index := 0#32
  ![v868.toNat, 0, 0]
def k0_off64 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v876 : Index := Scalar.indexCast arg15
  let c65 : Index := 65#32
  let c0_448 : Index := 0#32
  ![v876.toNat, 65, 0]
def k0_off65 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v885 : Index := Scalar.indexCast arg15
  let c66 : Index := 66#32
  let c0_451 : Index := 0#32
  ![v885.toNat, 66, 0]
def k0_off66 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v894 : Index := Scalar.indexCast arg15
  let c67 : Index := 67#32
  let c0_454 : Index := 0#32
  ![v894.toNat, 67, 0]
def k0_off67 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v903 : Index := Scalar.indexCast arg15
  let c68 : Index := 68#32
  let c0_457 : Index := 0#32
  ![v903.toNat, 68, 0]
def k0_off68 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v912 : Index := Scalar.indexCast arg15
  let c69 : Index := 69#32
  let c0_460 : Index := 0#32
  ![v912.toNat, 69, 0]
def k0_off69 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v921 : Index := Scalar.indexCast arg15
  let c70 : Index := 70#32
  let c0_463 : Index := 0#32
  ![v921.toNat, 70, 0]
def k0_off70 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v930 : Index := Scalar.indexCast arg15
  let c71 : Index := 71#32
  let c0_466 : Index := 0#32
  ![v930.toNat, 71, 0]
def k0_off71 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v939 : Index := Scalar.indexCast arg15
  let c72 : Index := 72#32
  let c0_469 : Index := 0#32
  ![v939.toNat, 72, 0]
def k0_off72 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v948 : Index := Scalar.indexCast arg15
  let c73 : Index := 73#32
  let c0_472 : Index := 0#32
  ![v948.toNat, 73, 0]
def k0_off73 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v957 : Index := Scalar.indexCast arg15
  let c74 : Index := 74#32
  let c0_475 : Index := 0#32
  ![v957.toNat, 74, 0]
def k0_off74 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v966 : Index := Scalar.indexCast arg15
  let c75 : Index := 75#32
  let c0_478 : Index := 0#32
  ![v966.toNat, 75, 0]
def k0_off75 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v975 : Index := Scalar.indexCast arg15
  let c76 : Index := 76#32
  let c0_481 : Index := 0#32
  ![v975.toNat, 76, 0]
def k0_off76 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v984 : Index := Scalar.indexCast arg15
  let c77 : Index := 77#32
  let c0_484 : Index := 0#32
  ![v984.toNat, 77, 0]
def k0_off77 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v993 : Index := Scalar.indexCast arg15
  let c78 : Index := 78#32
  let c0_487 : Index := 0#32
  ![v993.toNat, 78, 0]
def k0_off78 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1002 : Index := Scalar.indexCast arg15
  let c79 : Index := 79#32
  let c0_490 : Index := 0#32
  ![v1002.toNat, 79, 0]
def k0_off79 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1011 : Index := Scalar.indexCast arg15
  let c80 : Index := 80#32
  let c0_493 : Index := 0#32
  ![v1011.toNat, 80, 0]
def k0_off80 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1020 : Index := Scalar.indexCast arg15
  let c81 : Index := 81#32
  let c0_496 : Index := 0#32
  ![v1020.toNat, 81, 0]
def k0_off81 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1029 : Index := Scalar.indexCast arg15
  let c82 : Index := 82#32
  let c0_499 : Index := 0#32
  ![v1029.toNat, 82, 0]
def k0_off82 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1038 : Index := Scalar.indexCast arg15
  let c83 : Index := 83#32
  let c0_502 : Index := 0#32
  ![v1038.toNat, 83, 0]
def k0_off83 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1047 : Index := Scalar.indexCast arg15
  let c84 : Index := 84#32
  let c0_505 : Index := 0#32
  ![v1047.toNat, 84, 0]
def k0_off84 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1056 : Index := Scalar.indexCast arg15
  let c85 : Index := 85#32
  let c0_508 : Index := 0#32
  ![v1056.toNat, 85, 0]
def k0_off85 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1065 : Index := Scalar.indexCast arg15
  let c86 : Index := 86#32
  let c0_511 : Index := 0#32
  ![v1065.toNat, 86, 0]
def k0_off86 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1074 : Index := Scalar.indexCast arg15
  let c87 : Index := 87#32
  let c0_514 : Index := 0#32
  ![v1074.toNat, 87, 0]
def k0_off87 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1083 : Index := Scalar.indexCast arg15
  let c88 : Index := 88#32
  let c0_517 : Index := 0#32
  ![v1083.toNat, 88, 0]
def k0_off88 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1092 : Index := Scalar.indexCast arg15
  let c89 : Index := 89#32
  let c0_520 : Index := 0#32
  ![v1092.toNat, 89, 0]
def k0_off89 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1101 : Index := Scalar.indexCast arg15
  let c90 : Index := 90#32
  let c0_523 : Index := 0#32
  ![v1101.toNat, 90, 0]
def k0_off90 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1110 : Index := Scalar.indexCast arg15
  let c91 : Index := 91#32
  let c0_526 : Index := 0#32
  ![v1110.toNat, 91, 0]
def k0_off91 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1119 : Index := Scalar.indexCast arg15
  let c92 : Index := 92#32
  let c0_529 : Index := 0#32
  ![v1119.toNat, 92, 0]
def k0_off92 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1128 : Index := Scalar.indexCast arg15
  let c93 : Index := 93#32
  let c0_532 : Index := 0#32
  ![v1128.toNat, 93, 0]
def k0_off93 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1137 : Index := Scalar.indexCast arg15
  let c94 : Index := 94#32
  let c0_535 : Index := 0#32
  ![v1137.toNat, 94, 0]
def k0_off94 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1146 : Index := Scalar.indexCast arg15
  let c95 : Index := 95#32
  let c0_538 : Index := 0#32
  ![v1146.toNat, 95, 0]
def k0_off95 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1152 : Index := Scalar.indexCast arg15
  let c64 : Index := 64#32
  let c0_539 : Index := 0#32
  ![v1152.toNat, 64, 0]
def k0_off96 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1160 : Index := Scalar.indexCast arg15
  let c129 : Index := 129#32
  let c0_543 : Index := 0#32
  ![v1160.toNat, 129, 0]
def k0_off97 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1169 : Index := Scalar.indexCast arg15
  let c130 : Index := 130#32
  let c0_546 : Index := 0#32
  ![v1169.toNat, 130, 0]
def k0_off98 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1178 : Index := Scalar.indexCast arg15
  let c131 : Index := 131#32
  let c0_549 : Index := 0#32
  ![v1178.toNat, 131, 0]
def k0_off99 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1187 : Index := Scalar.indexCast arg15
  let c132 : Index := 132#32
  let c0_552 : Index := 0#32
  ![v1187.toNat, 132, 0]
def k0_off100 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1196 : Index := Scalar.indexCast arg15
  let c133 : Index := 133#32
  let c0_555 : Index := 0#32
  ![v1196.toNat, 133, 0]
def k0_off101 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1205 : Index := Scalar.indexCast arg15
  let c134 : Index := 134#32
  let c0_558 : Index := 0#32
  ![v1205.toNat, 134, 0]
def k0_off102 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1214 : Index := Scalar.indexCast arg15
  let c135 : Index := 135#32
  let c0_561 : Index := 0#32
  ![v1214.toNat, 135, 0]
def k0_off103 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1223 : Index := Scalar.indexCast arg15
  let c136 : Index := 136#32
  let c0_564 : Index := 0#32
  ![v1223.toNat, 136, 0]
def k0_off104 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1232 : Index := Scalar.indexCast arg15
  let c137 : Index := 137#32
  let c0_567 : Index := 0#32
  ![v1232.toNat, 137, 0]
def k0_off105 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1241 : Index := Scalar.indexCast arg15
  let c138 : Index := 138#32
  let c0_570 : Index := 0#32
  ![v1241.toNat, 138, 0]
def k0_off106 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1250 : Index := Scalar.indexCast arg15
  let c139 : Index := 139#32
  let c0_573 : Index := 0#32
  ![v1250.toNat, 139, 0]
def k0_off107 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1259 : Index := Scalar.indexCast arg15
  let c140 : Index := 140#32
  let c0_576 : Index := 0#32
  ![v1259.toNat, 140, 0]
def k0_off108 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1268 : Index := Scalar.indexCast arg15
  let c141 : Index := 141#32
  let c0_579 : Index := 0#32
  ![v1268.toNat, 141, 0]
def k0_off109 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1277 : Index := Scalar.indexCast arg15
  let c142 : Index := 142#32
  let c0_582 : Index := 0#32
  ![v1277.toNat, 142, 0]
def k0_off110 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1286 : Index := Scalar.indexCast arg15
  let c143 : Index := 143#32
  let c0_585 : Index := 0#32
  ![v1286.toNat, 143, 0]
def k0_off111 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1295 : Index := Scalar.indexCast arg15
  let c144 : Index := 144#32
  let c0_588 : Index := 0#32
  ![v1295.toNat, 144, 0]
def k0_off112 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1304 : Index := Scalar.indexCast arg15
  let c145 : Index := 145#32
  let c0_591 : Index := 0#32
  ![v1304.toNat, 145, 0]
def k0_off113 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1313 : Index := Scalar.indexCast arg15
  let c146 : Index := 146#32
  let c0_594 : Index := 0#32
  ![v1313.toNat, 146, 0]
def k0_off114 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1322 : Index := Scalar.indexCast arg15
  let c147 : Index := 147#32
  let c0_597 : Index := 0#32
  ![v1322.toNat, 147, 0]
def k0_off115 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1331 : Index := Scalar.indexCast arg15
  let c148 : Index := 148#32
  let c0_600 : Index := 0#32
  ![v1331.toNat, 148, 0]
def k0_off116 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1340 : Index := Scalar.indexCast arg15
  let c149 : Index := 149#32
  let c0_603 : Index := 0#32
  ![v1340.toNat, 149, 0]
def k0_off117 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1349 : Index := Scalar.indexCast arg15
  let c150 : Index := 150#32
  let c0_606 : Index := 0#32
  ![v1349.toNat, 150, 0]
def k0_off118 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1358 : Index := Scalar.indexCast arg15
  let c151 : Index := 151#32
  let c0_609 : Index := 0#32
  ![v1358.toNat, 151, 0]
def k0_off119 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1367 : Index := Scalar.indexCast arg15
  let c152 : Index := 152#32
  let c0_612 : Index := 0#32
  ![v1367.toNat, 152, 0]
def k0_off120 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1376 : Index := Scalar.indexCast arg15
  let c153 : Index := 153#32
  let c0_615 : Index := 0#32
  ![v1376.toNat, 153, 0]
def k0_off121 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1385 : Index := Scalar.indexCast arg15
  let c154 : Index := 154#32
  let c0_618 : Index := 0#32
  ![v1385.toNat, 154, 0]
def k0_off122 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1394 : Index := Scalar.indexCast arg15
  let c155 : Index := 155#32
  let c0_621 : Index := 0#32
  ![v1394.toNat, 155, 0]
def k0_off123 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1403 : Index := Scalar.indexCast arg15
  let c156 : Index := 156#32
  let c0_624 : Index := 0#32
  ![v1403.toNat, 156, 0]
def k0_off124 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1412 : Index := Scalar.indexCast arg15
  let c157 : Index := 157#32
  let c0_627 : Index := 0#32
  ![v1412.toNat, 157, 0]
def k0_off125 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1421 : Index := Scalar.indexCast arg15
  let c158 : Index := 158#32
  let c0_630 : Index := 0#32
  ![v1421.toNat, 158, 0]
def k0_off126 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1430 : Index := Scalar.indexCast arg15
  let c159 : Index := 159#32
  let c0_633 : Index := 0#32
  ![v1430.toNat, 159, 0]
def k0_off127 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1436 : Index := Scalar.indexCast arg15
  let c128_634 : Index := 128#32
  let c0_635 : Index := 0#32
  ![v1436.toNat, 128, 0]
def k0_off128 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1444 : Index := Scalar.indexCast arg15
  let c193 : Index := 193#32
  let c0_639 : Index := 0#32
  ![v1444.toNat, 193, 0]
def k0_off129 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1453 : Index := Scalar.indexCast arg15
  let c194 : Index := 194#32
  let c0_642 : Index := 0#32
  ![v1453.toNat, 194, 0]
def k0_off130 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1462 : Index := Scalar.indexCast arg15
  let c195 : Index := 195#32
  let c0_645 : Index := 0#32
  ![v1462.toNat, 195, 0]
def k0_off131 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1471 : Index := Scalar.indexCast arg15
  let c196 : Index := 196#32
  let c0_648 : Index := 0#32
  ![v1471.toNat, 196, 0]
def k0_off132 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1480 : Index := Scalar.indexCast arg15
  let c197 : Index := 197#32
  let c0_651 : Index := 0#32
  ![v1480.toNat, 197, 0]
def k0_off133 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1489 : Index := Scalar.indexCast arg15
  let c198 : Index := 198#32
  let c0_654 : Index := 0#32
  ![v1489.toNat, 198, 0]
def k0_off134 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1498 : Index := Scalar.indexCast arg15
  let c199 : Index := 199#32
  let c0_657 : Index := 0#32
  ![v1498.toNat, 199, 0]
def k0_off135 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1507 : Index := Scalar.indexCast arg15
  let c200 : Index := 200#32
  let c0_660 : Index := 0#32
  ![v1507.toNat, 200, 0]
def k0_off136 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1516 : Index := Scalar.indexCast arg15
  let c201 : Index := 201#32
  let c0_663 : Index := 0#32
  ![v1516.toNat, 201, 0]
def k0_off137 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1525 : Index := Scalar.indexCast arg15
  let c202 : Index := 202#32
  let c0_666 : Index := 0#32
  ![v1525.toNat, 202, 0]
def k0_off138 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1534 : Index := Scalar.indexCast arg15
  let c203 : Index := 203#32
  let c0_669 : Index := 0#32
  ![v1534.toNat, 203, 0]
def k0_off139 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1543 : Index := Scalar.indexCast arg15
  let c204 : Index := 204#32
  let c0_672 : Index := 0#32
  ![v1543.toNat, 204, 0]
def k0_off140 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1552 : Index := Scalar.indexCast arg15
  let c205 : Index := 205#32
  let c0_675 : Index := 0#32
  ![v1552.toNat, 205, 0]
def k0_off141 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1561 : Index := Scalar.indexCast arg15
  let c206 : Index := 206#32
  let c0_678 : Index := 0#32
  ![v1561.toNat, 206, 0]
def k0_off142 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1570 : Index := Scalar.indexCast arg15
  let c207 : Index := 207#32
  let c0_681 : Index := 0#32
  ![v1570.toNat, 207, 0]
def k0_off143 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1579 : Index := Scalar.indexCast arg15
  let c208 : Index := 208#32
  let c0_684 : Index := 0#32
  ![v1579.toNat, 208, 0]
def k0_off144 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1588 : Index := Scalar.indexCast arg15
  let c209 : Index := 209#32
  let c0_687 : Index := 0#32
  ![v1588.toNat, 209, 0]
def k0_off145 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1597 : Index := Scalar.indexCast arg15
  let c210 : Index := 210#32
  let c0_690 : Index := 0#32
  ![v1597.toNat, 210, 0]
def k0_off146 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1606 : Index := Scalar.indexCast arg15
  let c211 : Index := 211#32
  let c0_693 : Index := 0#32
  ![v1606.toNat, 211, 0]
def k0_off147 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1615 : Index := Scalar.indexCast arg15
  let c212 : Index := 212#32
  let c0_696 : Index := 0#32
  ![v1615.toNat, 212, 0]
def k0_off148 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1624 : Index := Scalar.indexCast arg15
  let c213 : Index := 213#32
  let c0_699 : Index := 0#32
  ![v1624.toNat, 213, 0]
def k0_off149 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1633 : Index := Scalar.indexCast arg15
  let c214 : Index := 214#32
  let c0_702 : Index := 0#32
  ![v1633.toNat, 214, 0]
def k0_off150 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1642 : Index := Scalar.indexCast arg15
  let c215 : Index := 215#32
  let c0_705 : Index := 0#32
  ![v1642.toNat, 215, 0]
def k0_off151 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1651 : Index := Scalar.indexCast arg15
  let c216 : Index := 216#32
  let c0_708 : Index := 0#32
  ![v1651.toNat, 216, 0]
def k0_off152 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1660 : Index := Scalar.indexCast arg15
  let c217 : Index := 217#32
  let c0_711 : Index := 0#32
  ![v1660.toNat, 217, 0]
def k0_off153 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1669 : Index := Scalar.indexCast arg15
  let c218 : Index := 218#32
  let c0_714 : Index := 0#32
  ![v1669.toNat, 218, 0]
def k0_off154 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1678 : Index := Scalar.indexCast arg15
  let c219 : Index := 219#32
  let c0_717 : Index := 0#32
  ![v1678.toNat, 219, 0]
def k0_off155 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1687 : Index := Scalar.indexCast arg15
  let c220 : Index := 220#32
  let c0_720 : Index := 0#32
  ![v1687.toNat, 220, 0]
def k0_off156 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1696 : Index := Scalar.indexCast arg15
  let c221 : Index := 221#32
  let c0_723 : Index := 0#32
  ![v1696.toNat, 221, 0]
def k0_off157 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1705 : Index := Scalar.indexCast arg15
  let c222 : Index := 222#32
  let c0_726 : Index := 0#32
  ![v1705.toNat, 222, 0]
def k0_off158 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1714 : Index := Scalar.indexCast arg15
  let c223 : Index := 223#32
  let c0_729 : Index := 0#32
  ![v1714.toNat, 223, 0]
def k0_off159 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1720 : Index := Scalar.indexCast arg15
  let c192 : Index := 192#32
  let c0_730 : Index := 0#32
  ![v1720.toNat, 192, 0]
def k0_off160 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1728 : Index := Scalar.indexCast arg15
  let c257 : Index := 257#32
  let c0_734 : Index := 0#32
  ![v1728.toNat, 257, 0]
def k0_off161 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1737 : Index := Scalar.indexCast arg15
  let c258 : Index := 258#32
  let c0_737 : Index := 0#32
  ![v1737.toNat, 258, 0]
def k0_off162 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1746 : Index := Scalar.indexCast arg15
  let c259 : Index := 259#32
  let c0_740 : Index := 0#32
  ![v1746.toNat, 259, 0]
def k0_off163 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1755 : Index := Scalar.indexCast arg15
  let c260 : Index := 260#32
  let c0_743 : Index := 0#32
  ![v1755.toNat, 260, 0]
def k0_off164 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1764 : Index := Scalar.indexCast arg15
  let c261 : Index := 261#32
  let c0_746 : Index := 0#32
  ![v1764.toNat, 261, 0]
def k0_off165 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1773 : Index := Scalar.indexCast arg15
  let c262 : Index := 262#32
  let c0_749 : Index := 0#32
  ![v1773.toNat, 262, 0]
def k0_off166 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1782 : Index := Scalar.indexCast arg15
  let c263 : Index := 263#32
  let c0_752 : Index := 0#32
  ![v1782.toNat, 263, 0]
def k0_off167 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1791 : Index := Scalar.indexCast arg15
  let c264 : Index := 264#32
  let c0_755 : Index := 0#32
  ![v1791.toNat, 264, 0]
def k0_off168 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1800 : Index := Scalar.indexCast arg15
  let c265 : Index := 265#32
  let c0_758 : Index := 0#32
  ![v1800.toNat, 265, 0]
def k0_off169 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1809 : Index := Scalar.indexCast arg15
  let c266 : Index := 266#32
  let c0_761 : Index := 0#32
  ![v1809.toNat, 266, 0]
def k0_off170 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1818 : Index := Scalar.indexCast arg15
  let c267 : Index := 267#32
  let c0_764 : Index := 0#32
  ![v1818.toNat, 267, 0]
def k0_off171 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1827 : Index := Scalar.indexCast arg15
  let c268 : Index := 268#32
  let c0_767 : Index := 0#32
  ![v1827.toNat, 268, 0]
def k0_off172 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1836 : Index := Scalar.indexCast arg15
  let c269 : Index := 269#32
  let c0_770 : Index := 0#32
  ![v1836.toNat, 269, 0]
def k0_off173 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1845 : Index := Scalar.indexCast arg15
  let c270 : Index := 270#32
  let c0_773 : Index := 0#32
  ![v1845.toNat, 270, 0]
def k0_off174 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1854 : Index := Scalar.indexCast arg15
  let c271 : Index := 271#32
  let c0_776 : Index := 0#32
  ![v1854.toNat, 271, 0]
def k0_off175 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1863 : Index := Scalar.indexCast arg15
  let c272 : Index := 272#32
  let c0_779 : Index := 0#32
  ![v1863.toNat, 272, 0]
def k0_off176 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1872 : Index := Scalar.indexCast arg15
  let c273 : Index := 273#32
  let c0_782 : Index := 0#32
  ![v1872.toNat, 273, 0]
def k0_off177 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1881 : Index := Scalar.indexCast arg15
  let c274 : Index := 274#32
  let c0_785 : Index := 0#32
  ![v1881.toNat, 274, 0]
def k0_off178 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1890 : Index := Scalar.indexCast arg15
  let c275 : Index := 275#32
  let c0_788 : Index := 0#32
  ![v1890.toNat, 275, 0]
def k0_off179 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1899 : Index := Scalar.indexCast arg15
  let c276 : Index := 276#32
  let c0_791 : Index := 0#32
  ![v1899.toNat, 276, 0]
def k0_off180 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1908 : Index := Scalar.indexCast arg15
  let c277 : Index := 277#32
  let c0_794 : Index := 0#32
  ![v1908.toNat, 277, 0]
def k0_off181 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1917 : Index := Scalar.indexCast arg15
  let c278 : Index := 278#32
  let c0_797 : Index := 0#32
  ![v1917.toNat, 278, 0]
def k0_off182 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1926 : Index := Scalar.indexCast arg15
  let c279 : Index := 279#32
  let c0_800 : Index := 0#32
  ![v1926.toNat, 279, 0]
def k0_off183 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1935 : Index := Scalar.indexCast arg15
  let c280 : Index := 280#32
  let c0_803 : Index := 0#32
  ![v1935.toNat, 280, 0]
def k0_off184 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1944 : Index := Scalar.indexCast arg15
  let c281 : Index := 281#32
  let c0_806 : Index := 0#32
  ![v1944.toNat, 281, 0]
def k0_off185 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1953 : Index := Scalar.indexCast arg15
  let c282 : Index := 282#32
  let c0_809 : Index := 0#32
  ![v1953.toNat, 282, 0]
def k0_off186 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1962 : Index := Scalar.indexCast arg15
  let c283 : Index := 283#32
  let c0_812 : Index := 0#32
  ![v1962.toNat, 283, 0]
def k0_off187 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1971 : Index := Scalar.indexCast arg15
  let c284 : Index := 284#32
  let c0_815 : Index := 0#32
  ![v1971.toNat, 284, 0]
def k0_off188 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1980 : Index := Scalar.indexCast arg15
  let c285 : Index := 285#32
  let c0_818 : Index := 0#32
  ![v1980.toNat, 285, 0]
def k0_off189 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1989 : Index := Scalar.indexCast arg15
  let c286 : Index := 286#32
  let c0_821 : Index := 0#32
  ![v1989.toNat, 286, 0]
def k0_off190 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v1998 : Index := Scalar.indexCast arg15
  let c287 : Index := 287#32
  let c0_824 : Index := 0#32
  ![v1998.toNat, 287, 0]
def k0_off191 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2004 : Index := Scalar.indexCast arg15
  let c256_825 : Index := 256#32
  let c0_826 : Index := 0#32
  ![v2004.toNat, 256, 0]
def k0_off192 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2012 : Index := Scalar.indexCast arg15
  let c321 : Index := 321#32
  let c0_830 : Index := 0#32
  ![v2012.toNat, 321, 0]
def k0_off193 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2021 : Index := Scalar.indexCast arg15
  let c322 : Index := 322#32
  let c0_833 : Index := 0#32
  ![v2021.toNat, 322, 0]
def k0_off194 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2030 : Index := Scalar.indexCast arg15
  let c323 : Index := 323#32
  let c0_836 : Index := 0#32
  ![v2030.toNat, 323, 0]
def k0_off195 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2039 : Index := Scalar.indexCast arg15
  let c324 : Index := 324#32
  let c0_839 : Index := 0#32
  ![v2039.toNat, 324, 0]
def k0_off196 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2048 : Index := Scalar.indexCast arg15
  let c325 : Index := 325#32
  let c0_842 : Index := 0#32
  ![v2048.toNat, 325, 0]
def k0_off197 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2057 : Index := Scalar.indexCast arg15
  let c326 : Index := 326#32
  let c0_845 : Index := 0#32
  ![v2057.toNat, 326, 0]
def k0_off198 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2066 : Index := Scalar.indexCast arg15
  let c327 : Index := 327#32
  let c0_848 : Index := 0#32
  ![v2066.toNat, 327, 0]
def k0_off199 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2075 : Index := Scalar.indexCast arg15
  let c328 : Index := 328#32
  let c0_851 : Index := 0#32
  ![v2075.toNat, 328, 0]
def k0_off200 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2084 : Index := Scalar.indexCast arg15
  let c329 : Index := 329#32
  let c0_854 : Index := 0#32
  ![v2084.toNat, 329, 0]
def k0_off201 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2093 : Index := Scalar.indexCast arg15
  let c330 : Index := 330#32
  let c0_857 : Index := 0#32
  ![v2093.toNat, 330, 0]
def k0_off202 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2102 : Index := Scalar.indexCast arg15
  let c331 : Index := 331#32
  let c0_860 : Index := 0#32
  ![v2102.toNat, 331, 0]
def k0_off203 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2111 : Index := Scalar.indexCast arg15
  let c332 : Index := 332#32
  let c0_863 : Index := 0#32
  ![v2111.toNat, 332, 0]
def k0_off204 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2120 : Index := Scalar.indexCast arg15
  let c333 : Index := 333#32
  let c0_866 : Index := 0#32
  ![v2120.toNat, 333, 0]
def k0_off205 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2129 : Index := Scalar.indexCast arg15
  let c334 : Index := 334#32
  let c0_869 : Index := 0#32
  ![v2129.toNat, 334, 0]
def k0_off206 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2138 : Index := Scalar.indexCast arg15
  let c335 : Index := 335#32
  let c0_872 : Index := 0#32
  ![v2138.toNat, 335, 0]
def k0_off207 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2147 : Index := Scalar.indexCast arg15
  let c336 : Index := 336#32
  let c0_875 : Index := 0#32
  ![v2147.toNat, 336, 0]
def k0_off208 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2156 : Index := Scalar.indexCast arg15
  let c337 : Index := 337#32
  let c0_878 : Index := 0#32
  ![v2156.toNat, 337, 0]
def k0_off209 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2165 : Index := Scalar.indexCast arg15
  let c338 : Index := 338#32
  let c0_881 : Index := 0#32
  ![v2165.toNat, 338, 0]
def k0_off210 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2174 : Index := Scalar.indexCast arg15
  let c339 : Index := 339#32
  let c0_884 : Index := 0#32
  ![v2174.toNat, 339, 0]
def k0_off211 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2183 : Index := Scalar.indexCast arg15
  let c340 : Index := 340#32
  let c0_887 : Index := 0#32
  ![v2183.toNat, 340, 0]
def k0_off212 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2192 : Index := Scalar.indexCast arg15
  let c341 : Index := 341#32
  let c0_890 : Index := 0#32
  ![v2192.toNat, 341, 0]
def k0_off213 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2201 : Index := Scalar.indexCast arg15
  let c342 : Index := 342#32
  let c0_893 : Index := 0#32
  ![v2201.toNat, 342, 0]
def k0_off214 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2210 : Index := Scalar.indexCast arg15
  let c343 : Index := 343#32
  let c0_896 : Index := 0#32
  ![v2210.toNat, 343, 0]
def k0_off215 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2219 : Index := Scalar.indexCast arg15
  let c344 : Index := 344#32
  let c0_899 : Index := 0#32
  ![v2219.toNat, 344, 0]
def k0_off216 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2228 : Index := Scalar.indexCast arg15
  let c345 : Index := 345#32
  let c0_902 : Index := 0#32
  ![v2228.toNat, 345, 0]
def k0_off217 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2237 : Index := Scalar.indexCast arg15
  let c346 : Index := 346#32
  let c0_905 : Index := 0#32
  ![v2237.toNat, 346, 0]
def k0_off218 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2246 : Index := Scalar.indexCast arg15
  let c347 : Index := 347#32
  let c0_908 : Index := 0#32
  ![v2246.toNat, 347, 0]
def k0_off219 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2255 : Index := Scalar.indexCast arg15
  let c348 : Index := 348#32
  let c0_911 : Index := 0#32
  ![v2255.toNat, 348, 0]
def k0_off220 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2264 : Index := Scalar.indexCast arg15
  let c349 : Index := 349#32
  let c0_914 : Index := 0#32
  ![v2264.toNat, 349, 0]
def k0_off221 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2273 : Index := Scalar.indexCast arg15
  let c350 : Index := 350#32
  let c0_917 : Index := 0#32
  ![v2273.toNat, 350, 0]
def k0_off222 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2282 : Index := Scalar.indexCast arg15
  let c351 : Index := 351#32
  let c0_920 : Index := 0#32
  ![v2282.toNat, 351, 0]
def k0_off223 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2288 : Index := Scalar.indexCast arg15
  let c320 : Index := 320#32
  let c0_921 : Index := 0#32
  ![v2288.toNat, 320, 0]
def k0_off224 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2296 : Index := Scalar.indexCast arg15
  let c385 : Index := 385#32
  let c0_925 : Index := 0#32
  ![v2296.toNat, 385, 0]
def k0_off225 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2305 : Index := Scalar.indexCast arg15
  let c386 : Index := 386#32
  let c0_928 : Index := 0#32
  ![v2305.toNat, 386, 0]
def k0_off226 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2314 : Index := Scalar.indexCast arg15
  let c387 : Index := 387#32
  let c0_931 : Index := 0#32
  ![v2314.toNat, 387, 0]
def k0_off227 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2323 : Index := Scalar.indexCast arg15
  let c388 : Index := 388#32
  let c0_934 : Index := 0#32
  ![v2323.toNat, 388, 0]
def k0_off228 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2332 : Index := Scalar.indexCast arg15
  let c389 : Index := 389#32
  let c0_937 : Index := 0#32
  ![v2332.toNat, 389, 0]
def k0_off229 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2341 : Index := Scalar.indexCast arg15
  let c390 : Index := 390#32
  let c0_940 : Index := 0#32
  ![v2341.toNat, 390, 0]
def k0_off230 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2350 : Index := Scalar.indexCast arg15
  let c391 : Index := 391#32
  let c0_943 : Index := 0#32
  ![v2350.toNat, 391, 0]
def k0_off231 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2359 : Index := Scalar.indexCast arg15
  let c392 : Index := 392#32
  let c0_946 : Index := 0#32
  ![v2359.toNat, 392, 0]
def k0_off232 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2368 : Index := Scalar.indexCast arg15
  let c393 : Index := 393#32
  let c0_949 : Index := 0#32
  ![v2368.toNat, 393, 0]
def k0_off233 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2377 : Index := Scalar.indexCast arg15
  let c394 : Index := 394#32
  let c0_952 : Index := 0#32
  ![v2377.toNat, 394, 0]
def k0_off234 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2386 : Index := Scalar.indexCast arg15
  let c395 : Index := 395#32
  let c0_955 : Index := 0#32
  ![v2386.toNat, 395, 0]
def k0_off235 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2395 : Index := Scalar.indexCast arg15
  let c396 : Index := 396#32
  let c0_958 : Index := 0#32
  ![v2395.toNat, 396, 0]
def k0_off236 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2404 : Index := Scalar.indexCast arg15
  let c397 : Index := 397#32
  let c0_961 : Index := 0#32
  ![v2404.toNat, 397, 0]
def k0_off237 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2413 : Index := Scalar.indexCast arg15
  let c398 : Index := 398#32
  let c0_964 : Index := 0#32
  ![v2413.toNat, 398, 0]
def k0_off238 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2422 : Index := Scalar.indexCast arg15
  let c399 : Index := 399#32
  let c0_967 : Index := 0#32
  ![v2422.toNat, 399, 0]
def k0_off239 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2431 : Index := Scalar.indexCast arg15
  let c400 : Index := 400#32
  let c0_970 : Index := 0#32
  ![v2431.toNat, 400, 0]
def k0_off240 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2440 : Index := Scalar.indexCast arg15
  let c401 : Index := 401#32
  let c0_973 : Index := 0#32
  ![v2440.toNat, 401, 0]
def k0_off241 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2449 : Index := Scalar.indexCast arg15
  let c402 : Index := 402#32
  let c0_976 : Index := 0#32
  ![v2449.toNat, 402, 0]
def k0_off242 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2458 : Index := Scalar.indexCast arg15
  let c403 : Index := 403#32
  let c0_979 : Index := 0#32
  ![v2458.toNat, 403, 0]
def k0_off243 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2467 : Index := Scalar.indexCast arg15
  let c404 : Index := 404#32
  let c0_982 : Index := 0#32
  ![v2467.toNat, 404, 0]
def k0_off244 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2476 : Index := Scalar.indexCast arg15
  let c405 : Index := 405#32
  let c0_985 : Index := 0#32
  ![v2476.toNat, 405, 0]
def k0_off245 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2485 : Index := Scalar.indexCast arg15
  let c406 : Index := 406#32
  let c0_988 : Index := 0#32
  ![v2485.toNat, 406, 0]
def k0_off246 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2494 : Index := Scalar.indexCast arg15
  let c407 : Index := 407#32
  let c0_991 : Index := 0#32
  ![v2494.toNat, 407, 0]
def k0_off247 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2503 : Index := Scalar.indexCast arg15
  let c408 : Index := 408#32
  let c0_994 : Index := 0#32
  ![v2503.toNat, 408, 0]
def k0_off248 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2512 : Index := Scalar.indexCast arg15
  let c409 : Index := 409#32
  let c0_997 : Index := 0#32
  ![v2512.toNat, 409, 0]
def k0_off249 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2521 : Index := Scalar.indexCast arg15
  let c410 : Index := 410#32
  let c0_1000 : Index := 0#32
  ![v2521.toNat, 410, 0]
def k0_off250 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2530 : Index := Scalar.indexCast arg15
  let c411 : Index := 411#32
  let c0_1003 : Index := 0#32
  ![v2530.toNat, 411, 0]
def k0_off251 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2539 : Index := Scalar.indexCast arg15
  let c412 : Index := 412#32
  let c0_1006 : Index := 0#32
  ![v2539.toNat, 412, 0]
def k0_off252 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2548 : Index := Scalar.indexCast arg15
  let c413 : Index := 413#32
  let c0_1009 : Index := 0#32
  ![v2548.toNat, 413, 0]
def k0_off253 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2557 : Index := Scalar.indexCast arg15
  let c414 : Index := 414#32
  let c0_1012 : Index := 0#32
  ![v2557.toNat, 414, 0]
def k0_off254 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2566 : Index := Scalar.indexCast arg15
  let c415 : Index := 415#32
  let c0_1015 : Index := 0#32
  ![v2566.toNat, 415, 0]
def k0_off255 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2572 : Index := Scalar.indexCast arg15
  let c384_1016 : Index := 384#32
  let c0_1017 : Index := 0#32
  ![v2572.toNat, 384, 0]
def k0_off256 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2580 : Index := Scalar.indexCast arg15
  let c449 : Index := 449#32
  let c0_1021 : Index := 0#32
  ![v2580.toNat, 449, 0]
def k0_off257 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2589 : Index := Scalar.indexCast arg15
  let c450 : Index := 450#32
  let c0_1024 : Index := 0#32
  ![v2589.toNat, 450, 0]
def k0_off258 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2598 : Index := Scalar.indexCast arg15
  let c451 : Index := 451#32
  let c0_1027 : Index := 0#32
  ![v2598.toNat, 451, 0]
def k0_off259 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2607 : Index := Scalar.indexCast arg15
  let c452 : Index := 452#32
  let c0_1030 : Index := 0#32
  ![v2607.toNat, 452, 0]
def k0_off260 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2616 : Index := Scalar.indexCast arg15
  let c453 : Index := 453#32
  let c0_1033 : Index := 0#32
  ![v2616.toNat, 453, 0]
def k0_off261 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2625 : Index := Scalar.indexCast arg15
  let c454 : Index := 454#32
  let c0_1036 : Index := 0#32
  ![v2625.toNat, 454, 0]
def k0_off262 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2634 : Index := Scalar.indexCast arg15
  let c455 : Index := 455#32
  let c0_1039 : Index := 0#32
  ![v2634.toNat, 455, 0]
def k0_off263 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2643 : Index := Scalar.indexCast arg15
  let c456 : Index := 456#32
  let c0_1042 : Index := 0#32
  ![v2643.toNat, 456, 0]
def k0_off264 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2652 : Index := Scalar.indexCast arg15
  let c457 : Index := 457#32
  let c0_1045 : Index := 0#32
  ![v2652.toNat, 457, 0]
def k0_off265 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2661 : Index := Scalar.indexCast arg15
  let c458 : Index := 458#32
  let c0_1048 : Index := 0#32
  ![v2661.toNat, 458, 0]
def k0_off266 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2670 : Index := Scalar.indexCast arg15
  let c459 : Index := 459#32
  let c0_1051 : Index := 0#32
  ![v2670.toNat, 459, 0]
def k0_off267 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2679 : Index := Scalar.indexCast arg15
  let c460 : Index := 460#32
  let c0_1054 : Index := 0#32
  ![v2679.toNat, 460, 0]
def k0_off268 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2688 : Index := Scalar.indexCast arg15
  let c461 : Index := 461#32
  let c0_1057 : Index := 0#32
  ![v2688.toNat, 461, 0]
def k0_off269 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2697 : Index := Scalar.indexCast arg15
  let c462 : Index := 462#32
  let c0_1060 : Index := 0#32
  ![v2697.toNat, 462, 0]
def k0_off270 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2706 : Index := Scalar.indexCast arg15
  let c463 : Index := 463#32
  let c0_1063 : Index := 0#32
  ![v2706.toNat, 463, 0]
def k0_off271 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2715 : Index := Scalar.indexCast arg15
  let c464 : Index := 464#32
  let c0_1066 : Index := 0#32
  ![v2715.toNat, 464, 0]
def k0_off272 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2724 : Index := Scalar.indexCast arg15
  let c465 : Index := 465#32
  let c0_1069 : Index := 0#32
  ![v2724.toNat, 465, 0]
def k0_off273 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2733 : Index := Scalar.indexCast arg15
  let c466 : Index := 466#32
  let c0_1072 : Index := 0#32
  ![v2733.toNat, 466, 0]
def k0_off274 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2742 : Index := Scalar.indexCast arg15
  let c467 : Index := 467#32
  let c0_1075 : Index := 0#32
  ![v2742.toNat, 467, 0]
def k0_off275 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2751 : Index := Scalar.indexCast arg15
  let c468 : Index := 468#32
  let c0_1078 : Index := 0#32
  ![v2751.toNat, 468, 0]
def k0_off276 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2760 : Index := Scalar.indexCast arg15
  let c469 : Index := 469#32
  let c0_1081 : Index := 0#32
  ![v2760.toNat, 469, 0]
def k0_off277 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2769 : Index := Scalar.indexCast arg15
  let c470 : Index := 470#32
  let c0_1084 : Index := 0#32
  ![v2769.toNat, 470, 0]
def k0_off278 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2778 : Index := Scalar.indexCast arg15
  let c471 : Index := 471#32
  let c0_1087 : Index := 0#32
  ![v2778.toNat, 471, 0]
def k0_off279 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2787 : Index := Scalar.indexCast arg15
  let c472 : Index := 472#32
  let c0_1090 : Index := 0#32
  ![v2787.toNat, 472, 0]
def k0_off280 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2796 : Index := Scalar.indexCast arg15
  let c473 : Index := 473#32
  let c0_1093 : Index := 0#32
  ![v2796.toNat, 473, 0]
def k0_off281 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2805 : Index := Scalar.indexCast arg15
  let c474 : Index := 474#32
  let c0_1096 : Index := 0#32
  ![v2805.toNat, 474, 0]
def k0_off282 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2814 : Index := Scalar.indexCast arg15
  let c475 : Index := 475#32
  let c0_1099 : Index := 0#32
  ![v2814.toNat, 475, 0]
def k0_off283 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2823 : Index := Scalar.indexCast arg15
  let c476 : Index := 476#32
  let c0_1102 : Index := 0#32
  ![v2823.toNat, 476, 0]
def k0_off284 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2832 : Index := Scalar.indexCast arg15
  let c477 : Index := 477#32
  let c0_1105 : Index := 0#32
  ![v2832.toNat, 477, 0]
def k0_off285 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2841 : Index := Scalar.indexCast arg15
  let c478 : Index := 478#32
  let c0_1108 : Index := 0#32
  ![v2841.toNat, 478, 0]
def k0_off286 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2850 : Index := Scalar.indexCast arg15
  let c479 : Index := 479#32
  let c0_1111 : Index := 0#32
  ![v2850.toNat, 479, 0]
def k0_off287 (k0_t1 : Fin k0_t1_loop.trips) : Fin 3 → Nat :=
  let c0_i32_240 : BitVec 32 := 0#32
  let c1_i32_242 : BitVec 32 := 1#32
  let arg15 : BitVec 32 := Scf.iv c0_i32_240 c1_i32_242 k0_t1
  let v2856 : Index := Scalar.indexCast arg15
  let c448 : Index := 448#32
  let c0_1112 : Index := 0#32
  ![v2856.toNat, 448, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference8Ideal.lean ====
abbrev S2x4096x6144 : Shape := ⟨3, ![2, 4096, 6144]⟩
abbrev S31x1x1024 : Shape := ⟨3, ![31, 1, 1024]⟩
abbrev S1024 : Shape := ⟨1, ![1024]⟩
abbrev S1024x1024 : Shape := ⟨2, ![1024, 1024]⟩
abbrev S2x4096x1024 : Shape := ⟨3, ![2, 4096, 1024]⟩
abbrev S_ : Shape := ⟨0, ![]⟩
abbrev S2x15x1024 : Shape := ⟨3, ![2, 15, 1024]⟩
abbrev S2x4126x1024 : Shape := ⟨3, ![2, 4126, 1024]⟩
abbrev S1x1x1024 : Shape := ⟨3, ![1, 1, 1024]⟩
abbrev S2x4096 : Shape := ⟨2, ![2, 4096]⟩
abbrev S2x4096x1 : Shape := ⟨3, ![2, 4096, 1]⟩
abbrev S8192x1024 : Shape := ⟨2, ![8192, 1024]⟩
abbrev S8192x1 : Shape := ⟨2, ![8192, 1]⟩

abbrev nBuf : Space → Nat
  | .hbm => 288
  | .vmem => 0
  | .smem => 0
  | _ => 0

abbrev hbmTy0_0 (i : Nat) : BufTy := match i % 128 with
  | 0 => ⟨S2x4096x6144, .f32⟩
  | 1 => ⟨S31x1x1024, .f32⟩
  | 2 => ⟨S1024, .f32⟩
  | 3 => ⟨S1024, .f32⟩
  | 4 => ⟨S1024, .f32⟩
  | 5 => ⟨S1024x1024, .f32⟩
  | 6 => ⟨S2x4096x1024, .f32⟩
  | 7 => ⟨S2x4096x1024, .f32⟩
  | 8 => ⟨S2x4096x1024, .f32⟩
  | 9 => ⟨S2x4096x1024, .f32⟩
  | 10 => ⟨S_, .f32⟩
  | 11 => ⟨S2x4096x1024, .f32⟩
  | 12 => ⟨S2x4096x1024, .f32⟩
  | 13 => ⟨S_, .f32⟩
  | 14 => ⟨S2x4096x1024, .f32⟩
  | 15 => ⟨S2x4096x1024, .f32⟩
  | 16 => ⟨S2x4096x1024, .f32⟩
  | 17 => ⟨S_, .f32⟩
  | 18 => ⟨S2x15x1024, .f32⟩
  | 19 => ⟨S2x4126x1024, .f32⟩
  | 20 => ⟨S2x4096x1024, .f32⟩
  | 21 => ⟨S1x1x1024, .f32⟩
  | 22 => ⟨S1024, .f32⟩
  | 23 => ⟨S1x1x1024, .f32⟩
  | 24 => ⟨S2x4096x1024, .f32⟩
  | 25 => ⟨S2x4096x1024, .f32⟩
  | 26 => ⟨S_, .f32⟩
  | 27 => ⟨S2x4096x1024, .f32⟩
  | 28 => ⟨S2x4096x1024, .f32⟩
  | 29 => ⟨S2x4096x1024, .f32⟩
  | 30 => ⟨S1x1x1024, .f32⟩
  | 31 => ⟨S1024, .f32⟩
  | 32 => ⟨S1x1x1024, .f32⟩
  | 33 => ⟨S2x4096x1024, .f32⟩
  | 34 => ⟨S2x4096x1024, .f32⟩
  | 35 => ⟨S2x4096x1024, .f32⟩
  | 36 => ⟨S2x4096x1024, .f32⟩
  | 37 => ⟨S1x1x1024, .f32⟩
  | 38 => ⟨S1024, .f32⟩
  | 39 => ⟨S1x1x1024, .f32⟩
  | 40 => ⟨S2x4096x1024, .f32⟩
  | 41 => ⟨S2x4096x1024, .f32⟩
  | 42 => ⟨S2x4096x1024, .f32⟩
  | 43 => ⟨S2x4096x1024, .f32⟩
  | 44 => ⟨S1x1x1024, .f32⟩
  | 45 => ⟨S1024, .f32⟩
  | 46 => ⟨S1x1x1024, .f32⟩
  | 47 => ⟨S2x4096x1024, .f32⟩
  | 48 => ⟨S2x4096x1024, .f32⟩
  | 49 => ⟨S2x4096x1024, .f32⟩
  | 50 => ⟨S2x4096x1024, .f32⟩
  | 51 => ⟨S1x1x1024, .f32⟩
  | 52 => ⟨S1024, .f32⟩
  | 53 => ⟨S1x1x1024, .f32⟩
  | 54 => ⟨S2x4096x1024, .f32⟩
  | 55 => ⟨S2x4096x1024, .f32⟩
  | 56 => ⟨S2x4096x1024, .f32⟩
  | 57 => ⟨S2x4096x1024, .f32⟩
  | 58 => ⟨S1x1x1024, .f32⟩
  | 59 => ⟨S1024, .f32⟩
  | 60 => ⟨S1x1x1024, .f32⟩
  | 61 => ⟨S2x4096x1024, .f32⟩
  | 62 => ⟨S2x4096x1024, .f32⟩
  | 63 => ⟨S2x4096x1024, .f32⟩
  | 64 => ⟨S2x4096x1024, .f32⟩
  | 65 => ⟨S1x1x1024, .f32⟩
  | 66 => ⟨S1024, .f32⟩
  | 67 => ⟨S1x1x1024, .f32⟩
  | 68 => ⟨S2x4096x1024, .f32⟩
  | 69 => ⟨S2x4096x1024, .f32⟩
  | 70 => ⟨S2x4096x1024, .f32⟩
  | 71 => ⟨S2x4096x1024, .f32⟩
  | 72 => ⟨S1x1x1024, .f32⟩
  | 73 => ⟨S1024, .f32⟩
  | 74 => ⟨S1x1x1024, .f32⟩
  | 75 => ⟨S2x4096x1024, .f32⟩
  | 76 => ⟨S2x4096x1024, .f32⟩
  | 77 => ⟨S2x4096x1024, .f32⟩
  | 78 => ⟨S2x4096x1024, .f32⟩
  | 79 => ⟨S1x1x1024, .f32⟩
  | 80 => ⟨S1024, .f32⟩
  | 81 => ⟨S1x1x1024, .f32⟩
  | 82 => ⟨S2x4096x1024, .f32⟩
  | 83 => ⟨S2x4096x1024, .f32⟩
  | 84 => ⟨S2x4096x1024, .f32⟩
  | 85 => ⟨S2x4096x1024, .f32⟩
  | 86 => ⟨S1x1x1024, .f32⟩
  | 87 => ⟨S1024, .f32⟩
  | 88 => ⟨S1x1x1024, .f32⟩
  | 89 => ⟨S2x4096x1024, .f32⟩
  | 90 => ⟨S2x4096x1024, .f32⟩
  | 91 => ⟨S2x4096x1024, .f32⟩
  | 92 => ⟨S2x4096x1024, .f32⟩
  | 93 => ⟨S1x1x1024, .f32⟩
  | 94 => ⟨S1024, .f32⟩
  | 95 => ⟨S1x1x1024, .f32⟩
  | 96 => ⟨S2x4096x1024, .f32⟩
  | 97 => ⟨S2x4096x1024, .f32⟩
  | 98 => ⟨S2x4096x1024, .f32⟩
  | 99 => ⟨S2x4096x1024, .f32⟩
  | 100 => ⟨S1x1x1024, .f32⟩
  | 101 => ⟨S1024, .f32⟩
  | 102 => ⟨S1x1x1024, .f32⟩
  | 103 => ⟨S2x4096x1024, .f32⟩
  | 104 => ⟨S2x4096x1024, .f32⟩
  | 105 => ⟨S2x4096x1024, .f32⟩
  | 106 => ⟨S2x4096x1024, .f32⟩
  | 107 => ⟨S1x1x1024, .f32⟩
  | 108 => ⟨S1024, .f32⟩
  | 109 => ⟨S1x1x1024, .f32⟩
  | 110 => ⟨S2x4096x1024, .f32⟩
  | 111 => ⟨S2x4096x1024, .f32⟩
  | 112 => ⟨S2x4096x1024, .f32⟩
  | 113 => ⟨S2x4096x1024, .f32⟩
  | 114 => ⟨S1x1x1024, .f32⟩
  | 115 => ⟨S1024, .f32⟩
  | 116 => ⟨S1x1x1024, .f32⟩
  | 117 => ⟨S2x4096x1024, .f32⟩
  | 118 => ⟨S2x4096x1024, .f32⟩
  | 119 => ⟨S2x4096x1024, .f32⟩
  | 120 => ⟨S2x4096x1024, .f32⟩
  | 121 => ⟨S1x1x1024, .f32⟩
  | 122 => ⟨S1024, .f32⟩
  | 123 => ⟨S1x1x1024, .f32⟩
  | 124 => ⟨S2x4096x1024, .f32⟩
  | 125 => ⟨S2x4096x1024, .f32⟩
  | 126 => ⟨S2x4096x1024, .f32⟩
  | 127 => ⟨S2x4096x1024, .f32⟩
  | _ => ⟨S2x4096x6144, .f32⟩

abbrev hbmTy0_1 (i : Nat) : BufTy := match i % 128 with
  | 0 => ⟨S1x1x1024, .f32⟩
  | 1 => ⟨S1024, .f32⟩
  | 2 => ⟨S1x1x1024, .f32⟩
  | 3 => ⟨S2x4096x1024, .f32⟩
  | 4 => ⟨S2x4096x1024, .f32⟩
  | 5 => ⟨S2x4096x1024, .f32⟩
  | 6 => ⟨S2x4096x1024, .f32⟩
  | 7 => ⟨S1x1x1024, .f32⟩
  | 8 => ⟨S1024, .f32⟩
  | 9 => ⟨S1x1x1024, .f32⟩
  | 10 => ⟨S2x4096x1024, .f32⟩
  | 11 => ⟨S2x4096x1024, .f32⟩
  | 12 => ⟨S2x4096x1024, .f32⟩
  | 13 => ⟨S2x4096x1024, .f32⟩
  | 14 => ⟨S1x1x1024, .f32⟩
  | 15 => ⟨S1024, .f32⟩
  | 16 => ⟨S1x1x1024, .f32⟩
  | 17 => ⟨S2x4096x1024, .f32⟩
  | 18 => ⟨S2x4096x1024, .f32⟩
  | 19 => ⟨S2x4096x1024, .f32⟩
  | 20 => ⟨S2x4096x1024, .f32⟩
  | 21 => ⟨S1x1x1024, .f32⟩
  | 22 => ⟨S1024, .f32⟩
  | 23 => ⟨S1x1x1024, .f32⟩
  | 24 => ⟨S2x4096x1024, .f32⟩
  | 25 => ⟨S2x4096x1024, .f32⟩
  | 26 => ⟨S2x4096x1024, .f32⟩
  | 27 => ⟨S2x4096x1024, .f32⟩
  | 28 => ⟨S1x1x1024, .f32⟩
  | 29 => ⟨S1024, .f32⟩
  | 30 => ⟨S1x1x1024, .f32⟩
  | 31 => ⟨S2x4096x1024, .f32⟩
  | 32 => ⟨S2x4096x1024, .f32⟩
  | 33 => ⟨S2x4096x1024, .f32⟩
  | 34 => ⟨S2x4096x1024, .f32⟩
  | 35 => ⟨S1x1x1024, .f32⟩
  | 36 => ⟨S1024, .f32⟩
  | 37 => ⟨S1x1x1024, .f32⟩
  | 38 => ⟨S2x4096x1024, .f32⟩
  | 39 => ⟨S2x4096x1024, .f32⟩
  | 40 => ⟨S2x4096x1024, .f32⟩
  | 41 => ⟨S2x4096x1024, .f32⟩
  | 42 => ⟨S1x1x1024, .f32⟩
  | 43 => ⟨S1024, .f32⟩
  | 44 => ⟨S1x1x1024, .f32⟩
  | 45 => ⟨S2x4096x1024, .f32⟩
  | 46 => ⟨S2x4096x1024, .f32⟩
  | 47 => ⟨S2x4096x1024, .f32⟩
  | 48 => ⟨S2x4096x1024, .f32⟩
  | 49 => ⟨S1x1x1024, .f32⟩
  | 50 => ⟨S1024, .f32⟩
  | 51 => ⟨S1x1x1024, .f32⟩
  | 52 => ⟨S2x4096x1024, .f32⟩
  | 53 => ⟨S2x4096x1024, .f32⟩
  | 54 => ⟨S2x4096x1024, .f32⟩
  | 55 => ⟨S2x4096x1024, .f32⟩
  | 56 => ⟨S1x1x1024, .f32⟩
  | 57 => ⟨S1024, .f32⟩
  | 58 => ⟨S1x1x1024, .f32⟩
  | 59 => ⟨S2x4096x1024, .f32⟩
  | 60 => ⟨S2x4096x1024, .f32⟩
  | 61 => ⟨S2x4096x1024, .f32⟩
  | 62 => ⟨S2x4096x1024, .f32⟩
  | 63 => ⟨S1x1x1024, .f32⟩
  | 64 => ⟨S1024, .f32⟩
  | 65 => ⟨S1x1x1024, .f32⟩
  | 66 => ⟨S2x4096x1024, .f32⟩
  | 67 => ⟨S2x4096x1024, .f32⟩
  | 68 => ⟨S2x4096x1024, .f32⟩
  | 69 => ⟨S2x4096x1024, .f32⟩
  | 70 => ⟨S1x1x1024, .f32⟩
  | 71 => ⟨S1024, .f32⟩
  | 72 => ⟨S1x1x1024, .f32⟩
  | 73 => ⟨S2x4096x1024, .f32⟩
  | 74 => ⟨S2x4096x1024, .f32⟩
  | 75 => ⟨S2x4096x1024, .f32⟩
  | 76 => ⟨S2x4096x1024, .f32⟩
  | 77 => ⟨S1x1x1024, .f32⟩
  | 78 => ⟨S1024, .f32⟩
  | 79 => ⟨S1x1x1024, .f32⟩
  | 80 => ⟨S2x4096x1024, .f32⟩
  | 81 => ⟨S2x4096x1024, .f32⟩
  | 82 => ⟨S2x4096x1024, .f32⟩
  | 83 => ⟨S2x4096x1024, .f32⟩
  | 84 => ⟨S1x1x1024, .f32⟩
  | 85 => ⟨S1024, .f32⟩
  | 86 => ⟨S1x1x1024, .f32⟩
  | 87 => ⟨S2x4096x1024, .f32⟩
  | 88 => ⟨S2x4096x1024, .f32⟩
  | 89 => ⟨S2x4096x1024, .f32⟩
  | 90 => ⟨S2x4096x1024, .f32⟩
  | 91 => ⟨S1x1x1024, .f32⟩
  | 92 => ⟨S1024, .f32⟩
  | 93 => ⟨S1x1x1024, .f32⟩
  | 94 => ⟨S2x4096x1024, .f32⟩
  | 95 => ⟨S2x4096x1024, .f32⟩
  | 96 => ⟨S2x4096x1024, .f32⟩
  | 97 => ⟨S2x4096x1024, .f32⟩
  | 98 => ⟨S1x1x1024, .f32⟩
  | 99 => ⟨S1024, .f32⟩
  | 100 => ⟨S1x1x1024, .f32⟩
  | 101 => ⟨S2x4096x1024, .f32⟩
  | 102 => ⟨S2x4096x1024, .f32⟩
  | 103 => ⟨S2x4096x1024, .f32⟩
  | 104 => ⟨S2x4096x1024, .f32⟩
  | 105 => ⟨S1x1x1024, .f32⟩
  | 106 => ⟨S1024, .f32⟩
  | 107 => ⟨S1x1x1024, .f32⟩
  | 108 => ⟨S2x4096x1024, .f32⟩
  | 109 => ⟨S2x4096x1024, .f32⟩
  | 110 => ⟨S2x4096x1024, .f32⟩
  | 111 => ⟨S1x1x1024, .f32⟩
  | 112 => ⟨S2x4096x1024, .f32⟩
  | 113 => ⟨S2x4096x1024, .f32⟩
  | 114 => ⟨S_, .f32⟩
  | 115 => ⟨S2x4096, .f32⟩
  | 116 => ⟨S2x4096x1, .f32⟩
  | 117 => ⟨S_, .f32⟩
  | 118 => ⟨S2x4096x1, .f32⟩
  | 119 => ⟨S2x4096x1, .f32⟩
  | 120 => ⟨S2x4096x1024, .f32⟩
  | 121 => ⟨S2x4096x1024, .f32⟩
  | 122 => ⟨S2x4096x1024, .f32⟩
  | 123 => ⟨S_, .f32⟩
  | 124 => ⟨S2x4096, .f32⟩
  | 125 => ⟨S2x4096x1, .f32⟩
  | 126 => ⟨S_, .f32⟩
  | 127 => ⟨S2x4096x1, .f32⟩
  | _ => ⟨S2x4096x6144, .f32⟩

abbrev hbmTy0_2 (i : Nat) : BufTy := match i % 128 with
  | 0 => ⟨S2x4096x1, .f32⟩
  | 1 => ⟨S_, .f32⟩
  | 2 => ⟨S2x4096x1, .f32⟩
  | 3 => ⟨S2x4096x1, .f32⟩
  | 4 => ⟨S2x4096x1, .f32⟩
  | 5 => ⟨S2x4096x1024, .f32⟩
  | 6 => ⟨S2x4096x1024, .f32⟩
  | 7 => ⟨S1x1x1024, .f32⟩
  | 8 => ⟨S2x4096x1024, .f32⟩
  | 9 => ⟨S2x4096x1024, .f32⟩
  | 10 => ⟨S1x1x1024, .f32⟩
  | 11 => ⟨S2x4096x1024, .f32⟩
  | 12 => ⟨S2x4096x1024, .f32⟩
  | 13 => ⟨S2x4096x1024, .f32⟩
  | 14 => ⟨S2x4096x1024, .f32⟩
  | 15 => ⟨S_, .f32⟩
  | 16 => ⟨S2x4096x1024, .f32⟩
  | 17 => ⟨S2x4096x1024, .f32⟩
  | 18 => ⟨S_, .f32⟩
  | 19 => ⟨S2x4096x1024, .f32⟩
  | 20 => ⟨S2x4096x1024, .f32⟩
  | 21 => ⟨S2x4096x1024, .f32⟩
  | 22 => ⟨S2x4096x1024, .f32⟩
  | 23 => ⟨S2x4096x1024, .f32⟩
  | 24 => ⟨S8192x1024, .f32⟩
  | 25 => ⟨S8192x1024, .bf16⟩
  | 26 => ⟨S8192x1, .f32⟩
  | 27 => ⟨S8192x1024, .f32⟩
  | 28 => ⟨S8192x1024, .bf16⟩
  | 29 => ⟨S2x4096x1024, .f32⟩
  | 30 => ⟨S8192x1024, .f32⟩
  | 31 => ⟨S8192x1024, .bf16⟩
  | _ => ⟨S2x4096x6144, .f32⟩

abbrev hbmTy (i : Nat) : BufTy := match i / 128 with
  | 0 => hbmTy0_0 i
  | 1 => hbmTy0_1 i
  | 2 => hbmTy0_2 i
  | _ => ⟨S2x4096x6144, .f32⟩

abbrev bufTy : (tb : Table) → Fin (tcTables nBuf tb) → BufTy
  | .hbm, ⟨i, _⟩ => hbmTy i
  | _, _ => ⟨S2x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_cst_3 : Ref sig .tc := ⟨.hbm, 242, rfl⟩
abbrev main_v232 : Ref sig .tc := ⟨.hbm, 243, rfl⟩
abbrev main_v233 : Ref sig .tc := ⟨.hbm, 244, rfl⟩
abbrev main_cst_4 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_cst_5 : Ref sig .tc := ⟨.hbm, 251, rfl⟩
abbrev main_v239 : Ref sig .tc := ⟨.hbm, 252, rfl⟩
abbrev main_v240 : Ref sig .tc := ⟨.hbm, 253, rfl⟩
abbrev main_cst_6 : Ref sig .tc := ⟨.hbm, 254, rfl⟩
abbrev main_v241 : Ref sig .tc := ⟨.hbm, 255, rfl⟩
abbrev main_v242 : Ref sig .tc := ⟨.hbm, 256, rfl⟩
abbrev main_cst_7 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_call0_v0 : Ref sig .tc := ⟨.hbm, 269, rfl⟩
abbrev main_call0_v1 : Ref sig .tc := ⟨.hbm, 270, rfl⟩
abbrev main_call0_cst : Ref sig .tc := ⟨.hbm, 271, rfl⟩
abbrev main_call0_v2 : Ref sig .tc := ⟨.hbm, 272, rfl⟩
abbrev main_call0_v3 : Ref sig .tc := ⟨.hbm, 273, rfl⟩
abbrev main_call0_cst_0 : Ref sig .tc := ⟨.hbm, 274, rfl⟩
abbrev main_call0_v4 : Ref sig .tc := ⟨.hbm, 275, rfl⟩
abbrev main_call0_v5 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩
abbrev main_v259 : Ref sig .tc := ⟨.hbm, 282, rfl⟩
abbrev main_v260 : Ref sig .tc := ⟨.hbm, 283, rfl⟩
abbrev main_v261 : Ref sig .tc := ⟨.hbm, 284, rfl⟩
abbrev main_v262 : Ref sig .tc := ⟨.hbm, 285, rfl⟩
abbrev main_v263 : Ref sig .tc := ⟨.hbm, 286, rfl⟩
abbrev main_v264 : Ref sig .tc := ⟨.hbm, 287, rfl⟩

abbrev nD : Nat := 1
abbrev τ : Topo := Topo.v7x

variable {F : FTy → Type} [FloatOps F]
-- ==== Proof.Maths.lean ====
/- The mathematics that the gradient claims share, over the extended reals: the value of the float literals, a host
   reduction over the two leading axes of three, and the gradient of the RMS norm in its two forms. -/
module

public import Idealize.ShloMosaic.Lib.Pipeline.ValueKit
public import Idealize.ShloMosaic.Lib.Pointwise

@[expose] public section

noncomputable section

open Idealize.ShloMosaic

namespace Cert.Maths

/-! ### Literals -/

theorem lit_zero : Ideal.ofBits .f32 0#32 = 0 := by
  simp [Ideal.ofBits, Ideal.ieee, -EReal.coe_mul]

theorem lit_1024 : Ideal.ofBits .f32 1149239296#32 = ((1024 : ℝ) : EReal) := by
  simp [Ideal.ofBits, Ideal.ieee, -EReal.coe_mul]; norm_num

theorem lit_neg_half : Ideal.ofBits .f32 3204448256#32 = ((-(1 / 2) : ℝ) : EReal) := by
  simp [Ideal.ofBits, Ideal.ieee, -EReal.coe_mul]; norm_num

/-- The float word of `1e-6`, as the rational it names. -/
def eps : ℝ := (2 ^ 23 + 407485 : ℝ) * 2 ^ (-43 : Int)

theorem eps_pos : 0 < eps := by unfold eps; positivity

theorem lit_eps : Ideal.ofBits .f32 897988541#32 = (eps : EReal) := by
  simp [Ideal.ofBits, Ideal.ieee, eps, -EReal.coe_mul]; norm_num

/-- A quotient by a real that is not zero is a product with its inverse. -/
theorem div_real (x : EReal) {y : ℝ} (hy : y ≠ 0) : Ideal.div x (y : EReal) = x * ((y⁻¹ : ℝ) : EReal) := by
  rw [Ideal.div, if_neg (by exact_mod_cast hy), EReal.coe_inv]

/-! ### A host sum over the two leading axes -/

section Reduce
variable {n0 n1 n2 : Nat} {t : Shape}

theorem reduces_rank (h : (⟨3, ![n0, n1, n2]⟩ : Shape).ReducesTo [0, 1] t) : t.rank = 1 := h.1

theorem reduces_lt (h : (⟨3, ![n0, n1, n2]⟩ : Shape).ReducesTo [0, 1] t) : 0 < t.rank := reduces_rank h ▸ Nat.one_pos

theorem reduces_size (h : (⟨3, ![n0, n1, n2]⟩ : Shape).ReducesTo [0, 1] t) : t.size ⟨0, reduces_lt h⟩ = n2 :=
  h.2 ⟨0, reduces_lt h⟩

/-- An index drops to `j` exactly when its last coordinate is `j`'s only one. -/
theorem drop_eq_iff (h : (⟨3, ![n0, n1, n2]⟩ : Shape).ReducesTo [0, 1] t) (j : t.Idx) (i : (⟨3, ![n0, n1, n2]⟩ : Shape).Idx) :
    h.drop i = j ↔
      ∃ k : Fin n0 × Fin n1, ix3 k.1 k.2 ⟨(j ⟨0, reduces_lt h⟩).val, Shape.coordLt (j ⟨0, reduces_lt h⟩) (reduces_size h)⟩ = i := by
  refine ⟨fun e => ⟨(i 0, i 1), funext fun a => Fin.ext ?_⟩, ?_⟩
  · fin_cases a
    · rfl
    · rfl
    · exact (congrArg Fin.val (congrFun e ⟨0, reduces_lt h⟩)).symm
  · rintro ⟨k, rfl⟩
    funext ⟨b, hb⟩
    obtain rfl : b = 0 := by have := reduces_rank h; omega
    exact Fin.ext rfl

/-- The host's sum over the axes 0 and 1 of three is the initial value plus the double sum. -/
theorem hostSum_leading (h : (⟨3, ![n0, n1, n2]⟩ : Shape).ReducesTo [0, 1] t) (v : (⟨3, ![n0, n1, n2]⟩ : Shape).Idx → EReal)
    (init : EReal) (j : t.Idx) :
    Ideal.hostReduceAdd h v init j = init + ∑ a : Fin n0, ∑ b : Fin n1,
      v (ix3 a b ⟨(j ⟨0, reduces_lt h⟩).val, Shape.coordLt (j ⟨0, reduces_lt h⟩) (reduces_size h)⟩) := by
  refine congrArg (init + ·) ?_
  rw [Finset.sum_filter_eq_sum_of_fiber _
    (fun k : Fin n0 × Fin n1 => ix3 k.1 k.2 ⟨(j ⟨0, reduces_lt h⟩).val, Shape.coordLt (j ⟨0, reduces_lt h⟩) (reduces_size h)⟩)
    (fun _ _ e => Prod.ext (congrFun e 0) (congrFun e 1)) (drop_eq_iff h j) v, Fintype.sum_prod_type]

end Reduce

/-! ### The RMS norm and its gradient -/

/-- A nonnegative real factor goes through a finite sum of extended reals. -/
theorem sum_mul_real {ι : Type*} (s : Finset ι) (f : ι → EReal) {r : ℝ} (hr : 0 ≤ r) :
    ∑ k ∈ s, f k * (r : EReal) = (∑ k ∈ s, f k) * (r : EReal) := by
  induction s using Finset.cons_induction with
  | empty => simp
  | cons a s ha ih =>
    rw [Finset.sum_cons, Finset.sum_cons, ih,
      EReal.right_distrib_of_nonneg_of_ne_top (by exact_mod_cast hr) (EReal.coe_ne_top r)]

theorem add_self_real (a : EReal) {r : ℝ} (hr : 0 ≤ r) : a * (r : EReal) + a * (r : EReal) = a * ((r + r : ℝ) : EReal) := by
  rw [EReal.coe_add, EReal.left_distrib_of_nonneg (by exact_mod_cast hr) (by exact_mod_cast hr)]

theorem neg_add_self (b : EReal) : -b + -b = -(b + b) := by
  induction b <;> first | rfl | (norm_cast; ring)

/-- A sum of squares is not negative. -/
theorem sum_sq_nonneg {n : Nat} (x : Fin n → EReal) : 0 ≤ ∑ k, x k * x k :=
  Finset.sum_nonneg fun k _ => by
    induction x k with
    | bot => simp
    | top => simp
    | coe r => exact_mod_cast mul_self_nonneg r

/-- The mean square plus epsilon is positive. -/
theorem ms_pos {n : Nat} (x : Fin n → EReal) : 0 < Ideal.div (∑ k, x k * x k) ((1024 : ℝ) : EReal) + (eps : EReal) := by
  rw [div_real _ (by norm_num)]
  exact lt_of_lt_of_le (by exact_mod_cast eps_pos : (0 : EReal) < (eps : EReal)) (le_add_of_nonneg_left
    (mul_nonneg (sum_sq_nonneg x) (by exact_mod_cast (by norm_num : (0 : ℝ) ≤ 1024⁻¹))))

/-- The inverse root `r` of a positive number is a nonnegative real, and `r` over that number is `r³`. -/
theorem rsqrt_real {y : EReal} (hy : 0 < y) : ∃ r : ℝ, 0 ≤ r ∧ Ideal.rsqrt y = (r : EReal) ∧
    Ideal.div (r : EReal) y = ((r ^ 3 : ℝ) : EReal) := by
  induction y with
  | bot => simp at hy
  | top => exact ⟨0, le_rfl, rfl, by simp [Ideal.div]⟩
  | coe y =>
    have hy' : 0 < y := by exact_mod_cast hy
    refine ⟨(Real.sqrt y)⁻¹, by positivity, ?_, ?_⟩
    · show (if y < 0 then (⊥ : EReal) else if y = 0 then ⊤ else ((Real.sqrt y)⁻¹ : ℝ)) = _
      rw [if_neg (not_lt.mpr hy'.le), if_neg hy'.ne']
    · rw [div_real _ hy'.ne', ← EReal.coe_mul]
      congr 1
      have : y = Real.sqrt y ^ 2 := (Real.sq_sqrt hy'.le).symm
      have h2 : Real.sqrt y ≠ 0 := by positivity
      field_simp
      nlinarith [this]

/-- **The gradient of the RMS norm**: the row form (inverse root times the cotangent less its projection) is
    what differentiating the square, the mean and the inverse root one by one yields. Here `x` is the row, `d` the
    cotangent of the normalised row, `r` the inverse root. -/
theorem rms_grad {n : Nat} (x d : Fin n → EReal) (ct : EReal) {r : ℝ} (hr : 0 ≤ r) {c : ℝ} (hc : 0 < c) (j : Fin n) :
    ct + (r : EReal) * (d j - x j * (r : EReal) * Ideal.div (∑ k, d k * (x k * (r : EReal))) (c : EReal)) =
      ct + d j * (r : EReal)
        + x j * Ideal.div ((∑ k, x k * d k) * (((-(1 / 2) : ℝ) : EReal) * ((r ^ 3 : ℝ) : EReal))) (c : EReal)
        + Ideal.div ((∑ k, x k * d k) * (((-(1 / 2) : ℝ) : EReal) * ((r ^ 3 : ℝ) : EReal))) (c : EReal) * x j := by
  have hS : ∑ k, d k * (x k * (r : EReal)) = (∑ k, x k * d k) * (r : EReal) := by
    rw [← sum_mul_real _ _ hr]; exact Finset.sum_congr rfl fun k _ => by rw [← mul_assoc, mul_comm (d k)]
  have hci : 0 ≤ c⁻¹ := (inv_pos.mpr hc).le
  rw [hS, div_real _ hc.ne', div_real _ hc.ne']
  generalize (∑ k, x k * d k) = S
  have hp : 0 ≤ 1 / 2 * r ^ 3 * c⁻¹ := by positivity
  have hE : x j * (S * (((-(1 / 2) : ℝ) : EReal) * ((r ^ 3 : ℝ) : EReal)) * ((c⁻¹ : ℝ) : EReal))
      = -(x j * S * ((1 / 2 * r ^ 3 * c⁻¹ : ℝ) : EReal)) := by
    rw [← mul_neg, ← EReal.coe_neg, ← EReal.coe_mul, mul_assoc S, ← EReal.coe_mul, ← mul_assoc]
    congr 2; ring
  rw [mul_comm (S * _ * _) (x j), hE, add_assoc (ct + _), neg_add_self, add_self_real _ hp, sub_eq_add_neg,
    EReal.left_distrib_of_nonneg_of_ne_top (by exact_mod_cast hr) (EReal.coe_ne_top r), mul_comm (r : EReal) (d j), add_assoc]
  congr 2
  rw [mul_neg]
  congr 1
  have h3 : 1 / 2 * r ^ 3 * c⁻¹ + 1 / 2 * r ^ 3 * c⁻¹ = r * r * r * c⁻¹ := by ring
  rw [h3, EReal.coe_mul, EReal.coe_mul, EReal.coe_mul]
  ac_rfl

/-- The inverse root of the mean square of a row. -/
def rstd (x : Fin 1024 → EReal) : EReal :=
  Ideal.rsqrt (Ideal.div (∑ k, x k * x k) (Ideal.ofBits .f32 1149239296#32) + Ideal.ofBits .f32 897988541#32)

/-- The row form of the RMS norm's gradient: `x` the row, `d` the cotangent of the normalised row, `ct` what is added. -/
def rmsBack (x d : Fin 1024 → EReal) (ct : EReal) (j : Fin 1024) : EReal :=
  ct + rstd x * (d j - x j * rstd x * Ideal.div (∑ k, d k * (x k * rstd x)) (Ideal.ofBits .f32 1149239296#32))

/-- What differentiating square, mean and inverse root one by one multiplies the row with. -/
def rmsFactor (x d : Fin 1024 → EReal) : EReal :=
  Ideal.div ((∑ k, x k * d k) * (Ideal.ofBits .f32 3204448256#32 * Ideal.div (rstd x)
    (Ideal.div (∑ k, x k * x k) (Ideal.ofBits .f32 1149239296#32) + Ideal.ofBits .f32 897988541#32))) (Ideal.ofBits .f32 1149239296#32)

theorem rmsBack_eq (x d : Fin 1024 → EReal) (ct : EReal) (j : Fin 1024) :
    rmsBack x d ct j = ct + d j * rstd x + x j * rmsFactor x d + rmsFactor x d * x j := by
  unfold rmsBack rmsFactor rstd
  rw [lit_1024, lit_eps, lit_neg_half]
  obtain ⟨r, hr, e, e3⟩ := rsqrt_real (ms_pos x)
  rw [e, e3]
  exact rms_grad x d ct hr (by norm_num) j

/-- Twelve summands. -/
theorem sum_twelve (f : Fin 12 → EReal) :
    ∑ s, f s = f 0 + f 1 + f 2 + f 3 + f 4 + f 5 + f 6 + f 7 + f 8 + f 9 + f 10 + f 11 := by
  rw [Fin.sum_univ_castSucc, Fin.sum_univ_castSucc, Fin.sum_univ_castSucc, Fin.sum_univ_castSucc, Fin.sum_univ_eight]
  rfl

end Cert.Maths
-- ==== Proof.MixIn.Spec.lean ====
/- What the backward pass of the first norm and projection computes, element by element. -/
module

public import proofs.«01_k».proof.Proof.Maths

@[expose] public section

set_option maxRecDepth 16384

noncomputable section

open Idealize.ShloMosaic Idealize.ShloMosaic.TcCoe Idealize.SL.Sem
open Idealize.ShloMosaic.Pipeline (Dat)

namespace Cert.MixIn

/-- The cotangent of the normalised, scaled row: the projection's cotangent times the transposed weights. -/
def dh (dp : (⟨3, ![2, 4096, 6144]⟩ : Shape).Idx → EReal) (w : (⟨2, ![1024, 6144]⟩ : Shape).Idx → EReal)
    (b : Fin 2) (s : Fin 4096) (k : Fin 1024) : EReal := ∑ l : Fin 6144, dp (ix3 b s l) * w (ix2 k l)

/-- A row of the input. -/
def row (x : (⟨3, ![2, 4096, 1024]⟩ : Shape).Idx → EReal) (b : Fin 2) (s : Fin 4096) : Fin 1024 → EReal := fun k => x (ix3 b s k)

/-- The gradient of the input at position `(b, s)`, channel `k`. -/
def dx (d1 : (⟨3, ![2, 4096, 1024]⟩ : Shape).Idx → EReal) (dp : (⟨3, ![2, 4096, 6144]⟩ : Shape).Idx → EReal)
    (x : (⟨3, ![2, 4096, 1024]⟩ : Shape).Idx → EReal) (g : (⟨1, ![1024]⟩ : Shape).Idx → EReal)
    (w : (⟨2, ![1024, 6144]⟩ : Shape).Idx → EReal) (b : Fin 2) (s : Fin 4096) (k : Fin 1024) : EReal :=
  Maths.rmsBack (row x b s) (fun l => dh dp w b s l * g (ix1 l)) (d1 (ix3 b s k)) k

/-- The gradient of the norm's weight. -/
def dg (dp : (⟨3, ![2, 4096, 6144]⟩ : Shape).Idx → EReal) (x : (⟨3, ![2, 4096, 1024]⟩ : Shape).Idx → EReal)
    (w : (⟨2, ![1024, 6144]⟩ : Shape).Idx → EReal) (k : Fin 1024) : EReal :=
  ∑ b : Fin 2, ∑ s : Fin 4096, dh dp w b s k * (x (ix3 b s k) * Maths.rstd (row x b s))

end Cert.MixIn
-- ==== Proof.MixIn.Block.lean ====
/- One grid point of the backward kernel of the first norm and projection: the loaded blocks, the twelve partial
   products, and what the point leaves in the two output blocks. -/
module

public import proofs.«01_k».proof.Proof.Gen.KernelIdeal.Value
public import proofs.«01_k».proof.Proof.MixIn.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixIn

open Cert.KernelIdeal Cert.KernelIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![t.val, 0] ∧ win0_6.index t = ![0, 0] :=
  (by decide +kernel : ∀ t : Fin grid0.N, _)

/-- The batch entry and the position of row `r` of block `t`. -/
def bOf (t : Fin cfg0.N) (r : Fin 512) : Fin 2 := ⟨(t.val * 512 + r.val) / 4096, by have := lt_of_lt_of_eq t.isLt N_0; omega⟩
def sOf (t : Fin cfg0.N) (r : Fin 512) : Fin 4096 := ⟨(t.val * 512 + r.val) % 4096, by omega⟩

/-! ### The arguments and their blocks -/

abbrev A0 (c : Dev nD) : FVec Ideal S2x4096x1024 .f32 := m ((c : Thread nD τ).loc main_arg0)
abbrev A1 (c : Dev nD) : FVec Ideal S2x4096x6144 .f32 := m ((c : Thread nD τ).loc main_arg1)
abbrev A2 (c : Dev nD) : FVec Ideal S2x4096x1024 .f32 := m ((c : Thread nD τ).loc main_arg2)
abbrev A3 (c : Dev nD) : FVec Ideal S1024 .f32 := m ((c : Thread nD τ).loc main_arg3)
abbrev A4 (c : Dev nD) : FVec Ideal S1024x6144 .f32 := m ((c : Thread nD τ).loc main_arg4)

theorem blk0 (c : Dev nD) (t : Fin cfg0.N) (r : Fin 512) (l : Fin 1024) :
    iblk m c 0 t (ix2 r l) = A0 m c (ix3 (bOf t r) (sOf t r) l) := by
  blk_point [iblk, V, idx t, bOf, sOf]

theorem blk1 (c : Dev nD) (t : Fin cfg0.N) (r : Fin 512) (l : Fin 6144) :
    iblk m c 1 t (ix2 r l) = A1 m c (ix3 (bOf t r) (sOf t r) l) := by
  blk_point [iblk, V, idx t, bOf, sOf]

theorem blk2 (c : Dev nD) (t : Fin cfg0.N) (r : Fin 512) (l : Fin 1024) :
    iblk m c 2 t (ix2 r l) = A2 m c (ix3 (bOf t r) (sOf t r) l) := by
  blk_point [iblk, V, idx t, bOf, sOf]

theorem blk3 (c : Dev nD) (t : Fin cfg0.N) (l : Fin 1024) :
    iblk m c 3 t (ix2 0 l) = A3 m c (ix1 l) := by
  blk_point [iblk, V, idx t, bOf, sOf]

theorem blk4 (c : Dev nD) (t : Fin cfg0.N) (i : Fin 4) (k : Fin 1024) (l : Fin 1536) :
    iblk m c 4 t (ix3 i k l) = A4 m c (ix2 k ⟨i.val * 1536 + l.val, by omega⟩) := by
  blk_point [iblk, V, idx t, bOf, sOf]

/-! ### The twelve partial products -/

/-- The columns from `o` on of the cotangent's block, as the body loads them. -/
def cols (b : FVec Ideal S512x6144 .bf16) (o : Nat) (h : ∀ a, ![0, o] a + S512x512.size a ≤ S512x6144.size a) : Vec Ideal S512x512 .bf16 :=
  View.ld b (Rect.unit (s := S512x6144) ![0, o] ![512, 512] h)

theorem cols_at (b : FVec Ideal S512x6144 .bf16) (o : Nat) (h) (r l : Fin 512) (hl : o + l.val < 6144) :
    cols b o h (ix2 r l) = b (ix2 r ⟨o + l.val, hl⟩) := by
  refine congrArg b ?_
  idx_ext

/-- The columns from `o` on of shard `i` of the weights, as the body loads them. -/
def slab (w : FVec Ideal S4x1024x1536 .bf16) (i o : Nat) (h : ∀ a, ![i, 0, o] a + S1x1024x512.size a ≤ S4x1024x1536.size a) :
    Vec Ideal S1x1024x512 .bf16 :=
  View.ld w (Rect.unit (s := S4x1024x1536) ![i, 0, o] ![1, 1024, 512] h)

theorem slab_at (w : FVec Ideal S4x1024x1536 .bf16) (i o : Nat) (h) (k : Fin 1024) (l : Fin 512) (hi : i < 4) (hl : o + l.val < 1536) :
    slab w i o h (ix3 0 k l) = w (ix3 ⟨i, hi⟩ k ⟨o + l.val, hl⟩) := by
  refine congrArg w ?_
  idx_ext

theorem dh_pay (b : Fin 12 → Vec Ideal S512x512 .bf16) (w : Fin 12 → Vec Ideal S1x1024x512 .bf16) (j) :
    k0_pay5 (F := Ideal) (k0_pay4 (k0_pay3 (b 0) (w 0) (b 1) (w 1) (b 2) (w 2) (b 3) (w 3))
        (b 4) (w 4) (b 5) (w 5) (b 6) (w 6) (b 7) (w 7) (b 8) (w 8)) (b 9) (w 9) (b 10) (w 10) (b 11) (w 11) j =
      ∑ s : Fin 12, ∑ l : Fin 512, b s (ix2 (j 0) l) * w s (ix3 0 (j 1) l) := by
  rw [Maths.sum_twelve]
  pointwise [k0_pay5, k0_pay4, k0_pay3]

theorem cols_inb (s : Fin 12) : ∀ a, ![0, s.val * 512] a + S512x512.size a ≤ S512x6144.size a := by
  revert s; decide

theorem slab_inb (s : Fin 12) : ∀ a, ![s.val / 3, 0, s.val % 3 * 512] a + S1x1024x512.size a ≤ S4x1024x1536.size a := by
  revert s; decide

/-- One summand of one partial product is the summand of the whole contraction it stands for. -/
theorem piece (c : Dev nD) (t : Fin cfg0.N) (r : Fin 512) (k : Fin 1024) (s : Fin 12) (l : Fin 512) (hn : s.val * 512 + l.val < 6144) :
    cols (iblk m c 1 t) (s.val * 512) (cols_inb s) (ix2 r l)
        * slab (iblk m c 4 t) (s.val / 3) (s.val % 3 * 512) (slab_inb s) (ix3 0 k l)
      = A1 m c (ix3 (bOf t r) (sOf t r) ⟨s.val * 512 + l.val, hn⟩) * A4 m c (ix2 k ⟨s.val * 512 + l.val, hn⟩) := by
  have hs := s.isLt
  have hl := l.isLt
  rw [cols_at _ _ _ _ _ hn, slab_at _ _ _ _ _ _ (by omega) (by omega), blk1, blk4]
  congr 3
  exact Fin.ext (by dsimp only; omega)

/-- The first product at a grid point, as the body writes it. -/
def dhTile (c : Dev nD) (t : Fin cfg0.N) : FVec Ideal S512x1024 .f32 :=
  k0_pay5 (F := Ideal)
    (k0_pay4
      (k0_pay3
        (cols (iblk m c 1 t) 0 inb_S512x6144_S512x512_0_0) (slab (iblk m c 4 t) 0 0 inb_S4x1024x1536_S1x1024x512_0_0_0)
        (cols (iblk m c 1 t) 512 inb_S512x6144_S512x512_0_512) (slab (iblk m c 4 t) 0 512 inb_S4x1024x1536_S1x1024x512_0_0_512)
        (cols (iblk m c 1 t) 1024 inb_S512x6144_S512x512_0_1024) (slab (iblk m c 4 t) 0 1024 inb_S4x1024x1536_S1x1024x512_0_0_1024)
        (cols (iblk m c 1 t) 1536 inb_S512x6144_S512x512_0_1536) (slab (iblk m c 4 t) 1 0 inb_S4x1024x1536_S1x1024x512_1_0_0))
      (cols (iblk m c 1 t) 2048 inb_S512x6144_S512x512_0_2048) (slab (iblk m c 4 t) 1 512 inb_S4x1024x1536_S1x1024x512_1_0_512)
      (cols (iblk m c 1 t) 2560 inb_S512x6144_S512x512_0_2560) (slab (iblk m c 4 t) 1 1024 inb_S4x1024x1536_S1x1024x512_1_0_1024)
      (cols (iblk m c 1 t) 3072 inb_S512x6144_S512x512_0_3072) (slab (iblk m c 4 t) 2 0 inb_S4x1024x1536_S1x1024x512_2_0_0)
      (cols (iblk m c 1 t) 3584 inb_S512x6144_S512x512_0_3584) (slab (iblk m c 4 t) 2 512 inb_S4x1024x1536_S1x1024x512_2_0_512)
      (cols (iblk m c 1 t) 4096 inb_S512x6144_S512x512_0_4096) (slab (iblk m c 4 t) 2 1024 inb_S4x1024x1536_S1x1024x512_2_0_1024))
    (cols (iblk m c 1 t) 4608 inb_S512x6144_S512x512_0_4608) (slab (iblk m c 4 t) 3 0 inb_S4x1024x1536_S1x1024x512_3_0_0)
    (cols (iblk m c 1 t) 5120 inb_S512x6144_S512x512_0_5120) (slab (iblk m c 4 t) 3 512 inb_S4x1024x1536_S1x1024x512_3_0_512)
    (cols (iblk m c 1 t) 5632 inb_S512x6144_S512x512_0_5632) (slab (iblk m c 4 t) 3 1024 inb_S4x1024x1536_S1x1024x512_3_0_1024)

theorem dhTile_at (c : Dev nD) (t : Fin cfg0.N) (r : Fin 512) (k : Fin 1024) :
    dhTile m c t (ix2 r k) = dh (A1 m c) (A4 m c) (bOf t r) (sOf t r) k := by
  refine (dh_pay (fun s => cols (iblk m c 1 t) (s.val * 512) (cols_inb s))
    (fun s => slab (iblk m c 4 t) (s.val / 3) (s.val % 3 * 512) (slab_inb s)) (ix2 r k)).trans ?_
  exact Fin.sum_mul_add_congr fun s l hl => piece m c t r k s l hl

/-! ### What the point leaves in the two output blocks -/

theorem rstd_pay (x : FVec Ideal S512x1024 .f32) (r : Fin 512) :
    k0_pay7 (F := Ideal) x (ix2 r 0) = Maths.rstd (fun k => x (ix2 r k)) := by
  pointwise [k0_pay7, k0_pay6, Maths.rstd]

theorem xh_pay (x : FVec Ideal S512x1024 .f32) (r : Fin 512) (k : Fin 1024) :
    k0_pay8 (F := Ideal) x (ix2 r k) = x (ix2 r k) * Maths.rstd (fun k => x (ix2 r k)) := by
  rw [← rstd_pay]
  pointwise [k0_pay8, k0_pay6]

theorem dx_pay (d : FVec Ideal S512x1024 .f32) (x : FVec Ideal S512x1024 .f32) (g : Vec Ideal S1x1024 .f32) (ct : Vec Ideal S512x1024 .f32)
    (r : Fin 512) (k : Fin 1024) :
    k0_pay1 (F := Ideal) d (k0_pay7 x) (k0_pay8 x) g ct (ix2 r k)
      = Maths.rmsBack (fun k => x (ix2 r k)) (fun k => d (ix2 r k) * g (ix2 0 k)) (ct (ix2 r k)) k := by
  have h : k0_pay1 (F := Ideal) d (k0_pay7 x) (k0_pay8 x) g ct (ix2 r k) = ct (ix2 r k) + k0_pay7 x (ix2 r 0) *
      (d (ix2 r k) * g (ix2 0 k) - k0_pay8 x (ix2 r k) * Ideal.div (∑ l, d (ix2 r l) * g (ix2 0 l) * k0_pay8 (F := Ideal) x (ix2 r l))
        (Ideal.ofBits .f32 1149239296#32)) := by
    pointwise [k0_pay1]
  rw [h]
  simp only [xh_pay, rstd_pay]
  rfl

theorem dx_point (c : Dev nD) (t : Fin cfg0.N) (r : Fin 512) (k : Fin 1024) :
    k0_pay1 (F := Ideal) (dhTile m c t) (k0_pay7 (iblk m c 2 t)) (k0_pay8 (iblk m c 2 t)) (iblk m c 3 t) (iblk m c 0 t) (ix2 r k)
      = dx (A0 m c) (A1 m c) (A2 m c)
        (A3 m c) (A4 m c) (bOf t r) (sOf t r) k := by
  rw [dx_pay, blk0]
  simp only [dhTile_at, blk2, blk3]
  rfl

theorem dg_pay (x0 x1 x2 x3 x4 x5 x6) (x : Vec Ideal S512x1024 .f32) (a : Vec Ideal S1x1024 .f32) (j : S1x1024.Idx) :
    k0_pay9 (F := Ideal) x0 x1 x2 x3 x4 x5 x6 x a j
      = a j + ∑ r : Fin 512, k0_pay5 (F := Ideal) x0 x1 x2 x3 x4 x5 x6 (ix2 r (j 1)) * k0_pay8 (F := Ideal) x (ix2 r (j 1)) := by
  pointwise [k0_pay9]

theorem dg_point (c : Dev nD) (t : Fin cfg0.N) (r : Fin 512) (k : Fin 1024) :
    dhTile m c t (ix2 r k) * k0_pay8 (F := Ideal) (iblk m c 2 t) (ix2 r k)
      = dh (A1 m c) (A4 m c) (bOf t r) (sOf t r) k
        * (A2 m c (ix3 (bOf t r) (sOf t r) k)
          * Maths.rstd (row (A2 m c) (bOf t r) (sOf t r))) := by
  rw [dhTile_at, xh_pay]
  simp only [blk2]
  rfl

theorem zero_pay (j) : k0_pay2 (F := Ideal) j = 0 := by
  pointwise [k0_pay2]

end Cert.MixIn
-- ==== Proof.MixIn.Array.lean ====
/- The two arrays the backward kernel of the first norm and projection leaves. -/
module

public import proofs.«01_k».proof.Proof.MixIn.Block

@[expose] public section

set_option maxRecDepth 16384

noncomputable section

open Idealize.ShloMosaic Idealize.ShloMosaic.TcCoe Idealize.SL.Sem
open Idealize.ShloMosaic.Pipeline (Dat)

namespace Cert.MixIn

open Cert.KernelIdeal Cert.KernelIdeal.Gen

variable (m : (ℓ : Loc nD τ sig) → Buf (Elt Ideal) ℓ)

/-- The gradient of the input, the rows of both batch entries one after the other. -/
def dxArr (c : Dev nD) : FVec Ideal S8192x1024 .f32 := fun i =>
  dx (A0 m c) (A1 m c) (A2 m c) (A3 m c) (A4 m c)
    ⟨(i 0).val / 4096, by have : (i 0).val < 8192 := (i 0).isLt; omega⟩ ⟨(i 0).val % 4096, by omega⟩ (i 1)

/-- The gradient of the norm's weight. -/
def dgArr (c : Dev nD) : FVec Ideal S1x1024 .f32 := fun i => dg (A1 m c) (A2 m c) (A4 m c) (i 1)

set_option maxHeartbeats 1000000 in
theorem final5 (c : Dev nD) : (dats m 0 c).arrAt 5 (cfgs 0).N = dxArr m c := by
  refine (dats m 0 c).arrAt_eq_of_covers 5 _ (by decide +kernel) fun t hf y => ?_
  blk_simp
  rw [after0_5]
  have key : k0_pay1 (F := Ideal) (dhTile m c t) (k0_pay7 (iblk m c 2 t)) (k0_pay8 (iblk m c 2 t)) (iblk m c 3 t) (iblk m c 0 t) y
      = dxArr m c (((View.whole main_v8_0).slice (win0_5.rect t)).emb y) := by
    idx_vars y
    rw [dx_point]
    unfold dxArr bOf sOf
    blk_simp [idx t]
    exact congrArg _ (Fin.ext (by blk_simp [idx t]))
  by_cases h : t.val % 16 = 0
  · rw [outsAt0_A m c t h]; dsimp only; frame_out
    exact key
  · rw [outsAt0_B m c t h]; dsimp only; frame_out
    exact key

/-- The rows of the sixteen blocks are the positions of the two batch entries. -/
theorem sum_rows (f : Fin 2 → Fin 4096 → EReal) :
    ∑ t : Fin cfg0.N, ∑ r : Fin 512, f (bOf t r) (sOf t r) = ∑ b : Fin 2, ∑ s : Fin 4096, f b s := by
  have h1 : ∑ t : Fin 16, ∑ r : Fin 512, f ⟨(t.val * 512 + r.val) / 4096, by omega⟩ ⟨(t.val * 512 + r.val) % 4096, by omega⟩
      = ∑ n : Fin 8192, f ⟨n.val / 4096, by omega⟩ ⟨n.val % 4096, by omega⟩ := Fin.sum_mul_add_congr fun s k hl => rfl
  have h2 : ∑ b : Fin 2, ∑ s : Fin 4096, f b s = ∑ n : Fin 8192, f ⟨n.val / 4096, by omega⟩ ⟨n.val % 4096, by omega⟩ :=
    Fin.sum_mul_add_congr fun b s hl => by
      congr 1
      · congr 1; exact Fin.ext (by dsimp only; omega)
      · exact Fin.ext (by dsimp only; omega)
  exact h1.trans h2.symm

theorem sum_points (c : Dev nD) (k : Fin 1024) :
    ∑ t : Fin cfg0.N, ∑ r : Fin 512, dhTile m c t (ix2 r k) * k0_pay8 (F := Ideal) (iblk m c 2 t) (ix2 r k)
      = dg (A1 m c) (A2 m c) (A4 m c) k :=
  (Finset.sum_congr rfl fun t _ => Finset.sum_congr rfl fun r _ => dg_point m c t r k).trans
    (sum_rows fun b s => dh (A1 m c) (A4 m c) b s k * (A2 m c (ix3 b s k) * Maths.rstd (row (A2 m c) b s)))

set_option maxHeartbeats 1000000 in
theorem final6 (c : Dev nD) : (dats m 0 c).arrAt 6 (cfgs 0).N = dgArr m c := by
  refine (dats m 0 c).arrAt_eq_of_after_last 6 t0_15 (by decide +kernel) _ fun j => ?_
  blk_simp
  rw [after0_6, Pipeline.eq_sum_fin_of_reset_step_apply_last (fun n h => (outsAt0 m c n h).2)
    16 (fun _ => 0) (fun t (j : S1x1024.Idx) => (∑ r : Fin 512, dhTile m c t (ix2 r (j 1)) * k0_pay8 (F := Ideal) (iblk m c 2 t) (ix2 r (j 1)) : EReal))
    (fun t h j => by
      rw [outsAt0_A m c t h]; dsimp only; frame_out
      rw [dg_pay, zero_pay]
      rfl)
    (fun t h j => by
      rw [outsAt0_B m c t h]; dsimp only; frame_out
      rw [dg_pay]
      rfl)
    (le_of_eq N_0) t0_15 rfl j, zero_add]
  exact sum_points m c (j 1)

end Cert.MixIn
-- ==== Proof.MixIn.Reference.lean ====
/- What the reference of the first norm and projection computes, element by element. -/
module

public import proofs.«01_k».proof.Proof.Gen.ReferenceIdeal.Read
public import proofs.«01_k».proof.Proof.MixIn.Spec

@[expose] public section

set_option maxRecDepth 16384

noncomputable section

open Idealize.ShloMosaic Idealize.ShloMosaic.TcCoe Idealize.SL.Sem
open Idealize.ShloMosaic.Pipeline (Dat)

namespace Cert.MixIn

open Cert.ReferenceIdeal Cert.ReferenceIdeal.Gen Cert.ReferenceIdeal.Read

variable (x0 x2 : FVec Ideal S2x4096x1024 .f32) (x1 : FVec Ideal S2x4096x6144 .f32) (x3 : FVec Ideal S1024 .f32)
  (x4 : FVec Ideal S1024x6144 .f32)

theorem ref_dh (b : Fin 2) (s : Fin 4096) (k : Fin 1024) : val_main_v17 (F := Ideal) x1 x4 (ix3 b s k) = dh x1 x4 b s k := by
  pointwise [val_main_v17, dh]

theorem ref_ms (b : Fin 2) (s : Fin 4096) : val_main_v6 (F := Ideal) x2 (ix3 b s 0)
    = Ideal.div (∑ k, row x2 b s k * row x2 b s k) (Ideal.ofBits .f32 1149239296#32) + Ideal.ofBits .f32 897988541#32 := by
  pointwise [val_main_v6, val_main_v5, val_main_v4, val_main_v3, val_main_v2, val_main_v1, val_main_v0, val_main_cst, val_main_cst_0, val_main_cst_1, row]

theorem ref_rstd (b : Fin 2) (s : Fin 4096) : val_main_v7 (F := Ideal) x2 (ix3 b s 0) = Maths.rstd (row x2 b s) := by
  unfold Maths.rstd
  rw [← ref_ms]
  pointwise [val_main_v7]

theorem ref_dx (a : Fin 8192) (k : Fin 1024) : val_main_v39 (F := Ideal) x0 x1 x2 x3 x4 (ix2 a k)
    = dx x0 x1 x2 x3 x4 ⟨a.val / 4096, by omega⟩ ⟨a.val % 4096, by omega⟩ k := by
  unfold dx
  rw [Maths.rmsBack_eq]
  unfold Maths.rmsFactor
  rw [← ref_ms, ← ref_rstd]
  simp only [← ref_dh]
  pointwise [val_main_v39, val_main_v38, val_main_v37, val_main_v36, val_main_v35, val_main_v34, val_main_v33, val_main_v32, val_main_v31, val_main_v30, val_main_v29, val_main_v28, val_main_v27, val_main_v26, val_main_v25, val_main_v24, val_main_v22, val_main_v21, val_main_v13, val_main_v10, val_main_v9, val_main_v8, val_main_cst_7, val_main_cst_5, val_main_cst_2, val_main_cst_6, row]
  simp only [Fin.sum_univ_one]

theorem ref_dg (k : Fin 1024) : val_main_v40 (F := Ideal) x1 x2 x4 (ix2 0 k) = dg x1 x2 x4 k := by
  unfold dg
  simp only [← ref_rstd, ← ref_dh]
  pointwise [val_main_v40, val_main_v23, val_main_v20, val_main_v19, val_main_v18, val_main_v12, val_main_v11, Maths.hostSum_leading, val_main_cst_3, val_main_cst_4]
  simp only [Fin.sum_univ_one]
  exact Finset.sum_congr rfl fun b _ => Finset.sum_congr rfl fun s _ => mul_comm _ _

end Cert.MixIn
-- ==== Proof.MixIn.Claim.lean ====
/- The claims about the backward kernel of the first norm and projection. -/
module

public import proofs.«01_k».proof.Defs
public import proofs.«01_k».proof.Proof.Gen.ReferenceIdeal.Run
public import proofs.«01_k».proof.Proof.MixIn.Array
public import proofs.«01_k».proof.Proof.MixIn.Reference

@[expose] public section

set_option maxRecDepth 16384

noncomputable section

open Idealize.ShloMosaic Idealize.ShloMosaic.TcCoe Idealize.SL.Sem
open Idealize.ShloMosaic.Pipeline (Dat)

namespace Cert.MixIn

/-- The frame of the reference: its run ends with its arguments as launched. -/
theorem frame_reference : Cert.quiescent_ReferenceIdeal := fun m g _ =>
  (θ_run Cert.ReferenceIdeal.defs _ _).mono
    (fun r h => ⟨fun c => (h c).2.2, Idealize.ShloMosaic.sem_eq_zero_of_no_sems (by decide) r.2⟩)
    (Cert.ReferenceIdeal.Value.run m g)

/-- Both programs end with the same two gradients. -/
theorem algebraic : Cert.algebraic_KernelIdeal_ReferenceIdeal := by
  pair_intro
  · run_from Cert.KernelIdeal.Value.run_blocks m g
  · run_from Cert.ReferenceIdeal.Value.run m' g'
    · rw [Cert.ReferenceIdeal.Read.val_main_v39_eq, (hagree c).1, (hagree c).2.1, (hagree c).2.2.1, (hagree c).2.2.2.1,
        (hagree c).2.2.2.2]
      refine Eq.trans ?_ (final5 m c).symm
      funext i
      idx_vars i
      exact ref_dx _ _ _ _ _ _ _
    · refine Eq.trans ?_ (final6 m c).symm
      funext i
      idx_vars i
      rw [Subsingleton.elim i0 0]
      exact ref_dg _ _ _ _

end Cert.MixIn
-- ==== Proof.Gate.lean ====
/- Finite extended reals, the sigmoid, and the derivative of `x · σ(x)` in its two forms. -/
module

public import proofs.«01_k».proof.Proof.Maths

@[expose] public section

noncomputable section

open Idealize.ShloMosaic

namespace Cert.Maths

/-! ### Finite values -/

/-- The extended real is a real. -/
def IsReal (x : EReal) : Prop := ∃ r : ℝ, x = (r : EReal)

theorem IsReal.coe (r : ℝ) : IsReal (r : EReal) := ⟨r, rfl⟩

theorem IsReal.mul {x y : EReal} : IsReal x → IsReal y → IsReal (x * y) := by
  rintro ⟨a, rfl⟩ ⟨b, rfl⟩; exact ⟨a * b, (EReal.coe_mul a b).symm⟩

theorem IsReal.add {x y : EReal} : IsReal x → IsReal y → IsReal (x + y) := by
  rintro ⟨a, rfl⟩ ⟨b, rfl⟩; exact ⟨a + b, (EReal.coe_add a b).symm⟩

theorem IsReal.neg {x : EReal} : IsReal x → IsReal (-x) := by
  rintro ⟨a, rfl⟩; exact ⟨-a, (EReal.coe_neg a).symm⟩

theorem IsReal.sub {x y : EReal} (hx : IsReal x) (hy : IsReal y) : IsReal (x - y) := by
  rw [sub_eq_add_neg]; exact hx.add hy.neg

theorem IsReal.zero : IsReal 0 := ⟨0, rfl⟩

theorem IsReal.sum {ι : Type*} (s : Finset ι) (f : ι → EReal) (h : ∀ k ∈ s, IsReal (f k)) : IsReal (∑ k ∈ s, f k) := by
  induction s using Finset.cons_induction with
  | empty => exact ⟨0, by simp⟩
  | cons a s ha ih =>
    rw [Finset.sum_cons]
    exact (h a (Finset.mem_cons_self a s)).add (ih fun k hk => h k (Finset.mem_cons_of_mem hk))

theorem lit_inf : Ideal.ofBits .f32 0x7F800000#32 = ⊤ := by
  simp [Ideal.ofBits, Ideal.ieee]

theorem lit_one : Ideal.ofBits .f32 0x3F800000#32 = 1 := by
  simp [Ideal.ofBits, Ideal.ieee, -EReal.coe_mul]; norm_num

/-- What a precondition tests of an element says that it is finite. -/
theorem isReal_of_test {x : EReal} (h : Ideal.cmp .olt (max x (-x)) (Ideal.ofBits .f32 0x7F800000#32) = 1#1) : IsReal x := by
  rw [lit_inf] at h
  have h' : max x (-x) < ⊤ := (Ideal.cmp_olt_eq_one _ _).mp h
  induction x with
  | bot => simp at h'
  | top => simp at h'
  | coe r => exact ⟨r, rfl⟩

/-! ### A normalised row is finite, whatever the row -/

theorem sum_sq_top {n : Nat} (x : Fin n → EReal) (j : Fin n) (h : x j = ⊤ ∨ x j = ⊥) : ∑ k, x k * x k = ⊤ := by
  have hj : x j * x j = ⊤ := by rcases h with h | h <;> simp [h]
  have hle : x j * x j ≤ ∑ k, x k * x k := Finset.single_le_sum (f := fun k => x k * x k)
    (fun k _ => by
      induction x k with
      | bot => simp
      | top => simp
      | coe r => exact_mod_cast mul_self_nonneg r) (Finset.mem_univ j)
  rw [hj] at hle
  exact top_le_iff.mp hle

theorem isReal_rstd (x : Fin 1024 → EReal) : IsReal (rstd x) := by
  unfold rstd
  rw [lit_1024, lit_eps]
  obtain ⟨r, -, e, -⟩ := rsqrt_real (ms_pos x)
  exact ⟨r, e⟩

theorem isReal_mul_rstd (x : Fin 1024 → EReal) (j : Fin 1024) : IsReal (x j * rstd x) := by
  by_cases h : x j = ⊤ ∨ x j = ⊥
  · have : rstd x = 0 := by
      unfold rstd
      rw [lit_1024, lit_eps, sum_sq_top x j h, div_real _ (by norm_num),
        EReal.top_mul_coe_of_pos (by norm_num), EReal.top_add_coe]
      rfl
    rw [this, mul_zero]; exact IsReal.zero
  · refine IsReal.mul ?_ (isReal_rstd x)
    induction hx : x j with
    | bot => exact absurd (Or.inr hx) h
    | top => exact absurd (Or.inl hx) h
    | coe r => exact ⟨r, rfl⟩

/-! ### The sigmoid and the gate -/

/-- The sigmoid, as both programs write it. -/
def sig (x : EReal) : EReal := Ideal.div 1 (1 + Ideal.exp (-x))

theorem exp_coe (r : ℝ) : Ideal.exp (r : EReal) = ((Real.exp r : ℝ) : EReal) := rfl

theorem sig_coe (r : ℝ) : sig (r : EReal) = ((1 + Real.exp (-r))⁻¹ : ℝ) := by
  unfold sig
  rw [← EReal.coe_neg, exp_coe]
  have h1 : (1 : EReal) + ((Real.exp (-r) : ℝ) : EReal) = ((1 + Real.exp (-r) : ℝ) : EReal) := by push_cast; rfl
  rw [h1, div_real _ (by positivity), one_mul]

theorem sig_top : sig ⊤ = 1 := by
  have h : Ideal.exp (-(⊤ : EReal)) = 0 := rfl
  have h1 : (1 : EReal) + 0 = ((1 : ℝ) : EReal) := by simp
  unfold sig
  rw [h, h1, div_real _ (by norm_num)]
  simp

theorem sig_bot : sig ⊥ = 0 := by
  have h : Ideal.exp (-(⊥ : EReal)) = ⊤ := rfl
  unfold sig
  have h1 : (1 : EReal) + ⊤ = ⊤ := rfl
  rw [h, h1]
  simp [Ideal.div]

theorem isReal_sig (x : EReal) : IsReal (sig x) := by
  induction x with
  | bot => exact ⟨0, by simp [sig_bot]⟩
  | top => exact ⟨1, by simp [sig_top]⟩
  | coe r => exact ⟨_, sig_coe r⟩

/-- **The derivative of `x · σ(x)`**, times a finite cotangent `a`: the kernel factors it, the product rule does not. -/
theorem gate_grad {a : EReal} (ha : IsReal a) (x : EReal) :
    a * sig x + x * a * (sig x * (1 - sig x)) = a * (sig x * (1 + x * (1 - sig x))) := by
  obtain ⟨a, rfl⟩ := ha
  induction x with
  | bot => simp [sig_bot]
  | top =>
    have h : (1 : EReal) - 1 = 0 := by rw [← EReal.coe_one, ← EReal.coe_sub]; simp
    simp [sig_top, h]
  | coe r =>
    rw [sig_coe]
    generalize (1 + Real.exp (-r))⁻¹ = s
    rw [← EReal.coe_one, ← EReal.coe_sub]
    simp only [← EReal.coe_mul, ← EReal.coe_add]
    congr 1; ring

end Cert.Maths
-- ==== Proof.Shared.lean ====
/- The logistic as the kernels write it, and a sum over the feed-forward columns in the kernels' groups. -/
module

public import proofs.«01_k».proof.Proof.Gate

@[expose] public section

noncomputable section

open Idealize.ShloMosaic

namespace Cert.Maths

theorem sig_lit (z : EReal) : Ideal.div (Ideal.ofBits .f32 0x3F800000#32)
    (Ideal.ofBits .f32 0x3F800000#32 + Ideal.exp (Ideal.ofBits .f32 0#32 - z)) = sig z := by
  rw [lit_one, lit_zero, zero_sub]
  rfl

/-- A sum over the columns, group by group. -/
theorem sum_groups (p : Fin 2816 → EReal) : ∑ f : Fin 2816, p f =
    (∑ l : Fin 512, p ⟨0 + l.val, by omega⟩) + (∑ l : Fin 512, p ⟨512 + l.val, by omega⟩) + (∑ l : Fin 512, p ⟨1024 + l.val, by omega⟩)
      + (∑ l : Fin 512, p ⟨1536 + l.val, by omega⟩) + (∑ l : Fin 512, p ⟨2048 + l.val, by omega⟩)
      + ∑ l : Fin 256, p ⟨2560 + l.val, by omega⟩ := by
  have h : ∑ f : Fin 2816, p f = (∑ f : Fin 2560, p ⟨f.val, by omega⟩) + ∑ l : Fin 256, p ⟨2560 + l.val, by omega⟩ :=
    Fin.sum_univ_add (a := 2560) (b := 256) p
  have h5 : ∑ s : Fin 5, ∑ l : Fin 512, p ⟨s.val * 512 + l.val, by omega⟩ = ∑ f : Fin 2560, p ⟨f.val, by omega⟩ :=
    Fin.sum_mul_add_congr fun s l hl => rfl
  rw [h, ← h5, Fin.sum_univ_five]
  rfl

/-- The sum over 32 blocks of 256 rows is the sum over the two batch entries' 4096 rows. -/
theorem sum_rows (f : Fin 2 → Fin 4096 → EReal) :
    ∑ t : Fin 32, ∑ r : Fin 256, f ⟨(t.val * 256 + r.val) / 4096, by omega⟩ ⟨(t.val * 256 + r.val) % 4096, by omega⟩
      = ∑ b : Fin 2, ∑ s : Fin 4096, f b s := by
  have h1 : ∑ t : Fin 32, ∑ r : Fin 256, f ⟨(t.val * 256 + r.val) / 4096, by omega⟩ ⟨(t.val * 256 + r.val) % 4096, by omega⟩
      = ∑ n : Fin 8192, f ⟨n.val / 4096, by omega⟩ ⟨n.val % 4096, by omega⟩ := Fin.sum_mul_add_congr fun s k hl => rfl
  have h2 : ∑ b : Fin 2, ∑ s : Fin 4096, f b s = ∑ n : Fin 8192, f ⟨n.val / 4096, by omega⟩ ⟨n.val % 4096, by omega⟩ :=
    Fin.sum_mul_add_congr fun b s hl => by
      congr 1
      · congr 1; exact Fin.ext (by dsimp only; omega)
      · exact Fin.ext (by dsimp only; omega)
  exact h1.trans h2.symm

end Cert.Maths
-- ==== Proof.Ffn.Spec.lean ====
/- What the backward pass of the feed-forward half of a layer computes, element by element. -/
module

public import proofs.«01_k».proof.Proof.Gate

@[expose] public section

set_option maxRecDepth 16384

noncomputable section

open Idealize.ShloMosaic Idealize.ShloMosaic.TcCoe Idealize.SL.Sem
open Idealize.ShloMosaic.Pipeline (Dat)

namespace Cert.Ffn

/-- A row of the input. -/
def row (x : (⟨3, ![2, 4096, 1024]⟩ : Shape).Idx → EReal) (b : Fin 2) (s : Fin 4096) : Fin 1024 → EReal := fun k => x (ix3 b s k)

/-- The normalised and scaled row times a matrix: the gate's argument, or the factor beside it. -/
def proj (x : (⟨3, ![2, 4096, 1024]⟩ : Shape).Idx → EReal) (g : (⟨1, ![1024]⟩ : Shape).Idx → EReal)
    (w : (⟨2, ![1024, 2816]⟩ : Shape).Idx → EReal) (b : Fin 2) (s : Fin 4096) (f : Fin 2816) : EReal :=
  ∑ k : Fin 1024, x (ix3 b s k) * Maths.rstd (row x b s) * g (ix1 k) * w (ix2 k f)

/-- The cotangent of the activation. -/
def dact (d : (⟨3, ![2, 4096, 1024]⟩ : Shape).Idx → EReal) (wd : (⟨2, ![2816, 1024]⟩ : Shape).Idx → EReal)
    (b : Fin 2) (s : Fin 4096) (f : Fin 2816) : EReal := ∑ k : Fin 1024, d (ix3 b s k) * wd (ix2 f k)

/-- The cotangent of the factor beside the gate. -/
def dupOf (a g : EReal) : EReal := a * (g * Maths.sig g)

/-- The cotangent of the gate's argument. -/
def dgtOf (a g u : EReal) : EReal := a * u * (Maths.sig g * (1 + g * (1 - Maths.sig g)))

variable (d x : (⟨3, ![2, 4096, 1024]⟩ : Shape).Idx → EReal) (g : (⟨1, ![1024]⟩ : Shape).Idx → EReal)
  (wg wu : (⟨2, ![1024, 2816]⟩ : Shape).Idx → EReal) (wd : (⟨2, ![2816, 1024]⟩ : Shape).Idx → EReal)

def dup (b : Fin 2) (s : Fin 4096) (f : Fin 2816) : EReal := dupOf (dact d wd b s f) (proj x g wg b s f)

def dgt (b : Fin 2) (s : Fin 4096) (f : Fin 2816) : EReal := dgtOf (dact d wd b s f) (proj x g wg b s f) (proj x g wu b s f)

/-- The cotangent of the normalised, scaled row. -/
def dh (b : Fin 2) (s : Fin 4096) (k : Fin 1024) : EReal :=
  (∑ f : Fin 2816, dgt d x g wg wu wd b s f * wg (ix2 k f)) + ∑ f : Fin 2816, dup d x g wg wd b s f * wu (ix2 k f)

/-- The gradient of the input at position `(b, s)`, channel `k`. -/
def dx (b : Fin 2) (s : Fin 4096) (k : Fin 1024) : EReal :=
  Maths.rmsBack (row x b s) (fun l => dh d x g wg wu wd b s l * g (ix1 l)) (d (ix3 b s k)) k

/-- The gradient of the norm's weight. -/
def dg (k : Fin 1024) : EReal :=
  ∑ b : Fin 2, ∑ s : Fin 4096, dh d x g wg wu wd b s k * (x (ix3 b s k) * Maths.rstd (row x b s))

end Cert.Ffn
-- ==== Proof.Ffn.Block.lean ====
/- One grid point of the backward kernel of the feed-forward half: the loaded blocks, the six groups of columns of the
   activation, and what the point leaves in the four output blocks. -/
module

public import proofs.«01_k».proof.Proof.Gen.Kernel2Ideal.Value
public import proofs.«01_k».proof.Proof.Shared
public import proofs.«01_k».proof.Proof.Ffn.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ffn

open Cert.Kernel2Ideal Cert.Kernel2Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![0, 0] :=
  (by decide +kernel : ∀ t : Fin grid0.N, _)

/-- The batch entry and the position of row `r` of block `t`. -/
def bOf (t : Fin cfg0.N) (r : Fin 256) : Fin 2 := ⟨(t.val * 256 + r.val) / 4096, by have := lt_of_lt_of_eq t.isLt N_0; omega⟩
def sOf (t : Fin cfg0.N) (r : Fin 256) : Fin 4096 := ⟨(t.val * 256 + r.val) % 4096, by omega⟩

/-! ### The arguments and their blocks -/

abbrev A0 (c : Dev nD) : FVec Ideal S2x4096x1024 .f32 := m ((c : Thread nD τ).loc main_arg0)
abbrev A1 (c : Dev nD) : FVec Ideal S2x4096x1024 .f32 := m ((c : Thread nD τ).loc main_arg1)
abbrev A2 (c : Dev nD) : FVec Ideal S1024 .f32 := m ((c : Thread nD τ).loc main_arg2)
abbrev A3 (c : Dev nD) : FVec Ideal S1024x2816 .f32 := m ((c : Thread nD τ).loc main_arg3)
abbrev A4 (c : Dev nD) : FVec Ideal S1024x2816 .f32 := m ((c : Thread nD τ).loc main_arg4)
abbrev A5 (c : Dev nD) : FVec Ideal S2816x1024 .f32 := m ((c : Thread nD τ).loc main_arg5)

theorem blk0 (c : Dev nD) (t : Fin cfg0.N) (r : Fin 256) (l : Fin 1024) :
    iblk m c 0 t (ix2 r l) = A0 m c (ix3 (bOf t r) (sOf t r) l) := by
  blk_point [iblk, V, idx t, bOf, sOf]

theorem blk1 (c : Dev nD) (t : Fin cfg0.N) (r : Fin 256) (l : Fin 1024) :
    iblk m c 1 t (ix2 r l) = A1 m c (ix3 (bOf t r) (sOf t r) l) := by
  blk_point [iblk, V, idx t, bOf, sOf]

theorem gate_at (c : Dev nD) (n : Fin 8192) (f : Fin 2816) :
    (V m c main_v15 : FVec Ideal S8192x2816 .bf16) (ix2 n f)
      = proj (A1 m c) (A2 m c) (A3 m c) ⟨n.val / 4096, by omega⟩ ⟨n.val % 4096, by omega⟩ f := by
  entry_read
  pointwise [proj, row, Maths.rstd]

theorem up_at (c : Dev nD) (n : Fin 8192) (f : Fin 2816) :
    (V m c main_v17 : FVec Ideal S8192x2816 .bf16) (ix2 n f)
      = proj (A1 m c) (A2 m c) (A4 m c) ⟨n.val / 4096, by omega⟩ ⟨n.val % 4096, by omega⟩ f := by
  entry_read
  pointwise [proj, row, Maths.rstd]

/-- Row `r` of block `t`, among the rows of both batch entries. -/
def nOf (t : Fin cfg0.N) (r : Fin 256) : Fin 8192 := ⟨t.val * 256 + r.val, by have := lt_of_lt_of_eq t.isLt N_0; omega⟩

theorem blk2 (c : Dev nD) (t : Fin cfg0.N) (r : Fin 256) (f : Fin 2816) :
    iblk m c 2 t (ix2 r f) = proj (A1 m c) (A2 m c) (A3 m c) (bOf t r) (sOf t r) f := by
  refine Eq.trans ?_ (gate_at m c (nOf t r) f)
  blk_ext [iblk, idx t, nOf]

theorem blk3 (c : Dev nD) (t : Fin cfg0.N) (r : Fin 256) (f : Fin 2816) :
    iblk m c 3 t (ix2 r f) = proj (A1 m c) (A2 m c) (A4 m c) (bOf t r) (sOf t r) f := by
  refine Eq.trans ?_ (up_at m c (nOf t r) f)
  blk_ext [iblk, idx t, nOf]

theorem blk4 (c : Dev nD) (t : Fin cfg0.N) (l : Fin 1024) : iblk m c 4 t (ix2 0 l) = A2 m c (ix1 l) := by
  blk_point [iblk, V, idx t]

theorem blk5 (c : Dev nD) (t : Fin cfg0.N) (f : Fin 2816) (k : Fin 1024) : iblk m c 5 t (ix2 f k) = A3 m c (ix2 k f) := by
  blk_point [iblk, V, idx t]

theorem blk6 (c : Dev nD) (t : Fin cfg0.N) (f : Fin 2816) (k : Fin 1024) : iblk m c 6 t (ix2 f k) = A4 m c (ix2 k f) := by
  blk_point [iblk, V, idx t]

theorem blk7 (c : Dev nD) (t : Fin cfg0.N) (f : Fin 2816) (k : Fin 1024) : iblk m c 7 t (ix2 f k) = A5 m c (ix2 f k) := by
  blk_point [iblk, V, idx t]

/-! ### The groups of columns: five of 512, one of 256 -/

def rows (w : FVec Ideal S2816x1024 .bf16) (o : Nat) (h : ∀ a, ![o, 0] a + S512x1024.size a ≤ S2816x1024.size a) : Vec Ideal S512x1024 .bf16 :=
  View.ld w (Rect.unit (s := S2816x1024) ![o, 0] ![512, 1024] h)

def cols (b : FVec Ideal S256x2816 .bf16) (o : Nat) (h : ∀ a, ![0, o] a + S256x512.size a ≤ S256x2816.size a) : Vec Ideal S256x512 .bf16 :=
  View.ld b (Rect.unit (s := S256x2816) ![0, o] ![256, 512] h)

def rows' (w : FVec Ideal S2816x1024 .bf16) : Vec Ideal S256x1024 .bf16 :=
  View.ld w (Rect.unit (s := S2816x1024) ![2560, 0] ![256, 1024] inb_S2816x1024_S256x1024_2560_0)

def cols' (b : FVec Ideal S256x2816 .bf16) : Vec Ideal S256x256 .bf16 :=
  View.ld b (Rect.unit (s := S256x2816) ![0, 2560] ![256, 256] inb_S256x2816_S256x256_0_2560)

theorem rows_at (w : FVec Ideal S2816x1024 .bf16) (o : Nat) (h) (l : Fin 512) (k : Fin 1024) (hl : o + l.val < 2816) :
    rows w o h (ix2 l k) = w (ix2 ⟨o + l.val, hl⟩ k) := by
  refine congrArg w ?_
  idx_ext

theorem cols_at (b : FVec Ideal S256x2816 .bf16) (o : Nat) (h) (r : Fin 256) (l : Fin 512) (hl : o + l.val < 2816) :
    cols b o h (ix2 r l) = b (ix2 r ⟨o + l.val, hl⟩) := by
  refine congrArg b ?_
  idx_ext

theorem rows'_at (w : FVec Ideal S2816x1024 .bf16) (l : Fin 256) (k : Fin 1024) :
    rows' w (ix2 l k) = w (ix2 ⟨2560 + l.val, by omega⟩ k) := by
  refine congrArg w ?_
  idx_ext

theorem cols'_at (b : FVec Ideal S256x2816 .bf16) (r l : Fin 256) :
    cols' b (ix2 r l) = b (ix2 r ⟨2560 + l.val, by omega⟩) := by
  refine congrArg b ?_
  idx_ext

theorem dact_pay (d : Vec Ideal S256x1024 .f32) (w : Vec Ideal S512x1024 .bf16) (r : Fin 256) (l : Fin 512) :
    k0_pay6 (F := Ideal) d w (ix2 r l) = ∑ k : Fin 1024, d (ix2 r k) * w (ix2 l k) := by
  pointwise [k0_pay6, k0_pay4, k0_pay3]

theorem dact'_pay (d : Vec Ideal S256x1024 .f32) (w : Vec Ideal S256x1024 .bf16) (r l : Fin 256) :
    k0_pay38 (F := Ideal) (k0_pay4 d) w (ix2 r l) = ∑ k : Fin 1024, d (ix2 r k) * w (ix2 l k) := by
  pointwise [k0_pay38, k0_pay4, k0_pay3]

theorem dup_pay (d : Vec Ideal S256x1024 .f32) (w : Vec Ideal S512x1024 .bf16) (g : Vec Ideal S256x512 .bf16) (r : Fin 256) (l : Fin 512) :
    k0_pay10 (F := Ideal) d w g (ix2 r l) = dupOf (∑ k : Fin 1024, d (ix2 r k) * w (ix2 l k)) (g (ix2 r l)) := by
  rw [← dact_pay, dupOf, ← Maths.sig_lit]
  pointwise [k0_pay10, k0_pay8, k0_pay9]

theorem dgt_pay (d : Vec Ideal S256x1024 .f32) (w : Vec Ideal S512x1024 .bf16) (g u : Vec Ideal S256x512 .bf16) (r : Fin 256) (l : Fin 512) :
    k0_pay11 (F := Ideal) d w g u (ix2 r l) = dgtOf (∑ k : Fin 1024, d (ix2 r k) * w (ix2 l k)) (g (ix2 r l)) (u (ix2 r l)) := by
  rw [← dact_pay, dgtOf, ← Maths.sig_lit, ← Maths.lit_one]
  pointwise [k0_pay11, k0_pay8, k0_pay9]

theorem dup'_pay (a : FVec Ideal S256x256 .f32) (g : Vec Ideal S256x256 .bf16) (r l : Fin 256) :
    k0_pay48 (F := Ideal) a g (ix2 r l) = dupOf (a (ix2 r l)) (g (ix2 r l)) := by
  rw [dupOf, ← Maths.sig_lit]
  pointwise [k0_pay48, k0_pay47, k0_pay46]

theorem dgt'_pay (a : FVec Ideal S256x256 .f32) (g u : Vec Ideal S256x256 .bf16) (r l : Fin 256) :
    k0_pay52 (F := Ideal) (k0_pay47 g) (k0_pay49 a u) (k0_pay50 g) k0_pay51 (ix2 r l) = dgtOf (a (ix2 r l)) (g (ix2 r l)) (u (ix2 r l)) := by
  rw [dgtOf, ← Maths.sig_lit, ← Maths.lit_one]
  pointwise [k0_pay52, k0_pay47, k0_pay46, k0_pay49, k0_pay50, k0_pay51]

theorem step_pay (v : FVec Ideal S256x1024 .f32) (a b : FVec Ideal S256x512 .bf16) (wg wu : Vec Ideal S512x1024 .bf16) (r : Fin 256) (k : Fin 1024) :
    k0_pay12 (F := Ideal) v a b wg wu (ix2 r k)
      = v (ix2 r k) + (∑ l : Fin 512, b (ix2 r l) * wg (ix2 l k)) + ∑ l : Fin 512, a (ix2 r l) * wu (ix2 l k) := by
  pointwise [k0_pay12]

theorem step'_pay (v : FVec Ideal S256x1024 .f32) (p : FVec Ideal S256x256 .f32) (a : FVec Ideal S256x256 .bf16) (q s e : FVec Ideal S256x256 .f32)
    (wg wu : Vec Ideal S256x1024 .bf16) (r : Fin 256) (k : Fin 1024) :
    k0_pay53 (F := Ideal) v p a q s e wg wu (ix2 r k)
      = v (ix2 r k) + (∑ l : Fin 256, k0_pay52 (F := Ideal) p q s e (ix2 r l) * wg (ix2 l k)) + ∑ l : Fin 256, a (ix2 r l) * wu (ix2 l k) := by
  pointwise [k0_pay53]

theorem zero_pay (j) : k0_pay2 (F := Ideal) j = 0 := by
  pointwise [k0_pay2]

theorem zero_pay' (j) : k0_pay5 (F := Ideal) j = 0 := by
  pointwise [k0_pay5]

/-! ### The groups at a grid point -/

/-- The block of the cotangent of the factor beside the gate, its columns from `o` on. -/
def dupT (c : Dev nD) (t : Fin cfg0.N) (o : Nat) (hr : ∀ a, ![o, 0] a + S512x1024.size a ≤ S2816x1024.size a)
    (hc : ∀ a, ![0, o] a + S256x512.size a ≤ S256x2816.size a) : FVec Ideal S256x512 .bf16 :=
  k0_pay10 (F := Ideal) (iblk m c 0 t) (rows (iblk m c 7 t) o hr) (cols (iblk m c 2 t) o hc)

/-- The block of the cotangent of the gate's argument, its columns from `o` on. -/
def dgtT (c : Dev nD) (t : Fin cfg0.N) (o : Nat) (hr : ∀ a, ![o, 0] a + S512x1024.size a ≤ S2816x1024.size a)
    (hc : ∀ a, ![0, o] a + S256x512.size a ≤ S256x2816.size a) : FVec Ideal S256x512 .bf16 :=
  k0_pay11 (F := Ideal) (iblk m c 0 t) (rows (iblk m c 7 t) o hr) (cols (iblk m c 2 t) o hc) (cols (iblk m c 3 t) o hc)

/-- One group added to the product with the weights. -/
def step (c : Dev nD) (t : Fin cfg0.N) (o : Nat) (hr : ∀ a, ![o, 0] a + S512x1024.size a ≤ S2816x1024.size a)
    (hc : ∀ a, ![0, o] a + S256x512.size a ≤ S256x2816.size a) (v : FVec Ideal S256x1024 .f32) : FVec Ideal S256x1024 .f32 :=
  k0_pay12 (F := Ideal) v (dupT m c t o hr hc) (dgtT m c t o hr hc) (rows (iblk m c 5 t) o hr) (rows (iblk m c 6 t) o hr)

/-- The cotangent of the activation in the last 256 columns. -/
def dact' (c : Dev nD) (t : Fin cfg0.N) : FVec Ideal S256x256 .f32 := k0_pay38 (F := Ideal) (k0_pay4 (iblk m c 0 t)) (rows' (iblk m c 7 t))

def dupT' (c : Dev nD) (t : Fin cfg0.N) : FVec Ideal S256x256 .bf16 := k0_pay48 (F := Ideal) (dact' m c t) (cols' (iblk m c 2 t))

def dgtT' (c : Dev nD) (t : Fin cfg0.N) : FVec Ideal S256x256 .bf16 :=
  k0_pay52 (F := Ideal) (k0_pay47 (cols' (iblk m c 2 t))) (k0_pay49 (dact' m c t) (cols' (iblk m c 3 t))) (k0_pay50 (cols' (iblk m c 2 t))) k0_pay51

theorem dupT_at (c : Dev nD) (t : Fin cfg0.N) (o : Nat) (hr hc) (r : Fin 256) (l : Fin 512) (hl : o + l.val < 2816) :
    dupT m c t o hr hc (ix2 r l) = dup (A0 m c) (A1 m c) (A2 m c) (A3 m c) (A5 m c) (bOf t r) (sOf t r) ⟨o + l.val, hl⟩ := by
  unfold dupT
  rw [dup_pay, cols_at _ _ _ _ _ hl, blk2]
  simp only [rows_at _ _ _ _ _ hl, blk0, blk7]
  rfl

theorem dgtT_at (c : Dev nD) (t : Fin cfg0.N) (o : Nat) (hr hc) (r : Fin 256) (l : Fin 512) (hl : o + l.val < 2816) :
    dgtT m c t o hr hc (ix2 r l)
      = dgt (A0 m c) (A1 m c) (A2 m c) (A3 m c) (A4 m c) (A5 m c) (bOf t r) (sOf t r) ⟨o + l.val, hl⟩ := by
  unfold dgtT
  rw [dgt_pay, cols_at _ _ _ _ _ hl, cols_at _ _ _ _ _ hl, blk2, blk3]
  simp only [rows_at _ _ _ _ _ hl, blk0, blk7]
  rfl

theorem dact'_at (c : Dev nD) (t : Fin cfg0.N) (r l : Fin 256) :
    dact' m c t (ix2 r l) = dact (A0 m c) (A5 m c) (bOf t r) (sOf t r) ⟨2560 + l.val, by omega⟩ := by
  unfold dact'
  rw [dact'_pay]
  simp only [rows'_at, blk0, blk7]
  rfl

theorem dupT'_at (c : Dev nD) (t : Fin cfg0.N) (r l : Fin 256) :
    dupT' m c t (ix2 r l)
      = dup (A0 m c) (A1 m c) (A2 m c) (A3 m c) (A5 m c) (bOf t r) (sOf t r) ⟨2560 + l.val, by omega⟩ := by
  unfold dupT'
  rw [dup'_pay, dact'_at, cols'_at, blk2]
  rfl

theorem dgtT'_at (c : Dev nD) (t : Fin cfg0.N) (r l : Fin 256) :
    dgtT' m c t (ix2 r l)
      = dgt (A0 m c) (A1 m c) (A2 m c) (A3 m c) (A4 m c) (A5 m c) (bOf t r) (sOf t r) ⟨2560 + l.val, by omega⟩ := by
  unfold dgtT'
  rw [dgt'_pay, dact'_at, cols'_at, cols'_at, blk2, blk3]
  rfl

/-- A summand of the product of the gate's cotangent with the gate's weights. -/
def pg (c : Dev nD) (t : Fin cfg0.N) (r : Fin 256) (k : Fin 1024) (f : Fin 2816) : EReal :=
  dgt (A0 m c) (A1 m c) (A2 m c) (A3 m c) (A4 m c) (A5 m c) (bOf t r) (sOf t r) f * A3 m c (ix2 k f)

/-- A summand of the product of the other cotangent with its weights. -/
def pu (c : Dev nD) (t : Fin cfg0.N) (r : Fin 256) (k : Fin 1024) (f : Fin 2816) : EReal :=
  dup (A0 m c) (A1 m c) (A2 m c) (A3 m c) (A5 m c) (bOf t r) (sOf t r) f * A4 m c (ix2 k f)

theorem step_at (c : Dev nD) (t : Fin cfg0.N) (o : Nat) (hr hc) (ho : o + 512 ≤ 2816) (v : FVec Ideal S256x1024 .f32) (r : Fin 256) (k : Fin 1024) :
    step m c t o hr hc v (ix2 r k) = v (ix2 r k) + (∑ l : Fin 512, pg m c t r k ⟨o + l.val, by omega⟩)
      + ∑ l : Fin 512, pu m c t r k ⟨o + l.val, by omega⟩ := by
  unfold step
  rw [step_pay]
  refine congrArg₂ _ (congrArg _ (Finset.sum_congr rfl fun l _ => ?_)) (Finset.sum_congr rfl fun l _ => ?_)
  · rw [dgtT_at _ _ _ _ _ _ _ _ (by omega), rows_at _ _ _ _ _ (by omega), blk5]; rfl
  · rw [dupT_at _ _ _ _ _ _ _ _ (by omega), rows_at _ _ _ _ _ (by omega), blk6]; rfl

/-- The whole product at a grid point, as the body sums it. -/
def dhTile (c : Dev nD) (t : Fin cfg0.N) : FVec Ideal S256x1024 .f32 :=
  k0_pay53 (F := Ideal)
    (step m c t 2048 inb_S2816x1024_S512x1024_2048_0 inb_S256x2816_S256x512_0_2048
      (step m c t 1536 inb_S2816x1024_S512x1024_1536_0 inb_S256x2816_S256x512_0_1536
        (step m c t 1024 inb_S2816x1024_S512x1024_1024_0 inb_S256x2816_S256x512_0_1024
          (step m c t 512 inb_S2816x1024_S512x1024_512_0 inb_S256x2816_S256x512_0_512
            (step m c t 0 inb_S2816x1024_S512x1024_0_0 inb_S256x2816_S256x512_0_0 k0_pay5)))))
    (k0_pay47 (cols' (iblk m c 2 t))) (dupT' m c t) (k0_pay49 (dact' m c t) (cols' (iblk m c 3 t))) (k0_pay50 (cols' (iblk m c 2 t))) k0_pay51
    (rows' (iblk m c 5 t)) (rows' (iblk m c 6 t))

theorem dhTile_at (c : Dev nD) (t : Fin cfg0.N) (r : Fin 256) (k : Fin 1024) :
    dhTile m c t (ix2 r k) = dh (A0 m c) (A1 m c) (A2 m c) (A3 m c) (A4 m c) (A5 m c) (bOf t r) (sOf t r) k := by
  have hg : ∑ l : Fin 256, dgtT' m c t (ix2 r l) * rows' (iblk m c 5 t) (ix2 l k) = ∑ l : Fin 256, pg m c t r k ⟨2560 + l.val, by omega⟩ :=
    Finset.sum_congr rfl fun l _ => by rw [dgtT'_at, rows'_at, blk5]; rfl
  have hu : ∑ l : Fin 256, dupT' m c t (ix2 r l) * rows' (iblk m c 6 t) (ix2 l k) = ∑ l : Fin 256, pu m c t r k ⟨2560 + l.val, by omega⟩ :=
    Finset.sum_congr rfl fun l _ => by rw [dupT'_at, rows'_at, blk6]; rfl
  have hd : dh (A0 m c) (A1 m c) (A2 m c) (A3 m c) (A4 m c) (A5 m c) (bOf t r) (sOf t r) k
      = (∑ f : Fin 2816, pg m c t r k f) + ∑ f : Fin 2816, pu m c t r k f := rfl
  rw [hd, Maths.sum_groups, Maths.sum_groups, ← hg, ← hu]
  unfold dhTile
  rw [step'_pay]
  simp only [step_at m c t _ _ _ (by omega : 2048 + 512 ≤ 2816), step_at m c t _ _ _ (by omega : 1536 + 512 ≤ 2816),
    step_at m c t _ _ _ (by omega : 1024 + 512 ≤ 2816), step_at m c t _ _ _ (by omega : 512 + 512 ≤ 2816),
    step_at m c t _ _ _ (by omega : 0 + 512 ≤ 2816), zero_pay', zero_add]
  unfold dgtT'
  abel

/-! ### What the point leaves in the blocks of the input's and the norm's gradient -/

theorem rstd_pay (x : Vec Ideal S256x1024 .f32) (r : Fin 256) :
    k0_pay55 (F := Ideal) x (ix2 r 0) = Maths.rstd (fun k => x (ix2 r k)) := by
  pointwise [k0_pay55, k0_pay54, Maths.rstd]

theorem xh_pay (x : Vec Ideal S256x1024 .f32) (r : Fin 256) (k : Fin 1024) :
    k0_pay56 (F := Ideal) x (ix2 r k) = x (ix2 r k) * Maths.rstd (fun k => x (ix2 r k)) := by
  rw [← rstd_pay]
  pointwise [k0_pay56, k0_pay54]

theorem dx_pay (d : FVec Ideal S256x1024 .f32) (x : Vec Ideal S256x1024 .f32) (g : Vec Ideal S1x1024 .f32) (ct : Vec Ideal S256x1024 .f32)
    (r : Fin 256) (k : Fin 1024) :
    k0_pay1 (F := Ideal) (k0_pay3 ct) d (k0_pay55 x) (k0_pay56 x) (k0_pay58 g) (ix2 r k)
      = Maths.rmsBack (fun k => x (ix2 r k)) (fun k => d (ix2 r k) * g (ix2 0 k)) (ct (ix2 r k)) k := by
  have h : k0_pay1 (F := Ideal) (k0_pay3 ct) d (k0_pay55 x) (k0_pay56 x) (k0_pay58 g) (ix2 r k) = ct (ix2 r k) + k0_pay55 x (ix2 r 0) *
      (d (ix2 r k) * g (ix2 0 k) - k0_pay56 x (ix2 r k) * Ideal.div (∑ l, d (ix2 r l) * g (ix2 0 l) * k0_pay56 (F := Ideal) x (ix2 r l))
        (Ideal.ofBits .f32 1149239296#32)) := by
    pointwise [k0_pay1, k0_pay3, k0_pay58]
  rw [h]
  simp only [xh_pay, rstd_pay]
  rfl

theorem dx_point (c : Dev nD) (t : Fin cfg0.N) (r : Fin 256) (k : Fin 1024) :
    k0_pay1 (F := Ideal) (k0_pay3 (iblk m c 0 t)) (dhTile m c t) (k0_pay55 (iblk m c 1 t)) (k0_pay56 (iblk m c 1 t)) (k0_pay58 (iblk m c 4 t)) (ix2 r k)
      = dx (A0 m c) (A1 m c) (A2 m c) (A3 m c) (A4 m c) (A5 m c) (bOf t r) (sOf t r) k := by
  rw [dx_pay, blk0]
  simp only [dhTile_at, blk1, blk4]
  rfl

theorem dg_pay (x0 x1 x2 x3 x4 x5 x6 x7) (x : Vec Ideal S256x1024 .f32) (a : Vec Ideal S1x1024 .f32) (j : S1x1024.Idx) :
    k0_pay57 (F := Ideal) x0 x1 x2 x3 x4 x5 x6 x7 x a j
      = a j + ∑ r : Fin 256, k0_pay53 (F := Ideal) x0 x1 x2 x3 x4 x5 x6 x7 (ix2 r (j 1)) * k0_pay56 (F := Ideal) x (ix2 r (j 1)) := by
  pointwise [k0_pay57]

theorem dg_point (c : Dev nD) (t : Fin cfg0.N) (r : Fin 256) (k : Fin 1024) :
    dhTile m c t (ix2 r k) * k0_pay56 (F := Ideal) (iblk m c 1 t) (ix2 r k)
      = dh (A0 m c) (A1 m c) (A2 m c) (A3 m c) (A4 m c) (A5 m c) (bOf t r) (sOf t r) k
        * (A1 m c (ix3 (bOf t r) (sOf t r) k) * Maths.rstd (row (A1 m c) (bOf t r) (sOf t r))) := by
  rw [dhTile_at, xh_pay]
  simp only [blk1]
  rfl

end Cert.Ffn
-- ==== Proof.Ffn.Array.lean ====
/- The four arrays the backward kernel of the feed-forward half leaves. -/
module

public import proofs.«01_k».proof.Proof.Ffn.Block

@[expose] public section

set_option maxRecDepth 16384

noncomputable section

open Idealize.ShloMosaic Idealize.ShloMosaic.TcCoe Idealize.SL.Sem
open Idealize.ShloMosaic.Pipeline (Dat)

namespace Cert.Ffn

open Cert.Kernel2Ideal Cert.Kernel2Ideal.Gen

variable (m : (ℓ : Loc nD τ sig) → Buf (Elt Ideal) ℓ)

/-- The gradient of the input, the rows of both batch entries one after the other. -/
def dxArr (c : Dev nD) : FVec Ideal S8192x1024 .f32 := fun i =>
  dx (A0 m c) (A1 m c) (A2 m c) (A3 m c) (A4 m c) (A5 m c)
    ⟨(i 0).val / 4096, by have : (i 0).val < 8192 := (i 0).isLt; omega⟩ ⟨(i 0).val % 4096, by omega⟩ (i 1)

/-- The cotangent of the gate's argument. -/
def dgtArr (c : Dev nD) : FVec Ideal S8192x2816 .bf16 := fun i =>
  dgt (A0 m c) (A1 m c) (A2 m c) (A3 m c) (A4 m c) (A5 m c)
    ⟨(i 0).val / 4096, by have : (i 0).val < 8192 := (i 0).isLt; omega⟩ ⟨(i 0).val % 4096, by omega⟩ (i 1)

/-- The cotangent of the factor beside the gate. -/
def dupArr (c : Dev nD) : FVec Ideal S8192x2816 .bf16 := fun i =>
  dup (A0 m c) (A1 m c) (A2 m c) (A3 m c) (A5 m c)
    ⟨(i 0).val / 4096, by have : (i 0).val < 8192 := (i 0).isLt; omega⟩ ⟨(i 0).val % 4096, by omega⟩ (i 1)

/-- The gradient of the norm's weight. -/
def dgArr (c : Dev nD) : FVec Ideal S1x1024 .f32 := fun i => dg (A0 m c) (A1 m c) (A2 m c) (A3 m c) (A4 m c) (A5 m c) (i 1)

set_option maxHeartbeats 2000000 in
theorem final8 (c : Dev nD) : (dats m 0 c).arrAt 8 (cfgs 0).N = dxArr m c := by
  refine (dats m 0 c).arrAt_eq_of_covers 8 _ (by decide +kernel) fun t hf y => ?_
  blk_simp
  rw [after0_8]
  have key : k0_pay1 (F := Ideal) (k0_pay3 (iblk m c 0 t)) (dhTile m c t) (k0_pay55 (iblk m c 1 t)) (k0_pay56 (iblk m c 1 t)) (k0_pay58 (iblk m c 4 t)) y
      = dxArr m c (((View.whole main_v26_0).slice (win0_8.rect t)).emb y) := by
    idx_vars y
    rw [dx_point]
    unfold dxArr bOf sOf
    blk_simp [idx t]
    exact congrArg _ (Fin.ext (by blk_simp [idx t]))
  by_cases h : t.val % 32 = 0
  · rw [outsAt0_A m c t h]; dsimp only; frame_out
    exact key
  · rw [outsAt0_B m c t h]; dsimp only; frame_out
    exact key

theorem dgt_group (c : Dev nD) (t : Fin cfg0.N) (o : Nat) (hr hc) (ho : o + 512 ≤ 2816) (x : S256x512.Idx) (y0 y1 : Nat)
    (i : S8192x2816.Idx) (h0 : y0 = (x 0).val) (h1 : y1 = o + (x 1).val) (i0 : (i 0).val = t.val * 256 + y0)
    (i1 : (i 1).val = y1) : dgtT m c t o hr hc x = dgtArr m c i := by
  idx_vars x
  have hl : x1.val < 512 := x1.isLt
  rw [dgtT_at m c t o hr hc x0 x1 (by omega)]
  exact congr (congr (congrArg (dgt (A0 m c) (A1 m c) (A2 m c) (A3 m c) (A4 m c) (A5 m c)) (Fin.ext (by dsimp only [bOf]; omega))) (Fin.ext (by dsimp only [sOf]; omega)))
    (Fin.ext (by dsimp only; omega))

theorem dgt_group' (c : Dev nD) (t : Fin cfg0.N) (x : S256x256.Idx) (y0 y1 : Nat)
    (i : S8192x2816.Idx) (h0 : y0 = (x 0).val) (h1 : y1 = 2560 + (x 1).val) (i0 : (i 0).val = t.val * 256 + y0)
    (i1 : (i 1).val = y1) : dgtT' m c t x = dgtArr m c i := by
  idx_vars x
  rw [dgtT'_at m c t x0 x1]
  exact congr (congr (congrArg (dgt (A0 m c) (A1 m c) (A2 m c) (A3 m c) (A4 m c) (A5 m c)) (Fin.ext (by dsimp only [bOf]; omega))) (Fin.ext (by dsimp only [sOf]; omega)))
    (Fin.ext (by dsimp only; omega))

theorem dup_group (c : Dev nD) (t : Fin cfg0.N) (o : Nat) (hr hc) (ho : o + 512 ≤ 2816) (x : S256x512.Idx) (y0 y1 : Nat)
    (i : S8192x2816.Idx) (h0 : y0 = (x 0).val) (h1 : y1 = o + (x 1).val) (i0 : (i 0).val = t.val * 256 + y0)
    (i1 : (i 1).val = y1) : dupT m c t o hr hc x = dupArr m c i := by
  idx_vars x
  have hl : x1.val < 512 := x1.isLt
  rw [dupT_at m c t o hr hc x0 x1 (by omega)]
  exact congr (congr (congrArg (dup (A0 m c) (A1 m c) (A2 m c) (A3 m c) (A5 m c)) (Fin.ext (by dsimp only [bOf]; omega))) (Fin.ext (by dsimp only [sOf]; omega)))
    (Fin.ext (by dsimp only; omega))

theorem dup_group' (c : Dev nD) (t : Fin cfg0.N) (x : S256x256.Idx) (y0 y1 : Nat)
    (i : S8192x2816.Idx) (h0 : y0 = (x 0).val) (h1 : y1 = 2560 + (x 1).val) (i0 : (i 0).val = t.val * 256 + y0)
    (i1 : (i 1).val = y1) : dupT' m c t x = dupArr m c i := by
  idx_vars x
  rw [dupT'_at m c t x0 x1]
  exact congr (congr (congrArg (dup (A0 m c) (A1 m c) (A2 m c) (A3 m c) (A5 m c)) (Fin.ext (by dsimp only [bOf]; omega))) (Fin.ext (by dsimp only [sOf]; omega)))
    (Fin.ext (by dsimp only; omega))

set_option maxHeartbeats 4000000 in
theorem final9 (c : Dev nD) : (dats m 0 c).arrAt 9 (cfgs 0).N = dgtArr m c := by
  refine (dats m 0 c).arrAt_eq_of_covers 9 _ (by decide +kernel) fun t hf y => ?_
  blk_simp
  rw [after0_9]
  have e0 : ((((View.whole main_v26_1).slice (win0_9.rect t)).emb y) 0).val = t.val * 256 + (y 0).val := by blk_simp [idx t]
  have e1 : ((((View.whole main_v26_1).slice (win0_9.rect t)).emb y) 1).val = (y 1).val := by blk_simp [idx t]
  by_cases hh : t.val % 32 = 0
  · rw [outsAt0_A m c t hh]; dsimp only; frame_out
    canon_tiles x h using View.cover_of_tiledBy _ ![256, 256] (by sl_kernel_rfl) y
    · exact dgt_group' m c t x _ _ _ h0 h1 e0 e1
    · exact dgt_group m c t 2048 inb_S2816x1024_S512x1024_2048_0 inb_S256x2816_S256x512_0_2048 (by decide) x _ _ _ h0 h1 e0 e1
    · exact dgt_group m c t 1536 inb_S2816x1024_S512x1024_1536_0 inb_S256x2816_S256x512_0_1536 (by decide) x _ _ _ h0 h1 e0 e1
    · exact dgt_group m c t 1024 inb_S2816x1024_S512x1024_1024_0 inb_S256x2816_S256x512_0_1024 (by decide) x _ _ _ h0 h1 e0 e1
    · exact dgt_group m c t 512 inb_S2816x1024_S512x1024_512_0 inb_S256x2816_S256x512_0_512 (by decide) x _ _ _ h0 h1 e0 e1
    · exact dgt_group m c t 0 inb_S2816x1024_S512x1024_0_0 inb_S256x2816_S256x512_0_0 (by decide) x _ _ _ h0 (by omega) e0 e1
  · rw [outsAt0_B m c t hh]; dsimp only; frame_out
    canon_tiles x h using View.cover_of_tiledBy _ ![256, 256] (by sl_kernel_rfl) y
    · exact dgt_group' m c t x _ _ _ h0 h1 e0 e1
    · exact dgt_group m c t 2048 inb_S2816x1024_S512x1024_2048_0 inb_S256x2816_S256x512_0_2048 (by decide) x _ _ _ h0 h1 e0 e1
    · exact dgt_group m c t 1536 inb_S2816x1024_S512x1024_1536_0 inb_S256x2816_S256x512_0_1536 (by decide) x _ _ _ h0 h1 e0 e1
    · exact dgt_group m c t 1024 inb_S2816x1024_S512x1024_1024_0 inb_S256x2816_S256x512_0_1024 (by decide) x _ _ _ h0 h1 e0 e1
    · exact dgt_group m c t 512 inb_S2816x1024_S512x1024_512_0 inb_S256x2816_S256x512_0_512 (by decide) x _ _ _ h0 h1 e0 e1
    · exact dgt_group m c t 0 inb_S2816x1024_S512x1024_0_0 inb_S256x2816_S256x512_0_0 (by decide) x _ _ _ h0 (by omega) e0 e1

set_option maxHeartbeats 4000000 in
theorem final10 (c : Dev nD) : (dats m 0 c).arrAt 10 (cfgs 0).N = dupArr m c := by
  refine (dats m 0 c).arrAt_eq_of_covers 10 _ (by decide +kernel) fun t hf y => ?_
  blk_simp
  rw [after0_10]
  have e0 : ((((View.whole main_v26_2).slice (win0_10.rect t)).emb y) 0).val = t.val * 256 + (y 0).val := by blk_simp [idx t]
  have e1 : ((((View.whole main_v26_2).slice (win0_10.rect t)).emb y) 1).val = (y 1).val := by blk_simp [idx t]
  by_cases hh : t.val % 32 = 0
  · rw [outsAt0_A m c t hh]; dsimp only; frame_out
    canon_tiles x h using View.cover_of_tiledBy _ ![256, 256] (by sl_kernel_rfl) y
    · exact dup_group' m c t x _ _ _ h0 h1 e0 e1
    · exact dup_group m c t 2048 inb_S2816x1024_S512x1024_2048_0 inb_S256x2816_S256x512_0_2048 (by decide) x _ _ _ h0 h1 e0 e1
    · exact dup_group m c t 1536 inb_S2816x1024_S512x1024_1536_0 inb_S256x2816_S256x512_0_1536 (by decide) x _ _ _ h0 h1 e0 e1
    · exact dup_group m c t 1024 inb_S2816x1024_S512x1024_1024_0 inb_S256x2816_S256x512_0_1024 (by decide) x _ _ _ h0 h1 e0 e1
    · exact dup_group m c t 512 inb_S2816x1024_S512x1024_512_0 inb_S256x2816_S256x512_0_512 (by decide) x _ _ _ h0 h1 e0 e1
    · exact dup_group m c t 0 inb_S2816x1024_S512x1024_0_0 inb_S256x2816_S256x512_0_0 (by decide) x _ _ _ h0 (by omega) e0 e1
  · rw [outsAt0_B m c t hh]; dsimp only; frame_out
    canon_tiles x h using View.cover_of_tiledBy _ ![256, 256] (by sl_kernel_rfl) y
    · exact dup_group' m c t x _ _ _ h0 h1 e0 e1
    · exact dup_group m c t 2048 inb_S2816x1024_S512x1024_2048_0 inb_S256x2816_S256x512_0_2048 (by decide) x _ _ _ h0 h1 e0 e1
    · exact dup_group m c t 1536 inb_S2816x1024_S512x1024_1536_0 inb_S256x2816_S256x512_0_1536 (by decide) x _ _ _ h0 h1 e0 e1
    · exact dup_group m c t 1024 inb_S2816x1024_S512x1024_1024_0 inb_S256x2816_S256x512_0_1024 (by decide) x _ _ _ h0 h1 e0 e1
    · exact dup_group m c t 512 inb_S2816x1024_S512x1024_512_0 inb_S256x2816_S256x512_0_512 (by decide) x _ _ _ h0 h1 e0 e1
    · exact dup_group m c t 0 inb_S2816x1024_S512x1024_0_0 inb_S256x2816_S256x512_0_0 (by decide) x _ _ _ h0 (by omega) e0 e1

def lastPoint : Fin grid0.N := ⟨31, by rw [N_0]; decide⟩

theorem lastPoint_val : lastPoint.val + 1 = cfg0.N := N_0.symm

/-- The rows of the thirty-two blocks are the positions of the two batch entries. -/
theorem sum_rows (f : Fin 2 → Fin 4096 → EReal) :
    ∑ t : Fin cfg0.N, ∑ r : Fin 256, f (bOf t r) (sOf t r) = ∑ b : Fin 2, ∑ s : Fin 4096, f b s :=
  Maths.sum_rows f

theorem sum_points (c : Dev nD) (k : Fin 1024) :
    ∑ t : Fin cfg0.N, ∑ r : Fin 256, dhTile m c t (ix2 r k) * k0_pay56 (F := Ideal) (iblk m c 1 t) (ix2 r k)
      = dg (A0 m c) (A1 m c) (A2 m c) (A3 m c) (A4 m c) (A5 m c) k :=
  (Finset.sum_congr rfl fun t _ => Finset.sum_congr rfl fun r _ => dg_point m c t r k).trans
    (sum_rows fun b s => dh (A0 m c) (A1 m c) (A2 m c) (A3 m c) (A4 m c) (A5 m c) b s k
      * (A1 m c (ix3 b s k) * Maths.rstd (row (A1 m c) b s)))

set_option maxHeartbeats 2000000 in
theorem final11 (c : Dev nD) : (dats m 0 c).arrAt 11 (cfgs 0).N = dgArr m c := by
  refine (dats m 0 c).arrAt_eq_of_after_last 11 lastPoint (by decide +kernel) _ fun j => ?_
  blk_simp
  rw [after0_11, Pipeline.eq_sum_fin_of_reset_step_apply_last (fun n h => (outsAt0 m c n h).2.2.2)
    32 (fun _ => 0) (fun t (j : S1x1024.Idx) => (∑ r : Fin 256, dhTile m c t (ix2 r (j 1)) * k0_pay56 (F := Ideal) (iblk m c 1 t) (ix2 r (j 1)) : EReal))
    (fun t h j => by
      rw [outsAt0_A m c t h]; dsimp only; frame_out
      rw [dg_pay, zero_pay]
      rfl)
    (fun t h j => by
      rw [outsAt0_B m c t h]; dsimp only; frame_out
      rw [dg_pay]
      rfl)
    (le_of_eq N_0) lastPoint lastPoint_val j, zero_add]
  exact sum_points m c (j 1)

end Cert.Ffn
-- ==== Proof.Ffn.Reference.lean ====
/- What the reference of the feed-forward half computes, element by element. -/
module

public import proofs.«01_k».proof.Proof.Gen.Reference2Ideal.Read
public import proofs.«01_k».proof.Proof.Ffn.Spec

@[expose] public section

set_option maxRecDepth 16384

noncomputable section

open Idealize.ShloMosaic Idealize.ShloMosaic.TcCoe Idealize.SL.Sem
open Idealize.ShloMosaic.Pipeline (Dat)

namespace Cert.Ffn

open Cert.Reference2Ideal Cert.Reference2Ideal.Gen Cert.Reference2Ideal.Read

variable (x0 x1 : FVec Ideal S2x4096x1024 .f32) (x2 : FVec Ideal S1024 .f32) (x3 x4 : FVec Ideal S1024x2816 .f32)
  (x5 : FVec Ideal S2816x1024 .f32)

theorem ref_ms (b : Fin 2) (s : Fin 4096) : val_main_v6 (F := Ideal) x1 (ix3 b s 0)
    = Ideal.div (∑ k, row x1 b s k * row x1 b s k) (Ideal.ofBits .f32 1149239296#32) + Ideal.ofBits .f32 897988541#32 := by
  pointwise [val_main_v6, val_main_v5, val_main_v4, val_main_v3, val_main_v2, val_main_v1, val_main_v0, val_main_cst, val_main_cst_0, val_main_cst_1, row]

theorem ref_rstd (b : Fin 2) (s : Fin 4096) : val_main_v7 (F := Ideal) x1 (ix3 b s 0) = Maths.rstd (row x1 b s) := by
  unfold Maths.rstd
  rw [← ref_ms]
  pointwise [val_main_v7]

theorem ref_gate (b : Fin 2) (s : Fin 4096) (f : Fin 2816) : val_main_v16 (F := Ideal) x1 x2 x3 (ix3 b s f) = proj x1 x2 x3 b s f := by
  unfold proj
  simp only [← ref_rstd]
  pointwise [val_main_v16, val_main_v15, val_main_v14, val_main_v13, val_main_v12, val_main_v11]

theorem ref_up (b : Fin 2) (s : Fin 4096) (f : Fin 2816) : val_main_v17 (F := Ideal) x1 x2 x4 (ix3 b s f) = proj x1 x2 x4 b s f := by
  unfold proj
  simp only [← ref_rstd]
  pointwise [val_main_v17, val_main_v15, val_main_v14, val_main_v13, val_main_v12, val_main_v11]

theorem ref_dact (b : Fin 2) (s : Fin 4096) (f : Fin 2816) : val_main_v23 (F := Ideal) x0 x5 (ix3 b s f) = dact x0 x5 b s f := by
  pointwise [val_main_v23, val_main_v22, dact]

theorem ref_sig (b : Fin 2) (s : Fin 4096) (f : Fin 2816) :
    val_main_v18_2 (F := Ideal) x1 x2 x3 (ix3 b s f) = Maths.sig (proj x1 x2 x3 b s f) := by
  rw [← ref_gate, Maths.sig, ← Maths.lit_one]
  pointwise [val_main_v18_2, val_main_call0_v4, val_main_call0_cst_0, val_main_call0_v3, val_main_call0_v2, val_main_call0_cst, val_main_call0_v1, val_main_call0_v0]

theorem ref_dup (b : Fin 2) (s : Fin 4096) (f : Fin 2816) :
    val_main_v24 (F := Ideal) x0 x1 x2 x3 x5 (ix3 b s f) = dup x0 x1 x2 x3 x5 b s f := by
  unfold dup dupOf
  rw [← ref_sig, ← ref_gate, ← ref_dact, mul_comm]
  pointwise [val_main_v24, val_main_v18_0]

theorem ref_dgt (b : Fin 2) (s : Fin 4096) (f : Fin 2816) (h : Maths.IsReal (dact x0 x5 b s f * proj x1 x2 x4 b s f)) :
    val_main_v26 (F := Ideal) x0 x1 x2 x3 x4 x5 (ix3 b s f) = dgt x0 x1 x2 x3 x4 x5 b s f := by
  unfold dgt dgtOf
  rw [← Maths.gate_grad h, ← ref_sig x1 x2 x3, ← ref_gate x1 x2 x3, ← ref_dact, ← ref_up x1 x2 x4]
  pointwise [val_main_v26, val_main_call1_v1, val_main_call1_v2, val_main_call1_v0, val_main_v25, val_main_v18_1, val_main_call0_v7, val_main_call0_v6, val_main_call0_cst_1, Maths.lit_one]

/-! The forward lines are read twice, once more for the two cotangents: the second reading is the first. -/

theorem again_h : val_main_v63 (F := Ideal) x1 x2 = val_main_v15 x1 x2 := rfl

theorem again_gate : val_main_v64 (F := Ideal) x1 x2 x3 = val_main_v16 x1 x2 x3 := by
  unfold val_main_v64 val_main_v16
  rw [again_h]

theorem again_up : val_main_v65 (F := Ideal) x1 x2 x4 = val_main_v17 x1 x2 x4 := by
  unfold val_main_v65 val_main_v17
  rw [again_h]

theorem again_sig : val_main_v66_2 (F := Ideal) x1 x2 x3 = val_main_v18_2 x1 x2 x3 := by
  unfold val_main_v66_2 val_main_v18_2 val_main_call2_v3 val_main_call0_v3 val_main_call2_v1 val_main_call0_v1 val_main_call2_v0 val_main_call0_v0
  rw [again_gate]
  rfl

theorem again_dact : val_main_v69 (F := Ideal) x0 x5 = val_main_v23 x0 x5 := by
  funext i
  idx_vars i
  pointwise [val_main_v69, val_main_v23, val_main_v22]

theorem ref_dgt' : val_main_v72 (F := Ideal) x0 x1 x2 x3 x4 x5 = val_main_v26 (F := Ideal) x0 x1 x2 x3 x4 x5 := by
  unfold val_main_v72 val_main_v26 val_main_call3_v1 val_main_call1_v1 val_main_call3_v2 val_main_call1_v2 val_main_call3_v0 val_main_call1_v0 val_main_v71 val_main_v25 val_main_v66_1 val_main_v18_1 val_main_call2_v7 val_main_call0_v7
  rw [again_gate, again_up, again_sig, again_dact]
  rfl

theorem ref_dup' : val_main_v70 (F := Ideal) x0 x1 x2 x3 x5 = val_main_v24 (F := Ideal) x0 x1 x2 x3 x5 := by
  unfold val_main_v70 val_main_v24 val_main_v66_0 val_main_v18_0
  rw [again_gate, again_sig, again_dact]

theorem ref_dh (b : Fin 2) (s : Fin 4096) (k : Fin 1024) (h : ∀ f, Maths.IsReal (dact x0 x5 b s f * proj x1 x2 x4 b s f)) :
    val_main_v29 (F := Ideal) x0 x1 x2 x3 x4 x5 (ix3 b s k) = dh x0 x1 x2 x3 x4 x5 b s k := by
  unfold dh
  simp only [← ref_dgt _ _ _ _ _ _ _ _ _ (h _), ← ref_dup]
  rw [add_comm]
  pointwise [val_main_v29, val_main_v28, val_main_v27]

theorem ref_dx (a : Fin 8192) (k : Fin 1024) (h : ∀ b s f, Maths.IsReal (dact x0 x5 b s f * proj x1 x2 x4 b s f)) :
    val_main_v73 (F := Ideal) x0 x1 x2 x3 x4 x5 (ix2 a k) = dx x0 x1 x2 x3 x4 x5 ⟨a.val / 4096, by omega⟩ ⟨a.val % 4096, by omega⟩ k := by
  unfold dx
  rw [Maths.rmsBack_eq]
  unfold Maths.rmsFactor
  rw [← ref_ms, ← ref_rstd]
  simp only [← ref_dh _ _ _ _ _ _ _ _ _ (h _ _)]
  pointwise [val_main_v73, val_main_v50, val_main_v49, val_main_v48, val_main_v47, val_main_v46, val_main_v45, val_main_v44, val_main_v43, val_main_v42, val_main_v41, val_main_v40, val_main_v39, val_main_v38, val_main_v37, val_main_v36, val_main_v34, val_main_v33, val_main_v13, val_main_v10, val_main_v9, val_main_v8, val_main_cst_7, val_main_cst_6, val_main_cst_5, val_main_cst_2, row]
  simp only [Fin.sum_univ_one]

theorem ref_dg (k : Fin 1024) (h : ∀ b s f, Maths.IsReal (dact x0 x5 b s f * proj x1 x2 x4 b s f)) :
    val_main_v78 (F := Ideal) x0 x1 x2 x3 x4 x5 (ix2 0 k) = dg x0 x1 x2 x3 x4 x5 k := by
  unfold dg
  simp only [← ref_rstd, ← ref_dh _ _ _ _ _ _ _ _ _ (h _ _)]
  pointwise [val_main_v78, val_main_v35, val_main_v32, val_main_v31, val_main_v30, val_main_v12, val_main_v11, Maths.hostSum_leading, val_main_cst_3, val_main_cst_4]
  simp only [Fin.sum_univ_one]
  exact Finset.sum_congr rfl fun b _ => Finset.sum_congr rfl fun s _ => mul_comm _ _

theorem ref_dgtArr (a : Fin 8192) (f : Fin 2816) (h : ∀ b s f, Maths.IsReal (dact x0 x5 b s f * proj x1 x2 x4 b s f)) :
    val_main_v75 (F := Ideal) x0 x1 x2 x3 x4 x5 (ix2 a f)
      = dgt x0 x1 x2 x3 x4 x5 ⟨a.val / 4096, by omega⟩ ⟨a.val % 4096, by omega⟩ f := by
  rw [← ref_dgt _ _ _ _ _ _ _ _ _ (h _ _ _)]
  simp only [← ref_dgt']
  pointwise [val_main_v75, val_main_v74]

theorem ref_dupArr (a : Fin 8192) (f : Fin 2816) :
    val_main_v77 (F := Ideal) x0 x1 x2 x3 x5 (ix2 a f)
      = dup x0 x1 x2 x3 x5 ⟨a.val / 4096, by omega⟩ ⟨a.val % 4096, by omega⟩ f := by
  rw [← ref_dup]
  simp only [← ref_dup']
  pointwise [val_main_v77, val_main_v76]

end Cert.Ffn
-- ==== Proof.Ffn.Claim.lean ====
/- The claims about the backward kernel of the feed-forward half. -/
module

public import proofs.«01_k».proof.Defs
public import proofs.«01_k».proof.Proof.Gen.Reference2Ideal.Run
public import proofs.«01_k».proof.Proof.Gen.Pre_finite2
public import proofs.«01_k».proof.Proof.Ffn.Array
public import proofs.«01_k».proof.Proof.Ffn.Reference

@[expose] public section

set_option maxRecDepth 16384

noncomputable section

open Idealize.ShloMosaic Idealize.ShloMosaic.TcCoe Idealize.SL.Sem
open Idealize.ShloMosaic.Pipeline (Dat)

namespace Cert.Ffn

/-- The frame of the reference: its run ends with its arguments as launched. -/
theorem frame_reference : Cert.quiescent_Reference2Ideal := fun m g _ =>
  (θ_run Cert.Reference2Ideal.defs _ _).mono
    (fun r h => ⟨fun c => (h c).2.2.2.2, Idealize.ShloMosaic.sem_eq_zero_of_no_sems (by decide) r.2⟩)
    (Cert.Reference2Ideal.Value.run m g)

open Cert.Kernel2Ideal in
/-- Under the precondition the product the gate's derivative is multiplied with is a real number. -/
theorem real_product (m : (ℓ : Loc nD τ sig) → Buf (Elt Ideal) ℓ) (h : Cert.Pre_Kernel2Ideal_finite2 m) (c : Dev nD)
    (b : Fin 2) (s : Fin 4096) (f : Fin 2816) :
    Maths.IsReal (dact (A0 m c) (A5 m c) b s f * proj (A1 m c) (A2 m c) (A4 m c) b s f) := by
  have h0 : ∀ i, Maths.IsReal (A0 m c i) := fun i => Maths.isReal_of_test (congrFun (h c).1 i)
  have h2 : ∀ i, Maths.IsReal (A2 m c i) := fun i => Maths.isReal_of_test (congrFun (h c).2.1 i)
  have h4 : ∀ i, Maths.IsReal (A4 m c i) := fun i => Maths.isReal_of_test (congrFun (h c).2.2.1 i)
  have h5 : ∀ i, Maths.IsReal (A5 m c i) := fun i => Maths.isReal_of_test (congrFun (h c).2.2.2 i)
  refine Maths.IsReal.mul (Maths.IsReal.sum _ _ fun k _ => (h0 _).mul (h5 _)) (Maths.IsReal.sum _ _ fun k _ => ?_)
  exact ((Maths.isReal_mul_rstd (row (A1 m c) b s) k).mul (h2 _)).mul (h4 _)

/-- Both programs end with the same four results. -/
theorem algebraic : Cert.algebraic_Kernel2Ideal_Reference2Ideal_pre_finite2 := by
  pair_intro
  · run_from Cert.Kernel2Ideal.Value.run_blocks m g
  · run_from Cert.Reference2Ideal.Value.run m' g'
    · rw [Cert.Reference2Ideal.Read.val_main_v73_eq, (hagree c).1, (hagree c).2.1, (hagree c).2.2.1, (hagree c).2.2.2.1, (hagree c).2.2.2.2.1, (hagree c).2.2.2.2.2]
      refine Eq.trans ?_ (final8 m c).symm
      funext i
      idx_vars i
      exact ref_dx _ _ _ _ _ _ _ _ (real_product m hpre c)
    · rw [Cert.Reference2Ideal.Read.val_main_v75_eq, (hagree c).1, (hagree c).2.1, (hagree c).2.2.1, (hagree c).2.2.2.1, (hagree c).2.2.2.2.1, (hagree c).2.2.2.2.2]
      refine Eq.trans ?_ (final9 m c).symm
      funext i
      idx_vars i
      exact ref_dgtArr _ _ _ _ _ _ _ _ (real_product m hpre c)
    · rw [Cert.Reference2Ideal.Read.val_main_v77_eq]
      refine Eq.trans ?_ (final10 m c).symm
      funext i
      idx_vars i
      exact ref_dupArr _ _ _ _ _ _ _
    · rw [Cert.Reference2Ideal.Read.val_main_v78_eq, (hagree c).1, (hagree c).2.1, (hagree c).2.2.1, (hagree c).2.2.2.1, (hagree c).2.2.2.2.1, (hagree c).2.2.2.2.2]
      refine Eq.trans ?_ (final11 m c).symm
      funext i
      idx_vars i
      rw [Subsingleton.elim i0 0]
      exact ref_dg _ _ _ _ _ _ _ (real_product m hpre c)

end Cert.Ffn
-- ==== Proof.Head.Values.lean ====
module

public import proofs.«01_k».proof.Proof.Gen.Kernel3Ideal.Frame.Runs
public import Idealize.ShloMosaic.Lib.Pipeline.ValueKit
public import Idealize.ShloMosaic.Lib.Pipeline.Value

@[expose] public section

set_option maxRecDepth 16384

noncomputable section

/-! What one grid point of the fused head computes, as named functions of its input blocks: the values the body passes along, then what it leaves in each output buffer. -/

namespace Cert.Head.Run

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The blocks of the 17 inputs at one point. -/
structure Ins (F : FTy → Type) where
  /-- columns 2048 to 4095 of the projections: gate operand and value of the spatial unit -/
  x0 : Vec F S256x2048 .bf16
  /-- columns 4096 to 6143 of the projections: the merge gates -/
  x1 : Vec F S256x2048 .bf16
  /-- the convolution branch -/
  x2 : Vec F S256x1024 .bf16
  /-- the residual stream -/
  x3 : Vec F S256x1024 .f32
  /-- layer-norm gain -/
  x4 : Vec F S1x1024 .f32
  /-- layer-norm bias -/
  x5 : Vec F S1x1024 .f32
  /-- spatial weights of the 8 groups -/
  x6 : Vec F S8x128x128 .bf16
  /-- spatial biases, one column block per group -/
  x7 : Vec F S128x1024 .f32
  /-- bias of the merge gates -/
  x8 : Vec F S1x2048 .f32
  /-- output weights of the spatial unit -/
  x9 : Vec F S4x256x1024 .bf16
  /-- output weights of the block -/
  x10 : Vec F S4x256x1024 .bf16
  /-- gain of the feed-forward norm -/
  x11 : Vec F S1x1024 .f32
  /-- feed-forward gate weights -/
  x12 : Vec F S2816x1024 .bf16
  /-- feed-forward up weights -/
  x13 : Vec F S2816x1024 .bf16
  /-- feed-forward down weights -/
  x14 : Vec F S2816x1024 .bf16
  /-- gain of the final norm -/
  x15 : Vec F S1x1024 .f32
  /-- the targets -/
  x16 : Vec F S256x1024 .f32

/-- The value printed as `v2`. -/
def v2 (X : Ins F) : FVec F S256x1024 .f32 :=
  k0_pay3 (View.ld X.x0 (Rect.unit (s := S256x2048) ![0, 0] S256x1024.size inb_S256x2048_S256x1024_0_0))

/-- The value printed as `v30`. -/
def v30 (X : Ins F) : FVec F S256x1024 .bf16 :=
  k0_pay4 (View.ld X.x0 (Rect.unit (s := S256x2048) ![0, 1024] S256x1024.size inb_S256x2048_S256x1024_0_1024)) X.x4 X.x5

/-- The value printed as `v36`. -/
def v36 (X : Ins F) : FVec F S128x256 .f32 :=
  k0_pay5 (View.ld X.x0 (Rect.unit (s := S256x2048) ![0, 1024] S256x1024.size inb_S256x2048_S256x1024_0_1024)) X.x4 X.x5 (View.ld X.x6 (Rect.unit (s := S8x128x128) ![0, 0, 0] S1x128x128.size inb_S8x128x128_S1x128x128_0_0_0))

/-- The value printed as `v37`. -/
def v37 (X : Ins F) : FVec F S128x128 .f32 :=
  k0_pay6 (View.ld X.x0 (Rect.unit (s := S256x2048) ![0, 1024] S256x1024.size inb_S256x2048_S256x1024_0_1024)) X.x4 X.x5 (View.ld X.x6 (Rect.unit (s := S8x128x128) ![0, 0, 0] S1x128x128.size inb_S8x128x128_S1x128x128_0_0_0))

/-- The value printed as `v39`. -/
def v39 (X : Ins F) : FVec F S128x128 .f32 :=
  k0_pay7 (View.ld X.x7 (Rect.unit (s := S128x1024) ![0, 0] S128x128.size inb_S128x1024_S128x128_0_0))

/-- The value printed as `v73`. -/
def v73 (X : Ins F) : FVec F S128x256 .bf16 :=
  k0_pay13 (v30 X)

/-- The value printed as `v74`. -/
def v74 (X : Ins F) : Vec F S1x128x128 .bf16 :=
  View.ld X.x6 (Rect.unit (s := S8x128x128) ![2, 0, 0] S1x128x128.size inb_S8x128x128_S1x128x128_2_0_0)

/-- The value printed as `v110`. -/
def v110 (X : Ins F) : FVec F S128x128 .f32 :=
  k0_pay19 (v30 X) (View.ld X.x6 (Rect.unit (s := S8x128x128) ![3, 0, 0] S1x128x128.size inb_S8x128x128_S1x128x128_3_0_0)) (View.ld X.x7 (Rect.unit (s := S128x1024) ![0, 384] S128x128.size inb_S128x1024_S128x128_0_384))

/-- The value printed as `v144`. -/
def v144 (X : Ins F) : FVec F S128x128 .f32 :=
  k0_pay25 (v30 X) (View.ld X.x6 (Rect.unit (s := S8x128x128) ![5, 0, 0] S1x128x128.size inb_S8x128x128_S1x128x128_5_0_0))

/-- The value printed as `v176`. -/
def v176 (X : Ins F) : FVec F S128x256 .f32 :=
  k0_pay30 (v30 X) (View.ld X.x6 (Rect.unit (s := S8x128x128) ![7, 0, 0] S1x128x128.size inb_S8x128x128_S1x128x128_7_0_0))

/-- The value printed as `v180`. -/
def v180 (X : Ins F) : FVec F S128x128 .f32 :=
  k0_pay31 (v30 X) (View.ld X.x6 (Rect.unit (s := S8x128x128) ![7, 0, 0] S1x128x128.size inb_S8x128x128_S1x128x128_7_0_0)) (View.ld X.x7 (Rect.unit (s := S128x1024) ![0, 896] S128x128.size inb_S128x1024_S128x128_0_896))

/-- The pieces stored into `mix`, the last first. -/
def mixTiles (X : Ins F) : List (View.Piece (Elt F) S256x1024 .f32) :=
  [⟨Rect.unit (s := S256x1024) ![128, 896] S128x128.size inb_S256x1024_S128x128_128_896, k0_pay33 (v176 X) (View.ld X.x7 (Rect.unit (s := S128x1024) ![0, 896] S128x128.size inb_S128x1024_S128x128_0_896))⟩,
   ⟨Rect.unit (s := S256x1024) ![0, 896] S128x128.size inb_S256x1024_S128x128_0_896, k0_pay32 (v180 X)⟩,
   ⟨Rect.unit (s := S256x1024) ![128, 768] S128x128.size inb_S256x1024_S128x128_128_768, k0_pay29 (v30 X) (View.ld X.x6 (Rect.unit (s := S8x128x128) ![6, 0, 0] S1x128x128.size inb_S8x128x128_S1x128x128_6_0_0)) (View.ld X.x7 (Rect.unit (s := S128x1024) ![0, 768] S128x128.size inb_S128x1024_S128x128_0_768))⟩,
   ⟨Rect.unit (s := S256x1024) ![0, 768] S128x128.size inb_S256x1024_S128x128_0_768, k0_pay28 (v30 X) (View.ld X.x6 (Rect.unit (s := S8x128x128) ![6, 0, 0] S1x128x128.size inb_S8x128x128_S1x128x128_6_0_0)) (View.ld X.x7 (Rect.unit (s := S128x1024) ![0, 768] S128x128.size inb_S128x1024_S128x128_0_768))⟩,
   ⟨Rect.unit (s := S256x1024) ![128, 640] S128x128.size inb_S256x1024_S128x128_128_640, k0_pay26 (v144 X) (View.ld X.x7 (Rect.unit (s := S128x1024) ![0, 640] S128x128.size inb_S128x1024_S128x128_0_640))⟩,
   ⟨Rect.unit (s := S256x1024) ![0, 640] S128x128.size inb_S256x1024_S128x128_0_640, k0_pay24 (v30 X) (View.ld X.x6 (Rect.unit (s := S8x128x128) ![5, 0, 0] S1x128x128.size inb_S8x128x128_S1x128x128_5_0_0)) (View.ld X.x7 (Rect.unit (s := S128x1024) ![0, 640] S128x128.size inb_S128x1024_S128x128_0_640))⟩,
   ⟨Rect.unit (s := S256x1024) ![128, 512] S128x128.size inb_S256x1024_S128x128_128_512, k0_pay22 (v30 X) (View.ld X.x6 (Rect.unit (s := S8x128x128) ![4, 0, 0] S1x128x128.size inb_S8x128x128_S1x128x128_4_0_0)) (View.ld X.x7 (Rect.unit (s := S128x1024) ![0, 512] S128x128.size inb_S128x1024_S128x128_0_512))⟩,
   ⟨Rect.unit (s := S256x1024) ![0, 512] S128x128.size inb_S256x1024_S128x128_0_512, k0_pay21 (v30 X) (View.ld X.x6 (Rect.unit (s := S8x128x128) ![4, 0, 0] S1x128x128.size inb_S8x128x128_S1x128x128_4_0_0)) (View.ld X.x7 (Rect.unit (s := S128x1024) ![0, 512] S128x128.size inb_S128x1024_S128x128_0_512))⟩,
   ⟨Rect.unit (s := S256x1024) ![128, 384] S128x128.size inb_S256x1024_S128x128_128_384, v110 X⟩,
   ⟨Rect.unit (s := S256x1024) ![0, 384] S128x128.size inb_S256x1024_S128x128_0_384, k0_pay18 (v30 X) (View.ld X.x6 (Rect.unit (s := S8x128x128) ![3, 0, 0] S1x128x128.size inb_S8x128x128_S1x128x128_3_0_0)) (View.ld X.x7 (Rect.unit (s := S128x1024) ![0, 384] S128x128.size inb_S128x1024_S128x128_0_384))⟩,
   ⟨Rect.unit (s := S256x1024) ![128, 256] S128x128.size inb_S256x1024_S128x128_128_256, k0_pay16 (v73 X) (v74 X) (View.ld X.x7 (Rect.unit (s := S128x1024) ![0, 256] S128x128.size inb_S128x1024_S128x128_0_256))⟩,
   ⟨Rect.unit (s := S256x1024) ![0, 256] S128x128.size inb_S256x1024_S128x128_0_256, k0_pay15 (v73 X) (v74 X) (View.ld X.x7 (Rect.unit (s := S128x1024) ![0, 256] S128x128.size inb_S128x1024_S128x128_0_256))⟩,
   ⟨Rect.unit (s := S256x1024) ![128, 128] S128x128.size inb_S256x1024_S128x128_128_128, k0_pay12 (v30 X) (View.ld X.x6 (Rect.unit (s := S8x128x128) ![1, 0, 0] S1x128x128.size inb_S8x128x128_S1x128x128_1_0_0)) (View.ld X.x7 (Rect.unit (s := S128x1024) ![0, 128] S128x128.size inb_S128x1024_S128x128_0_128))⟩,
   ⟨Rect.unit (s := S256x1024) ![0, 128] S128x128.size inb_S256x1024_S128x128_0_128, k0_pay11 (v30 X) (View.ld X.x6 (Rect.unit (s := S8x128x128) ![1, 0, 0] S1x128x128.size inb_S8x128x128_S1x128x128_1_0_0)) (View.ld X.x7 (Rect.unit (s := S128x1024) ![0, 128] S128x128.size inb_S128x1024_S128x128_0_128))⟩,
   ⟨Rect.unit (s := S256x1024) ![128, 0] S128x128.size inb_S256x1024_S128x128_128_0, k0_pay9 (v36 X) (View.ld X.x7 (Rect.unit (s := S128x1024) ![0, 0] S128x128.size inb_S128x1024_S128x128_0_0))⟩,
   ⟨Rect.unit (s := S256x1024) ![0, 0] S128x128.size inb_S256x1024_S128x128_0_0, k0_pay8 (v37 X) (v39 X)⟩]

/-- What the pieces leave in `mix`. -/
def mix (X : Ins F) : Vec F S256x1024 .f32 :=
  View.canon (mixTiles X)

/-- The value printed as `v200`. -/
def v200 (X : Ins F) : FVec F S256x1024 .f32 :=
  k0_pay36 (v2 X) (mix X) X.x9

/-- The value printed as `v212`. -/
def v212 (X : Ins F) : FVec F S256x1024 .f32 :=
  k0_pay38 (View.ld X.x1 (Rect.unit (s := S256x2048) ![0, 0] S256x1024.size inb_S256x2048_S256x1024_0_0)) (View.ld X.x8 (Rect.unit (s := S1x2048) ![0, 0] S1x1024.size inb_S1x2048_S1x1024_0_0))

/-- The value printed as `v245`. -/
def v245 (X : Ins F) : FVec F S256x1024 .f32 :=
  k0_pay40 (v200 X) (v212 X) (Scalar.ofBits .f32 0x3F800000#32) (View.ld X.x1 (Rect.unit (s := S256x2048) ![0, 1024] S256x1024.size inb_S256x2048_S256x1024_0_1024)) (View.ld X.x8 (Rect.unit (s := S1x2048) ![0, 1024] S1x1024.size inb_S1x2048_S1x1024_0_1024)) X.x2 X.x3 X.x10

/-- The value printed as `v249`. -/
def v249 (X : Ins F) : FVec F S256x1 .f32 :=
  k0_pay41 (v200 X) (v212 X) (Scalar.ofBits .f32 0x3F800000#32) (View.ld X.x1 (Rect.unit (s := S256x2048) ![0, 1024] S256x1024.size inb_S256x2048_S256x1024_0_1024)) (View.ld X.x8 (Rect.unit (s := S1x2048) ![0, 1024] S1x1024.size inb_S1x2048_S1x1024_0_1024)) X.x2 X.x3 X.x10

/-- The value printed as `v261`. -/
def v261 (X : Ins F) : FVec F S256x1024 .bf16 :=
  k0_pay42 (v245 X) (v249 X) X.x11

/-- The value printed as `v265`. -/
def v265 (X : Ins F) : FVec F S256x512 .f32 :=
  k0_pay43 (v245 X) (v249 X) X.x11 (View.ld X.x12 (Rect.unit (s := S2816x1024) ![0, 0] S512x1024.size inb_S2816x1024_S512x1024_0_0))

/-- The value printed as `v268`. -/
def v268 (X : Ins F) : FVec F S256x512 .f32 :=
  k0_pay44 (v245 X) (v249 X) X.x11 (View.ld X.x13 (Rect.unit (s := S2816x1024) ![0, 0] S512x1024.size inb_S2816x1024_S512x1024_0_0))

/-- The value printed as `v271`. -/
def v271 (X : Ins F) : FVec F S256x512 .f32 :=
  k0_pay45 (v245 X) (v249 X) X.x11 (View.ld X.x12 (Rect.unit (s := S2816x1024) ![512, 0] S512x1024.size inb_S2816x1024_S512x1024_512_0))

/-- The value printed as `v274`. -/
def v274 (X : Ins F) : FVec F S256x512 .f32 :=
  k0_pay46 (v245 X) (v249 X) X.x11 (View.ld X.x13 (Rect.unit (s := S2816x1024) ![512, 0] S512x1024.size inb_S2816x1024_S512x1024_512_0))

/-- The value printed as `v281`. -/
def v281 (X : Ins F) : FVec F S256x512 .f32 :=
  k0_pay49 (v245 X) (v249 X) X.x11 (View.ld X.x12 (Rect.unit (s := S2816x1024) ![0, 0] S512x1024.size inb_S2816x1024_S512x1024_0_0))

/-- The value printed as `v293`. -/
def v293 (X : Ins F) : FVec F S256x1024 .f32 :=
  k0_pay52 (v245 X) (v265 X) (v268 X) (v281 X) (k0_pay50 (F := F)) (View.ld X.x14 (Rect.unit (s := S2816x1024) ![0, 0] S512x1024.size inb_S2816x1024_S512x1024_0_0))

/-- The value printed as `v296`. -/
def v296 (X : Ins F) : FVec F S256x512 .f32 :=
  k0_pay53 (v261 X) (View.ld X.x12 (Rect.unit (s := S2816x1024) ![1024, 0] S512x1024.size inb_S2816x1024_S512x1024_1024_0))

/-- The value printed as `v299`. -/
def v299 (X : Ins F) : FVec F S256x512 .f32 :=
  k0_pay54 (v261 X) (View.ld X.x13 (Rect.unit (s := S2816x1024) ![1024, 0] S512x1024.size inb_S2816x1024_S512x1024_1024_0))

/-- The value printed as `v313`. -/
def v313 (X : Ins F) : FVec F S256x512 .bf16 :=
  k0_pay57 (v271 X) (v274 X)

/-- The value printed as `v315`. -/
def v315 (X : Ins F) : Vec F S512x1024 .bf16 :=
  View.ld X.x14 (Rect.unit (s := S2816x1024) ![512, 0] S512x1024.size inb_S2816x1024_S512x1024_512_0)

/-- The value printed as `v321`. -/
def v321 (X : Ins F) : FVec F S256x512 .f32 :=
  k0_pay58 (v261 X) (View.ld X.x12 (Rect.unit (s := S2816x1024) ![1536, 0] S512x1024.size inb_S2816x1024_S512x1024_1536_0))

/-- The value printed as `v324`. -/
def v324 (X : Ins F) : FVec F S256x512 .f32 :=
  k0_pay59 (v261 X) (View.ld X.x13 (Rect.unit (s := S2816x1024) ![1536, 0] S512x1024.size inb_S2816x1024_S512x1024_1536_0))

/-- The value printed as `v343`. -/
def v343 (X : Ins F) : FVec F S256x1024 .f32 :=
  k0_pay63 (v293 X) (v296 X) (v299 X) (v313 X) (v315 X) (View.ld X.x14 (Rect.unit (s := S2816x1024) ![1024, 0] S512x1024.size inb_S2816x1024_S512x1024_1024_0))

/-- The value printed as `v346`. -/
def v346 (X : Ins F) : FVec F S256x512 .f32 :=
  k0_pay64 (v261 X) (View.ld X.x12 (Rect.unit (s := S2816x1024) ![2048, 0] S512x1024.size inb_S2816x1024_S512x1024_2048_0))

/-- The value printed as `v348`. -/
def v348 (X : Ins F) : FVec F S512x1024 .bf16 :=
  k0_pay65 (View.ld X.x13 (Rect.unit (s := S2816x1024) ![2048, 0] S512x1024.size inb_S2816x1024_S512x1024_2048_0))

/-- The value printed as `v349`. -/
def v349 (X : Ins F) : FVec F S256x512 .f32 :=
  k0_pay66 (v261 X) (v348 X)

/-- The value printed as `v368`. -/
def v368 (X : Ins F) : FVec F S256x1024 .f32 :=
  k0_pay70 (v321 X) (v324 X) (v343 X) (View.ld X.x14 (Rect.unit (s := S2816x1024) ![1536, 0] S512x1024.size inb_S2816x1024_S512x1024_1536_0))

/-- The value printed as `v371`. -/
def v371 (X : Ins F) : FVec F S256x256 .f32 :=
  k0_pay71 (v261 X) (View.ld X.x12 (Rect.unit (s := S2816x1024) ![2560, 0] S256x1024.size inb_S2816x1024_S256x1024_2560_0))

/-- The value printed as `v374`. -/
def v374 (X : Ins F) : FVec F S256x256 .f32 :=
  k0_pay72 (v261 X) (View.ld X.x13 (Rect.unit (s := S2816x1024) ![2560, 0] S256x1024.size inb_S2816x1024_S256x1024_2560_0))

/-- The value printed as `v412`. -/
def v412 (X : Ins F) : FVec F S256x1024 .f32 :=
  k0_pay80 (v346 X) (v349 X) (v368 X) (v371 X) (v374 X) (k0_pay75 (F := F)) (View.ld X.x14 (Rect.unit (s := S2816x1024) ![2048, 0] S512x1024.size inb_S2816x1024_S512x1024_2048_0)) (View.ld X.x14 (Rect.unit (s := S2816x1024) ![2560, 0] S256x1024.size inb_S2816x1024_S256x1024_2560_0))

/-- The value printed as `v425`. -/
def v425 (X : Ins F) : FVec F S256x1 .f32 :=
  k0_pay84 (v412 X)

/-- The value printed as `v427`. -/
def v427 (X : Ins F) : FVec F S256x1024 .f32 :=
  k0_pay85 (v412 X)

/-- The value printed as `v451`. -/
def v451 (X : Ins F) : FVec F S256x1024 .f32 :=
  k0_pay90 (v412 X) X.x15 X.x16

/-- The value printed as `v452`. -/
def v452 (X : Ins F) : FVec F S256x1024 .f32 :=
  k0_pay91 (v412 X) X.x15 X.x16

/-- What is left in output buffer `arg18`. -/
def mixedBlk (X : Ins F) : Vec F S256x1024 .bf16 :=
  k0_pay34 (mix X)

/-- What is left in output buffer `arg19`. -/
def gatedBlk (X : Ins F) : Vec F S256x1024 .bf16 :=
  k0_pay35 (v2 X) (mix X)

/-- What is left in output buffer `arg20`. -/
def ybBlk (X : Ins F) : Vec F S256x1024 .bf16 :=
  k0_pay37 (v2 X) (mix X) X.x9

/-- What is left in output buffer `arg21`. -/
def mergedBlk (X : Ins F) : Vec F S256x1024 .bf16 :=
  k0_pay39 (v200 X) (v212 X) (Scalar.ofBits .f32 0x3F800000#32) (View.ld X.x1 (Rect.unit (s := S256x2048) ![0, 1024] S256x1024.size inb_S256x2048_S256x1024_0_1024)) (View.ld X.x8 (Rect.unit (s := S1x2048) ![0, 1024] S1x1024.size inb_S1x2048_S1x1024_0_1024)) X.x2

/-- What is left in output buffer `arg22`. -/
def x1Blk (X : Ins F) : Vec F S256x1024 .f32 :=
  k0_pay40 (v200 X) (v212 X) (Scalar.ofBits .f32 0x3F800000#32) (View.ld X.x1 (Rect.unit (s := S256x2048) ![0, 1024] S256x1024.size inb_S256x2048_S256x1024_0_1024)) (View.ld X.x8 (Rect.unit (s := S1x2048) ![0, 1024] S1x1024.size inb_S1x2048_S1x1024_0_1024)) X.x2 X.x3 X.x10

/-- What is left in output buffer `arg23`. -/
def h2Blk (X : Ins F) : Vec F S256x1024 .bf16 :=
  k0_pay42 (v245 X) (v249 X) X.x11

/-- The pieces stored into `gtBlk`, the last first. -/
def gtBlkTiles (X : Ins F) : List (View.Piece (Elt F) S256x2816 .bf16) :=
  [⟨Rect.unit (s := S256x2816) ![0, 2560] S256x256.size inb_S256x2816_S256x256_0_2560, k0_pay77 (v371 X)⟩,
   ⟨Rect.unit (s := S256x2816) ![0, 2048] S256x512.size inb_S256x2816_S256x512_0_2048, k0_pay73 (v346 X)⟩,
   ⟨Rect.unit (s := S256x2816) ![0, 1536] S256x512.size inb_S256x2816_S256x512_0_1536, k0_pay67 (v321 X)⟩,
   ⟨Rect.unit (s := S256x2816) ![0, 1024] S256x512.size inb_S256x2816_S256x512_0_1024, k0_pay60 (v296 X)⟩,
   ⟨Rect.unit (s := S256x2816) ![0, 512] S256x512.size inb_S256x2816_S256x512_0_512, k0_pay55 (v271 X)⟩,
   ⟨Rect.unit (s := S256x2816) ![0, 0] S256x512.size inb_S256x2816_S256x512_0_0, k0_pay47 (v245 X) (v249 X) X.x11 (View.ld X.x12 (Rect.unit (s := S2816x1024) ![0, 0] S512x1024.size inb_S2816x1024_S512x1024_0_0))⟩]

/-- What the pieces leave in `gtBlk`. -/
def gtBlk (X : Ins F) : Vec F S256x2816 .bf16 :=
  View.canon (gtBlkTiles X)

/-- The pieces stored into `upBlk`, the last first. -/
def upBlkTiles (X : Ins F) : List (View.Piece (Elt F) S256x2816 .bf16) :=
  [⟨Rect.unit (s := S256x2816) ![0, 2560] S256x256.size inb_S256x2816_S256x256_0_2560, k0_pay78 (v374 X)⟩,
   ⟨Rect.unit (s := S256x2816) ![0, 2048] S256x512.size inb_S256x2816_S256x512_0_2048, k0_pay74 (v261 X) (v348 X)⟩,
   ⟨Rect.unit (s := S256x2816) ![0, 1536] S256x512.size inb_S256x2816_S256x512_0_1536, k0_pay68 (v324 X)⟩,
   ⟨Rect.unit (s := S256x2816) ![0, 1024] S256x512.size inb_S256x2816_S256x512_0_1024, k0_pay61 (v299 X)⟩,
   ⟨Rect.unit (s := S256x2816) ![0, 512] S256x512.size inb_S256x2816_S256x512_0_512, k0_pay56 (v274 X)⟩,
   ⟨Rect.unit (s := S256x2816) ![0, 0] S256x512.size inb_S256x2816_S256x512_0_0, k0_pay48 (v245 X) (v249 X) X.x11 (View.ld X.x13 (Rect.unit (s := S2816x1024) ![0, 0] S512x1024.size inb_S2816x1024_S512x1024_0_0))⟩]

/-- What the pieces leave in `upBlk`. -/
def upBlk (X : Ins F) : Vec F S256x2816 .bf16 :=
  View.canon (upBlkTiles X)

/-- The pieces stored into `actBlk`, the last first. -/
def actBlkTiles (X : Ins F) : List (View.Piece (Elt F) S256x2816 .bf16) :=
  [⟨Rect.unit (s := S256x2816) ![0, 2560] S256x256.size inb_S256x2816_S256x256_0_2560, k0_pay79 (v371 X) (v374 X)⟩,
   ⟨Rect.unit (s := S256x2816) ![0, 2048] S256x512.size inb_S256x2816_S256x512_0_2048, k0_pay76 (v346 X) (v349 X) (k0_pay75 (F := F))⟩,
   ⟨Rect.unit (s := S256x2816) ![0, 1536] S256x512.size inb_S256x2816_S256x512_0_1536, k0_pay69 (v321 X) (v324 X)⟩,
   ⟨Rect.unit (s := S256x2816) ![0, 1024] S256x512.size inb_S256x2816_S256x512_0_1024, k0_pay62 (v296 X) (v299 X)⟩,
   ⟨Rect.unit (s := S256x2816) ![0, 512] S256x512.size inb_S256x2816_S256x512_0_512, k0_pay57 (v271 X) (v274 X)⟩,
   ⟨Rect.unit (s := S256x2816) ![0, 0] S256x512.size inb_S256x2816_S256x512_0_0, k0_pay51 (v265 X) (v268 X) (v281 X) (k0_pay50 (F := F))⟩]

/-- What the pieces leave in `actBlk`. -/
def actBlk (X : Ins F) : Vec F S256x2816 .bf16 :=
  View.canon (actBlkTiles X)

/-- What is left in output buffer `arg27`. -/
def dxBlk (X : Ins F) : Vec F S256x1024 .f32 :=
  k0_pay1 (v425 X) (v427 X) (v451 X) (v452 X)

/-- One point's step of the final gain's gradient. -/
def stepG (X : Ins F) (gIn : Vec F S1x1024 .f32) : Vec F S1x1024 .f32 :=
  k0_pay89 (v412 X) X.x15 X.x16 gIn

/-- One point's step of the sum of squares. -/
def stepS (X : Ins F) (sIn : Vec F S1x1024 .f32) : Vec F S1x1024 .f32 :=
  k0_pay87 (v412 X) X.x15 X.x16 sIn

/-- The loss row written at the last point, from the summed squares. -/
def lossBlk (sIn : Vec F S1x1024 .f32) : Vec F S1x128 .f32 := k0_pay2 sIn

/-- The zero row both running sums start from. -/
def zeroS : Vec F S1x1024 .f32 := k0_pay81 (F := F)
/-- The zero row of the gain's gradient. -/
def zeroG : Vec F S1x1024 .f32 := k0_pay82 (F := F)

end Cert.Head.Run

end

end
-- ==== Proof.Head.Points.lean ====
/- The blocks the fused head reads at a grid point, and the two sums it carries from point to point. -/
module

public import proofs.«01_k».proof.Proof.Head.Values

@[expose] public section

set_option maxRecDepth 16384

noncomputable section

namespace Cert.Head.Run

open Cert.Kernel3Ideal Cert.Kernel3Ideal.Gen
open Idealize.ShloMosaic Idealize.ShloMosaic.TcCoe Idealize.SL.Sem

variable {F : FTy → Type} [FloatOps F] (m : (ℓ : Loc nD τ sig) → Buf (Elt F) ℓ)

/-- The input blocks at point `t`. -/
def blk (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t⟩

/-- The gain's gradient summed up to point `n`. -/
def accG (c : Dev nD) : (n : ℕ) → n < cfg0.N → Vec F S1x1024 .f32
  | 0, h => stepG (blk m c ⟨0, h⟩) zeroG
  | n + 1, h => stepG (blk m c ⟨n + 1, h⟩) (accG c n (Nat.lt_of_succ_lt h))

/-- The squares summed up to point `n`. -/
def accS (c : Dev nD) : (n : ℕ) → n < cfg0.N → Vec F S1x1024 .f32
  | 0, h => stepS (blk m c ⟨0, h⟩) zeroS
  | n + 1, h => stepS (blk m c ⟨n + 1, h⟩) (accS c n (Nat.lt_of_succ_lt h))

theorem accG_first (c : Dev nD) (t : Fin cfg0.N) (h : t.val = 0) : accG m c t.val t.isLt = stepG (blk m c t) zeroG := by
  obtain ⟨n, hn⟩ := t
  cases n with
  | zero => rfl
  | succ n => exact absurd h (Nat.succ_ne_zero n)

theorem accG_next (c : Dev nD) (t : Fin cfg0.N) (h : t.val ≠ 0) :
    accG m c t.val t.isLt = stepG (blk m c t) (accG m c (t.val - 1) (Nat.lt_of_le_of_lt (Nat.sub_le _ _) t.isLt)) := by
  obtain ⟨n, hn⟩ := t
  cases n with
  | zero => exact absurd rfl h
  | succ n => rfl

theorem accS_first (c : Dev nD) (t : Fin cfg0.N) (h : t.val = 0) : accS m c t.val t.isLt = stepS (blk m c t) zeroS := by
  obtain ⟨n, hn⟩ := t
  cases n with
  | zero => rfl
  | succ n => exact absurd h (Nat.succ_ne_zero n)

theorem accS_next (c : Dev nD) (t : Fin cfg0.N) (h : t.val ≠ 0) :
    accS m c t.val t.isLt = stepS (blk m c t) (accS m c (t.val - 1) (Nat.lt_of_le_of_lt (Nat.sub_le _ _) t.isLt)) := by
  obtain ⟨n, hn⟩ := t
  cases n with
  | zero => exact absurd rfl h
  | succ n => rfl

end Cert.Head.Run
-- ==== Proof.Head.RunKit.lean ====
module

public import proofs.«01_k».proof.Proof.Head.Values

@[expose] public section

set_option maxRecDepth 16384

noncomputable section

/-! The buffers of one grid point and what they hold before and after it. -/

namespace Cert.Head.Run

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers the body works on, each a whole buffer. -/
structure Refs where
  a1 : Memref sig .tc .vmem S256x2048 .bf16
  h1 : a1.IsWhole
  a2 : Memref sig .tc .vmem S256x2048 .bf16
  h2 : a2.IsWhole
  a3 : Memref sig .tc .vmem S256x1024 .bf16
  h3 : a3.IsWhole
  a4 : Memref sig .tc .vmem S256x1024 .f32
  h4 : a4.IsWhole
  a5 : Memref sig .tc .vmem S1x1024 .f32
  h5 : a5.IsWhole
  a6 : Memref sig .tc .vmem S1x1024 .f32
  h6 : a6.IsWhole
  a7 : Memref sig .tc .vmem S8x128x128 .bf16
  h7 : a7.IsWhole
  a8 : Memref sig .tc .vmem S128x1024 .f32
  h8 : a8.IsWhole
  a9 : Memref sig .tc .vmem S1x2048 .f32
  h9 : a9.IsWhole
  a10 : Memref sig .tc .vmem S4x256x1024 .bf16
  h10 : a10.IsWhole
  a11 : Memref sig .tc .vmem S4x256x1024 .bf16
  h11 : a11.IsWhole
  a12 : Memref sig .tc .vmem S1x1024 .f32
  h12 : a12.IsWhole
  a13 : Memref sig .tc .vmem S2816x1024 .bf16
  h13 : a13.IsWhole
  a14 : Memref sig .tc .vmem S2816x1024 .bf16
  h14 : a14.IsWhole
  a15 : Memref sig .tc .vmem S2816x1024 .bf16
  h15 : a15.IsWhole
  a16 : Memref sig .tc .vmem S1x1024 .f32
  h16 : a16.IsWhole
  a17 : Memref sig .tc .vmem S256x1024 .f32
  h17 : a17.IsWhole
  a18 : Memref sig .tc .vmem S256x1024 .bf16
  h18 : a18.IsWhole
  a19 : Memref sig .tc .vmem S256x1024 .bf16
  h19 : a19.IsWhole
  a20 : Memref sig .tc .vmem S256x1024 .bf16
  h20 : a20.IsWhole
  a21 : Memref sig .tc .vmem S256x1024 .bf16
  h21 : a21.IsWhole
  a22 : Memref sig .tc .vmem S256x1024 .f32
  h22 : a22.IsWhole
  a23 : Memref sig .tc .vmem S256x1024 .bf16
  h23 : a23.IsWhole
  a24 : Memref sig .tc .vmem S256x2816 .bf16
  h24 : a24.IsWhole
  a25 : Memref sig .tc .vmem S256x2816 .bf16
  h25 : a25.IsWhole
  a26 : Memref sig .tc .vmem S256x2816 .bf16
  h26 : a26.IsWhole
  a27 : Memref sig .tc .vmem S256x1024 .f32
  h27 : a27.IsWhole
  a28 : Memref sig .tc .vmem S1x128 .f32
  h28 : a28.IsWhole
  a29 : Memref sig .tc .vmem S1x1024 .f32
  h29 : a29.IsWhole
  a30 : Memref sig .tc .vmem S256x1024 .f32
  h30 : a30.IsWhole
  a31 : Memref sig .tc .vmem S1x1024 .f32
  h31 : a31.IsWhole

/-- The input buffers hold the input blocks. -/
def held (c : Dev nD) (R : Refs) (X : Ins F) : sProp 𝕄 :=
  iprop(owns (c : Thread nD τ) R.a1 fullShare X.x0
    ∗ owns (c : Thread nD τ) R.a2 fullShare X.x1
    ∗ owns (c : Thread nD τ) R.a3 fullShare X.x2
    ∗ owns (c : Thread nD τ) R.a4 fullShare X.x3
    ∗ owns (c : Thread nD τ) R.a5 fullShare X.x4
    ∗ owns (c : Thread nD τ) R.a6 fullShare X.x5
    ∗ owns (c : Thread nD τ) R.a7 fullShare X.x6
    ∗ owns (c : Thread nD τ) R.a8 fullShare X.x7
    ∗ owns (c : Thread nD τ) R.a9 fullShare X.x8
    ∗ owns (c : Thread nD τ) R.a10 fullShare X.x9
    ∗ owns (c : Thread nD τ) R.a11 fullShare X.x10
    ∗ owns (c : Thread nD τ) R.a12 fullShare X.x11
    ∗ owns (c : Thread nD τ) R.a13 fullShare X.x12
    ∗ owns (c : Thread nD τ) R.a14 fullShare X.x13
    ∗ owns (c : Thread nD τ) R.a15 fullShare X.x14
    ∗ owns (c : Thread nD τ) R.a16 fullShare X.x15
    ∗ owns (c : Thread nD τ) R.a17 fullShare X.x16)

/-- The output buffers 18 to 27 hold anything. -/
def free (c : Dev nD) (R : Refs) : sProp 𝕄 :=
  iprop((∃ d : Vec F S256x1024 .bf16, owns (c : Thread nD τ) R.a18 fullShare d)
    ∗ (∃ d : Vec F S256x1024 .bf16, owns (c : Thread nD τ) R.a19 fullShare d)
    ∗ (∃ d : Vec F S256x1024 .bf16, owns (c : Thread nD τ) R.a20 fullShare d)
    ∗ (∃ d : Vec F S256x1024 .bf16, owns (c : Thread nD τ) R.a21 fullShare d)
    ∗ (∃ d : Vec F S256x1024 .f32, owns (c : Thread nD τ) R.a22 fullShare d)
    ∗ (∃ d : Vec F S256x1024 .bf16, owns (c : Thread nD τ) R.a23 fullShare d)
    ∗ (∃ d : Vec F S256x2816 .bf16, owns (c : Thread nD τ) R.a24 fullShare d)
    ∗ (∃ d : Vec F S256x2816 .bf16, owns (c : Thread nD τ) R.a25 fullShare d)
    ∗ (∃ d : Vec F S256x2816 .bf16, owns (c : Thread nD τ) R.a26 fullShare d)
    ∗ (∃ d : Vec F S256x1024 .f32, owns (c : Thread nD τ) R.a27 fullShare d))

/-- The output buffers 18 to 27 hold the point's results. -/
def left (c : Dev nD) (R : Refs) (X : Ins F) : sProp 𝕄 :=
  iprop(owns (c : Thread nD τ) R.a18 fullShare (mixedBlk X)
    ∗ owns (c : Thread nD τ) R.a19 fullShare (gatedBlk X)
    ∗ owns (c : Thread nD τ) R.a20 fullShare (ybBlk X)
    ∗ owns (c : Thread nD τ) R.a21 fullShare (mergedBlk X)
    ∗ owns (c : Thread nD τ) R.a22 fullShare (x1Blk X)
    ∗ owns (c : Thread nD τ) R.a23 fullShare (h2Blk X)
    ∗ owns (c : Thread nD τ) R.a24 fullShare (gtBlk X)
    ∗ owns (c : Thread nD τ) R.a25 fullShare (upBlk X)
    ∗ owns (c : Thread nD τ) R.a26 fullShare (actBlk X)
    ∗ owns (c : Thread nD τ) R.a27 fullShare (dxBlk X))

/-- The body on these buffers. -/
abbrev body (i : grid0.Coords) (R : Refs) : Prog (TpuEff nD τ sig (Elt F) Λ₀ .tc) PUnit :=
  cc0_sgu_ffn_fwd_head i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 R.a21 R.h21 R.a22 R.h22 R.a23 R.h23 R.a24 R.h24 R.a25 R.h25 R.a26 R.h26 R.a27 R.h27 R.a28 R.h28 R.a29 R.h29 R.a30 R.h30 R.a31 R.h31

end Cert.Head.Run

end

end
-- ==== Proof.Head.RunA.lean ====
module

public import proofs.«01_k».proof.Proof.Head.RunKit

@[expose] public section

set_option maxRecDepth 16384

noncomputable section

/-! One grid point run through, case A. -/

namespace Cert.Head.Run

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 60000000 in
/-- One run of the body, first point of a row: both running sums start from zero. -/
theorem run_A (c : Dev nD) (i : grid0.Coords) (R : Refs) (X : Ins F) (xi : Vec F S1x128 .f32)
    (hc0 : cond0_0 i) (hc1 : ¬cond0_1 i)
    (E : Set ℕ) (K : PUnit → sProp 𝕄) :
    iprop(held c R X ∗ free c R ∗ owns (c : Thread nD τ) R.a28 fullShare xi ∗ (∃ d : Vec F S1x1024 .f32, owns (c : Thread nD τ) R.a29 fullShare d)
        ∗ (∃ d : Vec F S256x1024 .f32, owns (c : Thread nD τ) R.a30 fullShare d) ∗ (∃ d : Vec F S1x1024 .f32, owns (c : Thread nD τ) R.a31 fullShare d)
        ∗ (iprop(held c R X ∗ left c R X ∗ owns (c : Thread nD τ) R.a28 fullShare xi
            ∗ owns (c : Thread nD τ) R.a29 fullShare (stepG X zeroG)
            ∗ (∃ d : Vec F S256x1024 .f32, owns (c : Thread nD τ) R.a30 fullShare d)
            ∗ owns (c : Thread nD τ) R.a31 fullShare (stepS X zeroS)) -∗ K ⟨⟩))
      ⊢ wp frame (wpE (defs₀ (F := F)) Variants.none c none) E (body i R) K := by
  obtain ⟨a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22, a23, h23, a24, h24, a25, h25, a26, h26, a27, h27, a28, h28, a29, h29, a30, h30, a31, h31⟩ := R
  dsimp only [body, held, free, left]
  simp only [cc0_sgu_ffn_fwd_head_eq_skeleton]; unfold cc0_sgu_ffn_fwd_head_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩, ⟨⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩⟩, ⟨%f28, %e28, H28⟩, ⟨%d29, %f29, -, H29⟩, ⟨%d30, %f30, -, H30⟩, ⟨%d31, %f31, -, H31⟩, Hk⟩
  sl_exec (disch := first | sl_exact hc0 | sl_exact hc1)
  sl_step
  have wone : run_A.sl.cst_109 (F := F) = (Scalar.ofBits .f32 0x3F800000#32 : F .f32) := by
    unfold run_A.sl.cst_109
    rfl
  have w0 : run_A.sl.r c a1 f1 = v2 X := by
    unfold run_A.sl.r v2
    try simp (disch := decide) only [View.readAt_eq_ld, e1, View.ld_unit_lit']
    first | done | rfl
  have w1 : run_A.sl.r_1 c a1 a5 a6 f1 f5 f6 = v30 X := by
    unfold run_A.sl.r_1 v30
    try simp (disch := decide) only [View.readAt_eq_ld, e1, e5, e6, View.ld_unit_lit']
    first | done | rfl
  have w2 : run_A.sl.r_2 c a1 a5 a6 a7 f1 f5 f6 f7 = v36 X := by
    unfold run_A.sl.r_2 v36
    try simp (disch := decide) only [View.readAt_eq_ld, e1, e5, e6, e7, View.ld_unit_lit']
    first | done | rfl
  have w3 : run_A.sl.r_3 c a1 a5 a6 a7 f1 f5 f6 f7 = v37 X := by
    unfold run_A.sl.r_3 v37
    try simp (disch := decide) only [View.readAt_eq_ld, e1, e5, e6, e7, View.ld_unit_lit']
    first | done | rfl
  have w4 : run_A.sl.r_4 c a8 f8 = v39 X := by
    unfold run_A.sl.r_4 v39
    try simp (disch := decide) only [View.readAt_eq_ld, e8, View.ld_unit_lit']
    first | done | rfl
  have w5 : run_A.sl.r_5 c a1 a5 a6 f1 f5 f6 = v73 X := by
    unfold run_A.sl.r_5 v73
    try simp (disch := decide) only [View.readAt_eq_ld, View.ld_unit_lit', w1]
    first | done | rfl
  have w6 : run_A.sl.r_6 c a7 f7 = v74 X := by
    unfold run_A.sl.r_6 v74
    try simp (disch := decide) only [View.readAt_eq_ld, e7, View.ld_unit_lit']
    first | done | rfl
  have w7 : run_A.sl.r_7 c a1 a5 a6 a7 a8 f1 f5 f6 f7 f8 = v110 X := by
    unfold run_A.sl.r_7 v110
    try simp (disch := decide) only [View.readAt_eq_ld, e7, e8, View.ld_unit_lit', w1]
    first | done | rfl
  have w8 : run_A.sl.r_8 c a1 a5 a6 a7 f1 f5 f6 f7 = v144 X := by
    unfold run_A.sl.r_8 v144
    try simp (disch := decide) only [View.readAt_eq_ld, e7, View.ld_unit_lit', w1]
    first | done | rfl
  have w9 : run_A.sl.r_9 c a1 a5 a6 a7 f1 f5 f6 f7 = v176 X := by
    unfold run_A.sl.r_9 v176
    try simp (disch := decide) only [View.readAt_eq_ld, e7, View.ld_unit_lit', w1]
    first | done | rfl
  have w10 : run_A.sl.r_10 c a1 a5 a6 a7 a8 f1 f5 f6 f7 f8 = v180 X := by
    unfold run_A.sl.r_10 v180
    try simp (disch := decide) only [View.readAt_eq_ld, e7, e8, View.ld_unit_lit', w1]
    first | done | rfl
  have wtiles : run_A.sl.H30_16 c a1 a5 a6 a7 a8 f1 f5 f6 f7 f8 = mixTiles X := by
    unfold run_A.sl.H30_16 mixTiles
    try simp (disch := decide) only [View.readAt_eq_ld, e8, e7, e1, e5, e6, View.ld_unit_lit', w9, w10, w1, w8, w7, w5, w6, w2, w3, w4]
    first | done | rfl
  have wmix : run_A.sl.v191 c a1 a5 a6 a7 a8 a30 f1 f5 f6 f7 f8 = mix X := by
    unfold run_A.sl.v191 mix
    rw [wtiles]
    exact (View.readCov_eq_canon_ld (Val := Elt F) a30.view (mixTiles X) (Rect.unit (s := S256x1024) ![0, 0] S256x1024.size inb_S256x1024_S256x1024_0_0)
      (View.cover_of_tiledL _ S128x128.size (by sl_kernel_rfl))).trans (View.ld_unit_lit' _ _ (by decide))
  have w11 : run_A.sl.r_11 c a1 a5 a6 a7 a8 a10 a30 f1 f5 f6 f7 f8 f10 = v200 X := by
    unfold run_A.sl.r_11 v200
    try simp (disch := decide) only [View.readAt_eq_ld, e10, View.ld_unit_lit', w0, wmix]
    first | done | rfl
  have w12 : run_A.sl.r_12 c a2 a9 f2 f9 = v212 X := by
    unfold run_A.sl.r_12 v212
    try simp (disch := decide) only [View.readAt_eq_ld, e2, e9, View.ld_unit_lit']
    first | done | rfl
  have w13 : run_A.sl.r_13 c a1 a2 a3 a4 a5 a6 a7 a8 a9 a10 a11 a30 f1 f2 f3 f4 f5 f6 f7 f8 f9 f10 f11 = v245 X := by
    unfold run_A.sl.r_13 v245
    try simp (disch := decide) only [View.readAt_eq_ld, e2, e9, e3, e4, e11, View.ld_unit_lit', w11, w12, wone]
    first | done | rfl
  have w14 : run_A.sl.r_14 c a1 a2 a3 a4 a5 a6 a7 a8 a9 a10 a11 a30 f1 f2 f3 f4 f5 f6 f7 f8 f9 f10 f11 = v249 X := by
    unfold run_A.sl.r_14 v249
    try simp (disch := decide) only [View.readAt_eq_ld, e2, e9, e3, e4, e11, View.ld_unit_lit', w11, w12, wone]
    first | done | rfl
  have w15 : run_A.sl.r_15 c a1 a2 a3 a4 a5 a6 a7 a8 a9 a10 a11 a12 a30 f1 f2 f3 f4 f5 f6 f7 f8 f9 f10 f11 f12 = v261 X := by
    unfold run_A.sl.r_15 v261
    try simp (disch := decide) only [View.readAt_eq_ld, e12, View.ld_unit_lit', w13, w14]
    first | done | rfl
  have w16 : run_A.sl.r_16 c a1 a2 a3 a4 a5 a6 a7 a8 a9 a10 a11 a12 a13 a30 f1 f2 f3 f4 f5 f6 f7 f8 f9 f10 f11 f12 f13 = v265 X := by
    unfold run_A.sl.r_16 v265
    try simp (disch := decide) only [View.readAt_eq_ld, e12, e13, View.ld_unit_lit', w13, w14]
    first | done | rfl
  have w17 : run_A.sl.r_17 c a1 a2 a3 a4 a5 a6 a7 a8 a9 a10 a11 a12 a14 a30 f1 f2 f3 f4 f5 f6 f7 f8 f9 f10 f11 f12 f14 = v268 X := by
    unfold run_A.sl.r_17 v268
    try simp (disch := decide) only [View.readAt_eq_ld, e12, e14, View.ld_unit_lit', w13, w14]
    first | done | rfl
  have w18 : run_A.sl.r_18 c a1 a2 a3 a4 a5 a6 a7 a8 a9 a10 a11 a12 a13 a30 f1 f2 f3 f4 f5 f6 f7 f8 f9 f10 f11 f12 f13 = v271 X := by
    unfold run_A.sl.r_18 v271
    try simp (disch := decide) only [View.readAt_eq_ld, e12, e13, View.ld_unit_lit', w13, w14]
    first | done | rfl
  have w19 : run_A.sl.r_19 c a1 a2 a3 a4 a5 a6 a7 a8 a9 a10 a11 a12 a14 a30 f1 f2 f3 f4 f5 f6 f7 f8 f9 f10 f11 f12 f14 = v274 X := by
    unfold run_A.sl.r_19 v274
    try simp (disch := decide) only [View.readAt_eq_ld, e12, e14, View.ld_unit_lit', w13, w14]
    first | done | rfl
  have w20 : run_A.sl.r_20 c a1 a2 a3 a4 a5 a6 a7 a8 a9 a10 a11 a12 a13 a30 f1 f2 f3 f4 f5 f6 f7 f8 f9 f10 f11 f12 f13 = v281 X := by
    unfold run_A.sl.r_20 v281
    try simp (disch := decide) only [View.readAt_eq_ld, e12, e13, View.ld_unit_lit', w13, w14]
    first | done | rfl
  have w21 : run_A.sl.r_21 c a1 a2 a3 a4 a5 a6 a7 a8 a9 a10 a11 a12 a13 a14 a15 a30 f1 f2 f3 f4 f5 f6 f7 f8 f9 f10 f11 f12 f13 f14 f15 = v293 X := by
    unfold run_A.sl.r_21 v293
    try simp (disch := decide) only [View.readAt_eq_ld, e15, View.ld_unit_lit', w13, w16, w17, w20]
    first | done | rfl
  have w22 : run_A.sl.r_22 c a1 a2 a3 a4 a5 a6 a7 a8 a9 a10 a11 a12 a13 a30 f1 f2 f3 f4 f5 f6 f7 f8 f9 f10 f11 f12 f13 = v296 X := by
    unfold run_A.sl.r_22 v296
    try simp (disch := decide) only [View.readAt_eq_ld, e13, View.ld_unit_lit', w15]
    first | done | rfl
  have w23 : run_A.sl.r_23 c a1 a2 a3 a4 a5 a6 a7 a8 a9 a10 a11 a12 a14 a30 f1 f2 f3 f4 f5 f6 f7 f8 f9 f10 f11 f12 f14 = v299 X := by
    unfold run_A.sl.r_23 v299
    try simp (disch := decide) only [View.readAt_eq_ld, e14, View.ld_unit_lit', w15]
    first | done | rfl
  have w24 : run_A.sl.r_24 c a1 a2 a3 a4 a5 a6 a7 a8 a9 a10 a11 a12 a13 a14 a30 f1 f2 f3 f4 f5 f6 f7 f8 f9 f10 f11 f12 f13 f14 = v313 X := by
    unfold run_A.sl.r_24 v313
    try simp (disch := decide) only [View.readAt_eq_ld, View.ld_unit_lit', w18, w19]
    first | done | rfl
  have w25 : run_A.sl.r_25 c a15 f15 = v315 X := by
    unfold run_A.sl.r_25 v315
    try simp (disch := decide) only [View.readAt_eq_ld, e15, View.ld_unit_lit']
    first | done | rfl
  have w26 : run_A.sl.r_26 c a1 a2 a3 a4 a5 a6 a7 a8 a9 a10 a11 a12 a13 a30 f1 f2 f3 f4 f5 f6 f7 f8 f9 f10 f11 f12 f13 = v321 X := by
    unfold run_A.sl.r_26 v321
    try simp (disch := decide) only [View.readAt_eq_ld, e13, View.ld_unit_lit', w15]
    first | done | rfl
  have w27 : run_A.sl.r_27 c a1 a2 a3 a4 a5 a6 a7 a8 a9 a10 a11 a12 a14 a30 f1 f2 f3 f4 f5 f6 f7 f8 f9 f10 f11 f12 f14 = v324 X := by
    unfold run_A.sl.r_27 v324
    try simp (disch := decide) only [View.readAt_eq_ld, e14, View.ld_unit_lit', w15]
    first | done | rfl
  have w28 : run_A.sl.r_28 c a1 a2 a3 a4 a5 a6 a7 a8 a9 a10 a11 a12 a13 a14 a15 a30 f1 f2 f3 f4 f5 f6 f7 f8 f9 f10 f11 f12 f13 f14 f15 = v343 X := by
    unfold run_A.sl.r_28 v343
    try simp (disch := decide) only [View.readAt_eq_ld, e15, View.ld_unit_lit', w21, w22, w23, w24, w25]
    first | done | rfl
  have w29 : run_A.sl.r_29 c a1 a2 a3 a4 a5 a6 a7 a8 a9 a10 a11 a12 a13 a30 f1 f2 f3 f4 f5 f6 f7 f8 f9 f10 f11 f12 f13 = v346 X := by
    unfold run_A.sl.r_29 v346
    try simp (disch := decide) only [View.readAt_eq_ld, e13, View.ld_unit_lit', w15]
    first | done | rfl
  have w30 : run_A.sl.r_30 c a14 f14 = v348 X := by
    unfold run_A.sl.r_30 v348
    try simp (disch := decide) only [View.readAt_eq_ld, e14, View.ld_unit_lit']
    first | done | rfl
  have w31 : run_A.sl.r_31 c a1 a2 a3 a4 a5 a6 a7 a8 a9 a10 a11 a12 a14 a30 f1 f2 f3 f4 f5 f6 f7 f8 f9 f10 f11 f12 f14 = v349 X := by
    unfold run_A.sl.r_31 v349
    try simp (disch := decide) only [View.readAt_eq_ld, View.ld_unit_lit', w15, w30]
    first | done | rfl
  have w32 : run_A.sl.r_32 c a1 a2 a3 a4 a5 a6 a7 a8 a9 a10 a11 a12 a13 a14 a15 a30 f1 f2 f3 f4 f5 f6 f7 f8 f9 f10 f11 f12 f13 f14 f15 = v368 X := by
    unfold run_A.sl.r_32 v368
    try simp (disch := decide) only [View.readAt_eq_ld, e15, View.ld_unit_lit', w26, w27, w28]
    first | done | rfl
  have w33 : run_A.sl.r_33 c a1 a2 a3 a4 a5 a6 a7 a8 a9 a10 a11 a12 a13 a30 f1 f2 f3 f4 f5 f6 f7 f8 f9 f10 f11 f12 f13 = v371 X := by
    unfold run_A.sl.r_33 v371
    try simp (disch := decide) only [View.readAt_eq_ld, e13, View.ld_unit_lit', w15]
    first | done | rfl
  have w34 : run_A.sl.r_34 c a1 a2 a3 a4 a5 a6 a7 a8 a9 a10 a11 a12 a14 a30 f1 f2 f3 f4 f5 f6 f7 f8 f9 f10 f11 f12 f14 = v374 X := by
    unfold run_A.sl.r_34 v374
    try simp (disch := decide) only [View.readAt_eq_ld, e14, View.ld_unit_lit', w15]
    first | done | rfl
  have w35 : run_A.sl.r_35 c a1 a2 a3 a4 a5 a6 a7 a8 a9 a10 a11 a12 a13 a14 a15 a30 f1 f2 f3 f4 f5 f6 f7 f8 f9 f10 f11 f12 f13 f14 f15 = v412 X := by
    unfold run_A.sl.r_35 v412
    try simp (disch := decide) only [View.readAt_eq_ld, e15, View.ld_unit_lit', w29, w31, w32, w33, w34]
    first | done | rfl
  have w36 : run_A.sl.r_36 c a1 a2 a3 a4 a5 a6 a7 a8 a9 a10 a11 a12 a13 a14 a15 a30 f1 f2 f3 f4 f5 f6 f7 f8 f9 f10 f11 f12 f13 f14 f15 = v425 X := by
    unfold run_A.sl.r_36 v425
    try simp (disch := decide) only [View.readAt_eq_ld, View.ld_unit_lit', w35]
    first | done | rfl
  have w37 : run_A.sl.r_37 c a1 a2 a3 a4 a5 a6 a7 a8 a9 a10 a11 a12 a13 a14 a15 a30 f1 f2 f3 f4 f5 f6 f7 f8 f9 f10 f11 f12 f13 f14 f15 = v427 X := by
    unfold run_A.sl.r_37 v427
    try simp (disch := decide) only [View.readAt_eq_ld, View.ld_unit_lit', w35]
    first | done | rfl
  have w38 : run_A.sl.r_38 c a1 a2 a3 a4 a5 a6 a7 a8 a9 a10 a11 a12 a13 a14 a15 a16 a17 a30 f1 f2 f3 f4 f5 f6 f7 f8 f9 f10 f11 f12 f13 f14 f15 f16 f17 = v451 X := by
    unfold run_A.sl.r_38 v451
    try simp (disch := decide) only [View.readAt_eq_ld, e16, e17, View.ld_unit_lit', w35]
    first | done | rfl
  have w39 : run_A.sl.r_39 c a1 a2 a3 a4 a5 a6 a7 a8 a9 a10 a11 a12 a13 a14 a15 a16 a17 a30 f1 f2 f3 f4 f5 f6 f7 f8 f9 f10 f11 f12 f13 f14 f15 f16 f17 = v452 X := by
    unfold run_A.sl.r_39 v452
    try simp (disch := decide) only [View.readAt_eq_ld, e16, e17, View.ld_unit_lit', w35]
    first | done | rfl
  have wS : run_A.sl.v433 c a31 = zeroS (F := F) := by
    unfold run_A.sl.v433 run_A.sl.H31_1 zeroS
    exact View.readCov_unit_lit' _ _ _ (by decide)
  have wG : run_A.sl.v443 c a29 = zeroG (F := F) := by
    unfold run_A.sl.v443 run_A.sl.H29_1 zeroG
    exact View.readCov_unit_lit' _ _ _ (by decide)
  iapply Hk
  isplitl [H1 H2 H3 H4 H5 H6 H7 H8 H9 H10 H11 H12 H13 H14 H15 H16 H17]
  · isplitl [H1]
    · iexists _; isplitr; · ipureintro; exact e1
      iexact H1
    isplitl [H2]
    · iexists _; isplitr; · ipureintro; exact e2
      iexact H2
    isplitl [H3]
    · iexists _; isplitr; · ipureintro; exact e3
      iexact H3
    isplitl [H4]
    · iexists _; isplitr; · ipureintro; exact e4
      iexact H4
    isplitl [H5]
    · iexists _; isplitr; · ipureintro; exact e5
      iexact H5
    isplitl [H6]
    · iexists _; isplitr; · ipureintro; exact e6
      iexact H6
    isplitl [H7]
    · iexists _; isplitr; · ipureintro; exact e7
      iexact H7
    isplitl [H8]
    · iexists _; isplitr; · ipureintro; exact e8
      iexact H8
    isplitl [H9]
    · iexists _; isplitr; · ipureintro; exact e9
      iexact H9
    isplitl [H10]
    · iexists _; isplitr; · ipureintro; exact e10
      iexact H10
    isplitl [H11]
    · iexists _; isplitr; · ipureintro; exact e11
      iexact H11
    isplitl [H12]
    · iexists _; isplitr; · ipureintro; exact e12
      iexact H12
    isplitl [H13]
    · iexists _; isplitr; · ipureintro; exact e13
      iexact H13
    isplitl [H14]
    · iexists _; isplitr; · ipureintro; exact e14
      iexact H14
    isplitl [H15]
    · iexists _; isplitr; · ipureintro; exact e15
      iexact H15
    isplitl [H16]
    · iexists _; isplitr; · ipureintro; exact e16
      iexact H16
    iexists _; isplitr; · ipureintro; exact e17
    iexact H17
  isplitl [H18 H19 H20 H21 H22 H23 H24 H25 H26 H27]
  · isplitl [H18]
    · iexists _; isplitr; swap; · iexact H18
      ipureintro
      refine (View.read_writes_eq_canon _ _ _ (View.cover_of_tiledL _ S256x1024.size (by sl_kernel_rfl))).trans ?_
      unfold mixedBlk
      simp (disch := decide) only [View.canon_cons_unit_lit', View.readAt_eq_ld, View.ld_unit_lit', View.readCov_unit_lit', e1, e2, e3, e4, e5, e6, e7, e8, e9, e10, e11, e12, e13, e14, e15, e16, e17, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wG, wone]
      first | done | rfl
    isplitl [H19]
    · iexists _; isplitr; swap; · iexact H19
      ipureintro
      refine (View.read_writes_eq_canon _ _ _ (View.cover_of_tiledL _ S256x1024.size (by sl_kernel_rfl))).trans ?_
      unfold gatedBlk
      simp (disch := decide) only [View.canon_cons_unit_lit', View.readAt_eq_ld, View.ld_unit_lit', View.readCov_unit_lit', e1, e2, e3, e4, e5, e6, e7, e8, e9, e10, e11, e12, e13, e14, e15, e16, e17, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wG, wone]
      first | done | rfl
    isplitl [H20]
    · iexists _; isplitr; swap; · iexact H20
      ipureintro
      refine (View.read_writes_eq_canon _ _ _ (View.cover_of_tiledL _ S256x1024.size (by sl_kernel_rfl))).trans ?_
      unfold ybBlk
      simp (disch := decide) only [View.canon_cons_unit_lit', View.readAt_eq_ld, View.ld_unit_lit', View.readCov_unit_lit', e1, e2, e3, e4, e5, e6, e7, e8, e9, e10, e11, e12, e13, e14, e15, e16, e17, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wG, wone]
      first | done | rfl
    isplitl [H21]
    · iexists _; isplitr; swap; · iexact H21
      ipureintro
      refine (View.read_writes_eq_canon _ _ _ (View.cover_of_tiledL _ S256x1024.size (by sl_kernel_rfl))).trans ?_
      unfold mergedBlk
      simp (disch := decide) only [View.canon_cons_unit_lit', View.readAt_eq_ld, View.ld_unit_lit', View.readCov_unit_lit', e1, e2, e3, e4, e5, e6, e7, e8, e9, e10, e11, e12, e13, e14, e15, e16, e17, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wG, wone]
      first | done | rfl
    isplitl [H22]
    · iexists _; isplitr; swap; · iexact H22
      ipureintro
      refine (View.read_writes_eq_canon _ _ _ (View.cover_of_tiledL _ S256x1024.size (by sl_kernel_rfl))).trans ?_
      unfold x1Blk
      simp (disch := decide) only [View.canon_cons_unit_lit', View.readAt_eq_ld, View.ld_unit_lit', View.readCov_unit_lit', e1, e2, e3, e4, e5, e6, e7, e8, e9, e10, e11, e12, e13, e14, e15, e16, e17, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wG, wone]
      first | done | rfl
    isplitl [H23]
    · iexists _; isplitr; swap; · iexact H23
      ipureintro
      refine (View.read_writes_eq_canon _ _ _ (View.cover_of_tiledL _ S256x1024.size (by sl_kernel_rfl))).trans ?_
      unfold h2Blk
      simp (disch := decide) only [View.canon_cons_unit_lit', View.readAt_eq_ld, View.ld_unit_lit', View.readCov_unit_lit', e1, e2, e3, e4, e5, e6, e7, e8, e9, e10, e11, e12, e13, e14, e15, e16, e17, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wG, wone]
      first | done | rfl
    isplitl [H24]
    · iexists _; isplitr; swap; · iexact H24
      ipureintro
      refine (View.read_writes_eq_canon _ _ _ (View.cover_of_tiledBy _ ![256, 256] (by sl_kernel_rfl))).trans ?_
      unfold gtBlk gtBlkTiles
      simp (disch := decide) only [View.canon_cons_unit_lit', View.readAt_eq_ld, View.ld_unit_lit', View.readCov_unit_lit', e1, e2, e3, e4, e5, e6, e7, e8, e9, e10, e11, e12, e13, e14, e15, e16, e17, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wG, wone]
      first | done | rfl
    isplitl [H25]
    · iexists _; isplitr; swap; · iexact H25
      ipureintro
      refine (View.read_writes_eq_canon _ _ _ (View.cover_of_tiledBy _ ![256, 256] (by sl_kernel_rfl))).trans ?_
      unfold upBlk upBlkTiles
      simp (disch := decide) only [View.canon_cons_unit_lit', View.readAt_eq_ld, View.ld_unit_lit', View.readCov_unit_lit', e1, e2, e3, e4, e5, e6, e7, e8, e9, e10, e11, e12, e13, e14, e15, e16, e17, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wG, wone]
      first | done | rfl
    isplitl [H26]
    · iexists _; isplitr; swap; · iexact H26
      ipureintro
      refine (View.read_writes_eq_canon _ _ _ (View.cover_of_tiledBy _ ![256, 256] (by sl_kernel_rfl))).trans ?_
      unfold actBlk actBlkTiles
      simp (disch := decide) only [View.canon_cons_unit_lit', View.readAt_eq_ld, View.ld_unit_lit', View.readCov_unit_lit', e1, e2, e3, e4, e5, e6, e7, e8, e9, e10, e11, e12, e13, e14, e15, e16, e17, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wG, wone]
      first | done | rfl
    iexists _; isplitr; swap; · iexact H27
    ipureintro
    refine (View.read_writes_eq_canon _ _ _ (View.cover_of_tiledL _ S256x1024.size (by sl_kernel_rfl))).trans ?_
    unfold dxBlk
    simp (disch := decide) only [View.canon_cons_unit_lit', View.readAt_eq_ld, View.ld_unit_lit', View.readCov_unit_lit', e1, e2, e3, e4, e5, e6, e7, e8, e9, e10, e11, e12, e13, e14, e15, e16, e17, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wG, wone]
    first | done | rfl
  isplitl [H28]
  · iexists _; isplitr; · ipureintro; exact e28
    iexact H28
  isplitl [H29]
  · iexists _; isplitr; swap; · iexact H29
    ipureintro
    refine (View.read_writes_eq_canon _ _ _ (View.cover_of_tiledL _ S1x1024.size (by sl_kernel_rfl))).trans ?_
    unfold stepG
    simp (disch := decide) only [View.canon_cons_unit_lit', View.readAt_eq_ld, View.ld_unit_lit', View.readCov_unit_lit', e1, e2, e3, e4, e5, e6, e7, e8, e9, e10, e11, e12, e13, e14, e15, e16, e17, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wG, wone]
    first | done | rfl
  isplitl [H30]
  · iexists _; iexists _; isplitr; swap; · iexact H30
    ipureintro; rfl
  iexists _; isplitr; swap; · iexact H31
  ipureintro
  refine (View.read_writes_eq_canon _ _ _ (View.cover_of_tiledL _ S1x1024.size (by sl_kernel_rfl))).trans ?_
  unfold stepS
  simp (disch := decide) only [View.canon_cons_unit_lit', View.readAt_eq_ld, View.ld_unit_lit', View.readCov_unit_lit', e1, e2, e3, e4, e5, e6, e7, e8, e9, e10, e11, e12, e13, e14, e15, e16, e17, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wG, wone]
  first | done | rfl

end Cert.Head.Run

end

end
-- ==== Proof.Head.RunB.lean ====
module

public import proofs.«01_k».proof.Proof.Head.RunKit

@[expose] public section

set_option maxRecDepth 16384

noncomputable section

/-! One grid point run through, case B. -/

namespace Cert.Head.Run

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 60000000 in
/-- One run of the body, middle points. -/
theorem run_B (c : Dev nD) (i : grid0.Coords) (R : Refs) (X : Ins F) (g s : Vec F S1x1024 .f32) (xi : Vec F S1x128 .f32)
    (hc0 : ¬cond0_0 i) (hc1 : ¬cond0_1 i)
    (E : Set ℕ) (K : PUnit → sProp 𝕄) :
    iprop(held c R X ∗ free c R ∗ owns (c : Thread nD τ) R.a28 fullShare xi ∗ owns (c : Thread nD τ) R.a29 fullShare g
        ∗ (∃ d : Vec F S256x1024 .f32, owns (c : Thread nD τ) R.a30 fullShare d) ∗ owns (c : Thread nD τ) R.a31 fullShare s
        ∗ (iprop(held c R X ∗ left c R X ∗ owns (c : Thread nD τ) R.a28 fullShare xi
            ∗ owns (c : Thread nD τ) R.a29 fullShare (stepG X g)
            ∗ (∃ d : Vec F S256x1024 .f32, owns (c : Thread nD τ) R.a30 fullShare d)
            ∗ owns (c : Thread nD τ) R.a31 fullShare (stepS X s)) -∗ K ⟨⟩))
      ⊢ wp frame (wpE (defs₀ (F := F)) Variants.none c none) E (body i R) K := by
  obtain ⟨a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22, a23, h23, a24, h24, a25, h25, a26, h26, a27, h27, a28, h28, a29, h29, a30, h30, a31, h31⟩ := R
  dsimp only [body, held, free, left]
  simp only [cc0_sgu_ffn_fwd_head_eq_skeleton]; unfold cc0_sgu_ffn_fwd_head_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩, ⟨⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩⟩, ⟨%f28, %e28, H28⟩, ⟨%f29, %e29, H29⟩, ⟨%d30, %f30, -, H30⟩, ⟨%f31, %e31, H31⟩, Hk⟩
  sl_exec (disch := first | sl_exact hc0 | sl_exact hc1)
  sl_step
  have wone : run_B.sl.cst_109 (F := F) = (Scalar.ofBits .f32 0x3F800000#32 : F .f32) := by
    unfold run_B.sl.cst_109
    rfl
  have w0 : run_B.sl.r c a1 f1 = v2 X := by
    unfold run_B.sl.r v2
    try simp (disch := decide) only [View.readAt_eq_ld, e1, View.ld_unit_lit']
    first | done | rfl
  have w1 : run_B.sl.r_1 c a1 a5 a6 f1 f5 f6 = v30 X := by
    unfold run_B.sl.r_1 v30
    try simp (disch := decide) only [View.readAt_eq_ld, e1, e5, e6, View.ld_unit_lit']
    first | done | rfl
  have w2 : run_B.sl.r_2 c a1 a5 a6 a7 f1 f5 f6 f7 = v36 X := by
    unfold run_B.sl.r_2 v36
    try simp (disch := decide) only [View.readAt_eq_ld, e1, e5, e6, e7, View.ld_unit_lit']
    first | done | rfl
  have w3 : run_B.sl.r_3 c a1 a5 a6 a7 f1 f5 f6 f7 = v37 X := by
    unfold run_B.sl.r_3 v37
    try simp (disch := decide) only [View.readAt_eq_ld, e1, e5, e6, e7, View.ld_unit_lit']
    first | done | rfl
  have w4 : run_B.sl.r_4 c a8 f8 = v39 X := by
    unfold run_B.sl.r_4 v39
    try simp (disch := decide) only [View.readAt_eq_ld, e8, View.ld_unit_lit']
    first | done | rfl
  have w5 : run_B.sl.r_5 c a1 a5 a6 f1 f5 f6 = v73 X := by
    unfold run_B.sl.r_5 v73
    try simp (disch := decide) only [View.readAt_eq_ld, View.ld_unit_lit', w1]
    first | done | rfl
  have w6 : run_B.sl.r_6 c a7 f7 = v74 X := by
    unfold run_B.sl.r_6 v74
    try simp (disch := decide) only [View.readAt_eq_ld, e7, View.ld_unit_lit']
    first | done | rfl
  have w7 : run_B.sl.r_7 c a1 a5 a6 a7 a8 f1 f5 f6 f7 f8 = v110 X := by
    unfold run_B.sl.r_7 v110
    try simp (disch := decide) only [View.readAt_eq_ld, e7, e8, View.ld_unit_lit', w1]
    first | done | rfl
  have w8 : run_B.sl.r_8 c a1 a5 a6 a7 f1 f5 f6 f7 = v144 X := by
    unfold run_B.sl.r_8 v144
    try simp (disch := decide) only [View.readAt_eq_ld, e7, View.ld_unit_lit', w1]
    first | done | rfl
  have w9 : run_B.sl.r_9 c a1 a5 a6 a7 f1 f5 f6 f7 = v176 X := by
    unfold run_B.sl.r_9 v176
    try simp (disch := decide) only [View.readAt_eq_ld, e7, View.ld_unit_lit', w1]
    first | done | rfl
  have w10 : run_B.sl.r_10 c a1 a5 a6 a7 a8 f1 f5 f6 f7 f8 = v180 X := by
    unfold run_B.sl.r_10 v180
    try simp (disch := decide) only [View.readAt_eq_ld, e7, e8, View.ld_unit_lit', w1]
    first | done | rfl
  have wtiles : run_B.sl.H30_16 c a1 a5 a6 a7 a8 f1 f5 f6 f7 f8 = mixTiles X := by
    unfold run_B.sl.H30_16 mixTiles
    try simp (disch := decide) only [View.readAt_eq_ld, e8, e7, e1, e5, e6, View.ld_unit_lit', w9, w10, w1, w8, w7, w5, w6, w2, w3, w4]
    first | done | rfl
  have wmix : run_B.sl.v191 c a1 a5 a6 a7 a8 a30 f1 f5 f6 f7 f8 = mix X := by
    unfold run_B.sl.v191 mix
    rw [wtiles]
    exact (View.readCov_eq_canon_ld (Val := Elt F) a30.view (mixTiles X) (Rect.unit (s := S256x1024) ![0, 0] S256x1024.size inb_S256x1024_S256x1024_0_0)
      (View.cover_of_tiledL _ S128x128.size (by sl_kernel_rfl))).trans (View.ld_unit_lit' _ _ (by decide))
  have w11 : run_B.sl.r_11 c a1 a5 a6 a7 a8 a10 a30 f1 f5 f6 f7 f8 f10 = v200 X := by
    unfold run_B.sl.r_11 v200
    try simp (disch := decide) only [View.readAt_eq_ld, e10, View.ld_unit_lit', w0, wmix]
    first | done | rfl
  have w12 : run_B.sl.r_12 c a2 a9 f2 f9 = v212 X := by
    unfold run_B.sl.r_12 v212
    try simp (disch := decide) only [View.readAt_eq_ld, e2, e9, View.ld_unit_lit']
    first | done | rfl
  have w13 : run_B.sl.r_13 c a1 a2 a3 a4 a5 a6 a7 a8 a9 a10 a11 a30 f1 f2 f3 f4 f5 f6 f7 f8 f9 f10 f11 = v245 X := by
    unfold run_B.sl.r_13 v245
    try simp (disch := decide) only [View.readAt_eq_ld, e2, e9, e3, e4, e11, View.ld_unit_lit', w11, w12, wone]
    first | done | rfl
  have w14 : run_B.sl.r_14 c a1 a2 a3 a4 a5 a6 a7 a8 a9 a10 a11 a30 f1 f2 f3 f4 f5 f6 f7 f8 f9 f10 f11 = v249 X := by
    unfold run_B.sl.r_14 v249
    try simp (disch := decide) only [View.readAt_eq_ld, e2, e9, e3, e4, e11, View.ld_unit_lit', w11, w12, wone]
    first | done | rfl
  have w15 : run_B.sl.r_15 c a1 a2 a3 a4 a5 a6 a7 a8 a9 a10 a11 a12 a30 f1 f2 f3 f4 f5 f6 f7 f8 f9 f10 f11 f12 = v261 X := by
    unfold run_B.sl.r_15 v261
    try simp (disch := decide) only [View.readAt_eq_ld, e12, View.ld_unit_lit', w13, w14]
    first | done | rfl
  have w16 : run_B.sl.r_16 c a1 a2 a3 a4 a5 a6 a7 a8 a9 a10 a11 a12 a13 a30 f1 f2 f3 f4 f5 f6 f7 f8 f9 f10 f11 f12 f13 = v265 X := by
    unfold run_B.sl.r_16 v265
    try simp (disch := decide) only [View.readAt_eq_ld, e12, e13, View.ld_unit_lit', w13, w14]
    first | done | rfl
  have w17 : run_B.sl.r_17 c a1 a2 a3 a4 a5 a6 a7 a8 a9 a10 a11 a12 a14 a30 f1 f2 f3 f4 f5 f6 f7 f8 f9 f10 f11 f12 f14 = v268 X := by
    unfold run_B.sl.r_17 v268
    try simp (disch := decide) only [View.readAt_eq_ld, e12, e14, View.ld_unit_lit', w13, w14]
    first | done | rfl
  have w18 : run_B.sl.r_18 c a1 a2 a3 a4 a5 a6 a7 a8 a9 a10 a11 a12 a13 a30 f1 f2 f3 f4 f5 f6 f7 f8 f9 f10 f11 f12 f13 = v271 X := by
    unfold run_B.sl.r_18 v271
    try simp (disch := decide) only [View.readAt_eq_ld, e12, e13, View.ld_unit_lit', w13, w14]
    first | done | rfl
  have w19 : run_B.sl.r_19 c a1 a2 a3 a4 a5 a6 a7 a8 a9 a10 a11 a12 a14 a30 f1 f2 f3 f4 f5 f6 f7 f8 f9 f10 f11 f12 f14 = v274 X := by
    unfold run_B.sl.r_19 v274
    try simp (disch := decide) only [View.readAt_eq_ld, e12, e14, View.ld_unit_lit', w13, w14]
    first | done | rfl
  have w20 : run_B.sl.r_20 c a1 a2 a3 a4 a5 a6 a7 a8 a9 a10 a11 a12 a13 a30 f1 f2 f3 f4 f5 f6 f7 f8 f9 f10 f11 f12 f13 = v281 X := by
    unfold run_B.sl.r_20 v281
    try simp (disch := decide) only [View.readAt_eq_ld, e12, e13, View.ld_unit_lit', w13, w14]
    first | done | rfl
  have w21 : run_B.sl.r_21 c a1 a2 a3 a4 a5 a6 a7 a8 a9 a10 a11 a12 a13 a14 a15 a30 f1 f2 f3 f4 f5 f6 f7 f8 f9 f10 f11 f12 f13 f14 f15 = v293 X := by
    unfold run_B.sl.r_21 v293
    try simp (disch := decide) only [View.readAt_eq_ld, e15, View.ld_unit_lit', w13, w16, w17, w20]
    first | done | rfl
  have w22 : run_B.sl.r_22 c a1 a2 a3 a4 a5 a6 a7 a8 a9 a10 a11 a12 a13 a30 f1 f2 f3 f4 f5 f6 f7 f8 f9 f10 f11 f12 f13 = v296 X := by
    unfold run_B.sl.r_22 v296
    try simp (disch := decide) only [View.readAt_eq_ld, e13, View.ld_unit_lit', w15]
    first | done | rfl
  have w23 : run_B.sl.r_23 c a1 a2 a3 a4 a5 a6 a7 a8 a9 a10 a11 a12 a14 a30 f1 f2 f3 f4 f5 f6 f7 f8 f9 f10 f11 f12 f14 = v299 X := by
    unfold run_B.sl.r_23 v299
    try simp (disch := decide) only [View.readAt_eq_ld, e14, View.ld_unit_lit', w15]
    first | done | rfl
  have w24 : run_B.sl.r_24 c a1 a2 a3 a4 a5 a6 a7 a8 a9 a10 a11 a12 a13 a14 a30 f1 f2 f3 f4 f5 f6 f7 f8 f9 f10 f11 f12 f13 f14 = v313 X := by
    unfold run_B.sl.r_24 v313
    try simp (disch := decide) only [View.readAt_eq_ld, View.ld_unit_lit', w18, w19]
    first | done | rfl
  have w25 : run_B.sl.r_25 c a15 f15 = v315 X := by
    unfold run_B.sl.r_25 v315
    try simp (disch := decide) only [View.readAt_eq_ld, e15, View.ld_unit_lit']
    first | done | rfl
  have w26 : run_B.sl.r_26 c a1 a2 a3 a4 a5 a6 a7 a8 a9 a10 a11 a12 a13 a30 f1 f2 f3 f4 f5 f6 f7 f8 f9 f10 f11 f12 f13 = v321 X := by
    unfold run_B.sl.r_26 v321
    try simp (disch := decide) only [View.readAt_eq_ld, e13, View.ld_unit_lit', w15]
    first | done | rfl
  have w27 : run_B.sl.r_27 c a1 a2 a3 a4 a5 a6 a7 a8 a9 a10 a11 a12 a14 a30 f1 f2 f3 f4 f5 f6 f7 f8 f9 f10 f11 f12 f14 = v324 X := by
    unfold run_B.sl.r_27 v324
    try simp (disch := decide) only [View.readAt_eq_ld, e14, View.ld_unit_lit', w15]
    first | done | rfl
  have w28 : run_B.sl.r_28 c a1 a2 a3 a4 a5 a6 a7 a8 a9 a10 a11 a12 a13 a14 a15 a30 f1 f2 f3 f4 f5 f6 f7 f8 f9 f10 f11 f12 f13 f14 f15 = v343 X := by
    unfold run_B.sl.r_28 v343
    try simp (disch := decide) only [View.readAt_eq_ld, e15, View.ld_unit_lit', w21, w22, w23, w24, w25]
    first | done | rfl
  have w29 : run_B.sl.r_29 c a1 a2 a3 a4 a5 a6 a7 a8 a9 a10 a11 a12 a13 a30 f1 f2 f3 f4 f5 f6 f7 f8 f9 f10 f11 f12 f13 = v346 X := by
    unfold run_B.sl.r_29 v346
    try simp (disch := decide) only [View.readAt_eq_ld, e13, View.ld_unit_lit', w15]
    first | done | rfl
  have w30 : run_B.sl.r_30 c a14 f14 = v348 X := by
    unfold run_B.sl.r_30 v348
    try simp (disch := decide) only [View.readAt_eq_ld, e14, View.ld_unit_lit']
    first | done | rfl
  have w31 : run_B.sl.r_31 c a1 a2 a3 a4 a5 a6 a7 a8 a9 a10 a11 a12 a14 a30 f1 f2 f3 f4 f5 f6 f7 f8 f9 f10 f11 f12 f14 = v349 X := by
    unfold run_B.sl.r_31 v349
    try simp (disch := decide) only [View.readAt_eq_ld, View.ld_unit_lit', w15, w30]
    first | done | rfl
  have w32 : run_B.sl.r_32 c a1 a2 a3 a4 a5 a6 a7 a8 a9 a10 a11 a12 a13 a14 a15 a30 f1 f2 f3 f4 f5 f6 f7 f8 f9 f10 f11 f12 f13 f14 f15 = v368 X := by
    unfold run_B.sl.r_32 v368
    try simp (disch := decide) only [View.readAt_eq_ld, e15, View.ld_unit_lit', w26, w27, w28]
    first | done | rfl
  have w33 : run_B.sl.r_33 c a1 a2 a3 a4 a5 a6 a7 a8 a9 a10 a11 a12 a13 a30 f1 f2 f3 f4 f5 f6 f7 f8 f9 f10 f11 f12 f13 = v371 X := by
    unfold run_B.sl.r_33 v371
    try simp (disch := decide) only [View.readAt_eq_ld, e13, View.ld_unit_lit', w15]
    first | done | rfl
  have w34 : run_B.sl.r_34 c a1 a2 a3 a4 a5 a6 a7 a8 a9 a10 a11 a12 a14 a30 f1 f2 f3 f4 f5 f6 f7 f8 f9 f10 f11 f12 f14 = v374 X := by
    unfold run_B.sl.r_34 v374
    try simp (disch := decide) only [View.readAt_eq_ld, e14, View.ld_unit_lit', w15]
    first | done | rfl
  have w35 : run_B.sl.r_35 c a1 a2 a3 a4 a5 a6 a7 a8 a9 a10 a11 a12 a13 a14 a15 a30 f1 f2 f3 f4 f5 f6 f7 f8 f9 f10 f11 f12 f13 f14 f15 = v412 X := by
    unfold run_B.sl.r_35 v412
    try simp (disch := decide) only [View.readAt_eq_ld, e15, View.ld_unit_lit', w29, w31, w32, w33, w34]
    first | done | rfl
  have w36 : run_B.sl.r_36 c a1 a2 a3 a4 a5 a6 a7 a8 a9 a10 a11 a12 a13 a14 a15 a30 f1 f2 f3 f4 f5 f6 f7 f8 f9 f10 f11 f12 f13 f14 f15 = v425 X := by
    unfold run_B.sl.r_36 v425
    try simp (disch := decide) only [View.readAt_eq_ld, View.ld_unit_lit', w35]
    first | done | rfl
  have w37 : run_B.sl.r_37 c a1 a2 a3 a4 a5 a6 a7 a8 a9 a10 a11 a12 a13 a14 a15 a30 f1 f2 f3 f4 f5 f6 f7 f8 f9 f10 f11 f12 f13 f14 f15 = v427 X := by
    unfold run_B.sl.r_37 v427
    try simp (disch := decide) only [View.readAt_eq_ld, View.ld_unit_lit', w35]
    first | done | rfl
  have w38 : run_B.sl.r_38 c a1 a2 a3 a4 a5 a6 a7 a8 a9 a10 a11 a12 a13 a14 a15 a16 a17 a30 f1 f2 f3 f4 f5 f6 f7 f8 f9 f10 f11 f12 f13 f14 f15 f16 f17 = v451 X := by
    unfold run_B.sl.r_38 v451
    try simp (disch := decide) only [View.readAt_eq_ld, e16, e17, View.ld_unit_lit', w35]
    first | done | rfl
  have w39 : run_B.sl.r_39 c a1 a2 a3 a4 a5 a6 a7 a8 a9 a10 a11 a12 a13 a14 a15 a16 a17 a30 f1 f2 f3 f4 f5 f6 f7 f8 f9 f10 f11 f12 f13 f14 f15 f16 f17 = v452 X := by
    unfold run_B.sl.r_39 v452
    try simp (disch := decide) only [View.readAt_eq_ld, e16, e17, View.ld_unit_lit', w35]
    first | done | rfl
  iapply Hk
  isplitl [H1 H2 H3 H4 H5 H6 H7 H8 H9 H10 H11 H12 H13 H14 H15 H16 H17]
  · isplitl [H1]
    · iexists _; isplitr; · ipureintro; exact e1
      iexact H1
    isplitl [H2]
    · iexists _; isplitr; · ipureintro; exact e2
      iexact H2
    isplitl [H3]
    · iexists _; isplitr; · ipureintro; exact e3
      iexact H3
    isplitl [H4]
    · iexists _; isplitr; · ipureintro; exact e4
      iexact H4
    isplitl [H5]
    · iexists _; isplitr; · ipureintro; exact e5
      iexact H5
    isplitl [H6]
    · iexists _; isplitr; · ipureintro; exact e6
      iexact H6
    isplitl [H7]
    · iexists _; isplitr; · ipureintro; exact e7
      iexact H7
    isplitl [H8]
    · iexists _; isplitr; · ipureintro; exact e8
      iexact H8
    isplitl [H9]
    · iexists _; isplitr; · ipureintro; exact e9
      iexact H9
    isplitl [H10]
    · iexists _; isplitr; · ipureintro; exact e10
      iexact H10
    isplitl [H11]
    · iexists _; isplitr; · ipureintro; exact e11
      iexact H11
    isplitl [H12]
    · iexists _; isplitr; · ipureintro; exact e12
      iexact H12
    isplitl [H13]
    · iexists _; isplitr; · ipureintro; exact e13
      iexact H13
    isplitl [H14]
    · iexists _; isplitr; · ipureintro; exact e14
      iexact H14
    isplitl [H15]
    · iexists _; isplitr; · ipureintro; exact e15
      iexact H15
    isplitl [H16]
    · iexists _; isplitr; · ipureintro; exact e16
      iexact H16
    iexists _; isplitr; · ipureintro; exact e17
    iexact H17
  isplitl [H18 H19 H20 H21 H22 H23 H24 H25 H26 H27]
  · isplitl [H18]
    · iexists _; isplitr; swap; · iexact H18
      ipureintro
      refine (View.read_writes_eq_canon _ _ _ (View.cover_of_tiledL _ S256x1024.size (by sl_kernel_rfl))).trans ?_
      unfold mixedBlk
      simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wone]
      first | done | rfl
    isplitl [H19]
    · iexists _; isplitr; swap; · iexact H19
      ipureintro
      refine (View.read_writes_eq_canon _ _ _ (View.cover_of_tiledL _ S256x1024.size (by sl_kernel_rfl))).trans ?_
      unfold gatedBlk
      simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wone]
      first | done | rfl
    isplitl [H20]
    · iexists _; isplitr; swap; · iexact H20
      ipureintro
      refine (View.read_writes_eq_canon _ _ _ (View.cover_of_tiledL _ S256x1024.size (by sl_kernel_rfl))).trans ?_
      unfold ybBlk
      simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wone]
      first | done | rfl
    isplitl [H21]
    · iexists _; isplitr; swap; · iexact H21
      ipureintro
      refine (View.read_writes_eq_canon _ _ _ (View.cover_of_tiledL _ S256x1024.size (by sl_kernel_rfl))).trans ?_
      unfold mergedBlk
      simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wone]
      first | done | rfl
    isplitl [H22]
    · iexists _; isplitr; swap; · iexact H22
      ipureintro
      refine (View.read_writes_eq_canon _ _ _ (View.cover_of_tiledL _ S256x1024.size (by sl_kernel_rfl))).trans ?_
      unfold x1Blk
      simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wone]
      first | done | rfl
    isplitl [H23]
    · iexists _; isplitr; swap; · iexact H23
      ipureintro
      refine (View.read_writes_eq_canon _ _ _ (View.cover_of_tiledL _ S256x1024.size (by sl_kernel_rfl))).trans ?_
      unfold h2Blk
      simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wone]
      first | done | rfl
    isplitl [H24]
    · iexists _; isplitr; swap; · iexact H24
      ipureintro
      refine (View.read_writes_eq_canon _ _ _ (View.cover_of_tiledBy _ ![256, 256] (by sl_kernel_rfl))).trans ?_
      unfold gtBlk gtBlkTiles
      simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wone]
      first | done | rfl
    isplitl [H25]
    · iexists _; isplitr; swap; · iexact H25
      ipureintro
      refine (View.read_writes_eq_canon _ _ _ (View.cover_of_tiledBy _ ![256, 256] (by sl_kernel_rfl))).trans ?_
      unfold upBlk upBlkTiles
      simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wone]
      first | done | rfl
    isplitl [H26]
    · iexists _; isplitr; swap; · iexact H26
      ipureintro
      refine (View.read_writes_eq_canon _ _ _ (View.cover_of_tiledBy _ ![256, 256] (by sl_kernel_rfl))).trans ?_
      unfold actBlk actBlkTiles
      simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wone]
      first | done | rfl
    iexists _; isplitr; swap; · iexact H27
    ipureintro
    refine (View.read_writes_eq_canon _ _ _ (View.cover_of_tiledL _ S256x1024.size (by sl_kernel_rfl))).trans ?_
    unfold dxBlk
    simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wone]
    first | done | rfl
  isplitl [H28]
  · iexists _; isplitr; · ipureintro; exact e28
    iexact H28
  isplitl [H29]
  · iexists _; isplitr; swap; · iexact H29
    ipureintro
    refine (View.read_writes_eq_canon _ _ _ (View.cover_of_tiledL _ S1x1024.size (by sl_kernel_rfl))).trans ?_
    unfold stepG
    simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wone]
    first | done | rfl
  isplitl [H30]
  · iexists _; iexists _; isplitr; swap; · iexact H30
    ipureintro; rfl
  iexists _; isplitr; swap; · iexact H31
  ipureintro
  refine (View.read_writes_eq_canon _ _ _ (View.cover_of_tiledL _ S1x1024.size (by sl_kernel_rfl))).trans ?_
  unfold stepS
  simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wone]
  first | done | rfl

end Cert.Head.Run

end

end
-- ==== Proof.Head.RunC.lean ====
module

public import proofs.«01_k».proof.Proof.Head.RunKit

@[expose] public section

set_option maxRecDepth 16384

noncomputable section

/-! One grid point run through, case C. -/

namespace Cert.Head.Run

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 60000000 in
/-- One run of the body, last point: the loss is written too. -/
theorem run_C (c : Dev nD) (i : grid0.Coords) (R : Refs) (X : Ins F) (g s : Vec F S1x1024 .f32)
    (hc0 : ¬cond0_0 i) (hc1 : cond0_1 i)
    (E : Set ℕ) (K : PUnit → sProp 𝕄) :
    iprop(held c R X ∗ free c R ∗ (∃ d : Vec F S1x128 .f32, owns (c : Thread nD τ) R.a28 fullShare d) ∗ owns (c : Thread nD τ) R.a29 fullShare g
        ∗ (∃ d : Vec F S256x1024 .f32, owns (c : Thread nD τ) R.a30 fullShare d) ∗ owns (c : Thread nD τ) R.a31 fullShare s
        ∗ (iprop(held c R X ∗ left c R X ∗ owns (c : Thread nD τ) R.a28 fullShare (lossBlk (stepS X s))
            ∗ owns (c : Thread nD τ) R.a29 fullShare (stepG X g)
            ∗ (∃ d : Vec F S256x1024 .f32, owns (c : Thread nD τ) R.a30 fullShare d)
            ∗ owns (c : Thread nD τ) R.a31 fullShare (stepS X s)) -∗ K ⟨⟩))
      ⊢ wp frame (wpE (defs₀ (F := F)) Variants.none c none) E (body i R) K := by
  obtain ⟨a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22, a23, h23, a24, h24, a25, h25, a26, h26, a27, h27, a28, h28, a29, h29, a30, h30, a31, h31⟩ := R
  dsimp only [body, held, free, left]
  simp only [cc0_sgu_ffn_fwd_head_eq_skeleton]; unfold cc0_sgu_ffn_fwd_head_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩, ⟨⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩⟩, ⟨%d28, %f28, -, H28⟩, ⟨%f29, %e29, H29⟩, ⟨%d30, %f30, -, H30⟩, ⟨%f31, %e31, H31⟩, Hk⟩
  sl_exec (disch := first | sl_exact hc0 | sl_exact hc1)
  sl_step
  have wone : run_C.sl.cst_109 (F := F) = (Scalar.ofBits .f32 0x3F800000#32 : F .f32) := by
    unfold run_C.sl.cst_109
    rfl
  have w0 : run_C.sl.r c a1 f1 = v2 X := by
    unfold run_C.sl.r v2
    try simp (disch := decide) only [View.readAt_eq_ld, e1, View.ld_unit_lit']
    first | done | rfl
  have w1 : run_C.sl.r_1 c a1 a5 a6 f1 f5 f6 = v30 X := by
    unfold run_C.sl.r_1 v30
    try simp (disch := decide) only [View.readAt_eq_ld, e1, e5, e6, View.ld_unit_lit']
    first | done | rfl
  have w2 : run_C.sl.r_2 c a1 a5 a6 a7 f1 f5 f6 f7 = v36 X := by
    unfold run_C.sl.r_2 v36
    try simp (disch := decide) only [View.readAt_eq_ld, e1, e5, e6, e7, View.ld_unit_lit']
    first | done | rfl
  have w3 : run_C.sl.r_3 c a1 a5 a6 a7 f1 f5 f6 f7 = v37 X := by
    unfold run_C.sl.r_3 v37
    try simp (disch := decide) only [View.readAt_eq_ld, e1, e5, e6, e7, View.ld_unit_lit']
    first | done | rfl
  have w4 : run_C.sl.r_4 c a8 f8 = v39 X := by
    unfold run_C.sl.r_4 v39
    try simp (disch := decide) only [View.readAt_eq_ld, e8, View.ld_unit_lit']
    first | done | rfl
  have w5 : run_C.sl.r_5 c a1 a5 a6 f1 f5 f6 = v73 X := by
    unfold run_C.sl.r_5 v73
    try simp (disch := decide) only [View.readAt_eq_ld, View.ld_unit_lit', w1]
    first | done | rfl
  have w6 : run_C.sl.r_6 c a7 f7 = v74 X := by
    unfold run_C.sl.r_6 v74
    try simp (disch := decide) only [View.readAt_eq_ld, e7, View.ld_unit_lit']
    first | done | rfl
  have w7 : run_C.sl.r_7 c a1 a5 a6 a7 a8 f1 f5 f6 f7 f8 = v110 X := by
    unfold run_C.sl.r_7 v110
    try simp (disch := decide) only [View.readAt_eq_ld, e7, e8, View.ld_unit_lit', w1]
    first | done | rfl
  have w8 : run_C.sl.r_8 c a1 a5 a6 a7 f1 f5 f6 f7 = v144 X := by
    unfold run_C.sl.r_8 v144
    try simp (disch := decide) only [View.readAt_eq_ld, e7, View.ld_unit_lit', w1]
    first | done | rfl
  have w9 : run_C.sl.r_9 c a1 a5 a6 a7 f1 f5 f6 f7 = v176 X := by
    unfold run_C.sl.r_9 v176
    try simp (disch := decide) only [View.readAt_eq_ld, e7, View.ld_unit_lit', w1]
    first | done | rfl
  have w10 : run_C.sl.r_10 c a1 a5 a6 a7 a8 f1 f5 f6 f7 f8 = v180 X := by
    unfold run_C.sl.r_10 v180
    try simp (disch := decide) only [View.readAt_eq_ld, e7, e8, View.ld_unit_lit', w1]
    first | done | rfl
  have wtiles : run_C.sl.H30_16 c a1 a5 a6 a7 a8 f1 f5 f6 f7 f8 = mixTiles X := by
    unfold run_C.sl.H30_16 mixTiles
    try simp (disch := decide) only [View.readAt_eq_ld, e8, e7, e1, e5, e6, View.ld_unit_lit', w9, w10, w1, w8, w7, w5, w6, w2, w3, w4]
    first | done | rfl
  have wmix : run_C.sl.v191 c a1 a5 a6 a7 a8 a30 f1 f5 f6 f7 f8 = mix X := by
    unfold run_C.sl.v191 mix
    rw [wtiles]
    exact (View.readCov_eq_canon_ld (Val := Elt F) a30.view (mixTiles X) (Rect.unit (s := S256x1024) ![0, 0] S256x1024.size inb_S256x1024_S256x1024_0_0)
      (View.cover_of_tiledL _ S128x128.size (by sl_kernel_rfl))).trans (View.ld_unit_lit' _ _ (by decide))
  have w11 : run_C.sl.r_11 c a1 a5 a6 a7 a8 a10 a30 f1 f5 f6 f7 f8 f10 = v200 X := by
    unfold run_C.sl.r_11 v200
    try simp (disch := decide) only [View.readAt_eq_ld, e10, View.ld_unit_lit', w0, wmix]
    first | done | rfl
  have w12 : run_C.sl.r_12 c a2 a9 f2 f9 = v212 X := by
    unfold run_C.sl.r_12 v212
    try simp (disch := decide) only [View.readAt_eq_ld, e2, e9, View.ld_unit_lit']
    first | done | rfl
  have w13 : run_C.sl.r_13 c a1 a2 a3 a4 a5 a6 a7 a8 a9 a10 a11 a30 f1 f2 f3 f4 f5 f6 f7 f8 f9 f10 f11 = v245 X := by
    unfold run_C.sl.r_13 v245
    try simp (disch := decide) only [View.readAt_eq_ld, e2, e9, e3, e4, e11, View.ld_unit_lit', w11, w12, wone]
    first | done | rfl
  have w14 : run_C.sl.r_14 c a1 a2 a3 a4 a5 a6 a7 a8 a9 a10 a11 a30 f1 f2 f3 f4 f5 f6 f7 f8 f9 f10 f11 = v249 X := by
    unfold run_C.sl.r_14 v249
    try simp (disch := decide) only [View.readAt_eq_ld, e2, e9, e3, e4, e11, View.ld_unit_lit', w11, w12, wone]
    first | done | rfl
  have w15 : run_C.sl.r_15 c a1 a2 a3 a4 a5 a6 a7 a8 a9 a10 a11 a12 a30 f1 f2 f3 f4 f5 f6 f7 f8 f9 f10 f11 f12 = v261 X := by
    unfold run_C.sl.r_15 v261
    try simp (disch := decide) only [View.readAt_eq_ld, e12, View.ld_unit_lit', w13, w14]
    first | done | rfl
  have w16 : run_C.sl.r_16 c a1 a2 a3 a4 a5 a6 a7 a8 a9 a10 a11 a12 a13 a30 f1 f2 f3 f4 f5 f6 f7 f8 f9 f10 f11 f12 f13 = v265 X := by
    unfold run_C.sl.r_16 v265
    try simp (disch := decide) only [View.readAt_eq_ld, e12, e13, View.ld_unit_lit', w13, w14]
    first | done | rfl
  have w17 : run_C.sl.r_17 c a1 a2 a3 a4 a5 a6 a7 a8 a9 a10 a11 a12 a14 a30 f1 f2 f3 f4 f5 f6 f7 f8 f9 f10 f11 f12 f14 = v268 X := by
    unfold run_C.sl.r_17 v268
    try simp (disch := decide) only [View.readAt_eq_ld, e12, e14, View.ld_unit_lit', w13, w14]
    first | done | rfl
  have w18 : run_C.sl.r_18 c a1 a2 a3 a4 a5 a6 a7 a8 a9 a10 a11 a12 a13 a30 f1 f2 f3 f4 f5 f6 f7 f8 f9 f10 f11 f12 f13 = v271 X := by
    unfold run_C.sl.r_18 v271
    try simp (disch := decide) only [View.readAt_eq_ld, e12, e13, View.ld_unit_lit', w13, w14]
    first | done | rfl
  have w19 : run_C.sl.r_19 c a1 a2 a3 a4 a5 a6 a7 a8 a9 a10 a11 a12 a14 a30 f1 f2 f3 f4 f5 f6 f7 f8 f9 f10 f11 f12 f14 = v274 X := by
    unfold run_C.sl.r_19 v274
    try simp (disch := decide) only [View.readAt_eq_ld, e12, e14, View.ld_unit_lit', w13, w14]
    first | done | rfl
  have w20 : run_C.sl.r_20 c a1 a2 a3 a4 a5 a6 a7 a8 a9 a10 a11 a12 a13 a30 f1 f2 f3 f4 f5 f6 f7 f8 f9 f10 f11 f12 f13 = v281 X := by
    unfold run_C.sl.r_20 v281
    try simp (disch := decide) only [View.readAt_eq_ld, e12, e13, View.ld_unit_lit', w13, w14]
    first | done | rfl
  have w21 : run_C.sl.r_21 c a1 a2 a3 a4 a5 a6 a7 a8 a9 a10 a11 a12 a13 a14 a15 a30 f1 f2 f3 f4 f5 f6 f7 f8 f9 f10 f11 f12 f13 f14 f15 = v293 X := by
    unfold run_C.sl.r_21 v293
    try simp (disch := decide) only [View.readAt_eq_ld, e15, View.ld_unit_lit', w13, w16, w17, w20]
    first | done | rfl
  have w22 : run_C.sl.r_22 c a1 a2 a3 a4 a5 a6 a7 a8 a9 a10 a11 a12 a13 a30 f1 f2 f3 f4 f5 f6 f7 f8 f9 f10 f11 f12 f13 = v296 X := by
    unfold run_C.sl.r_22 v296
    try simp (disch := decide) only [View.readAt_eq_ld, e13, View.ld_unit_lit', w15]
    first | done | rfl
  have w23 : run_C.sl.r_23 c a1 a2 a3 a4 a5 a6 a7 a8 a9 a10 a11 a12 a14 a30 f1 f2 f3 f4 f5 f6 f7 f8 f9 f10 f11 f12 f14 = v299 X := by
    unfold run_C.sl.r_23 v299
    try simp (disch := decide) only [View.readAt_eq_ld, e14, View.ld_unit_lit', w15]
    first | done | rfl
  have w24 : run_C.sl.r_24 c a1 a2 a3 a4 a5 a6 a7 a8 a9 a10 a11 a12 a13 a14 a30 f1 f2 f3 f4 f5 f6 f7 f8 f9 f10 f11 f12 f13 f14 = v313 X := by
    unfold run_C.sl.r_24 v313
    try simp (disch := decide) only [View.readAt_eq_ld, View.ld_unit_lit', w18, w19]
    first | done | rfl
  have w25 : run_C.sl.r_25 c a15 f15 = v315 X := by
    unfold run_C.sl.r_25 v315
    try simp (disch := decide) only [View.readAt_eq_ld, e15, View.ld_unit_lit']
    first | done | rfl
  have w26 : run_C.sl.r_26 c a1 a2 a3 a4 a5 a6 a7 a8 a9 a10 a11 a12 a13 a30 f1 f2 f3 f4 f5 f6 f7 f8 f9 f10 f11 f12 f13 = v321 X := by
    unfold run_C.sl.r_26 v321
    try simp (disch := decide) only [View.readAt_eq_ld, e13, View.ld_unit_lit', w15]
    first | done | rfl
  have w27 : run_C.sl.r_27 c a1 a2 a3 a4 a5 a6 a7 a8 a9 a10 a11 a12 a14 a30 f1 f2 f3 f4 f5 f6 f7 f8 f9 f10 f11 f12 f14 = v324 X := by
    unfold run_C.sl.r_27 v324
    try simp (disch := decide) only [View.readAt_eq_ld, e14, View.ld_unit_lit', w15]
    first | done | rfl
  have w28 : run_C.sl.r_28 c a1 a2 a3 a4 a5 a6 a7 a8 a9 a10 a11 a12 a13 a14 a15 a30 f1 f2 f3 f4 f5 f6 f7 f8 f9 f10 f11 f12 f13 f14 f15 = v343 X := by
    unfold run_C.sl.r_28 v343
    try simp (disch := decide) only [View.readAt_eq_ld, e15, View.ld_unit_lit', w21, w22, w23, w24, w25]
    first | done | rfl
  have w29 : run_C.sl.r_29 c a1 a2 a3 a4 a5 a6 a7 a8 a9 a10 a11 a12 a13 a30 f1 f2 f3 f4 f5 f6 f7 f8 f9 f10 f11 f12 f13 = v346 X := by
    unfold run_C.sl.r_29 v346
    try simp (disch := decide) only [View.readAt_eq_ld, e13, View.ld_unit_lit', w15]
    first | done | rfl
  have w30 : run_C.sl.r_30 c a14 f14 = v348 X := by
    unfold run_C.sl.r_30 v348
    try simp (disch := decide) only [View.readAt_eq_ld, e14, View.ld_unit_lit']
    first | done | rfl
  have w31 : run_C.sl.r_31 c a1 a2 a3 a4 a5 a6 a7 a8 a9 a10 a11 a12 a14 a30 f1 f2 f3 f4 f5 f6 f7 f8 f9 f10 f11 f12 f14 = v349 X := by
    unfold run_C.sl.r_31 v349
    try simp (disch := decide) only [View.readAt_eq_ld, View.ld_unit_lit', w15, w30]
    first | done | rfl
  have w32 : run_C.sl.r_32 c a1 a2 a3 a4 a5 a6 a7 a8 a9 a10 a11 a12 a13 a14 a15 a30 f1 f2 f3 f4 f5 f6 f7 f8 f9 f10 f11 f12 f13 f14 f15 = v368 X := by
    unfold run_C.sl.r_32 v368
    try simp (disch := decide) only [View.readAt_eq_ld, e15, View.ld_unit_lit', w26, w27, w28]
    first | done | rfl
  have w33 : run_C.sl.r_33 c a1 a2 a3 a4 a5 a6 a7 a8 a9 a10 a11 a12 a13 a30 f1 f2 f3 f4 f5 f6 f7 f8 f9 f10 f11 f12 f13 = v371 X := by
    unfold run_C.sl.r_33 v371
    try simp (disch := decide) only [View.readAt_eq_ld, e13, View.ld_unit_lit', w15]
    first | done | rfl
  have w34 : run_C.sl.r_34 c a1 a2 a3 a4 a5 a6 a7 a8 a9 a10 a11 a12 a14 a30 f1 f2 f3 f4 f5 f6 f7 f8 f9 f10 f11 f12 f14 = v374 X := by
    unfold run_C.sl.r_34 v374
    try simp (disch := decide) only [View.readAt_eq_ld, e14, View.ld_unit_lit', w15]
    first | done | rfl
  have w35 : run_C.sl.r_35 c a1 a2 a3 a4 a5 a6 a7 a8 a9 a10 a11 a12 a13 a14 a15 a30 f1 f2 f3 f4 f5 f6 f7 f8 f9 f10 f11 f12 f13 f14 f15 = v412 X := by
    unfold run_C.sl.r_35 v412
    try simp (disch := decide) only [View.readAt_eq_ld, e15, View.ld_unit_lit', w29, w31, w32, w33, w34]
    first | done | rfl
  have w36 : run_C.sl.r_36 c a1 a2 a3 a4 a5 a6 a7 a8 a9 a10 a11 a12 a13 a14 a15 a30 f1 f2 f3 f4 f5 f6 f7 f8 f9 f10 f11 f12 f13 f14 f15 = v425 X := by
    unfold run_C.sl.r_36 v425
    try simp (disch := decide) only [View.readAt_eq_ld, View.ld_unit_lit', w35]
    first | done | rfl
  have w37 : run_C.sl.r_37 c a1 a2 a3 a4 a5 a6 a7 a8 a9 a10 a11 a12 a13 a14 a15 a30 f1 f2 f3 f4 f5 f6 f7 f8 f9 f10 f11 f12 f13 f14 f15 = v427 X := by
    unfold run_C.sl.r_37 v427
    try simp (disch := decide) only [View.readAt_eq_ld, View.ld_unit_lit', w35]
    first | done | rfl
  have w38 : run_C.sl.r_38 c a1 a2 a3 a4 a5 a6 a7 a8 a9 a10 a11 a12 a13 a14 a15 a16 a17 a30 f1 f2 f3 f4 f5 f6 f7 f8 f9 f10 f11 f12 f13 f14 f15 f16 f17 = v451 X := by
    unfold run_C.sl.r_38 v451
    try simp (disch := decide) only [View.readAt_eq_ld, e16, e17, View.ld_unit_lit', w35]
    first | done | rfl
  have w39 : run_C.sl.r_39 c a1 a2 a3 a4 a5 a6 a7 a8 a9 a10 a11 a12 a13 a14 a15 a16 a17 a30 f1 f2 f3 f4 f5 f6 f7 f8 f9 f10 f11 f12 f13 f14 f15 f16 f17 = v452 X := by
    unfold run_C.sl.r_39 v452
    try simp (disch := decide) only [View.readAt_eq_ld, e16, e17, View.ld_unit_lit', w35]
    first | done | rfl
  have wS : run_C.sl.v466 c a1 a2 a3 a4 a5 a6 a7 a8 a9 a10 a11 a12 a13 a14 a15 a16 a17 a30 a31 f1 f2 f3 f4 f5 f6 f7 f8 f9 f10 f11 f12 f13 f14 f15 f16 f17 f31 = stepS X s := by
    unfold run_C.sl.v466 run_C.sl.H31_1 stepS
    refine (View.readCov_unit_lit' _ _ _ (by decide)).trans ?_
    simp (disch := decide) only [View.readAt_eq_ld, e16, e17, e31, View.ld_unit_lit', w35]
  iapply Hk
  isplitl [H1 H2 H3 H4 H5 H6 H7 H8 H9 H10 H11 H12 H13 H14 H15 H16 H17]
  · isplitl [H1]
    · iexists _; isplitr; · ipureintro; exact e1
      iexact H1
    isplitl [H2]
    · iexists _; isplitr; · ipureintro; exact e2
      iexact H2
    isplitl [H3]
    · iexists _; isplitr; · ipureintro; exact e3
      iexact H3
    isplitl [H4]
    · iexists _; isplitr; · ipureintro; exact e4
      iexact H4
    isplitl [H5]
    · iexists _; isplitr; · ipureintro; exact e5
      iexact H5
    isplitl [H6]
    · iexists _; isplitr; · ipureintro; exact e6
      iexact H6
    isplitl [H7]
    · iexists _; isplitr; · ipureintro; exact e7
      iexact H7
    isplitl [H8]
    · iexists _; isplitr; · ipureintro; exact e8
      iexact H8
    isplitl [H9]
    · iexists _; isplitr; · ipureintro; exact e9
      iexact H9
    isplitl [H10]
    · iexists _; isplitr; · ipureintro; exact e10
      iexact H10
    isplitl [H11]
    · iexists _; isplitr; · ipureintro; exact e11
      iexact H11
    isplitl [H12]
    · iexists _; isplitr; · ipureintro; exact e12
      iexact H12
    isplitl [H13]
    · iexists _; isplitr; · ipureintro; exact e13
      iexact H13
    isplitl [H14]
    · iexists _; isplitr; · ipureintro; exact e14
      iexact H14
    isplitl [H15]
    · iexists _; isplitr; · ipureintro; exact e15
      iexact H15
    isplitl [H16]
    · iexists _; isplitr; · ipureintro; exact e16
      iexact H16
    iexists _; isplitr; · ipureintro; exact e17
    iexact H17
  isplitl [H18 H19 H20 H21 H22 H23 H24 H25 H26 H27]
  · isplitl [H18]
    · iexists _; isplitr; swap; · iexact H18
      ipureintro
      refine (View.read_writes_eq_canon _ _ _ (View.cover_of_tiledL _ S256x1024.size (by sl_kernel_rfl))).trans ?_
      unfold mixedBlk
      simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wone]
      first | done | rfl
    isplitl [H19]
    · iexists _; isplitr; swap; · iexact H19
      ipureintro
      refine (View.read_writes_eq_canon _ _ _ (View.cover_of_tiledL _ S256x1024.size (by sl_kernel_rfl))).trans ?_
      unfold gatedBlk
      simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wone]
      first | done | rfl
    isplitl [H20]
    · iexists _; isplitr; swap; · iexact H20
      ipureintro
      refine (View.read_writes_eq_canon _ _ _ (View.cover_of_tiledL _ S256x1024.size (by sl_kernel_rfl))).trans ?_
      unfold ybBlk
      simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wone]
      first | done | rfl
    isplitl [H21]
    · iexists _; isplitr; swap; · iexact H21
      ipureintro
      refine (View.read_writes_eq_canon _ _ _ (View.cover_of_tiledL _ S256x1024.size (by sl_kernel_rfl))).trans ?_
      unfold mergedBlk
      simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wone]
      first | done | rfl
    isplitl [H22]
    · iexists _; isplitr; swap; · iexact H22
      ipureintro
      refine (View.read_writes_eq_canon _ _ _ (View.cover_of_tiledL _ S256x1024.size (by sl_kernel_rfl))).trans ?_
      unfold x1Blk
      simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wone]
      first | done | rfl
    isplitl [H23]
    · iexists _; isplitr; swap; · iexact H23
      ipureintro
      refine (View.read_writes_eq_canon _ _ _ (View.cover_of_tiledL _ S256x1024.size (by sl_kernel_rfl))).trans ?_
      unfold h2Blk
      simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wone]
      first | done | rfl
    isplitl [H24]
    · iexists _; isplitr; swap; · iexact H24
      ipureintro
      refine (View.read_writes_eq_canon _ _ _ (View.cover_of_tiledBy _ ![256, 256] (by sl_kernel_rfl))).trans ?_
      unfold gtBlk gtBlkTiles
      simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wone]
      first | done | rfl
    isplitl [H25]
    · iexists _; isplitr; swap; · iexact H25
      ipureintro
      refine (View.read_writes_eq_canon _ _ _ (View.cover_of_tiledBy _ ![256, 256] (by sl_kernel_rfl))).trans ?_
      unfold upBlk upBlkTiles
      simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wone]
      first | done | rfl
    isplitl [H26]
    · iexists _; isplitr; swap; · iexact H26
      ipureintro
      refine (View.read_writes_eq_canon _ _ _ (View.cover_of_tiledBy _ ![256, 256] (by sl_kernel_rfl))).trans ?_
      unfold actBlk actBlkTiles
      simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wone]
      first | done | rfl
    iexists _; isplitr; swap; · iexact H27
    ipureintro
    refine (View.read_writes_eq_canon _ _ _ (View.cover_of_tiledL _ S256x1024.size (by sl_kernel_rfl))).trans ?_
    unfold dxBlk
    simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wone]
    first | done | rfl
  isplitl [H28]
  · iexists _; isplitr; swap; · iexact H28
    ipureintro
    refine (View.read_writes_eq_canon _ _ _ (View.cover_of_tiledL _ S1x128.size (by sl_kernel_rfl))).trans ?_
    unfold lossBlk
    simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wone]
    first | done | rfl
  isplitl [H29]
  · iexists _; isplitr; swap; · iexact H29
    ipureintro
    refine (View.read_writes_eq_canon _ _ _ (View.cover_of_tiledL _ S1x1024.size (by sl_kernel_rfl))).trans ?_
    unfold stepG
    simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wone]
    first | done | rfl
  isplitl [H30]
  · iexists _; iexists _; isplitr; swap; · iexact H30
    ipureintro; rfl
  iexists _; isplitr; swap; · iexact H31
  ipureintro
  refine (View.read_writes_eq_canon _ _ _ (View.cover_of_tiledL _ S1x1024.size (by sl_kernel_rfl))).trans ?_
  unfold run_C.sl.H31_1 stepS
  simp (disch := decide) only [View.canon_cons_unit_lit', View.readAt_eq_ld, View.ld_unit_lit', View.readCov_unit_lit', e1, e2, e3, e4, e5, e6, e7, e8, e9, e10, e11, e12, e13, e14, e15, e16, e17, e29, e31, wmix, w0, w1, w2, w3, w4, w5, w6, w7, w8, w9, w10, w11, w12, w13, w14, w15, w16, w17, w18, w19, w20, w21, w22, w23, w24, w25, w26, w27, w28, w29, w30, w31, w32, w33, w34, w35, w36, w37, w38, w39, wS, wone]
  first | done | rfl

end Cert.Head.Run

end

end
-- ==== Proof.Head.Frame.lean ====
module

public import Idealize.ShloMosaic.Lib.Claim
public import proofs.«01_k».proof.Proof.Head.Points
public import proofs.«01_k».proof.Proof.Head.RunA
public import proofs.«01_k».proof.Proof.Head.RunB
public import proofs.«01_k».proof.Proof.Head.RunC

@[expose] public section

set_option maxRecDepth 16384

noncomputable section

/-! The pipeline around the body: the frame of the fused head and what its result arrays hold. -/

namespace Cert.Head.Run

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers in use at point `t`. -/
def refs (t : Fin cfg0.N) : Refs :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, ms0_16 t, hs0_16 t, ms0_17 t, hs0_17 t, ms0_18 t, hs0_18 t, ms0_19 t, hs0_19 t, ms0_20 t, hs0_20 t, ms0_21 t, hs0_21 t, ms0_22 t, hs0_22 t, ms0_23 t, hs0_23 t, ms0_24 t, hs0_24 t, ms0_25 t, hs0_25 t, ms0_26 t, hs0_26 t, ms0_27 t, hs0_27 t, ms0_28 t, hs0_28 t,
   scM0_0, Memref.isWhole_whole _, scM0_1, Memref.isWhole_whole _⟩

/-- Between points: the first scratch at anything, the second at the squares summed so far. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (accS m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ owns (c : Thread nD τ) scM0_1 fullShare (accS m c n hn)) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (accS m c (n - 1) (by omega))) ∗ (∃ r, prngReg c r)) := by
  cases n with
  | zero => exact absurd rfl hz
  | succ n => rfl

/-- The proof data of the pipeline: what each buffer holds after the body at point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => mixedBlk (blk m c t)
    | ⟨18, _⟩ => gatedBlk (blk m c t)
    | ⟨19, _⟩ => ybBlk (blk m c t)
    | ⟨20, _⟩ => mergedBlk (blk m c t)
    | ⟨21, _⟩ => x1Blk (blk m c t)
    | ⟨22, _⟩ => h2Blk (blk m c t)
    | ⟨23, _⟩ => gtBlk (blk m c t)
    | ⟨24, _⟩ => upBlk (blk m c t)
    | ⟨25, _⟩ => actBlk (blk m c t)
    | ⟨26, _⟩ => dxBlk (blk m c t)
    | ⟨27, _⟩ => lossBlk (accS m c t.val t.isLt)
    | ⟨28, _⟩ => accG m c t.val t.isLt
    | ⟨_ + 29, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! What each buffer holds after the body. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = mixedBlk (blk m c t) := by dsimp only [dats]
theorem after0_18 (c : Dev nD) (t : Fin cfg0.N) : (dats m 0 c).after 18 t = gatedBlk (blk m c t) := by dsimp only [dats]
theorem after0_19 (c : Dev nD) (t : Fin cfg0.N) : (dats m 0 c).after 19 t = ybBlk (blk m c t) := by dsimp only [dats]
theorem after0_20 (c : Dev nD) (t : Fin cfg0.N) : (dats m 0 c).after 20 t = mergedBlk (blk m c t) := by dsimp only [dats]
theorem after0_21 (c : Dev nD) (t : Fin cfg0.N) : (dats m 0 c).after 21 t = x1Blk (blk m c t) := by dsimp only [dats]
theorem after0_22 (c : Dev nD) (t : Fin cfg0.N) : (dats m 0 c).after 22 t = h2Blk (blk m c t) := by dsimp only [dats]
theorem after0_23 (c : Dev nD) (t : Fin cfg0.N) : (dats m 0 c).after 23 t = gtBlk (blk m c t) := by dsimp only [dats]
theorem after0_24 (c : Dev nD) (t : Fin cfg0.N) : (dats m 0 c).after 24 t = upBlk (blk m c t) := by dsimp only [dats]
theorem after0_25 (c : Dev nD) (t : Fin cfg0.N) : (dats m 0 c).after 25 t = actBlk (blk m c t) := by dsimp only [dats]
theorem after0_26 (c : Dev nD) (t : Fin cfg0.N) : (dats m 0 c).after 26 t = dxBlk (blk m c t) := by dsimp only [dats]
theorem after0_27 (c : Dev nD) (t : Fin cfg0.N) : (dats m 0 c).after 27 t = lossBlk (accS m c t.val t.isLt) := by dsimp only [dats]
theorem after0_28 (c : Dev nD) (t : Fin cfg0.N) : (dats m 0 c).after 28 t = accG m c t.val t.isLt := by dsimp only [dats]

/-! What each input buffer holds before the body. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-- After the first point the gain's gradient holds the sum up to the point before. -/
theorem before0_28 (c : Dev nD) (t : Fin cfg0.N) (h0 : t.val ≠ 0) (d) :
    (dats m 0 c).before 28 t d = accG m c (t.val - 1) (Nat.lt_of_le_of_lt (Nat.sub_le _ _) t.isLt) := by
  have hN : t.val < 32 := lt_of_lt_of_eq t.isLt (show cfg0.N = 32 from N_0)
  rw [Dat.before_out_kept _ 28 rfl t (by omega) (Bool.eq_false_iff.mpr fun h => by have := (flush0_28 _).mp h; dsimp only at this; omega)
    (fun _ => rfl) (fun _ _ => rfl)]
  dsimp only [dats]

/-- A window in use at the point leaves what the proof data says. -/
theorem leaves_live (c : Dev nD) (w : Fin cfg0.W) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact; rw [h]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t)

set_option maxHeartbeats 4000000 in
/-- The call's buffers, grouped. -/
theorem pre_open (c : Dev nD) (t : Fin cfg0.N) :
    bodyPre m c t ⊢ iprop((dats m 0 c).Φ t.castSucc ∗ (dats m 0 c).owesAt () t.castSucc
      ∗ held c (refs t) (blk m c t) ∗ free (F := F) c (refs t)
      ∗ (∃ d, owns (c : Thread nD τ) (ms0_27 t) fullShare ((dats m 0 c).before 27 t d))
      ∗ (∃ d, owns (c : Thread nD τ) (ms0_28 t) fullShare ((dats m 0 c).before 28 t d))) := by
  unfold bodyPre held free
  dsimp only [refs, blk]
  simp only [before0_0, before0_1, before0_2, before0_3, before0_4, before0_5, before0_6, before0_7, before0_8, before0_9, before0_10, before0_11, before0_12, before0_13, before0_14, before0_15, before0_16]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, H17, H18, H19, H20, H21, H22, H23, H24, H25, H26, H27, H28⟩
  isplitl [HP]; · iexact HP
  isplitl [Ho]; · iexact Ho
  isplitl [H0 H1 H2 H3 H4 H5 H6 H7 H8 H9 H10 H11 H12 H13 H14 H15 H16]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [H17 H18 H19 H20 H21 H22 H23 H24 H25 H26]
  · isplitl [H17]; · icases H17 with ⟨%d17, H17⟩; iexists _; iexact H17
    isplitl [H18]; · icases H18 with ⟨%d18, H18⟩; iexists _; iexact H18
    isplitl [H19]; · icases H19 with ⟨%d19, H19⟩; iexists _; iexact H19
    isplitl [H20]; · icases H20 with ⟨%d20, H20⟩; iexists _; iexact H20
    isplitl [H21]; · icases H21 with ⟨%d21, H21⟩; iexists _; iexact H21
    isplitl [H22]; · icases H22 with ⟨%d22, H22⟩; iexists _; iexact H22
    isplitl [H23]; · icases H23 with ⟨%d23, H23⟩; iexists _; iexact H23
    isplitl [H24]; · icases H24 with ⟨%d24, H24⟩; iexists _; iexact H24
    isplitl [H25]; · icases H25 with ⟨%d25, H25⟩; iexists _; iexact H25
    icases H26 with ⟨%d26, H26⟩; iexists _; iexact H26
  isplitl [H27]; · iexact H27
  iexact H28

set_option maxHeartbeats 4000000 in
/-- The buffers returned, grouped. -/
theorem post_close (c : Dev nD) (t : Fin cfg0.N) :
    iprop(iprop(iprop((∃ d, owns (c : Thread nD τ) scM0_0 fullShare d) ∗ owns (c : Thread nD τ) scM0_1 fullShare (accS m c t.val t.isLt)) ∗ (∃ r, prngReg c r))
      ∗ (dats m 0 c).owesAt () t.castSucc ∗ held c (refs t) (blk m c t) ∗ left c (refs t) (blk m c t)
      ∗ (dats m 0 c).leavesExact 27 t ∗ owns (c : Thread nD τ) (ms0_28 t) fullShare (accG m c t.val t.isLt)) ⊢ bodyPost m c t := by
  unfold bodyPost held left
  rw [show (dats m 0 c).owesAt () t.succ = (dats m 0 c).owesAt () t.castSucc from rfl,
    show (dats m 0 c).Φ t.succ = PhiS m c (t.val + 1) t.isLt from rfl, PhiS_succ]
  dsimp only [refs, blk]
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [leaves_live m c 5 t (liveAt0_5 t), after0_5]
  rw [leaves_live m c 6 t (liveAt0_6 t), after0_6]
  rw [leaves_live m c 7 t (liveAt0_7 t), after0_7]
  rw [leaves_live m c 8 t (liveAt0_8 t), after0_8]
  rw [leaves_live m c 9 t (liveAt0_9 t), after0_9]
  rw [leaves_live m c 10 t (liveAt0_10 t), after0_10]
  rw [leaves_live m c 11 t (liveAt0_11 t), after0_11]
  rw [leaves_live m c 12 t (liveAt0_12 t), after0_12]
  rw [leaves_live m c 13 t (liveAt0_13 t), after0_13]
  rw [leaves_live m c 14 t (liveAt0_14 t), after0_14]
  rw [leaves_live m c 15 t (liveAt0_15 t), after0_15]
  rw [leaves_live m c 16 t (liveAt0_16 t), after0_16]
  rw [leaves_live m c 17 t (liveAt0_17 t), after0_17]
  rw [leaves_live m c 18 t (liveAt0_18 t), after0_18]
  rw [leaves_live m c 19 t (liveAt0_19 t), after0_19]
  rw [leaves_live m c 20 t (liveAt0_20 t), after0_20]
  rw [leaves_live m c 21 t (liveAt0_21 t), after0_21]
  rw [leaves_live m c 22 t (liveAt0_22 t), after0_22]
  rw [leaves_live m c 23 t (liveAt0_23 t), after0_23]
  rw [leaves_live m c 24 t (liveAt0_24 t), after0_24]
  rw [leaves_live m c 25 t (liveAt0_25 t), after0_25]
  rw [leaves_live m c 26 t (liveAt0_26 t), after0_26]
  rw [leaves_live m c 28 t (liveAt0_28 t), after0_28]
  dsimp only [blk]
  iintro ⟨HP, Ho, ⟨H0, H1, H2, H3, H4, H5, H6, H7, H8, H9, H10, H11, H12, H13, H14, H15, H16⟩, ⟨H17, H18, H19, H20, H21, H22, H23, H24, H25, H26⟩, H27, H28⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

set_option maxHeartbeats 4000000 in
/-- The body at any point: the first, a middle one or the last. -/
theorem sound_body (c : Dev nD) (t : Fin cfg0.N) :
    bodyPre m c t ⊢ wp frame (wpE (defs₀ (F := F)) Variants.none c none) Set.univ (bodyAt0 t) (fun _ => bodyPost m c t) := by
  refine (pre_open m c t).trans ?_
  rw [show (bodyAt0 t : Prog (TpuEff nD τ sig (Elt F) Λ₀ .tc) PUnit) = body (grid0.coords t) (refs t) from rfl]
  have hN : t.val < 32 := lt_of_lt_of_eq t.isLt (show cfg0.N = 32 from N_0)
  by_cases h0 : t.val = 0
  · have c0 := (hcond0_0 t).mpr (show t.val % 32 = 0 by omega)
    have c1 : ¬cond0_1 (grid0.coords t) := fun h => by have := (hcond0_1 t).mp h; omega
    rw [PhiS_castSucc, PhiS_zero m c _ _ h0, PhiA0_eq]
    iintro ⟨⟨⟨HS0, HS1⟩, Hg⟩, Ho, HI, HO, ⟨%d27, H27⟩, ⟨%d28, H28⟩⟩
    iapply (run_A c (grid0.coords t) (refs t) (blk m c t) _ c0 c1 Set.univ _)
    isplitl [HI]; · iexact HI
    isplitl [HO]; · iexact HO
    isplitl [H27]; · iexact H27
    isplitl [H28]; · iexists _; iexact H28
    isplitl [HS0]; · iexact HS0
    isplitl [HS1]; · iexact HS1
    iintro ⟨HI, HL, H27, H28, HS0, HS1⟩
    iapply (post_close m c t)
    rw [accG_first m c t h0, accS_first m c t h0]
    isplitl [HS0 HS1 Hg]
    · isplitl [HS0 HS1]
      · isplitl [HS0]; · iexact HS0
        iexact HS1
      iexact Hg
    isplitl [Ho]; · iexact Ho
    isplitl [HI]; · iexact HI
    isplitl [HL]; · iexact HL
    isplitl [H27]
    · rw [Dat.leavesExact_idle (dats m 0 c) 27 t (idleAt0_27_A t c0 c1) (noFlush0_27_A t c0 c1)]; iexists _; iexact H27
    iexact H28
  · have c0 : ¬cond0_0 (grid0.coords t) := fun h => by have := (hcond0_0 t).mp h; omega
    by_cases h1 : t.val = 31
    · have c1 := (hcond0_1 t).mpr (show t.val % 32 = 31 by omega)
      rw [PhiS_castSucc, PhiS_pos m c _ _ h0]
      simp only [before0_28 m c t h0]
      iintro ⟨⟨⟨HS0, HS1⟩, Hg⟩, Ho, HI, HO, ⟨%d27, H27⟩, ⟨%d28, H28⟩⟩
      iapply (run_C c (grid0.coords t) (refs t) (blk m c t) _ _ c0 c1 Set.univ _)
      isplitl [HI]; · iexact HI
      isplitl [HO]; · iexact HO
      isplitl [H27]; · iexists _; iexact H27
      isplitl [H28]; · iexact H28
      isplitl [HS0]; · iexact HS0
      isplitl [HS1]; · iexact HS1
      iintro ⟨HI, HL, H27, H28, HS0, HS1⟩
      iapply (post_close m c t)
      rw [accG_next m c t h0, accS_next m c t h0]
      isplitl [HS0 HS1 Hg]
      · isplitl [HS0 HS1]
        · isplitl [HS0]; · iexact HS0
          iexact HS1
        iexact Hg
      isplitl [Ho]; · iexact Ho
      isplitl [HI]; · iexact HI
      isplitl [HL]; · iexact HL
      isplitl [H27]
      · rw [leaves_live m c 27 t (liveAt0_27_C t c0 c1), after0_27, accS_next m c t h0]; iexact H27
      iexact H28
    · have c1 : ¬cond0_1 (grid0.coords t) := fun h => by have := (hcond0_1 t).mp h; omega
      rw [PhiS_castSucc, PhiS_pos m c _ _ h0]
      simp only [before0_28 m c t h0]
      iintro ⟨⟨⟨HS0, HS1⟩, Hg⟩, Ho, HI, HO, ⟨%d27, H27⟩, ⟨%d28, H28⟩⟩
      iapply (run_B c (grid0.coords t) (refs t) (blk m c t) _ _ _ c0 c1 Set.univ _)
      isplitl [HI]; · iexact HI
      isplitl [HO]; · iexact HO
      isplitl [H27]; · iexact H27
      isplitl [H28]; · iexact H28
      isplitl [HS0]; · iexact HS0
      isplitl [HS1]; · iexact HS1
      iintro ⟨HI, HL, H27, H28, HS0, HS1⟩
      iapply (post_close m c t)
      rw [accG_next m c t h0, accS_next m c t h0]
      isplitl [HS0 HS1 Hg]
      · isplitl [HS0 HS1]
        · isplitl [HS0]; · iexact HS0
          iexact HS1
        iexact Hg
      isplitl [Ho]; · iexact Ho
      isplitl [HI]; · iexact HI
      isplitl [HL]; · iexact HL
      isplitl [H27]
      · rw [Dat.leavesExact_idle (dats m 0 c) 27 t (idleAt0_27_B t c0 c1) (noFlush0_27_B t c0 c1)]; iexists _; iexact H27
      iexact H28

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (le_refl _) from rfl,
    PhiS_pos m c _ _ (by have : cfg0.N = 32 := N_0; omega), PhiA0_eq]
  iintro ⟨⟨HS0, HS1⟩, Hg⟩
  isplitl [HS0 HS1]
  · isplitl [HS0]
    · iexact HS0
    iexists _; iexact HS1
  iexact Hg

set_option backward.isDefEq.respectTransparency.types false in
/-- The launch: the whole program runs, every array ends at what the proof data says, and every counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (frame_of m ρ (dats m) (A_eq m) (run_main m ρ)) ((θ_run defs _ _).mono (fun _ h => h.2) (run_main_quiescent m ρ))

end Cert.Head.Run

end

end
-- ==== Proof.Head.KernelFrame.lean ====
/- The frame of the kernel at words, from the run over any element types. -/
module

public import proofs.«01_k».proof.Defs
public import proofs.«01_k».proof.Proof.Gen.Kernel3
public import proofs.«01_k».proof.Proof.Head.Frame

@[expose] public section

set_option maxRecDepth 16384

noncomputable section

open Idealize.ShloMosaic Idealize.ShloMosaic.TcCoe Idealize.SL.Sem

namespace Cert.Head

set_option maxHeartbeats 8000000 in
/-- The frame of the kernel: the run is the same at words as at extended reals. -/
theorem frame_kernel : Cert.quiescent_Kernel3 := by
  have e : Cert.Kernel3.defs (F := Bits) = Cert.Kernel3Ideal.defs (F := Bits) := by sl_kernel_rfl
  intro m ρ _
  have h := Run.frame (F := Bits) m ρ
  rw [← e] at h
  exact h

end Cert.Head

end

end
-- ==== Proof.Head.Spec.lean ====
/- What the second half of a layer and the head compute, element by element: the spatial gating unit, the merge of the two
   branches, the feed-forward block, the last norm with the loss, and the gradient of the loss. -/
module

public import proofs.«01_k».proof.Proof.Gate

@[expose] public section

set_option maxRecDepth 16384

noncomputable section

open Idealize.ShloMosaic Idealize.ShloMosaic.TcCoe Idealize.SL.Sem
open Idealize.ShloMosaic.Pipeline (Dat)

namespace Cert.Head

/-! ### The layer norm of a row -/

/-- The mean of a row. -/
def mean (v : Fin 1024 → EReal) : EReal := Ideal.div (∑ k, v k) (Ideal.ofBits .f32 0x44800000#32)

/-- The inverse root of the variance of a row. -/
def rstdv (v : Fin 1024 → EReal) : EReal :=
  Ideal.rsqrt (Ideal.div (∑ k, (v k - mean v) * (v k - mean v)) (Ideal.ofBits .f32 0x44800000#32) + Ideal.ofBits .f32 0x358637BD#32)

/-- The layer norm of a row, scaled and shifted. -/
def lnorm (v g a : Fin 1024 → EReal) (k : Fin 1024) : EReal := (v k - mean v) * rstdv v * g k + a k

/-! ### The arguments -/

variable (x : (⟨3, ![2, 4096, 1024]⟩ : Shape).Idx → EReal) (p : (⟨3, ![2, 4096, 6144]⟩ : Shape).Idx → EReal)
  (ya t : (⟨3, ![2, 4096, 1024]⟩ : Shape).Idx → EReal) (lg lb : (⟨1, ![1024]⟩ : Shape).Idx → EReal)
  (ws : (⟨3, ![8, 128, 128]⟩ : Shape).Idx → EReal) (bs : (⟨2, ![8, 128]⟩ : Shape).Idx → EReal)
  (gb : (⟨1, ![2048]⟩ : Shape).Idx → EReal) (wso wo : (⟨2, ![1024, 1024]⟩ : Shape).Idx → EReal)
  (nf : (⟨1, ![1024]⟩ : Shape).Idx → EReal) (wg wu : (⟨2, ![1024, 2816]⟩ : Shape).Idx → EReal)
  (wd : (⟨2, ![2816, 1024]⟩ : Shape).Idx → EReal) (gf : (⟨1, ![1024]⟩ : Shape).Idx → EReal)

/-! ### The spatial gating unit -/

/-- The part of the projections that is normalised. -/
def vrow (b : Fin 2) (s : Fin 4096) : Fin 1024 → EReal := fun k => p (ix3 b s ⟨3072 + k.val, by omega⟩)

/-- The normalised part. -/
def vn (b : Fin 2) (s : Fin 4096) (k : Fin 1024) : EReal := lnorm (vrow p b s) (fun k => lg (ix1 k)) (fun k => lb (ix1 k)) k

/-- The mix of the positions of a chunk of 128, with the weights of the channel's group. -/
def mixed (b : Fin 2) (s : Fin 4096) (k : Fin 1024) : EReal :=
  (∑ q : Fin 128, ws (ix3 ⟨k.val / 128, by omega⟩ ⟨s.val % 128, by omega⟩ q)
      * vn p lg lb b ⟨s.val / 128 * 128 + q.val, by omega⟩ k)
    + bs (ix2 ⟨k.val / 128, by omega⟩ ⟨s.val % 128, by omega⟩)

def gated (b : Fin 2) (s : Fin 4096) (k : Fin 1024) : EReal :=
  p (ix3 b s ⟨2048 + k.val, by omega⟩) * mixed p lg lb ws bs b s k

/-- The second branch. -/
def yb (b : Fin 2) (s : Fin 4096) (k : Fin 1024) : EReal := ∑ l : Fin 1024, gated p lg lb ws bs b s l * wso (ix2 l k)

/-! ### The merge -/

def sa (b : Fin 2) (s : Fin 4096) (k : Fin 1024) : EReal :=
  Maths.sig (p (ix3 b s ⟨4096 + k.val, by omega⟩) + gb (ix1 ⟨k.val, by omega⟩))

def sb (b : Fin 2) (s : Fin 4096) (k : Fin 1024) : EReal :=
  Maths.sig (p (ix3 b s ⟨5120 + k.val, by omega⟩) + gb (ix1 ⟨1024 + k.val, by omega⟩))

def merged (b : Fin 2) (s : Fin 4096) (k : Fin 1024) : EReal :=
  sa p gb b s k * ya (ix3 b s k) + sb p gb b s k * yb p lg lb ws bs wso b s k

def x1 (b : Fin 2) (s : Fin 4096) (k : Fin 1024) : EReal :=
  x (ix3 b s k) + ∑ l : Fin 1024, merged p ya lg lb ws bs gb wso b s l * wo (ix2 l k)

/-! ### The feed-forward block -/

def h2 (b : Fin 2) (s : Fin 4096) (k : Fin 1024) : EReal :=
  x1 x p ya lg lb ws bs gb wso wo b s k * Maths.rstd (x1 x p ya lg lb ws bs gb wso wo b s) * nf (ix1 k)

/-- The normalised row times one of the two matrices. -/
def up (w : (⟨2, ![1024, 2816]⟩ : Shape).Idx → EReal) (b : Fin 2) (s : Fin 4096) (f : Fin 2816) : EReal :=
  ∑ k : Fin 1024, h2 x p ya lg lb ws bs gb wso wo nf b s k * w (ix2 k f)

def act (b : Fin 2) (s : Fin 4096) (f : Fin 2816) : EReal :=
  up x p ya lg lb ws bs gb wso wo nf wg b s f * Maths.sig (up x p ya lg lb ws bs gb wso wo nf wg b s f)
    * up x p ya lg lb ws bs gb wso wo nf wu b s f

def x2 (b : Fin 2) (s : Fin 4096) (k : Fin 1024) : EReal :=
  x1 x p ya lg lb ws bs gb wso wo b s k + ∑ f : Fin 2816, act x p ya lg lb ws bs gb wso wo nf wg wu b s f * wd (ix2 f k)

/-! ### The loss and its gradient, from a row of the layer's output -/

/-- The normalised row. -/
def xh (r : Fin 1024 → EReal) (k : Fin 1024) : EReal := r k * Maths.rstd r

/-- What is squared: the scaled normalised row less the target. -/
def diff (r g u : Fin 1024 → EReal) (k : Fin 1024) : EReal := xh r k * g k - u k

/-- The cotangent of the scaled normalised row. -/
def dy (r g u : Fin 1024 → EReal) (k : Fin 1024) : EReal := diff r g u k * Ideal.ofBits .f32 0x3A800000#32

/-- The gradient of the row. -/
def dxRow (r g u : Fin 1024 → EReal) (k : Fin 1024) : EReal := Maths.rmsBack r (fun l => dy r g u l * g l) 0 k

/-- The rows of the layer's output, and of the target. -/
abbrev row2 (b : Fin 2) (s : Fin 4096) : Fin 1024 → EReal := x2 x p ya lg lb ws bs gb wso wo nf wg wu wd b s
abbrev trow (b : Fin 2) (s : Fin 4096) : Fin 1024 → EReal := fun k => t (ix3 b s k)
abbrev gain : Fin 1024 → EReal := fun k => gf (ix1 k)

/-- The gradient of the layer's output. -/
def dx (b : Fin 2) (s : Fin 4096) (k : Fin 1024) : EReal :=
  dxRow (row2 x p ya lg lb ws bs gb wso wo nf wg wu wd b s) (gain gf) (trow t b s) k

/-- The gradient of the last norm's weight. -/
def dgf (k : Fin 1024) : EReal := ∑ b : Fin 2, ∑ s : Fin 4096,
  dy (row2 x p ya lg lb ws bs gb wso wo nf wg wu wd b s) (gain gf) (trow t b s) k
    * xh (row2 x p ya lg lb ws bs gb wso wo nf wg wu wd b s) k

/-- A square of the loss. -/
def sq (b : Fin 2) (s : Fin 4096) (k : Fin 1024) : EReal :=
  diff (row2 x p ya lg lb ws bs gb wso wo nf wg wu wd b s) (gain gf) (trow t b s) k
    * diff (row2 x p ya lg lb ws bs gb wso wo nf wg wu wd b s) (gain gf) (trow t b s) k

/-- The loss: half the sum over the positions of the mean square. -/
def loss : EReal := (∑ k : Fin 1024, ∑ b : Fin 2, ∑ s : Fin 4096, sq x p ya t lg lb ws bs gb wso wo nf wg wu wd gf b s k)
  * Ideal.ofBits .f32 0x3A000000#32

end Cert.Head
-- ==== Proof.Head.Block.lean ====
/- The blocks that one grid point of the head loads, read from the arguments. -/
module

public import proofs.«01_k».proof.Proof.Head.Values
public import proofs.«01_k».proof.Proof.Head.Spec

@[expose] public section

set_option maxRecDepth 16384

noncomputable section

open Idealize.ShloMosaic Idealize.ShloMosaic.TcCoe Idealize.SL.Sem
open Idealize.ShloMosaic.Pipeline (Dat)

namespace Cert.Head

open Cert.Kernel3Ideal Cert.Kernel3Ideal.Gen

variable (m : (ℓ : Loc nD τ sig) → Buf (Elt Ideal) ℓ)

theorem idx : ∀ t : Fin cfg0.N, win0_0.index t = ![t.val, 1] ∧ win0_1.index t = ![t.val, 2] ∧ win0_2.index t = ![t.val, 0]
    ∧ win0_3.index t = ![t.val, 0] ∧ win0_4.index t = ![0, 0] ∧ win0_5.index t = ![0, 0] ∧ win0_6.index t = ![0, 0, 0]
    ∧ win0_7.index t = ![0, 0] ∧ win0_8.index t = ![0, 0] ∧ win0_9.index t = ![0, 1, 0] ∧ win0_10.index t = ![0, 2, 0]
    ∧ win0_11.index t = ![0, 0] ∧ win0_12.index t = ![0, 0] ∧ win0_13.index t = ![0, 0] ∧ win0_14.index t = ![0, 0]
    ∧ win0_15.index t = ![0, 0] ∧ win0_16.index t = ![t.val, 0] :=
  (by decide +kernel : ∀ t : Fin grid0.N, _)

theorem idxOut : ∀ t : Fin cfg0.N, win0_17.index t = ![t.val, 0] ∧ win0_18.index t = ![t.val, 0] ∧ win0_19.index t = ![t.val, 0]
    ∧ win0_20.index t = ![t.val, 0] ∧ win0_21.index t = ![t.val, 0] ∧ win0_22.index t = ![t.val, 0] ∧ win0_23.index t = ![t.val, 0]
    ∧ win0_24.index t = ![t.val, 0] ∧ win0_25.index t = ![t.val, 0] ∧ win0_26.index t = ![t.val, 0] ∧ win0_27.index t = ![0, 0]
    ∧ win0_28.index t = ![0, 0] :=
  (by decide +kernel : ∀ t : Fin grid0.N, _)

/-- The batch entry and the position of row `r` of block `t`. -/
def bOf (t : Fin cfg0.N) (r : Fin 256) : Fin 2 := ⟨(t.val * 256 + r.val) / 4096, by have := lt_of_lt_of_eq t.isLt N_0; omega⟩
def sOf (t : Fin cfg0.N) (r : Fin 256) : Fin 4096 := ⟨(t.val * 256 + r.val) % 4096, by omega⟩

/-! ### The arguments and their blocks -/

abbrev A0 (c : Dev nD) : FVec Ideal S2x4096x1024 .f32 := m ((c : Thread nD τ).loc main_arg0)
abbrev A1 (c : Dev nD) : FVec Ideal S2x4096x6144 .f32 := m ((c : Thread nD τ).loc main_arg1)
abbrev A2 (c : Dev nD) : FVec Ideal S2x4096x1024 .f32 := m ((c : Thread nD τ).loc main_arg2)
abbrev A3 (c : Dev nD) : FVec Ideal S2x4096x1024 .f32 := m ((c : Thread nD τ).loc main_arg3)
abbrev A4 (c : Dev nD) : FVec Ideal S1024 .f32 := m ((c : Thread nD τ).loc main_arg4)
abbrev A5 (c : Dev nD) : FVec Ideal S1024 .f32 := m ((c : Thread nD τ).loc main_arg5)
abbrev A6 (c : Dev nD) : FVec Ideal S8x128x128 .f32 := m ((c : Thread nD τ).loc main_arg6)
abbrev A7 (c : Dev nD) : FVec Ideal S8x128 .f32 := m ((c : Thread nD τ).loc main_arg7)
abbrev A8 (c : Dev nD) : FVec Ideal S2048 .f32 := m ((c : Thread nD τ).loc main_arg8)
abbrev A9 (c : Dev nD) : FVec Ideal S1024x1024 .f32 := m ((c : Thread nD τ).loc main_arg9)
abbrev A10 (c : Dev nD) : FVec Ideal S1024x1024 .f32 := m ((c : Thread nD τ).loc main_arg10)
abbrev A11 (c : Dev nD) : FVec Ideal S1024 .f32 := m ((c : Thread nD τ).loc main_arg11)
abbrev A12 (c : Dev nD) : FVec Ideal S1024x2816 .f32 := m ((c : Thread nD τ).loc main_arg12)
abbrev A13 (c : Dev nD) : FVec Ideal S1024x2816 .f32 := m ((c : Thread nD τ).loc main_arg13)
abbrev A14 (c : Dev nD) : FVec Ideal S2816x1024 .f32 := m ((c : Thread nD τ).loc main_arg14)
abbrev A15 (c : Dev nD) : FVec Ideal S1024 .f32 := m ((c : Thread nD τ).loc main_arg15)

theorem blk0 (c : Dev nD) (t : Fin cfg0.N) (r : Fin 256) (l : Fin 2048) :
    iblk m c 0 t (ix2 r l) = A1 m c (ix3 (bOf t r) (sOf t r) ⟨2048 + l.val, by omega⟩) := by
  blk_point [iblk, V, idx t, bOf, sOf]

theorem blk1 (c : Dev nD) (t : Fin cfg0.N) (r : Fin 256) (l : Fin 2048) :
    iblk m c 1 t (ix2 r l) = A1 m c (ix3 (bOf t r) (sOf t r) ⟨4096 + l.val, by omega⟩) := by
  blk_point [iblk, V, idx t, bOf, sOf]

theorem blk2 (c : Dev nD) (t : Fin cfg0.N) (r : Fin 256) (l : Fin 1024) :
    iblk m c 2 t (ix2 r l) = A2 m c (ix3 (bOf t r) (sOf t r) l) := by
  blk_point [iblk, V, idx t, bOf, sOf]

theorem blk3 (c : Dev nD) (t : Fin cfg0.N) (r : Fin 256) (l : Fin 1024) :
    iblk m c 3 t (ix2 r l) = A0 m c (ix3 (bOf t r) (sOf t r) l) := by
  blk_point [iblk, V, idx t, bOf, sOf]

theorem blk4 (c : Dev nD) (t : Fin cfg0.N) (l : Fin 1024) : iblk m c 4 t (ix2 0 l) = A4 m c (ix1 l) := by
  blk_point [iblk, V, idx t]

theorem blk5 (c : Dev nD) (t : Fin cfg0.N) (l : Fin 1024) : iblk m c 5 t (ix2 0 l) = A5 m c (ix1 l) := by
  blk_point [iblk, V, idx t]

theorem blk6 (c : Dev nD) (t : Fin cfg0.N) (g : Fin 8) (p q : Fin 128) : iblk m c 6 t (ix3 g p q) = A6 m c (ix3 g p q) := by
  blk_point [iblk, V, idx t]

theorem bias_at (c : Dev nD) (p : Fin 128) (k : Fin 1024) :
    (V m c main_v9 : FVec Ideal S128x1024 .f32) (ix2 p k) = A7 m c (ix2 ⟨k.val / 128, by omega⟩ p) := by
  entry_read
  pointwise []

theorem blk7 (c : Dev nD) (t : Fin cfg0.N) (p : Fin 128) (k : Fin 1024) :
    iblk m c 7 t (ix2 p k) = A7 m c (ix2 ⟨k.val / 128, by omega⟩ p) := by
  refine Eq.trans ?_ (bias_at m c p k)
  blk_ext [iblk, idx t]

theorem blk8 (c : Dev nD) (t : Fin cfg0.N) (l : Fin 2048) : iblk m c 8 t (ix2 0 l) = A8 m c (ix1 l) := by
  blk_point [iblk, V, idx t]

/-- The three square matrices side by side, as the host lays them. -/
theorem squares_eq (c : Dev nD) : (V m c main_v6 : FVec Ideal S4x768x1024 .bf16)
    = concatenate S4x768x1024 1 [⟨S4x256x1024, (V m c main_v1 : FVec Ideal S4x256x1024 .bf16)⟩,
        ⟨S4x256x1024, (V m c main_v3 : FVec Ideal S4x256x1024 .bf16)⟩, ⟨S4x256x1024, (V m c main_v5 : FVec Ideal S4x256x1024 .bf16)⟩]
        concatenates_S4x256x1024_S4x256x1024_S4x256x1024_S4x768x1024_d1 := by
  sl_kernel_rfl

theorem square_at (c : Dev nD) (j : Fin 4) (q : Fin 256) (k : Fin 1024) :
    (V m c main_v6 : FVec Ideal S4x768x1024 .bf16) (ix3 j ⟨256 + q.val, by omega⟩ k) = A9 m c (ix2 ⟨j.val * 256 + q.val, by omega⟩ k) := by
  have h : (V m c main_v3 : FVec Ideal S4x256x1024 .bf16) (ix3 j q k) = A9 m c (ix2 ⟨j.val * 256 + q.val, by omega⟩ k) := by
    entry_read
    pointwise []
  rw [squares_eq, ← h]
  pointwise []

theorem square'_at (c : Dev nD) (j : Fin 4) (q : Fin 256) (k : Fin 1024) :
    (V m c main_v6 : FVec Ideal S4x768x1024 .bf16) (ix3 j ⟨512 + q.val, by omega⟩ k) = A10 m c (ix2 ⟨j.val * 256 + q.val, by omega⟩ k) := by
  have h : (V m c main_v5 : FVec Ideal S4x256x1024 .bf16) (ix3 j q k) = A10 m c (ix2 ⟨j.val * 256 + q.val, by omega⟩ k) := by
    entry_read
    pointwise []
  rw [squares_eq, ← h]
  pointwise []
  rw [dif_neg (by omega), dif_neg (by omega)]
  exact congrArg (fun z : Fin 256 => (V m c main_v5 : FVec Ideal S4x256x1024 .bf16) (ix3 j z k)) (Fin.ext (by dsimp only; omega))

theorem blk9 (c : Dev nD) (t : Fin cfg0.N) (j : Fin 4) (q : Fin 256) (k : Fin 1024) :
    iblk m c 9 t (ix3 j q k) = A9 m c (ix2 ⟨j.val * 256 + q.val, by omega⟩ k) := by
  refine Eq.trans ?_ (square_at m c j q k)
  blk_ext [iblk, idx t]

theorem blk10 (c : Dev nD) (t : Fin cfg0.N) (j : Fin 4) (q : Fin 256) (k : Fin 1024) :
    iblk m c 10 t (ix3 j q k) = A10 m c (ix2 ⟨j.val * 256 + q.val, by omega⟩ k) := by
  refine Eq.trans ?_ (square'_at m c j q k)
  blk_ext [iblk, idx t]

theorem blk11 (c : Dev nD) (t : Fin cfg0.N) (l : Fin 1024) : iblk m c 11 t (ix2 0 l) = A11 m c (ix1 l) := by
  blk_point [iblk, V, idx t]

theorem blk12 (c : Dev nD) (t : Fin cfg0.N) (f : Fin 2816) (k : Fin 1024) : iblk m c 12 t (ix2 f k) = A12 m c (ix2 k f) := by
  blk_point [iblk, V, idx t]

theorem blk13 (c : Dev nD) (t : Fin cfg0.N) (f : Fin 2816) (k : Fin 1024) : iblk m c 13 t (ix2 f k) = A13 m c (ix2 k f) := by
  blk_point [iblk, V, idx t]

theorem blk14 (c : Dev nD) (t : Fin cfg0.N) (f : Fin 2816) (k : Fin 1024) : iblk m c 14 t (ix2 f k) = A14 m c (ix2 f k) := by
  blk_point [iblk, V, idx t]

theorem blk15 (c : Dev nD) (t : Fin cfg0.N) (l : Fin 1024) : iblk m c 15 t (ix2 0 l) = A15 m c (ix1 l) := by
  blk_point [iblk, V, idx t]

theorem blk16 (c : Dev nD) (t : Fin cfg0.N) (r : Fin 256) (l : Fin 1024) :
    iblk m c 16 t (ix2 r l) = A3 m c (ix3 (bOf t r) (sOf t r) l) := by
  blk_point [iblk, V, idx t, bOf, sOf]

end Cert.Head
-- ==== Proof.Head.Point.lean ====
/- What one grid point of the head computes, element by element: the norm, the mix of the positions, the second branch, the
   merge and the normalised row of the feed-forward block. -/
module

public import proofs.«01_k».proof.Proof.Head.Block
public import proofs.«01_k».proof.Proof.Head.Points

@[expose] public section

set_option maxRecDepth 16384

noncomputable section

open Idealize.ShloMosaic Idealize.ShloMosaic.TcCoe Idealize.SL.Sem
open Idealize.ShloMosaic.Pipeline (Dat)

namespace Cert.Head

open Cert.Kernel3Ideal Cert.Kernel3Ideal.Gen Cert.Head.Run

variable (m : (ℓ : Loc nD τ sig) → Buf (Elt Ideal) ℓ)

/-- Two places of a table with the same coordinates. -/
theorem at2 {α : Type} {n k : Nat} (f : (⟨_, ![n, k]⟩ : Shape).Idx → α) {i i' : Fin n} {j j' : Fin k} (hi : i.val = i'.val) (hj : j.val = j'.val) :
    f (ix2 i j) = f (ix2 i' j') := by rw [Fin.ext hi, Fin.ext hj]

theorem at3 {α : Type} {n k l : Nat} (f : (⟨_, ![n, k, l]⟩ : Shape).Idx → α) {i i' : Fin n} {j j' : Fin k} (x : Fin l) (hi : i.val = i'.val) (hj : j.val = j'.val) :
    f (ix3 i j x) = f (ix3 i' j' x) := by rw [Fin.ext hi, Fin.ext hj]

/-! ### Parts of blocks -/

theorem half_at (b : Vec Ideal S256x2048 .bf16) (o : Nat) (h) (ho : o + 1024 ≤ 2048) (r : Fin 256) (l : Fin 1024) :
    (View.ld b (Rect.unit (s := S256x2048) ![0, o] S256x1024.size h) : Vec Ideal S256x1024 .bf16) (ix2 r l) = b (ix2 r ⟨o + l.val, by omega⟩) := by
  refine congrArg b ?_
  idx_ext

theorem bias_half_at (b : Vec Ideal S1x2048 .f32) (o : Nat) (h) (ho : o + 1024 ≤ 2048) (l : Fin 1024) :
    (View.ld b (Rect.unit (s := S1x2048) ![0, o] S1x1024.size h) : Vec Ideal S1x1024 .f32) (ix2 0 l) = b (ix2 0 ⟨o + l.val, by omega⟩) := by
  refine congrArg b ?_
  idx_ext

theorem group_at (b : Vec Ideal S8x128x128 .bf16) (g : Nat) (h) (hg : g < 8) (p q : Fin 128) :
    (View.ld b (Rect.unit (s := S8x128x128) ![g, 0, 0] S1x128x128.size h) : Vec Ideal S1x128x128 .bf16) (ix3 0 p q) = b (ix3 ⟨g, hg⟩ p q) := by
  refine congrArg b ?_
  idx_ext

theorem spatial_bias_at (b : Vec Ideal S128x1024 .f32) (o : Nat) (h) (ho : o + 128 ≤ 1024) (p q : Fin 128) :
    (View.ld b (Rect.unit (s := S128x1024) ![0, o] S128x128.size h) : Vec Ideal S128x128 .f32) (ix2 p q) = b (ix2 p ⟨o + q.val, by omega⟩) := by
  refine congrArg b ?_
  idx_ext

/-! ### The norm -/

theorem norm_pay (a : Vec Ideal S256x1024 .bf16) (g b : Vec Ideal S1x1024 .f32) (r : Fin 256) (k : Fin 1024) :
    k0_pay4 (F := Ideal) a g b (ix2 r k) = lnorm (fun l => a (ix2 r l)) (fun l => g (ix2 0 l)) (fun l => b (ix2 0 l)) k := by
  pointwise [k0_pay4, lnorm, rstdv, mean]

theorem v2_at (c : Dev nD) (t : Fin cfg0.N) (r : Fin 256) (k : Fin 1024) :
    v2 (blk m c t) (ix2 r k) = A1 m c (ix3 (bOf t r) (sOf t r) ⟨2048 + k.val, by omega⟩) := by
  have h : ∀ a : Vec Ideal S256x1024 .bf16, k0_pay3 (F := Ideal) a (ix2 r k) = a (ix2 r k) := fun a => by pointwise [k0_pay3]
  unfold v2
  rw [h, half_at _ _ _ (by omega)]
  refine (blk0 m c t r _).trans ?_
  exact congrArg (fun z : Fin 6144 => A1 m c (ix3 (bOf t r) (sOf t r) z)) (Fin.ext (by dsimp only; omega))

theorem v30_at (c : Dev nD) (t : Fin cfg0.N) (r : Fin 256) (k : Fin 1024) :
    v30 (blk m c t) (ix2 r k) = vn (A1 m c) (A4 m c) (A5 m c) (bOf t r) (sOf t r) k := by
  unfold v30 vn vrow
  rw [norm_pay]
  refine congr (congr (congr (congrArg lnorm (funext fun l => ?_)) (funext fun l => blk4 m c t l)) (funext fun l => blk5 m c t l)) rfl
  refine (half_at _ 1024 _ (by omega) r l).trans ((blk0 m c t r _).trans ?_)
  exact congrArg (fun z : Fin 6144 => A1 m c (ix3 (bOf t r) (sOf t r) z)) (Fin.ext (by dsimp only; omega))

/-! ### The mix of the positions -/

/-- The rows of one group, both chunks of the block side by side. -/
def sides (v : FVec Ideal S256x1024 .bf16) (o : Nat) (h0 : S256x1024.Slices ![0, o] S128x128)
    (h1 : S256x1024.Slices ![128, o] S128x128) : FVec Ideal S128x256 .bf16 :=
  concatenate S128x256 1 [⟨S128x128, extractStridedSlice S128x128 ![0, o] v h0⟩, ⟨S128x128, extractStridedSlice S128x128 ![128, o] v h1⟩]
    concatenates_S128x128_S128x128_S128x256_d1

/-- The products of one group, for both chunks. -/
def both (v : FVec Ideal S256x1024 .bf16) (w : FVec Ideal S1x128x128 .bf16) (o : Nat) (h0 : S256x1024.Slices ![0, o] S128x128)
    (h1 : S256x1024.Slices ![128, o] S128x128) : FVec Ideal S128x256 .f32 :=
  k0_pay14 (F := Ideal) (sides v o h0 h1) w

/-- One chunk of the products, and the bias. -/
def chunk (p : FVec Ideal S128x256 .f32) (b : Vec Ideal S128x128 .f32) (a : Nat) (h : S128x256.Slices ![0, a] S128x128) : FVec Ideal S128x128 .f32 :=
  k0_pay8 (F := Ideal) (extractStridedSlice S128x128 ![0, a] p h) (k0_pay7 (F := Ideal) b)

theorem sides_lo (v : FVec Ideal S256x1024 .bf16) (o : Nat) (h0 h1) (ho : o + 128 ≤ 1024) (j p : Fin 128) :
    sides v o h0 h1 (ix2 j ⟨p.val, by omega⟩) = v (ix2 ⟨j.val, by omega⟩ ⟨o + p.val, by omega⟩) := by
  pointwise [sides]

theorem sides_hi (v : FVec Ideal S256x1024 .bf16) (o : Nat) (h0 h1) (ho : o + 128 ≤ 1024) (j p : Fin 128) :
    sides v o h0 h1 (ix2 j ⟨128 + p.val, by omega⟩) = v (ix2 ⟨128 + j.val, by omega⟩ ⟨o + p.val, by omega⟩) := by
  pointwise [sides]

theorem both_at (v : FVec Ideal S256x1024 .bf16) (w : FVec Ideal S1x128x128 .bf16) (o : Nat) (h0 h1) (q : Fin 128) (p : Fin 256) :
    both v w o h0 h1 (ix2 q p) = ∑ j : Fin 128, w (ix3 0 q j) * sides v o h0 h1 (ix2 j p) := by
  unfold both
  generalize sides v o h0 h1 = u
  pointwise [k0_pay14]

theorem chunk_at (p : FVec Ideal S128x256 .f32) (b : Vec Ideal S128x128 .f32) (a : Nat) (h) (ha : a + 128 ≤ 256) (q l : Fin 128) :
    chunk p b a h (ix2 q l) = p (ix2 q ⟨a + l.val, by omega⟩) + b (ix2 q l) := by
  pointwise [chunk, k0_pay8, k0_pay7]

/-- The mix of one row of a block: the group's weights times the rows of its chunk, and the bias. -/
def mixAt (X : Ins Ideal) (r : Fin 256) (k : Fin 1024) : EReal :=
  (∑ j : Fin 128, X.x6 (ix3 ⟨k.val / 128, by omega⟩ ⟨r.val % 128, by omega⟩ j) * v30 X (ix2 ⟨r.val / 128 * 128 + j.val, by omega⟩ k))
    + X.x7 (ix2 ⟨r.val % 128, by omega⟩ k)

/-- One tile of the mix. -/
def tile (X : Ins Ideal) (g o a : Nat) (hg : ∀ i, ![g, 0, 0] i + S1x128x128.size i ≤ S8x128x128.size i)
    (hb : ∀ i, ![0, o] i + S128x128.size i ≤ S128x1024.size i) (h0 : S256x1024.Slices ![0, o] S128x128)
    (h1 : S256x1024.Slices ![128, o] S128x128) (ha : S128x256.Slices ![0, a] S128x128) : FVec Ideal S128x128 .f32 :=
  chunk (both (v30 X) (View.ld X.x6 (Rect.unit (s := S8x128x128) ![g, 0, 0] S1x128x128.size hg)) o h0 h1)
    (View.ld X.x7 (Rect.unit (s := S128x1024) ![0, o] S128x128.size hb)) a ha

theorem tile_lo (X : Ins Ideal) (g o : Nat) (hg hb h0 h1 ha) (hg8 : g < 8) (ho : o = g * 128) (x : S128x128.Idx) (y : S256x1024.Idx)
    (e0 : (y 0).val = (x 0).val) (e1 : (y 1).val = o + (x 1).val) : tile X g o 0 hg hb h0 h1 ha x = mixAt X (y 0) (y 1) := by
  idx_vars x
  have hl : x1.val < 128 := x1.isLt
  have hq : x0.val < 128 := x0.isLt
  unfold tile mixAt
  rw [chunk_at _ _ _ _ (by omega), both_at]
  refine congrArg₂ _ (Finset.sum_congr rfl fun j _ => congrArg₂ _ ?_ ?_) ?_
  · refine (group_at _ _ _ hg8 _ _).trans ?_
    exact at3 X.x6 j (by dsimp only at *; omega) (by dsimp only at *; omega)
  · have e : (⟨0 + x1.val, by omega⟩ : Fin 256) = ⟨x1.val, by omega⟩ := Fin.ext (by dsimp only; omega)
    rw [e]
    refine (sides_lo _ _ _ _ (by omega) j x1).trans ?_
    exact at2 (v30 X) (by dsimp only at *; omega) (by dsimp only at *; omega)
  · refine (spatial_bias_at _ _ _ (by omega) _ _).trans ?_
    exact at2 X.x7 (by dsimp only at *; omega) (by dsimp only at *; omega)

theorem tile_hi (X : Ins Ideal) (g o : Nat) (hg hb h0 h1 ha) (hg8 : g < 8) (ho : o = g * 128) (x : S128x128.Idx) (y : S256x1024.Idx)
    (e0 : (y 0).val = 128 + (x 0).val) (e1 : (y 1).val = o + (x 1).val) : tile X g o 128 hg hb h0 h1 ha x = mixAt X (y 0) (y 1) := by
  idx_vars x
  have hl : x1.val < 128 := x1.isLt
  have hq : x0.val < 128 := x0.isLt
  unfold tile mixAt
  rw [chunk_at _ _ _ _ (by omega), both_at]
  refine congrArg₂ _ (Finset.sum_congr rfl fun j _ => congrArg₂ _ ?_ ?_) ?_
  · refine (group_at _ _ _ hg8 _ _).trans ?_
    exact at3 X.x6 j (by dsimp only at *; omega) (by dsimp only at *; omega)
  · refine (sides_hi _ _ _ _ (by omega) j x1).trans ?_
    exact at2 (v30 X) (by dsimp only at *; omega) (by dsimp only at *; omega)
  · refine (spatial_bias_at _ _ _ (by omega) _ _).trans ?_
    exact at2 X.x7 (by dsimp only at *; omega) (by dsimp only at *; omega)

/-- The tiles of the mix, the last stored first. -/
theorem tiles_eq (X : Ins Ideal) : mixTiles X =
  [⟨Rect.unit (s := S256x1024) ![128, 896] S128x128.size inb_S256x1024_S128x128_128_896, tile X 7 896 128 inb_S8x128x128_S1x128x128_7_0_0 inb_S128x1024_S128x128_0_896 slices_S256x1024_o0_896_S128x128 slices_S256x1024_o128_896_S128x128 slices_S128x256_o0_128_S128x128⟩,
   ⟨Rect.unit (s := S256x1024) ![0, 896] S128x128.size inb_S256x1024_S128x128_0_896, tile X 7 896 0 inb_S8x128x128_S1x128x128_7_0_0 inb_S128x1024_S128x128_0_896 slices_S256x1024_o0_896_S128x128 slices_S256x1024_o128_896_S128x128 slices_S128x256_o0_0_S128x128⟩,
   ⟨Rect.unit (s := S256x1024) ![128, 768] S128x128.size inb_S256x1024_S128x128_128_768, tile X 6 768 128 inb_S8x128x128_S1x128x128_6_0_0 inb_S128x1024_S128x128_0_768 slices_S256x1024_o0_768_S128x128 slices_S256x1024_o128_768_S128x128 slices_S128x256_o0_128_S128x128⟩,
   ⟨Rect.unit (s := S256x1024) ![0, 768] S128x128.size inb_S256x1024_S128x128_0_768, tile X 6 768 0 inb_S8x128x128_S1x128x128_6_0_0 inb_S128x1024_S128x128_0_768 slices_S256x1024_o0_768_S128x128 slices_S256x1024_o128_768_S128x128 slices_S128x256_o0_0_S128x128⟩,
   ⟨Rect.unit (s := S256x1024) ![128, 640] S128x128.size inb_S256x1024_S128x128_128_640, tile X 5 640 128 inb_S8x128x128_S1x128x128_5_0_0 inb_S128x1024_S128x128_0_640 slices_S256x1024_o0_640_S128x128 slices_S256x1024_o128_640_S128x128 slices_S128x256_o0_128_S128x128⟩,
   ⟨Rect.unit (s := S256x1024) ![0, 640] S128x128.size inb_S256x1024_S128x128_0_640, tile X 5 640 0 inb_S8x128x128_S1x128x128_5_0_0 inb_S128x1024_S128x128_0_640 slices_S256x1024_o0_640_S128x128 slices_S256x1024_o128_640_S128x128 slices_S128x256_o0_0_S128x128⟩,
   ⟨Rect.unit (s := S256x1024) ![128, 512] S128x128.size inb_S256x1024_S128x128_128_512, tile X 4 512 128 inb_S8x128x128_S1x128x128_4_0_0 inb_S128x1024_S128x128_0_512 slices_S256x1024_o0_512_S128x128 slices_S256x1024_o128_512_S128x128 slices_S128x256_o0_128_S128x128⟩,
   ⟨Rect.unit (s := S256x1024) ![0, 512] S128x128.size inb_S256x1024_S128x128_0_512, tile X 4 512 0 inb_S8x128x128_S1x128x128_4_0_0 inb_S128x1024_S128x128_0_512 slices_S256x1024_o0_512_S128x128 slices_S256x1024_o128_512_S128x128 slices_S128x256_o0_0_S128x128⟩,
   ⟨Rect.unit (s := S256x1024) ![128, 384] S128x128.size inb_S256x1024_S128x128_128_384, tile X 3 384 128 inb_S8x128x128_S1x128x128_3_0_0 inb_S128x1024_S128x128_0_384 slices_S256x1024_o0_384_S128x128 slices_S256x1024_o128_384_S128x128 slices_S128x256_o0_128_S128x128⟩,
   ⟨Rect.unit (s := S256x1024) ![0, 384] S128x128.size inb_S256x1024_S128x128_0_384, tile X 3 384 0 inb_S8x128x128_S1x128x128_3_0_0 inb_S128x1024_S128x128_0_384 slices_S256x1024_o0_384_S128x128 slices_S256x1024_o128_384_S128x128 slices_S128x256_o0_0_S128x128⟩,
   ⟨Rect.unit (s := S256x1024) ![128, 256] S128x128.size inb_S256x1024_S128x128_128_256, tile X 2 256 128 inb_S8x128x128_S1x128x128_2_0_0 inb_S128x1024_S128x128_0_256 slices_S256x1024_o0_256_S128x128 slices_S256x1024_o128_256_S128x128 slices_S128x256_o0_128_S128x128⟩,
   ⟨Rect.unit (s := S256x1024) ![0, 256] S128x128.size inb_S256x1024_S128x128_0_256, tile X 2 256 0 inb_S8x128x128_S1x128x128_2_0_0 inb_S128x1024_S128x128_0_256 slices_S256x1024_o0_256_S128x128 slices_S256x1024_o128_256_S128x128 slices_S128x256_o0_0_S128x128⟩,
   ⟨Rect.unit (s := S256x1024) ![128, 128] S128x128.size inb_S256x1024_S128x128_128_128, tile X 1 128 128 inb_S8x128x128_S1x128x128_1_0_0 inb_S128x1024_S128x128_0_128 slices_S256x1024_o0_128_S128x128 slices_S256x1024_o128_128_S128x128 slices_S128x256_o0_128_S128x128⟩,
   ⟨Rect.unit (s := S256x1024) ![0, 128] S128x128.size inb_S256x1024_S128x128_0_128, tile X 1 128 0 inb_S8x128x128_S1x128x128_1_0_0 inb_S128x1024_S128x128_0_128 slices_S256x1024_o0_128_S128x128 slices_S256x1024_o128_128_S128x128 slices_S128x256_o0_0_S128x128⟩,
   ⟨Rect.unit (s := S256x1024) ![128, 0] S128x128.size inb_S256x1024_S128x128_128_0, tile X 0 0 128 inb_S8x128x128_S1x128x128_0_0_0 inb_S128x1024_S128x128_0_0 slices_S256x1024_o0_0_S128x128 slices_S256x1024_o128_0_S128x128 slices_S128x256_o0_128_S128x128⟩,
   ⟨Rect.unit (s := S256x1024) ![0, 0] S128x128.size inb_S256x1024_S128x128_0_0, tile X 0 0 0 inb_S8x128x128_S1x128x128_0_0_0 inb_S128x1024_S128x128_0_0 slices_S256x1024_o0_0_S128x128 slices_S256x1024_o128_0_S128x128 slices_S128x256_o0_0_S128x128⟩] := by
  sl_kernel_rfl

theorem mix_at (X : Ins Ideal) (y : S256x1024.Idx) : mix X y = mixAt X (y 0) (y 1) := by
  unfold mix
  rw [tiles_eq]
  canon_tiles x h
  · exact tile_hi X 7 896 _ _ _ _ _ (by decide) rfl x y (by omega) (by omega)
  · exact tile_lo X 7 896 _ _ _ _ _ (by decide) rfl x y (by omega) (by omega)
  · exact tile_hi X 6 768 _ _ _ _ _ (by decide) rfl x y (by omega) (by omega)
  · exact tile_lo X 6 768 _ _ _ _ _ (by decide) rfl x y (by omega) (by omega)
  · exact tile_hi X 5 640 _ _ _ _ _ (by decide) rfl x y (by omega) (by omega)
  · exact tile_lo X 5 640 _ _ _ _ _ (by decide) rfl x y (by omega) (by omega)
  · exact tile_hi X 4 512 _ _ _ _ _ (by decide) rfl x y (by omega) (by omega)
  · exact tile_lo X 4 512 _ _ _ _ _ (by decide) rfl x y (by omega) (by omega)
  · exact tile_hi X 3 384 _ _ _ _ _ (by decide) rfl x y (by omega) (by omega)
  · exact tile_lo X 3 384 _ _ _ _ _ (by decide) rfl x y (by omega) (by omega)
  · exact tile_hi X 2 256 _ _ _ _ _ (by decide) rfl x y (by omega) (by omega)
  · exact tile_lo X 2 256 _ _ _ _ _ (by decide) rfl x y (by omega) (by omega)
  · exact tile_hi X 1 128 _ _ _ _ _ (by decide) rfl x y (by omega) (by omega)
  · exact tile_lo X 1 128 _ _ _ _ _ (by decide) rfl x y (by omega) (by omega)
  · exact tile_hi X 0 0 _ _ _ _ _ (by decide) rfl x y (by omega) (by omega)
  · exact tile_lo X 0 0 _ _ _ _ _ (by decide) rfl x y (by omega) (by omega)

end Cert.Head
-- ==== Proof.Head.Feed.lean ====
/- What one grid point of the head computes, element by element: the second branch, the merge, the feed-forward block and the
   gradient of the loss. -/
module

public import proofs.«01_k».proof.Proof.Head.Point
public import proofs.«01_k».proof.Proof.Shared

@[expose] public section

set_option maxRecDepth 16384

noncomputable section

open Idealize.ShloMosaic Idealize.ShloMosaic.TcCoe Idealize.SL.Sem
open Idealize.ShloMosaic.Pipeline (Dat)

namespace Cert.Head

open Cert.Kernel3Ideal Cert.Kernel3Ideal.Gen Cert.Head.Run

variable (m : (ℓ : Loc nD τ sig) → Buf (Elt Ideal) ℓ)

/-! ### The second branch -/

theorem mixed_at (c : Dev nD) (t : Fin cfg0.N) (r : Fin 256) (k : Fin 1024) :
    mix (blk m c t) (ix2 r k) = mixed (A1 m c) (A4 m c) (A5 m c) (A6 m c) (A7 m c) (bOf t r) (sOf t r) k := by
  refine (mix_at _ _).trans ?_
  unfold mixAt mixed
  refine congrArg₂ _ (Finset.sum_congr rfl fun j _ => congrArg₂ _ ?_ ?_) ?_
  · refine (blk6 m c t _ _ _).trans (at3 (A6 m c) j rfl ?_)
    dsimp only [sOf]; change r.val % 128 = _; omega
  · refine (v30_at m c t _ _).trans ?_
    have hb : bOf t ⟨r.val / 128 * 128 + j.val, by omega⟩ = bOf t r := Fin.ext (by dsimp only [bOf]; omega)
    have hs : sOf t ⟨r.val / 128 * 128 + j.val, by omega⟩ = ⟨(sOf t r).val / 128 * 128 + j.val, by have := (sOf t r).isLt; omega⟩ :=
      Fin.ext (by dsimp only [sOf]; omega)
    rw [← hb, ← hs]
    rfl
  · refine (blk7 m c t _ _).trans (at2 (A7 m c) rfl ?_)
    dsimp only [sOf]; change r.val % 128 = _; omega

theorem gated_pay (a b : Vec Ideal S256x1024 .f32) (r : Fin 256) (k : Fin 1024) :
    k0_pay35 (F := Ideal) a b (ix2 r k) = a (ix2 r k) * b (ix2 r k) := by
  pointwise [k0_pay35]

theorem gated_at (c : Dev nD) (t : Fin cfg0.N) (r : Fin 256) (k : Fin 1024) :
    k0_pay35 (F := Ideal) (v2 (blk m c t)) (mix (blk m c t)) (ix2 r k) = gated (A1 m c) (A4 m c) (A5 m c) (A6 m c) (A7 m c) (bOf t r) (sOf t r) k := by
  rw [gated_pay, v2_at, mixed_at]
  rfl

theorem branch_pay (a b : Vec Ideal S256x1024 .f32) (w : Vec Ideal S4x256x1024 .bf16) (r : Fin 256) (k : Fin 1024) :
    k0_pay36 (F := Ideal) a b w (ix2 r k)
      = ∑ l : Fin 1024, k0_pay35 (F := Ideal) a b (ix2 r l) * w (ix3 ⟨l.val / 256, by omega⟩ ⟨l.val % 256, by omega⟩ k) := by
  unfold k0_pay36
  generalize k0_pay35 (F := Ideal) a b = u
  pointwise []

theorem yb_at (c : Dev nD) (t : Fin cfg0.N) (r : Fin 256) (k : Fin 1024) :
    v200 (blk m c t) (ix2 r k) = yb (A1 m c) (A4 m c) (A5 m c) (A6 m c) (A7 m c) (A9 m c) (bOf t r) (sOf t r) k := by
  unfold v200 yb
  rw [branch_pay]
  refine Finset.sum_congr rfl fun l _ => congrArg₂ _ (gated_at m c t r l) ?_
  refine (blk9 m c t _ _ _).trans (at2 (A9 m c) ?_ rfl)
  dsimp only; omega

/-! ### The merge -/

theorem exp_pay (a : Vec Ideal S256x1024 .bf16) (g : Vec Ideal S1x1024 .f32) (r : Fin 256) (k : Fin 1024) :
    k0_pay38 (F := Ideal) a g (ix2 r k) = Ideal.exp (Ideal.ofBits .f32 0#32 - (a (ix2 r k) + g (ix2 0 k))) := by
  pointwise [k0_pay38]

theorem merged_pay (y e : FVec Ideal S256x1024 .f32) (a : Vec Ideal S256x1024 .bf16) (g : Vec Ideal S1x1024 .f32) (ya : Vec Ideal S256x1024 .bf16)
    (r : Fin 256) (k : Fin 1024) :
    k0_pay39 (F := Ideal) y e (Scalar.ofBits .f32 0x3F800000#32) a g ya (ix2 r k)
      = Ideal.div (Ideal.ofBits .f32 0x3F800000#32) (Ideal.ofBits .f32 0x3F800000#32 + e (ix2 r k)) * ya (ix2 r k)
        + Maths.sig (a (ix2 r k) + g (ix2 0 k)) * y (ix2 r k) := by
  rw [← Maths.sig_lit]
  pointwise [k0_pay39]

theorem merged_at (c : Dev nD) (t : Fin cfg0.N) (r : Fin 256) (k : Fin 1024) :
    mergedBlk (blk m c t) (ix2 r k) = merged (A1 m c) (A2 m c) (A4 m c) (A5 m c) (A6 m c) (A7 m c) (A8 m c) (A9 m c) (bOf t r) (sOf t r) k := by
  unfold mergedBlk
  rw [merged_pay, yb_at]
  unfold v212
  rw [exp_pay, Maths.sig_lit]
  refine congrArg₂ _ (congrArg₂ _ (congrArg Maths.sig (congrArg₂ _ ?_ ?_)) (blk2 m c t r k)) (congrArg₂ _ (congrArg Maths.sig (congrArg₂ _ ?_ ?_)) rfl)
  · refine (half_at _ 0 _ (by omega) r k).trans ((blk1 m c t r _).trans ?_)
    exact congrArg (fun z : Fin 6144 => A1 m c (ix3 (bOf t r) (sOf t r) z)) (Fin.ext (by dsimp only; omega))
  · refine (bias_half_at _ 0 _ (by omega) k).trans ((blk8 m c t _).trans ?_)
    exact congrArg (fun z : Fin 2048 => A8 m c (ix1 z)) (Fin.ext (by dsimp only; omega))
  · refine (half_at _ 1024 _ (by omega) r k).trans ((blk1 m c t r _).trans ?_)
    exact congrArg (fun z : Fin 6144 => A1 m c (ix3 (bOf t r) (sOf t r) z)) (Fin.ext (by dsimp only; omega))
  · refine (bias_half_at _ 1024 _ (by omega) k).trans ((blk8 m c t _).trans ?_)
    exact congrArg (fun z : Fin 2048 => A8 m c (ix1 z)) (Fin.ext (by dsimp only))

theorem x1_pay (y e : FVec Ideal S256x1024 .f32) (o : EReal) (a : Vec Ideal S256x1024 .bf16) (g : Vec Ideal S1x1024 .f32) (ya : Vec Ideal S256x1024 .bf16)
    (x : Vec Ideal S256x1024 .f32) (w : Vec Ideal S4x256x1024 .bf16) (r : Fin 256) (k : Fin 1024) :
    k0_pay40 (F := Ideal) y e o a g ya x w (ix2 r k)
      = x (ix2 r k) + ∑ l : Fin 1024, k0_pay39 (F := Ideal) y e o a g ya (ix2 r l) * w (ix3 ⟨l.val / 256, by omega⟩ ⟨l.val % 256, by omega⟩ k) := by
  unfold k0_pay40
  generalize k0_pay39 (F := Ideal) y e o a g ya = u
  pointwise []

theorem x1_at (c : Dev nD) (t : Fin cfg0.N) (r : Fin 256) (k : Fin 1024) :
    v245 (blk m c t) (ix2 r k) = x1 (A0 m c) (A1 m c) (A2 m c) (A4 m c) (A5 m c) (A6 m c) (A7 m c) (A8 m c) (A9 m c) (A10 m c) (bOf t r) (sOf t r) k := by
  unfold v245 x1
  rw [x1_pay]
  refine congrArg₂ _ (blk3 m c t r k) (Finset.sum_congr rfl fun l _ => congrArg₂ _ (merged_at m c t r l) ?_)
  refine (blk10 m c t _ _ _).trans (at2 (A10 m c) ?_ rfl)
  dsimp only; omega

/-! ### The feed-forward block -/

theorem squares_pay (y e : FVec Ideal S256x1024 .f32) (o : EReal) (a : Vec Ideal S256x1024 .bf16) (g : Vec Ideal S1x1024 .f32) (ya : Vec Ideal S256x1024 .bf16)
    (x : Vec Ideal S256x1024 .f32) (w : Vec Ideal S4x256x1024 .bf16) (r : Fin 256) :
    k0_pay41 (F := Ideal) y e o a g ya x w (ix2 r 0)
      = ∑ k : Fin 1024, k0_pay40 (F := Ideal) y e o a g ya x w (ix2 r k) * k0_pay40 (F := Ideal) y e o a g ya x w (ix2 r k) := by
  unfold k0_pay41
  generalize k0_pay40 (F := Ideal) y e o a g ya x w = u
  pointwise []

theorem h2_pay (u : FVec Ideal S256x1024 .f32) (s : FVec Ideal S256x1 .f32) (g : Vec Ideal S1x1024 .f32) (r : Fin 256) (k : Fin 1024) :
    k0_pay42 (F := Ideal) u s g (ix2 r k)
      = u (ix2 r k) * Ideal.rsqrt (Ideal.div (s (ix2 r 0)) (Ideal.ofBits .f32 0x44800000#32) + Ideal.ofBits .f32 0x358637BD#32) * g (ix2 0 k) := by
  pointwise [k0_pay42]

theorem h2_at (c : Dev nD) (t : Fin cfg0.N) (r : Fin 256) (k : Fin 1024) :
    v261 (blk m c t) (ix2 r k) = h2 (A0 m c) (A1 m c) (A2 m c) (A4 m c) (A5 m c) (A6 m c) (A7 m c) (A8 m c) (A9 m c) (A10 m c) (A11 m c) (bOf t r) (sOf t r) k := by
  unfold v261 h2 Maths.rstd
  rw [h2_pay]
  refine congrArg₂ _ (congrArg₂ _ (x1_at m c t r k) (congrArg Ideal.rsqrt (congrArg (· + _) (congrArg (Ideal.div · _) ?_)))) (blk11 m c t k)
  refine (squares_pay _ _ _ _ _ _ _ _ r).trans (Finset.sum_congr rfl fun l _ => ?_)
  exact congrArg₂ _ (x1_at m c t r l) (x1_at m c t r l)

/-- Rows of a weight of the block, from row `o`. -/
def rows (w : FVec Ideal S2816x1024 .bf16) (o : Nat) (h : ∀ a, ![o, 0] a + S512x1024.size a ≤ S2816x1024.size a) : Vec Ideal S512x1024 .bf16 :=
  View.ld w (Rect.unit (s := S2816x1024) ![o, 0] S512x1024.size h)

/-- The last rows of a weight of the block. -/
def lastRows (w : FVec Ideal S2816x1024 .bf16) : Vec Ideal S256x1024 .bf16 :=
  View.ld w (Rect.unit (s := S2816x1024) ![2560, 0] S256x1024.size inb_S2816x1024_S256x1024_2560_0)

theorem rows_at (w : FVec Ideal S2816x1024 .bf16) (o : Nat) (h) (ho : o + 512 ≤ 2816) (l : Fin 512) (k : Fin 1024) :
    rows w o h (ix2 l k) = w (ix2 ⟨o + l.val, by omega⟩ k) := by
  refine congrArg w ?_
  idx_ext

theorem lastRows_at (w : FVec Ideal S2816x1024 .bf16) (l : Fin 256) (k : Fin 1024) :
    lastRows w (ix2 l k) = w (ix2 ⟨2560 + l.val, by omega⟩ k) := by
  refine congrArg w ?_
  idx_ext

theorem up_pay (h : FVec Ideal S256x1024 .bf16) (w : Vec Ideal S512x1024 .bf16) (r : Fin 256) (l : Fin 512) :
    k0_pay53 (F := Ideal) h w (ix2 r l) = ∑ k : Fin 1024, h (ix2 r k) * w (ix2 l k) := by
  pointwise [k0_pay53]

theorem lastUp_pay (h : FVec Ideal S256x1024 .bf16) (w : Vec Ideal S256x1024 .bf16) (r l : Fin 256) :
    k0_pay71 (F := Ideal) h w (ix2 r l) = ∑ k : Fin 1024, h (ix2 r k) * w (ix2 l k) := by
  pointwise [k0_pay71]

theorem act_pay (a b : FVec Ideal S256x512 .f32) (r : Fin 256) (l : Fin 512) :
    k0_pay57 (F := Ideal) a b (ix2 r l) = a (ix2 r l) * Maths.sig (a (ix2 r l)) * b (ix2 r l) := by
  rw [← Maths.sig_lit]
  pointwise [k0_pay57]

theorem lastAct_pay (a b : FVec Ideal S256x256 .f32) (r l : Fin 256) :
    k0_pay79 (F := Ideal) a b (ix2 r l) = a (ix2 r l) * Maths.sig (a (ix2 r l)) * b (ix2 r l) := by
  rw [← Maths.sig_lit]
  pointwise [k0_pay79]

/-- A group of columns of the normalised row times a weight. -/
def upT (X : Ins Ideal) (w : FVec Ideal S2816x1024 .bf16) (o : Nat) (h : ∀ a, ![o, 0] a + S512x1024.size a ≤ S2816x1024.size a) : FVec Ideal S256x512 .f32 := k0_pay53 (F := Ideal) (v261 X) (rows w o h)
def lastUpT (X : Ins Ideal) (w : FVec Ideal S2816x1024 .bf16) : FVec Ideal S256x256 .f32 := k0_pay71 (F := Ideal) (v261 X) (lastRows w)

/-- A group of columns of the activation. -/
def actT (X : Ins Ideal) (o : Nat) (h : ∀ a, ![o, 0] a + S512x1024.size a ≤ S2816x1024.size a) : FVec Ideal S256x512 .bf16 := k0_pay57 (F := Ideal) (upT X X.x12 o h) (upT X X.x13 o h)
def lastActT (X : Ins Ideal) : FVec Ideal S256x256 .bf16 := k0_pay79 (F := Ideal) (lastUpT X X.x12) (lastUpT X X.x13)

theorem gate_at (c : Dev nD) (t : Fin cfg0.N) (o : Nat) (h) (ho : o + 512 ≤ 2816) (r : Fin 256) (l : Fin 512) :
    upT (blk m c t) (blk m c t).x12 o h (ix2 r l) = up (A0 m c) (A1 m c) (A2 m c) (A4 m c) (A5 m c) (A6 m c) (A7 m c) (A8 m c) (A9 m c) (A10 m c) (A11 m c) (A12 m c) (bOf t r) (sOf t r) ⟨o + l.val, by omega⟩ := by
  refine (up_pay _ _ r l).trans (Finset.sum_congr rfl fun k _ => congrArg₂ _ (h2_at m c t r k) ?_)
  exact (rows_at _ _ _ ho l k).trans (blk12 m c t _ _)

theorem last_gate_at (c : Dev nD) (t : Fin cfg0.N) (r l : Fin 256) :
    lastUpT (blk m c t) (blk m c t).x12 (ix2 r l) = up (A0 m c) (A1 m c) (A2 m c) (A4 m c) (A5 m c) (A6 m c) (A7 m c) (A8 m c) (A9 m c) (A10 m c) (A11 m c) (A12 m c) (bOf t r) (sOf t r) ⟨2560 + l.val, by omega⟩ := by
  refine (lastUp_pay _ _ r l).trans (Finset.sum_congr rfl fun k _ => congrArg₂ _ (h2_at m c t r k) ?_)
  exact (lastRows_at _ l k).trans (blk12 m c t _ _)

theorem up_at (c : Dev nD) (t : Fin cfg0.N) (o : Nat) (h) (ho : o + 512 ≤ 2816) (r : Fin 256) (l : Fin 512) :
    upT (blk m c t) (blk m c t).x13 o h (ix2 r l) = up (A0 m c) (A1 m c) (A2 m c) (A4 m c) (A5 m c) (A6 m c) (A7 m c) (A8 m c) (A9 m c) (A10 m c) (A11 m c) (A13 m c) (bOf t r) (sOf t r) ⟨o + l.val, by omega⟩ := by
  refine (up_pay _ _ r l).trans (Finset.sum_congr rfl fun k _ => congrArg₂ _ (h2_at m c t r k) ?_)
  exact (rows_at _ _ _ ho l k).trans (blk13 m c t _ _)

theorem last_up_at (c : Dev nD) (t : Fin cfg0.N) (r l : Fin 256) :
    lastUpT (blk m c t) (blk m c t).x13 (ix2 r l) = up (A0 m c) (A1 m c) (A2 m c) (A4 m c) (A5 m c) (A6 m c) (A7 m c) (A8 m c) (A9 m c) (A10 m c) (A11 m c) (A13 m c) (bOf t r) (sOf t r) ⟨2560 + l.val, by omega⟩ := by
  refine (lastUp_pay _ _ r l).trans (Finset.sum_congr rfl fun k _ => congrArg₂ _ (h2_at m c t r k) ?_)
  exact (lastRows_at _ l k).trans (blk13 m c t _ _)

theorem act_at (c : Dev nD) (t : Fin cfg0.N) (o : Nat) (h) (ho : o + 512 ≤ 2816) (r : Fin 256) (l : Fin 512) :
    actT (blk m c t) o h (ix2 r l) = act (A0 m c) (A1 m c) (A2 m c) (A4 m c) (A5 m c) (A6 m c) (A7 m c) (A8 m c) (A9 m c) (A10 m c) (A11 m c) (A12 m c) (A13 m c) (bOf t r) (sOf t r) ⟨o + l.val, by omega⟩ := by
  unfold actT act
  rw [act_pay, gate_at m c t o h ho, up_at m c t o h ho]

theorem last_act_at (c : Dev nD) (t : Fin cfg0.N) (r l : Fin 256) :
    lastActT (blk m c t) (ix2 r l) = act (A0 m c) (A1 m c) (A2 m c) (A4 m c) (A5 m c) (A6 m c) (A7 m c) (A8 m c) (A9 m c) (A10 m c) (A11 m c) (A12 m c) (A13 m c) (bOf t r) (sOf t r) ⟨2560 + l.val, by omega⟩ := by
  unfold lastActT act
  rw [lastAct_pay, last_gate_at, last_up_at]

/-! ### The blocks of the feed-forward columns -/

theorem narrow_pay (u : FVec Ideal S256x512 .f32) (r : Fin 256) (l : Fin 512) : k0_pay55 (F := Ideal) u (ix2 r l) = u (ix2 r l) := by
  pointwise [k0_pay55]

theorem lastNarrow_pay (u : FVec Ideal S256x256 .f32) (r l : Fin 256) : k0_pay77 (F := Ideal) u (ix2 r l) = u (ix2 r l) := by
  pointwise [k0_pay77]

theorem gateTiles_eq (X : Ins Ideal) : gtBlkTiles X =
  [⟨Rect.unit (s := S256x2816) ![0, 2560] S256x256.size inb_S256x2816_S256x256_0_2560, k0_pay77 (F := Ideal) (lastUpT X X.x12)⟩,
   ⟨Rect.unit (s := S256x2816) ![0, 2048] S256x512.size inb_S256x2816_S256x512_0_2048, k0_pay55 (F := Ideal) (upT X X.x12 2048 inb_S2816x1024_S512x1024_2048_0)⟩,
   ⟨Rect.unit (s := S256x2816) ![0, 1536] S256x512.size inb_S256x2816_S256x512_0_1536, k0_pay55 (F := Ideal) (upT X X.x12 1536 inb_S2816x1024_S512x1024_1536_0)⟩,
   ⟨Rect.unit (s := S256x2816) ![0, 1024] S256x512.size inb_S256x2816_S256x512_0_1024, k0_pay55 (F := Ideal) (upT X X.x12 1024 inb_S2816x1024_S512x1024_1024_0)⟩,
   ⟨Rect.unit (s := S256x2816) ![0, 512] S256x512.size inb_S256x2816_S256x512_0_512, k0_pay55 (F := Ideal) (upT X X.x12 512 inb_S2816x1024_S512x1024_512_0)⟩,
   ⟨Rect.unit (s := S256x2816) ![0, 0] S256x512.size inb_S256x2816_S256x512_0_0, k0_pay55 (F := Ideal) (upT X X.x12 0 inb_S2816x1024_S512x1024_0_0)⟩] := by
  sl_kernel_rfl

theorem gate_tile (c : Dev nD) (t : Fin cfg0.N) (o : Nat) (h) (ho : o + 512 ≤ 2816) (x : S256x512.Idx) (y : S256x2816.Idx)
    (e0 : (y 0).val = (x 0).val) (e1 : (y 1).val = o + (x 1).val) :
    k0_pay55 (F := Ideal) (upT (blk m c t) (blk m c t).x12 o h) x = up (A0 m c) (A1 m c) (A2 m c) (A4 m c) (A5 m c) (A6 m c) (A7 m c) (A8 m c) (A9 m c) (A10 m c) (A11 m c) (A12 m c) (bOf t (y 0)) (sOf t (y 0)) (y 1) := by
  idx_vars x
  refine (narrow_pay _ x0 x1).trans ?_
  refine (gate_at m c t o h ho x0 x1).trans ?_
  have h0 : x0 = y 0 := Fin.ext e0.symm
  have h1 : (⟨o + x1.val, by have : x1.val < 512 := x1.isLt; omega⟩ : Fin 2816) = y 1 := Fin.ext e1.symm
  rw [← h0, ← h1]

theorem last_gate_tile (c : Dev nD) (t : Fin cfg0.N) (x : S256x256.Idx) (y : S256x2816.Idx)
    (e0 : (y 0).val = (x 0).val) (e1 : (y 1).val = 2560 + (x 1).val) :
    k0_pay77 (F := Ideal) (lastUpT (blk m c t) (blk m c t).x12) x = up (A0 m c) (A1 m c) (A2 m c) (A4 m c) (A5 m c) (A6 m c) (A7 m c) (A8 m c) (A9 m c) (A10 m c) (A11 m c) (A12 m c) (bOf t (y 0)) (sOf t (y 0)) (y 1) := by
  idx_vars x
  refine (lastNarrow_pay _ x0 x1).trans ?_
  refine (last_gate_at m c t x0 x1).trans ?_
  have h0 : x0 = y 0 := Fin.ext e0.symm
  have h1 : (⟨2560 + x1.val, by have : x1.val < 256 := x1.isLt; omega⟩ : Fin 2816) = y 1 := Fin.ext e1.symm
  rw [← h0, ← h1]

theorem gateBlk_at (c : Dev nD) (t : Fin cfg0.N) (y : S256x2816.Idx) : gtBlk (blk m c t) y = up (A0 m c) (A1 m c) (A2 m c) (A4 m c) (A5 m c) (A6 m c) (A7 m c) (A8 m c) (A9 m c) (A10 m c) (A11 m c) (A12 m c) (bOf t (y 0)) (sOf t (y 0)) (y 1) := by
  unfold gtBlk
  rw [gateTiles_eq]
  canon_tiles x h using View.cover_of_tiledBy _ ![256, 256] (by sl_kernel_rfl) y
  · exact last_gate_tile m c t x y (by omega) (by omega)
  · exact gate_tile m c t 2048 _ (by omega) x y (by omega) (by omega)
  · exact gate_tile m c t 1536 _ (by omega) x y (by omega) (by omega)
  · exact gate_tile m c t 1024 _ (by omega) x y (by omega) (by omega)
  · exact gate_tile m c t 512 _ (by omega) x y (by omega) (by omega)
  · exact gate_tile m c t 0 _ (by omega) x y (by omega) (by omega)

theorem upTiles_eq (X : Ins Ideal) : upBlkTiles X =
  [⟨Rect.unit (s := S256x2816) ![0, 2560] S256x256.size inb_S256x2816_S256x256_0_2560, k0_pay77 (F := Ideal) (lastUpT X X.x13)⟩,
   ⟨Rect.unit (s := S256x2816) ![0, 2048] S256x512.size inb_S256x2816_S256x512_0_2048, k0_pay55 (F := Ideal) (upT X X.x13 2048 inb_S2816x1024_S512x1024_2048_0)⟩,
   ⟨Rect.unit (s := S256x2816) ![0, 1536] S256x512.size inb_S256x2816_S256x512_0_1536, k0_pay55 (F := Ideal) (upT X X.x13 1536 inb_S2816x1024_S512x1024_1536_0)⟩,
   ⟨Rect.unit (s := S256x2816) ![0, 1024] S256x512.size inb_S256x2816_S256x512_0_1024, k0_pay55 (F := Ideal) (upT X X.x13 1024 inb_S2816x1024_S512x1024_1024_0)⟩,
   ⟨Rect.unit (s := S256x2816) ![0, 512] S256x512.size inb_S256x2816_S256x512_0_512, k0_pay55 (F := Ideal) (upT X X.x13 512 inb_S2816x1024_S512x1024_512_0)⟩,
   ⟨Rect.unit (s := S256x2816) ![0, 0] S256x512.size inb_S256x2816_S256x512_0_0, k0_pay55 (F := Ideal) (upT X X.x13 0 inb_S2816x1024_S512x1024_0_0)⟩] := by
  sl_kernel_rfl

theorem up_tile (c : Dev nD) (t : Fin cfg0.N) (o : Nat) (h) (ho : o + 512 ≤ 2816) (x : S256x512.Idx) (y : S256x2816.Idx)
    (e0 : (y 0).val = (x 0).val) (e1 : (y 1).val = o + (x 1).val) :
    k0_pay55 (F := Ideal) (upT (blk m c t) (blk m c t).x13 o h) x = up (A0 m c) (A1 m c) (A2 m c) (A4 m c) (A5 m c) (A6 m c) (A7 m c) (A8 m c) (A9 m c) (A10 m c) (A11 m c) (A13 m c) (bOf t (y 0)) (sOf t (y 0)) (y 1) := by
  idx_vars x
  refine (narrow_pay _ x0 x1).trans ?_
  refine (up_at m c t o h ho x0 x1).trans ?_
  have h0 : x0 = y 0 := Fin.ext e0.symm
  have h1 : (⟨o + x1.val, by have : x1.val < 512 := x1.isLt; omega⟩ : Fin 2816) = y 1 := Fin.ext e1.symm
  rw [← h0, ← h1]

theorem last_up_tile (c : Dev nD) (t : Fin cfg0.N) (x : S256x256.Idx) (y : S256x2816.Idx)
    (e0 : (y 0).val = (x 0).val) (e1 : (y 1).val = 2560 + (x 1).val) :
    k0_pay77 (F := Ideal) (lastUpT (blk m c t) (blk m c t).x13) x = up (A0 m c) (A1 m c) (A2 m c) (A4 m c) (A5 m c) (A6 m c) (A7 m c) (A8 m c) (A9 m c) (A10 m c) (A11 m c) (A13 m c) (bOf t (y 0)) (sOf t (y 0)) (y 1) := by
  idx_vars x
  refine (lastNarrow_pay _ x0 x1).trans ?_
  refine (last_up_at m c t x0 x1).trans ?_
  have h0 : x0 = y 0 := Fin.ext e0.symm
  have h1 : (⟨2560 + x1.val, by have : x1.val < 256 := x1.isLt; omega⟩ : Fin 2816) = y 1 := Fin.ext e1.symm
  rw [← h0, ← h1]

theorem upBlk_at (c : Dev nD) (t : Fin cfg0.N) (y : S256x2816.Idx) : upBlk (blk m c t) y = up (A0 m c) (A1 m c) (A2 m c) (A4 m c) (A5 m c) (A6 m c) (A7 m c) (A8 m c) (A9 m c) (A10 m c) (A11 m c) (A13 m c) (bOf t (y 0)) (sOf t (y 0)) (y 1) := by
  unfold upBlk
  rw [upTiles_eq]
  canon_tiles x h using View.cover_of_tiledBy _ ![256, 256] (by sl_kernel_rfl) y
  · exact last_up_tile m c t x y (by omega) (by omega)
  · exact up_tile m c t 2048 _ (by omega) x y (by omega) (by omega)
  · exact up_tile m c t 1536 _ (by omega) x y (by omega) (by omega)
  · exact up_tile m c t 1024 _ (by omega) x y (by omega) (by omega)
  · exact up_tile m c t 512 _ (by omega) x y (by omega) (by omega)
  · exact up_tile m c t 0 _ (by omega) x y (by omega) (by omega)

theorem actTiles_eq (X : Ins Ideal) : actBlkTiles X =
  [⟨Rect.unit (s := S256x2816) ![0, 2560] S256x256.size inb_S256x2816_S256x256_0_2560, lastActT X⟩,
   ⟨Rect.unit (s := S256x2816) ![0, 2048] S256x512.size inb_S256x2816_S256x512_0_2048, actT X 2048 inb_S2816x1024_S512x1024_2048_0⟩,
   ⟨Rect.unit (s := S256x2816) ![0, 1536] S256x512.size inb_S256x2816_S256x512_0_1536, actT X 1536 inb_S2816x1024_S512x1024_1536_0⟩,
   ⟨Rect.unit (s := S256x2816) ![0, 1024] S256x512.size inb_S256x2816_S256x512_0_1024, actT X 1024 inb_S2816x1024_S512x1024_1024_0⟩,
   ⟨Rect.unit (s := S256x2816) ![0, 512] S256x512.size inb_S256x2816_S256x512_0_512, actT X 512 inb_S2816x1024_S512x1024_512_0⟩,
   ⟨Rect.unit (s := S256x2816) ![0, 0] S256x512.size inb_S256x2816_S256x512_0_0, actT X 0 inb_S2816x1024_S512x1024_0_0⟩] := by
  sl_kernel_rfl

theorem act_tile (c : Dev nD) (t : Fin cfg0.N) (o : Nat) (h) (ho : o + 512 ≤ 2816) (x : S256x512.Idx) (y : S256x2816.Idx)
    (e0 : (y 0).val = (x 0).val) (e1 : (y 1).val = o + (x 1).val) :
    actT (blk m c t) o h x = act (A0 m c) (A1 m c) (A2 m c) (A4 m c) (A5 m c) (A6 m c) (A7 m c) (A8 m c) (A9 m c) (A10 m c) (A11 m c) (A12 m c) (A13 m c) (bOf t (y 0)) (sOf t (y 0)) (y 1) := by
  idx_vars x
  refine (act_at m c t o h ho x0 x1).trans ?_
  have h0 : x0 = y 0 := Fin.ext e0.symm
  have h1 : (⟨o + x1.val, by have : x1.val < 512 := x1.isLt; omega⟩ : Fin 2816) = y 1 := Fin.ext e1.symm
  rw [← h0, ← h1]

theorem last_act_tile (c : Dev nD) (t : Fin cfg0.N) (x : S256x256.Idx) (y : S256x2816.Idx)
    (e0 : (y 0).val = (x 0).val) (e1 : (y 1).val = 2560 + (x 1).val) :
    lastActT (blk m c t) x = act (A0 m c) (A1 m c) (A2 m c) (A4 m c) (A5 m c) (A6 m c) (A7 m c) (A8 m c) (A9 m c) (A10 m c) (A11 m c) (A12 m c) (A13 m c) (bOf t (y 0)) (sOf t (y 0)) (y 1) := by
  idx_vars x
  refine (last_act_at m c t x0 x1).trans ?_
  have h0 : x0 = y 0 := Fin.ext e0.symm
  have h1 : (⟨2560 + x1.val, by have : x1.val < 256 := x1.isLt; omega⟩ : Fin 2816) = y 1 := Fin.ext e1.symm
  rw [← h0, ← h1]

theorem actBlk_at (c : Dev nD) (t : Fin cfg0.N) (y : S256x2816.Idx) : actBlk (blk m c t) y = act (A0 m c) (A1 m c) (A2 m c) (A4 m c) (A5 m c) (A6 m c) (A7 m c) (A8 m c) (A9 m c) (A10 m c) (A11 m c) (A12 m c) (A13 m c) (bOf t (y 0)) (sOf t (y 0)) (y 1) := by
  unfold actBlk
  rw [actTiles_eq]
  canon_tiles x h using View.cover_of_tiledBy _ ![256, 256] (by sl_kernel_rfl) y
  · exact last_act_tile m c t x y (by omega) (by omega)
  · exact act_tile m c t 2048 _ (by omega) x y (by omega) (by omega)
  · exact act_tile m c t 1536 _ (by omega) x y (by omega) (by omega)
  · exact act_tile m c t 1024 _ (by omega) x y (by omega) (by omega)
  · exact act_tile m c t 512 _ (by omega) x y (by omega) (by omega)
  · exact act_tile m c t 0 _ (by omega) x y (by omega) (by omega)

/-! ### The output of the layer -/

theorem down_pay (v : FVec Ideal S256x1024 .f32) (a b s o : FVec Ideal S256x512 .f32) (w : Vec Ideal S512x1024 .bf16) (r : Fin 256) (k : Fin 1024) :
    k0_pay52 (F := Ideal) v a b s o w (ix2 r k) = v (ix2 r k) + ∑ l : Fin 512, k0_pay51 (F := Ideal) a b s o (ix2 r l) * w (ix2 l k) := by
  unfold k0_pay52
  generalize k0_pay51 (F := Ideal) a b s o = u
  pointwise []

theorem down2_pay (v : FVec Ideal S256x1024 .f32) (a b : FVec Ideal S256x512 .f32) (u : FVec Ideal S256x512 .bf16) (w w' : Vec Ideal S512x1024 .bf16)
    (r : Fin 256) (k : Fin 1024) :
    k0_pay63 (F := Ideal) v a b u w w' (ix2 r k) = v (ix2 r k) + (∑ l : Fin 512, u (ix2 r l) * w (ix2 l k))
      + ∑ l : Fin 512, k0_pay62 (F := Ideal) a b (ix2 r l) * w' (ix2 l k) := by
  unfold k0_pay63
  generalize k0_pay62 (F := Ideal) a b = u'
  pointwise []

theorem down3_pay (v : FVec Ideal S256x1024 .f32) (a b : FVec Ideal S256x512 .f32) (w : Vec Ideal S512x1024 .bf16) (r : Fin 256) (k : Fin 1024) :
    k0_pay70 (F := Ideal) a b v w (ix2 r k) = v (ix2 r k) + ∑ l : Fin 512, k0_pay69 (F := Ideal) a b (ix2 r l) * w (ix2 l k) := by
  unfold k0_pay70
  generalize k0_pay69 (F := Ideal) a b = u
  pointwise []

theorem down4_pay (v : FVec Ideal S256x1024 .f32) (a b s : FVec Ideal S256x512 .f32) (d e : FVec Ideal S256x256 .f32) (w : Vec Ideal S512x1024 .bf16)
    (w' : Vec Ideal S256x1024 .bf16) (r : Fin 256) (k : Fin 1024) :
    k0_pay80 (F := Ideal) a b v d e s w w' (ix2 r k) = v (ix2 r k) + (∑ l : Fin 512, k0_pay76 (F := Ideal) a b s (ix2 r l) * w (ix2 l k))
      + ∑ l : Fin 256, k0_pay79 (F := Ideal) d e (ix2 r l) * w' (ix2 l k) := by
  unfold k0_pay80
  generalize k0_pay76 (F := Ideal) a b s = u
  generalize k0_pay79 (F := Ideal) d e = u'
  pointwise []

theorem acts_eq (X : Ins Ideal) : k0_pay51 (F := Ideal) (v265 X) (v268 X) (v281 X) k0_pay50 = actT X 0 inb_S2816x1024_S512x1024_0_0
    ∧ v313 X = actT X 512 inb_S2816x1024_S512x1024_512_0
    ∧ k0_pay62 (F := Ideal) (v296 X) (v299 X) = actT X 1024 inb_S2816x1024_S512x1024_1024_0
    ∧ k0_pay69 (F := Ideal) (v321 X) (v324 X) = actT X 1536 inb_S2816x1024_S512x1024_1536_0
    ∧ k0_pay76 (F := Ideal) (v346 X) (v349 X) k0_pay75 = actT X 2048 inb_S2816x1024_S512x1024_2048_0
    ∧ k0_pay79 (F := Ideal) (v371 X) (v374 X) = lastActT X := by
  refine ⟨?_, ?_, ?_, ?_, ?_, ?_⟩ <;> sl_kernel_rfl

theorem down_at (c : Dev nD) (t : Fin cfg0.N) (o : Nat) (h) (ho : o + 512 ≤ 2816) (r : Fin 256) (k : Fin 1024) :
    ∑ l : Fin 512, actT (blk m c t) o h (ix2 r l) * rows (blk m c t).x14 o h (ix2 l k)
      = ∑ l : Fin 512, act (A0 m c) (A1 m c) (A2 m c) (A4 m c) (A5 m c) (A6 m c) (A7 m c) (A8 m c) (A9 m c) (A10 m c) (A11 m c) (A12 m c) (A13 m c) (bOf t r) (sOf t r) ⟨o + l.val, by omega⟩ * A14 m c (ix2 ⟨o + l.val, by omega⟩ k) :=
  Finset.sum_congr rfl fun l _ => congrArg₂ _ (act_at m c t o h ho r l) ((rows_at _ _ _ ho l k).trans (blk14 m c t _ _))

theorem last_down_at (c : Dev nD) (t : Fin cfg0.N) (r : Fin 256) (k : Fin 1024) :
    ∑ l : Fin 256, lastActT (blk m c t) (ix2 r l) * lastRows (blk m c t).x14 (ix2 l k)
      = ∑ l : Fin 256, act (A0 m c) (A1 m c) (A2 m c) (A4 m c) (A5 m c) (A6 m c) (A7 m c) (A8 m c) (A9 m c) (A10 m c) (A11 m c) (A12 m c) (A13 m c) (bOf t r) (sOf t r) ⟨2560 + l.val, by omega⟩ * A14 m c (ix2 ⟨2560 + l.val, by omega⟩ k) :=
  Finset.sum_congr rfl fun l _ => congrArg₂ _ (last_act_at m c t r l) ((lastRows_at _ l k).trans (blk14 m c t _ _))

theorem x2_at (c : Dev nD) (t : Fin cfg0.N) (r : Fin 256) (k : Fin 1024) :
    v412 (blk m c t) (ix2 r k) = x2 (A0 m c) (A1 m c) (A2 m c) (A4 m c) (A5 m c) (A6 m c) (A7 m c) (A8 m c) (A9 m c) (A10 m c) (A11 m c) (A12 m c) (A13 m c) (A14 m c) (bOf t r) (sOf t r) k := by
  obtain ⟨a0, a1, a2, a3, a4, a5⟩ := acts_eq (blk m c t)
  unfold v412
  rw [down4_pay, a4, a5]
  unfold v368
  rw [down3_pay, a3]
  unfold v343
  rw [down2_pay, a1, a2]
  unfold v293 v315
  rw [down_pay, a0, x1_at]
  unfold x2
  rw [Maths.sum_groups]
  rw [← down_at m c t 0 inb_S2816x1024_S512x1024_0_0 (by omega), ← down_at m c t 512 inb_S2816x1024_S512x1024_512_0 (by omega),
    ← down_at m c t 1024 inb_S2816x1024_S512x1024_1024_0 (by omega), ← down_at m c t 1536 inb_S2816x1024_S512x1024_1536_0 (by omega),
    ← down_at m c t 2048 inb_S2816x1024_S512x1024_2048_0 (by omega), ← last_down_at]
  simp only [← add_assoc]
  rfl

/-! ### The loss and its gradient -/

theorem rstd_pay (a : FVec Ideal S256x1024 .f32) (r : Fin 256) : k0_pay84 (F := Ideal) a (ix2 r 0) = Maths.rstd fun k => a (ix2 r k) := by
  pointwise [k0_pay84, Maths.rstd]

theorem xh_pay (a : FVec Ideal S256x1024 .f32) (r : Fin 256) (k : Fin 1024) : k0_pay85 (F := Ideal) a (ix2 r k) = xh (fun k => a (ix2 r k)) k := by
  unfold k0_pay85 xh
  rw [← rstd_pay]
  generalize k0_pay84 (F := Ideal) a = u
  pointwise []

theorem diff_pay (a : FVec Ideal S256x1024 .f32) (g : Vec Ideal S1x1024 .f32) (u : Vec Ideal S256x1024 .f32) (r : Fin 256) (k : Fin 1024) :
    k0_pay86 (F := Ideal) a g u (ix2 r k) = diff (fun k => a (ix2 r k)) (fun k => g (ix2 0 k)) (fun k => u (ix2 r k)) k := by
  unfold k0_pay86 diff
  rw [← xh_pay]
  generalize k0_pay85 (F := Ideal) a = v
  pointwise [k0_pay83]

theorem dy_pay (a : FVec Ideal S256x1024 .f32) (g : Vec Ideal S1x1024 .f32) (u : Vec Ideal S256x1024 .f32) (r : Fin 256) (k : Fin 1024) :
    k0_pay88 (F := Ideal) a g u (ix2 r k) = dy (fun k => a (ix2 r k)) (fun k => g (ix2 0 k)) (fun k => u (ix2 r k)) k := by
  unfold k0_pay88 dy
  rw [← diff_pay]
  generalize k0_pay86 (F := Ideal) a g u = v
  pointwise []

theorem dxh_pay (a : FVec Ideal S256x1024 .f32) (g : Vec Ideal S1x1024 .f32) (u : Vec Ideal S256x1024 .f32) (r : Fin 256) (k : Fin 1024) :
    k0_pay90 (F := Ideal) a g u (ix2 r k) = dy (fun k => a (ix2 r k)) (fun k => g (ix2 0 k)) (fun k => u (ix2 r k)) k * g (ix2 0 k) := by
  unfold k0_pay90
  rw [← dy_pay]
  generalize k0_pay88 (F := Ideal) a g u = v
  pointwise [k0_pay83]

theorem dx_pay (s : FVec Ideal S256x1 .f32) (a b d : FVec Ideal S256x1024 .f32) (r : Fin 256) (k : Fin 1024) :
    k0_pay1 (F := Ideal) s a b d (ix2 r k) = s (ix2 r 0) * (b (ix2 r k)
      - a (ix2 r k) * Ideal.div (∑ l : Fin 1024, d (ix2 r l)) (Ideal.ofBits .f32 0x44800000#32)) := by
  pointwise [k0_pay1]

theorem dxRow_pay (a : FVec Ideal S256x1024 .f32) (g : Vec Ideal S1x1024 .f32) (u : Vec Ideal S256x1024 .f32) (r : Fin 256) (k : Fin 1024) :
    k0_pay1 (F := Ideal) (k0_pay84 a) (k0_pay85 a) (k0_pay90 a g u) (k0_pay91 a g u) (ix2 r k)
      = dxRow (fun k => a (ix2 r k)) (fun k => g (ix2 0 k)) (fun k => u (ix2 r k)) k := by
  have h : ∀ l, k0_pay91 (F := Ideal) a g u (ix2 r l) = k0_pay90 (F := Ideal) a g u (ix2 r l) * k0_pay85 (F := Ideal) a (ix2 r l) := fun l => by
    unfold k0_pay91
    generalize k0_pay90 (F := Ideal) a g u = v
    generalize k0_pay85 (F := Ideal) a = v'
    pointwise []
  rw [dx_pay, rstd_pay, xh_pay, dxh_pay]
  simp only [h, xh_pay, dxh_pay]
  unfold dxRow Maths.rmsBack
  rw [zero_add]
  rfl

theorem gain_pay (a : FVec Ideal S256x1024 .f32) (g : Vec Ideal S1x1024 .f32) (u : Vec Ideal S256x1024 .f32) (v : Vec Ideal S1x1024 .f32) (k : Fin 1024) :
    k0_pay89 (F := Ideal) a g u v (ix2 0 k) = v (ix2 0 k) + ∑ r : Fin 256,
      dy (fun k => a (ix2 r k)) (fun k => g (ix2 0 k)) (fun k => u (ix2 r k)) k * xh (fun k => a (ix2 r k)) k := by
  simp only [← dy_pay, ← xh_pay]
  unfold k0_pay89
  generalize k0_pay88 (F := Ideal) a g u = p
  generalize k0_pay85 (F := Ideal) a = q
  pointwise []

theorem square_pay (a : FVec Ideal S256x1024 .f32) (g : Vec Ideal S1x1024 .f32) (u : Vec Ideal S256x1024 .f32) (v : Vec Ideal S1x1024 .f32) (k : Fin 1024) :
    k0_pay87 (F := Ideal) a g u v (ix2 0 k) = v (ix2 0 k) + ∑ r : Fin 256,
      diff (fun k => a (ix2 r k)) (fun k => g (ix2 0 k)) (fun k => u (ix2 r k)) k * diff (fun k => a (ix2 r k)) (fun k => g (ix2 0 k)) (fun k => u (ix2 r k)) k := by
  simp only [← diff_pay]
  unfold k0_pay87
  generalize k0_pay86 (F := Ideal) a g u = p
  pointwise []

theorem loss_pay (v : Vec Ideal S1x1024 .f32) (l : Fin 128) :
    k0_pay2 (F := Ideal) v (ix2 0 l) = (∑ k : Fin 1024, v (ix2 0 k)) * Ideal.ofBits .f32 0x3A000000#32 := by
  pointwise [k0_pay2]

/-- The rows a point holds. -/
abbrev rowAt (c : Dev nD) (t : Fin cfg0.N) (r : Fin 256) : Fin 1024 → EReal := row2 (A0 m c) (A1 m c) (A2 m c) (A4 m c) (A5 m c) (A6 m c) (A7 m c) (A8 m c) (A9 m c) (A10 m c) (A11 m c) (A12 m c) (A13 m c) (A14 m c) (bOf t r) (sOf t r)

theorem row_eq (c : Dev nD) (t : Fin cfg0.N) (r : Fin 256) : (fun k => v412 (blk m c t) (ix2 r k)) = rowAt m c t r :=
  funext fun k => x2_at m c t r k

theorem gain_eq (c : Dev nD) (t : Fin cfg0.N) : (fun k => (blk m c t).x15 (ix2 0 k)) = gain (A15 m c) := funext fun k => blk15 m c t k

theorem target_eq (c : Dev nD) (t : Fin cfg0.N) (r : Fin 256) : (fun k => (blk m c t).x16 (ix2 r k)) = trow (A3 m c) (bOf t r) (sOf t r) :=
  funext fun k => blk16 m c t r k

theorem dxBlk_at (c : Dev nD) (t : Fin cfg0.N) (r : Fin 256) (k : Fin 1024) :
    dxBlk (blk m c t) (ix2 r k) = dxRow (rowAt m c t r) (gain (A15 m c)) (trow (A3 m c) (bOf t r) (sOf t r)) k := by
  unfold dxBlk v425 v427 v451 v452
  rw [dxRow_pay, row_eq, gain_eq, target_eq]

theorem stepG_at (c : Dev nD) (t : Fin cfg0.N) (v : Vec Ideal S1x1024 .f32) (k : Fin 1024) :
    stepG (blk m c t) v (ix2 0 k) = v (ix2 0 k) + ∑ r : Fin 256,
      dy (rowAt m c t r) (gain (A15 m c)) (trow (A3 m c) (bOf t r) (sOf t r)) k * xh (rowAt m c t r) k := by
  unfold stepG
  rw [gain_pay]
  simp only [row_eq, gain_eq, target_eq]

theorem stepS_at (c : Dev nD) (t : Fin cfg0.N) (v : Vec Ideal S1x1024 .f32) (k : Fin 1024) :
    stepS (blk m c t) v (ix2 0 k) = v (ix2 0 k) + ∑ r : Fin 256,
      diff (rowAt m c t r) (gain (A15 m c)) (trow (A3 m c) (bOf t r) (sOf t r)) k * diff (rowAt m c t r) (gain (A15 m c)) (trow (A3 m c) (bOf t r) (sOf t r)) k := by
  unfold stepS
  rw [square_pay]
  simp only [row_eq, gain_eq, target_eq]

end Cert.Head
-- ==== Proof.Head.Array.lean ====
/- The twelve arrays the head kernel leaves. -/
module

public import proofs.«01_k».proof.Proof.Head.Feed
public import proofs.«01_k».proof.Proof.Head.Frame

@[expose] public section

set_option maxRecDepth 16384

noncomputable section

open Idealize.ShloMosaic Idealize.ShloMosaic.TcCoe Idealize.SL.Sem
open Idealize.ShloMosaic.Pipeline (Dat)

namespace Cert.Head

open Cert.Kernel3Ideal Cert.Kernel3Ideal.Gen Cert.Head.Run

variable (m : (ℓ : Loc nD τ sig) → Buf (Elt Ideal) ℓ)

/-- The rows of both batch entries one after the other. -/
def rows1 (f : Fin 2 → Fin 4096 → Fin 1024 → EReal) : S8192x1024.Idx → EReal := fun i =>
  f ⟨(i 0).val / 4096, by have : (i 0).val < 8192 := (i 0).isLt; omega⟩ ⟨(i 0).val % 4096, by omega⟩ (i 1)

def rows2 (f : Fin 2 → Fin 4096 → Fin 2816 → EReal) : S8192x2816.Idx → EReal := fun i =>
  f ⟨(i 0).val / 4096, by have : (i 0).val < 8192 := (i 0).isLt; omega⟩ ⟨(i 0).val % 4096, by omega⟩ (i 1)

theorem rows1_at (f : Fin 2 → Fin 4096 → Fin 1024 → EReal) (t : Fin cfg0.N) (r : Fin 256) (k : Fin 1024) (i : S8192x1024.Idx)
    (h0 : (i 0).val = t.val * 256 + r.val) (h1 : (i 1).val = k.val) : f (bOf t r) (sOf t r) k = rows1 f i :=
  congr (congr (congrArg f (Fin.ext (by dsimp only [bOf]; omega))) (Fin.ext (by dsimp only [sOf]; omega))) (Fin.ext h1.symm)

theorem rows2_at (f : Fin 2 → Fin 4096 → Fin 2816 → EReal) (t : Fin cfg0.N) (r : Fin 256) (k : Fin 2816) (i : S8192x2816.Idx)
    (h0 : (i 0).val = t.val * 256 + r.val) (h1 : (i 1).val = k.val) : f (bOf t r) (sOf t r) k = rows2 f i :=
  congr (congr (congrArg f (Fin.ext (by dsimp only [bOf]; omega))) (Fin.ext (by dsimp only [sOf]; omega))) (Fin.ext h1.symm)

theorem final17 (c : Dev nD) : (dats m 0 c).arrAt 17 (cfgs 0).N = rows1 (mixed (A1 m c) (A4 m c) (A5 m c) (A6 m c) (A7 m c)) := by
  refine (dats m 0 c).arrAt_eq_of_covers 17 _ (by decide +kernel) fun t hf y => ?_
  blk_simp
  rw [after0_17]
  have e0 : ((((View.whole main_v27_0).slice (win0_17.rect t)).emb y) 0).val = t.val * 256 + (y 0).val := by blk_simp [idxOut t]
  have e1 : ((((View.whole main_v27_0).slice (win0_17.rect t)).emb y) 1).val = (y 1).val := by blk_simp [idxOut t]
  refine Eq.trans ?_ (rows1_at (mixed (A1 m c) (A4 m c) (A5 m c) (A6 m c) (A7 m c)) t (y 0) (y 1) _ e0 e1)
  idx_vars y
  exact mixed_at m c t y0 y1

theorem final18 (c : Dev nD) : (dats m 0 c).arrAt 18 (cfgs 0).N = rows1 (gated (A1 m c) (A4 m c) (A5 m c) (A6 m c) (A7 m c)) := by
  refine (dats m 0 c).arrAt_eq_of_covers 18 _ (by decide +kernel) fun t hf y => ?_
  blk_simp
  rw [after0_18]
  have e0 : ((((View.whole main_v27_1).slice (win0_18.rect t)).emb y) 0).val = t.val * 256 + (y 0).val := by blk_simp [idxOut t]
  have e1 : ((((View.whole main_v27_1).slice (win0_18.rect t)).emb y) 1).val = (y 1).val := by blk_simp [idxOut t]
  refine Eq.trans ?_ (rows1_at (gated (A1 m c) (A4 m c) (A5 m c) (A6 m c) (A7 m c)) t (y 0) (y 1) _ e0 e1)
  idx_vars y
  exact gated_at m c t y0 y1

theorem final19 (c : Dev nD) : (dats m 0 c).arrAt 19 (cfgs 0).N = rows1 (yb (A1 m c) (A4 m c) (A5 m c) (A6 m c) (A7 m c) (A9 m c)) := by
  refine (dats m 0 c).arrAt_eq_of_covers 19 _ (by decide +kernel) fun t hf y => ?_
  blk_simp
  rw [after0_19]
  have e0 : ((((View.whole main_v27_2).slice (win0_19.rect t)).emb y) 0).val = t.val * 256 + (y 0).val := by blk_simp [idxOut t]
  have e1 : ((((View.whole main_v27_2).slice (win0_19.rect t)).emb y) 1).val = (y 1).val := by blk_simp [idxOut t]
  refine Eq.trans ?_ (rows1_at (yb (A1 m c) (A4 m c) (A5 m c) (A6 m c) (A7 m c) (A9 m c)) t (y 0) (y 1) _ e0 e1)
  idx_vars y
  exact yb_at m c t y0 y1

theorem final20 (c : Dev nD) : (dats m 0 c).arrAt 20 (cfgs 0).N = rows1 (merged (A1 m c) (A2 m c) (A4 m c) (A5 m c) (A6 m c) (A7 m c) (A8 m c) (A9 m c)) := by
  refine (dats m 0 c).arrAt_eq_of_covers 20 _ (by decide +kernel) fun t hf y => ?_
  blk_simp
  rw [after0_20]
  have e0 : ((((View.whole main_v27_3).slice (win0_20.rect t)).emb y) 0).val = t.val * 256 + (y 0).val := by blk_simp [idxOut t]
  have e1 : ((((View.whole main_v27_3).slice (win0_20.rect t)).emb y) 1).val = (y 1).val := by blk_simp [idxOut t]
  refine Eq.trans ?_ (rows1_at (merged (A1 m c) (A2 m c) (A4 m c) (A5 m c) (A6 m c) (A7 m c) (A8 m c) (A9 m c)) t (y 0) (y 1) _ e0 e1)
  idx_vars y
  exact merged_at m c t y0 y1

theorem final21 (c : Dev nD) : (dats m 0 c).arrAt 21 (cfgs 0).N = rows1 (x1 (A0 m c) (A1 m c) (A2 m c) (A4 m c) (A5 m c) (A6 m c) (A7 m c) (A8 m c) (A9 m c) (A10 m c)) := by
  refine (dats m 0 c).arrAt_eq_of_covers 21 _ (by decide +kernel) fun t hf y => ?_
  blk_simp
  rw [after0_21]
  have e0 : ((((View.whole main_v27_4).slice (win0_21.rect t)).emb y) 0).val = t.val * 256 + (y 0).val := by blk_simp [idxOut t]
  have e1 : ((((View.whole main_v27_4).slice (win0_21.rect t)).emb y) 1).val = (y 1).val := by blk_simp [idxOut t]
  refine Eq.trans ?_ (rows1_at (x1 (A0 m c) (A1 m c) (A2 m c) (A4 m c) (A5 m c) (A6 m c) (A7 m c) (A8 m c) (A9 m c) (A10 m c)) t (y 0) (y 1) _ e0 e1)
  idx_vars y
  exact x1_at m c t y0 y1

theorem final22 (c : Dev nD) : (dats m 0 c).arrAt 22 (cfgs 0).N = rows1 (h2 (A0 m c) (A1 m c) (A2 m c) (A4 m c) (A5 m c) (A6 m c) (A7 m c) (A8 m c) (A9 m c) (A10 m c) (A11 m c)) := by
  refine (dats m 0 c).arrAt_eq_of_covers 22 _ (by decide +kernel) fun t hf y => ?_
  blk_simp
  rw [after0_22]
  have e0 : ((((View.whole main_v27_5).slice (win0_22.rect t)).emb y) 0).val = t.val * 256 + (y 0).val := by blk_simp [idxOut t]
  have e1 : ((((View.whole main_v27_5).slice (win0_22.rect t)).emb y) 1).val = (y 1).val := by blk_simp [idxOut t]
  refine Eq.trans ?_ (rows1_at (h2 (A0 m c) (A1 m c) (A2 m c) (A4 m c) (A5 m c) (A6 m c) (A7 m c) (A8 m c) (A9 m c) (A10 m c) (A11 m c)) t (y 0) (y 1) _ e0 e1)
  idx_vars y
  exact h2_at m c t y0 y1

theorem final23 (c : Dev nD) : (dats m 0 c).arrAt 23 (cfgs 0).N = rows2 (up (A0 m c) (A1 m c) (A2 m c) (A4 m c) (A5 m c) (A6 m c) (A7 m c) (A8 m c) (A9 m c) (A10 m c) (A11 m c) (A12 m c)) := by
  refine (dats m 0 c).arrAt_eq_of_covers 23 _ (by decide +kernel) fun t hf y => ?_
  blk_simp
  rw [after0_23]
  have e0 : ((((View.whole main_v27_6).slice (win0_23.rect t)).emb y) 0).val = t.val * 256 + (y 0).val := by blk_simp [idxOut t]
  have e1 : ((((View.whole main_v27_6).slice (win0_23.rect t)).emb y) 1).val = (y 1).val := by blk_simp [idxOut t]
  refine Eq.trans ?_ (rows2_at (up (A0 m c) (A1 m c) (A2 m c) (A4 m c) (A5 m c) (A6 m c) (A7 m c) (A8 m c) (A9 m c) (A10 m c) (A11 m c) (A12 m c)) t (y 0) (y 1) _ e0 e1)
  exact gateBlk_at m c t y

theorem final24 (c : Dev nD) : (dats m 0 c).arrAt 24 (cfgs 0).N = rows2 (up (A0 m c) (A1 m c) (A2 m c) (A4 m c) (A5 m c) (A6 m c) (A7 m c) (A8 m c) (A9 m c) (A10 m c) (A11 m c) (A13 m c)) := by
  refine (dats m 0 c).arrAt_eq_of_covers 24 _ (by decide +kernel) fun t hf y => ?_
  blk_simp
  rw [after0_24]
  have e0 : ((((View.whole main_v27_7).slice (win0_24.rect t)).emb y) 0).val = t.val * 256 + (y 0).val := by blk_simp [idxOut t]
  have e1 : ((((View.whole main_v27_7).slice (win0_24.rect t)).emb y) 1).val = (y 1).val := by blk_simp [idxOut t]
  refine Eq.trans ?_ (rows2_at (up (A0 m c) (A1 m c) (A2 m c) (A4 m c) (A5 m c) (A6 m c) (A7 m c) (A8 m c) (A9 m c) (A10 m c) (A11 m c) (A13 m c)) t (y 0) (y 1) _ e0 e1)
  exact upBlk_at m c t y

theorem final25 (c : Dev nD) : (dats m 0 c).arrAt 25 (cfgs 0).N = rows2 (act (A0 m c) (A1 m c) (A2 m c) (A4 m c) (A5 m c) (A6 m c) (A7 m c) (A8 m c) (A9 m c) (A10 m c) (A11 m c) (A12 m c) (A13 m c)) := by
  refine (dats m 0 c).arrAt_eq_of_covers 25 _ (by decide +kernel) fun t hf y => ?_
  blk_simp
  rw [after0_25]
  have e0 : ((((View.whole main_v27_8).slice (win0_25.rect t)).emb y) 0).val = t.val * 256 + (y 0).val := by blk_simp [idxOut t]
  have e1 : ((((View.whole main_v27_8).slice (win0_25.rect t)).emb y) 1).val = (y 1).val := by blk_simp [idxOut t]
  refine Eq.trans ?_ (rows2_at (act (A0 m c) (A1 m c) (A2 m c) (A4 m c) (A5 m c) (A6 m c) (A7 m c) (A8 m c) (A9 m c) (A10 m c) (A11 m c) (A12 m c) (A13 m c)) t (y 0) (y 1) _ e0 e1)
  exact actBlk_at m c t y

theorem final26 (c : Dev nD) : (dats m 0 c).arrAt 26 (cfgs 0).N = rows1 (dx (A0 m c) (A1 m c) (A2 m c) (A3 m c) (A4 m c) (A5 m c) (A6 m c) (A7 m c) (A8 m c) (A9 m c) (A10 m c) (A11 m c) (A12 m c) (A13 m c) (A14 m c) (A15 m c)) := by
  refine (dats m 0 c).arrAt_eq_of_covers 26 _ (by decide +kernel) fun t hf y => ?_
  blk_simp
  rw [after0_26]
  have e0 : ((((View.whole main_v27_9).slice (win0_26.rect t)).emb y) 0).val = t.val * 256 + (y 0).val := by blk_simp [idxOut t]
  have e1 : ((((View.whole main_v27_9).slice (win0_26.rect t)).emb y) 1).val = (y 1).val := by blk_simp [idxOut t]
  refine Eq.trans ?_ (rows1_at (dx (A0 m c) (A1 m c) (A2 m c) (A3 m c) (A4 m c) (A5 m c) (A6 m c) (A7 m c) (A8 m c) (A9 m c) (A10 m c) (A11 m c) (A12 m c) (A13 m c) (A14 m c) (A15 m c)) t (y 0) (y 1) _ e0 e1)
  idx_vars y
  exact dxBlk_at m c t y0 y1

/-! ### The two sums over all the rows -/

def lastPoint : Fin grid0.N := ⟨31, by rw [N_0]; decide⟩
theorem lastPoint_val : lastPoint.val + 1 = cfg0.N := N_0.symm

theorem sum_rows (f : Fin 2 → Fin 4096 → EReal) :
    ∑ t : Fin cfg0.N, ∑ r : Fin 256, f (bOf t r) (sOf t r) = ∑ b : Fin 2, ∑ s : Fin 4096, f b s := Maths.sum_rows f

theorem first_of_mod (t : Fin cfg0.N) (h : t.val % 32 = 0) : t.val = 0 := by
  have := lt_of_lt_of_eq t.isLt N_0
  omega

theorem next_of_mod (t : Fin cfg0.N) (h : ¬ t.val % 32 = 0) : t.val ≠ 0 := fun e => h (by rw [e])

theorem zeroG_at (k : Fin 1024) : zeroG (F := Ideal) (ix2 0 k) = 0 := by
  unfold zeroG
  pointwise [k0_pay82]

theorem zeroS_at (k : Fin 1024) : zeroS (F := Ideal) (ix2 0 k) = 0 := by
  unfold zeroS
  pointwise [k0_pay81]

theorem accG_last (c : Dev nD) (j : S1x1024.Idx) : accG m c lastPoint.val lastPoint.isLt j = dgf (A0 m c) (A1 m c) (A2 m c) (A3 m c) (A4 m c) (A5 m c) (A6 m c) (A7 m c) (A8 m c) (A9 m c) (A10 m c) (A11 m c) (A12 m c) (A13 m c) (A14 m c) (A15 m c) (j 1) := by
  rw [Pipeline.eq_sum_fin_of_reset_step_apply_last (fun n h => accG m c n h) 32 (fun _ => 0)
    (fun t (j : S1x1024.Idx) => (∑ r : Fin 256, dy (rowAt m c t r) (gain (A15 m c)) (trow (A3 m c) (bOf t r) (sOf t r)) (j 1) * xh (rowAt m c t r) (j 1) : EReal))
    (fun t h j => by
      rw [accG_first m c t (first_of_mod t h)]
      idx_vars j
      rw [Subsingleton.elim j0 0, stepG_at, zeroG_at])
    (fun t h j => by
      rw [accG_next m c t (next_of_mod t h)]
      idx_vars j
      rw [Subsingleton.elim j0 0, stepG_at])
    (le_of_eq N_0) lastPoint lastPoint_val j, zero_add]
  exact sum_rows fun b s => dy (row2 (A0 m c) (A1 m c) (A2 m c) (A4 m c) (A5 m c) (A6 m c) (A7 m c) (A8 m c) (A9 m c) (A10 m c) (A11 m c) (A12 m c) (A13 m c) (A14 m c) b s) (gain (A15 m c)) (trow (A3 m c) b s) (j 1)
    * xh (row2 (A0 m c) (A1 m c) (A2 m c) (A4 m c) (A5 m c) (A6 m c) (A7 m c) (A8 m c) (A9 m c) (A10 m c) (A11 m c) (A12 m c) (A13 m c) (A14 m c) b s) (j 1)

theorem accS_last (c : Dev nD) (j : S1x1024.Idx) : accS m c lastPoint.val lastPoint.isLt j = ∑ b : Fin 2, ∑ s : Fin 4096, sq (A0 m c) (A1 m c) (A2 m c) (A3 m c) (A4 m c) (A5 m c) (A6 m c) (A7 m c) (A8 m c) (A9 m c) (A10 m c) (A11 m c) (A12 m c) (A13 m c) (A14 m c) (A15 m c) b s (j 1) := by
  rw [Pipeline.eq_sum_fin_of_reset_step_apply_last (fun n h => accS m c n h) 32 (fun _ => 0)
    (fun t (j : S1x1024.Idx) => (∑ r : Fin 256, diff (rowAt m c t r) (gain (A15 m c)) (trow (A3 m c) (bOf t r) (sOf t r)) (j 1)
      * diff (rowAt m c t r) (gain (A15 m c)) (trow (A3 m c) (bOf t r) (sOf t r)) (j 1) : EReal))
    (fun t h j => by
      rw [accS_first m c t (first_of_mod t h)]
      idx_vars j
      rw [Subsingleton.elim j0 0, stepS_at, zeroS_at])
    (fun t h j => by
      rw [accS_next m c t (next_of_mod t h)]
      idx_vars j
      rw [Subsingleton.elim j0 0, stepS_at])
    (le_of_eq N_0) lastPoint lastPoint_val j, zero_add]
  exact sum_rows fun b s => sq (A0 m c) (A1 m c) (A2 m c) (A3 m c) (A4 m c) (A5 m c) (A6 m c) (A7 m c) (A8 m c) (A9 m c) (A10 m c) (A11 m c) (A12 m c) (A13 m c) (A14 m c) (A15 m c) b s (j 1)

theorem final27 (c : Dev nD) : (dats m 0 c).arrAt 27 (cfgs 0).N = fun _ => loss (A0 m c) (A1 m c) (A2 m c) (A3 m c) (A4 m c) (A5 m c) (A6 m c) (A7 m c) (A8 m c) (A9 m c) (A10 m c) (A11 m c) (A12 m c) (A13 m c) (A14 m c) (A15 m c) := by
  refine (dats m 0 c).arrAt_eq_of_after_last 27 lastPoint (by decide +kernel) _ fun j => ?_
  blk_simp
  rw [after0_27]
  idx_vars j
  rw [Subsingleton.elim j0 0]
  refine (loss_pay _ j1).trans ?_
  unfold loss
  exact congrArg (· * _) (Finset.sum_congr rfl fun k _ => accS_last m c (ix2 0 k))

theorem final28 (c : Dev nD) : (dats m 0 c).arrAt 28 (cfgs 0).N = fun i => dgf (A0 m c) (A1 m c) (A2 m c) (A3 m c) (A4 m c) (A5 m c) (A6 m c) (A7 m c) (A8 m c) (A9 m c) (A10 m c) (A11 m c) (A12 m c) (A13 m c) (A14 m c) (A15 m c) (i 1) := by
  refine (dats m 0 c).arrAt_eq_of_after_last 28 lastPoint (by decide +kernel) _ fun j => ?_
  blk_simp
  rw [after0_28]
  exact accG_last m c j

/-! ### What the whole program leaves -/

set_option maxHeartbeats 2000000 in
/-- After a run the twelve results are these arrays and the arguments are as launched. -/
theorem run_values (ρ : Dev nD → PrngReg) :
    θ_run defs (onTc (τ := τ) (main (F := Ideal))) ⟨m, fun _ => 0, ρ⟩ (fun r => ∀ c : Dev nD,
      r.2.mem ((c : Thread nD τ).loc main_v27_0) = (dats m 0 c).arrAt 17 (cfgs 0).N
      ∧ r.2.mem ((c : Thread nD τ).loc main_v27_1) = (dats m 0 c).arrAt 18 (cfgs 0).N
      ∧ r.2.mem ((c : Thread nD τ).loc main_v27_2) = (dats m 0 c).arrAt 19 (cfgs 0).N
      ∧ r.2.mem ((c : Thread nD τ).loc main_v27_3) = (dats m 0 c).arrAt 20 (cfgs 0).N
      ∧ r.2.mem ((c : Thread nD τ).loc main_v27_4) = (dats m 0 c).arrAt 21 (cfgs 0).N
      ∧ r.2.mem ((c : Thread nD τ).loc main_v27_5) = (dats m 0 c).arrAt 22 (cfgs 0).N
      ∧ r.2.mem ((c : Thread nD τ).loc main_v27_6) = (dats m 0 c).arrAt 23 (cfgs 0).N
      ∧ r.2.mem ((c : Thread nD τ).loc main_v27_7) = (dats m 0 c).arrAt 24 (cfgs 0).N
      ∧ r.2.mem ((c : Thread nD τ).loc main_v27_8) = (dats m 0 c).arrAt 25 (cfgs 0).N
      ∧ r.2.mem ((c : Thread nD τ).loc main_v27_9) = (dats m 0 c).arrAt 26 (cfgs 0).N
      ∧ r.2.mem ((c : Thread nD τ).loc main_v27_10) = (dats m 0 c).arrAt 27 (cfgs 0).N
      ∧ r.2.mem ((c : Thread nD τ).loc main_v27_11) = (dats m 0 c).arrAt 28 (cfgs 0).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)) :=
  (θ_run defs _ _).mono (fun r h c => ⟨(h.1 c).1 17, (h.1 c).1 18, (h.1 c).1 19, (h.1 c).1 20, (h.1 c).1 21, (h.1 c).1 22, (h.1 c).1 23, (h.1 c).1 24, (h.1 c).1 25, (h.1 c).1 26, (h.1 c).1 27, (h.1 c).1 28, h.2 c⟩)
    (θ_run_and (run_main m ρ) (frame_of m ρ (dats m) (A_eq m) (run_main m ρ)))

end Cert.Head

end

end
-- ==== Proof.Head.Reference.lean ====
/- What the reference of the second half of a layer and the head computes, element by element. -/
module

public import proofs.«01_k».proof.Proof.Gen.Reference3Ideal.Read
public import proofs.«01_k».proof.Proof.Head.Spec

@[expose] public section

set_option maxRecDepth 16384

noncomputable section

open Idealize.ShloMosaic Idealize.ShloMosaic.TcCoe Idealize.SL.Sem
open Idealize.ShloMosaic.Pipeline (Dat)

namespace Cert.Head

open Cert.Reference3Ideal Cert.Reference3Ideal.Gen Cert.Reference3Ideal.Read

variable (a0 : FVec Ideal S2x4096x1024 .f32) (a1 : FVec Ideal S2x4096x6144 .f32) (a2 a3 : FVec Ideal S2x4096x1024 .f32)
  (a4 a5 : FVec Ideal S1024 .f32) (a6 : FVec Ideal S8x128x128 .f32) (a7 : FVec Ideal S8x128 .f32) (a8 : FVec Ideal S2048 .f32)
  (a9 a10 : FVec Ideal S1024x1024 .f32) (a11 : FVec Ideal S1024 .f32) (a12 a13 : FVec Ideal S1024x2816 .f32)
  (a14 : FVec Ideal S2816x1024 .f32) (a15 : FVec Ideal S1024 .f32)

/-! ### The spatial gating unit -/

theorem ref_v (b : Fin 2) (s : Fin 4096) (k : Fin 1024) : val_main_v1 (F := Ideal) a1 (ix3 b s k) = vrow a1 b s k := by
  pointwise [val_main_v1, vrow]

theorem ref_mean (b : Fin 2) (s : Fin 4096) : val_main_v7 (F := Ideal) a1 (ix3 b s 0) = mean (vrow a1 b s) := by
  unfold mean
  simp only [← ref_v]
  pointwise [val_main_v7, val_main_v6, val_main_v5, val_main_v4, val_main_cst, val_main_cst_0]

theorem ref_centred (b : Fin 2) (s : Fin 4096) (k : Fin 1024) :
    val_main_v16 (F := Ideal) a1 (ix3 b s k) = vrow a1 b s k - mean (vrow a1 b s) := by
  rw [← ref_mean, ← ref_v]
  pointwise [val_main_v16, val_main_v15]

theorem ref_rstdv (b : Fin 2) (s : Fin 4096) : val_main_v19 (F := Ideal) a1 (ix3 b s 0) = rstdv (vrow a1 b s) := by
  unfold rstdv
  simp only [← ref_centred]
  pointwise [val_main_v19, val_main_v18, val_main_v17, val_main_v14, val_main_v13, val_main_v12, val_main_v11, val_main_v10, val_main_v9, val_main_v8, val_main_v16, val_main_v15, val_main_cst_1, val_main_cst_2, val_main_cst_3]

theorem ref_vn (b : Fin 2) (s : Fin 4096) (k : Fin 1024) : val_main_v27 (F := Ideal) a1 a4 a5 (ix3 b s k) = vn a1 a4 a5 b s k := by
  unfold vn lnorm
  rw [← ref_rstdv, ← ref_centred]
  pointwise [val_main_v27, val_main_v26, val_main_v25, val_main_v24, val_main_v23, val_main_v22, val_main_v21, val_main_v20]

theorem ref_mixed (b : Fin 2) (s : Fin 4096) (k : Fin 1024) :
    val_main_v35 (F := Ideal) a1 a4 a5 a6 a7 (ix3 b s k) = mixed a1 a4 a5 a6 a7 b s k := by
  unfold mixed
  simp only [← ref_vn]
  pointwise [val_main_v35, val_main_v34, val_main_v33, val_main_v32, val_main_v31, val_main_v30, val_main_v29, val_main_v28]

theorem ref_gated (b : Fin 2) (s : Fin 4096) (k : Fin 1024) :
    val_main_v36 (F := Ideal) a1 a4 a5 a6 a7 (ix3 b s k) = gated a1 a4 a5 a6 a7 b s k := by
  unfold gated
  rw [← ref_mixed]
  pointwise [val_main_v36, val_main_v0]

theorem ref_yb (b : Fin 2) (s : Fin 4096) (k : Fin 1024) :
    val_main_v37 (F := Ideal) a1 a4 a5 a6 a7 a9 (ix3 b s k) = yb a1 a4 a5 a6 a7 a9 b s k := by
  unfold yb
  simp only [← ref_gated]
  pointwise [val_main_v37]

/-! ### The merge -/

theorem ref_sa (b : Fin 2) (s : Fin 4096) (k : Fin 1024) : val_main_v48 (F := Ideal) a1 a8 (ix3 b s k) = sa a1 a8 b s k := by
  unfold sa Maths.sig
  rw [← Maths.lit_one]
  pointwise [val_main_v48, val_main_v47, val_main_v46, val_main_v45, val_main_v44, val_main_v43, val_main_v42, val_main_v41, val_main_v40, val_main_v38, val_main_v2, val_main_cst_4, val_main_cst_5]

theorem ref_sb (b : Fin 2) (s : Fin 4096) (k : Fin 1024) : val_main_v58 (F := Ideal) a1 a8 (ix3 b s k) = sb a1 a8 b s k := by
  unfold sb Maths.sig
  rw [← Maths.lit_one]
  pointwise [val_main_v58, val_main_v57, val_main_v56, val_main_v55, val_main_v54, val_main_v53, val_main_v52, val_main_v51, val_main_v50, val_main_v39, val_main_v3, val_main_cst_6, val_main_cst_7]

theorem ref_merged (b : Fin 2) (s : Fin 4096) (k : Fin 1024) :
    val_main_v60 (F := Ideal) a1 a2 a4 a5 a6 a7 a8 a9 (ix3 b s k) = merged a1 a2 a4 a5 a6 a7 a8 a9 b s k := by
  unfold merged
  rw [← ref_sa, ← ref_sb, ← ref_yb]
  pointwise [val_main_v60, val_main_v59, val_main_v49]

theorem ref_x1 (b : Fin 2) (s : Fin 4096) (k : Fin 1024) :
    val_main_v62 (F := Ideal) a0 a1 a2 a4 a5 a6 a7 a8 a9 a10 (ix3 b s k) = x1 a0 a1 a2 a4 a5 a6 a7 a8 a9 a10 b s k := by
  unfold x1
  simp only [← ref_merged]
  pointwise [val_main_v62, val_main_v61]

/-! ### The feed-forward block -/

theorem ref_rstd1 (b : Fin 2) (s : Fin 4096) :
    val_main_v70 (F := Ideal) a0 a1 a2 a4 a5 a6 a7 a8 a9 a10 (ix3 b s 0) = Maths.rstd (x1 a0 a1 a2 a4 a5 a6 a7 a8 a9 a10 b s) := by
  unfold Maths.rstd
  simp only [← ref_x1]
  pointwise [val_main_v70, val_main_v69, val_main_v68, val_main_v67, val_main_v66, val_main_v65, val_main_v64, val_main_v63, val_main_cst_8, val_main_cst_9, val_main_cst_10]

theorem ref_h2 (b : Fin 2) (s : Fin 4096) (k : Fin 1024) :
    val_main_v75 (F := Ideal) a0 a1 a2 a4 a5 a6 a7 a8 a9 a10 a11 (ix3 b s k) = h2 a0 a1 a2 a4 a5 a6 a7 a8 a9 a10 a11 b s k := by
  unfold h2
  rw [← ref_rstd1, ← ref_x1]
  pointwise [val_main_v75, val_main_v74, val_main_v73, val_main_v72, val_main_v71]

theorem ref_gate (b : Fin 2) (s : Fin 4096) (f : Fin 2816) :
    val_main_v76 (F := Ideal) a0 a1 a2 a4 a5 a6 a7 a8 a9 a10 a11 a12 (ix3 b s f) = up a0 a1 a2 a4 a5 a6 a7 a8 a9 a10 a11 a12 b s f := by
  unfold up
  simp only [← ref_h2]
  pointwise [val_main_v76]

theorem ref_up (b : Fin 2) (s : Fin 4096) (f : Fin 2816) :
    val_main_v77 (F := Ideal) a0 a1 a2 a4 a5 a6 a7 a8 a9 a10 a11 a13 (ix3 b s f) = up a0 a1 a2 a4 a5 a6 a7 a8 a9 a10 a11 a13 b s f := by
  unfold up
  simp only [← ref_h2]
  pointwise [val_main_v77]

theorem ref_act (b : Fin 2) (s : Fin 4096) (f : Fin 2816) :
    val_main_v79 (F := Ideal) a0 a1 a2 a4 a5 a6 a7 a8 a9 a10 a11 a12 a13 (ix3 b s f)
      = act a0 a1 a2 a4 a5 a6 a7 a8 a9 a10 a11 a12 a13 b s f := by
  unfold act Maths.sig
  rw [← Maths.lit_one, ← ref_gate, ← ref_up]
  pointwise [val_main_v79, val_main_v78, val_main_call0_v5, val_main_call0_v4, val_main_call0_v3, val_main_call0_v2, val_main_call0_v1, val_main_call0_v0, val_main_call0_cst, val_main_call0_cst_0]

theorem ref_x2 (b : Fin 2) (s : Fin 4096) (k : Fin 1024) :
    val_main_v81 (F := Ideal) a0 a1 a2 a4 a5 a6 a7 a8 a9 a10 a11 a12 a13 a14 (ix3 b s k)
      = x2 a0 a1 a2 a4 a5 a6 a7 a8 a9 a10 a11 a12 a13 a14 b s k := by
  unfold x2
  rw [← ref_x1]
  simp only [← ref_act]
  pointwise [val_main_v81, val_main_v80]

/-! ### The loss and its gradient -/

/-- The literals of the mean and of the loss. -/
theorem lit_half : Ideal.ofBits .f32 0x3F000000#32 = ((1 / 2 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_inv : Ideal.ofBits .f32 0x3A800000#32 = ((1 / 1024 : ℝ) : EReal) := by
  simp [Ideal.ofBits, Ideal.ieee, -EReal.coe_mul]; norm_num

theorem lit_half_inv : Ideal.ofBits .f32 0x3A000000#32 = ((1 / 2048 : ℝ) : EReal) := by
  simp [Ideal.ofBits, Ideal.ieee, -EReal.coe_mul]; norm_num

/-- Half the mean's cotangent times twice a number is the number over 1024. -/
theorem twice_half (x : EReal) :
    Ideal.div (Ideal.ofBits .f32 0x3F000000#32 * Ideal.ofBits .f32 0x3F800000#32) (Ideal.ofBits .f32 0x44800000#32)
      * (Ideal.ofBits .f32 0x40000000#32 * x) = x * Ideal.ofBits .f32 0x3A800000#32 := by
  rw [lit_half, lit_two, lit_inv, Maths.lit_one, Maths.lit_1024, mul_one, Maths.div_real _ (by norm_num), ← mul_assoc, mul_comm x,
    ← EReal.coe_mul, ← EReal.coe_mul]
  congr 2; norm_num

theorem ref_ms2 (b : Fin 2) (s : Fin 4096) :
    val_main_v108 (F := Ideal) a0 a1 a2 a4 a5 a6 a7 a8 a9 a10 a11 a12 a13 a14 (ix3 b s 0)
      = Ideal.div (∑ k, row2 a0 a1 a2 a4 a5 a6 a7 a8 a9 a10 a11 a12 a13 a14 b s k * row2 a0 a1 a2 a4 a5 a6 a7 a8 a9 a10 a11 a12 a13 a14 b s k) (Ideal.ofBits .f32 0x44800000#32) + Ideal.ofBits .f32 0x358637BD#32 := by
  simp only [row2, ← ref_x2]
  pointwise [val_main_v108, val_main_v107, val_main_v106, val_main_v105, val_main_v104, val_main_v103, val_main_v102, val_main_cst_18, val_main_cst_19, val_main_cst_20]

theorem ref_rstd2 (b : Fin 2) (s : Fin 4096) :
    val_main_v109 (F := Ideal) a0 a1 a2 a4 a5 a6 a7 a8 a9 a10 a11 a12 a13 a14 (ix3 b s 0) = Maths.rstd (row2 a0 a1 a2 a4 a5 a6 a7 a8 a9 a10 a11 a12 a13 a14 b s) := by
  unfold Maths.rstd
  rw [← ref_ms2]
  pointwise [val_main_v109]

/-- The norm is read twice, for the loss and for its gradient: the first reading is the second. -/
theorem again_rstd2 : val_main_v89 (F := Ideal) a0 a1 a2 a4 a5 a6 a7 a8 a9 a10 a11 a12 a13 a14 = val_main_v109 a0 a1 a2 a4 a5 a6 a7 a8 a9 a10 a11 a12 a13 a14 := rfl

theorem ref_xh (b : Fin 2) (s : Fin 4096) (k : Fin 1024) :
    val_main_v114 (F := Ideal) a0 a1 a2 a4 a5 a6 a7 a8 a9 a10 a11 a12 a13 a14 (ix3 b s k) = xh (row2 a0 a1 a2 a4 a5 a6 a7 a8 a9 a10 a11 a12 a13 a14 b s) k := by
  unfold xh
  rw [← ref_rstd2]
  simp only [row2, ← ref_x2]
  pointwise [val_main_v114, val_main_v113]

theorem ref_diff (b : Fin 2) (s : Fin 4096) (k : Fin 1024) :
    val_main_v118 (F := Ideal) a0 a1 a2 a3 a4 a5 a6 a7 a8 a9 a10 a11 a12 a13 a14 a15 (ix3 b s k) = diff (row2 a0 a1 a2 a4 a5 a6 a7 a8 a9 a10 a11 a12 a13 a14 b s) (gain a15) (trow a3 b s) k := by
  unfold diff
  rw [← ref_xh]
  pointwise [val_main_v118, val_main_v117, val_main_v116, val_main_v115, gain, trow]

theorem again_diff (b : Fin 2) (s : Fin 4096) (k : Fin 1024) :
    val_main_v95 (F := Ideal) a0 a1 a2 a3 a4 a5 a6 a7 a8 a9 a10 a11 a12 a13 a14 a15 (ix3 b s k) = val_main_v118 a0 a1 a2 a3 a4 a5 a6 a7 a8 a9 a10 a11 a12 a13 a14 a15 (ix3 b s k) := by
  pointwise [val_main_v95, val_main_v118, val_main_v94, val_main_v93, val_main_v92, val_main_v91, val_main_v90, val_main_v117, val_main_v116, val_main_v115, val_main_v114, val_main_v113, again_rstd2]

theorem ref_dy (b : Fin 2) (s : Fin 4096) (k : Fin 1024) :
    val_main_v132 (F := Ideal) a0 a1 a2 a3 a4 a5 a6 a7 a8 a9 a10 a11 a12 a13 a14 a15 (ix3 b s k) = dy (row2 a0 a1 a2 a4 a5 a6 a7 a8 a9 a10 a11 a12 a13 a14 b s) (gain a15) (trow a3 b s) k := by
  unfold dy
  rw [← ref_diff, ← twice_half]
  pointwise [val_main_v132, val_main_v131, val_main_v130, val_main_v129, val_main_v128, val_main_v127, val_main_v121, val_main_v120, val_main_cst_22, val_main_cst_27, val_main_cst_28, val_main_cst_29]

theorem ref_dxh (b : Fin 2) (s : Fin 4096) (k : Fin 1024) :
    val_main_v137 (F := Ideal) a0 a1 a2 a3 a4 a5 a6 a7 a8 a9 a10 a11 a12 a13 a14 a15 (ix3 b s k) = dy (row2 a0 a1 a2 a4 a5 a6 a7 a8 a9 a10 a11 a12 a13 a14 b s) (gain a15) (trow a3 b s) k * gain a15 k := by
  rw [← ref_dy]
  pointwise [val_main_v137, val_main_v136, val_main_v115, gain]

theorem ref_dx (b : Fin 2) (s : Fin 4096) (k : Fin 1024) :
    val_main_v152 (F := Ideal) a0 a1 a2 a3 a4 a5 a6 a7 a8 a9 a10 a11 a12 a13 a14 a15 (ix3 b s k) = dx a0 a1 a2 a3 a4 a5 a6 a7 a8 a9 a10 a11 a12 a13 a14 a15 b s k := by
  unfold dx dxRow
  rw [Maths.rmsBack_eq, zero_add]
  unfold Maths.rmsFactor
  rw [← ref_ms2, ← ref_rstd2]
  simp only [← ref_dxh]
  simp only [row2, ← ref_x2]
  pointwise [val_main_v152, val_main_v151, val_main_v150, val_main_v149, val_main_v148, val_main_v147, val_main_v146, val_main_v145, val_main_v144, val_main_v143, val_main_v142, val_main_v141, val_main_v140, val_main_v139, val_main_v112, val_main_v111, val_main_v110, val_main_cst_21, val_main_cst_32, val_main_cst_33, val_main_cst_34]
  simp only [Fin.sum_univ_one]

theorem ref_dgf (k : Fin 1024) : val_main_v172 (F := Ideal) a0 a1 a2 a3 a4 a5 a6 a7 a8 a9 a10 a11 a12 a13 a14 a15 (ix2 0 k) = dgf a0 a1 a2 a3 a4 a5 a6 a7 a8 a9 a10 a11 a12 a13 a14 a15 k := by
  unfold dgf
  simp only [← ref_xh, ← ref_dy]
  pointwise [val_main_v172, val_main_v138, val_main_v135, val_main_v134, val_main_v133, Maths.hostSum_leading, val_main_cst_30, val_main_cst_31]
  simp only [Fin.sum_univ_one]
  exact Finset.sum_congr rfl fun b _ => Finset.sum_congr rfl fun s _ => mul_comm _ _

theorem ref_loss (l : Fin 128) : val_main_v171 (F := Ideal) a0 a1 a2 a3 a4 a5 a6 a7 a8 a9 a10 a11 a12 a13 a14 a15 (ix2 0 l) = loss a0 a1 a2 a3 a4 a5 a6 a7 a8 a9 a10 a11 a12 a13 a14 a15 := by
  unfold loss sq
  simp only [← ref_diff, ← again_diff]
  pointwise [val_main_v171, val_main_v101, val_main_v100, val_main_v99, val_main_v98, val_main_v97, val_main_v96, Maths.hostSum_leading, val_main_cst_14, val_main_cst_15, val_main_cst_16, val_main_cst_17]
  simp only [lit_half, lit_half_inv, Maths.lit_1024, Maths.div_real _ (by norm_num : (1024 : ℝ) ≠ 0),
    Maths.sum_mul_real _ _ (by norm_num : (0 : ℝ) ≤ 1024⁻¹)]
  rw [mul_comm, mul_assoc, ← EReal.coe_mul]
  congr 1
  · exact (Finset.sum_comm.trans (Finset.sum_congr rfl fun b _ => Finset.sum_comm)).symm
  · congr 1; norm_num

/-! ### The results, the rows of both batch entries one after the other -/

theorem ref_mixedRows (i : Fin 8192) (k : Fin 1024) :
    val_main_v154 (F := Ideal) a1 a4 a5 a6 a7 (ix2 i k) = mixed a1 a4 a5 a6 a7 ⟨i.val / 4096, by omega⟩ ⟨i.val % 4096, by omega⟩ k := by
  rw [← ref_mixed]
  pointwise [val_main_v154, val_main_v153]

theorem ref_gatedRows (i : Fin 8192) (k : Fin 1024) :
    val_main_v156 (F := Ideal) a1 a4 a5 a6 a7 (ix2 i k) = gated a1 a4 a5 a6 a7 ⟨i.val / 4096, by omega⟩ ⟨i.val % 4096, by omega⟩ k := by
  rw [← ref_gated]
  pointwise [val_main_v156, val_main_v155]

theorem ref_ybRows (i : Fin 8192) (k : Fin 1024) :
    val_main_v158 (F := Ideal) a1 a4 a5 a6 a7 a9 (ix2 i k) = yb a1 a4 a5 a6 a7 a9 ⟨i.val / 4096, by omega⟩ ⟨i.val % 4096, by omega⟩ k := by
  rw [← ref_yb]
  pointwise [val_main_v158, val_main_v157]

theorem ref_mergedRows (i : Fin 8192) (k : Fin 1024) :
    val_main_v160 (F := Ideal) a1 a2 a4 a5 a6 a7 a8 a9 (ix2 i k) = merged a1 a2 a4 a5 a6 a7 a8 a9 ⟨i.val / 4096, by omega⟩ ⟨i.val % 4096, by omega⟩ k := by
  rw [← ref_merged]
  pointwise [val_main_v160, val_main_v159]

theorem ref_x1Rows (i : Fin 8192) (k : Fin 1024) :
    val_main_v161 (F := Ideal) a0 a1 a2 a4 a5 a6 a7 a8 a9 a10 (ix2 i k) = x1 a0 a1 a2 a4 a5 a6 a7 a8 a9 a10 ⟨i.val / 4096, by omega⟩ ⟨i.val % 4096, by omega⟩ k := by
  rw [← ref_x1]
  pointwise [val_main_v161]

theorem ref_h2Rows (i : Fin 8192) (k : Fin 1024) :
    val_main_v163 (F := Ideal) a0 a1 a2 a4 a5 a6 a7 a8 a9 a10 a11 (ix2 i k) = h2 a0 a1 a2 a4 a5 a6 a7 a8 a9 a10 a11 ⟨i.val / 4096, by omega⟩ ⟨i.val % 4096, by omega⟩ k := by
  rw [← ref_h2]
  pointwise [val_main_v163, val_main_v162]

theorem ref_gateRows (i : Fin 8192) (k : Fin 2816) :
    val_main_v165 (F := Ideal) a0 a1 a2 a4 a5 a6 a7 a8 a9 a10 a11 a12 (ix2 i k) = up a0 a1 a2 a4 a5 a6 a7 a8 a9 a10 a11 a12 ⟨i.val / 4096, by omega⟩ ⟨i.val % 4096, by omega⟩ k := by
  rw [← ref_gate]
  pointwise [val_main_v165, val_main_v164]

theorem ref_upRows (i : Fin 8192) (k : Fin 2816) :
    val_main_v167 (F := Ideal) a0 a1 a2 a4 a5 a6 a7 a8 a9 a10 a11 a13 (ix2 i k) = up a0 a1 a2 a4 a5 a6 a7 a8 a9 a10 a11 a13 ⟨i.val / 4096, by omega⟩ ⟨i.val % 4096, by omega⟩ k := by
  rw [← ref_up]
  pointwise [val_main_v167, val_main_v166]

theorem ref_actRows (i : Fin 8192) (k : Fin 2816) :
    val_main_v169 (F := Ideal) a0 a1 a2 a4 a5 a6 a7 a8 a9 a10 a11 a12 a13 (ix2 i k) = act a0 a1 a2 a4 a5 a6 a7 a8 a9 a10 a11 a12 a13 ⟨i.val / 4096, by omega⟩ ⟨i.val % 4096, by omega⟩ k := by
  rw [← ref_act]
  pointwise [val_main_v169, val_main_v168]

theorem ref_dxRows (i : Fin 8192) (k : Fin 1024) :
    val_main_v170 (F := Ideal) a0 a1 a2 a3 a4 a5 a6 a7 a8 a9 a10 a11 a12 a13 a14 a15 (ix2 i k) = dx a0 a1 a2 a3 a4 a5 a6 a7 a8 a9 a10 a11 a12 a13 a14 a15 ⟨i.val / 4096, by omega⟩ ⟨i.val % 4096, by omega⟩ k := by
  rw [← ref_dx]
  pointwise [val_main_v170]

end Cert.Head
-- ==== Proof.Head.Claim.lean ====
/- The claims about the second half of a layer with the head. -/
module

public import proofs.«01_k».proof.Defs
public import proofs.«01_k».proof.Proof.Gen.Kernel3
public import proofs.«01_k».proof.Proof.Gen.Reference3Ideal.Run
public import proofs.«01_k».proof.Proof.Head.KernelFrame
public import proofs.«01_k».proof.Proof.Head.Array
public import proofs.«01_k».proof.Proof.Head.Reference

@[expose] public section

set_option maxRecDepth 16384

noncomputable section

open Idealize.ShloMosaic Idealize.ShloMosaic.TcCoe Idealize.SL.Sem
open Idealize.ShloMosaic.Pipeline (Dat)

namespace Cert.Head

/-- The frame of the reference: its run ends with its arguments as launched. -/
theorem frame_reference : Cert.quiescent_Reference3Ideal := fun m g _ =>
  (θ_run Cert.Reference3Ideal.defs _ _).mono
    (fun r h => ⟨fun c => (h c).2.2.2.2.2.2.2.2.2.2.2.2, Idealize.ShloMosaic.sem_eq_zero_of_no_sems (by decide) r.2⟩)
    (Cert.Reference3Ideal.Value.run m g)

theorem frame_ideal : Cert.quiescent_Kernel3Ideal := fun m ρ _ => Run.frame (F := Ideal) m ρ

set_option maxHeartbeats 8000000 in
/-- Both programs end with the same twelve results. -/
theorem algebraic : Cert.algebraic_Kernel3Ideal_Reference3Ideal := by
  pair_intro
  · run_from run_values m g
  · have kk : ∀ c, StableHlo.launchContents m' c (Proc.tc.devRef Cert.Reference3Ideal.main_arg0) = A0 m c ∧ StableHlo.launchContents m' c (Proc.tc.devRef Cert.Reference3Ideal.main_arg1) = A1 m c ∧ StableHlo.launchContents m' c (Proc.tc.devRef Cert.Reference3Ideal.main_arg2) = A2 m c ∧ StableHlo.launchContents m' c (Proc.tc.devRef Cert.Reference3Ideal.main_arg3) = A3 m c ∧ StableHlo.launchContents m' c (Proc.tc.devRef Cert.Reference3Ideal.main_arg4) = A4 m c ∧ StableHlo.launchContents m' c (Proc.tc.devRef Cert.Reference3Ideal.main_arg5) = A5 m c ∧ StableHlo.launchContents m' c (Proc.tc.devRef Cert.Reference3Ideal.main_arg6) = A6 m c ∧ StableHlo.launchContents m' c (Proc.tc.devRef Cert.Reference3Ideal.main_arg7) = A7 m c ∧ StableHlo.launchContents m' c (Proc.tc.devRef Cert.Reference3Ideal.main_arg8) = A8 m c ∧ StableHlo.launchContents m' c (Proc.tc.devRef Cert.Reference3Ideal.main_arg9) = A9 m c ∧ StableHlo.launchContents m' c (Proc.tc.devRef Cert.Reference3Ideal.main_arg10) = A10 m c ∧ StableHlo.launchContents m' c (Proc.tc.devRef Cert.Reference3Ideal.main_arg11) = A11 m c ∧ StableHlo.launchContents m' c (Proc.tc.devRef Cert.Reference3Ideal.main_arg12) = A12 m c ∧ StableHlo.launchContents m' c (Proc.tc.devRef Cert.Reference3Ideal.main_arg13) = A13 m c ∧ StableHlo.launchContents m' c (Proc.tc.devRef Cert.Reference3Ideal.main_arg14) = A14 m c ∧ StableHlo.launchContents m' c (Proc.tc.devRef Cert.Reference3Ideal.main_arg15) = A15 m c := fun c => by
      obtain ⟨g0, g1, g2, g3, g4, g5, g6, g7, g8, g9, g10, g11, g12, g13, g14, g15⟩ := hagree c
      exact ⟨g0, g1, g2, g3, g4, g5, g6, g7, g8, g9, g10, g11, g12, g13, g14, g15⟩
    run_from Cert.Reference3Ideal.Value.run m' g'
    all_goals obtain ⟨k0, k1, k2, k3, k4, k5, k6, k7, k8, k9, k10, k11, k12, k13, k14, k15⟩ := kk c
    · rw [Cert.Reference3Ideal.Read.val_main_v154_eq, k1, k4, k5, k6, k7]
      refine Eq.trans ?_ (final17 m c).symm
      funext i
      idx_vars i
      exact ref_mixedRows _ _ _ _ _ i0 i1
    · rw [Cert.Reference3Ideal.Read.val_main_v156_eq, k1, k4, k5, k6, k7]
      refine Eq.trans ?_ (final18 m c).symm
      funext i
      idx_vars i
      exact ref_gatedRows _ _ _ _ _ i0 i1
    · rw [Cert.Reference3Ideal.Read.val_main_v158_eq, k1, k4, k5, k6, k7, k9]
      refine Eq.trans ?_ (final19 m c).symm
      funext i
      idx_vars i
      exact ref_ybRows _ _ _ _ _ _ i0 i1
    · rw [Cert.Reference3Ideal.Read.val_main_v160_eq, k1, k2, k4, k5, k6, k7, k8, k9]
      refine Eq.trans ?_ (final20 m c).symm
      funext i
      idx_vars i
      exact ref_mergedRows _ _ _ _ _ _ _ _ i0 i1
    · rw [Cert.Reference3Ideal.Read.val_main_v161_eq, k0, k1, k2, k4, k5, k6, k7, k8, k9, k10]
      refine Eq.trans ?_ (final21 m c).symm
      funext i
      idx_vars i
      exact ref_x1Rows _ _ _ _ _ _ _ _ _ _ i0 i1
    · rw [Cert.Reference3Ideal.Read.val_main_v163_eq, k0, k1, k2, k4, k5, k6, k7, k8, k9, k10, k11]
      refine Eq.trans ?_ (final22 m c).symm
      funext i
      idx_vars i
      exact ref_h2Rows _ _ _ _ _ _ _ _ _ _ _ i0 i1
    · rw [Cert.Reference3Ideal.Read.val_main_v165_eq, k0, k1, k2, k4, k5, k6, k7, k8, k9, k10, k11, k12]
      refine Eq.trans ?_ (final23 m c).symm
      funext i
      idx_vars i
      exact ref_gateRows _ _ _ _ _ _ _ _ _ _ _ _ i0 i1
    · rw [Cert.Reference3Ideal.Read.val_main_v167_eq, k0, k1, k2, k4, k5, k6, k7, k8, k9, k10, k11, k13]
      refine Eq.trans ?_ (final24 m c).symm
      funext i
      idx_vars i
      exact ref_upRows _ _ _ _ _ _ _ _ _ _ _ _ i0 i1
    · rw [Cert.Reference3Ideal.Read.val_main_v169_eq, k0, k1, k2, k4, k5, k6, k7, k8, k9, k10, k11, k12, k13]
      refine Eq.trans ?_ (final25 m c).symm
      funext i
      idx_vars i
      exact ref_actRows _ _ _ _ _ _ _ _ _ _ _ _ _ i0 i1
    · rw [Cert.Reference3Ideal.Read.val_main_v170_eq, k0, k1, k2, k3, k4, k5, k6, k7, k8, k9, k10, k11, k12, k13, k14, k15]
      refine Eq.trans ?_ (final26 m c).symm
      funext i
      idx_vars i
      exact ref_dxRows _ _ _ _ _ _ _ _ _ _ _ _ _ _ _ _ i0 i1
    · rw [Cert.Reference3Ideal.Read.val_main_v171_eq, k0, k1, k2, k3, k4, k5, k6, k7, k8, k9, k10, k11, k12, k13, k14, k15]
      refine Eq.trans ?_ (final27 m c).symm
      funext i
      idx_vars i
      rw [Subsingleton.elim i0 0]
      exact ref_loss _ _ _ _ _ _ _ _ _ _ _ _ _ _ _ _ i1
    · rw [Cert.Reference3Ideal.Read.val_main_v172_eq, k0, k1, k2, k3, k4, k5, k6, k7, k8, k9, k10, k11, k12, k13, k14, k15]
      refine Eq.trans ?_ (final28 m c).symm
      funext i
      idx_vars i
      rw [Subsingleton.elim i0 0]
      exact ref_dgf _ _ _ _ _ _ _ _ _ _ _ _ _ _ _ _ i1

end Cert.Head

end

end
-- ==== Proof.Merge.Values.lean ====
module

public import proofs.«01_k».proof.Proof.Gen.Kernel4Ideal.Frame
public import proofs.«01_k».proof.Proof.Gen.Kernel4Ideal.Skeleton
public import Idealize.ShloMosaic.Lib.Pipeline.ValueKit
public import Idealize.ShloMosaic.Lib.Pipeline.Value

@[expose] public section

set_option maxRecDepth 16384

noncomputable section

/-! What one grid point of the fused backward pass of the merge computes, as named functions of its input blocks: the values the body passes along, then what it leaves in each output buffer. -/

namespace Cert.Merge.Run

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The blocks of the 18 inputs at one point. -/
structure Ins (F : FTy → Type) where
  /-- the cotangent of the block's output -/
  x0 : Vec F S256x1024 .f32
  /-- columns 2048 to 4095 of the projections: gate operand and value of the spatial unit -/
  x1 : Vec F S256x2048 .bf16
  /-- columns 4096 to 6143 of the projections: the merge gates -/
  x2 : Vec F S256x2048 .bf16
  /-- the convolution branch -/
  x3 : Vec F S256x1024 .bf16
  /-- the spatial branch -/
  x4 : Vec F S256x1024 .bf16
  /-- the mixed values of the spatial unit -/
  x5 : Vec F S256x1024 .bf16
  /-- the normalised convolution -/
  x6 : Vec F S256x1024 .bf16
  /-- the inverse deviation of the convolution's rows -/
  x7 : Vec F S256x1 .f32
  /-- layer-norm gain of the spatial unit -/
  x8 : Vec F S1x1024 .f32
  /-- layer-norm bias of the spatial unit -/
  x9 : Vec F S1x1024 .f32
  /-- spatial weights of the 8 groups -/
  x10 : Vec F S8x128x128 .bf16
  /-- spatial weights, transposed -/
  x11 : Vec F S8x128x128 .bf16
  /-- bias of the merge gates -/
  x12 : Vec F S1x2048 .f32
  /-- layer-norm gain of the convolution -/
  x13 : Vec F S1x1024 .f32
  /-- layer-norm bias of the convolution -/
  x14 : Vec F S1x1024 .f32
  /-- output weights of the convolution branch -/
  x15 : Vec F S4x256x1024 .bf16
  /-- output weights of the spatial branch -/
  x16 : Vec F S4x256x1024 .bf16
  /-- output weights of the block -/
  x17 : Vec F S4x256x1024 .bf16

/-- The value printed as `v9`. -/
def v9 (X : Ins F) : FVec F S256x1024 .f32 :=
  k0_pay18 X.x0 X.x17

/-- The value printed as `v23`. -/
def v23 (X : Ins F) : FVec F S256x1024 .f32 :=
  k0_pay19 (View.ld X.x2 (Rect.unit (s := S256x2048) ![0, 0] S256x1024.size inb_S256x2048_S256x1024_0_0)) (View.ld X.x12 (Rect.unit (s := S1x2048) ![0, 0] S1x1024.size inb_S1x2048_S1x1024_0_0))

/-- The value printed as `v35`. -/
def v35 (X : Ins F) : FVec F S256x1024 .f32 :=
  k0_pay20 (View.ld X.x2 (Rect.unit (s := S256x2048) ![0, 1024] S256x1024.size inb_S256x2048_S256x1024_0_1024)) (View.ld X.x12 (Rect.unit (s := S1x2048) ![0, 1024] S1x1024.size inb_S1x2048_S1x1024_0_1024))

/-- The value printed as `v37`. -/
def v37 (X : Ins F) : FVec F S256x1024 .f32 :=
  k0_pay21 (v35 X) (Scalar.ofBits .f32 0x3F800000#32)

/-- The value printed as `v47`. -/
def v47 (X : Ins F) : FVec F S256x1024 .f32 :=
  k0_pay24 (v9 X) (v23 X) X.x15

/-- The value printed as `v51`. -/
def v51 (X : Ins F) : FVec F S256x1024 .f32 :=
  k0_pay25 (v9 X) (v35 X) (Scalar.ofBits .f32 0x3F800000#32) X.x16

/-- The value printed as `v54`. -/
def v54 (X : Ins F) : FVec F S256x1024 .f32 :=
  k0_pay26 X.x6

/-- The value printed as `v62`. -/
def v62 (X : Ins F) : FVec F S256x1024 .f32 :=
  k0_pay27 X.x6 X.x13 X.x14

/-- The value printed as `v69`. -/
def v69 (X : Ins F) : FVec F S256x1024 .f32 :=
  k0_pay28 X.x6 X.x13 X.x14

/-- The value printed as `v71`. -/
def v71 (X : Ins F) : FVec F S256x1024 .f32 :=
  k0_pay29 X.x6 X.x13 X.x14

/-- The value printed as `v134`. -/
def v134 (X : Ins F) : FVec F S256x1024 .f32 :=
  k0_pay38 (v9 X) (v37 X) X.x4

/-- The value printed as `v143`. -/
def v143 (X : Ins F) (gbIn : Vec F S1x2048 .f32) : FVec F S1x1024 .f32 :=
  k0_pay41 (v9 X) (v23 X) X.x3 (View.ld gbIn (Rect.unit (s := S1x2048) ![0, 0] S1x1024.size inb_S1x2048_S1x1024_0_0))

/-- The value printed as `v163`. -/
def v163 (X : Ins F) : FVec F S256x1024 .f32 :=
  k0_pay44 (v51 X) (View.ld X.x1 (Rect.unit (s := S256x2048) ![0, 0] S256x1024.size inb_S256x2048_S256x1024_0_0))

/-- The value printed as `v177`. -/
def v177 (X : Ins F) : FVec F S256x1 .f32 :=
  k0_pay46 (View.ld X.x1 (Rect.unit (s := S256x2048) ![0, 1024] S256x1024.size inb_S256x2048_S256x1024_0_1024))

/-- The value printed as `v179`. -/
def v179 (X : Ins F) : FVec F S256x1024 .f32 :=
  k0_pay47 (View.ld X.x1 (Rect.unit (s := S256x2048) ![0, 1024] S256x1024.size inb_S256x2048_S256x1024_0_1024))

/-- The value printed as `v181`. -/
def v181 (X : Ins F) : FVec F S1x1024 .f32 :=
  k0_pay48 X.x8

/-- The value printed as `v188`. -/
def v188 (X : Ins F) : FVec F S256x1024 .bf16 :=
  k0_pay49 (v179 X) (v181 X) X.x9

/-- The value printed as `v189`. -/
def v189 (X : Ins F) : FVec F S256x1024 .bf16 :=
  k0_pay50 (v163 X)

/-- The value printed as `v218`. -/
def v218 (X : Ins F) : FVec F S128x128 .f32 :=
  k0_pay56 (v163 X) (View.ld X.x11 (Rect.unit (s := S8x128x128) ![0, 0, 0] S1x128x128.size inb_S8x128x128_S1x128x128_0_0_0))

/-- The value printed as `v248`. -/
def v248 (X : Ins F) : FVec F S128x256 .bf16 :=
  k0_pay63 (v189 X)

/-- The value printed as `v254`. -/
def v254 (X : Ins F) : FVec F S128x128 .f32 :=
  k0_pay65 (v188 X) (v189 X)

/-- The value printed as `v285`. -/
def v285 (X : Ins F) : FVec F S128x256 .f32 :=
  k0_pay72 (v189 X) (View.ld X.x11 (Rect.unit (s := S8x128x128) ![3, 0, 0] S1x128x128.size inb_S8x128x128_S1x128x128_3_0_0))

/-- The value printed as `v286`. -/
def v286 (X : Ins F) : FVec F S128x128 .f32 :=
  k0_pay73 (v189 X) (View.ld X.x11 (Rect.unit (s := S8x128x128) ![3, 0, 0] S1x128x128.size inb_S8x128x128_S1x128x128_3_0_0))

/-- The value printed as `v320`. -/
def v320 (X : Ins F) : FVec F S128x256 .bf16 :=
  k0_pay81 (v189 X)

/-- The value printed as `v323`. -/
def v323 (X : Ins F) : FVec F S128x256 .bf16 :=
  k0_pay82 (v188 X)

/-- The value printed as `v344`. -/
def v344 (X : Ins F) : FVec F S128x256 .bf16 :=
  k0_pay87 (v189 X)

/-- The value printed as `v355`. -/
def v355 (X : Ins F) : Vec F S1x128x128 .bf16 :=
  View.ld X.x11 (Rect.unit (s := S8x128x128) ![6, 0, 0] S1x128x128.size inb_S8x128x128_S1x128x128_6_0_0)

/-- The pieces stored into `dvn`, the last first. -/
def dvnTiles (X : Ins F) : List (View.Piece (Elt F) S256x1024 .f32) :=
  [⟨Rect.unit (s := S256x1024) ![128, 896] S128x128.size inb_S256x1024_S128x128_128_896, k0_pay96 (v189 X) (View.ld X.x11 (Rect.unit (s := S8x128x128) ![7, 0, 0] S1x128x128.size inb_S8x128x128_S1x128x128_7_0_0))⟩,
   ⟨Rect.unit (s := S256x1024) ![0, 896] S128x128.size inb_S256x1024_S128x128_0_896, k0_pay95 (v189 X) (View.ld X.x11 (Rect.unit (s := S8x128x128) ![7, 0, 0] S1x128x128.size inb_S8x128x128_S1x128x128_7_0_0))⟩,
   ⟨Rect.unit (s := S256x1024) ![128, 768] S128x128.size inb_S256x1024_S128x128_128_768, k0_pay91 (v344 X) (v355 X)⟩,
   ⟨Rect.unit (s := S256x1024) ![0, 768] S128x128.size inb_S256x1024_S128x128_0_768, k0_pay90 (v344 X) (v355 X)⟩,
   ⟨Rect.unit (s := S256x1024) ![128, 640] S128x128.size inb_S256x1024_S128x128_128_640, k0_pay86 (v320 X) (View.ld X.x11 (Rect.unit (s := S8x128x128) ![5, 0, 0] S1x128x128.size inb_S8x128x128_S1x128x128_5_0_0))⟩,
   ⟨Rect.unit (s := S256x1024) ![0, 640] S128x128.size inb_S256x1024_S128x128_0_640, k0_pay85 (v320 X) (View.ld X.x11 (Rect.unit (s := S8x128x128) ![5, 0, 0] S1x128x128.size inb_S8x128x128_S1x128x128_5_0_0))⟩,
   ⟨Rect.unit (s := S256x1024) ![128, 512] S128x128.size inb_S256x1024_S128x128_128_512, k0_pay80 (v189 X) (View.ld X.x11 (Rect.unit (s := S8x128x128) ![4, 0, 0] S1x128x128.size inb_S8x128x128_S1x128x128_4_0_0))⟩,
   ⟨Rect.unit (s := S256x1024) ![0, 512] S128x128.size inb_S256x1024_S128x128_0_512, k0_pay79 (v189 X) (View.ld X.x11 (Rect.unit (s := S8x128x128) ![4, 0, 0] S1x128x128.size inb_S8x128x128_S1x128x128_4_0_0))⟩,
   ⟨Rect.unit (s := S256x1024) ![128, 384] S128x128.size inb_S256x1024_S128x128_128_384, k0_pay75 (v285 X)⟩,
   ⟨Rect.unit (s := S256x1024) ![0, 384] S128x128.size inb_S256x1024_S128x128_0_384, k0_pay74 (v286 X)⟩,
   ⟨Rect.unit (s := S256x1024) ![128, 256] S128x128.size inb_S256x1024_S128x128_128_256, k0_pay69 (v248 X) (View.ld X.x11 (Rect.unit (s := S8x128x128) ![2, 0, 0] S1x128x128.size inb_S8x128x128_S1x128x128_2_0_0))⟩,
   ⟨Rect.unit (s := S256x1024) ![0, 256] S128x128.size inb_S256x1024_S128x128_0_256, k0_pay68 (v248 X) (View.ld X.x11 (Rect.unit (s := S8x128x128) ![2, 0, 0] S1x128x128.size inb_S8x128x128_S1x128x128_2_0_0))⟩,
   ⟨Rect.unit (s := S256x1024) ![128, 128] S128x128.size inb_S256x1024_S128x128_128_128, k0_pay62 (v189 X) (View.ld X.x11 (Rect.unit (s := S8x128x128) ![1, 0, 0] S1x128x128.size inb_S8x128x128_S1x128x128_1_0_0))⟩,
   ⟨Rect.unit (s := S256x1024) ![0, 128] S128x128.size inb_S256x1024_S128x128_0_128, k0_pay61 (v189 X) (View.ld X.x11 (Rect.unit (s := S8x128x128) ![1, 0, 0] S1x128x128.size inb_S8x128x128_S1x128x128_1_0_0))⟩,
   ⟨Rect.unit (s := S256x1024) ![128, 0] S128x128.size inb_S256x1024_S128x128_128_0, k0_pay57 (v218 X)⟩,
   ⟨Rect.unit (s := S256x1024) ![0, 0] S128x128.size inb_S256x1024_S128x128_0_0, k0_pay55 (v163 X) (View.ld X.x11 (Rect.unit (s := S8x128x128) ![0, 0, 0] S1x128x128.size inb_S8x128x128_S1x128x128_0_0_0))⟩]

/-- What the pieces leave in `dvn`. -/
def dvn (X : Ins F) : Vec F S256x1024 .f32 :=
  View.canon (dvnTiles X)

/-- What is left in output buffer `arg19`. -/
def dyaBlk (X : Ins F) : Vec F S256x1024 .bf16 :=
  k0_pay22 (v9 X) (v23 X)

/-- What is left in output buffer `arg20`. -/
def dybBlk (X : Ins F) : Vec F S256x1024 .bf16 :=
  k0_pay23 (v9 X) (v35 X) (Scalar.ofBits .f32 0x3F800000#32)

/-- The pieces stored into `stepGB`, the last first. -/
def stepGBTiles (X : Ins F) (gbIn : Vec F S1x2048 .f32) : List (View.Piece (Elt F) S1x2048 .f32) :=
  [⟨Rect.unit (s := S1x2048) ![0, 1024] S1x1024.size inb_S1x2048_S1x1024_0_1024, k0_pay42 (v134 X) (View.ld gbIn (Rect.unit (s := S1x2048) ![0, 1024] S1x1024.size inb_S1x2048_S1x1024_0_1024))⟩,
   ⟨Rect.unit (s := S1x2048) ![0, 0] S1x1024.size inb_S1x2048_S1x1024_0_0, v143 X gbIn⟩]

/-- What the pieces leave in `stepGB`. -/
def stepGB (X : Ins F) (gbIn : Vec F S1x2048 .f32) : Vec F S1x2048 .f32 :=
  View.canon (stepGBTiles X gbIn)

/-- One point's step of the layer-norm gain's gradient. -/
def stepLG (X : Ins F) (lgIn : Vec F S1x1024 .f32) : Vec F S1x1024 .f32 :=
  k0_pay97 (v179 X) (dvn X) lgIn

/-- One point's step of the layer-norm bias's gradient. -/
def stepLB (X : Ins F) (lbIn : Vec F S1x1024 .f32) : Vec F S1x1024 .f32 :=
  k0_pay98 (dvn X) lbIn

/-- The pieces stored into `stepWS`, the last first. -/
def stepWSTiles (X : Ins F) (wsIn : Vec F S8x128x128 .f32) : List (View.Piece (Elt F) S8x128x128 .f32) :=
  [⟨Rect.unit (s := S8x128x128) ![7, 0, 0] S1x128x128.size inb_S8x128x128_S1x128x128_7_0_0, k0_pay93 (v188 X) (v189 X) (View.ld wsIn (Rect.unit (s := S8x128x128) ![7, 0, 0] S1x128x128.size inb_S8x128x128_S1x128x128_7_0_0))⟩,
   ⟨Rect.unit (s := S8x128x128) ![6, 0, 0] S1x128x128.size inb_S8x128x128_S1x128x128_6_0_0, k0_pay88 (v188 X) (v189 X) (View.ld wsIn (Rect.unit (s := S8x128x128) ![6, 0, 0] S1x128x128.size inb_S8x128x128_S1x128x128_6_0_0))⟩,
   ⟨Rect.unit (s := S8x128x128) ![5, 0, 0] S1x128x128.size inb_S8x128x128_S1x128x128_5_0_0, k0_pay83 (v320 X) (v323 X) (View.ld wsIn (Rect.unit (s := S8x128x128) ![5, 0, 0] S1x128x128.size inb_S8x128x128_S1x128x128_5_0_0))⟩,
   ⟨Rect.unit (s := S8x128x128) ![4, 0, 0] S1x128x128.size inb_S8x128x128_S1x128x128_4_0_0, k0_pay77 (v188 X) (v189 X) (View.ld wsIn (Rect.unit (s := S8x128x128) ![4, 0, 0] S1x128x128.size inb_S8x128x128_S1x128x128_4_0_0))⟩,
   ⟨Rect.unit (s := S8x128x128) ![3, 0, 0] S1x128x128.size inb_S8x128x128_S1x128x128_3_0_0, k0_pay71 (v188 X) (v189 X) (View.ld wsIn (Rect.unit (s := S8x128x128) ![3, 0, 0] S1x128x128.size inb_S8x128x128_S1x128x128_3_0_0))⟩,
   ⟨Rect.unit (s := S8x128x128) ![2, 0, 0] S1x128x128.size inb_S8x128x128_S1x128x128_2_0_0, k0_pay66 (k0_pay64 (View.ld wsIn (Rect.unit (s := S8x128x128) ![2, 0, 0] S1x128x128.size inb_S8x128x128_S1x128x128_2_0_0))) (v254 X)⟩,
   ⟨Rect.unit (s := S8x128x128) ![1, 0, 0] S1x128x128.size inb_S8x128x128_S1x128x128_1_0_0, k0_pay59 (v188 X) (v189 X) (View.ld wsIn (Rect.unit (s := S8x128x128) ![1, 0, 0] S1x128x128.size inb_S8x128x128_S1x128x128_1_0_0))⟩,
   ⟨Rect.unit (s := S8x128x128) ![0, 0, 0] S1x128x128.size inb_S8x128x128_S1x128x128_0_0_0, k0_pay53 (v163 X) (v179 X) (v181 X) X.x9 (View.ld wsIn (Rect.unit (s := S8x128x128) ![0, 0, 0] S1x128x128.size inb_S8x128x128_S1x128x128_0_0_0))⟩]

/-- What the pieces leave in `stepWS`. -/
def stepWS (X : Ins F) (wsIn : Vec F S8x128x128 .f32) : Vec F S8x128x128 .f32 :=
  View.canon (stepWSTiles X wsIn)

/-- One point's step of the gradient of the convolution's layer-norm gain. -/
def stepCG (X : Ins F) (cgIn : Vec F S1x1024 .f32) : Vec F S1x1024 .f32 :=
  k0_pay31 (v47 X) (v54 X) (v62 X) (v69 X) (v71 X) cgIn

/-- One point's step of the gradient of the convolution's layer-norm bias. -/
def stepCB (X : Ins F) (cbIn : Vec F S1x1024 .f32) : Vec F S1x1024 .f32 :=
  k0_pay32 (v47 X) (v62 X) (v69 X) (v71 X) cbIn

/-- One point's step of the sums the spatial bias's gradient is taken from. -/
def stepBS (X : Ins F) (bsIn : Vec F S128x1024 .f32) : Vec F S128x1024 .f32 :=
  k0_pay51 (v163 X) bsIn

/-- The gradients summed so far. -/
structure Sums (F : FTy → Type) where
  /-- of the gates' bias -/
  gb : Vec F S1x2048 .f32
  /-- of the spatial unit's layer-norm gain -/
  lg : Vec F S1x1024 .f32
  /-- of its layer-norm bias -/
  lb : Vec F S1x1024 .f32
  /-- of the spatial weights -/
  ws : Vec F S8x128x128 .f32
  /-- of the convolution's layer-norm gain -/
  cg : Vec F S1x1024 .f32
  /-- of the convolution's layer-norm bias -/
  cb : Vec F S1x1024 .f32
  /-- summed over chunks, from which the spatial bias's gradient is taken -/
  bs : Vec F S128x1024 .f32

/-- One point added to every sum. -/
def step (X : Ins F) (A : Sums F) : Sums F :=
  ⟨stepGB X A.gb, stepLG X A.lg, stepLB X A.lb, stepWS X A.ws, stepCG X A.cg, stepCB X A.cb, stepBS X A.bs⟩

/-- The zero block a sum starts from. -/
def zeroGB : Vec F S1x2048 .f32 := k0_pay10 (F := F)

/-- The zero block a sum starts from. -/
def zeroLG : Vec F S1x1024 .f32 := k0_pay11 (F := F)

/-- The zero block a sum starts from. -/
def zeroLB : Vec F S1x1024 .f32 := k0_pay12 (F := F)

/-- The zero block a sum starts from. -/
def zeroWS : Vec F S8x128x128 .f32 := k0_pay13 (F := F)

/-- The zero block a sum starts from. -/
def zeroCG : Vec F S1x1024 .f32 := k0_pay15 (F := F)

/-- The zero block a sum starts from. -/
def zeroCB : Vec F S1x1024 .f32 := k0_pay16 (F := F)

/-- The zero block a sum starts from. -/
def zeroBS : Vec F S128x1024 .f32 := k0_pay14 (F := F)

/-- All sums at zero. -/
def zeros : Sums F := ⟨zeroGB, zeroLG, zeroLB, zeroWS, zeroCG, zeroCB, zeroBS⟩

/-- The rows of the spatial bias's gradient, one per group, the last first. -/
def bsTiles (b : Vec F S128x1024 .f32) : List (View.Piece (Elt F) S1x1024 .f32) :=
  [⟨Rect.unit (s := S1x1024) ![0, 896] S1x128.size inb_S1x1024_S1x128_0_896, k0_pay3 (View.ld b (Rect.unit (s := S128x1024) ![0, 896] S128x128.size inb_S128x1024_S128x128_0_896))⟩,
   ⟨Rect.unit (s := S1x1024) ![0, 768] S1x128.size inb_S1x1024_S1x128_0_768, k0_pay2 (View.ld b (Rect.unit (s := S128x1024) ![0, 768] S128x128.size inb_S128x1024_S128x128_0_768))⟩,
   ⟨Rect.unit (s := S1x1024) ![0, 640] S1x128.size inb_S1x1024_S1x128_0_640, k0_pay1 (k0_pay9 (View.ld b (Rect.unit (s := S128x1024) ![0, 640] S128x128.size inb_S128x1024_S128x128_0_640)))⟩,
   ⟨Rect.unit (s := S1x1024) ![0, 512] S1x128.size inb_S1x1024_S1x128_0_512, k0_pay8 (View.ld b (Rect.unit (s := S128x1024) ![0, 512] S128x128.size inb_S128x1024_S128x128_0_512))⟩,
   ⟨Rect.unit (s := S1x1024) ![0, 384] S1x128.size inb_S1x1024_S1x128_0_384, k0_pay7 (View.ld b (Rect.unit (s := S128x1024) ![0, 384] S128x128.size inb_S128x1024_S128x128_0_384))⟩,
   ⟨Rect.unit (s := S1x1024) ![0, 256] S1x128.size inb_S1x1024_S1x128_0_256, k0_pay6 (View.ld b (Rect.unit (s := S128x1024) ![0, 256] S128x128.size inb_S128x1024_S128x128_0_256))⟩,
   ⟨Rect.unit (s := S1x1024) ![0, 128] S1x128.size inb_S1x1024_S1x128_0_128, k0_pay5 (View.ld b (Rect.unit (s := S128x1024) ![0, 128] S128x128.size inb_S128x1024_S128x128_0_128))⟩,
   ⟨Rect.unit (s := S1x1024) ![0, 0] S1x128.size inb_S1x1024_S1x128_0_0, k0_pay4 (View.ld b (Rect.unit (s := S128x1024) ![0, 0] S128x128.size inb_S128x1024_S128x128_0_0))⟩]

/-- The spatial bias's gradient, written at the last point. -/
def bsBlk (b : Vec F S128x1024 .f32) : Vec F S1x1024 .f32 := View.canon (bsTiles b)

end Cert.Merge.Run

end

end
-- ==== Proof.Merge.Points.lean ====
/- The blocks the merge's backward pass reads at a grid point, and the sums it carries from point to point. -/
module

public import proofs.«01_k».proof.Proof.Merge.Values

@[expose] public section

set_option maxRecDepth 16384

noncomputable section

namespace Cert.Merge.Run

open Cert.Kernel4Ideal Cert.Kernel4Ideal.Gen
open Idealize.ShloMosaic Idealize.ShloMosaic.TcCoe Idealize.SL.Sem

variable {F : FTy → Type} [FloatOps F] (m : (ℓ : Loc nD τ sig) → Buf (Elt F) ℓ)

/-- The input blocks at point `t`. -/
def blk (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t⟩

/-- The gradients summed up to point `n`. -/
def acc (c : Dev nD) : (n : ℕ) → n < cfg0.N → Sums F
  | 0, h => step (blk m c ⟨0, h⟩) zeros
  | n + 1, h => step (blk m c ⟨n + 1, h⟩) (acc c n (Nat.lt_of_succ_lt h))

theorem acc_first (c : Dev nD) (t : Fin cfg0.N) (h : t.val = 0) : acc m c t.val t.isLt = step (blk m c t) zeros := by
  obtain ⟨n, hn⟩ := t
  cases n with
  | zero => rfl
  | succ n => exact absurd h (Nat.succ_ne_zero n)

theorem acc_next (c : Dev nD) (t : Fin cfg0.N) (h : t.val ≠ 0) :
    acc m c t.val t.isLt = step (blk m c t) (acc m c (t.val - 1) (Nat.lt_of_le_of_lt (Nat.sub_le _ _) t.isLt)) := by
  obtain ⟨n, hn⟩ := t
  cases n with
  | zero => exact absurd rfl h
  | succ n => rfl

end Cert.Merge.Run
-- ==== Proof.Merge.RunKit.lean ====
module

public import Idealize.ShloMosaic.Lib.Pipeline.ReadBack
public import proofs.«01_k».proof.Proof.Merge.Values

@[expose] public section

set_option maxRecDepth 16384

noncomputable section

/-! The buffers of one grid point and what they hold before and after it. -/

namespace Cert.Merge.Run

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition the body tests before it clears the sums. -/
abbrev atFirst (i : grid0.Coords) : Prop := (Scalar.cmpi .ne (Scalar.extui (Scalar.cmpi .eq (BitVec.ofNat 32 (i 0).val) 0#32)) 0#32) = 1#1

/-- The condition the body tests before it writes the spatial bias's gradient. -/
abbrev atLast (i : grid0.Coords) : Prop := k0_cond2 i = 1#1

/-- It holds at the first point only. -/
theorem atFirst_iff (t : Fin cfg0.N) : atFirst (grid0.coords t) ↔ t.val = 0 := by
  have ht : t.val < 32 := Nat.lt_of_lt_of_eq t.isLt N_0
  have e0 : (grid0.coords t 0).val = t.val / 1 % 32 := Pipeline.Grid.coords_val t 0 (by decide) rfl
  rw [Nat.div_one, Nat.mod_eq_of_lt ht] at e0
  simp only [atFirst, e0]
  word_cmp

/-- It holds at the last point only. -/
theorem atLast_iff (t : Fin cfg0.N) : atLast (grid0.coords t) ↔ t.val = 31 := by
  have ht : t.val < 32 := Nat.lt_of_lt_of_eq t.isLt N_0
  have e0 : (grid0.coords t 0).val = t.val / 1 % 32 := Pipeline.Grid.coords_val t 0 (by decide) rfl
  rw [Nat.div_one, Nat.mod_eq_of_lt ht] at e0
  simp only [atLast, k0_cond2, e0]
  word_cmp

/-- The buffers the body works on, each a whole buffer. -/
structure Refs where
  a1 : Memref sig .tc .vmem S256x1024 .f32
  h1 : a1.IsWhole
  a2 : Memref sig .tc .vmem S256x2048 .bf16
  h2 : a2.IsWhole
  a3 : Memref sig .tc .vmem S256x2048 .bf16
  h3 : a3.IsWhole
  a4 : Memref sig .tc .vmem S256x1024 .bf16
  h4 : a4.IsWhole
  a5 : Memref sig .tc .vmem S256x1024 .bf16
  h5 : a5.IsWhole
  a6 : Memref sig .tc .vmem S256x1024 .bf16
  h6 : a6.IsWhole
  a7 : Memref sig .tc .vmem S256x1024 .bf16
  h7 : a7.IsWhole
  a8 : Memref sig .tc .vmem S256x1 .f32
  h8 : a8.IsWhole
  a9 : Memref sig .tc .vmem S1x1024 .f32
  h9 : a9.IsWhole
  a10 : Memref sig .tc .vmem S1x1024 .f32
  h10 : a10.IsWhole
  a11 : Memref sig .tc .vmem S8x128x128 .bf16
  h11 : a11.IsWhole
  a12 : Memref sig .tc .vmem S8x128x128 .bf16
  h12 : a12.IsWhole
  a13 : Memref sig .tc .vmem S1x2048 .f32
  h13 : a13.IsWhole
  a14 : Memref sig .tc .vmem S1x1024 .f32
  h14 : a14.IsWhole
  a15 : Memref sig .tc .vmem S1x1024 .f32
  h15 : a15.IsWhole
  a16 : Memref sig .tc .vmem S4x256x1024 .bf16
  h16 : a16.IsWhole
  a17 : Memref sig .tc .vmem S4x256x1024 .bf16
  h17 : a17.IsWhole
  a18 : Memref sig .tc .vmem S4x256x1024 .bf16
  h18 : a18.IsWhole
  a19 : Memref sig .tc .vmem S256x1024 .bf16
  h19 : a19.IsWhole
  a20 : Memref sig .tc .vmem S256x1024 .bf16
  h20 : a20.IsWhole
  a21 : Memref sig .tc .vmem S256x6144 .bf16
  h21 : a21.IsWhole
  a22 : Memref sig .tc .vmem S256x1024 .f32
  h22 : a22.IsWhole
  a23 : Memref sig .tc .vmem S1x2048 .f32
  h23 : a23.IsWhole
  a24 : Memref sig .tc .vmem S1x1024 .f32
  h24 : a24.IsWhole
  a25 : Memref sig .tc .vmem S1x1024 .f32
  h25 : a25.IsWhole
  a26 : Memref sig .tc .vmem S1x1024 .f32
  h26 : a26.IsWhole
  a27 : Memref sig .tc .vmem S8x128x128 .f32
  h27 : a27.IsWhole
  a28 : Memref sig .tc .vmem S1x1024 .f32
  h28 : a28.IsWhole
  a29 : Memref sig .tc .vmem S1x1024 .f32
  h29 : a29.IsWhole
  a30 : Memref sig .tc .vmem S1x1024 .f32
  h30 : a30.IsWhole
  a31 : Memref sig .tc .vmem S256x1024 .f32
  h31 : a31.IsWhole
  a32 : Memref sig .tc .vmem S128x1024 .f32
  h32 : a32.IsWhole

/-- The input buffers hold the input blocks. -/
def held (c : Dev nD) (R : Refs) (X : Ins F) : sProp 𝕄 :=
  iprop(owns (c : Thread nD τ) R.a1 fullShare X.x0
    ∗ owns (c : Thread nD τ) R.a2 fullShare X.x1
    ∗ owns (c : Thread nD τ) R.a3 fullShare X.x2
    ∗ owns (c : Thread nD τ) R.a4 fullShare X.x3
    ∗ owns (c : Thread nD τ) R.a5 fullShare X.x4
    ∗ owns (c : Thread nD τ) R.a6 fullShare X.x5
    ∗ owns (c : Thread nD τ) R.a7 fullShare X.x6
    ∗ owns (c : Thread nD τ) R.a8 fullShare X.x7
    ∗ owns (c : Thread nD τ) R.a9 fullShare X.x8
    ∗ owns (c : Thread nD τ) R.a10 fullShare X.x9
    ∗ owns (c : Thread nD τ) R.a11 fullShare X.x10
    ∗ owns (c : Thread nD τ) R.a12 fullShare X.x11
    ∗ owns (c : Thread nD τ) R.a13 fullShare X.x12
    ∗ owns (c : Thread nD τ) R.a14 fullShare X.x13
    ∗ owns (c : Thread nD τ) R.a15 fullShare X.x14
    ∗ owns (c : Thread nD τ) R.a16 fullShare X.x15
    ∗ owns (c : Thread nD τ) R.a17 fullShare X.x16
    ∗ owns (c : Thread nD τ) R.a18 fullShare X.x17)

/-- The buffers written afresh hold anything. -/
def free (c : Dev nD) (R : Refs) : sProp 𝕄 :=
  iprop((∃ d : Vec F S256x1024 .bf16, owns (c : Thread nD τ) R.a19 fullShare d)
    ∗ (∃ d : Vec F S256x1024 .bf16, owns (c : Thread nD τ) R.a20 fullShare d)
    ∗ (∃ d : Vec F S256x6144 .bf16, owns (c : Thread nD τ) R.a21 fullShare d)
    ∗ (∃ d : Vec F S256x1024 .f32, owns (c : Thread nD τ) R.a22 fullShare d)
    ∗ (∃ d : Vec F S1x1024 .f32, owns (c : Thread nD τ) R.a30 fullShare d)
    ∗ (∃ d : Vec F S256x1024 .f32, owns (c : Thread nD τ) R.a31 fullShare d))

/-- Of the buffers written afresh, those of the branches' cotangents hold the point's results. -/
def left (c : Dev nD) (R : Refs) (X : Ins F) : sProp 𝕄 :=
  iprop(owns (c : Thread nD τ) R.a19 fullShare (dyaBlk X)
    ∗ owns (c : Thread nD τ) R.a20 fullShare (dybBlk X)
    ∗ (∃ d : Vec F S256x6144 .bf16, owns (c : Thread nD τ) R.a21 fullShare d)
    ∗ (∃ d : Vec F S256x1024 .f32, owns (c : Thread nD τ) R.a22 fullShare d)
    ∗ (∃ d : Vec F S1x1024 .f32, owns (c : Thread nD τ) R.a30 fullShare d)
    ∗ (∃ d : Vec F S256x1024 .f32, owns (c : Thread nD τ) R.a31 fullShare d))

/-- The running sums hold `A`. -/
def sums (c : Dev nD) (R : Refs) (A : Sums F) : sProp 𝕄 :=
  iprop(owns (c : Thread nD τ) R.a23 fullShare A.gb
    ∗ owns (c : Thread nD τ) R.a24 fullShare A.lg
    ∗ owns (c : Thread nD τ) R.a25 fullShare A.lb
    ∗ owns (c : Thread nD τ) R.a27 fullShare A.ws
    ∗ owns (c : Thread nD τ) R.a28 fullShare A.cg
    ∗ owns (c : Thread nD τ) R.a29 fullShare A.cb
    ∗ owns (c : Thread nD τ) R.a32 fullShare A.bs)

/-- The running sums hold anything. -/
def unset (c : Dev nD) (R : Refs) : sProp 𝕄 :=
  iprop((∃ d : Vec F S1x2048 .f32, owns (c : Thread nD τ) R.a23 fullShare d)
    ∗ (∃ d : Vec F S1x1024 .f32, owns (c : Thread nD τ) R.a24 fullShare d)
    ∗ (∃ d : Vec F S1x1024 .f32, owns (c : Thread nD τ) R.a25 fullShare d)
    ∗ (∃ d : Vec F S8x128x128 .f32, owns (c : Thread nD τ) R.a27 fullShare d)
    ∗ (∃ d : Vec F S1x1024 .f32, owns (c : Thread nD τ) R.a28 fullShare d)
    ∗ (∃ d : Vec F S1x1024 .f32, owns (c : Thread nD τ) R.a29 fullShare d)
    ∗ (∃ d : Vec F S128x1024 .f32, owns (c : Thread nD τ) R.a32 fullShare d))

/-- The body on these buffers. -/
abbrev body (i : grid0.Coords) (R : Refs) : Prog (TpuEff nD τ sig (Elt F) Λ₀ .tc) PUnit :=
  cc0_merge_sgu_bwd i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 R.a21 R.h21 R.a22 R.h22 R.a23 R.h23 R.a24 R.h24 R.a25 R.h25 R.a26 R.h26 R.a27 R.h27 R.a28 R.h28 R.a29 R.h29 R.a30 R.h30 R.a31 R.h31 R.a32 R.h32

/-- Later stores that cover the whole buffer leave nothing of the earlier ones. -/
theorem canon_append_of_cover {S : Shape} {e : EltTy} (L' : List (View.Piece (Elt F) S e)) : ∀ (L : List (View.Piece (Elt F) S e)) (y : S.Idx),
    (∃ p ∈ L, y ∈ p.1.set) → View.canon (L ++ L') y = View.canon L y
  | [], _, h => by obtain ⟨p, hp, _⟩ := h; exact absurd hp List.not_mem_nil
  | p :: L, y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hy⟩ := h
      rcases List.mem_cons.mp hq with rfl | hq
      · exact absurd hy hm
      · exact canon_append_of_cover L' L y ⟨q, hq, hy⟩

/-- What is read after stores that cover the whole buffer, whatever was stored before. -/
theorem read_writes_append {κ : Kind} {sp : Space} {S : Shape} {e : EltTy} (v : View sig κ sp S e) (f : v.ty.Contents (Elt F))
    (L L' : List (View.Piece (Elt F) S e)) (h : ∀ y, ∃ p ∈ L, y ∈ p.1.set) :
    v.read (Elt F) (v.writes (Elt F) f (L ++ L')) = View.canon L := by
  refine (View.read_writes_eq_canon v f (L ++ L') fun y => ?_).trans (funext fun y => canon_append_of_cover L' L y (h y))
  obtain ⟨p, hp, hy⟩ := h y
  exact ⟨p, List.mem_append_left _ hp, hy⟩

end Cert.Merge.Run

end

end
-- ==== Proof.Merge.RunA.lean ====
module

public import proofs.«01_k».proof.Proof.Merge.RunKit

@[expose] public section

set_option maxRecDepth 16384

noncomputable section

/-! One grid point run through, the first. -/

namespace Cert.Merge.Run

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 60000000 in
/-- One run of the body, first point: all sums start from zero. -/
theorem run_A (c : Dev nD) (i : grid0.Coords) (R : Refs) (X : Ins F) (xi : Vec F S1x1024 .f32)
    (hc0 : atFirst i) (hc1 : ¬atLast i)
    (E : Set ℕ) (K : PUnit → sProp 𝕄) :
    iprop(held c R X ∗ free (F := F) c R ∗ owns (c : Thread nD τ) R.a26 fullShare xi ∗ unset (F := F) c R
        ∗ (iprop(held c R X ∗ left c R X ∗ owns (c : Thread nD τ) R.a26 fullShare xi
            ∗ sums c R (step X zeros)) -∗ K ⟨⟩))
      ⊢ wp frame (wpE (defs₀ (F := F)) Variants.none c none) E (body i R) K := by
  obtain ⟨a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22, a23, h23, a24, h24, a25, h25, a26, h26, a27, h27, a28, h28, a29, h29, a30, h30, a31, h31, a32, h32⟩ := R
  dsimp only [body, held, free, left, sums, step, unset, zeros]
  simp only [cc0_merge_sgu_bwd_eq_skeleton]; unfold cc0_merge_sgu_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩⟩, ⟨⟨%d19, %f19, -, H19⟩, ⟨%d20, %f20, -, H20⟩, ⟨%d21, %f21, -, H21⟩, ⟨%d22, %f22, -, H22⟩, ⟨%d30, %f30, -, H30⟩, ⟨%d31, %f31, -, H31⟩⟩, ⟨%f26, %e26, H26⟩, ⟨⟨%d23, %f23, -, H23⟩, ⟨%d24, %f24, -, H24⟩, ⟨%d25, %f25, -, H25⟩, ⟨%d27, %f27, -, H27⟩, ⟨%d28, %f28, -, H28⟩, ⟨%d29, %f29, -, H29⟩, ⟨%d32, %f32, -, H32⟩⟩, Hk⟩
  sl_exec (disch := first | sl_exact hc0 | sl_exact hc1)
  sl_step
  have wone : run_A.sl.cst_17 (F := F) = (Scalar.ofBits .f32 0x3F800000#32 : F .f32) := by
    unfold run_A.sl.cst_17
    rfl
  have wv139 : run_A.sl.v139 c a23 = View.ld (zeroGB (F := F)) (Rect.unit (s := S1x2048) ![0, 0] S1x1024.size inb_S1x2048_S1x1024_0_0) := by
    unfold run_A.sl.v139
    unfold run_A.sl.H23_1
    exact View.readCov_fill _ _ _ _ _ (by decide)
  have wv145 : run_A.sl.v145 c a1 a3 a4 a13 a18 a23 f1 f3 f4 f13 f18 = View.ld (zeroGB (F := F)) (Rect.unit (s := S1x2048) ![0, 1024] S1x1024.size inb_S1x2048_S1x1024_0_1024) := by
    unfold run_A.sl.v145
    unfold run_A.sl.H23_2
    refine (View.readCov_skip _ _ _ _ _ (by decide)).trans ?_
    unfold run_A.sl.H23_1
    exact View.readCov_fill _ _ _ _ _ (by decide)
  have wv204 : run_A.sl.v204 c a27 = View.ld (zeroWS (F := F)) (Rect.unit (s := S8x128x128) ![0, 0, 0] S1x128x128.size inb_S8x128x128_S1x128x128_0_0_0) := by
    unfold run_A.sl.v204
    unfold run_A.sl.H27_1
    exact View.readCov_fill _ _ _ _ _ (by decide)
  have wv228 : run_A.sl.v228 c a1 a2 a3 a9 a10 a13 a17 a18 a27 f1 f2 f3 f9 f10 f13 f17 f18 = View.ld (zeroWS (F := F)) (Rect.unit (s := S8x128x128) ![1, 0, 0] S1x128x128.size inb_S8x128x128_S1x128x128_1_0_0) := by
    unfold run_A.sl.v228
    unfold run_A.sl.H27_2
    refine (View.readCov_skip _ _ _ _ _ (by decide)).trans ?_
    unfold run_A.sl.H27_1
    exact View.readCov_fill _ _ _ _ _ (by decide)
  have wv252 : run_A.sl.v252 c a1 a2 a3 a9 a10 a13 a17 a18 a27 f1 f2 f3 f9 f10 f13 f17 f18 = View.ld (zeroWS (F := F)) (Rect.unit (s := S8x128x128) ![2, 0, 0] S1x128x128.size inb_S8x128x128_S1x128x128_2_0_0) := by
    unfold run_A.sl.v252
    unfold run_A.sl.H27_3
    refine (View.readCov_skip _ _ _ _ _ (by decide)).trans ?_
    unfold run_A.sl.H27_2
    refine (View.readCov_skip _ _ _ _ _ (by decide)).trans ?_
    unfold run_A.sl.H27_1
    exact View.readCov_fill _ _ _ _ _ (by decide)
  have wv276 : run_A.sl.v276 c a1 a2 a3 a9 a10 a13 a17 a18 a27 f1 f2 f3 f9 f10 f13 f17 f18 = View.ld (zeroWS (F := F)) (Rect.unit (s := S8x128x128) ![3, 0, 0] S1x128x128.size inb_S8x128x128_S1x128x128_3_0_0) := by
    unfold run_A.sl.v276
    unfold run_A.sl.H27_4
    refine (View.readCov_skip _ _ _ _ _ (by decide)).trans ?_
    unfold run_A.sl.H27_3
    refine (View.readCov_skip _ _ _ _ _ (by decide)).trans ?_
    unfold run_A.sl.H27_2
    refine (View.readCov_skip _ _ _ _ _ (by decide)).trans ?_
    unfold run_A.sl.H27_1
    exact View.readCov_fill _ _ _ _ _ (by decide)
  have wv300 : run_A.sl.v300 c a1 a2 a3 a9 a10 a13 a17 a18 a27 f1 f2 f3 f9 f10 f13 f17 f18 = View.ld (zeroWS (F := F)) (Rect.unit (s := S8x128x128) ![4, 0, 0] S1x128x128.size inb_S8x128x128_S1x128x128_4_0_0) := by
    unfold run_A.sl.v300
    unfold run_A.sl.H27_5
    refine (View.readCov_skip _ _ _ _ _ (by decide)).trans ?_
    unfold run_A.sl.H27_4
    refine (View.readCov_skip _ _ _ _ _ (by decide)).trans ?_
    unfold run_A.sl.H27_3
    refine (View.readCov_skip _ _ _ _ _ (by decide)).trans ?_
    unfold run_A.sl.H27_2
    refine (View.readCov_skip _ _ _ _ _ (by decide)).trans ?_
    unfold run_A.sl.H27_1
    exact View.readCov_fill _ _ _ _ _ (by decide)
  have wv324 : run_A.sl.v324 c a1 a2 a3 a9 a10 a13 a17 a18 a27 f1 f2 f3 f9 f10 f13 f17 f18 = View.ld (zeroWS (F := F)) (Rect.unit (s := S8x128x128) ![5, 0, 0] S1x128x128.size inb_S8x128x128_S1x128x128_5_0_0) := by
    unfold run_A.sl.v324
    unfold run_A.sl.H27_6
    refine (View.readCov_skip _ _ _ _ _ (by decide)).trans ?_
    unfold run_A.sl.H27_5
    refine (View.readCov_skip _ _ _ _ _ (by decide)).trans ?_
    unfold run_A.sl.H27_4
    refine (View.readCov_skip _ _ _ _ _ (by decide)).trans ?_
    unfold run_A.sl.H27_3
    refine (View.readCov_skip _ _ _ _ _ (by decide)).trans ?_
    unfold run_A.sl.H27_2
    refine (View.readCov_skip _ _ _ _ _ (by decide)).trans ?_
    unfold run_A.sl.H27_1
    exact View.readCov_fill _ _ _ _ _ (by decide)
  have wv348 : run_A.sl.v348 c a1 a2 a3 a9 a10 a13 a17 a18 a27 f1 f2 f3 f9 f10 f13 f17 f18 = View.ld (zeroWS (F := F)) (Rect.unit (s := S8x128x128) ![6, 0, 0] S1x128x128.size inb_S8x128x128_S1x128x128_6_0_0) := by
    unfold run_A.sl.v348
    unfold run_A.sl.H27_7
    refine (View.readCov_skip _ _ _ _ _ (by decide)).trans ?_
    unfold run_A.sl.H27_6
    refine (View.readCov_skip _ _ _ _ _ (by decide)).trans ?_
    unfold run_A.sl.H27_5
    refine (View.readCov_skip _ _ _ _ _ (by decide)).trans ?_
    unfold run_A.sl.H27_4
    refine (View.readCov_skip _ _ _ _ _ (by decide)).trans ?_
    unfold run_A.sl.H27_3
    refine (View.readCov_skip _ _ _ _ _ (by decide)).trans ?_
    unfold run_A.sl.H27_2
    refine (View.readCov_skip _ _ _ _ _ (by decide)).trans ?_
    unfold run_A.sl.H27_1
    exact View.readCov_fill _ _ _ _ _ (by decide)
  have wv372 : run_A.sl.v372 c a1 a2 a3 a9 a10 a13 a17 a18 a27 f1 f2 f3 f9 f10 f13 f17 f18 = View.ld (zeroWS (F := F)) (Rect.unit (s := S8x128x128) ![7, 0, 0] S1x128x128.size inb_S8x128x128_S1x128x128_7_0_0) := by
    unfold run_A.sl.v372
    unfold run_A.sl.H27_8
    refine (View.readCov_skip _ _ _ _ _ (by decide)).trans ?_
    unfold run_A.sl.H27_7
    refine (View.readCov_skip _ _ _ _ _ (by decide)).trans ?_
    unfold run_A.sl.H27_6
    refine (View.readCov_skip _ _ _ _ _ (by decide)).trans ?_
    unfold run_A.sl.H27_5
    refine (View.readCov_skip _ _ _ _ _ (by decide)).trans ?_
    unfold run_A.sl.H27_4
    refine (View.readCov_skip _ _ _ _ _ (by decide)).trans ?_
    unfold run_A.sl.H27_3
    refine (View.readCov_skip _ _ _ _ _ (by decide)).trans ?_
    unfold run_A.sl.H27_2
    refine (View.readCov_skip _ _ _ _ _ (by decide)).trans ?_
    unfold run_A.sl.H27_1
    exact View.readCov_fill _ _ _ _ _ (by decide)
  have wv391 : run_A.sl.v391 c a24 = zeroLG (F := F) := by
    unfold run_A.sl.v391 run_A.sl.H24_1 zeroLG
    exact View.readCov_unit_lit' _ _ _ (by decide)
  have wv398 : run_A.sl.v398 c a25 = zeroLB (F := F) := by
    unfold run_A.sl.v398 run_A.sl.H25_1 zeroLB
    exact View.readCov_unit_lit' _ _ _ (by decide)
  have wv77 : run_A.sl.v77 c a28 = zeroCG (F := F) := by
    unfold run_A.sl.v77 run_A.sl.H28_1 zeroCG
    exact View.readCov_unit_lit' _ _ _ (by decide)
  have wv84 : run_A.sl.v84 c a29 = zeroCB (F := F) := by
    unfold run_A.sl.v84 run_A.sl.H29_1 zeroCB
    exact View.readCov_unit_lit' _ _ _ (by decide)
  have wv193 : run_A.sl.v193 c a32 = zeroBS (F := F) := by
    unfold run_A.sl.v193 run_A.sl.H32_1 zeroBS
    exact View.readCov_unit_lit' _ _ _ (by decide)
  have w0 : run_A.sl.r c a1 a18 f1 f18 = v9 X := by
    unfold run_A.sl.r v9
    try simp (disch := decide) only [View.readAt_eq_ld, e1, e18, View.ld_unit_lit']
    first | done | rfl
  have w1 : run_A.sl.r_1 c a3 a13 f3 f13 = v23 X := by
    unfold run_A.sl.r_1 v23
    try simp (disch := decide) only [View.readAt_eq_ld, e3, e13, View.ld_unit_lit']
    first | done | rfl
  have w2 : run_A.sl.r_2 c a3 a13 f3 f13 = v35 X := by
    unfold run_A.sl.r_2 v35
    try simp (disch := decide) only [View.readAt_eq_ld, e3, e13, View.ld_unit_lit']
    first | done | rfl
  have w3 : run_A.sl.r_3 c a3 a13 f3 f13 = v37 X := by
    unfold run_A.sl.r_3 v37
    try simp (disch := decide) only [View.readAt_eq_ld, View.ld_unit_lit', w2, wone]
    first | done | rfl
  have w4 : run_A.sl.r_4 c a1 a3 a13 a16 a18 f1 f3 f13 f16 f18 = v47 X := by
    unfold run_A.sl.r_4 v47
    try simp (disch := decide) only [View.readAt_eq_ld, e16, View.ld_unit_lit', w0, w1]
    first | done | rfl
  have w5 : run_A.sl.r_5 c a1 a3 a13 a17 a18 f1 f3 f13 f17 f18 = v51 X := by
    unfold run_A.sl.r_5 v51
    try simp (disch := decide) only [View.readAt_eq_ld, e17, View.ld_unit_lit', w0, w2, wone]
    first | done | rfl
  have w6 : run_A.sl.r_6 c a7 f7 = v54 X := by
    unfold run_A.sl.r_6 v54
    try simp (disch := decide) only [View.readAt_eq_ld, e7, View.ld_unit_lit']
    first | done | rfl
  have w7 : run_A.sl.r_7 c a7 a14 a15 f7 f14 f15 = v62 X := by
    unfold run_A.sl.r_7 v62
    try simp (disch := decide) only [View.readAt_eq_ld, e7, e14, e15, View.ld_unit_lit']
    first | done | rfl
  have w8 : run_A.sl.r_8 c a7 a14 a15 f7 f14 f15 = v69 X := by
    unfold run_A.sl.r_8 v69
    try simp (disch := decide) only [View.readAt_eq_ld, e7, e14, e15, View.ld_unit_lit']
    first | done | rfl
  have w9 : run_A.sl.r_9 c a7 a14 a15 f7 f14 f15 = v71 X := by
    unfold run_A.sl.r_9 v71
    try simp (disch := decide) only [View.readAt_eq_ld, e7, e14, e15, View.ld_unit_lit']
    first | done | rfl
  have w12 : run_A.sl.r_12 c a1 a3 a5 a13 a18 f1 f3 f5 f13 f18 = v134 X := by
    unfold run_A.sl.r_12 v134
    try simp (disch := decide) only [View.readAt_eq_ld, e5, View.ld_unit_lit', w0, w3]
    first | done | rfl
  have w13 : run_A.sl.r_13 c a1 a3 a4 a13 a18 a23 f1 f3 f4 f13 f18 = v143 X zeroGB := by
    unfold run_A.sl.r_13 v143
    try simp (disch := decide) only [View.readAt_eq_ld, e4, View.ld_unit_lit', w0, w1, wv139]
    first | done | rfl
  have w14 : run_A.sl.r_14 c a1 a2 a3 a13 a17 a18 f1 f2 f3 f13 f17 f18 = v163 X := by
    unfold run_A.sl.r_14 v163
    try simp (disch := decide) only [View.readAt_eq_ld, e2, View.ld_unit_lit', w5]
    first | done | rfl
  have w16 : run_A.sl.r_16 c a2 f2 = v179 X := by
    unfold run_A.sl.r_16 v179
    try simp (disch := decide) only [View.readAt_eq_ld, e2, View.ld_unit_lit']
    first | done | rfl
  have w17 : run_A.sl.r_17 c a9 f9 = v181 X := by
    unfold run_A.sl.r_17 v181
    try simp (disch := decide) only [View.readAt_eq_ld, e9, View.ld_unit_lit']
    first | done | rfl
  have w18 : run_A.sl.r_18 c a2 a9 a10 f2 f9 f10 = v188 X := by
    unfold run_A.sl.r_18 v188
    try simp (disch := decide) only [View.readAt_eq_ld, e10, View.ld_unit_lit', w16, w17]
    first | done | rfl
  have w19 : run_A.sl.r_19 c a1 a2 a3 a13 a17 a18 f1 f2 f3 f13 f17 f18 = v189 X := by
    unfold run_A.sl.r_19 v189
    try simp (disch := decide) only [View.readAt_eq_ld, View.ld_unit_lit', w14]
    first | done | rfl
  have w20 : run_A.sl.r_20 c a1 a2 a3 a12 a13 a17 a18 f1 f2 f3 f12 f13 f17 f18 = v218 X := by
    unfold run_A.sl.r_20 v218
    try simp (disch := decide) only [View.readAt_eq_ld, e12, View.ld_unit_lit', w14]
    first | done | rfl
  have w21 : run_A.sl.r_21 c a1 a2 a3 a13 a17 a18 f1 f2 f3 f13 f17 f18 = v248 X := by
    unfold run_A.sl.r_21 v248
    try simp (disch := decide) only [View.readAt_eq_ld, View.ld_unit_lit', w19]
    first | done | rfl
  have w22 : run_A.sl.r_22 c a1 a2 a3 a9 a10 a13 a17 a18 a27 f1 f2 f3 f9 f10 f13 f17 f18 = k0_pay64 (View.ld (zeroWS (F := F)) (Rect.unit (s := S8x128x128) ![2, 0, 0] S1x128x128.size inb_S8x128x128_S1x128x128_2_0_0)) := by
    unfold run_A.sl.r_22
    try simp (disch := decide) only [View.readAt_eq_ld, View.ld_unit_lit', wv252]
    first | done | rfl
  have w23 : run_A.sl.r_23 c a1 a2 a3 a9 a10 a13 a17 a18 f1 f2 f3 f9 f10 f13 f17 f18 = v254 X := by
    unfold run_A.sl.r_23 v254
    try simp (disch := decide) only [View.readAt_eq_ld, View.ld_unit_lit', w18, w19]
    first | done | rfl
  have w24 : run_A.sl.r_24 c a1 a2 a3 a12 a13 a17 a18 f1 f2 f3 f12 f13 f17 f18 = v285 X := by
    unfold run_A.sl.r_24 v285
    try simp (disch := decide) only [View.readAt_eq_ld, e12, View.ld_unit_lit', w19]
    first | done | rfl
  have w25 : run_A.sl.r_25 c a1 a2 a3 a12 a13 a17 a18 f1 f2 f3 f12 f13 f17 f18 = v286 X := by
    unfold run_A.sl.r_25 v286
    try simp (disch := decide) only [View.readAt_eq_ld, e12, View.ld_unit_lit', w19]
    first | done | rfl
  have w26 : run_A.sl.r_26 c a1 a2 a3 a13 a17 a18 f1 f2 f3 f13 f17 f18 = v320 X := by
    unfold run_A.sl.r_26 v320
    try simp (disch := decide) only [View.readAt_eq_ld, View.ld_unit_lit', w19]
    first | done | rfl
  have w27 : run_A.sl.r_27 c a2 a9 a10 f2 f9 f10 = v323 X := by
    unfold run_A.sl.r_27 v323
    try simp (disch := decide) only [View.readAt_eq_ld, View.ld_unit_lit', w18]
    first | done | rfl
  have w28 : run_A.sl.r_28 c a1 a2 a3 a13 a17 a18 f1 f2 f3 f13 f17 f18 = v344 X := by
    unfold run_A.sl.r_28 v344
    try simp (disch := decide) only [View.readAt_eq_ld, View.ld_unit_lit', w19]
    first | done | rfl
  have w29 : run_A.sl.r_29 c a12 f12 = v355 X := by
    unfold run_A.sl.r_29 v355
    try simp (disch := decide) only [View.readAt_eq_ld, e12, View.ld_unit_lit']
    first | done | rfl
  have wtiles : run_A.sl.H31_16 c a1 a2 a3 a12 a13 a17 a18 f1 f2 f3 f12 f13 f17 f18 = dvnTiles X := by
    unfold run_A.sl.H31_16 dvnTiles
    try simp (disch := decide) only [View.readAt_eq_ld, e12, View.ld_unit_lit', w19, w28, w29, w26, w24, w25, w21, w20, w14]
    first | done | rfl
  have wdvn : run_A.sl.v390 c a1 a2 a3 a12 a13 a17 a18 a31 f1 f2 f3 f12 f13 f17 f18 = dvn X := by
    unfold run_A.sl.v390 dvn
    rw [wtiles]
    exact (View.readCov_eq_canon_ld (Val := Elt F) a31.view (dvnTiles X) (Rect.unit (s := S256x1024) ![0, 0] S256x1024.size inb_S256x1024_S256x1024_0_0)
      (View.cover_of_tiledL _ S128x128.size (by sl_kernel_rfl))).trans (View.ld_unit_lit' _ _ (by decide))
  iapply Hk
  isplitl [H1 H2 H3 H4 H5 H6 H7 H8 H9 H10 H11 H12 H13 H14 H15 H16 H17 H18]
  · isplitl [H1]
    · iexists _; isplitr; · ipureintro; exact e1
      iexact H1
    isplitl [H2]
    · iexists _; isplitr; · ipureintro; exact e2
      iexact H2
    isplitl [H3]
    · iexists _; isplitr; · ipureintro; exact e3
      iexact H3
    isplitl [H4]
    · iexists _; isplitr; · ipureintro; exact e4
      iexact H4
    isplitl [H5]
    · iexists _; isplitr; · ipureintro; exact e5
      iexact H5
    isplitl [H6]
    · iexists _; isplitr; · ipureintro; exact e6
      iexact H6
    isplitl [H7]
    · iexists _; isplitr; · ipureintro; exact e7
      iexact H7
    isplitl [H8]
    · iexists _; isplitr; · ipureintro; exact e8
      iexact H8
    isplitl [H9]
    · iexists _; isplitr; · ipureintro; exact e9
      iexact H9
    isplitl [H10]
    · iexists _; isplitr; · ipureintro; exact e10
      iexact H10
    isplitl [H11]
    · iexists _; isplitr; · ipureintro; exact e11
      iexact H11
    isplitl [H12]
    · iexists _; isplitr; · ipureintro; exact e12
      iexact H12
    isplitl [H13]
    · iexists _; isplitr; · ipureintro; exact e13
      iexact H13
    isplitl [H14]
    · iexists _; isplitr; · ipureintro; exact e14
      iexact H14
    isplitl [H15]
    · iexists _; isplitr; · ipureintro; exact e15
      iexact H15
    isplitl [H16]
    · iexists _; isplitr; · ipureintro; exact e16
      iexact H16
    isplitl [H17]
    · iexists _; isplitr; · ipureintro; exact e17
      iexact H17
    iexists _; isplitr; · ipureintro; exact e18
    iexact H18
  isplitl [H19 H20 H21 H22 H30 H31]
  · isplitl [H19]
    · iexists _; isplitr; swap; · iexact H19
      ipureintro
      refine (View.read_writes_eq_canon (Val := Elt F) _ _ _ ?_).trans ?_
      · exact View.cover_of_tiledL _ S256x1024.size (by sl_kernel_rfl)
      unfold dyaBlk
      simp (disch := decide) only [View.canon_cons_unit_lit', View.readAt_eq_ld, View.ld_unit_lit', View.readCov_unit_lit', e1, e2, e3, e4, e5, e6, e7, e8, e9, e10, e11, e12, e13, e14, e15, e16, e17, e18, wone, w0, w1, w2, w3, w4, w5, w6, w7, w8, w9, w12, w13, w14, w16, w17, w18, w19, w20, w21, w22, w23, w24, w25, w26, w27, w28, w29, wdvn, wv139, wv145, wv204, wv228, wv252, wv276, wv300, wv324, wv348, wv372, wv391, wv398, wv77, wv84, wv193]
      first | done | rfl
    isplitl [H20]
    · iexists _; isplitr; swap; · iexact H20
      ipureintro
      refine (View.read_writes_eq_canon (Val := Elt F) _ _ _ ?_).trans ?_
      · exact View.cover_of_tiledL _ S256x1024.size (by sl_kernel_rfl)
      unfold dybBlk
      simp (disch := decide) only [View.canon_cons_unit_lit', View.readAt_eq_ld, View.ld_unit_lit', View.readCov_unit_lit', e1, e2, e3, e4, e5, e6, e7, e8, e9, e10, e11, e12, e13, e14, e15, e16, e17, e18, wone, w0, w1, w2, w3, w4, w5, w6, w7, w8, w9, w12, w13, w14, w16, w17, w18, w19, w20, w21, w22, w23, w24, w25, w26, w27, w28, w29, wdvn, wv139, wv145, wv204, wv228, wv252, wv276, wv300, wv324, wv348, wv372, wv391, wv398, wv77, wv84, wv193]
      first | done | rfl
    isplitl [H21]
    · iexists _; iexists _; isplitr; swap; · iexact H21
      ipureintro; rfl
    isplitl [H22]
    · iexists _; iexists _; isplitr; swap; · iexact H22
      ipureintro; rfl
    isplitl [H30]
    · iexists _; iexists _; isplitr; swap; · iexact H30
      ipureintro; rfl
    iexists _; iexists _; isplitr; swap; · iexact H31
    ipureintro; rfl
  isplitl [H26]
  · iexists _; isplitr; · ipureintro; exact e26
    iexact H26
  isplitl [H23]
  · iexists _; isplitr; swap; · iexact H23
    ipureintro
    refine (congrArg (fun L => a23.view.read (Elt F) (a23.view.writes (Elt F) f23 L)) (?_ : _ = stepGBTiles X zeroGB ++ run_A.sl.H23_1)).trans
      (read_writes_append (F := F) _ _ (stepGBTiles X zeroGB) _ (View.cover_of_tiledL (stepGBTiles X zeroGB) S1x1024.size (by sl_kernel_rfl)))
    unfold run_A.sl.H23_2 stepGBTiles
    simp (disch := decide) only [List.cons_append, List.nil_append, View.canon_cons_unit_lit', View.readAt_eq_ld, View.ld_unit_lit', View.readCov_unit_lit', e1, e2, e3, e4, e5, e6, e7, e8, e9, e10, e11, e12, e13, e14, e15, e16, e17, e18, wone, w0, w1, w2, w3, w4, w5, w6, w7, w8, w9, w12, w13, w14, w16, w17, w18, w19, w20, w21, w22, w23, w24, w25, w26, w27, w28, w29, wdvn, wv139, wv145, wv204, wv228, wv252, wv276, wv300, wv324, wv348, wv372, wv391, wv398, wv77, wv84, wv193]
    first | done | rfl
  isplitl [H24]
  · iexists _; isplitr; swap; · iexact H24
    ipureintro
    refine (View.read_writes_eq_canon (Val := Elt F) _ _ _ ?_).trans ?_
    · exact View.cover_of_tiledL _ S1x1024.size (by sl_kernel_rfl)
    unfold stepLG
    simp (disch := decide) only [View.canon_cons_unit_lit', View.readAt_eq_ld, View.ld_unit_lit', View.readCov_unit_lit', e1, e2, e3, e4, e5, e6, e7, e8, e9, e10, e11, e12, e13, e14, e15, e16, e17, e18, wone, w0, w1, w2, w3, w4, w5, w6, w7, w8, w9, w12, w13, w14, w16, w17, w18, w19, w20, w21, w22, w23, w24, w25, w26, w27, w28, w29, wdvn, wv139, wv145, wv204, wv228, wv252, wv276, wv300, wv324, wv348, wv372, wv391, wv398, wv77, wv84, wv193]
    first | done | rfl
  isplitl [H25]
  · iexists _; isplitr; swap; · iexact H25
    ipureintro
    refine (View.read_writes_eq_canon (Val := Elt F) _ _ _ ?_).trans ?_
    · exact View.cover_of_tiledL _ S1x1024.size (by sl_kernel_rfl)
    unfold stepLB
    simp (disch := decide) only [View.canon_cons_unit_lit', View.readAt_eq_ld, View.ld_unit_lit', View.readCov_unit_lit', e1, e2, e3, e4, e5, e6, e7, e8, e9, e10, e11, e12, e13, e14, e15, e16, e17, e18, wone, w0, w1, w2, w3, w4, w5, w6, w7, w8, w9, w12, w13, w14, w16, w17, w18, w19, w20, w21, w22, w23, w24, w25, w26, w27, w28, w29, wdvn, wv139, wv145, wv204, wv228, wv252, wv276, wv300, wv324, wv348, wv372, wv391, wv398, wv77, wv84, wv193]
    first | done | rfl
  isplitl [H27]
  · iexists _; isplitr; swap; · iexact H27
    ipureintro
    refine (congrArg (fun L => a27.view.read (Elt F) (a27.view.writes (Elt F) f27 L)) (?_ : _ = stepWSTiles X zeroWS ++ run_A.sl.H27_1)).trans
      (read_writes_append (F := F) _ _ (stepWSTiles X zeroWS) _ (View.cover_of_tiledL (stepWSTiles X zeroWS) S1x128x128.size (by sl_kernel_rfl)))
    unfold run_A.sl.H27_8 run_A.sl.H27_7 run_A.sl.H27_6 run_A.sl.H27_5 run_A.sl.H27_4 run_A.sl.H27_3 run_A.sl.H27_2 stepWSTiles
    simp (disch := decide) only [List.cons_append, List.nil_append, View.canon_cons_unit_lit', View.readAt_eq_ld, View.ld_unit_lit', View.readCov_unit_lit', e1, e2, e3, e4, e5, e6, e7, e8, e9, e10, e11, e12, e13, e14, e15, e16, e17, e18, wone, w0, w1, w2, w3, w4, w5, w6, w7, w8, w9, w12, w13, w14, w16, w17, w18, w19, w20, w21, w22, w23, w24, w25, w26, w27, w28, w29, wdvn, wv139, wv145, wv204, wv228, wv252, wv276, wv300, wv324, wv348, wv372, wv391, wv398, wv77, wv84, wv193]
    first | done | rfl
  isplitl [H28]
  · iexists _; isplitr; swap; · iexact H28
    ipureintro
    refine (View.read_writes_eq_canon (Val := Elt F) _ _ _ ?_).trans ?_
    · exact View.cover_of_tiledL _ S1x1024.size (by sl_kernel_rfl)
    unfold stepCG
    simp (disch := decide) only [View.canon_cons_unit_lit', View.readAt_eq_ld, View.ld_unit_lit', View.readCov_unit_lit', e1, e2, e3, e4, e5, e6, e7, e8, e9, e10, e11, e12, e13, e14, e15, e16, e17, e18, wone, w0, w1, w2, w3, w4, w5, w6, w7, w8, w9, w12, w13, w14, w16, w17, w18, w19, w20, w21, w22, w23, w24, w25, w26, w27, w28, w29, wdvn, wv139, wv145, wv204, wv228, wv252, wv276, wv300, wv324, wv348, wv372, wv391, wv398, wv77, wv84, wv193]
    first | done | rfl
  isplitl [H29]
  · iexists _; isplitr; swap; · iexact H29
    ipureintro
    refine (View.read_writes_eq_canon (Val := Elt F) _ _ _ ?_).trans ?_
    · exact View.cover_of_tiledL _ S1x1024.size (by sl_kernel_rfl)
    unfold stepCB
    simp (disch := decide) only [View.canon_cons_unit_lit', View.readAt_eq_ld, View.ld_unit_lit', View.readCov_unit_lit', e1, e2, e3, e4, e5, e6, e7, e8, e9, e10, e11, e12, e13, e14, e15, e16, e17, e18, wone, w0, w1, w2, w3, w4, w5, w6, w7, w8, w9, w12, w13, w14, w16, w17, w18, w19, w20, w21, w22, w23, w24, w25, w26, w27, w28, w29, wdvn, wv139, wv145, wv204, wv228, wv252, wv276, wv300, wv324, wv348, wv372, wv391, wv398, wv77, wv84, wv193]
    first | done | rfl
  iexists _; isplitr; swap; · iexact H32
  ipureintro
  refine (View.read_writes_eq_canon (Val := Elt F) _ _ _ ?_).trans ?_
  · exact View.cover_of_tiledL _ S128x1024.size (by sl_kernel_rfl)
  unfold stepBS
  simp (disch := decide) only [View.canon_cons_unit_lit', View.readAt_eq_ld, View.ld_unit_lit', View.readCov_unit_lit', e1, e2, e3, e4, e5, e6, e7, e8, e9, e10, e11, e12, e13, e14, e15, e16, e17, e18, wone, w0, w1, w2, w3, w4, w5, w6, w7, w8, w9, w12, w13, w14, w16, w17, w18, w19, w20, w21, w22, w23, w24, w25, w26, w27, w28, w29, wdvn, wv139, wv145, wv204, wv228, wv252, wv276, wv300, wv324, wv348, wv372, wv391, wv398, wv77, wv84, wv193]
  first | done | rfl

end Cert.Merge.Run

end

end
-- ==== Proof.Merge.RunB.lean ====
module

public import proofs.«01_k».proof.Proof.Merge.RunKit

@[expose] public section

set_option maxRecDepth 16384

noncomputable section

/-! One grid point run through, a middle one. -/

namespace Cert.Merge.Run

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 60000000 in
/-- One run of the body, middle points. -/
theorem run_B (c : Dev nD) (i : grid0.Coords) (R : Refs) (X : Ins F) (A : Sums F) (xi : Vec F S1x1024 .f32)
    (hc0 : ¬atFirst i) (hc1 : ¬atLast i)
    (E : Set ℕ) (K : PUnit → sProp 𝕄) :
    iprop(held c R X ∗ free (F := F) c R ∗ owns (c : Thread nD τ) R.a26 fullShare xi ∗ sums c R A
        ∗ (iprop(held c R X ∗ left c R X ∗ owns (c : Thread nD τ) R.a26 fullShare xi
            ∗ sums c R (step X A)) -∗ K ⟨⟩))
      ⊢ wp frame (wpE (defs₀ (F := F)) Variants.none c none) E (body i R) K := by
  obtain ⟨a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22, a23, h23, a24, h24, a25, h25, a26, h26, a27, h27, a28, h28, a29, h29, a30, h30, a31, h31, a32, h32⟩ := R
  obtain ⟨gbIn, lgIn, lbIn, wsIn, cgIn, cbIn, bsIn⟩ := A
  dsimp only [body, held, free, left, sums, step]
  simp only [cc0_merge_sgu_bwd_eq_skeleton]; unfold cc0_merge_sgu_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩⟩, ⟨⟨%d19, %f19, -, H19⟩, ⟨%d20, %f20, -, H20⟩, ⟨%d21, %f21, -, H21⟩, ⟨%d22, %f22, -, H22⟩, ⟨%d30, %f30, -, H30⟩, ⟨%d31, %f31, -, H31⟩⟩, ⟨%f26, %e26, H26⟩, ⟨⟨%f23, %e23, H23⟩, ⟨%f24, %e24, H24⟩, ⟨%f25, %e25, H25⟩, ⟨%f27, %e27, H27⟩, ⟨%f28, %e28, H28⟩, ⟨%f29, %e29, H29⟩, ⟨%f32, %e32, H32⟩⟩, Hk⟩
  sl_exec (disch := first | sl_exact hc0 | sl_exact hc1)
  sl_step
  have wone : run_B.sl.cst_17 (F := F) = (Scalar.ofBits .f32 0x3F800000#32 : F .f32) := by
    unfold run_B.sl.cst_17
    rfl
  have wv145 : run_B.sl.v145 c a23 f23 = View.ld gbIn (Rect.unit (s := S1x2048) ![0, 1024] S1x1024.size inb_S1x2048_S1x1024_0_1024) := by
    unfold run_B.sl.v145
    try simp (disch := decide) only [View.readAt_eq_ld, e23, View.ld_unit_lit']
    first | done | rfl
  have wv228 : run_B.sl.v228 c a27 f27 = View.ld wsIn (Rect.unit (s := S8x128x128) ![1, 0, 0] S1x128x128.size inb_S8x128x128_S1x128x128_1_0_0) := by
    unfold run_B.sl.v228
    try simp (disch := decide) only [View.readAt_eq_ld, e27, View.ld_unit_lit']
    first | done | rfl
  have wv252 : run_B.sl.v252 c a27 f27 = View.ld wsIn (Rect.unit (s := S8x128x128) ![2, 0, 0] S1x128x128.size inb_S8x128x128_S1x128x128_2_0_0) := by
    unfold run_B.sl.v252
    try simp (disch := decide) only [View.readAt_eq_ld, e27, View.ld_unit_lit']
    first | done | rfl
  have wv276 : run_B.sl.v276 c a27 f27 = View.ld wsIn (Rect.unit (s := S8x128x128) ![3, 0, 0] S1x128x128.size inb_S8x128x128_S1x128x128_3_0_0) := by
    unfold run_B.sl.v276
    try simp (disch := decide) only [View.readAt_eq_ld, e27, View.ld_unit_lit']
    first | done | rfl
  have wv300 : run_B.sl.v300 c a27 f27 = View.ld wsIn (Rect.unit (s := S8x128x128) ![4, 0, 0] S1x128x128.size inb_S8x128x128_S1x128x128_4_0_0) := by
    unfold run_B.sl.v300
    try simp (disch := decide) only [View.readAt_eq_ld, e27, View.ld_unit_lit']
    first | done | rfl
  have wv324 : run_B.sl.v324 c a27 f27 = View.ld wsIn (Rect.unit (s := S8x128x128) ![5, 0, 0] S1x128x128.size inb_S8x128x128_S1x128x128_5_0_0) := by
    unfold run_B.sl.v324
    try simp (disch := decide) only [View.readAt_eq_ld, e27, View.ld_unit_lit']
    first | done | rfl
  have wv348 : run_B.sl.v348 c a27 f27 = View.ld wsIn (Rect.unit (s := S8x128x128) ![6, 0, 0] S1x128x128.size inb_S8x128x128_S1x128x128_6_0_0) := by
    unfold run_B.sl.v348
    try simp (disch := decide) only [View.readAt_eq_ld, e27, View.ld_unit_lit']
    first | done | rfl
  have wv372 : run_B.sl.v372 c a27 f27 = View.ld wsIn (Rect.unit (s := S8x128x128) ![7, 0, 0] S1x128x128.size inb_S8x128x128_S1x128x128_7_0_0) := by
    unfold run_B.sl.v372
    try simp (disch := decide) only [View.readAt_eq_ld, e27, View.ld_unit_lit']
    first | done | rfl
  have w0 : run_B.sl.r c a1 a18 f1 f18 = v9 X := by
    unfold run_B.sl.r v9
    try simp (disch := decide) only [View.readAt_eq_ld, e1, e18, View.ld_unit_lit']
    first | done | rfl
  have w1 : run_B.sl.r_1 c a3 a13 f3 f13 = v23 X := by
    unfold run_B.sl.r_1 v23
    try simp (disch := decide) only [View.readAt_eq_ld, e3, e13, View.ld_unit_lit']
    first | done | rfl
  have w2 : run_B.sl.r_2 c a3 a13 f3 f13 = v35 X := by
    unfold run_B.sl.r_2 v35
    try simp (disch := decide) only [View.readAt_eq_ld, e3, e13, View.ld_unit_lit']
    first | done | rfl
  have w3 : run_B.sl.r_3 c a3 a13 f3 f13 = v37 X := by
    unfold run_B.sl.r_3 v37
    try simp (disch := decide) only [View.readAt_eq_ld, View.ld_unit_lit', w2, wone]
    first | done | rfl
  have w4 : run_B.sl.r_4 c a1 a3 a13 a16 a18 f1 f3 f13 f16 f18 = v47 X := by
    unfold run_B.sl.r_4 v47
    try simp (disch := decide) only [View.readAt_eq_ld, e16, View.ld_unit_lit', w0, w1]
    first | done | rfl
  have w5 : run_B.sl.r_5 c a1 a3 a13 a17 a18 f1 f3 f13 f17 f18 = v51 X := by
    unfold run_B.sl.r_5 v51
    try simp (disch := decide) only [View.readAt_eq_ld, e17, View.ld_unit_lit', w0, w2, wone]
    first | done | rfl
  have w6 : run_B.sl.r_6 c a7 f7 = v54 X := by
    unfold run_B.sl.r_6 v54
    try simp (disch := decide) only [View.readAt_eq_ld, e7, View.ld_unit_lit']
    first | done | rfl
  have w7 : run_B.sl.r_7 c a7 a14 a15 f7 f14 f15 = v62 X := by
    unfold run_B.sl.r_7 v62
    try simp (disch := decide) only [View.readAt_eq_ld, e7, e14, e15, View.ld_unit_lit']
    first | done | rfl
  have w8 : run_B.sl.r_8 c a7 a14 a15 f7 f14 f15 = v69 X := by
    unfold run_B.sl.r_8 v69
    try simp (disch := decide) only [View.readAt_eq_ld, e7, e14, e15, View.ld_unit_lit']
    first | done | rfl
  have w9 : run_B.sl.r_9 c a7 a14 a15 f7 f14 f15 = v71 X := by
    unfold run_B.sl.r_9 v71
    try simp (disch := decide) only [View.readAt_eq_ld, e7, e14, e15, View.ld_unit_lit']
    first | done | rfl
  have w12 : run_B.sl.r_12 c a1 a3 a5 a13 a18 f1 f3 f5 f13 f18 = v134 X := by
    unfold run_B.sl.r_12 v134
    try simp (disch := decide) only [View.readAt_eq_ld, e5, View.ld_unit_lit', w0, w3]
    first | done | rfl
  have w13 : run_B.sl.r_13 c a1 a3 a4 a13 a18 a23 f1 f3 f4 f13 f18 f23 = v143 X gbIn := by
    unfold run_B.sl.r_13 v143
    try simp (disch := decide) only [View.readAt_eq_ld, e4, e23, View.ld_unit_lit', w0, w1]
    first | done | rfl
  have w14 : run_B.sl.r_14 c a1 a2 a3 a13 a17 a18 f1 f2 f3 f13 f17 f18 = v163 X := by
    unfold run_B.sl.r_14 v163
    try simp (disch := decide) only [View.readAt_eq_ld, e2, View.ld_unit_lit', w5]
    first | done | rfl
  have w16 : run_B.sl.r_16 c a2 f2 = v179 X := by
    unfold run_B.sl.r_16 v179
    try simp (disch := decide) only [View.readAt_eq_ld, e2, View.ld_unit_lit']
    first | done | rfl
  have w17 : run_B.sl.r_17 c a9 f9 = v181 X := by
    unfold run_B.sl.r_17 v181
    try simp (disch := decide) only [View.readAt_eq_ld, e9, View.ld_unit_lit']
    first | done | rfl
  have w18 : run_B.sl.r_18 c a2 a9 a10 f2 f9 f10 = v188 X := by
    unfold run_B.sl.r_18 v188
    try simp (disch := decide) only [View.readAt_eq_ld, e10, View.ld_unit_lit', w16, w17]
    first | done | rfl
  have w19 : run_B.sl.r_19 c a1 a2 a3 a13 a17 a18 f1 f2 f3 f13 f17 f18 = v189 X := by
    unfold run_B.sl.r_19 v189
    try simp (disch := decide) only [View.readAt_eq_ld, View.ld_unit_lit', w14]
    first | done | rfl
  have w20 : run_B.sl.r_20 c a1 a2 a3 a12 a13 a17 a18 f1 f2 f3 f12 f13 f17 f18 = v218 X := by
    unfold run_B.sl.r_20 v218
    try simp (disch := decide) only [View.readAt_eq_ld, e12, View.ld_unit_lit', w14]
    first | done | rfl
  have w21 : run_B.sl.r_21 c a1 a2 a3 a13 a17 a18 f1 f2 f3 f13 f17 f18 = v248 X := by
    unfold run_B.sl.r_21 v248
    try simp (disch := decide) only [View.readAt_eq_ld, View.ld_unit_lit', w19]
    first | done | rfl
  have w22 : run_B.sl.r_22 c a27 f27 = k0_pay64 (View.ld wsIn (Rect.unit (s := S8x128x128) ![2, 0, 0] S1x128x128.size inb_S8x128x128_S1x128x128_2_0_0)) := by
    unfold run_B.sl.r_22
    try simp (disch := decide) only [View.readAt_eq_ld, View.ld_unit_lit', wv252]
    first | done | rfl
  have w23 : run_B.sl.r_23 c a1 a2 a3 a9 a10 a13 a17 a18 f1 f2 f3 f9 f10 f13 f17 f18 = v254 X := by
    unfold run_B.sl.r_23 v254
    try simp (disch := decide) only [View.readAt_eq_ld, View.ld_unit_lit', w18, w19]
    first | done | rfl
  have w24 : run_B.sl.r_24 c a1 a2 a3 a12 a13 a17 a18 f1 f2 f3 f12 f13 f17 f18 = v285 X := by
    unfold run_B.sl.r_24 v285
    try simp (disch := decide) only [View.readAt_eq_ld, e12, View.ld_unit_lit', w19]
    first | done | rfl
  have w25 : run_B.sl.r_25 c a1 a2 a3 a12 a13 a17 a18 f1 f2 f3 f12 f13 f17 f18 = v286 X := by
    unfold run_B.sl.r_25 v286
    try simp (disch := decide) only [View.readAt_eq_ld, e12, View.ld_unit_lit', w19]
    first | done | rfl
  have w26 : run_B.sl.r_26 c a1 a2 a3 a13 a17 a18 f1 f2 f3 f13 f17 f18 = v320 X := by
    unfold run_B.sl.r_26 v320
    try simp (disch := decide) only [View.readAt_eq_ld, View.ld_unit_lit', w19]
    first | done | rfl
  have w27 : run_B.sl.r_27 c a2 a9 a10 f2 f9 f10 = v323 X := by
    unfold run_B.sl.r_27 v323
    try simp (disch := decide) only [View.readAt_eq_ld, View.ld_unit_lit', w18]
    first | done | rfl
  have w28 : run_B.sl.r_28 c a1 a2 a3 a13 a17 a18 f1 f2 f3 f13 f17 f18 = v344 X := by
    unfold run_B.sl.r_28 v344
    try simp (disch := decide) only [View.readAt_eq_ld, View.ld_unit_lit', w19]
    first | done | rfl
  have w29 : run_B.sl.r_29 c a12 f12 = v355 X := by
    unfold run_B.sl.r_29 v355
    try simp (disch := decide) only [View.readAt_eq_ld, e12, View.ld_unit_lit']
    first | done | rfl
  have wtiles : run_B.sl.H31_16 c a1 a2 a3 a12 a13 a17 a18 f1 f2 f3 f12 f13 f17 f18 = dvnTiles X := by
    unfold run_B.sl.H31_16 dvnTiles
    try simp (disch := decide) only [View.readAt_eq_ld, e12, View.ld_unit_lit', w19, w28, w29, w26, w24, w25, w21, w20, w14]
    first | done | rfl
  have wdvn : run_B.sl.v390 c a1 a2 a3 a12 a13 a17 a18 a31 f1 f2 f3 f12 f13 f17 f18 = dvn X := by
    unfold run_B.sl.v390 dvn
    rw [wtiles]
    exact (View.readCov_eq_canon_ld (Val := Elt F) a31.view (dvnTiles X) (Rect.unit (s := S256x1024) ![0, 0] S256x1024.size inb_S256x1024_S256x1024_0_0)
      (View.cover_of_tiledL _ S128x128.size (by sl_kernel_rfl))).trans (View.ld_unit_lit' _ _ (by decide))
  iapply Hk
  isplitl [H1 H2 H3 H4 H5 H6 H7 H8 H9 H10 H11 H12 H13 H14 H15 H16 H17 H18]
  · isplitl [H1]
    · iexists _; isplitr; · ipureintro; exact e1
      iexact H1
    isplitl [H2]
    · iexists _; isplitr; · ipureintro; exact e2
      iexact H2
    isplitl [H3]
    · iexists _; isplitr; · ipureintro; exact e3
      iexact H3
    isplitl [H4]
    · iexists _; isplitr; · ipureintro; exact e4
      iexact H4
    isplitl [H5]
    · iexists _; isplitr; · ipureintro; exact e5
      iexact H5
    isplitl [H6]
    · iexists _; isplitr; · ipureintro; exact e6
      iexact H6
    isplitl [H7]
    · iexists _; isplitr; · ipureintro; exact e7
      iexact H7
    isplitl [H8]
    · iexists _; isplitr; · ipureintro; exact e8
      iexact H8
    isplitl [H9]
    · iexists _; isplitr; · ipureintro; exact e9
      iexact H9
    isplitl [H10]
    · iexists _; isplitr; · ipureintro; exact e10
      iexact H10
    isplitl [H11]
    · iexists _; isplitr; · ipureintro; exact e11
      iexact H11
    isplitl [H12]
    · iexists _; isplitr; · ipureintro; exact e12
      iexact H12
    isplitl [H13]
    · iexists _; isplitr; · ipureintro; exact e13
      iexact H13
    isplitl [H14]
    · iexists _; isplitr; · ipureintro; exact e14
      iexact H14
    isplitl [H15]
    · iexists _; isplitr; · ipureintro; exact e15
      iexact H15
    isplitl [H16]
    · iexists _; isplitr; · ipureintro; exact e16
      iexact H16
    isplitl [H17]
    · iexists _; isplitr; · ipureintro; exact e17
      iexact H17
    iexists _; isplitr; · ipureintro; exact e18
    iexact H18
  isplitl [H19 H20 H21 H22 H30 H31]
  · isplitl [H19]
    · iexists _; isplitr; swap; · iexact H19
      ipureintro
      refine (View.read_writes_eq_canon (Val := Elt F) _ _ _ ?_).trans ?_
      · exact View.cover_of_tiledL _ S256x1024.size (by sl_kernel_rfl)
      unfold dyaBlk
      simp (disch := decide) only [View.canon_cons_unit_lit', View.readAt_eq_ld, View.ld_unit_lit', View.readCov_unit_lit', e1, e2, e3, e4, e5, e6, e7, e8, e9, e10, e11, e12, e13, e14, e15, e16, e17, e18, e23, e24, e25, e27, e28, e29, e32, wone, w0, w1, w2, w3, w4, w5, w6, w7, w8, w9, w12, w13, w14, w16, w17, w18, w19, w20, w21, w22, w23, w24, w25, w26, w27, w28, w29, wdvn, wv145, wv228, wv252, wv276, wv300, wv324, wv348, wv372]
      first | done | rfl
    isplitl [H20]
    · iexists _; isplitr; swap; · iexact H20
      ipureintro
      refine (View.read_writes_eq_canon (Val := Elt F) _ _ _ ?_).trans ?_
      · exact View.cover_of_tiledL _ S256x1024.size (by sl_kernel_rfl)
      unfold dybBlk
      simp (disch := decide) only [View.canon_cons_unit_lit', View.readAt_eq_ld, View.ld_unit_lit', View.readCov_unit_lit', e1, e2, e3, e4, e5, e6, e7, e8, e9, e10, e11, e12, e13, e14, e15, e16, e17, e18, e23, e24, e25, e27, e28, e29, e32, wone, w0, w1, w2, w3, w4, w5, w6, w7, w8, w9, w12, w13, w14, w16, w17, w18, w19, w20, w21, w22, w23, w24, w25, w26, w27, w28, w29, wdvn, wv145, wv228, wv252, wv276, wv300, wv324, wv348, wv372]
      first | done | rfl
    isplitl [H21]
    · iexists _; iexists _; isplitr; swap; · iexact H21
      ipureintro; rfl
    isplitl [H22]
    · iexists _; iexists _; isplitr; swap; · iexact H22
      ipureintro; rfl
    isplitl [H30]
    · iexists _; iexists _; isplitr; swap; · iexact H30
      ipureintro; rfl
    iexists _; iexists _; isplitr; swap; · iexact H31
    ipureintro; rfl
  isplitl [H26]
  · iexists _; isplitr; · ipureintro; exact e26
    iexact H26
  isplitl [H23]
  · iexists _; isplitr; swap; · iexact H23
    ipureintro
    refine (View.read_writes_eq_canon (Val := Elt F) _ _ _ ?_).trans ?_
    · exact View.cover_of_tiledL _ S1x1024.size (by sl_kernel_rfl)
    unfold stepGB stepGBTiles
    simp (disch := decide) only [View.canon_cons_unit_lit', View.readAt_eq_ld, View.ld_unit_lit', View.readCov_unit_lit', e1, e2, e3, e4, e5, e6, e7, e8, e9, e10, e11, e12, e13, e14, e15, e16, e17, e18, e23, e24, e25, e27, e28, e29, e32, wone, w0, w1, w2, w3, w4, w5, w6, w7, w8, w9, w12, w13, w14, w16, w17, w18, w19, w20, w21, w22, w23, w24, w25, w26, w27, w28, w29, wdvn, wv145, wv228, wv252, wv276, wv300, wv324, wv348, wv372]
    first | done | rfl
  isplitl [H24]
  · iexists _; isplitr; swap; · iexact H24
    ipureintro
    refine (View.read_writes_eq_canon (Val := Elt F) _ _ _ ?_).trans ?_
    · exact View.cover_of_tiledL _ S1x1024.size (by sl_kernel_rfl)
    unfold stepLG
    simp (disch := decide) only [View.canon_cons_unit_lit', View.readAt_eq_ld, View.ld_unit_lit', View.readCov_unit_lit', e1, e2, e3, e4, e5, e6, e7, e8, e9, e10, e11, e12, e13, e14, e15, e16, e17, e18, e23, e24, e25, e27, e28, e29, e32, wone, w0, w1, w2, w3, w4, w5, w6, w7, w8, w9, w12, w13, w14, w16, w17, w18, w19, w20, w21, w22, w23, w24, w25, w26, w27, w28, w29, wdvn, wv145, wv228, wv252, wv276, wv300, wv324, wv348, wv372]
    first | done | rfl
  isplitl [H25]
  · iexists _; isplitr; swap; · iexact H25
    ipureintro
    refine (View.read_writes_eq_canon (Val := Elt F) _ _ _ ?_).trans ?_
    · exact View.cover_of_tiledL _ S1x1024.size (by sl_kernel_rfl)
    unfold stepLB
    simp (disch := decide) only [View.canon_cons_unit_lit', View.readAt_eq_ld, View.ld_unit_lit', View.readCov_unit_lit', e1, e2, e3, e4, e5, e6, e7, e8, e9, e10, e11, e12, e13, e14, e15, e16, e17, e18, e23, e24, e25, e27, e28, e29, e32, wone, w0, w1, w2, w3, w4, w5, w6, w7, w8, w9, w12, w13, w14, w16, w17, w18, w19, w20, w21, w22, w23, w24, w25, w26, w27, w28, w29, wdvn, wv145, wv228, wv252, wv276, wv300, wv324, wv348, wv372]
    first | done | rfl
  isplitl [H27]
  · iexists _; isplitr; swap; · iexact H27
    ipureintro
    refine (View.read_writes_eq_canon (Val := Elt F) _ _ _ ?_).trans ?_
    · exact View.cover_of_tiledL _ S1x128x128.size (by sl_kernel_rfl)
    unfold stepWS stepWSTiles
    simp (disch := decide) only [View.canon_cons_unit_lit', View.readAt_eq_ld, View.ld_unit_lit', View.readCov_unit_lit', e1, e2, e3, e4, e5, e6, e7, e8, e9, e10, e11, e12, e13, e14, e15, e16, e17, e18, e23, e24, e25, e27, e28, e29, e32, wone, w0, w1, w2, w3, w4, w5, w6, w7, w8, w9, w12, w13, w14, w16, w17, w18, w19, w20, w21, w22, w23, w24, w25, w26, w27, w28, w29, wdvn, wv145, wv228, wv252, wv276, wv300, wv324, wv348, wv372]
    first | done | rfl
  isplitl [H28]
  · iexists _; isplitr; swap; · iexact H28
    ipureintro
    refine (View.read_writes_eq_canon (Val := Elt F) _ _ _ ?_).trans ?_
    · exact View.cover_of_tiledL _ S1x1024.size (by sl_kernel_rfl)
    unfold stepCG
    simp (disch := decide) only [View.canon_cons_unit_lit', View.readAt_eq_ld, View.ld_unit_lit', View.readCov_unit_lit', e1, e2, e3, e4, e5, e6, e7, e8, e9, e10, e11, e12, e13, e14, e15, e16, e17, e18, e23, e24, e25, e27, e28, e29, e32, wone, w0, w1, w2, w3, w4, w5, w6, w7, w8, w9, w12, w13, w14, w16, w17, w18, w19, w20, w21, w22, w23, w24, w25, w26, w27, w28, w29, wdvn, wv145, wv228, wv252, wv276, wv300, wv324, wv348, wv372]
    first | done | rfl
  isplitl [H29]
  · iexists _; isplitr; swap; · iexact H29
    ipureintro
    refine (View.read_writes_eq_canon (Val := Elt F) _ _ _ ?_).trans ?_
    · exact View.cover_of_tiledL _ S1x1024.size (by sl_kernel_rfl)
    unfold stepCB
    simp (disch := decide) only [View.canon_cons_unit_lit', View.readAt_eq_ld, View.ld_unit_lit', View.readCov_unit_lit', e1, e2, e3, e4, e5, e6, e7, e8, e9, e10, e11, e12, e13, e14, e15, e16, e17, e18, e23, e24, e25, e27, e28, e29, e32, wone, w0, w1, w2, w3, w4, w5, w6, w7, w8, w9, w12, w13, w14, w16, w17, w18, w19, w20, w21, w22, w23, w24, w25, w26, w27, w28, w29, wdvn, wv145, wv228, wv252, wv276, wv300, wv324, wv348, wv372]
    first | done | rfl
  iexists _; isplitr; swap; · iexact H32
  ipureintro
  refine (View.read_writes_eq_canon (Val := Elt F) _ _ _ ?_).trans ?_
  · exact View.cover_of_tiledL _ S128x1024.size (by sl_kernel_rfl)
  unfold stepBS
  simp (disch := decide) only [View.canon_cons_unit_lit', View.readAt_eq_ld, View.ld_unit_lit', View.readCov_unit_lit', e1, e2, e3, e4, e5, e6, e7, e8, e9, e10, e11, e12, e13, e14, e15, e16, e17, e18, e23, e24, e25, e27, e28, e29, e32, wone, w0, w1, w2, w3, w4, w5, w6, w7, w8, w9, w12, w13, w14, w16, w17, w18, w19, w20, w21, w22, w23, w24, w25, w26, w27, w28, w29, wdvn, wv145, wv228, wv252, wv276, wv300, wv324, wv348, wv372]
  first | done | rfl

end Cert.Merge.Run

end

end
-- ==== Proof.Merge.RunC.lean ====
module

public import proofs.«01_k».proof.Proof.Merge.RunKit

@[expose] public section

set_option maxRecDepth 16384

noncomputable section

/-! One grid point run through, the last. -/

namespace Cert.Merge.Run

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 60000000 in
/-- One run of the body, last point: the spatial bias's gradient is written too. -/
theorem run_C (c : Dev nD) (i : grid0.Coords) (R : Refs) (X : Ins F) (A : Sums F)
    (hc0 : ¬atFirst i) (hc1 : atLast i)
    (E : Set ℕ) (K : PUnit → sProp 𝕄) :
    iprop(held c R X ∗ free (F := F) c R ∗ (∃ d : Vec F S1x1024 .f32, owns (c : Thread nD τ) R.a26 fullShare d) ∗ sums c R A
        ∗ (iprop(held c R X ∗ left c R X ∗ owns (c : Thread nD τ) R.a26 fullShare (bsBlk (step X A).bs)
            ∗ sums c R (step X A)) -∗ K ⟨⟩))
      ⊢ wp frame (wpE (defs₀ (F := F)) Variants.none c none) E (body i R) K := by
  obtain ⟨a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22, a23, h23, a24, h24, a25, h25, a26, h26, a27, h27, a28, h28, a29, h29, a30, h30, a31, h31, a32, h32⟩ := R
  obtain ⟨gbIn, lgIn, lbIn, wsIn, cgIn, cbIn, bsIn⟩ := A
  dsimp only [body, held, free, left, sums, step]
  simp only [cc0_merge_sgu_bwd_eq_skeleton]; unfold cc0_merge_sgu_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩⟩, ⟨⟨%d19, %f19, -, H19⟩, ⟨%d20, %f20, -, H20⟩, ⟨%d21, %f21, -, H21⟩, ⟨%d22, %f22, -, H22⟩, ⟨%d30, %f30, -, H30⟩, ⟨%d31, %f31, -, H31⟩⟩, ⟨%d26, %f26, -, H26⟩, ⟨⟨%f23, %e23, H23⟩, ⟨%f24, %e24, H24⟩, ⟨%f25, %e25, H25⟩, ⟨%f27, %e27, H27⟩, ⟨%f28, %e28, H28⟩, ⟨%f29, %e29, H29⟩, ⟨%f32, %e32, H32⟩⟩, Hk⟩
  sl_exec (disch := first | sl_exact hc0 | sl_exact hc1)
  sl_step
  have wone : run_C.sl.cst_17 (F := F) = (Scalar.ofBits .f32 0x3F800000#32 : F .f32) := by
    unfold run_C.sl.cst_17
    rfl
  have wv145 : run_C.sl.v145 c a23 f23 = View.ld gbIn (Rect.unit (s := S1x2048) ![0, 1024] S1x1024.size inb_S1x2048_S1x1024_0_1024) := by
    unfold run_C.sl.v145
    try simp (disch := decide) only [View.readAt_eq_ld, e23, View.ld_unit_lit']
    first | done | rfl
  have wv228 : run_C.sl.v228 c a27 f27 = View.ld wsIn (Rect.unit (s := S8x128x128) ![1, 0, 0] S1x128x128.size inb_S8x128x128_S1x128x128_1_0_0) := by
    unfold run_C.sl.v228
    try simp (disch := decide) only [View.readAt_eq_ld, e27, View.ld_unit_lit']
    first | done | rfl
  have wv252 : run_C.sl.v252 c a27 f27 = View.ld wsIn (Rect.unit (s := S8x128x128) ![2, 0, 0] S1x128x128.size inb_S8x128x128_S1x128x128_2_0_0) := by
    unfold run_C.sl.v252
    try simp (disch := decide) only [View.readAt_eq_ld, e27, View.ld_unit_lit']
    first | done | rfl
  have wv276 : run_C.sl.v276 c a27 f27 = View.ld wsIn (Rect.unit (s := S8x128x128) ![3, 0, 0] S1x128x128.size inb_S8x128x128_S1x128x128_3_0_0) := by
    unfold run_C.sl.v276
    try simp (disch := decide) only [View.readAt_eq_ld, e27, View.ld_unit_lit']
    first | done | rfl
  have wv300 : run_C.sl.v300 c a27 f27 = View.ld wsIn (Rect.unit (s := S8x128x128) ![4, 0, 0] S1x128x128.size inb_S8x128x128_S1x128x128_4_0_0) := by
    unfold run_C.sl.v300
    try simp (disch := decide) only [View.readAt_eq_ld, e27, View.ld_unit_lit']
    first | done | rfl
  have wv324 : run_C.sl.v324 c a27 f27 = View.ld wsIn (Rect.unit (s := S8x128x128) ![5, 0, 0] S1x128x128.size inb_S8x128x128_S1x128x128_5_0_0) := by
    unfold run_C.sl.v324
    try simp (disch := decide) only [View.readAt_eq_ld, e27, View.ld_unit_lit']
    first | done | rfl
  have wv348 : run_C.sl.v348 c a27 f27 = View.ld wsIn (Rect.unit (s := S8x128x128) ![6, 0, 0] S1x128x128.size inb_S8x128x128_S1x128x128_6_0_0) := by
    unfold run_C.sl.v348
    try simp (disch := decide) only [View.readAt_eq_ld, e27, View.ld_unit_lit']
    first | done | rfl
  have wv372 : run_C.sl.v372 c a27 f27 = View.ld wsIn (Rect.unit (s := S8x128x128) ![7, 0, 0] S1x128x128.size inb_S8x128x128_S1x128x128_7_0_0) := by
    unfold run_C.sl.v372
    try simp (disch := decide) only [View.readAt_eq_ld, e27, View.ld_unit_lit']
    first | done | rfl
  have w0 : run_C.sl.r c a1 a18 f1 f18 = v9 X := by
    unfold run_C.sl.r v9
    try simp (disch := decide) only [View.readAt_eq_ld, e1, e18, View.ld_unit_lit']
    first | done | rfl
  have w1 : run_C.sl.r_1 c a3 a13 f3 f13 = v23 X := by
    unfold run_C.sl.r_1 v23
    try simp (disch := decide) only [View.readAt_eq_ld, e3, e13, View.ld_unit_lit']
    first | done | rfl
  have w2 : run_C.sl.r_2 c a3 a13 f3 f13 = v35 X := by
    unfold run_C.sl.r_2 v35
    try simp (disch := decide) only [View.readAt_eq_ld, e3, e13, View.ld_unit_lit']
    first | done | rfl
  have w3 : run_C.sl.r_3 c a3 a13 f3 f13 = v37 X := by
    unfold run_C.sl.r_3 v37
    try simp (disch := decide) only [View.readAt_eq_ld, View.ld_unit_lit', w2, wone]
    first | done | rfl
  have w4 : run_C.sl.r_4 c a1 a3 a13 a16 a18 f1 f3 f13 f16 f18 = v47 X := by
    unfold run_C.sl.r_4 v47
    try simp (disch := decide) only [View.readAt_eq_ld, e16, View.ld_unit_lit', w0, w1]
    first | done | rfl
  have w5 : run_C.sl.r_5 c a1 a3 a13 a17 a18 f1 f3 f13 f17 f18 = v51 X := by
    unfold run_C.sl.r_5 v51
    try simp (disch := decide) only [View.readAt_eq_ld, e17, View.ld_unit_lit', w0, w2, wone]
    first | done | rfl
  have w6 : run_C.sl.r_6 c a7 f7 = v54 X := by
    unfold run_C.sl.r_6 v54
    try simp (disch := decide) only [View.readAt_eq_ld, e7, View.ld_unit_lit']
    first | done | rfl
  have w7 : run_C.sl.r_7 c a7 a14 a15 f7 f14 f15 = v62 X := by
    unfold run_C.sl.r_7 v62
    try simp (disch := decide) only [View.readAt_eq_ld, e7, e14, e15, View.ld_unit_lit']
    first | done | rfl
  have w8 : run_C.sl.r_8 c a7 a14 a15 f7 f14 f15 = v69 X := by
    unfold run_C.sl.r_8 v69
    try simp (disch := decide) only [View.readAt_eq_ld, e7, e14, e15, View.ld_unit_lit']
    first | done | rfl
  have w9 : run_C.sl.r_9 c a7 a14 a15 f7 f14 f15 = v71 X := by
    unfold run_C.sl.r_9 v71
    try simp (disch := decide) only [View.readAt_eq_ld, e7, e14, e15, View.ld_unit_lit']
    first | done | rfl
  have w12 : run_C.sl.r_12 c a1 a3 a5 a13 a18 f1 f3 f5 f13 f18 = v134 X := by
    unfold run_C.sl.r_12 v134
    try simp (disch := decide) only [View.readAt_eq_ld, e5, View.ld_unit_lit', w0, w3]
    first | done | rfl
  have w13 : run_C.sl.r_13 c a1 a3 a4 a13 a18 a23 f1 f3 f4 f13 f18 f23 = v143 X gbIn := by
    unfold run_C.sl.r_13 v143
    try simp (disch := decide) only [View.readAt_eq_ld, e4, e23, View.ld_unit_lit', w0, w1]
    first | done | rfl
  have w14 : run_C.sl.r_14 c a1 a2 a3 a13 a17 a18 f1 f2 f3 f13 f17 f18 = v163 X := by
    unfold run_C.sl.r_14 v163
    try simp (disch := decide) only [View.readAt_eq_ld, e2, View.ld_unit_lit', w5]
    first | done | rfl
  have w16 : run_C.sl.r_16 c a2 f2 = v179 X := by
    unfold run_C.sl.r_16 v179
    try simp (disch := decide) only [View.readAt_eq_ld, e2, View.ld_unit_lit']
    first | done | rfl
  have w17 : run_C.sl.r_17 c a9 f9 = v181 X := by
    unfold run_C.sl.r_17 v181
    try simp (disch := decide) only [View.readAt_eq_ld, e9, View.ld_unit_lit']
    first | done | rfl
  have w18 : run_C.sl.r_18 c a2 a9 a10 f2 f9 f10 = v188 X := by
    unfold run_C.sl.r_18 v188
    try simp (disch := decide) only [View.readAt_eq_ld, e10, View.ld_unit_lit', w16, w17]
    first | done | rfl
  have w19 : run_C.sl.r_19 c a1 a2 a3 a13 a17 a18 f1 f2 f3 f13 f17 f18 = v189 X := by
    unfold run_C.sl.r_19 v189
    try simp (disch := decide) only [View.readAt_eq_ld, View.ld_unit_lit', w14]
    first | done | rfl
  have w20 : run_C.sl.r_20 c a1 a2 a3 a12 a13 a17 a18 f1 f2 f3 f12 f13 f17 f18 = v218 X := by
    unfold run_C.sl.r_20 v218
    try simp (disch := decide) only [View.readAt_eq_ld, e12, View.ld_unit_lit', w14]
    first | done | rfl
  have w21 : run_C.sl.r_21 c a1 a2 a3 a13 a17 a18 f1 f2 f3 f13 f17 f18 = v248 X := by
    unfold run_C.sl.r_21 v248
    try simp (disch := decide) only [View.readAt_eq_ld, View.ld_unit_lit', w19]
    first | done | rfl
  have w22 : run_C.sl.r_22 c a27 f27 = k0_pay64 (View.ld wsIn (Rect.unit (s := S8x128x128) ![2, 0, 0] S1x128x128.size inb_S8x128x128_S1x128x128_2_0_0)) := by
    unfold run_C.sl.r_22
    try simp (disch := decide) only [View.readAt_eq_ld, View.ld_unit_lit', wv252]
    first | done | rfl
  have w23 : run_C.sl.r_23 c a1 a2 a3 a9 a10 a13 a17 a18 f1 f2 f3 f9 f10 f13 f17 f18 = v254 X := by
    unfold run_C.sl.r_23 v254
    try simp (disch := decide) only [View.readAt_eq_ld, View.ld_unit_lit', w18, w19]
    first | done | rfl
  have w24 : run_C.sl.r_24 c a1 a2 a3 a12 a13 a17 a18 f1 f2 f3 f12 f13 f17 f18 = v285 X := by
    unfold run_C.sl.r_24 v285
    try simp (disch := decide) only [View.readAt_eq_ld, e12, View.ld_unit_lit', w19]
    first | done | rfl
  have w25 : run_C.sl.r_25 c a1 a2 a3 a12 a13 a17 a18 f1 f2 f3 f12 f13 f17 f18 = v286 X := by
    unfold run_C.sl.r_25 v286
    try simp (disch := decide) only [View.readAt_eq_ld, e12, View.ld_unit_lit', w19]
    first | done | rfl
  have w26 : run_C.sl.r_26 c a1 a2 a3 a13 a17 a18 f1 f2 f3 f13 f17 f18 = v320 X := by
    unfold run_C.sl.r_26 v320
    try simp (disch := decide) only [View.readAt_eq_ld, View.ld_unit_lit', w19]
    first | done | rfl
  have w27 : run_C.sl.r_27 c a2 a9 a10 f2 f9 f10 = v323 X := by
    unfold run_C.sl.r_27 v323
    try simp (disch := decide) only [View.readAt_eq_ld, View.ld_unit_lit', w18]
    first | done | rfl
  have w28 : run_C.sl.r_28 c a1 a2 a3 a13 a17 a18 f1 f2 f3 f13 f17 f18 = v344 X := by
    unfold run_C.sl.r_28 v344
    try simp (disch := decide) only [View.readAt_eq_ld, View.ld_unit_lit', w19]
    first | done | rfl
  have w29 : run_C.sl.r_29 c a12 f12 = v355 X := by
    unfold run_C.sl.r_29 v355
    try simp (disch := decide) only [View.readAt_eq_ld, e12, View.ld_unit_lit']
    first | done | rfl
  have wtiles : run_C.sl.H31_16 c a1 a2 a3 a12 a13 a17 a18 f1 f2 f3 f12 f13 f17 f18 = dvnTiles X := by
    unfold run_C.sl.H31_16 dvnTiles
    try simp (disch := decide) only [View.readAt_eq_ld, e12, View.ld_unit_lit', w19, w28, w29, w26, w24, w25, w21, w20, w14]
    first | done | rfl
  have wdvn : run_C.sl.v390 c a1 a2 a3 a12 a13 a17 a18 a31 f1 f2 f3 f12 f13 f17 f18 = dvn X := by
    unfold run_C.sl.v390 dvn
    rw [wtiles]
    exact (View.readCov_eq_canon_ld (Val := Elt F) a31.view (dvnTiles X) (Rect.unit (s := S256x1024) ![0, 0] S256x1024.size inb_S256x1024_S256x1024_0_0)
      (View.cover_of_tiledL _ S128x128.size (by sl_kernel_rfl))).trans (View.ld_unit_lit' _ _ (by decide))
  have wbs : k0_pay51 (run_C.sl.r_14 c a1 a2 a3 a13 a17 a18 f1 f2 f3 f13 f17 f18) (View.readAt (Elt F) a32.view (Rect.unit ![0, 0] S128x1024.size inb_S128x1024_S128x1024_0_0).toLoadRect f32) = stepBS X bsIn := by
    unfold stepBS
    simp (disch := decide) only [View.readAt_eq_ld, e32, View.ld_unit_lit', w14]
  have wv429 : run_C.sl.v429 c a1 a2 a3 a13 a17 a18 a32 f1 f2 f3 f13 f17 f18 f32 = View.ld (stepBS X bsIn) (Rect.unit (s := S128x1024) ![0, 0] S128x128.size inb_S128x1024_S128x128_0_0) := by
    unfold run_C.sl.v429 run_C.sl.H32_1
    refine (View.readCov_fill _ _ _ _ _ (by decide)).trans ?_
    rw [wbs]
  have wv434 : run_C.sl.v434 c a1 a2 a3 a13 a17 a18 a32 f1 f2 f3 f13 f17 f18 f32 = View.ld (stepBS X bsIn) (Rect.unit (s := S128x1024) ![0, 128] S128x128.size inb_S128x1024_S128x128_0_128) := by
    unfold run_C.sl.v434 run_C.sl.H32_1
    refine (View.readCov_fill _ _ _ _ _ (by decide)).trans ?_
    rw [wbs]
  have wv439 : run_C.sl.v439 c a1 a2 a3 a13 a17 a18 a32 f1 f2 f3 f13 f17 f18 f32 = View.ld (stepBS X bsIn) (Rect.unit (s := S128x1024) ![0, 256] S128x128.size inb_S128x1024_S128x128_0_256) := by
    unfold run_C.sl.v439 run_C.sl.H32_1
    refine (View.readCov_fill _ _ _ _ _ (by decide)).trans ?_
    rw [wbs]
  have wv444 : run_C.sl.v444 c a1 a2 a3 a13 a17 a18 a32 f1 f2 f3 f13 f17 f18 f32 = View.ld (stepBS X bsIn) (Rect.unit (s := S128x1024) ![0, 384] S128x128.size inb_S128x1024_S128x128_0_384) := by
    unfold run_C.sl.v444 run_C.sl.H32_1
    refine (View.readCov_fill _ _ _ _ _ (by decide)).trans ?_
    rw [wbs]
  have wv449 : run_C.sl.v449 c a1 a2 a3 a13 a17 a18 a32 f1 f2 f3 f13 f17 f18 f32 = View.ld (stepBS X bsIn) (Rect.unit (s := S128x1024) ![0, 512] S128x128.size inb_S128x1024_S128x128_0_512) := by
    unfold run_C.sl.v449 run_C.sl.H32_1
    refine (View.readCov_fill _ _ _ _ _ (by decide)).trans ?_
    rw [wbs]
  have wv454 : run_C.sl.v454 c a1 a2 a3 a13 a17 a18 a32 f1 f2 f3 f13 f17 f18 f32 = View.ld (stepBS X bsIn) (Rect.unit (s := S128x1024) ![0, 640] S128x128.size inb_S128x1024_S128x128_0_640) := by
    unfold run_C.sl.v454 run_C.sl.H32_1
    refine (View.readCov_fill _ _ _ _ _ (by decide)).trans ?_
    rw [wbs]
  have wv459 : run_C.sl.v459 c a1 a2 a3 a13 a17 a18 a32 f1 f2 f3 f13 f17 f18 f32 = View.ld (stepBS X bsIn) (Rect.unit (s := S128x1024) ![0, 768] S128x128.size inb_S128x1024_S128x128_0_768) := by
    unfold run_C.sl.v459 run_C.sl.H32_1
    refine (View.readCov_fill _ _ _ _ _ (by decide)).trans ?_
    rw [wbs]
  have wv464 : run_C.sl.v464 c a1 a2 a3 a13 a17 a18 a32 f1 f2 f3 f13 f17 f18 f32 = View.ld (stepBS X bsIn) (Rect.unit (s := S128x1024) ![0, 896] S128x128.size inb_S128x1024_S128x128_0_896) := by
    unfold run_C.sl.v464 run_C.sl.H32_1
    refine (View.readCov_fill _ _ _ _ _ (by decide)).trans ?_
    rw [wbs]
  have w30 : run_C.sl.r_30 c a1 a2 a3 a13 a17 a18 a32 f1 f2 f3 f13 f17 f18 f32 = k0_pay9 (View.ld (stepBS X bsIn) (Rect.unit (s := S128x1024) ![0, 640] S128x128.size inb_S128x1024_S128x128_0_640)) := by
    unfold run_C.sl.r_30
    try simp (disch := decide) only [View.readAt_eq_ld, View.ld_unit_lit', wv454]
    first | done | rfl
  iapply Hk
  isplitl [H1 H2 H3 H4 H5 H6 H7 H8 H9 H10 H11 H12 H13 H14 H15 H16 H17 H18]
  · isplitl [H1]
    · iexists _; isplitr; · ipureintro; exact e1
      iexact H1
    isplitl [H2]
    · iexists _; isplitr; · ipureintro; exact e2
      iexact H2
    isplitl [H3]
    · iexists _; isplitr; · ipureintro; exact e3
      iexact H3
    isplitl [H4]
    · iexists _; isplitr; · ipureintro; exact e4
      iexact H4
    isplitl [H5]
    · iexists _; isplitr; · ipureintro; exact e5
      iexact H5
    isplitl [H6]
    · iexists _; isplitr; · ipureintro; exact e6
      iexact H6
    isplitl [H7]
    · iexists _; isplitr; · ipureintro; exact e7
      iexact H7
    isplitl [H8]
    · iexists _; isplitr; · ipureintro; exact e8
      iexact H8
    isplitl [H9]
    · iexists _; isplitr; · ipureintro; exact e9
      iexact H9
    isplitl [H10]
    · iexists _; isplitr; · ipureintro; exact e10
      iexact H10
    isplitl [H11]
    · iexists _; isplitr; · ipureintro; exact e11
      iexact H11
    isplitl [H12]
    · iexists _; isplitr; · ipureintro; exact e12
      iexact H12
    isplitl [H13]
    · iexists _; isplitr; · ipureintro; exact e13
      iexact H13
    isplitl [H14]
    · iexists _; isplitr; · ipureintro; exact e14
      iexact H14
    isplitl [H15]
    · iexists _; isplitr; · ipureintro; exact e15
      iexact H15
    isplitl [H16]
    · iexists _; isplitr; · ipureintro; exact e16
      iexact H16
    isplitl [H17]
    · iexists _; isplitr; · ipureintro; exact e17
      iexact H17
    iexists _; isplitr; · ipureintro; exact e18
    iexact H18
  isplitl [H19 H20 H21 H22 H30 H31]
  · isplitl [H19]
    · iexists _; isplitr; swap; · iexact H19
      ipureintro
      refine (View.read_writes_eq_canon (Val := Elt F) _ _ _ ?_).trans ?_
      · exact View.cover_of_tiledL _ S256x1024.size (by sl_kernel_rfl)
      unfold dyaBlk
      simp (disch := decide) only [View.canon_cons_unit_lit', View.readAt_eq_ld, View.ld_unit_lit', View.readCov_unit_lit', e1, e2, e3, e4, e5, e6, e7, e8, e9, e10, e11, e12, e13, e14, e15, e16, e17, e18, e23, e24, e25, e27, e28, e29, e32, wone, w0, w1, w2, w3, w4, w5, w6, w7, w8, w9, w12, w13, w14, w16, w17, w18, w19, w20, w21, w22, w23, w24, w25, w26, w27, w28, w29, wdvn, wv145, wv228, wv252, wv276, wv300, wv324, wv348, wv372, wv429, wv434, wv439, wv444, wv449, wv454, wv459, wv464, w30]
      first | done | rfl
    isplitl [H20]
    · iexists _; isplitr; swap; · iexact H20
      ipureintro
      refine (View.read_writes_eq_canon (Val := Elt F) _ _ _ ?_).trans ?_
      · exact View.cover_of_tiledL _ S256x1024.size (by sl_kernel_rfl)
      unfold dybBlk
      simp (disch := decide) only [View.canon_cons_unit_lit', View.readAt_eq_ld, View.ld_unit_lit', View.readCov_unit_lit', e1, e2, e3, e4, e5, e6, e7, e8, e9, e10, e11, e12, e13, e14, e15, e16, e17, e18, e23, e24, e25, e27, e28, e29, e32, wone, w0, w1, w2, w3, w4, w5, w6, w7, w8, w9, w12, w13, w14, w16, w17, w18, w19, w20, w21, w22, w23, w24, w25, w26, w27, w28, w29, wdvn, wv145, wv228, wv252, wv276, wv300, wv324, wv348, wv372, wv429, wv434, wv439, wv444, wv449, wv454, wv459, wv464, w30]
      first | done | rfl
    isplitl [H21]
    · iexists _; iexists _; isplitr; swap; · iexact H21
      ipureintro; rfl
    isplitl [H22]
    · iexists _; iexists _; isplitr; swap; · iexact H22
      ipureintro; rfl
    isplitl [H30]
    · iexists _; iexists _; isplitr; swap; · iexact H30
      ipureintro; rfl
    iexists _; iexists _; isplitr; swap; · iexact H31
    ipureintro; rfl
  isplitl [H26]
  · iexists _; isplitr; swap; · iexact H26
    ipureintro
    refine (View.read_writes_eq_canon (Val := Elt F) _ _ _ ?_).trans ?_
    · exact View.cover_of_tiledL _ S1x128.size (by sl_kernel_rfl)
    unfold bsBlk bsTiles
    simp (disch := decide) only [View.canon_cons_unit_lit', View.readAt_eq_ld, View.ld_unit_lit', View.readCov_unit_lit', e1, e2, e3, e4, e5, e6, e7, e8, e9, e10, e11, e12, e13, e14, e15, e16, e17, e18, e23, e24, e25, e27, e28, e29, e32, wone, w0, w1, w2, w3, w4, w5, w6, w7, w8, w9, w12, w13, w14, w16, w17, w18, w19, w20, w21, w22, w23, w24, w25, w26, w27, w28, w29, wdvn, wv145, wv228, wv252, wv276, wv300, wv324, wv348, wv372, wv429, wv434, wv439, wv444, wv449, wv454, wv459, wv464, w30]
    first | done | rfl
  isplitl [H23]
  · iexists _; isplitr; swap; · iexact H23
    ipureintro
    refine (View.read_writes_eq_canon (Val := Elt F) _ _ _ ?_).trans ?_
    · exact View.cover_of_tiledL _ S1x1024.size (by sl_kernel_rfl)
    unfold stepGB stepGBTiles
    simp (disch := decide) only [View.canon_cons_unit_lit', View.readAt_eq_ld, View.ld_unit_lit', View.readCov_unit_lit', e1, e2, e3, e4, e5, e6, e7, e8, e9, e10, e11, e12, e13, e14, e15, e16, e17, e18, e23, e24, e25, e27, e28, e29, e32, wone, w0, w1, w2, w3, w4, w5, w6, w7, w8, w9, w12, w13, w14, w16, w17, w18, w19, w20, w21, w22, w23, w24, w25, w26, w27, w28, w29, wdvn, wv145, wv228, wv252, wv276, wv300, wv324, wv348, wv372, wv429, wv434, wv439, wv444, wv449, wv454, wv459, wv464, w30]
    first | done | rfl
  isplitl [H24]
  · iexists _; isplitr; swap; · iexact H24
    ipureintro
    refine (View.read_writes_eq_canon (Val := Elt F) _ _ _ ?_).trans ?_
    · exact View.cover_of_tiledL _ S1x1024.size (by sl_kernel_rfl)
    unfold stepLG
    simp (disch := decide) only [View.canon_cons_unit_lit', View.readAt_eq_ld, View.ld_unit_lit', View.readCov_unit_lit', e1, e2, e3, e4, e5, e6, e7, e8, e9, e10, e11, e12, e13, e14, e15, e16, e17, e18, e23, e24, e25, e27, e28, e29, e32, wone, w0, w1, w2, w3, w4, w5, w6, w7, w8, w9, w12, w13, w14, w16, w17, w18, w19, w20, w21, w22, w23, w24, w25, w26, w27, w28, w29, wdvn, wv145, wv228, wv252, wv276, wv300, wv324, wv348, wv372, wv429, wv434, wv439, wv444, wv449, wv454, wv459, wv464, w30]
    first | done | rfl
  isplitl [H25]
  · iexists _; isplitr; swap; · iexact H25
    ipureintro
    refine (View.read_writes_eq_canon (Val := Elt F) _ _ _ ?_).trans ?_
    · exact View.cover_of_tiledL _ S1x1024.size (by sl_kernel_rfl)
    unfold stepLB
    simp (disch := decide) only [View.canon_cons_unit_lit', View.readAt_eq_ld, View.ld_unit_lit', View.readCov_unit_lit', e1, e2, e3, e4, e5, e6, e7, e8, e9, e10, e11, e12, e13, e14, e15, e16, e17, e18, e23, e24, e25, e27, e28, e29, e32, wone, w0, w1, w2, w3, w4, w5, w6, w7, w8, w9, w12, w13, w14, w16, w17, w18, w19, w20, w21, w22, w23, w24, w25, w26, w27, w28, w29, wdvn, wv145, wv228, wv252, wv276, wv300, wv324, wv348, wv372, wv429, wv434, wv439, wv444, wv449, wv454, wv459, wv464, w30]
    first | done | rfl
  isplitl [H27]
  · iexists _; isplitr; swap; · iexact H27
    ipureintro
    refine (View.read_writes_eq_canon (Val := Elt F) _ _ _ ?_).trans ?_
    · exact View.cover_of_tiledL _ S1x128x128.size (by sl_kernel_rfl)
    unfold stepWS stepWSTiles
    simp (disch := decide) only [View.canon_cons_unit_lit', View.readAt_eq_ld, View.ld_unit_lit', View.readCov_unit_lit', e1, e2, e3, e4, e5, e6, e7, e8, e9, e10, e11, e12, e13, e14, e15, e16, e17, e18, e23, e24, e25, e27, e28, e29, e32, wone, w0, w1, w2, w3, w4, w5, w6, w7, w8, w9, w12, w13, w14, w16, w17, w18, w19, w20, w21, w22, w23, w24, w25, w26, w27, w28, w29, wdvn, wv145, wv228, wv252, wv276, wv300, wv324, wv348, wv372, wv429, wv434, wv439, wv444, wv449, wv454, wv459, wv464, w30]
    first | done | rfl
  isplitl [H28]
  · iexists _; isplitr; swap; · iexact H28
    ipureintro
    refine (View.read_writes_eq_canon (Val := Elt F) _ _ _ ?_).trans ?_
    · exact View.cover_of_tiledL _ S1x1024.size (by sl_kernel_rfl)
    unfold stepCG
    simp (disch := decide) only [View.canon_cons_unit_lit', View.readAt_eq_ld, View.ld_unit_lit', View.readCov_unit_lit', e1, e2, e3, e4, e5, e6, e7, e8, e9, e10, e11, e12, e13, e14, e15, e16, e17, e18, e23, e24, e25, e27, e28, e29, e32, wone, w0, w1, w2, w3, w4, w5, w6, w7, w8, w9, w12, w13, w14, w16, w17, w18, w19, w20, w21, w22, w23, w24, w25, w26, w27, w28, w29, wdvn, wv145, wv228, wv252, wv276, wv300, wv324, wv348, wv372, wv429, wv434, wv439, wv444, wv449, wv454, wv459, wv464, w30]
    first | done | rfl
  isplitl [H29]
  · iexists _; isplitr; swap; · iexact H29
    ipureintro
    refine (View.read_writes_eq_canon (Val := Elt F) _ _ _ ?_).trans ?_
    · exact View.cover_of_tiledL _ S1x1024.size (by sl_kernel_rfl)
    unfold stepCB
    simp (disch := decide) only [View.canon_cons_unit_lit', View.readAt_eq_ld, View.ld_unit_lit', View.readCov_unit_lit', e1, e2, e3, e4, e5, e6, e7, e8, e9, e10, e11, e12, e13, e14, e15, e16, e17, e18, e23, e24, e25, e27, e28, e29, e32, wone, w0, w1, w2, w3, w4, w5, w6, w7, w8, w9, w12, w13, w14, w16, w17, w18, w19, w20, w21, w22, w23, w24, w25, w26, w27, w28, w29, wdvn, wv145, wv228, wv252, wv276, wv300, wv324, wv348, wv372, wv429, wv434, wv439, wv444, wv449, wv454, wv459, wv464, w30]
    first | done | rfl
  iexists _; isplitr; swap; · iexact H32
  ipureintro
  refine (View.read_writes_eq_canon (Val := Elt F) _ _ _ ?_).trans ?_
  · exact View.cover_of_tiledL _ S128x1024.size (by sl_kernel_rfl)
  unfold run_C.sl.H32_1 stepBS
  simp (disch := decide) only [View.canon_cons_unit_lit', View.readAt_eq_ld, View.ld_unit_lit', View.readCov_unit_lit', e1, e2, e3, e4, e5, e6, e7, e8, e9, e10, e11, e12, e13, e14, e15, e16, e17, e18, e23, e24, e25, e27, e28, e29, e32, wone, w0, w1, w2, w3, w4, w5, w6, w7, w8, w9, w12, w13, w14, w16, w17, w18, w19, w20, w21, w22, w23, w24, w25, w26, w27, w28, w29, wdvn, wv145, wv228, wv252, wv276, wv300, wv324, wv348, wv372, wv429, wv434, wv439, wv444, wv449, wv454, wv459, wv464, w30]
  first | done | rfl

end Cert.Merge.Run

end

end
-- ==== Proof.Merge.Frame.lean ====
module

public import Idealize.ShloMosaic.Lib.Claim
public import proofs.«01_k».proof.Proof.Merge.Points
public import proofs.«01_k».proof.Proof.Merge.RunA
public import proofs.«01_k».proof.Proof.Merge.RunB
public import proofs.«01_k».proof.Proof.Merge.RunC

@[expose] public section

set_option maxRecDepth 16384

noncomputable section

/-! The pipeline around the body: the frame of the fused backward pass of the merge and what its result arrays hold. -/

namespace Cert.Merge.Run

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The buffers of the windows at point `t`, and the two scratch buffers. -/

abbrev ms0_0 (t : Fin cfg0.N) : Memref sig .tc .vmem S256x1024 .f32 := win0_0.stage (cfg0.slots t 0)
abbrev ms0_1 (t : Fin cfg0.N) : Memref sig .tc .vmem S256x2048 .bf16 := win0_1.stage (cfg0.slots t 1)
abbrev ms0_2 (t : Fin cfg0.N) : Memref sig .tc .vmem S256x2048 .bf16 := win0_2.stage (cfg0.slots t 2)
abbrev ms0_3 (t : Fin cfg0.N) : Memref sig .tc .vmem S256x1024 .bf16 := win0_3.stage (cfg0.slots t 3)
abbrev ms0_4 (t : Fin cfg0.N) : Memref sig .tc .vmem S256x1024 .bf16 := win0_4.stage (cfg0.slots t 4)
abbrev ms0_5 (t : Fin cfg0.N) : Memref sig .tc .vmem S256x1024 .bf16 := win0_5.stage (cfg0.slots t 5)
abbrev ms0_6 (t : Fin cfg0.N) : Memref sig .tc .vmem S256x1024 .bf16 := win0_6.stage (cfg0.slots t 6)
abbrev ms0_7 (t : Fin cfg0.N) : Memref sig .tc .vmem S256x1 .f32 := win0_7.stage (cfg0.slots t 7)
abbrev ms0_8 (t : Fin cfg0.N) : Memref sig .tc .vmem S1x1024 .f32 := win0_8.stage (cfg0.slots t 8)
abbrev ms0_9 (t : Fin cfg0.N) : Memref sig .tc .vmem S1x1024 .f32 := win0_9.stage (cfg0.slots t 9)
abbrev ms0_10 (t : Fin cfg0.N) : Memref sig .tc .vmem S8x128x128 .bf16 := win0_10.stage (cfg0.slots t 10)
abbrev ms0_11 (t : Fin cfg0.N) : Memref sig .tc .vmem S8x128x128 .bf16 := win0_11.stage (cfg0.slots t 11)
abbrev ms0_12 (t : Fin cfg0.N) : Memref sig .tc .vmem S1x2048 .f32 := win0_12.stage (cfg0.slots t 12)
abbrev ms0_13 (t : Fin cfg0.N) : Memref sig .tc .vmem S1x1024 .f32 := win0_13.stage (cfg0.slots t 13)
abbrev ms0_14 (t : Fin cfg0.N) : Memref sig .tc .vmem S1x1024 .f32 := win0_14.stage (cfg0.slots t 14)
abbrev ms0_15 (t : Fin cfg0.N) : Memref sig .tc .vmem S4x256x1024 .bf16 := win0_15.stage (cfg0.slots t 15)
abbrev ms0_16 (t : Fin cfg0.N) : Memref sig .tc .vmem S4x256x1024 .bf16 := win0_16.stage (cfg0.slots t 16)
abbrev ms0_17 (t : Fin cfg0.N) : Memref sig .tc .vmem S4x256x1024 .bf16 := win0_17.stage (cfg0.slots t 17)
abbrev ms0_18 (t : Fin cfg0.N) : Memref sig .tc .vmem S256x1024 .bf16 := win0_18.stage (cfg0.slots t 18)
abbrev ms0_19 (t : Fin cfg0.N) : Memref sig .tc .vmem S256x1024 .bf16 := win0_19.stage (cfg0.slots t 19)
abbrev ms0_20 (t : Fin cfg0.N) : Memref sig .tc .vmem S256x6144 .bf16 := win0_20.stage (cfg0.slots t 20)
abbrev ms0_21 (t : Fin cfg0.N) : Memref sig .tc .vmem S256x1024 .f32 := win0_21.stage (cfg0.slots t 21)
abbrev ms0_22 (t : Fin cfg0.N) : Memref sig .tc .vmem S1x2048 .f32 := win0_22.stage (cfg0.slots t 22)
abbrev ms0_23 (t : Fin cfg0.N) : Memref sig .tc .vmem S1x1024 .f32 := win0_23.stage (cfg0.slots t 23)
abbrev ms0_24 (t : Fin cfg0.N) : Memref sig .tc .vmem S1x1024 .f32 := win0_24.stage (cfg0.slots t 24)
abbrev ms0_25 (t : Fin cfg0.N) : Memref sig .tc .vmem S1x1024 .f32 := win0_25.stage (cfg0.slots t 25)
abbrev ms0_26 (t : Fin cfg0.N) : Memref sig .tc .vmem S8x128x128 .f32 := win0_26.stage (cfg0.slots t 26)
abbrev ms0_27 (t : Fin cfg0.N) : Memref sig .tc .vmem S1x1024 .f32 := win0_27.stage (cfg0.slots t 27)
abbrev ms0_28 (t : Fin cfg0.N) : Memref sig .tc .vmem S1x1024 .f32 := win0_28.stage (cfg0.slots t 28)
abbrev ms0_29 (t : Fin cfg0.N) : Memref sig .tc .vmem S1x1024 .f32 := win0_29.stage (cfg0.slots t 29)
abbrev hs0_0 (t : Fin cfg0.N) : (ms0_0 t).IsWhole := hstage0_0 ((cfg0.slots t 0).cast nbuf0_0)
abbrev hs0_1 (t : Fin cfg0.N) : (ms0_1 t).IsWhole := hstage0_1 ((cfg0.slots t 1).cast nbuf0_1)
abbrev hs0_2 (t : Fin cfg0.N) : (ms0_2 t).IsWhole := hstage0_2 ((cfg0.slots t 2).cast nbuf0_2)
abbrev hs0_3 (t : Fin cfg0.N) : (ms0_3 t).IsWhole := hstage0_3 ((cfg0.slots t 3).cast nbuf0_3)
abbrev hs0_4 (t : Fin cfg0.N) : (ms0_4 t).IsWhole := hstage0_4 ((cfg0.slots t 4).cast nbuf0_4)
abbrev hs0_5 (t : Fin cfg0.N) : (ms0_5 t).IsWhole := hstage0_5 ((cfg0.slots t 5).cast nbuf0_5)
abbrev hs0_6 (t : Fin cfg0.N) : (ms0_6 t).IsWhole := hstage0_6 ((cfg0.slots t 6).cast nbuf0_6)
abbrev hs0_7 (t : Fin cfg0.N) : (ms0_7 t).IsWhole := hstage0_7 ((cfg0.slots t 7).cast nbuf0_7)
abbrev hs0_8 (t : Fin cfg0.N) : (ms0_8 t).IsWhole := hstage0_8 ((cfg0.slots t 8).cast nbuf0_8)
abbrev hs0_9 (t : Fin cfg0.N) : (ms0_9 t).IsWhole := hstage0_9 ((cfg0.slots t 9).cast nbuf0_9)
abbrev hs0_10 (t : Fin cfg0.N) : (ms0_10 t).IsWhole := hstage0_10 ((cfg0.slots t 10).cast nbuf0_10)
abbrev hs0_11 (t : Fin cfg0.N) : (ms0_11 t).IsWhole := hstage0_11 ((cfg0.slots t 11).cast nbuf0_11)
abbrev hs0_12 (t : Fin cfg0.N) : (ms0_12 t).IsWhole := hstage0_12 ((cfg0.slots t 12).cast nbuf0_12)
abbrev hs0_13 (t : Fin cfg0.N) : (ms0_13 t).IsWhole := hstage0_13 ((cfg0.slots t 13).cast nbuf0_13)
abbrev hs0_14 (t : Fin cfg0.N) : (ms0_14 t).IsWhole := hstage0_14 ((cfg0.slots t 14).cast nbuf0_14)
abbrev hs0_15 (t : Fin cfg0.N) : (ms0_15 t).IsWhole := hstage0_15 ((cfg0.slots t 15).cast nbuf0_15)
abbrev hs0_16 (t : Fin cfg0.N) : (ms0_16 t).IsWhole := hstage0_16 ((cfg0.slots t 16).cast nbuf0_16)
abbrev hs0_17 (t : Fin cfg0.N) : (ms0_17 t).IsWhole := hstage0_17 ((cfg0.slots t 17).cast nbuf0_17)
abbrev hs0_18 (t : Fin cfg0.N) : (ms0_18 t).IsWhole := hstage0_18 ((cfg0.slots t 18).cast nbuf0_18)
abbrev hs0_19 (t : Fin cfg0.N) : (ms0_19 t).IsWhole := hstage0_19 ((cfg0.slots t 19).cast nbuf0_19)
abbrev hs0_20 (t : Fin cfg0.N) : (ms0_20 t).IsWhole := hstage0_20 ((cfg0.slots t 20).cast nbuf0_20)
abbrev hs0_21 (t : Fin cfg0.N) : (ms0_21 t).IsWhole := hstage0_21 ((cfg0.slots t 21).cast nbuf0_21)
abbrev hs0_22 (t : Fin cfg0.N) : (ms0_22 t).IsWhole := hstage0_22 ((cfg0.slots t 22).cast nbuf0_22)
abbrev hs0_23 (t : Fin cfg0.N) : (ms0_23 t).IsWhole := hstage0_23 ((cfg0.slots t 23).cast nbuf0_23)
abbrev hs0_24 (t : Fin cfg0.N) : (ms0_24 t).IsWhole := hstage0_24 ((cfg0.slots t 24).cast nbuf0_24)
abbrev hs0_25 (t : Fin cfg0.N) : (ms0_25 t).IsWhole := hstage0_25 ((cfg0.slots t 25).cast nbuf0_25)
abbrev hs0_26 (t : Fin cfg0.N) : (ms0_26 t).IsWhole := hstage0_26 ((cfg0.slots t 26).cast nbuf0_26)
abbrev hs0_27 (t : Fin cfg0.N) : (ms0_27 t).IsWhole := hstage0_27 ((cfg0.slots t 27).cast nbuf0_27)
abbrev hs0_28 (t : Fin cfg0.N) : (ms0_28 t).IsWhole := hstage0_28 ((cfg0.slots t 28).cast nbuf0_28)
abbrev hs0_29 (t : Fin cfg0.N) : (ms0_29 t).IsWhole := hstage0_29 ((cfg0.slots t 29).cast nbuf0_29)
abbrev scM0_0 : Memref sig .tc .vmem S256x1024 .f32 := Memref.whole cc0_scratch0
abbrev scM0_1 : Memref sig .tc .vmem S128x1024 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- Before the last point the spatial bias's gradient is left alone. -/
theorem idle_bs : ∀ t : Fin cfg0.N, t.val ≠ 31 → cfg0.idle 25 (grid0.coords t) = true := by decide +kernel
theorem noFlush_bs : ∀ t : Fin cfg0.N, t.val ≠ 31 → (cfg0.win 25).flush t = false := by decide +kernel
theorem live_bs : ∀ t : Fin cfg0.N, t.val = 31 → cfg0.idle 25 (grid0.coords t) = false := by decide +kernel

/-- The windows of which nothing is named: the cotangents of the projections and of the convolution, and the convolution bias's gradient. -/
def forgets : Fin 30 → Bool := fun w => w.val == 20 || w.val == 21 || w.val == 29

/-- The buffers in use at point `t`. -/
def refs (t : Fin cfg0.N) : Refs :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, ms0_16 t, hs0_16 t, ms0_17 t, hs0_17 t, ms0_18 t, hs0_18 t, ms0_19 t, hs0_19 t, ms0_20 t, hs0_20 t, ms0_21 t, hs0_21 t, ms0_22 t, hs0_22 t, ms0_23 t, hs0_23 t, ms0_24 t, hs0_24 t, ms0_25 t, hs0_25 t, ms0_26 t, hs0_26 t, ms0_27 t, hs0_27 t, ms0_28 t, hs0_28 t, ms0_29 t, hs0_29 t,
   scM0_0, Memref.isWhole_whole _, scM0_1, Memref.isWhole_whole _⟩

/-- Between points: the first scratch at anything, the second at its sum so far. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (acc m c n hn).bs) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ owns (c : Thread nD τ) scM0_1 fullShare (acc m c n hn).bs) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (acc m c (n - 1) (by omega)).bs) ∗ (∃ r, prngReg c r)) := by
  cases n with
  | zero => exact absurd rfl hz
  | succ n => rfl

/-- The proof data of the pipeline: what each buffer holds after the body at point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => dyaBlk (blk m c t)
    | ⟨19, _⟩ => dybBlk (blk m c t)
    | ⟨20, h⟩ => Pipeline.Dat.unnamed (cfg := cfg0) ⟨20, h⟩ t
    | ⟨21, h⟩ => Pipeline.Dat.unnamed (cfg := cfg0) ⟨21, h⟩ t
    | ⟨22, _⟩ => (acc m c t.val t.isLt).gb
    | ⟨23, _⟩ => (acc m c t.val t.isLt).lg
    | ⟨24, _⟩ => (acc m c t.val t.isLt).lb
    | ⟨25, _⟩ => bsBlk (acc m c t.val t.isLt).bs
    | ⟨26, _⟩ => (acc m c t.val t.isLt).ws
    | ⟨27, _⟩ => (acc m c t.val t.isLt).cg
    | ⟨28, _⟩ => (acc m c t.val t.isLt).cb
    | ⟨29, h⟩ => Pipeline.Dat.unnamed (cfg := cfg0) ⟨29, h⟩ t
    | ⟨_ + 30, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! What each buffer holds after the body. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = dyaBlk (blk m c t) := by dsimp only [dats]
theorem after0_19 (c : Dev nD) (t : Fin cfg0.N) : (dats m 0 c).after 19 t = dybBlk (blk m c t) := by dsimp only [dats]
theorem after0_22 (c : Dev nD) (t : Fin cfg0.N) : (dats m 0 c).after 22 t = (acc m c t.val t.isLt).gb := by dsimp only [dats]
theorem after0_23 (c : Dev nD) (t : Fin cfg0.N) : (dats m 0 c).after 23 t = (acc m c t.val t.isLt).lg := by dsimp only [dats]
theorem after0_24 (c : Dev nD) (t : Fin cfg0.N) : (dats m 0 c).after 24 t = (acc m c t.val t.isLt).lb := by dsimp only [dats]
theorem after0_25 (c : Dev nD) (t : Fin cfg0.N) : (dats m 0 c).after 25 t = bsBlk (acc m c t.val t.isLt).bs := by dsimp only [dats]
theorem after0_26 (c : Dev nD) (t : Fin cfg0.N) : (dats m 0 c).after 26 t = (acc m c t.val t.isLt).ws := by dsimp only [dats]
theorem after0_27 (c : Dev nD) (t : Fin cfg0.N) : (dats m 0 c).after 27 t = (acc m c t.val t.isLt).cg := by dsimp only [dats]
theorem after0_28 (c : Dev nD) (t : Fin cfg0.N) : (dats m 0 c).after 28 t = (acc m c t.val t.isLt).cb := by dsimp only [dats]

/-! What each input buffer holds before the body. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! After the first point a sum's buffer holds the sum up to the point before. -/

theorem before0_22 (c : Dev nD) (t : Fin cfg0.N) (h0 : t.val ≠ 0) (d) :
    (dats m 0 c).before 22 t d = (acc m c (t.val - 1) (Nat.lt_of_le_of_lt (Nat.sub_le _ _) t.isLt)).gb := by
  have hN : t.val < 32 := lt_of_lt_of_eq t.isLt (show cfg0.N = 32 from N_0)
  rw [Dat.before_out_kept _ 22 rfl t (by omega) (Bool.eq_false_iff.mpr fun h => by have := (flush0_22 _).mp h; dsimp only at this; omega)
    (fun _ => rfl) (fun _ _ => rfl)]
  dsimp only [dats]
theorem before0_23 (c : Dev nD) (t : Fin cfg0.N) (h0 : t.val ≠ 0) (d) :
    (dats m 0 c).before 23 t d = (acc m c (t.val - 1) (Nat.lt_of_le_of_lt (Nat.sub_le _ _) t.isLt)).lg := by
  have hN : t.val < 32 := lt_of_lt_of_eq t.isLt (show cfg0.N = 32 from N_0)
  rw [Dat.before_out_kept _ 23 rfl t (by omega) (Bool.eq_false_iff.mpr fun h => by have := (flush0_23 _).mp h; dsimp only at this; omega)
    (fun _ => rfl) (fun _ _ => rfl)]
  dsimp only [dats]
theorem before0_24 (c : Dev nD) (t : Fin cfg0.N) (h0 : t.val ≠ 0) (d) :
    (dats m 0 c).before 24 t d = (acc m c (t.val - 1) (Nat.lt_of_le_of_lt (Nat.sub_le _ _) t.isLt)).lb := by
  have hN : t.val < 32 := lt_of_lt_of_eq t.isLt (show cfg0.N = 32 from N_0)
  rw [Dat.before_out_kept _ 24 rfl t (by omega) (Bool.eq_false_iff.mpr fun h => by have := (flush0_24 _).mp h; dsimp only at this; omega)
    (fun _ => rfl) (fun _ _ => rfl)]
  dsimp only [dats]
theorem before0_26 (c : Dev nD) (t : Fin cfg0.N) (h0 : t.val ≠ 0) (d) :
    (dats m 0 c).before 26 t d = (acc m c (t.val - 1) (Nat.lt_of_le_of_lt (Nat.sub_le _ _) t.isLt)).ws := by
  have hN : t.val < 32 := lt_of_lt_of_eq t.isLt (show cfg0.N = 32 from N_0)
  rw [Dat.before_out_kept _ 26 rfl t (by omega) (Bool.eq_false_iff.mpr fun h => by have := (flush0_26 _).mp h; dsimp only at this; omega)
    (fun _ => rfl) (fun _ _ => rfl)]
  dsimp only [dats]
theorem before0_27 (c : Dev nD) (t : Fin cfg0.N) (h0 : t.val ≠ 0) (d) :
    (dats m 0 c).before 27 t d = (acc m c (t.val - 1) (Nat.lt_of_le_of_lt (Nat.sub_le _ _) t.isLt)).cg := by
  have hN : t.val < 32 := lt_of_lt_of_eq t.isLt (show cfg0.N = 32 from N_0)
  rw [Dat.before_out_kept _ 27 rfl t (by omega) (Bool.eq_false_iff.mpr fun h => by have := (flush0_27 _).mp h; dsimp only at this; omega)
    (fun _ => rfl) (fun _ _ => rfl)]
  dsimp only [dats]
theorem before0_28 (c : Dev nD) (t : Fin cfg0.N) (h0 : t.val ≠ 0) (d) :
    (dats m 0 c).before 28 t d = (acc m c (t.val - 1) (Nat.lt_of_le_of_lt (Nat.sub_le _ _) t.isLt)).cb := by
  have hN : t.val < 32 := lt_of_lt_of_eq t.isLt (show cfg0.N = 32 from N_0)
  rw [Dat.before_out_kept _ 28 rfl t (by omega) (Bool.eq_false_iff.mpr fun h => by have := (flush0_28 _).mp h; dsimp only at this; omega)
    (fun _ => rfl) (fun _ _ => rfl)]
  dsimp only [dats]

/-- A window in use at the point leaves what the proof data says. -/
theorem leaves_live (c : Dev nD) (w : Fin cfg0.W) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact; rw [h]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare d)
    ∗ (∃ d, owns (c : Thread nD τ) (ms0_21 t) fullShare d)
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare d))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (∃ d, owns (c : Thread nD τ) (ms0_20 t) fullShare d)
    ∗ (∃ d, owns (c : Thread nD τ) (ms0_21 t) fullShare d)
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (∃ d, owns (c : Thread nD τ) (ms0_29 t) fullShare d))

set_option maxHeartbeats 4000000 in
/-- The call's buffers, grouped. -/
theorem pre_open (c : Dev nD) (t : Fin cfg0.N) :
    bodyPre m c t ⊢ iprop((dats m 0 c).Φ t.castSucc ∗ (dats m 0 c).owesAt () t.castSucc
      ∗ held c (refs t) (blk m c t)
      ∗ (∃ d, owns (c : Thread nD τ) (ms0_18 t) fullShare d) ∗ (∃ d, owns (c : Thread nD τ) (ms0_19 t) fullShare d)
      ∗ (∃ d, owns (c : Thread nD τ) (ms0_20 t) fullShare d) ∗ (∃ d, owns (c : Thread nD τ) (ms0_21 t) fullShare d)
      ∗ (∃ d, owns (c : Thread nD τ) (ms0_29 t) fullShare d)
      ∗ (∃ d, owns (c : Thread nD τ) (ms0_25 t) fullShare ((dats m 0 c).before 25 t d))
      ∗ (∃ d, owns (c : Thread nD τ) (ms0_22 t) fullShare ((dats m 0 c).before 22 t d))
      ∗ (∃ d, owns (c : Thread nD τ) (ms0_23 t) fullShare ((dats m 0 c).before 23 t d))
      ∗ (∃ d, owns (c : Thread nD τ) (ms0_24 t) fullShare ((dats m 0 c).before 24 t d))
      ∗ (∃ d, owns (c : Thread nD τ) (ms0_26 t) fullShare ((dats m 0 c).before 26 t d))
      ∗ (∃ d, owns (c : Thread nD τ) (ms0_27 t) fullShare ((dats m 0 c).before 27 t d))
      ∗ (∃ d, owns (c : Thread nD τ) (ms0_28 t) fullShare ((dats m 0 c).before 28 t d))) := by
  unfold bodyPre held
  dsimp only [refs, blk]
  simp only [before0_0, before0_1, before0_2, before0_3, before0_4, before0_5, before0_6, before0_7, before0_8, before0_9, before0_10, before0_11, before0_12, before0_13, before0_14, before0_15, before0_16, before0_17]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, H18, H19, H20, H21, H22, H23, H24, H25, H26, H27, H28, H29⟩
  isplitl [HP]; · iexact HP
  isplitl [Ho]; · iexact Ho
  isplitl [H0 H1 H2 H3 H4 H5 H6 H7 H8 H9 H10 H11 H12 H13 H14 H15 H16 H17]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  isplitl [H18]; · icases H18 with ⟨%d18, H18⟩; iexists _; iexact H18
  isplitl [H19]; · icases H19 with ⟨%d19, H19⟩; iexists _; iexact H19
  isplitl [H20]; · iexact H20
  isplitl [H21]; · iexact H21
  isplitl [H29]; · iexact H29
  isplitl [H25]; · iexact H25
  isplitl [H22]; · iexact H22
  isplitl [H23]; · iexact H23
  isplitl [H24]; · iexact H24
  isplitl [H26]; · iexact H26
  isplitl [H27]; · iexact H27
  iexact H28

set_option maxHeartbeats 4000000 in
/-- The buffers returned, grouped. -/
theorem post_close (c : Dev nD) (t : Fin cfg0.N) :
    iprop(iprop(iprop((∃ d, owns (c : Thread nD τ) scM0_0 fullShare d) ∗ owns (c : Thread nD τ) scM0_1 fullShare (acc m c t.val t.isLt).bs) ∗ (∃ r, prngReg c r))
      ∗ (dats m 0 c).owesAt () t.castSucc ∗ held c (refs t) (blk m c t)
      ∗ owns (c : Thread nD τ) (ms0_18 t) fullShare (dyaBlk (blk m c t)) ∗ owns (c : Thread nD τ) (ms0_19 t) fullShare (dybBlk (blk m c t))
      ∗ (∃ d, owns (c : Thread nD τ) (ms0_20 t) fullShare d)
      ∗ (∃ d, owns (c : Thread nD τ) (ms0_21 t) fullShare d)
      ∗ (∃ d, owns (c : Thread nD τ) (ms0_29 t) fullShare d)
      ∗ (dats m 0 c).leavesExact 25 t
      ∗ owns (c : Thread nD τ) (ms0_22 t) fullShare (acc m c t.val t.isLt).gb
      ∗ owns (c : Thread nD τ) (ms0_23 t) fullShare (acc m c t.val t.isLt).lg
      ∗ owns (c : Thread nD τ) (ms0_24 t) fullShare (acc m c t.val t.isLt).lb
      ∗ owns (c : Thread nD τ) (ms0_26 t) fullShare (acc m c t.val t.isLt).ws
      ∗ owns (c : Thread nD τ) (ms0_27 t) fullShare (acc m c t.val t.isLt).cg
      ∗ owns (c : Thread nD τ) (ms0_28 t) fullShare (acc m c t.val t.isLt).cb) ⊢ bodyPost m c t := by
  unfold bodyPost held
  rw [show (dats m 0 c).owesAt () t.succ = (dats m 0 c).owesAt () t.castSucc from rfl,
    show (dats m 0 c).Φ t.succ = PhiS m c (t.val + 1) t.isLt from rfl, PhiS_succ]
  dsimp only [refs, blk]
  rw [leaves_live m c 0 t rfl, after0_0]
  rw [leaves_live m c 1 t rfl, after0_1]
  rw [leaves_live m c 2 t rfl, after0_2]
  rw [leaves_live m c 3 t rfl, after0_3]
  rw [leaves_live m c 4 t rfl, after0_4]
  rw [leaves_live m c 5 t rfl, after0_5]
  rw [leaves_live m c 6 t rfl, after0_6]
  rw [leaves_live m c 7 t rfl, after0_7]
  rw [leaves_live m c 8 t rfl, after0_8]
  rw [leaves_live m c 9 t rfl, after0_9]
  rw [leaves_live m c 10 t rfl, after0_10]
  rw [leaves_live m c 11 t rfl, after0_11]
  rw [leaves_live m c 12 t rfl, after0_12]
  rw [leaves_live m c 13 t rfl, after0_13]
  rw [leaves_live m c 14 t rfl, after0_14]
  rw [leaves_live m c 15 t rfl, after0_15]
  rw [leaves_live m c 16 t rfl, after0_16]
  rw [leaves_live m c 17 t rfl, after0_17]
  rw [leaves_live m c 18 t rfl, after0_18]
  rw [leaves_live m c 19 t rfl, after0_19]
  rw [leaves_live m c 22 t rfl, after0_22]
  rw [leaves_live m c 23 t rfl, after0_23]
  rw [leaves_live m c 24 t rfl, after0_24]
  rw [leaves_live m c 26 t rfl, after0_26]
  rw [leaves_live m c 27 t rfl, after0_27]
  rw [leaves_live m c 28 t rfl, after0_28]
  dsimp only [blk]
  iintro ⟨HP, Ho, ⟨H0, H1, H2, H3, H4, H5, H6, H7, H8, H9, H10, H11, H12, H13, H14, H15, H16, H17⟩, H18, H19, H20, H21, H29, H25, H22, H23, H24, H26, H27, H28⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

set_option maxHeartbeats 4000000 in
/-- The body at any point: the first, a middle one or the last. -/
theorem sound_body (c : Dev nD) (t : Fin cfg0.N) :
    bodyPre m c t ⊢ wp frame (wpE (defs₀ (F := F)) Variants.none c none) Set.univ (bodyAt0 t) (fun _ => bodyPost m c t) := by
  refine (pre_open m c t).trans ?_
  rw [show (bodyAt0 t : Prog (TpuEff nD τ sig (Elt F) Λ₀ .tc) PUnit) = body (grid0.coords t) (refs t) from rfl]
  have hN : t.val < 32 := lt_of_lt_of_eq t.isLt (show cfg0.N = 32 from N_0)
  by_cases h0 : t.val = 0
  · have c0 := (atFirst_iff t).mpr h0
    have h1 : t.val ≠ 31 := by omega
    have c1 : ¬atLast (grid0.coords t) := fun h => h1 ((atLast_iff t).mp h)
    rw [PhiS_castSucc, PhiS_zero m c _ _ h0, PhiA0_eq]
    iintro ⟨⟨⟨HS0, HS1⟩, Hg⟩, Ho, HI, H18, H19, H20, H21, H29, ⟨%d25, H25⟩, ⟨%d22, H22⟩, ⟨%d23, H23⟩, ⟨%d24, H24⟩, ⟨%d26, H26⟩, ⟨%d27, H27⟩, ⟨%d28, H28⟩⟩
    iapply (run_A c (grid0.coords t) (refs t) (blk m c t) _ c0 c1 Set.univ _)
    isplitl [HI]; · iexact HI
    isplitl [H18 H19 H20 H21 H29 HS0]
    · unfold free
      isplitl [H18]; · iexact H18
      isplitl [H19]; · iexact H19
      isplitl [H20]; · iexact H20
      isplitl [H21]; · iexact H21
      isplitl [H29]; · iexact H29
      iexact HS0
    isplitl [H25]; · iexact H25
    isplitl [HS1 H22 H23 H24 H26 H27 H28]
    · unfold unset
      isplitl [H22]; · iexists _; iexact H22
      isplitl [H23]; · iexists _; iexact H23
      isplitl [H24]; · iexists _; iexact H24
      isplitl [H26]; · iexists _; iexact H26
      isplitl [H27]; · iexists _; iexact H27
      isplitl [H28]; · iexists _; iexact H28
      iexact HS1
    unfold left sums
    iintro ⟨HI, ⟨H18, H19, H20, H21, H29, HS0⟩, H25, H22, H23, H24, H26, H27, H28, HS1⟩
    iapply (post_close m c t)
    rw [acc_first m c t h0]
    isplitl [HS0 HS1 Hg]
    · isplitl [HS0 HS1]
      · isplitl [HS0]; · iexact HS0
        iexact HS1
      iexact Hg
    isplitl [Ho]; · iexact Ho
    isplitl [HI]; · iexact HI
    isplitl [H18]; · iexact H18
    isplitl [H19]; · iexact H19
    isplitl [H20]; · iexact H20
    isplitl [H21]; · iexact H21
    isplitl [H29]; · iexact H29
    isplitl [H25]
    · rw [Dat.leavesExact_idle (dats m 0 c) 25 t (idle_bs t h1) (noFlush_bs t h1)]; iexists _; iexact H25
    isplitl [H22]; · iexact H22
    isplitl [H23]; · iexact H23
    isplitl [H24]; · iexact H24
    isplitl [H26]; · iexact H26
    isplitl [H27]; · iexact H27
    iexact H28
  · have c0 : ¬atFirst (grid0.coords t) := fun h => h0 ((atFirst_iff t).mp h)
    by_cases h1 : t.val = 31
    · have c1 := (atLast_iff t).mpr h1
      rw [PhiS_castSucc, PhiS_pos m c _ _ h0]
      simp only [before0_22 m c t h0, before0_23 m c t h0, before0_24 m c t h0, before0_26 m c t h0, before0_27 m c t h0, before0_28 m c t h0]
      iintro ⟨⟨⟨HS0, HS1⟩, Hg⟩, Ho, HI, H18, H19, H20, H21, H29, ⟨%d25, H25⟩, ⟨%d22, H22⟩, ⟨%d23, H23⟩, ⟨%d24, H24⟩, ⟨%d26, H26⟩, ⟨%d27, H27⟩, ⟨%d28, H28⟩⟩
      iapply (run_C c (grid0.coords t) (refs t) (blk m c t) _ c0 c1 Set.univ _)
      isplitl [HI]; · iexact HI
      isplitl [H18 H19 H20 H21 H29 HS0]
      · unfold free
        isplitl [H18]; · iexact H18
        isplitl [H19]; · iexact H19
        isplitl [H20]; · iexact H20
        isplitl [H21]; · iexact H21
        isplitl [H29]; · iexact H29
        iexact HS0
      isplitl [H25]; · iexists _; iexact H25
      isplitl [HS1 H22 H23 H24 H26 H27 H28]
      · unfold sums
        isplitl [H22]; · iexact H22
        isplitl [H23]; · iexact H23
        isplitl [H24]; · iexact H24
        isplitl [H26]; · iexact H26
        isplitl [H27]; · iexact H27
        isplitl [H28]; · iexact H28
        iexact HS1
      unfold left sums
      iintro ⟨HI, ⟨H18, H19, H20, H21, H29, HS0⟩, H25, H22, H23, H24, H26, H27, H28, HS1⟩
      iapply (post_close m c t)
      rw [acc_next m c t h0]
      isplitl [HS0 HS1 Hg]
      · isplitl [HS0 HS1]
        · isplitl [HS0]; · iexact HS0
          iexact HS1
        iexact Hg
      isplitl [Ho]; · iexact Ho
      isplitl [HI]; · iexact HI
      isplitl [H18]; · iexact H18
      isplitl [H19]; · iexact H19
      isplitl [H20]; · iexact H20
      isplitl [H21]; · iexact H21
      isplitl [H29]; · iexact H29
      isplitl [H25]
      · rw [leaves_live m c 25 t (live_bs t h1), after0_25, acc_next m c t h0]; iexact H25
      isplitl [H22]; · iexact H22
      isplitl [H23]; · iexact H23
      isplitl [H24]; · iexact H24
      isplitl [H26]; · iexact H26
      isplitl [H27]; · iexact H27
      iexact H28
    · have c1 : ¬atLast (grid0.coords t) := fun h => h1 ((atLast_iff t).mp h)
      rw [PhiS_castSucc, PhiS_pos m c _ _ h0]
      simp only [before0_22 m c t h0, before0_23 m c t h0, before0_24 m c t h0, before0_26 m c t h0, before0_27 m c t h0, before0_28 m c t h0]
      iintro ⟨⟨⟨HS0, HS1⟩, Hg⟩, Ho, HI, H18, H19, H20, H21, H29, ⟨%d25, H25⟩, ⟨%d22, H22⟩, ⟨%d23, H23⟩, ⟨%d24, H24⟩, ⟨%d26, H26⟩, ⟨%d27, H27⟩, ⟨%d28, H28⟩⟩
      iapply (run_B c (grid0.coords t) (refs t) (blk m c t) _ _ c0 c1 Set.univ _)
      isplitl [HI]; · iexact HI
      isplitl [H18 H19 H20 H21 H29 HS0]
      · unfold free
        isplitl [H18]; · iexact H18
        isplitl [H19]; · iexact H19
        isplitl [H20]; · iexact H20
        isplitl [H21]; · iexact H21
        isplitl [H29]; · iexact H29
        iexact HS0
      isplitl [H25]; · iexact H25
      isplitl [HS1 H22 H23 H24 H26 H27 H28]
      · unfold sums
        isplitl [H22]; · iexact H22
        isplitl [H23]; · iexact H23
        isplitl [H24]; · iexact H24
        isplitl [H26]; · iexact H26
        isplitl [H27]; · iexact H27
        isplitl [H28]; · iexact H28
        iexact HS1
      unfold left sums
      iintro ⟨HI, ⟨H18, H19, H20, H21, H29, HS0⟩, H25, H22, H23, H24, H26, H27, H28, HS1⟩
      iapply (post_close m c t)
      rw [acc_next m c t h0]
      isplitl [HS0 HS1 Hg]
      · isplitl [HS0 HS1]
        · isplitl [HS0]; · iexact HS0
          iexact HS1
        iexact Hg
      isplitl [Ho]; · iexact Ho
      isplitl [HI]; · iexact HI
      isplitl [H18]; · iexact H18
      isplitl [H19]; · iexact H19
      isplitl [H20]; · iexact H20
      isplitl [H21]; · iexact H21
      isplitl [H29]; · iexact H29
      isplitl [H25]
      · rw [Dat.leavesExact_idle (dats m 0 c) 25 t (idle_bs t h1) (noFlush_bs t h1)]; iexists _; iexact H25
      isplitl [H22]; · iexact H22
      isplitl [H23]; · iexact H23
      isplitl [H24]; · iexact H24
      isplitl [H26]; · iexact H26
      isplitl [H27]; · iexact H27
      iexact H28

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (le_refl _) from rfl,
    PhiS_pos m c _ _ (by have : cfg0.N = 32 := N_0; omega), PhiA0_eq]
  iintro ⟨⟨HS0, HS1⟩, Hg⟩
  isplitl [HS0 HS1]
  · isplitl [HS0]
    · iexact HS0
    iexists _; iexact HS1
  iexact Hg

/-- What the launch leaves: the named windows' arrays as the proof data says, every other buffer as it was. -/
abbrev Post (r : PUnit × MemSt nD τ sig (Elt F)) : Prop :=
  Pipeline.RDat.FramePost (cfgs 0) (fun c => (dats m 0 c).toRForget forgets) (V m) r

set_option backward.isDefEq.respectTransparency.types false in
/-- The launch: the whole program runs, every named array ends at what the proof data says, and every counter is zero. -/
theorem run_main_quiescent : θ_run defs (onTc (τ := τ) (main (F := F))) (s₀ m ρ) (fun r => Post m r ∧ r.2.sem = fun _ => 0) :=
  Pipeline.θ_run_frame_track_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Post m) :=
  (θ_run defs _ _).mono (fun _ h => h.1) (run_main_quiescent m ρ)

/-- The frame: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ ⟨h, hz⟩ => ⟨fun c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩, hz⟩) (run_main_quiescent m ρ)

end Cert.Merge.Run

end

end
-- ==== Proof.Merge.KernelFrame.lean ====
/- The frame of the kernel at words, from the run over any element types. -/
module

public import proofs.«01_k».proof.Defs
public import proofs.«01_k».proof.Proof.Gen.Kernel4
public import proofs.«01_k».proof.Proof.Merge.Frame

@[expose] public section

set_option maxRecDepth 16384

noncomputable section

open Idealize.ShloMosaic Idealize.ShloMosaic.TcCoe Idealize.SL.Sem

namespace Cert.Merge

set_option maxHeartbeats 8000000 in
/-- The frame of the kernel: the run is the same at words as at extended reals. -/
theorem frame_kernel : Cert.quiescent_Kernel4 := by
  have e : Cert.Kernel4.defs (F := Bits) = Cert.Kernel4Ideal.defs (F := Bits) := by sl_kernel_rfl
  intro m ρ _
  have h := Run.frame (F := Bits) m ρ
  rw [← e] at h
  exact h

end Cert.Merge

end

end
-- ==== Proof.Merge.Spec.lean ====
/- What the gradient of the merge and of the spatial gating unit computes, element by element. -/
module

public import proofs.«01_k».proof.Proof.Head.Spec

@[expose] public section

set_option maxRecDepth 16384

noncomputable section

open Idealize.ShloMosaic Idealize.ShloMosaic.TcCoe Idealize.SL.Sem
open Idealize.ShloMosaic.Pipeline (Dat)

namespace Cert.Merge

open Cert.Head (mean rstdv lnorm vrow vn yb sa sb)

variable (d c : (⟨3, ![2, 4096, 1024]⟩ : Shape).Idx → EReal) (p : (⟨3, ![2, 4096, 6144]⟩ : Shape).Idx → EReal)
  (gb : (⟨1, ![2048]⟩ : Shape).Idx → EReal) (cb cg ce : (⟨1, ![1024]⟩ : Shape).Idx → EReal)
  (wco : (⟨2, ![1024, 1024]⟩ : Shape).Idx → EReal) (lg lb : (⟨1, ![1024]⟩ : Shape).Idx → EReal)
  (ws : (⟨3, ![8, 128, 128]⟩ : Shape).Idx → EReal) (bs : (⟨2, ![8, 128]⟩ : Shape).Idx → EReal)
  (wso wo : (⟨2, ![1024, 1024]⟩ : Shape).Idx → EReal)

/-! ### The forward values the gradient needs -/

/-- The convolution with its bias, a row of it. -/
def crow (b : Fin 2) (s : Fin 4096) : Fin 1024 → EReal := fun k => c (ix3 b s k) + cb (ix1 k)

/-- The normalised convolution. -/
def ch (b : Fin 2) (s : Fin 4096) (k : Fin 1024) : EReal := (crow c cb b s k - mean (crow c cb b s)) * rstdv (crow c cb b s)

/-- The normalised convolution, scaled and shifted. -/
def c2 (b : Fin 2) (s : Fin 4096) (k : Fin 1024) : EReal := ch c cb b s k * cg (ix1 k) + ce (ix1 k)

/-- The first branch. -/
def ya (b : Fin 2) (s : Fin 4096) (k : Fin 1024) : EReal :=
  ∑ l : Fin 1024, c2 c cb cg ce b s l * Maths.sig (c2 c cb cg ce b s l) * wco (ix2 l k)

/-- The normalised part of the projections before its scale and shift. -/
def vh (b : Fin 2) (s : Fin 4096) (k : Fin 1024) : EReal := (vrow p b s k - mean (vrow p b s)) * rstdv (vrow p b s)

/-! ### The gradients of the merge -/

/-- The gradient of the merged branches. -/
def dm (b : Fin 2) (s : Fin 4096) (k : Fin 1024) : EReal := ∑ l : Fin 1024, d (ix3 b s l) * wo (ix2 k l)

def dya (b : Fin 2) (s : Fin 4096) (k : Fin 1024) : EReal := dm d wo b s k * sa p gb b s k

def dyb (b : Fin 2) (s : Fin 4096) (k : Fin 1024) : EReal := dm d wo b s k * sb p gb b s k

/-- The gradient of the first branch's gate. -/
def dga (b : Fin 2) (s : Fin 4096) (k : Fin 1024) : EReal :=
  dm d wo b s k * ya c cb cg ce wco b s k * (sa p gb b s k * (1 - sa p gb b s k))

/-- The gradient of the second branch's gate. -/
def dgb (b : Fin 2) (s : Fin 4096) (k : Fin 1024) : EReal :=
  dm d wo b s k * yb p lg lb ws bs wso b s k * (sb p gb b s k * (1 - sb p gb b s k))

/-! ### The gradients of the spatial gating unit -/

/-- The gradient of the mixed values. -/
def dmix (b : Fin 2) (s : Fin 4096) (k : Fin 1024) : EReal :=
  (∑ l : Fin 1024, dyb d p gb wo b s l * wso (ix2 k l)) * p (ix3 b s ⟨2048 + k.val, by omega⟩)

/-- The gradient of the normalised values: the transposed mix. -/
def dvn (b : Fin 2) (s : Fin 4096) (k : Fin 1024) : EReal :=
  ∑ q : Fin 128, ws (ix3 ⟨k.val / 128, by omega⟩ q ⟨s.val % 128, by omega⟩)
    * dmix d p gb wso wo b ⟨s.val / 128 * 128 + q.val, by omega⟩ k

/-- Position `q` of the chunk that the number `n` of a chunk's channel falls into. -/
def inChunk (n : Fin 4096) (q : Fin 128) : Fin 4096 := ⟨n.val / 128 * 128 + q.val, by omega⟩

/-- The channel of group `g` that the number `n` of a chunk's channel falls into. -/
def inGroup (g : Fin 8) (n : Fin 4096) : Fin 1024 := ⟨g.val * 128 + n.val % 128, by omega⟩

/-- The gradient of the mixing weights: over every chunk and every channel of the group. -/
def dws (g : Fin 8) (q r : Fin 128) : EReal :=
  ∑ b : Fin 2, ∑ n : Fin 4096, dmix d p gb wso wo b (inChunk n q) (inGroup g n) * vn p lg lb b (inChunk n r) (inGroup g n)

/-- The gradient of the mixing bias: over every chunk and every channel of the group. -/
def dbs (g : Fin 8) (q : Fin 128) : EReal :=
  ∑ b : Fin 2, ∑ n : Fin 4096, dmix d p gb wso wo b (inChunk n q) (inGroup g n)

/-! ### The gradient of the convolution's norm -/

/-- The gradient of the activated convolution. -/
def dact (b : Fin 2) (s : Fin 4096) (k : Fin 1024) : EReal := ∑ l : Fin 1024, dya d p gb wo b s l * wco (ix2 k l)

/-- The gradient of the scaled and shifted convolution. -/
def dc2 (b : Fin 2) (s : Fin 4096) (k : Fin 1024) : EReal :=
  dact d p gb wco wo b s k * (Maths.sig (c2 c cb cg ce b s k)
    * (1 + c2 c cb cg ce b s k * (1 - Maths.sig (c2 c cb cg ce b s k))))

/-! ### The gradients summed over all rows -/

def dgA (k : Fin 1024) : EReal := ∑ b : Fin 2, ∑ s : Fin 4096, dga d c p gb cb cg ce wco wo b s k

def dgB (k : Fin 1024) : EReal := ∑ b : Fin 2, ∑ s : Fin 4096, dgb d p gb lg lb ws bs wso wo b s k

def dlb (k : Fin 1024) : EReal := ∑ b : Fin 2, ∑ s : Fin 4096, dvn d p gb ws wso wo b s k

def dlg (k : Fin 1024) : EReal := ∑ b : Fin 2, ∑ s : Fin 4096, dvn d p gb ws wso wo b s k * vh p b s k

def dcb (k : Fin 1024) : EReal := ∑ b : Fin 2, ∑ s : Fin 4096, dc2 d c p gb cb cg ce wco wo b s k

def dcg (k : Fin 1024) : EReal := ∑ b : Fin 2, ∑ s : Fin 4096, dc2 d c p gb cb cg ce wco wo b s k * ch c cb b s k

end Cert.Merge

end

end
-- ==== Proof.Merge.Reference.lean ====
/- What the reference of the gradient of the merge and of the spatial gating unit computes, element by element. -/
module

public import proofs.«01_k».proof.Proof.Gen.Reference4Ideal.Read
public import proofs.«01_k».proof.Proof.Shared
public import proofs.«01_k».proof.Proof.Merge.Spec

@[expose] public section

set_option maxRecDepth 16384

noncomputable section

open Idealize.ShloMosaic Idealize.ShloMosaic.TcCoe Idealize.SL.Sem
open Idealize.ShloMosaic.Pipeline (Dat)

namespace Cert.Merge

open Cert.Reference4Ideal Cert.Reference4Ideal.Gen Cert.Reference4Ideal.Read
open Cert.Head (mean rstdv lnorm vrow vn mixed gated yb sa sb)

variable (a0 a1 : FVec Ideal S2x4096x1024 .f32) (a2 : FVec Ideal S2x4096x6144 .f32) (a3 : FVec Ideal S2048 .f32)
  (a4 a5 a6 : FVec Ideal S1024 .f32) (a7 : FVec Ideal S1024x1024 .f32) (a8 a9 : FVec Ideal S1024 .f32)
  (a10 : FVec Ideal S8x128x128 .f32) (a11 : FVec Ideal S8x128 .f32) (a12 a13 : FVec Ideal S1024x1024 .f32)

/-! ### The normalised convolution and the first branch -/

theorem ref_crow (b : Fin 2) (s : Fin 4096) (k : Fin 1024) :
    val_main_v6 (F := Ideal) a1 a4 (ix3 b s k) = crow a1 a4 b s k := by
  pointwise [val_main_v6, val_main_v5, val_main_v4, crow]

theorem ref_cmean (b : Fin 2) (s : Fin 4096) :
    val_main_v10 (F := Ideal) a1 a4 (ix3 b s 0) = mean (crow a1 a4 b s) := by
  unfold mean
  simp only [← ref_crow]
  pointwise [val_main_v10, val_main_v9, val_main_v8, val_main_v7, val_main_cst, val_main_cst_0]

theorem ref_ccent (b : Fin 2) (s : Fin 4096) (k : Fin 1024) :
    val_main_v19 (F := Ideal) a1 a4 (ix3 b s k) = crow a1 a4 b s k - mean (crow a1 a4 b s) := by
  rw [← ref_cmean, ← ref_crow]
  pointwise [val_main_v19, val_main_v18]

theorem ref_crstd (b : Fin 2) (s : Fin 4096) :
    val_main_v22 (F := Ideal) a1 a4 (ix3 b s 0) = rstdv (crow a1 a4 b s) := by
  unfold rstdv
  simp only [← ref_ccent]
  pointwise [val_main_v22, val_main_v21, val_main_v20, val_main_v17, val_main_v16, val_main_v15, val_main_v14, val_main_v13, val_main_v12, val_main_v11, val_main_v19, val_main_v18, val_main_cst_1, val_main_cst_2, val_main_cst_3]

theorem ref_ch (b : Fin 2) (s : Fin 4096) (k : Fin 1024) :
    val_main_v24 (F := Ideal) a1 a4 (ix3 b s k) = ch a1 a4 b s k := by
  unfold ch
  rw [← ref_crstd, ← ref_ccent]
  pointwise [val_main_v24, val_main_v23]

theorem ref_c2 (b : Fin 2) (s : Fin 4096) (k : Fin 1024) :
    val_main_v30 (F := Ideal) a1 a4 a5 a6 (ix3 b s k) = c2 a1 a4 a5 a6 b s k := by
  unfold c2
  rw [← ref_ch]
  pointwise [val_main_v30, val_main_v29, val_main_v28, val_main_v27, val_main_v26, val_main_v25]

theorem ref_csig (b : Fin 2) (s : Fin 4096) (k : Fin 1024) :
    val_main_v31_2 (F := Ideal) a1 a4 a5 a6 (ix3 b s k) = Maths.sig (c2 a1 a4 a5 a6 b s k) := by
  unfold Maths.sig
  rw [← Maths.lit_one, ← ref_c2]
  pointwise [val_main_v31_2, val_main_call0_v4, val_main_call0_v3, val_main_call0_v2, val_main_call0_v1, val_main_call0_v0, val_main_call0_cst, val_main_call0_cst_0]

theorem ref_ya (b : Fin 2) (s : Fin 4096) (k : Fin 1024) :
    val_main_v32 (F := Ideal) a1 a4 a5 a6 a7 (ix3 b s k) = ya a1 a4 a5 a6 a7 b s k := by
  unfold ya
  simp only [← ref_csig]
  simp only [← ref_c2]
  pointwise [val_main_v32, val_main_v31_0]

/-! ### The spatial gating unit, forwards -/

theorem ref_v (b : Fin 2) (s : Fin 4096) (k : Fin 1024) :
    val_main_v1 (F := Ideal) a2 (ix3 b s k) = vrow a2 b s k := by
  pointwise [val_main_v1, vrow]

theorem ref_vmean (b : Fin 2) (s : Fin 4096) :
    val_main_v36 (F := Ideal) a2 (ix3 b s 0) = mean (vrow a2 b s) := by
  unfold mean
  simp only [← ref_v]
  pointwise [val_main_v36, val_main_v35, val_main_v34, val_main_v33, val_main_cst_4, val_main_cst_5]

theorem ref_vcent (b : Fin 2) (s : Fin 4096) (k : Fin 1024) :
    val_main_v45 (F := Ideal) a2 (ix3 b s k) = vrow a2 b s k - mean (vrow a2 b s) := by
  rw [← ref_vmean, ← ref_v]
  pointwise [val_main_v45, val_main_v44]

theorem ref_vrstd (b : Fin 2) (s : Fin 4096) :
    val_main_v48 (F := Ideal) a2 (ix3 b s 0) = rstdv (vrow a2 b s) := by
  unfold rstdv
  simp only [← ref_vcent]
  pointwise [val_main_v48, val_main_v47, val_main_v46, val_main_v43, val_main_v42, val_main_v41, val_main_v40, val_main_v39, val_main_v38, val_main_v37, val_main_v45, val_main_v44, val_main_cst_6, val_main_cst_7, val_main_cst_8]

theorem ref_vh (b : Fin 2) (s : Fin 4096) (k : Fin 1024) :
    val_main_v50 (F := Ideal) a2 (ix3 b s k) = vh a2 b s k := by
  unfold vh
  rw [← ref_vrstd, ← ref_vcent]
  pointwise [val_main_v50, val_main_v49]

theorem ref_vn (b : Fin 2) (s : Fin 4096) (k : Fin 1024) :
    val_main_v56 (F := Ideal) a2 a8 a9 (ix3 b s k) = vn a2 a8 a9 b s k := by
  unfold vn lnorm
  rw [← ref_vrstd, ← ref_vcent]
  pointwise [val_main_v56, val_main_v55, val_main_v54, val_main_v53, val_main_v52, val_main_v51, val_main_v50, val_main_v49]

theorem ref_mixed (b : Fin 2) (s : Fin 4096) (k : Fin 1024) :
    val_main_v64 (F := Ideal) a2 a8 a9 a10 a11 (ix3 b s k) = mixed a2 a8 a9 a10 a11 b s k := by
  unfold mixed
  simp only [← ref_vn]
  pointwise [val_main_v64, val_main_v63, val_main_v62, val_main_v61, val_main_v60, val_main_v59, val_main_v58, val_main_v57]

theorem ref_yb (b : Fin 2) (s : Fin 4096) (k : Fin 1024) :
    val_main_v66 (F := Ideal) a2 a8 a9 a10 a11 a12 (ix3 b s k) = yb a2 a8 a9 a10 a11 a12 b s k := by
  unfold yb gated
  simp only [← ref_mixed]
  pointwise [val_main_v66, val_main_v65, val_main_v0]

/-! ### The gates and the gradient of the merge -/

theorem ref_sa (b : Fin 2) (s : Fin 4096) (k : Fin 1024) :
    val_main_v77 (F := Ideal) a2 a3 (ix3 b s k) = sa a2 a3 b s k := by
  unfold sa Maths.sig
  rw [← Maths.lit_one]
  pointwise [val_main_v77, val_main_v76, val_main_v75, val_main_v74, val_main_v73, val_main_v72, val_main_v71, val_main_v70, val_main_v69, val_main_v67, val_main_v2, val_main_cst_9, val_main_cst_10]

theorem ref_sb (b : Fin 2) (s : Fin 4096) (k : Fin 1024) :
    val_main_v90 (F := Ideal) a2 a3 (ix3 b s k) = sb a2 a3 b s k := by
  unfold sb Maths.sig
  rw [← Maths.lit_one]
  pointwise [val_main_v90, val_main_v89, val_main_v88, val_main_v87, val_main_v86, val_main_v85, val_main_v84, val_main_v83, val_main_v82, val_main_v68, val_main_v3, val_main_cst_12, val_main_cst_13]

theorem ref_dm (b : Fin 2) (s : Fin 4096) (k : Fin 1024) :
    val_main_v97 (F := Ideal) a0 a13 (ix3 b s k) = dm a0 a13 b s k := by
  unfold dm
  pointwise [val_main_v97]

theorem ref_dya (b : Fin 2) (s : Fin 4096) (k : Fin 1024) :
    val_main_v104 (F := Ideal) a0 a2 a3 a13 (ix3 b s k) = dya a0 a2 a3 a13 b s k := by
  unfold dya
  rw [← ref_sa, ← ref_dm, mul_comm]
  pointwise [val_main_v104]

theorem ref_dyb (b : Fin 2) (s : Fin 4096) (k : Fin 1024) :
    val_main_v98 (F := Ideal) a0 a2 a3 a13 (ix3 b s k) = dyb a0 a2 a3 a13 b s k := by
  unfold dyb
  rw [← ref_sb, ← ref_dm, mul_comm]
  pointwise [val_main_v98]

theorem ref_dga (b : Fin 2) (s : Fin 4096) (k : Fin 1024) :
    val_main_v106 (F := Ideal) a0 a1 a2 a3 a4 a5 a6 a7 a13 (ix3 b s k) = dga a0 a1 a2 a3 a4 a5 a6 a7 a13 b s k := by
  unfold dga
  rw [← ref_sa, ← ref_dm, ← ref_ya, ← Maths.lit_one]
  pointwise [val_main_v106, val_main_v105, val_main_v80, val_main_v79, val_main_v78, val_main_cst_11]

theorem ref_dgb (b : Fin 2) (s : Fin 4096) (k : Fin 1024) :
    val_main_v100 (F := Ideal) a0 a2 a3 a8 a9 a10 a11 a12 a13 (ix3 b s k) = dgb a0 a2 a3 a8 a9 a10 a11 a12 a13 b s k := by
  unfold dgb
  rw [← ref_sb, ← ref_dm, ← ref_yb, ← Maths.lit_one]
  pointwise [val_main_v100, val_main_v99, val_main_v93, val_main_v92, val_main_v91, val_main_cst_14]

/-! ### The gradients of the spatial gating unit -/

theorem ref_dmix (b : Fin 2) (s : Fin 4096) (k : Fin 1024) :
    val_main_v112 (F := Ideal) a0 a2 a3 a12 a13 (ix3 b s k) = dmix a0 a2 a3 a12 a13 b s k := by
  unfold dmix
  simp only [← ref_dyb]
  rw [mul_comm]
  pointwise [val_main_v112, val_main_v111, val_main_v0]

theorem ref_dvn (b : Fin 2) (s : Fin 4096) (k : Fin 1024) :
    val_main_v122 (F := Ideal) a0 a2 a3 a10 a12 a13 (ix3 b s k) = dvn a0 a2 a3 a10 a12 a13 b s k := by
  unfold dvn
  simp only [← ref_dmix]
  pointwise [val_main_v122, val_main_v120, val_main_v119, val_main_v118, val_main_v113]
  exact Finset.sum_congr rfl fun q _ => mul_comm _ _

/-! ### The gradient of the convolution's norm -/

theorem ref_dact (b : Fin 2) (s : Fin 4096) (k : Fin 1024) :
    val_main_v130 (F := Ideal) a0 a2 a3 a7 a13 (ix3 b s k) = dact a0 a2 a3 a7 a13 b s k := by
  unfold dact
  simp only [← ref_dya]
  pointwise [val_main_v130]

theorem ref_dc2 (b : Fin 2) (s : Fin 4096) (k : Fin 1024)
    (h : Maths.IsReal (dact a0 a2 a3 a7 a13 b s k)) :
    val_main_v131 (F := Ideal) a0 a1 a2 a3 a4 a5 a6 a7 a13 (ix3 b s k) = dc2 a0 a1 a2 a3 a4 a5 a6 a7 a13 b s k := by
  unfold dc2
  rw [← Maths.gate_grad h, ← ref_csig, ← ref_c2, ← ref_dact, ← Maths.lit_one]
  pointwise [val_main_v131, val_main_call1_v1, val_main_call1_v2, val_main_call1_v0, val_main_v31_1, val_main_call0_v7, val_main_call0_v6, val_main_call0_cst_1]

/-! ### The sums over the rows -/

theorem ref_dlb (k : Fin 1024) :
    val_main_v235 (F := Ideal) a0 a2 a3 a10 a12 a13 (ix2 0 k) = dlb a0 a2 a3 a10 a12 a13 k := by
  unfold dlb
  simp only [← ref_dvn]
  pointwise [val_main_v235, val_main_v125, val_main_v124, val_main_v123, val_main_cst_21, val_main_cst_22, Maths.hostSum_leading]
  simp only [Fin.sum_univ_one]

theorem ref_dlg (k : Fin 1024) :
    val_main_v234 (F := Ideal) a0 a2 a3 a10 a12 a13 (ix2 0 k) = dlg a0 a2 a3 a10 a12 a13 k := by
  unfold dlg
  simp only [← ref_dvn, ← ref_vh]
  pointwise [val_main_v234, val_main_v129, val_main_v128, val_main_v127, val_main_v126, val_main_cst_23, val_main_cst_24, Maths.hostSum_leading]
  simp only [Fin.sum_univ_one]
  exact Finset.sum_congr rfl fun b _ => Finset.sum_congr rfl fun s _ => mul_comm _ _

theorem ref_dcb (k : Fin 1024)
    (h : ∀ b s k, Maths.IsReal (dact a0 a2 a3 a7 a13 b s k)) :
    val_main_v238 (F := Ideal) a0 a1 a2 a3 a4 a5 a6 a7 a13 (ix2 0 k) = dcb a0 a1 a2 a3 a4 a5 a6 a7 a13 k := by
  unfold dcb
  simp only [← ref_dc2 _ _ _ _ _ _ _ _ _ _ _ _ (h _ _ _)]
  pointwise [val_main_v238, val_main_v134, val_main_v133, val_main_v132, val_main_cst_25, val_main_cst_26, Maths.hostSum_leading]
  simp only [Fin.sum_univ_one]

theorem ref_dcg (k : Fin 1024)
    (h : ∀ b s k, Maths.IsReal (dact a0 a2 a3 a7 a13 b s k)) :
    val_main_v237 (F := Ideal) a0 a1 a2 a3 a4 a5 a6 a7 a13 (ix2 0 k) = dcg a0 a1 a2 a3 a4 a5 a6 a7 a13 k := by
  unfold dcg
  simp only [← ref_dc2 _ _ _ _ _ _ _ _ _ _ _ _ (h _ _ _), ← ref_ch]
  pointwise [val_main_v237, val_main_v138, val_main_v137, val_main_v136, val_main_v135, val_main_cst_27, val_main_cst_28, Maths.hostSum_leading]
  simp only [Fin.sum_univ_one]
  exact Finset.sum_congr rfl fun b _ => Finset.sum_congr rfl fun s _ => mul_comm _ _

/-! ### The two branches' gradients, the rows of both batch entries one after the other -/

theorem again_sa : val_main_v212 (F := Ideal) a2 a3 = val_main_v77 a2 a3 := rfl

theorem again_sb : val_main_v222 (F := Ideal) a2 a3 = val_main_v90 a2 a3 := rfl

theorem again_dm : val_main_v226 (F := Ideal) a0 a13 = val_main_v97 a0 a13 := rfl

theorem ref_dyaRows (i : Fin 8192) (k : Fin 1024) :
    val_main_v230 (F := Ideal) a0 a2 a3 a13 (ix2 i k) = dya a0 a2 a3 a13 ⟨i.val / 4096, by omega⟩ ⟨i.val % 4096, by omega⟩ k := by
  rw [← ref_dya]
  pointwise [val_main_v230, val_main_v229, val_main_v228, val_main_v104]
  rw [again_sa, again_dm]

theorem ref_dybRows (i : Fin 8192) (k : Fin 1024) :
    val_main_v232 (F := Ideal) a0 a2 a3 a13 (ix2 i k) = dyb a0 a2 a3 a13 ⟨i.val / 4096, by omega⟩ ⟨i.val % 4096, by omega⟩ k := by
  rw [← ref_dyb]
  pointwise [val_main_v232, val_main_v231, val_main_v227, val_main_v98]
  rw [again_sb, again_dm]

/-! ### The two halves of the gates' bias gradient -/

theorem ref_sumA (k : Fin 1024) : val_main_v109 (F := Ideal) a0 a1 a2 a3 a4 a5 a6 a7 a13 (ix1 k) = dgA a0 a1 a2 a3 a4 a5 a6 a7 a13 k := by
  unfold dgA
  simp only [← ref_dga]
  pointwise [val_main_v109, val_main_v108, val_main_v107, val_main_cst_17, val_main_cst_18, Maths.hostSum_leading]
  simp only [Fin.sum_univ_one]

theorem ref_sumB (k : Fin 1024) : val_main_v103 (F := Ideal) a0 a2 a3 a8 a9 a10 a11 a12 a13 (ix1 k) = dgB a0 a2 a3 a8 a9 a10 a11 a12 a13 k := by
  unfold dgB
  simp only [← ref_dgb]
  pointwise [val_main_v103, val_main_v102, val_main_v101, val_main_cst_15, val_main_cst_16, Maths.hostSum_leading]
  simp only [Fin.sum_univ_one]

theorem ref_dgA (k : Fin 1024) :
    val_main_v233 (F := Ideal) a0 a1 a2 a3 a4 a5 a6 a7 a8 a9 a10 a11 a12 a13 (ix2 0 ⟨k.val, by omega⟩) = dgA a0 a1 a2 a3 a4 a5 a6 a7 a13 k := by
  rw [← ref_sumA]
  pointwise [val_main_v233, val_main_v110]

theorem ref_dgB (k : Fin 1024) :
    val_main_v233 (F := Ideal) a0 a1 a2 a3 a4 a5 a6 a7 a8 a9 a10 a11 a12 a13 (ix2 0 ⟨1024 + k.val, by omega⟩)
      = dgB a0 a2 a3 a8 a9 a10 a11 a12 a13 k := by
  rw [← ref_sumB]
  pointwise [val_main_v233, val_main_v110]

end Cert.Merge

end

end
-- ==== Proof.Merge.Block.lean ====
/- The blocks that one grid point of the merge gradient loads, read from the arguments. -/
module

public import proofs.«01_k».proof.Proof.Merge.Values
public import proofs.«01_k».proof.Proof.Merge.Spec
public import proofs.«01_k».proof.Proof.Merge.Reference

@[expose] public section

set_option maxRecDepth 16384

noncomputable section

open Idealize.ShloMosaic Idealize.ShloMosaic.TcCoe Idealize.SL.Sem
open Idealize.ShloMosaic.Pipeline (Dat)

namespace Cert.Merge

open Cert.Kernel4Ideal Cert.Kernel4Ideal.Gen

open Cert.Head (mean rstdv lnorm vrow vn yb sa sb)

variable (m : (ℓ : Loc nD τ sig) → Buf (Elt Ideal) ℓ)

theorem idx : ∀ t : Fin cfg0.N, win0_0.index t = ![t.val, 0] ∧ win0_1.index t = ![t.val, 1] ∧ win0_2.index t = ![t.val, 2] ∧ win0_3.index t = ![t.val, 0] ∧ win0_4.index t = ![t.val, 0] ∧ win0_5.index t = ![t.val, 0]
    ∧ win0_6.index t = ![t.val, 0] ∧ win0_7.index t = ![t.val, 0] ∧ win0_8.index t = ![0, 0] ∧ win0_9.index t = ![0, 0] ∧ win0_10.index t = ![0, 0, 0] ∧ win0_11.index t = ![0, 0, 0]
    ∧ win0_12.index t = ![0, 0] ∧ win0_13.index t = ![0, 0] ∧ win0_14.index t = ![0, 0] ∧ win0_15.index t = ![0, 0, 0] ∧ win0_16.index t = ![0, 1, 0] ∧ win0_17.index t = ![0, 2, 0] :=
  (by decide +kernel : ∀ t : Fin grid0.N, _)

theorem idxOut : ∀ t : Fin cfg0.N, win0_18.index t = ![t.val, 0] ∧ win0_19.index t = ![t.val, 0] ∧ win0_22.index t = ![0, 0] ∧ win0_23.index t = ![0, 0] ∧ win0_24.index t = ![0, 0] ∧ win0_25.index t = ![0, 0] ∧ win0_26.index t = ![0, 0, 0] ∧ win0_27.index t = ![0, 0] ∧ win0_28.index t = ![0, 0] :=
  (by decide +kernel : ∀ t : Fin grid0.N, _)

/-- The batch entry and the position of row `r` of block `t`. -/
def bOf (t : Fin cfg0.N) (r : Fin 256) : Fin 2 := ⟨(t.val * 256 + r.val) / 4096, by have := lt_of_lt_of_eq t.isLt N_0; omega⟩
def sOf (t : Fin cfg0.N) (r : Fin 256) : Fin 4096 := ⟨(t.val * 256 + r.val) % 4096, by omega⟩

/-! ### The arguments and their blocks -/

abbrev A0 (c : Dev nD) : FVec Ideal S2x4096x1024 .f32 := m ((c : Thread nD τ).loc main_arg0)
abbrev A1 (c : Dev nD) : FVec Ideal S2x4096x1024 .f32 := m ((c : Thread nD τ).loc main_arg1)
abbrev A2 (c : Dev nD) : FVec Ideal S2x4096x6144 .f32 := m ((c : Thread nD τ).loc main_arg2)
abbrev A3 (c : Dev nD) : FVec Ideal S2048 .f32 := m ((c : Thread nD τ).loc main_arg3)
abbrev A4 (c : Dev nD) : FVec Ideal S1024 .f32 := m ((c : Thread nD τ).loc main_arg4)
abbrev A5 (c : Dev nD) : FVec Ideal S1024 .f32 := m ((c : Thread nD τ).loc main_arg5)
abbrev A6 (c : Dev nD) : FVec Ideal S1024 .f32 := m ((c : Thread nD τ).loc main_arg6)
abbrev A7 (c : Dev nD) : FVec Ideal S1024x1024 .f32 := m ((c : Thread nD τ).loc main_arg7)
abbrev A8 (c : Dev nD) : FVec Ideal S1024 .f32 := m ((c : Thread nD τ).loc main_arg8)
abbrev A9 (c : Dev nD) : FVec Ideal S1024 .f32 := m ((c : Thread nD τ).loc main_arg9)
abbrev A10 (c : Dev nD) : FVec Ideal S8x128x128 .f32 := m ((c : Thread nD τ).loc main_arg10)
abbrev A11 (c : Dev nD) : FVec Ideal S8x128 .f32 := m ((c : Thread nD τ).loc main_arg11)
abbrev A12 (c : Dev nD) : FVec Ideal S1024x1024 .f32 := m ((c : Thread nD τ).loc main_arg12)
abbrev A13 (c : Dev nD) : FVec Ideal S1024x1024 .f32 := m ((c : Thread nD τ).loc main_arg13)

/-! ### The arrays the host prepares, as terms over the arguments -/

theorem host_v99 (c : Dev nD) : (V m c main_v99 : FVec Ideal S8192x1024 .f32) = shapeCast S8192x1024 (A0 m c) shapeCasts_S2x4096x1024_S8192x1024 := by
  sl_kernel_rfl

theorem host_v101 (c : Dev nD) : (V m c main_v101 : FVec Ideal S8192x6144 .bf16) = truncf (F := Ideal) .bf16 (shapeCast S8192x6144 (A2 m c) shapeCasts_S2x4096x6144_S8192x6144) bitsLt_bf16_f32 := by
  sl_kernel_rfl

theorem host_v104 (c : Dev nD) : (V m c main_v104 : FVec Ideal S1x1024 .f32) = shapeCast S1x1024 (A8 m c) shapeCasts_S1024_S1x1024 := by
  sl_kernel_rfl

theorem host_v105 (c : Dev nD) : (V m c main_v105 : FVec Ideal S1x1024 .f32) = shapeCast S1x1024 (A9 m c) shapeCasts_S1024_S1x1024 := by
  sl_kernel_rfl

theorem host_v107 (c : Dev nD) : (V m c main_v107 : FVec Ideal S1x1024 .f32) = shapeCast S1x1024 (A5 m c) shapeCasts_S1024_S1x1024 := by
  sl_kernel_rfl

theorem host_v108 (c : Dev nD) : (V m c main_v108 : FVec Ideal S1x1024 .f32) = shapeCast S1x1024 (A6 m c) shapeCasts_S1024_S1x1024 := by
  sl_kernel_rfl

theorem host_v106 (c : Dev nD) : (V m c main_v106 : FVec Ideal S1x2048 .f32) = shapeCast S1x2048 (A3 m c) shapeCasts_S2048_S1x2048 := by
  sl_kernel_rfl

theorem host_v90 (c : Dev nD) : (V m c main_v90 : FVec Ideal S8x128x128 .bf16) = truncf (F := Ideal) .bf16 (A10 m c) bitsLt_bf16_f32 := by
  sl_kernel_rfl

theorem host_v91 (c : Dev nD) : (V m c main_v91 : FVec Ideal S8x128x128 .bf16) = transpose S8x128x128 [0, 2, 1] (truncf (F := Ideal) .bf16 (A10 m c) bitsLt_bf16_f32) transposes_S8x128x128_S8x128x128_0_2_1 := by
  sl_kernel_rfl

theorem host_v93 (c : Dev nD) : (V m c main_v93 : FVec Ideal S4x256x1024 .bf16) = shapeCast S4x256x1024 (truncf (F := Ideal) .bf16 (A7 m c) bitsLt_bf16_f32) shapeCasts_S1024x1024_S4x256x1024 := by
  sl_kernel_rfl

theorem host_v95 (c : Dev nD) : (V m c main_v95 : FVec Ideal S4x256x1024 .bf16) = shapeCast S4x256x1024 (truncf (F := Ideal) .bf16 (A12 m c) bitsLt_bf16_f32) shapeCasts_S1024x1024_S4x256x1024 := by
  sl_kernel_rfl

theorem host_v97 (c : Dev nD) : (V m c main_v97 : FVec Ideal S4x256x1024 .bf16) = shapeCast S4x256x1024 (truncf (F := Ideal) .bf16 (A13 m c) bitsLt_bf16_f32) shapeCasts_S1024x1024_S4x256x1024 := by
  sl_kernel_rfl

/-- The first path is the value the reference computes on the host. -/
theorem host_v49 (c : Dev nD) : (V m c main_v49 : FVec Ideal S2x4096x1024 .f32) = Cert.Reference4Ideal.Read.val_main_v32 (F := Ideal) (A1 m c) (A4 m c) (A5 m c) (A6 m c) (A7 m c) := by
  sl_kernel_rfl

/-! The steps of the second path on the host. -/
abbrev H77 (c : Dev nD) : FVec Ideal S2x4096x1024 .f32 := V m c main_v77
abbrev H79 (c : Dev nD) : FVec Ideal S8x128x2x32x128 .f32 := V m c main_v79
abbrev H85 (c : Dev nD) : FVec Ideal S2x4096x1024 .f32 := V m c main_v85
abbrev H87 (c : Dev nD) : FVec Ideal S2x4096x1024 .f32 := V m c main_v87

theorem host_v77 (c : Dev nD) : H77 m c = Cert.Reference4Ideal.Read.val_main_v56 (F := Ideal) (A2 m c) (A8 m c) (A9 m c) := by
  sl_kernel_rfl

theorem host_v79 (c : Dev nD) : H79 m c
    = Host.dotGeneral (F := Ideal) dot_S8x128x128_S2x32x128x8x128_S8x128x2x32x128_2_2_1_014_0_3 none (A10 m c)
      (shapeCast S2x32x128x8x128 (H77 m c) shapeCasts_S2x4096x1024_S2x32x128x8x128) := by
  sl_kernel_rfl

theorem host_v85 (c : Dev nD) : H85 m c
    = shapeCast S2x4096x1024 (addf (F := Ideal) (transpose S2x32x128x8x128 [2, 3, 1, 0, 4] (H79 m c) transposes_S8x128x2x32x128_S2x32x128x8x128_2_3_1_0_4)
      (Cert.Reference4Ideal.Read.val_main_v62 (F := Ideal) (A11 m c))) shapeCasts_S2x32x128x8x128_S2x4096x1024 := by
  sl_kernel_rfl

theorem mixed_eq (c : Dev nD) : H85 m c = Cert.Reference4Ideal.Read.val_main_v64 (F := Ideal) (A2 m c) (A8 m c) (A9 m c) (A10 m c) (A11 m c) := by
  rw [host_v85, host_v79, host_v77]
  rfl

theorem host_v87 (c : Dev nD) : H87 m c = Host.dotGeneral (F := Ideal) dot_S2x4096x1024_S1024x1024_S2x4096x1024_2_0_01_1_n_n none
    (mulf (F := Ideal) (extractStridedSlice S2x4096x1024 ![0, 0, 2048] (A2 m c) slices_S2x4096x6144_S2x4096x1024_0_0_2048) (H85 m c)) (A12 m c) := by
  sl_kernel_rfl

/-- So is the second. -/
theorem yb_eq (c : Dev nD) : H87 m c = Cert.Reference4Ideal.Read.val_main_v66 (F := Ideal) (A2 m c) (A8 m c) (A9 m c) (A10 m c) (A11 m c) (A12 m c) := by
  rw [host_v87, mixed_eq]
  rfl

theorem host_v51 (c : Dev nD) : (V m c main_v51 : FVec Ideal S8192x1024 .bf16) = truncf (F := Ideal) .bf16 (shapeCast S8192x1024 (V m c main_v49 : FVec Ideal S2x4096x1024 .f32) shapeCasts_S2x4096x1024_S8192x1024) bitsLt_bf16_f32 := by
  sl_kernel_rfl

theorem host_v89 (c : Dev nD) : (V m c main_v89 : FVec Ideal S8192x1024 .bf16) = truncf (F := Ideal) .bf16 (shapeCast S8192x1024 (H87 m c) shapeCasts_S2x4096x1024_S8192x1024) bitsLt_bf16_f32 := by
  sl_kernel_rfl

theorem host_v20 (c : Dev nD) : (V m c main_v20 : FVec Ideal S8192x1024 .bf16) = (StableHlo.after hostOps0 (fun b => m (c, b)) main_v20 : FVec Ideal S8192x1024 .bf16) := by
  sl_kernel_rfl

/-! ### The blocks -/

theorem blk0 (c : Dev nD) (t : Fin cfg0.N) (r : Fin 256) (l : Fin 1024) :
    iblk m c 0 t (ix2 r l) = A0 m c (ix3 (bOf t r) (sOf t r) l) := by
  refine Eq.trans ?_ (Eq.trans (congrFun (host_v99 m c) (ix2 ⟨t.val * 256 + r.val, by have := lt_of_lt_of_eq t.isLt N_0; omega⟩ l)) ?_)
  · blk_ext [iblk, idx t]
  · pointwise [bOf, sOf]

theorem blk1 (c : Dev nD) (t : Fin cfg0.N) (r : Fin 256) (l : Fin 2048) :
    iblk m c 1 t (ix2 r l) = A2 m c (ix3 (bOf t r) (sOf t r) ⟨2048 + l.val, by omega⟩) := by
  refine Eq.trans ?_ (Eq.trans (congrFun (host_v101 m c) (ix2 ⟨t.val * 256 + r.val, by have := lt_of_lt_of_eq t.isLt N_0; omega⟩ ⟨2048 + l.val, by omega⟩)) ?_)
  · blk_ext [iblk, idx t]
  · pointwise [bOf, sOf]

theorem blk2 (c : Dev nD) (t : Fin cfg0.N) (r : Fin 256) (l : Fin 2048) :
    iblk m c 2 t (ix2 r l) = A2 m c (ix3 (bOf t r) (sOf t r) ⟨4096 + l.val, by omega⟩) := by
  refine Eq.trans ?_ (Eq.trans (congrFun (host_v101 m c) (ix2 ⟨t.val * 256 + r.val, by have := lt_of_lt_of_eq t.isLt N_0; omega⟩ ⟨4096 + l.val, by omega⟩)) ?_)
  · blk_ext [iblk, idx t]
  · pointwise [bOf, sOf]

theorem blk8 (c : Dev nD) (t : Fin cfg0.N) (l : Fin 1024) :
    iblk m c 8 t (ix2 0 l) = A8 m c (ix1 l) := by
  refine Eq.trans ?_ (Eq.trans (congrFun (host_v104 m c) (ix2 0 l)) ?_)
  · blk_ext [iblk, idx t]
  · pointwise []

theorem blk9 (c : Dev nD) (t : Fin cfg0.N) (l : Fin 1024) :
    iblk m c 9 t (ix2 0 l) = A9 m c (ix1 l) := by
  refine Eq.trans ?_ (Eq.trans (congrFun (host_v105 m c) (ix2 0 l)) ?_)
  · blk_ext [iblk, idx t]
  · pointwise []

theorem blk13 (c : Dev nD) (t : Fin cfg0.N) (l : Fin 1024) :
    iblk m c 13 t (ix2 0 l) = A5 m c (ix1 l) := by
  refine Eq.trans ?_ (Eq.trans (congrFun (host_v107 m c) (ix2 0 l)) ?_)
  · blk_ext [iblk, idx t]
  · pointwise []

theorem blk14 (c : Dev nD) (t : Fin cfg0.N) (l : Fin 1024) :
    iblk m c 14 t (ix2 0 l) = A6 m c (ix1 l) := by
  refine Eq.trans ?_ (Eq.trans (congrFun (host_v108 m c) (ix2 0 l)) ?_)
  · blk_ext [iblk, idx t]
  · pointwise []

theorem blk12 (c : Dev nD) (t : Fin cfg0.N) (l : Fin 2048) :
    iblk m c 12 t (ix2 0 l) = A3 m c (ix1 l) := by
  refine Eq.trans ?_ (Eq.trans (congrFun (host_v106 m c) (ix2 0 l)) ?_)
  · blk_ext [iblk, idx t]
  · pointwise []

theorem blk10 (c : Dev nD) (t : Fin cfg0.N) (g : Fin 8) (p q : Fin 128) :
    iblk m c 10 t (ix3 g p q) = A10 m c (ix3 g p q) := by
  refine Eq.trans ?_ (Eq.trans (congrFun (host_v90 m c) (ix3 g p q)) ?_)
  · blk_ext [iblk, idx t]
  · pointwise []

theorem blk11 (c : Dev nD) (t : Fin cfg0.N) (g : Fin 8) (p q : Fin 128) :
    iblk m c 11 t (ix3 g p q) = A10 m c (ix3 g q p) := by
  refine Eq.trans ?_ (Eq.trans (congrFun (host_v91 m c) (ix3 g p q)) ?_)
  · blk_ext [iblk, idx t]
  · pointwise []

/-- A row of an array laid out by rows. -/
theorem flat_at (y : FVec Ideal S2x4096x1024 .f32) (n : Fin 8192) (k : Fin 1024) :
    (truncf (F := Ideal) .bf16 (shapeCast S8192x1024 y shapeCasts_S2x4096x1024_S8192x1024) bitsLt_bf16_f32 : FVec Ideal S8192x1024 .bf16) (ix2 n k) = y (ix3 ⟨n.val / 4096, by omega⟩ ⟨n.val % 4096, by omega⟩ k) := by
  pointwise []

theorem ya_at (c : Dev nD) (n : Fin 8192) (k : Fin 1024) :
    (V m c main_v51 : FVec Ideal S8192x1024 .bf16) (ix2 n k) = ya (A1 m c) (A4 m c) (A5 m c) (A6 m c) (A7 m c) ⟨n.val / 4096, by omega⟩ ⟨n.val % 4096, by omega⟩ k := by
  rw [host_v51, host_v49, flat_at]
  exact ref_ya _ _ _ _ _ _ _ _

theorem yb_at (c : Dev nD) (n : Fin 8192) (k : Fin 1024) :
    (V m c main_v89 : FVec Ideal S8192x1024 .bf16) (ix2 n k) = yb (A2 m c) (A8 m c) (A9 m c) (A10 m c) (A11 m c) (A12 m c) ⟨n.val / 4096, by omega⟩ ⟨n.val % 4096, by omega⟩ k := by
  rw [host_v89, yb_eq, flat_at]
  exact ref_yb _ _ _ _ _ _ _ _ _

theorem c1h_at (c : Dev nD) (n : Fin 8192) (k : Fin 1024) :
    (V m c main_v20 : FVec Ideal S8192x1024 .bf16) (ix2 n k) = ch (A1 m c) (A4 m c) ⟨n.val / 4096, by omega⟩ ⟨n.val % 4096, by omega⟩ k := by
  rw [host_v20]
  unfold ch crow mean rstdv mean
  entry_read
  pointwise []

theorem blk3 (c : Dev nD) (t : Fin cfg0.N) (r : Fin 256) (l : Fin 1024) :
    iblk m c 3 t (ix2 r l) = ya (A1 m c) (A4 m c) (A5 m c) (A6 m c) (A7 m c) (bOf t r) (sOf t r) l := by
  refine Eq.trans ?_ (ya_at m c ⟨t.val * 256 + r.val, by have := lt_of_lt_of_eq t.isLt N_0; omega⟩ l)
  blk_ext [iblk, idx t]

theorem blk4 (c : Dev nD) (t : Fin cfg0.N) (r : Fin 256) (l : Fin 1024) :
    iblk m c 4 t (ix2 r l) = yb (A2 m c) (A8 m c) (A9 m c) (A10 m c) (A11 m c) (A12 m c) (bOf t r) (sOf t r) l := by
  refine Eq.trans ?_ (yb_at m c ⟨t.val * 256 + r.val, by have := lt_of_lt_of_eq t.isLt N_0; omega⟩ l)
  blk_ext [iblk, idx t]

theorem blk6 (c : Dev nD) (t : Fin cfg0.N) (r : Fin 256) (l : Fin 1024) :
    iblk m c 6 t (ix2 r l) = ch (A1 m c) (A4 m c) (bOf t r) (sOf t r) l := by
  refine Eq.trans ?_ (c1h_at m c ⟨t.val * 256 + r.val, by have := lt_of_lt_of_eq t.isLt N_0; omega⟩ l)
  blk_ext [iblk, idx t]

/-- The three square matrices side by side, as the host lays them. -/
theorem squares_eq (c : Dev nD) : (V m c main_v98 : FVec Ideal S4x768x1024 .bf16)
    = concatenate S4x768x1024 1 [⟨S4x256x1024, (V m c main_v93 : FVec Ideal S4x256x1024 .bf16)⟩,
        ⟨S4x256x1024, (V m c main_v95 : FVec Ideal S4x256x1024 .bf16)⟩, ⟨S4x256x1024, (V m c main_v97 : FVec Ideal S4x256x1024 .bf16)⟩]
        concatenates_S4x256x1024_S4x256x1024_S4x256x1024_S4x768x1024_d1 := by
  sl_kernel_rfl

theorem square0_at (c : Dev nD) (j : Fin 4) (q : Fin 256) (k : Fin 1024) :
    (V m c main_v98 : FVec Ideal S4x768x1024 .bf16) (ix3 j ⟨q.val, by omega⟩ k) = A7 m c (ix2 ⟨j.val * 256 + q.val, by omega⟩ k) := by
  have h : (V m c main_v93 : FVec Ideal S4x256x1024 .bf16) (ix3 j q k) = A7 m c (ix2 ⟨j.val * 256 + q.val, by omega⟩ k) := by
    rw [host_v93]
    pointwise []
  rw [squares_eq, ← h]
  pointwise []

theorem square1_at (c : Dev nD) (j : Fin 4) (q : Fin 256) (k : Fin 1024) :
    (V m c main_v98 : FVec Ideal S4x768x1024 .bf16) (ix3 j ⟨256 + q.val, by omega⟩ k) = A12 m c (ix2 ⟨j.val * 256 + q.val, by omega⟩ k) := by
  have h : (V m c main_v95 : FVec Ideal S4x256x1024 .bf16) (ix3 j q k) = A12 m c (ix2 ⟨j.val * 256 + q.val, by omega⟩ k) := by
    rw [host_v95]
    pointwise []
  rw [squares_eq, ← h]
  pointwise []

theorem square2_at (c : Dev nD) (j : Fin 4) (q : Fin 256) (k : Fin 1024) :
    (V m c main_v98 : FVec Ideal S4x768x1024 .bf16) (ix3 j ⟨512 + q.val, by omega⟩ k) = A13 m c (ix2 ⟨j.val * 256 + q.val, by omega⟩ k) := by
  have h : (V m c main_v97 : FVec Ideal S4x256x1024 .bf16) (ix3 j q k) = A13 m c (ix2 ⟨j.val * 256 + q.val, by omega⟩ k) := by
    rw [host_v97]
    pointwise []
  rw [squares_eq, ← h]
  pointwise []
  rw [dif_neg (by omega), dif_neg (by omega)]
  exact congrArg (fun z : Fin 256 => (V m c main_v97 : FVec Ideal S4x256x1024 .bf16) (ix3 j z k)) (Fin.ext (by dsimp only; omega))

theorem blk15 (c : Dev nD) (t : Fin cfg0.N) (j : Fin 4) (q : Fin 256) (k : Fin 1024) :
    iblk m c 15 t (ix3 j q k) = A7 m c (ix2 ⟨j.val * 256 + q.val, by omega⟩ k) := by
  refine Eq.trans ?_ (square0_at m c j q k)
  blk_ext [iblk, idx t]

theorem blk16 (c : Dev nD) (t : Fin cfg0.N) (j : Fin 4) (q : Fin 256) (k : Fin 1024) :
    iblk m c 16 t (ix3 j q k) = A12 m c (ix2 ⟨j.val * 256 + q.val, by omega⟩ k) := by
  refine Eq.trans ?_ (square1_at m c j q k)
  blk_ext [iblk, idx t]

theorem blk17 (c : Dev nD) (t : Fin cfg0.N) (j : Fin 4) (q : Fin 256) (k : Fin 1024) :
    iblk m c 17 t (ix3 j q k) = A13 m c (ix2 ⟨j.val * 256 + q.val, by omega⟩ k) := by
  refine Eq.trans ?_ (square2_at m c j q k)
  blk_ext [iblk, idx t]

end Cert.Merge

end

end
-- ==== Proof.Merge.Point.lean ====
/- The parts of what one grid point of the merge gradient computes that are stored tile by tile: the transposed mix, the
   gradients of the mixing weights and of the mixing bias, and the gradient of the gates' bias. -/
module

public import proofs.«01_k».proof.Proof.Merge.Block
public import proofs.«01_k».proof.Proof.Merge.Points
public import proofs.«01_k».proof.Proof.Head.Point

@[expose] public section

set_option maxRecDepth 16384

noncomputable section

open Idealize.ShloMosaic Idealize.ShloMosaic.TcCoe Idealize.SL.Sem
open Idealize.ShloMosaic.Pipeline (Dat)

namespace Cert.Merge

open Cert.Kernel4Ideal Cert.Kernel4Ideal.Gen Cert.Merge.Run
open Cert.Head (at2 at3 half_at bias_half_at group_at sides sides_lo sides_hi)

/-! ### The transposed mix -/

/-- The products of one group, for both chunks. -/
def both (v : FVec Ideal S256x1024 .bf16) (w : FVec Ideal S1x128x128 .bf16) (o : Nat) (h0 : S256x1024.Slices ![0, o] S128x128)
    (h1 : S256x1024.Slices ![128, o] S128x128) : FVec Ideal S128x256 .f32 :=
  matmul (F := Ideal) dot_S128x128_S128x256_S128x256_1_0_0_1_n_n none (shapeCast S128x128 w shapeCasts_S1x128x128_S128x128)
    (sides v o h0 h1 : FVec Ideal S128x256 .bf16) (constant S128x256 .f32 0x00000000#32)

theorem both_at (v : FVec Ideal S256x1024 .bf16) (w : FVec Ideal S1x128x128 .bf16) (o : Nat) (h0 h1) (q : Fin 128) (p : Fin 256) :
    both v w o h0 h1 (ix2 q p) = ∑ j : Fin 128, w (ix3 0 q j) * sides v o h0 h1 (ix2 j p) := by
  unfold both
  generalize sides v o h0 h1 = u
  pointwise []

/-- Column `j` of the two chunks side by side. -/
theorem sides_at (v : FVec Ideal S256x1024 .bf16) (o : Nat) (h0 h1) (ho : o + 128 ≤ 1024) (q : Fin 128) (j : Fin 256) :
    sides v o h0 h1 (ix2 q j) = v (ix2 ⟨j.val / 128 * 128 + q.val, by omega⟩ ⟨o + j.val % 128, by omega⟩) := by
  by_cases hj : j.val < 128
  · refine (at2 (sides v o h0 h1) rfl rfl).trans ((sides_lo v o h0 h1 ho q ⟨j.val, hj⟩).trans (at2 v ?_ ?_))
    · dsimp only; omega
    · dsimp only; omega
  · refine (at2 (sides v o h0 h1) rfl ?_).trans ((sides_hi v o h0 h1 ho q ⟨j.val - 128, by omega⟩).trans (at2 v ?_ ?_))
    · dsimp only; omega
    · dsimp only; omega
    · dsimp only; omega

/-- The transposed mix of one row of a block: the group's weights times the rows of its chunk. -/
def dvnAt (X : Ins Ideal) (r : Fin 256) (k : Fin 1024) : EReal :=
  ∑ j : Fin 128, X.x11 (ix3 ⟨k.val / 128, by omega⟩ ⟨r.val % 128, by omega⟩ j) * v189 X (ix2 ⟨r.val / 128 * 128 + j.val, by omega⟩ k)

/-- One tile of the transposed mix. -/
def tile (X : Ins Ideal) (g o a : Nat) (hg : ∀ i, ![g, 0, 0] i + S1x128x128.size i ≤ S8x128x128.size i)
    (h0 : S256x1024.Slices ![0, o] S128x128) (h1 : S256x1024.Slices ![128, o] S128x128) (ha : S128x256.Slices ![0, a] S128x128) : FVec Ideal S128x128 .f32 :=
  shapeCast S128x128 (extractStridedSlice S128x128 ![0, a]
    (both (v189 X) (View.ld X.x11 (Rect.unit (s := S8x128x128) ![g, 0, 0] S1x128x128.size hg)) o h0 h1) ha) shapeCasts_S128x128_S128x128

theorem slice_at (p : FVec Ideal S128x256 .f32) (a : Nat) (h) (ha : a + 128 ≤ 256) (q l : Fin 128) :
    (shapeCast S128x128 (extractStridedSlice S128x128 ![0, a] p h) shapeCasts_S128x128_S128x128 : FVec Ideal S128x128 .f32) (ix2 q l)
      = p (ix2 q ⟨a + l.val, by omega⟩) := by
  pointwise []

theorem tile_at (X : Ins Ideal) (g o a : Nat) (hg h0 h1 ha) (hg8 : g < 8) (ho : o = g * 128) (haa : a = 0 ∨ a = 128) (x : S128x128.Idx) (y : S256x1024.Idx)
    (e0 : (y 0).val = a + (x 0).val) (e1 : (y 1).val = o + (x 1).val) : tile X g o a hg h0 h1 ha x = dvnAt X (y 0) (y 1) := by
  idx_vars x
  have hl : x1.val < 128 := x1.isLt
  have hq : x0.val < 128 := x0.isLt
  unfold tile dvnAt
  rw [slice_at _ _ _ (by omega), both_at]
  refine Finset.sum_congr rfl fun j _ => congrArg₂ _ ?_ ?_
  · refine (group_at _ _ _ hg8 _ _).trans ?_
    exact at3 X.x11 j (by dsimp only at *; omega) (by dsimp only at *; omega)
  · refine (sides_at _ _ _ _ (by omega) j _).trans ?_
    exact at2 (v189 X) (by dsimp only at *; omega) (by dsimp only at *; omega)

/-- The tiles of the transposed mix, the last stored first. -/
theorem tiles_eq (X : Ins Ideal) : dvnTiles X =
  [⟨Rect.unit (s := S256x1024) ![128, 896] S128x128.size inb_S256x1024_S128x128_128_896, tile X 7 896 128 inb_S8x128x128_S1x128x128_7_0_0 slices_S256x1024_o0_896_S128x128 slices_S256x1024_o128_896_S128x128 slices_S128x256_o0_128_S128x128⟩,
   ⟨Rect.unit (s := S256x1024) ![0, 896] S128x128.size inb_S256x1024_S128x128_0_896, tile X 7 896 0 inb_S8x128x128_S1x128x128_7_0_0 slices_S256x1024_o0_896_S128x128 slices_S256x1024_o128_896_S128x128 slices_S128x256_o0_0_S128x128⟩,
   ⟨Rect.unit (s := S256x1024) ![128, 768] S128x128.size inb_S256x1024_S128x128_128_768, tile X 6 768 128 inb_S8x128x128_S1x128x128_6_0_0 slices_S256x1024_o0_768_S128x128 slices_S256x1024_o128_768_S128x128 slices_S128x256_o0_128_S128x128⟩,
   ⟨Rect.unit (s := S256x1024) ![0, 768] S128x128.size inb_S256x1024_S128x128_0_768, tile X 6 768 0 inb_S8x128x128_S1x128x128_6_0_0 slices_S256x1024_o0_768_S128x128 slices_S256x1024_o128_768_S128x128 slices_S128x256_o0_0_S128x128⟩,
   ⟨Rect.unit (s := S256x1024) ![128, 640] S128x128.size inb_S256x1024_S128x128_128_640, tile X 5 640 128 inb_S8x128x128_S1x128x128_5_0_0 slices_S256x1024_o0_640_S128x128 slices_S256x1024_o128_640_S128x128 slices_S128x256_o0_128_S128x128⟩,
   ⟨Rect.unit (s := S256x1024) ![0, 640] S128x128.size inb_S256x1024_S128x128_0_640, tile X 5 640 0 inb_S8x128x128_S1x128x128_5_0_0 slices_S256x1024_o0_640_S128x128 slices_S256x1024_o128_640_S128x128 slices_S128x256_o0_0_S128x128⟩,
   ⟨Rect.unit (s := S256x1024) ![128, 512] S128x128.size inb_S256x1024_S128x128_128_512, tile X 4 512 128 inb_S8x128x128_S1x128x128_4_0_0 slices_S256x1024_o0_512_S128x128 slices_S256x1024_o128_512_S128x128 slices_S128x256_o0_128_S128x128⟩,
   ⟨Rect.unit (s := S256x1024) ![0, 512] S128x128.size inb_S256x1024_S128x128_0_512, tile X 4 512 0 inb_S8x128x128_S1x128x128_4_0_0 slices_S256x1024_o0_512_S128x128 slices_S256x1024_o128_512_S128x128 slices_S128x256_o0_0_S128x128⟩,
   ⟨Rect.unit (s := S256x1024) ![128, 384] S128x128.size inb_S256x1024_S128x128_128_384, tile X 3 384 128 inb_S8x128x128_S1x128x128_3_0_0 slices_S256x1024_o0_384_S128x128 slices_S256x1024_o128_384_S128x128 slices_S128x256_o0_128_S128x128⟩,
   ⟨Rect.unit (s := S256x1024) ![0, 384] S128x128.size inb_S256x1024_S128x128_0_384, tile X 3 384 0 inb_S8x128x128_S1x128x128_3_0_0 slices_S256x1024_o0_384_S128x128 slices_S256x1024_o128_384_S128x128 slices_S128x256_o0_0_S128x128⟩,
   ⟨Rect.unit (s := S256x1024) ![128, 256] S128x128.size inb_S256x1024_S128x128_128_256, tile X 2 256 128 inb_S8x128x128_S1x128x128_2_0_0 slices_S256x1024_o0_256_S128x128 slices_S256x1024_o128_256_S128x128 slices_S128x256_o0_128_S128x128⟩,
   ⟨Rect.unit (s := S256x1024) ![0, 256] S128x128.size inb_S256x1024_S128x128_0_256, tile X 2 256 0 inb_S8x128x128_S1x128x128_2_0_0 slices_S256x1024_o0_256_S128x128 slices_S256x1024_o128_256_S128x128 slices_S128x256_o0_0_S128x128⟩,
   ⟨Rect.unit (s := S256x1024) ![128, 128] S128x128.size inb_S256x1024_S128x128_128_128, tile X 1 128 128 inb_S8x128x128_S1x128x128_1_0_0 slices_S256x1024_o0_128_S128x128 slices_S256x1024_o128_128_S128x128 slices_S128x256_o0_128_S128x128⟩,
   ⟨Rect.unit (s := S256x1024) ![0, 128] S128x128.size inb_S256x1024_S128x128_0_128, tile X 1 128 0 inb_S8x128x128_S1x128x128_1_0_0 slices_S256x1024_o0_128_S128x128 slices_S256x1024_o128_128_S128x128 slices_S128x256_o0_0_S128x128⟩,
   ⟨Rect.unit (s := S256x1024) ![128, 0] S128x128.size inb_S256x1024_S128x128_128_0, tile X 0 0 128 inb_S8x128x128_S1x128x128_0_0_0 slices_S256x1024_o0_0_S128x128 slices_S256x1024_o128_0_S128x128 slices_S128x256_o0_128_S128x128⟩,
   ⟨Rect.unit (s := S256x1024) ![0, 0] S128x128.size inb_S256x1024_S128x128_0_0, tile X 0 0 0 inb_S8x128x128_S1x128x128_0_0_0 slices_S256x1024_o0_0_S128x128 slices_S256x1024_o128_0_S128x128 slices_S128x256_o0_0_S128x128⟩] := by
  sl_kernel_rfl

theorem dvn_tiles (X : Ins Ideal) (y : S256x1024.Idx) : Run.dvn X y = dvnAt X (y 0) (y 1) := by
  unfold Run.dvn
  rw [tiles_eq]
  canon_tiles x h
  · exact tile_at X 7 896 128 _ _ _ _ (by decide) rfl (by decide) x y (by omega) (by omega)
  · exact tile_at X 7 896 0 _ _ _ _ (by decide) rfl (by decide) x y (by omega) (by omega)
  · exact tile_at X 6 768 128 _ _ _ _ (by decide) rfl (by decide) x y (by omega) (by omega)
  · exact tile_at X 6 768 0 _ _ _ _ (by decide) rfl (by decide) x y (by omega) (by omega)
  · exact tile_at X 5 640 128 _ _ _ _ (by decide) rfl (by decide) x y (by omega) (by omega)
  · exact tile_at X 5 640 0 _ _ _ _ (by decide) rfl (by decide) x y (by omega) (by omega)
  · exact tile_at X 4 512 128 _ _ _ _ (by decide) rfl (by decide) x y (by omega) (by omega)
  · exact tile_at X 4 512 0 _ _ _ _ (by decide) rfl (by decide) x y (by omega) (by omega)
  · exact tile_at X 3 384 128 _ _ _ _ (by decide) rfl (by decide) x y (by omega) (by omega)
  · exact tile_at X 3 384 0 _ _ _ _ (by decide) rfl (by decide) x y (by omega) (by omega)
  · exact tile_at X 2 256 128 _ _ _ _ (by decide) rfl (by decide) x y (by omega) (by omega)
  · exact tile_at X 2 256 0 _ _ _ _ (by decide) rfl (by decide) x y (by omega) (by omega)
  · exact tile_at X 1 128 128 _ _ _ _ (by decide) rfl (by decide) x y (by omega) (by omega)
  · exact tile_at X 1 128 0 _ _ _ _ (by decide) rfl (by decide) x y (by omega) (by omega)
  · exact tile_at X 0 0 128 _ _ _ _ (by decide) rfl (by decide) x y (by omega) (by omega)
  · exact tile_at X 0 0 0 _ _ _ _ (by decide) rfl (by decide) x y (by omega) (by omega)

/-! ### The gradient of the mixing weights -/

theorem group32_at (b : Vec Ideal S8x128x128 .f32) (g : Nat) (h) (hg : g < 8) (p q : Fin 128) :
    (View.ld b (Rect.unit (s := S8x128x128) ![g, 0, 0] S1x128x128.size h) : Vec Ideal S1x128x128 .f32) (ix3 0 p q) = b (ix3 ⟨g, hg⟩ p q) := by
  refine congrArg b ?_
  idx_ext

/-- The gradient of the mixing weights of one block, over both chunks and the channels of the group. -/
def wsAt (X : Ins Ideal) (g : Fin 8) (q r : Fin 128) : EReal :=
  ∑ j : Fin 256, v189 X (ix2 ⟨j.val / 128 * 128 + q.val, by omega⟩ ⟨g.val * 128 + j.val % 128, by omega⟩)
    * v188 X (ix2 ⟨j.val / 128 * 128 + r.val, by omega⟩ ⟨g.val * 128 + j.val % 128, by omega⟩)

/-- One tile of it, added to what was there. -/
def tileW (X : Ins Ideal) (w : Vec Ideal S8x128x128 .f32) (g o : Nat) (hg : ∀ i, ![g, 0, 0] i + S1x128x128.size i ≤ S8x128x128.size i)
    (h0 : S256x1024.Slices ![0, o] S128x128) (h1 : S256x1024.Slices ![128, o] S128x128) : FVec Ideal S1x128x128 .f32 :=
  shapeCast S1x128x128 (addf (F := Ideal) (φ := .f32)
    (shapeCast S128x128 (View.ld w (Rect.unit (s := S8x128x128) ![g, 0, 0] S1x128x128.size hg) : Vec Ideal S1x128x128 .f32) shapeCasts_S1x128x128_S128x128)
    (matmul (F := Ideal) dot_S128x256_S128x256_S128x128_1_1_0_0_n_n none (sides (v189 X) o h0 h1 : FVec Ideal S128x256 .bf16)
      (sides (v188 X) o h0 h1 : FVec Ideal S128x256 .bf16) (constant S128x128 .f32 0x00000000#32))) shapeCasts_S128x128_S1x128x128

theorem products_at (w : Vec Ideal S1x128x128 .f32) (u v : FVec Ideal S128x256 .bf16) (q r : Fin 128) :
    (shapeCast S1x128x128 (addf (F := Ideal) (φ := .f32) (shapeCast S128x128 w shapeCasts_S1x128x128_S128x128)
      (matmul (F := Ideal) dot_S128x256_S128x256_S128x128_1_1_0_0_n_n none u v (constant S128x128 .f32 0x00000000#32))) shapeCasts_S128x128_S1x128x128
      : FVec Ideal S1x128x128 .f32) (ix3 0 q r) = w (ix3 0 q r) + ∑ j : Fin 256, u (ix2 q j) * v (ix2 r j) := by
  pointwise []

theorem tileW_at (X : Ins Ideal) (w : Vec Ideal S8x128x128 .f32) (g o : Nat) (hg h0 h1) (hg8 : g < 8) (ho : o = g * 128) (x : S1x128x128.Idx) (y : S8x128x128.Idx)
    (e0 : (y 0).val = g + (x 0).val) (e1 : (y 1).val = (x 1).val) (e2 : (y 2).val = (x 2).val) : tileW X w g o hg h0 h1 x = w y + wsAt X (y 0) (y 1) (y 2) := by
  idx_vars x
  idx_vars y
  rw [Subsingleton.elim x0 0] at e0 ⊢
  have h0' : y0 = ⟨g, hg8⟩ := Fin.ext e0
  have h1' : y1 = x1 := Fin.ext e1
  have h2' : y2 = x2 := Fin.ext e2
  subst h0' h1' h2'
  unfold tileW wsAt
  rw [products_at]
  refine congrArg₂ _ (group32_at _ _ _ hg8 _ _) (Finset.sum_congr rfl fun j _ => congrArg₂ _ ?_ ?_)
  · refine (sides_at _ _ _ _ (by omega) _ j).trans (at2 (v189 X) rfl ?_)
    dsimp only at *; omega
  · refine (sides_at _ _ _ _ (by omega) _ j).trans (at2 (v188 X) rfl ?_)
    dsimp only at *; omega

theorem tilesW_eq (X : Ins Ideal) (w : Vec Ideal S8x128x128 .f32) : stepWSTiles X w =
  [⟨Rect.unit (s := S8x128x128) ![7, 0, 0] S1x128x128.size inb_S8x128x128_S1x128x128_7_0_0, tileW X w 7 896 inb_S8x128x128_S1x128x128_7_0_0 slices_S256x1024_o0_896_S128x128 slices_S256x1024_o128_896_S128x128⟩,
   ⟨Rect.unit (s := S8x128x128) ![6, 0, 0] S1x128x128.size inb_S8x128x128_S1x128x128_6_0_0, tileW X w 6 768 inb_S8x128x128_S1x128x128_6_0_0 slices_S256x1024_o0_768_S128x128 slices_S256x1024_o128_768_S128x128⟩,
   ⟨Rect.unit (s := S8x128x128) ![5, 0, 0] S1x128x128.size inb_S8x128x128_S1x128x128_5_0_0, tileW X w 5 640 inb_S8x128x128_S1x128x128_5_0_0 slices_S256x1024_o0_640_S128x128 slices_S256x1024_o128_640_S128x128⟩,
   ⟨Rect.unit (s := S8x128x128) ![4, 0, 0] S1x128x128.size inb_S8x128x128_S1x128x128_4_0_0, tileW X w 4 512 inb_S8x128x128_S1x128x128_4_0_0 slices_S256x1024_o0_512_S128x128 slices_S256x1024_o128_512_S128x128⟩,
   ⟨Rect.unit (s := S8x128x128) ![3, 0, 0] S1x128x128.size inb_S8x128x128_S1x128x128_3_0_0, tileW X w 3 384 inb_S8x128x128_S1x128x128_3_0_0 slices_S256x1024_o0_384_S128x128 slices_S256x1024_o128_384_S128x128⟩,
   ⟨Rect.unit (s := S8x128x128) ![2, 0, 0] S1x128x128.size inb_S8x128x128_S1x128x128_2_0_0, tileW X w 2 256 inb_S8x128x128_S1x128x128_2_0_0 slices_S256x1024_o0_256_S128x128 slices_S256x1024_o128_256_S128x128⟩,
   ⟨Rect.unit (s := S8x128x128) ![1, 0, 0] S1x128x128.size inb_S8x128x128_S1x128x128_1_0_0, tileW X w 1 128 inb_S8x128x128_S1x128x128_1_0_0 slices_S256x1024_o0_128_S128x128 slices_S256x1024_o128_128_S128x128⟩,
   ⟨Rect.unit (s := S8x128x128) ![0, 0, 0] S1x128x128.size inb_S8x128x128_S1x128x128_0_0_0, tileW X w 0 0 inb_S8x128x128_S1x128x128_0_0_0 slices_S256x1024_o0_0_S128x128 slices_S256x1024_o128_0_S128x128⟩] := by
  sl_kernel_rfl

theorem stepWS_at (X : Ins Ideal) (w : Vec Ideal S8x128x128 .f32) (y : S8x128x128.Idx) : stepWS X w y = w y + wsAt X (y 0) (y 1) (y 2) := by
  unfold stepWS
  rw [tilesW_eq]
  canon_tiles x h
  · exact tileW_at X w 7 896 _ _ _ (by decide) rfl x y (by omega) (by omega) (by omega)
  · exact tileW_at X w 6 768 _ _ _ (by decide) rfl x y (by omega) (by omega) (by omega)
  · exact tileW_at X w 5 640 _ _ _ (by decide) rfl x y (by omega) (by omega) (by omega)
  · exact tileW_at X w 4 512 _ _ _ (by decide) rfl x y (by omega) (by omega) (by omega)
  · exact tileW_at X w 3 384 _ _ _ (by decide) rfl x y (by omega) (by omega) (by omega)
  · exact tileW_at X w 2 256 _ _ _ (by decide) rfl x y (by omega) (by omega) (by omega)
  · exact tileW_at X w 1 128 _ _ _ (by decide) rfl x y (by omega) (by omega) (by omega)
  · exact tileW_at X w 0 0 _ _ _ (by decide) rfl x y (by omega) (by omega) (by omega)

/-! ### The gradient of the mixing bias -/

theorem cols_at (b : Vec Ideal S128x1024 .f32) (o : Nat) (h) (ho : o + 128 ≤ 1024) (p q : Fin 128) :
    (View.ld b (Rect.unit (s := S128x1024) ![0, o] S128x128.size h) : Vec Ideal S128x128 .f32) (ix2 p q) = b (ix2 p ⟨o + q.val, by omega⟩) := by
  refine congrArg b ?_
  idx_ext

theorem stepBS_at (X : Ins Ideal) (b : Vec Ideal S128x1024 .f32) (q : Fin 128) (k : Fin 1024) :
    stepBS X b (ix2 q k) = b (ix2 q k) + (v163 X (ix2 ⟨q.val, by omega⟩ k) + v163 X (ix2 ⟨128 + q.val, by omega⟩ k)) := by
  unfold stepBS
  generalize v163 X = u
  pointwise [k0_pay51]

theorem colsum_at (b : Vec Ideal S128x128 .f32) (q : Fin 128) : k0_pay4 (F := Ideal) b (ix2 0 q) = ∑ d : Fin 128, b (ix2 q d) := by
  pointwise [k0_pay4]

/-- The mixing bias's gradient at one channel position: over the channels of the group. -/
def bsAt (b : Vec Ideal S128x1024 .f32) (k : Fin 1024) : EReal :=
  ∑ d : Fin 128, b (ix2 ⟨k.val % 128, by omega⟩ ⟨k.val / 128 * 128 + d.val, by omega⟩)

theorem tileB_at (b : Vec Ideal S128x1024 .f32) (g o : Nat) (h) (ho : o = g * 128) (hg : g < 8) (x : S1x128.Idx) (y : S1x1024.Idx)
    (e1 : (y 1).val = o + (x 1).val) : k0_pay4 (F := Ideal) (View.ld b (Rect.unit (s := S128x1024) ![0, o] S128x128.size h)) x = bsAt b (y 1) := by
  idx_vars x
  have hl : x1.val < 128 := x1.isLt
  rw [Subsingleton.elim x0 0, colsum_at]
  unfold bsAt
  refine Finset.sum_congr rfl fun d _ => (cols_at _ _ _ (by omega) _ _).trans (at2 b ?_ ?_)
  · dsimp only at *; omega
  · dsimp only at *; omega

theorem tilesB_eq (b : Vec Ideal S128x1024 .f32) : bsTiles b =
  [⟨Rect.unit (s := S1x1024) ![0, 896] S1x128.size inb_S1x1024_S1x128_0_896, k0_pay4 (F := Ideal) (View.ld b (Rect.unit (s := S128x1024) ![0, 896] S128x128.size inb_S128x1024_S128x128_0_896))⟩,
   ⟨Rect.unit (s := S1x1024) ![0, 768] S1x128.size inb_S1x1024_S1x128_0_768, k0_pay4 (F := Ideal) (View.ld b (Rect.unit (s := S128x1024) ![0, 768] S128x128.size inb_S128x1024_S128x128_0_768))⟩,
   ⟨Rect.unit (s := S1x1024) ![0, 640] S1x128.size inb_S1x1024_S1x128_0_640, k0_pay4 (F := Ideal) (View.ld b (Rect.unit (s := S128x1024) ![0, 640] S128x128.size inb_S128x1024_S128x128_0_640))⟩,
   ⟨Rect.unit (s := S1x1024) ![0, 512] S1x128.size inb_S1x1024_S1x128_0_512, k0_pay4 (F := Ideal) (View.ld b (Rect.unit (s := S128x1024) ![0, 512] S128x128.size inb_S128x1024_S128x128_0_512))⟩,
   ⟨Rect.unit (s := S1x1024) ![0, 384] S1x128.size inb_S1x1024_S1x128_0_384, k0_pay4 (F := Ideal) (View.ld b (Rect.unit (s := S128x1024) ![0, 384] S128x128.size inb_S128x1024_S128x128_0_384))⟩,
   ⟨Rect.unit (s := S1x1024) ![0, 256] S1x128.size inb_S1x1024_S1x128_0_256, k0_pay4 (F := Ideal) (View.ld b (Rect.unit (s := S128x1024) ![0, 256] S128x128.size inb_S128x1024_S128x128_0_256))⟩,
   ⟨Rect.unit (s := S1x1024) ![0, 128] S1x128.size inb_S1x1024_S1x128_0_128, k0_pay4 (F := Ideal) (View.ld b (Rect.unit (s := S128x1024) ![0, 128] S128x128.size inb_S128x1024_S128x128_0_128))⟩,
   ⟨Rect.unit (s := S1x1024) ![0, 0] S1x128.size inb_S1x1024_S1x128_0_0, k0_pay4 (F := Ideal) (View.ld b (Rect.unit (s := S128x1024) ![0, 0] S128x128.size inb_S128x1024_S128x128_0_0))⟩] := by
  sl_kernel_rfl

theorem bsBlk_at (b : Vec Ideal S128x1024 .f32) (y : S1x1024.Idx) : bsBlk b y = bsAt b (y 1) := by
  unfold bsBlk
  rw [tilesB_eq]
  canon_tiles x h
  · exact tileB_at b 7 896 _ rfl (by decide) x y (by omega)
  · exact tileB_at b 6 768 _ rfl (by decide) x y (by omega)
  · exact tileB_at b 5 640 _ rfl (by decide) x y (by omega)
  · exact tileB_at b 4 512 _ rfl (by decide) x y (by omega)
  · exact tileB_at b 3 384 _ rfl (by decide) x y (by omega)
  · exact tileB_at b 2 256 _ rfl (by decide) x y (by omega)
  · exact tileB_at b 1 128 _ rfl (by decide) x y (by omega)
  · exact tileB_at b 0 0 _ rfl (by decide) x y (by omega)

/-! ### The gradient of the gates' bias -/

/-- The gradient of one gate in one row. -/
def gateAt (d s y : FVec Ideal S256x1024 .f32) (r : Fin 256) (k : Fin 1024) : EReal :=
  d (ix2 r k) * y (ix2 r k) * (s (ix2 r k) * (1 - s (ix2 r k)))

theorem gateA_pay (d s : FVec Ideal S256x1024 .f32) (y : Vec Ideal S256x1024 .bf16) (g : Vec Ideal S1x1024 .f32) (k : Fin 1024) :
    k0_pay41 (F := Ideal) d s y g (ix2 0 k) = g (ix2 0 k) + ∑ r : Fin 256, gateAt d s y r k := by
  unfold gateAt
  rw [← Maths.lit_one]
  pointwise [k0_pay41, k0_pay37]

theorem gateB_pay (d s : FVec Ideal S256x1024 .f32) (y : Vec Ideal S256x1024 .bf16) (g : Vec Ideal S1x1024 .f32) (k : Fin 1024) :
    k0_pay42 (F := Ideal) (k0_pay38 (F := Ideal) d s y) g (ix2 0 k) = g (ix2 0 k) + ∑ r : Fin 256, gateAt d s y r k := by
  unfold gateAt
  rw [← Maths.lit_one]
  pointwise [k0_pay42, k0_pay38]

/-- The gradient of the gates' bias of one block. -/
def gbAt (X : Ins Ideal) (k : Fin 2048) : EReal :=
  ∑ r : Fin 256, if h : k.val < 1024 then gateAt (v9 X) (v23 X) X.x3 r ⟨k.val, h⟩ else gateAt (v9 X) (v37 X) X.x4 r ⟨k.val - 1024, by omega⟩

theorem gbA (X : Ins Ideal) (g : Vec Ideal S1x2048 .f32) (x : S1x1024.Idx) (y : S1x2048.Idx) (e1 : (y 1).val = (x 1).val) :
    v143 X g x = g y + gbAt X (y 1) := by
  idx_vars x
  idx_vars y
  rw [Subsingleton.elim x0 0, Subsingleton.elim y0 0]
  have hx : x1.val < 1024 := x1.isLt
  have hy : y1 = ⟨x1.val, by omega⟩ := Fin.ext e1
  rw [hy]
  unfold v143 gbAt
  rw [gateA_pay]
  refine congrArg₂ _ ((bias_half_at _ 0 _ (by omega) _).trans (at2 g rfl ?_)) (Finset.sum_congr rfl fun r _ => ?_)
  · dsimp only; omega
  · rw [dif_pos (show x1.val < 1024 from hx)]

theorem gbB (X : Ins Ideal) (g : Vec Ideal S1x2048 .f32) (x : S1x1024.Idx) (y : S1x2048.Idx) (e1 : (y 1).val = 1024 + (x 1).val) :
    k0_pay42 (F := Ideal) (v134 X) (View.ld g (Rect.unit (s := S1x2048) ![0, 1024] S1x1024.size inb_S1x2048_S1x1024_0_1024)) x = g y + gbAt X (y 1) := by
  idx_vars x
  idx_vars y
  rw [Subsingleton.elim x0 0, Subsingleton.elim y0 0]
  have hx : x1.val < 1024 := x1.isLt
  have hy : y1 = ⟨1024 + x1.val, by omega⟩ := Fin.ext e1
  rw [hy]
  unfold v134 gbAt
  rw [gateB_pay]
  refine congrArg₂ _ ((bias_half_at _ 1024 _ (by omega) _).trans (at2 g rfl ?_)) (Finset.sum_congr rfl fun r _ => ?_)
  · dsimp only
  · rw [dif_neg (by dsimp only; omega)]
    exact congrArg (fun z : Fin 1024 => gateAt (v9 X) (v37 X) X.x4 r z) (Fin.ext (by dsimp only; omega))

theorem stepGB_at (X : Ins Ideal) (g : Vec Ideal S1x2048 .f32) (y : S1x2048.Idx) : stepGB X g y = g y + gbAt X (y 1) := by
  unfold stepGB stepGBTiles
  canon_tiles x h
  · exact gbB X g x y (by omega)
  · exact gbA X g x y (by omega)

end Cert.Merge

end

end
-- ==== Proof.Merge.Feed.lean ====
/- What one grid point of the merge gradient computes, element by element. -/
module

public import proofs.«01_k».proof.Proof.Merge.Point
public import proofs.«01_k».proof.Proof.Shared

@[expose] public section

set_option maxRecDepth 16384

noncomputable section

open Idealize.ShloMosaic Idealize.ShloMosaic.TcCoe Idealize.SL.Sem
open Idealize.ShloMosaic.Pipeline (Dat)

namespace Cert.Merge

open Cert.Kernel4Ideal Cert.Kernel4Ideal.Gen Cert.Merge.Run
open Cert.Head (at2 at3 half_at bias_half_at group_at sides sides_lo sides_hi)

variable (m : (ℓ : Loc nD τ sig) → Buf (Elt Ideal) ℓ)

/-! ### The arrays of the specification at the arguments -/

abbrev Dm (c : Dev nD) := dm (A0 m c) (A13 m c)
abbrev Sa (c : Dev nD) := Cert.Head.sa (A2 m c) (A3 m c)
abbrev Sb (c : Dev nD) := Cert.Head.sb (A2 m c) (A3 m c)
abbrev Dya (c : Dev nD) := dya (A0 m c) (A2 m c) (A3 m c) (A13 m c)
abbrev Dyb (c : Dev nD) := dyb (A0 m c) (A2 m c) (A3 m c) (A13 m c)
abbrev Dga (c : Dev nD) := dga (A0 m c) (A1 m c) (A2 m c) (A3 m c) (A4 m c) (A5 m c) (A6 m c) (A7 m c) (A13 m c)
abbrev Dgb (c : Dev nD) := dgb (A0 m c) (A2 m c) (A3 m c) (A8 m c) (A9 m c) (A10 m c) (A11 m c) (A12 m c) (A13 m c)
abbrev Dmix (c : Dev nD) := dmix (A0 m c) (A2 m c) (A3 m c) (A12 m c) (A13 m c)
abbrev Dvn (c : Dev nD) := dvn (A0 m c) (A2 m c) (A3 m c) (A10 m c) (A12 m c) (A13 m c)
abbrev Vh (c : Dev nD) := vh (A2 m c)
abbrev Vn (c : Dev nD) := Cert.Head.vn (A2 m c) (A8 m c) (A9 m c)
abbrev Dact (c : Dev nD) := dact (A0 m c) (A2 m c) (A3 m c) (A7 m c) (A13 m c)
abbrev Ch (c : Dev nD) := ch (A1 m c) (A4 m c)
abbrev C2 (c : Dev nD) := c2 (A1 m c) (A4 m c) (A5 m c) (A6 m c)
abbrev Dc2 (c : Dev nD) := dc2 (A0 m c) (A1 m c) (A2 m c) (A3 m c) (A4 m c) (A5 m c) (A6 m c) (A7 m c) (A13 m c)

/-! ### The merge -/

theorem dm_pay (a : Vec Ideal S256x1024 .f32) (w : Vec Ideal S4x256x1024 .bf16) (r : Fin 256) (k : Fin 1024) :
    k0_pay18 (F := Ideal) a w (ix2 r k) = ∑ l : Fin 1024, a (ix2 r l) * w (ix3 ⟨k.val / 256, by omega⟩ ⟨k.val % 256, by omega⟩ l) := by
  pointwise [k0_pay18]

theorem dm_at (c : Dev nD) (t : Fin cfg0.N) (r : Fin 256) (k : Fin 1024) :
    v9 (blk m c t) (ix2 r k) = Dm m c (bOf t r) (sOf t r) k := by
  unfold v9 Dm dm
  rw [dm_pay]
  refine Finset.sum_congr rfl fun l _ => congrArg₂ _ (blk0 m c t r l) ((blk17 m c t _ _ _).trans (at2 (A13 m c) ?_ rfl))
  dsimp only; omega

theorem sa_pay (a : Vec Ideal S256x1024 .bf16) (g : Vec Ideal S1x1024 .f32) (r : Fin 256) (k : Fin 1024) :
    k0_pay19 (F := Ideal) a g (ix2 r k) = Maths.sig (a (ix2 r k) + g (ix2 0 k)) := by
  rw [← Maths.sig_lit]
  pointwise [k0_pay19]

theorem sb_pay (a : Vec Ideal S256x1024 .bf16) (g : Vec Ideal S1x1024 .f32) (r : Fin 256) (k : Fin 1024) :
    k0_pay21 (F := Ideal) (k0_pay20 (F := Ideal) a g) (Scalar.ofBits .f32 0x3F800000#32) (ix2 r k) = Maths.sig (a (ix2 r k) + g (ix2 0 k)) := by
  rw [← Maths.sig_lit]
  pointwise [k0_pay21, k0_pay20]

theorem sa_at (c : Dev nD) (t : Fin cfg0.N) (r : Fin 256) (k : Fin 1024) :
    v23 (blk m c t) (ix2 r k) = Sa m c (bOf t r) (sOf t r) k := by
  unfold v23 Sa Cert.Head.sa
  rw [sa_pay]
  refine congrArg Maths.sig (congrArg₂ _ ?_ ?_)
  · refine (half_at _ 0 _ (by omega) r k).trans ((blk2 m c t r _).trans ?_)
    exact congrArg (fun z : Fin 6144 => A2 m c (ix3 (bOf t r) (sOf t r) z)) (Fin.ext (by dsimp only; omega))
  · refine (bias_half_at _ 0 _ (by omega) k).trans ((blk12 m c t _).trans ?_)
    exact congrArg (fun z : Fin 2048 => A3 m c (ix1 z)) (Fin.ext (by dsimp only; omega))

theorem sb_at (c : Dev nD) (t : Fin cfg0.N) (r : Fin 256) (k : Fin 1024) :
    v37 (blk m c t) (ix2 r k) = Sb m c (bOf t r) (sOf t r) k := by
  unfold v37 v35 Sb Cert.Head.sb
  rw [sb_pay]
  refine congrArg Maths.sig (congrArg₂ _ ?_ ?_)
  · refine (half_at _ 1024 _ (by omega) r k).trans ((blk2 m c t r _).trans ?_)
    exact congrArg (fun z : Fin 6144 => A2 m c (ix3 (bOf t r) (sOf t r) z)) (Fin.ext (by dsimp only; omega))
  · refine (bias_half_at _ 1024 _ (by omega) k).trans ((blk12 m c t _).trans ?_)
    exact congrArg (fun z : Fin 2048 => A3 m c (ix1 z)) (Fin.ext (by dsimp only))

theorem dya_pay (a b : FVec Ideal S256x1024 .f32) (r : Fin 256) (k : Fin 1024) :
    k0_pay22 (F := Ideal) a b (ix2 r k) = a (ix2 r k) * b (ix2 r k) := by
  pointwise [k0_pay22]

theorem dyb_pay (a e : FVec Ideal S256x1024 .f32) (o : EReal) (r : Fin 256) (k : Fin 1024) :
    k0_pay23 (F := Ideal) a e o (ix2 r k) = a (ix2 r k) * k0_pay21 (F := Ideal) e o (ix2 r k) := by
  unfold k0_pay23
  generalize k0_pay21 (F := Ideal) e o = u
  pointwise []

theorem dya_at (c : Dev nD) (t : Fin cfg0.N) (r : Fin 256) (k : Fin 1024) :
    k0_pay22 (F := Ideal) (v9 (blk m c t)) (v23 (blk m c t)) (ix2 r k) = Dya m c (bOf t r) (sOf t r) k := by
  rw [dya_pay, dm_at, sa_at]
  rfl

theorem dyb_at (c : Dev nD) (t : Fin cfg0.N) (r : Fin 256) (k : Fin 1024) :
    k0_pay23 (F := Ideal) (v9 (blk m c t)) (v35 (blk m c t)) (Scalar.ofBits .f32 0x3F800000#32) (ix2 r k) = Dyb m c (bOf t r) (sOf t r) k := by
  rw [dyb_pay, dm_at]
  exact congrArg _ (sb_at m c t r k)

theorem dga_at (c : Dev nD) (t : Fin cfg0.N) (r : Fin 256) (k : Fin 1024) :
    gateAt (v9 (blk m c t)) (v23 (blk m c t)) (blk m c t).x3 r k = Dga m c (bOf t r) (sOf t r) k := by
  unfold gateAt Dga dga
  rw [dm_at, sa_at]
  exact congrArg (fun z => _ * z * _) (blk3 m c t r k)

theorem dgb_at (c : Dev nD) (t : Fin cfg0.N) (r : Fin 256) (k : Fin 1024) :
    gateAt (v9 (blk m c t)) (v37 (blk m c t)) (blk m c t).x4 r k = Dgb m c (bOf t r) (sOf t r) k := by
  unfold gateAt Dgb dgb
  rw [dm_at, sb_at]
  exact congrArg (fun z => _ * z * _) (blk4 m c t r k)

/-- The gradient of both gates' arguments, side by side. -/
def dg (c : Dev nD) (b : Fin 2) (s : Fin 4096) (k : Fin 2048) : EReal :=
  if h : k.val < 1024 then Dga m c b s ⟨k.val, h⟩ else Dgb m c b s ⟨k.val - 1024, by omega⟩

theorem gb_at (c : Dev nD) (t : Fin cfg0.N) (k : Fin 2048) : gbAt (blk m c t) k = ∑ r : Fin 256, dg m c (bOf t r) (sOf t r) k := by
  unfold gbAt dg
  refine Finset.sum_congr rfl fun r _ => ?_
  by_cases h : k.val < 1024
  · rw [dif_pos h, dif_pos h]; exact dga_at m c t r _
  · rw [dif_neg h, dif_neg h]; exact dgb_at m c t r _

/-! ### The spatial gating unit -/

theorem dgated_pay (a e : FVec Ideal S256x1024 .f32) (o : EReal) (w : Vec Ideal S4x256x1024 .bf16) (r : Fin 256) (k : Fin 1024) :
    k0_pay25 (F := Ideal) a e o w (ix2 r k)
      = ∑ l : Fin 1024, k0_pay23 (F := Ideal) a e o (ix2 r l) * w (ix3 ⟨k.val / 256, by omega⟩ ⟨k.val % 256, by omega⟩ l) := by
  unfold k0_pay25
  generalize k0_pay23 (F := Ideal) a e o = u
  pointwise []

theorem dmix_pay (a : FVec Ideal S256x1024 .f32) (u : Vec Ideal S256x1024 .bf16) (r : Fin 256) (k : Fin 1024) :
    k0_pay44 (F := Ideal) a u (ix2 r k) = a (ix2 r k) * u (ix2 r k) := by
  pointwise [k0_pay44]

theorem dmix_at (c : Dev nD) (t : Fin cfg0.N) (r : Fin 256) (k : Fin 1024) :
    v163 (blk m c t) (ix2 r k) = Dmix m c (bOf t r) (sOf t r) k := by
  unfold v163 v51 Dmix dmix
  rw [dmix_pay, dgated_pay]
  refine congrArg₂ _ (Finset.sum_congr rfl fun l _ => congrArg₂ _ (dyb_at m c t r l) ((blk16 m c t _ _ _).trans (at2 (A12 m c) ?_ rfl))) ?_
  · dsimp only; omega
  · refine (half_at _ 0 _ (by omega) r k).trans ((blk1 m c t r _).trans ?_)
    exact congrArg (fun z : Fin 6144 => A2 m c (ix3 (bOf t r) (sOf t r) z)) (Fin.ext (by dsimp only; omega))

theorem round_pay (a : FVec Ideal S256x1024 .f32) (r : Fin 256) (k : Fin 1024) : k0_pay50 (F := Ideal) a (ix2 r k) = a (ix2 r k) := by
  pointwise [k0_pay50]

theorem v189_at (c : Dev nD) (t : Fin cfg0.N) (r : Fin 256) (k : Fin 1024) :
    v189 (blk m c t) (ix2 r k) = Dmix m c (bOf t r) (sOf t r) k := by
  unfold v189
  rw [round_pay]
  exact dmix_at m c t r k

theorem vh_pay (a : Vec Ideal S256x1024 .bf16) (r : Fin 256) (k : Fin 1024) :
    k0_pay47 (F := Ideal) a (ix2 r k) = (a (ix2 r k) - Cert.Head.mean (fun l => a (ix2 r l))) * Cert.Head.rstdv (fun l => a (ix2 r l)) := by
  pointwise [k0_pay47, k0_pay46, k0_pay45, Cert.Head.rstdv, Cert.Head.mean]

theorem vh_at (c : Dev nD) (t : Fin cfg0.N) (r : Fin 256) (k : Fin 1024) :
    v179 (blk m c t) (ix2 r k) = Vh m c (bOf t r) (sOf t r) k := by
  have h : ∀ l : Fin 1024, (View.ld (blk m c t).x1 (Rect.unit (s := S256x2048) ![0, 1024] S256x1024.size inb_S256x2048_S256x1024_0_1024) : Vec Ideal S256x1024 .bf16) (ix2 r l)
      = Cert.Head.vrow (A2 m c) (bOf t r) (sOf t r) l := fun l => by
    refine (half_at _ 1024 _ (by omega) r l).trans ((blk1 m c t r _).trans ?_)
    exact congrArg (fun z : Fin 6144 => A2 m c (ix3 (bOf t r) (sOf t r) z)) (Fin.ext (by dsimp only; omega))
  unfold v179 Vh vh
  rw [vh_pay, h]
  refine congrArg₂ _ (congrArg _ (congrArg Cert.Head.mean (funext h))) (congrArg Cert.Head.rstdv (funext h))

theorem vn_pay (v : FVec Ideal S256x1024 .f32) (g a : Vec Ideal S1x1024 .f32) (r : Fin 256) (k : Fin 1024) :
    k0_pay49 (F := Ideal) v (k0_pay48 (F := Ideal) g) a (ix2 r k) = v (ix2 r k) * g (ix2 0 k) + a (ix2 0 k) := by
  pointwise [k0_pay49, k0_pay48]

theorem v188_at (c : Dev nD) (t : Fin cfg0.N) (r : Fin 256) (k : Fin 1024) :
    v188 (blk m c t) (ix2 r k) = Vn m c (bOf t r) (sOf t r) k := by
  unfold v188 v181
  rw [vn_pay, vh_at]
  exact congrArg₂ _ (congrArg _ (blk8 m c t k)) (blk9 m c t k)

/-- The same chunk's rows. -/
theorem bOf_chunk (t : Fin cfg0.N) (r : Fin 256) (q : Fin 128) : bOf t ⟨r.val / 128 * 128 + q.val, by omega⟩ = bOf t r :=
  Fin.ext (by dsimp only [bOf]; omega)
theorem sOf_chunk (t : Fin cfg0.N) (r : Fin 256) (q : Fin 128) : sOf t ⟨r.val / 128 * 128 + q.val, by omega⟩ = inChunk (sOf t r) q :=
  Fin.ext (by dsimp only [sOf, inChunk]; omega)

theorem dvn_at (c : Dev nD) (t : Fin cfg0.N) (r : Fin 256) (k : Fin 1024) :
    Run.dvn (blk m c t) (ix2 r k) = Dvn m c (bOf t r) (sOf t r) k := by
  refine (dvn_tiles _ _).trans ?_
  unfold dvnAt Dvn dvn
  refine Finset.sum_congr rfl fun j _ => congrArg₂ _ ?_ ?_
  · refine (blk11 m c t _ _ _).trans ?_
    refine congrArg (fun z : Fin 128 => A10 m c (ix3 ⟨k.val / 128, by omega⟩ j z)) (Fin.ext ?_)
    dsimp only [sOf]; change r.val % 128 = _; omega
  · refine (v189_at m c t _ _).trans ?_
    have hb := bOf_chunk t r j
    have hs := sOf_chunk t r j
    change Dmix m c (bOf t ⟨r.val / 128 * 128 + j.val, by omega⟩) (sOf t ⟨r.val / 128 * 128 + j.val, by omega⟩) k = _
    rw [hb, hs]
    rfl

theorem ws_at (c : Dev nD) (t : Fin cfg0.N) (g : Fin 8) (q r : Fin 128) :
    wsAt (blk m c t) g q r = ∑ j : Fin 256, Dmix m c (bOf t j) (inChunk (sOf t j) q) (inGroup g (sOf t j))
      * Vn m c (bOf t j) (inChunk (sOf t j) r) (inGroup g (sOf t j)) := by
  unfold wsAt
  refine Finset.sum_congr rfl fun j _ => ?_
  have hk : (⟨g.val * 128 + j.val % 128, by omega⟩ : Fin 1024) = inGroup g (sOf t j) := Fin.ext (by dsimp only [inGroup, sOf]; omega)
  rw [v189_at, v188_at, bOf_chunk, bOf_chunk, sOf_chunk, sOf_chunk, hk]

theorem bs_at (c : Dev nD) (t : Fin cfg0.N) (q : Fin 128) (k : Fin 1024) :
    v163 (blk m c t) (ix2 ⟨q.val, by omega⟩ k) + v163 (blk m c t) (ix2 ⟨128 + q.val, by omega⟩ k)
      = Dmix m c (bOf t ⟨q.val, by omega⟩) (sOf t ⟨q.val, by omega⟩) k + Dmix m c (bOf t ⟨128 + q.val, by omega⟩) (sOf t ⟨128 + q.val, by omega⟩) k := by
  rw [dmix_at, dmix_at]

theorem stepLB_at (c : Dev nD) (t : Fin cfg0.N) (a : Vec Ideal S1x1024 .f32) (k : Fin 1024) :
    stepLB (blk m c t) a (ix2 0 k) = a (ix2 0 k) + ∑ r : Fin 256, Dvn m c (bOf t r) (sOf t r) k := by
  have h : ∀ u : Vec Ideal S256x1024 .f32, k0_pay98 (F := Ideal) u a (ix2 0 k) = a (ix2 0 k) + ∑ r : Fin 256, u (ix2 r k) := fun u => by pointwise [k0_pay98]
  unfold stepLB
  rw [h]
  exact congrArg _ (Finset.sum_congr rfl fun r _ => dvn_at m c t r k)

theorem stepLG_at (c : Dev nD) (t : Fin cfg0.N) (a : Vec Ideal S1x1024 .f32) (k : Fin 1024) :
    stepLG (blk m c t) a (ix2 0 k) = a (ix2 0 k) + ∑ r : Fin 256, Dvn m c (bOf t r) (sOf t r) k * Vh m c (bOf t r) (sOf t r) k := by
  have h : ∀ (v : FVec Ideal S256x1024 .f32) (u : Vec Ideal S256x1024 .f32), k0_pay97 (F := Ideal) v u a (ix2 0 k) = a (ix2 0 k) + ∑ r : Fin 256, u (ix2 r k) * v (ix2 r k) :=
    fun v u => by pointwise [k0_pay97]
  unfold stepLG
  rw [h]
  exact congrArg _ (Finset.sum_congr rfl fun r _ => congrArg₂ _ (dvn_at m c t r k) (vh_at m c t r k))

/-! ### The convolution's norm -/

theorem dact_pay (a b : FVec Ideal S256x1024 .f32) (w : Vec Ideal S4x256x1024 .bf16) (r : Fin 256) (k : Fin 1024) :
    k0_pay24 (F := Ideal) a b w (ix2 r k)
      = ∑ l : Fin 1024, k0_pay22 (F := Ideal) a b (ix2 r l) * w (ix3 ⟨k.val / 256, by omega⟩ ⟨k.val % 256, by omega⟩ l) := by
  unfold k0_pay24
  generalize k0_pay22 (F := Ideal) a b = u
  pointwise []

theorem dact_at (c : Dev nD) (t : Fin cfg0.N) (r : Fin 256) (k : Fin 1024) :
    v47 (blk m c t) (ix2 r k) = Dact m c (bOf t r) (sOf t r) k := by
  unfold v47 Dact dact
  rw [dact_pay]
  refine Finset.sum_congr rfl fun l _ => congrArg₂ _ (dya_at m c t r l) ((blk15 m c t _ _ _).trans (at2 (A7 m c) ?_ rfl))
  dsimp only; omega

theorem ch_at (c : Dev nD) (t : Fin cfg0.N) (r : Fin 256) (k : Fin 1024) :
    v54 (blk m c t) (ix2 r k) = Ch m c (bOf t r) (sOf t r) k := by
  have h : ∀ a : Vec Ideal S256x1024 .bf16, k0_pay26 (F := Ideal) a (ix2 r k) = a (ix2 r k) := fun a => by pointwise [k0_pay26]
  unfold v54
  rw [h]
  exact blk6 m c t r k

theorem c2_pay (a : Vec Ideal S256x1024 .bf16) (g b : Vec Ideal S1x1024 .f32) (r : Fin 256) (k : Fin 1024) :
    k0_pay27 (F := Ideal) a g b (ix2 r k) = a (ix2 r k) * g (ix2 0 k) + b (ix2 0 k) := by
  pointwise [k0_pay27, k0_pay26]

set_option maxHeartbeats 2000000 in
theorem c2_at (c : Dev nD) (t : Fin cfg0.N) (r : Fin 256) (k : Fin 1024) :
    v62 (blk m c t) (ix2 r k) = C2 m c (bOf t r) (sOf t r) k := by
  have h6 : (blk m c t).x6 (ix2 r k) = Ch m c (bOf t r) (sOf t r) k := blk6 m c t r k
  have h13 : (blk m c t).x13 (ix2 0 k) = A5 m c (ix1 k) := blk13 m c t k
  have h14 : (blk m c t).x14 (ix2 0 k) = A6 m c (ix1 k) := blk14 m c t k
  unfold v62
  rw [c2_pay, h6, h13, h14]
  rfl

theorem sig_pay (a : Vec Ideal S256x1024 .bf16) (g b : Vec Ideal S1x1024 .f32) (r : Fin 256) (k : Fin 1024) :
    k0_pay28 (F := Ideal) a g b (ix2 r k) = Maths.sig (k0_pay27 (F := Ideal) a g b (ix2 r k)) := by
  rw [← Maths.sig_lit]
  unfold k0_pay28
  generalize k0_pay27 (F := Ideal) a g b = u
  pointwise []

theorem cosig_pay (a : Vec Ideal S256x1024 .bf16) (g b : Vec Ideal S1x1024 .f32) (r : Fin 256) (k : Fin 1024) :
    k0_pay29 (F := Ideal) a g b (ix2 r k) = 1 - k0_pay28 (F := Ideal) a g b (ix2 r k) := by
  rw [← Maths.lit_one]
  unfold k0_pay29
  generalize k0_pay28 (F := Ideal) a g b = u
  pointwise []

theorem sig_at (c : Dev nD) (t : Fin cfg0.N) (r : Fin 256) (k : Fin 1024) :
    v69 (blk m c t) (ix2 r k) = Maths.sig (C2 m c (bOf t r) (sOf t r) k) := by
  unfold v69
  rw [sig_pay]
  exact congrArg _ (c2_at m c t r k)

theorem cosig_at (c : Dev nD) (t : Fin cfg0.N) (r : Fin 256) (k : Fin 1024) :
    v71 (blk m c t) (ix2 r k) = 1 - Maths.sig (C2 m c (bOf t r) (sOf t r) k) := by
  unfold v71
  rw [cosig_pay]
  exact congrArg _ (sig_at m c t r k)

theorem dc2_pay (a z s u : FVec Ideal S256x1024 .f32) (r : Fin 256) (k : Fin 1024) :
    k0_pay30 (F := Ideal) a z s u (ix2 r k) = a (ix2 r k) * (s (ix2 r k) * (1 + z (ix2 r k) * u (ix2 r k))) := by
  rw [← Maths.lit_one]
  pointwise [k0_pay30]

theorem dc2_at (c : Dev nD) (t : Fin cfg0.N) (r : Fin 256) (k : Fin 1024) :
    k0_pay30 (F := Ideal) (v47 (blk m c t)) (v62 (blk m c t)) (v69 (blk m c t)) (v71 (blk m c t)) (ix2 r k) = Dc2 m c (bOf t r) (sOf t r) k := by
  rw [dc2_pay, dact_at, c2_at, sig_at, cosig_at]
  rfl

theorem stepCB_at (c : Dev nD) (t : Fin cfg0.N) (a : Vec Ideal S1x1024 .f32) (k : Fin 1024) :
    stepCB (blk m c t) a (ix2 0 k) = a (ix2 0 k) + ∑ r : Fin 256, Dc2 m c (bOf t r) (sOf t r) k := by
  have h : ∀ x z s u : FVec Ideal S256x1024 .f32, k0_pay32 (F := Ideal) x z s u a (ix2 0 k) = a (ix2 0 k) + ∑ r : Fin 256, k0_pay30 (F := Ideal) x z s u (ix2 r k) := fun x z s u => by
    unfold k0_pay32
    generalize k0_pay30 (F := Ideal) x z s u = y
    pointwise []
  unfold stepCB
  rw [h]
  exact congrArg _ (Finset.sum_congr rfl fun r _ => dc2_at m c t r k)

theorem stepCG_at (c : Dev nD) (t : Fin cfg0.N) (a : Vec Ideal S1x1024 .f32) (k : Fin 1024) :
    stepCG (blk m c t) a (ix2 0 k) = a (ix2 0 k) + ∑ r : Fin 256, Dc2 m c (bOf t r) (sOf t r) k * Ch m c (bOf t r) (sOf t r) k := by
  have h : ∀ x v z s u : FVec Ideal S256x1024 .f32, k0_pay31 (F := Ideal) x v z s u a (ix2 0 k) = a (ix2 0 k) + ∑ r : Fin 256, k0_pay30 (F := Ideal) x z s u (ix2 r k) * v (ix2 r k) := fun x v z s u => by
    unfold k0_pay31
    generalize k0_pay30 (F := Ideal) x z s u = y
    pointwise []
  unfold stepCG
  rw [h]
  exact congrArg _ (Finset.sum_congr rfl fun r _ => congrArg₂ _ (dc2_at m c t r k) (ch_at m c t r k))

end Cert.Merge

end

end
-- ==== Proof.Merge.Array.lean ====
/- The nine arrays of the merge gradient that are claimed. -/
module

public import proofs.«01_k».proof.Proof.Merge.Feed
public import proofs.«01_k».proof.Proof.Merge.Frame

@[expose] public section

set_option maxRecDepth 16384

noncomputable section

open Idealize.ShloMosaic Idealize.ShloMosaic.TcCoe Idealize.SL.Sem
open Idealize.ShloMosaic.Pipeline (Dat)

namespace Cert.Merge

open Cert.Kernel4Ideal Cert.Kernel4Ideal.Gen Cert.Merge.Run
open Cert.Head (at2 at3 half_at bias_half_at group_at sides sides_lo sides_hi)

open Idealize.ShloMosaic.Pipeline (Dat)

variable (m : (ℓ : Loc nD τ sig) → Buf (Elt Ideal) ℓ)

/-- The rows of both batch entries one after the other. -/
def rows1 (f : Fin 2 → Fin 4096 → Fin 1024 → EReal) : S8192x1024.Idx → EReal := fun i =>
  f ⟨(i 0).val / 4096, by have : (i 0).val < 8192 := (i 0).isLt; omega⟩ ⟨(i 0).val % 4096, by omega⟩ (i 1)

theorem rows1_at (f : Fin 2 → Fin 4096 → Fin 1024 → EReal) (t : Fin cfg0.N) (r : Fin 256) (k : Fin 1024) (i : S8192x1024.Idx)
    (h0 : (i 0).val = t.val * 256 + r.val) (h1 : (i 1).val = k.val) : f (bOf t r) (sOf t r) k = rows1 f i :=
  congr (congr (congrArg f (Fin.ext (by dsimp only [bOf]; omega))) (Fin.ext (by dsimp only [sOf]; omega))) (Fin.ext h1.symm)

theorem final18 (c : Dev nD) : (dats m 0 c).arrAt 18 (cfgs 0).N = rows1 (Dya m c) := by
  refine (dats m 0 c).arrAt_eq_of_covers 18 _ (by decide +kernel) fun t hf y => ?_
  blk_simp
  rw [after0_18]
  have e0 : ((((View.whole main_v109_0).slice (win0_18.rect t)).emb y) 0).val = t.val * 256 + (y 0).val := by blk_simp [idxOut t]
  have e1 : ((((View.whole main_v109_0).slice (win0_18.rect t)).emb y) 1).val = (y 1).val := by blk_simp [idxOut t]
  refine Eq.trans ?_ (rows1_at (Dya m c) t (y 0) (y 1) _ e0 e1)
  idx_vars y
  exact dya_at m c t y0 y1

theorem final19 (c : Dev nD) : (dats m 0 c).arrAt 19 (cfgs 0).N = rows1 (Dyb m c) := by
  refine (dats m 0 c).arrAt_eq_of_covers 19 _ (by decide +kernel) fun t hf y => ?_
  blk_simp
  rw [after0_19]
  have e0 : ((((View.whole main_v109_1).slice (win0_19.rect t)).emb y) 0).val = t.val * 256 + (y 0).val := by blk_simp [idxOut t]
  have e1 : ((((View.whole main_v109_1).slice (win0_19.rect t)).emb y) 1).val = (y 1).val := by blk_simp [idxOut t]
  refine Eq.trans ?_ (rows1_at (Dyb m c) t (y 0) (y 1) _ e0 e1)
  idx_vars y
  exact dyb_at m c t y0 y1

/-! ### The sums over all the rows -/

def lastPoint : Fin grid0.N := ⟨31, by rw [N_0]; decide⟩
theorem lastPoint_val : lastPoint.val + 1 = cfg0.N := N_0.symm

theorem sum_rows (f : Fin 2 → Fin 4096 → EReal) :
    ∑ t : Fin cfg0.N, ∑ r : Fin 256, f (bOf t r) (sOf t r) = ∑ b : Fin 2, ∑ s : Fin 4096, f b s := Maths.sum_rows f

theorem first_of_mod (t : Fin cfg0.N) (h : t.val % 32 = 0) : t.val = 0 := by
  have := lt_of_lt_of_eq t.isLt N_0
  omega

theorem next_of_mod (t : Fin cfg0.N) (h : ¬ t.val % 32 = 0) : t.val ≠ 0 := fun e => h (by rw [e])

/-- A part of the sums that starts at zero and to which every point adds `f t` ends as the sum of all `f t`. -/
theorem acc_last {S : Shape} (c : Dev nD) (get : Sums Ideal → S.Idx → EReal) (f : Fin cfg0.N → S.Idx → EReal)
    (hz : ∀ j, get zeros j = 0) (hs : ∀ t A j, get (step (blk m c t) A) j = get A j + f t j) (j : S.Idx) :
    get (acc m c lastPoint.val lastPoint.isLt) j = ∑ t, f t j := by
  rw [Pipeline.eq_sum_fin_of_reset_step_apply_last (fun n h => get (acc m c n h)) 32 (fun _ => 0) f
    (fun t h j => by rw [acc_first m c t (first_of_mod t h), hs, hz])
    (fun t h j => by rw [acc_next m c t (next_of_mod t h), hs])
    (le_of_eq N_0) lastPoint lastPoint_val j, zero_add]

theorem step_gb (X : Ins Ideal) (A : Sums Ideal) : (step X A).gb = stepGB X A.gb := by unfold step; dsimp only
theorem step_ws (X : Ins Ideal) (A : Sums Ideal) : (step X A).ws = stepWS X A.ws := by unfold step; dsimp only

theorem accGB (c : Dev nD) (j : S1x2048.Idx) : (acc m c lastPoint.val lastPoint.isLt).gb j = ∑ b : Fin 2, ∑ s : Fin 4096, dg m c b s (j 1) := by
  rw [acc_last m c (fun A => A.gb) (fun t j => ∑ r : Fin 256, dg m c (bOf t r) (sOf t r) (j 1))
    (fun j => by change zeroGB j = 0; unfold zeroGB; idx_vars j; pointwise [k0_pay10])
    (fun t A j => by beta_reduce; rw [step_gb, stepGB_at]; exact congrArg (fun x : EReal => A.gb j + x) (gb_at m c t (j 1)))]
  exact sum_rows fun b s => dg m c b s (j 1)

theorem accLG (c : Dev nD) (j : S1x1024.Idx) : (acc m c lastPoint.val lastPoint.isLt).lg j = ∑ b : Fin 2, ∑ s : Fin 4096, Dvn m c b s (j 1) * Vh m c b s (j 1) := by
  rw [acc_last m c (fun A => A.lg) (fun t j => ∑ r : Fin 256, Dvn m c (bOf t r) (sOf t r) (j 1) * Vh m c (bOf t r) (sOf t r) (j 1))
    (fun j => by change zeroLG j = 0; unfold zeroLG; idx_vars j; pointwise [k0_pay11])
    (fun t A j => by idx_vars j; rw [Subsingleton.elim j0 0]; exact stepLG_at m c t _ j1)]
  exact sum_rows fun b s => Dvn m c b s (j 1) * Vh m c b s (j 1)

theorem accLB (c : Dev nD) (j : S1x1024.Idx) : (acc m c lastPoint.val lastPoint.isLt).lb j = ∑ b : Fin 2, ∑ s : Fin 4096, Dvn m c b s (j 1) := by
  rw [acc_last m c (fun A => A.lb) (fun t j => ∑ r : Fin 256, Dvn m c (bOf t r) (sOf t r) (j 1))
    (fun j => by change zeroLB j = 0; unfold zeroLB; idx_vars j; pointwise [k0_pay12])
    (fun t A j => by idx_vars j; rw [Subsingleton.elim j0 0]; exact stepLB_at m c t _ j1)]
  exact sum_rows fun b s => Dvn m c b s (j 1)

theorem accCG (c : Dev nD) (j : S1x1024.Idx) : (acc m c lastPoint.val lastPoint.isLt).cg j = ∑ b : Fin 2, ∑ s : Fin 4096, Dc2 m c b s (j 1) * Ch m c b s (j 1) := by
  rw [acc_last m c (fun A => A.cg) (fun t j => ∑ r : Fin 256, Dc2 m c (bOf t r) (sOf t r) (j 1) * Ch m c (bOf t r) (sOf t r) (j 1))
    (fun j => by change zeroCG j = 0; unfold zeroCG; idx_vars j; pointwise [k0_pay15])
    (fun t A j => by idx_vars j; rw [Subsingleton.elim j0 0]; exact stepCG_at m c t _ j1)]
  exact sum_rows fun b s => Dc2 m c b s (j 1) * Ch m c b s (j 1)

theorem accCB (c : Dev nD) (j : S1x1024.Idx) : (acc m c lastPoint.val lastPoint.isLt).cb j = ∑ b : Fin 2, ∑ s : Fin 4096, Dc2 m c b s (j 1) := by
  rw [acc_last m c (fun A => A.cb) (fun t j => ∑ r : Fin 256, Dc2 m c (bOf t r) (sOf t r) (j 1))
    (fun j => by change zeroCB j = 0; unfold zeroCB; idx_vars j; pointwise [k0_pay16])
    (fun t A j => by idx_vars j; rw [Subsingleton.elim j0 0]; exact stepCB_at m c t _ j1)]
  exact sum_rows fun b s => Dc2 m c b s (j 1)

theorem accWS (c : Dev nD) (j : S8x128x128.Idx) : (acc m c lastPoint.val lastPoint.isLt).ws j
    = ∑ b : Fin 2, ∑ n : Fin 4096, Dmix m c b (inChunk n (j 1)) (inGroup (j 0) n) * Vn m c b (inChunk n (j 2)) (inGroup (j 0) n) := by
  rw [acc_last m c (fun A => A.ws) (fun t j => wsAt (blk m c t) (j 0) (j 1) (j 2))
    (fun j => by change zeroWS j = 0; unfold zeroWS; idx_vars j; pointwise [k0_pay13])
    (fun t A j => by beta_reduce; rw [step_ws, stepWS_at])]
  refine (Finset.sum_congr rfl fun t _ => ws_at m c t (j 0) (j 1) (j 2)).trans ?_
  exact sum_rows fun b n => Dmix m c b (inChunk n (j 1)) (inGroup (j 0) n) * Vn m c b (inChunk n (j 2)) (inGroup (j 0) n)

/-- What one point adds to the sums the spatial bias's gradient is taken from. -/
def bsStep (c : Dev nD) (t : Fin cfg0.N) (q : Fin 128) (k : Fin 1024) : EReal :=
  Dmix m c (bOf t ⟨q.val, by omega⟩) (sOf t ⟨q.val, by omega⟩) k + Dmix m c (bOf t ⟨128 + q.val, by omega⟩) (sOf t ⟨128 + q.val, by omega⟩) k

theorem accBS (c : Dev nD) (q : Fin 128) (k : Fin 1024) : (acc m c lastPoint.val lastPoint.isLt).bs (ix2 q k) = ∑ t : Fin cfg0.N, bsStep m c t q k :=
  acc_last m c (fun A => A.bs) (fun t j => bsStep m c t (j 0) (j 1))
    (fun j => by change zeroBS j = 0; unfold zeroBS; idx_vars j; pointwise [k0_pay14])
    (fun t A j => by
      idx_vars j
      exact (stepBS_at _ _ j0 j1).trans (congrArg _ (bs_at m c t j0 j1))) (ix2 q k)

/-- One point's share of the spatial bias's gradient: its two chunks. -/
theorem bsStep_sum (c : Dev nD) (t : Fin cfg0.N) (g : Fin 8) (q : Fin 128) :
    ∑ d : Fin 128, bsStep m c t q ⟨g.val * 128 + d.val, by omega⟩
      = ∑ j : Fin 256, Dmix m c (bOf t j) (inChunk (sOf t j) q) (inGroup g (sOf t j)) := by
  refine Eq.trans ?_ (Fin.sum_univ_add (a := 128) (b := 128) fun j : Fin 256 => Dmix m c (bOf t j) (inChunk (sOf t j) q) (inGroup g (sOf t j))).symm
  unfold bsStep
  rw [Finset.sum_add_distrib]
  have e : ∀ (b b' : Fin 2) (s s' : Fin 4096) (k k' : Fin 1024), b.val = b'.val → s.val = s'.val → k.val = k'.val → Dmix m c b s k = Dmix m c b' s' k' :=
    fun b b' s s' k k' hb hs hk => by rw [Fin.ext hb, Fin.ext hs, Fin.ext hk]
  refine congrArg₂ _ (Finset.sum_congr rfl fun d _ => e _ _ _ _ _ _ ?_ ?_ ?_) (Finset.sum_congr rfl fun d _ => e _ _ _ _ _ _ ?_ ?_ ?_)
  · dsimp only [bOf, Fin.val_castAdd]; omega
  · dsimp only [sOf, inChunk, Fin.val_castAdd]; omega
  · dsimp only [sOf, inGroup, Fin.val_castAdd]; omega
  · dsimp only [bOf, Fin.val_natAdd]; omega
  · dsimp only [sOf, inChunk, Fin.val_natAdd]; omega
  · dsimp only [sOf, inGroup, Fin.val_natAdd]; omega

theorem final22 (c : Dev nD) : (dats m 0 c).arrAt 22 (cfgs 0).N = fun i => ∑ b : Fin 2, ∑ s : Fin 4096, dg m c b s (i 1) := by
  refine (dats m 0 c).arrAt_eq_of_after_last 22 lastPoint (by decide +kernel) _ fun j => ?_
  blk_simp
  rw [after0_22]
  exact accGB m c j

theorem final23 (c : Dev nD) : (dats m 0 c).arrAt 23 (cfgs 0).N = fun i => dlg (A0 m c) (A2 m c) (A3 m c) (A10 m c) (A12 m c) (A13 m c) (i 1) := by
  refine (dats m 0 c).arrAt_eq_of_after_last 23 lastPoint (by decide +kernel) _ fun j => ?_
  blk_simp
  rw [after0_23]
  exact accLG m c j

theorem final24 (c : Dev nD) : (dats m 0 c).arrAt 24 (cfgs 0).N = fun i => dlb (A0 m c) (A2 m c) (A3 m c) (A10 m c) (A12 m c) (A13 m c) (i 1) := by
  refine (dats m 0 c).arrAt_eq_of_after_last 24 lastPoint (by decide +kernel) _ fun j => ?_
  blk_simp
  rw [after0_24]
  exact accLB m c j

theorem bs_last (c : Dev nD) (k : Fin 1024) : bsAt (acc m c lastPoint.val lastPoint.isLt).bs k
    = dbs (A0 m c) (A2 m c) (A3 m c) (A12 m c) (A13 m c) ⟨k.val / 128, by omega⟩ ⟨k.val % 128, by omega⟩ := by
  unfold bsAt
  refine (Finset.sum_congr rfl fun d _ => accBS m c _ _).trans (Finset.sum_comm.trans ?_)
  refine (Finset.sum_congr rfl fun t _ => bsStep_sum m c t ⟨k.val / 128, by omega⟩ ⟨k.val % 128, by omega⟩).trans ?_
  exact sum_rows fun b n => Dmix m c b (inChunk n ⟨k.val % 128, by omega⟩) (inGroup ⟨k.val / 128, by omega⟩ n)

theorem final25 (c : Dev nD) : (dats m 0 c).arrAt 25 (cfgs 0).N = fun i =>
    dbs (A0 m c) (A2 m c) (A3 m c) (A12 m c) (A13 m c) ⟨(i 1).val / 128, by have : (i 1).val < 1024 := (i 1).isLt; omega⟩ ⟨(i 1).val % 128, by omega⟩ := by
  refine (dats m 0 c).arrAt_eq_of_after_last 25 lastPoint (by decide +kernel) _ fun j => ?_
  blk_simp
  rw [after0_25]
  exact (bsBlk_at _ j).trans (bs_last m c (j 1))

theorem final26 (c : Dev nD) : (dats m 0 c).arrAt 26 (cfgs 0).N = fun i =>
    dws (A0 m c) (A2 m c) (A3 m c) (A8 m c) (A9 m c) (A12 m c) (A13 m c) (i 0) (i 1) (i 2) := by
  refine (dats m 0 c).arrAt_eq_of_after_last 26 lastPoint (by decide +kernel) _ fun j => ?_
  blk_simp
  rw [after0_26]
  exact accWS m c j

theorem final27 (c : Dev nD) : (dats m 0 c).arrAt 27 (cfgs 0).N = fun i =>
    dcg (A0 m c) (A1 m c) (A2 m c) (A3 m c) (A4 m c) (A5 m c) (A6 m c) (A7 m c) (A13 m c) (i 1) := by
  refine (dats m 0 c).arrAt_eq_of_after_last 27 lastPoint (by decide +kernel) _ fun j => ?_
  blk_simp
  rw [after0_27]
  exact accCG m c j

theorem final28 (c : Dev nD) : (dats m 0 c).arrAt 28 (cfgs 0).N = fun i =>
    dcb (A0 m c) (A1 m c) (A2 m c) (A3 m c) (A4 m c) (A5 m c) (A6 m c) (A7 m c) (A13 m c) (i 1) := by
  refine (dats m 0 c).arrAt_eq_of_after_last 28 lastPoint (by decide +kernel) _ fun j => ?_
  blk_simp
  rw [after0_28]
  exact accCB m c j

/-! ### What the whole program leaves -/

set_option maxHeartbeats 2000000 in
/-- After a run the nine results are these arrays and the arguments are as launched. -/
theorem run_values (ρ : Dev nD → PrngReg) :
    θ_run defs (onTc (τ := τ) (main (F := Ideal))) ⟨m, fun _ => 0, ρ⟩ (fun r => ∀ c : Dev nD,
      r.2.mem ((c : Thread nD τ).loc main_v109_0) = (dats m 0 c).arrAt 18 (cfgs 0).N
      ∧ r.2.mem ((c : Thread nD τ).loc main_v109_1) = (dats m 0 c).arrAt 19 (cfgs 0).N
      ∧ r.2.mem ((c : Thread nD τ).loc main_v109_4) = (dats m 0 c).arrAt 22 (cfgs 0).N
      ∧ r.2.mem ((c : Thread nD τ).loc main_v109_5) = (dats m 0 c).arrAt 23 (cfgs 0).N
      ∧ r.2.mem ((c : Thread nD τ).loc main_v109_6) = (dats m 0 c).arrAt 24 (cfgs 0).N
      ∧ r.2.mem ((c : Thread nD τ).loc main_v109_7) = (dats m 0 c).arrAt 25 (cfgs 0).N
      ∧ r.2.mem ((c : Thread nD τ).loc main_v109_8) = (dats m 0 c).arrAt 26 (cfgs 0).N
      ∧ r.2.mem ((c : Thread nD τ).loc main_v109_9) = (dats m 0 c).arrAt 27 (cfgs 0).N
      ∧ r.2.mem ((c : Thread nD τ).loc main_v109_10) = (dats m 0 c).arrAt 28 (cfgs 0).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)) :=
  (θ_run defs _ _).mono (fun r h c => ⟨(Dat.toRForget_arrAt_iff (dats m 0 c) (fgt := forgets) (w := 18) rfl _ _).mp ((h.1 c).1 18), (Dat.toRForget_arrAt_iff (dats m 0 c) (fgt := forgets) (w := 19) rfl _ _).mp ((h.1 c).1 19), (Dat.toRForget_arrAt_iff (dats m 0 c) (fgt := forgets) (w := 22) rfl _ _).mp ((h.1 c).1 22), (Dat.toRForget_arrAt_iff (dats m 0 c) (fgt := forgets) (w := 23) rfl _ _).mp ((h.1 c).1 23), (Dat.toRForget_arrAt_iff (dats m 0 c) (fgt := forgets) (w := 24) rfl _ _).mp ((h.1 c).1 24), (Dat.toRForget_arrAt_iff (dats m 0 c) (fgt := forgets) (w := 25) rfl _ _).mp ((h.1 c).1 25), (Dat.toRForget_arrAt_iff (dats m 0 c) (fgt := forgets) (w := 26) rfl _ _).mp ((h.1 c).1 26), (Dat.toRForget_arrAt_iff (dats m 0 c) (fgt := forgets) (w := 27) rfl _ _).mp ((h.1 c).1 27), (Dat.toRForget_arrAt_iff (dats m 0 c) (fgt := forgets) (w := 28) rfl _ _).mp ((h.1 c).1 28), h.2.1 c⟩)
    (θ_run_and (run_main m ρ) (frame m ρ))

end Cert.Merge

end

end
-- ==== Proof.Merge.Contract.lean ====
/- The reference's sums over the chunks: the product contracted over three axes, and the sum over the axes 0, 1 and 4. -/
module

public import proofs.«01_k».proof.Proof.Merge.Reference

@[expose] public section

set_option maxRecDepth 16384

noncomputable section

open Idealize.ShloMosaic Idealize.ShloMosaic.TcCoe Idealize.SL.Sem

namespace Cert.Merge

open Cert.Reference4Ideal Cert.Reference4Ideal.Gen Cert.Reference4Ideal.Read
open Cert.Head (mean rstdv lnorm vrow vn mixed gated yb sa sb)

/-- The product's dimensions: over batch, chunk and channel of the group. -/
abbrev D3 := dot_S8x128x2x32x128_S2x32x128x8x128_S8x128x128_234_014_1_2_0_3

/-- A contracted index from its three coordinates. -/
def contr3 (k : Fin 2 × Fin 32 × Fin 128) : D3.contr.Idx := fun a => match a with
  | ⟨0, _⟩ => k.1
  | ⟨1, _⟩ => k.2.1
  | ⟨2, _⟩ => k.2.2

theorem contr3_bijective : Function.Bijective contr3 := by
  refine ⟨fun x y h => ?_, fun q => ⟨(q ⟨0, by decide⟩, q ⟨1, by decide⟩, q ⟨2, by decide⟩), ?_⟩⟩
  · exact Prod.ext (congrFun h ⟨0, by decide⟩) (Prod.ext (congrFun h ⟨1, by decide⟩) (congrFun h ⟨2, by decide⟩))
  · funext a
    match a with
    | ⟨0, _⟩ => rfl
    | ⟨1, _⟩ => rfl
    | ⟨2, _⟩ => rfl

theorem dot3 (x : FVec Ideal S8x128x2x32x128 .f32) (y : FVec Ideal S2x32x128x8x128 .f32) (g : Fin 8) (q r : Fin 128) :
    Host.dotGeneral D3 none x y (ix3 g q r) = ∑ b : Fin 2, ∑ n : Fin 32, ∑ l : Fin 128, x (ix5 g q b n l) * y (ix5 b n r g l) := by
  simp only [Host.dotGeneral]
  rw [Ideal.dotGeneral_apply, ← contr3_bijective.sum_comp, Fintype.sum_prod_type]
  refine Finset.sum_congr rfl fun b _ => ?_
  rw [Fintype.sum_prod_type]
  refine Finset.sum_congr rfl fun n _ => Finset.sum_congr rfl fun l _ => ?_
  have el : D3.lhsIdx (ix3 g q r) (contr3 (b, n, l)) = ix5 g q b n l := by
    funext a; apply Fin.ext
    match a with
    | ⟨0, _⟩ => rfl
    | ⟨1, _⟩ => rfl
    | ⟨2, _⟩ => rfl
    | ⟨3, _⟩ => rfl
    | ⟨4, _⟩ => rfl
  have er : D3.rhsIdx (ix3 g q r) (contr3 (b, n, l)) = ix5 b n r g l := by
    funext a; apply Fin.ext
    match a with
    | ⟨0, _⟩ => rfl
    | ⟨1, _⟩ => rfl
    | ⟨2, _⟩ => rfl
    | ⟨3, _⟩ => rfl
    | ⟨4, _⟩ => rfl
  rw [el, er]

section Reduce
variable {n0 n1 n2 n3 n4 : Nat}

theorem drop_eq_iff (h : (⟨5, ![n0, n1, n2, n3, n4]⟩ : Shape).ReducesTo [0, 1, 4] ⟨2, ![n2, n3]⟩) (q : Fin n2) (g : Fin n3)
    (i : (⟨5, ![n0, n1, n2, n3, n4]⟩ : Shape).Idx) :
    h.drop i = ix2 q g ↔ ∃ k : Fin n0 × Fin n1 × Fin n4, ix5 k.1 k.2.1 q g k.2.2 = i := by
  refine ⟨fun e => ⟨(i 0, i 1, i 4), funext fun a => Fin.ext ?_⟩, ?_⟩
  · fin_cases a
    · rfl
    · rfl
    · exact (congrArg Fin.val (congrFun e 0)).symm
    · exact (congrArg Fin.val (congrFun e 1)).symm
    · rfl
  · rintro ⟨k, rfl⟩
    funext b
    fin_cases b <;> exact Fin.ext rfl

/-- The host's sum over the axes 0, 1 and 4 of five is the initial value plus the triple sum. -/
theorem hostSum_chunks (h : (⟨5, ![n0, n1, n2, n3, n4]⟩ : Shape).ReducesTo [0, 1, 4] ⟨2, ![n2, n3]⟩)
    (v : (⟨5, ![n0, n1, n2, n3, n4]⟩ : Shape).Idx → EReal) (init : EReal) (q : Fin n2) (g : Fin n3) :
    Ideal.hostReduceAdd h v init (ix2 q g) = init + ∑ a : Fin n0, ∑ b : Fin n1, ∑ l : Fin n4, v (ix5 a b q g l) := by
  refine congrArg (init + ·) ?_
  rw [Finset.sum_filter_eq_sum_of_fiber _ (fun k : Fin n0 × Fin n1 × Fin n4 => ix5 k.1 k.2.1 q g k.2.2)
    (fun _ _ e => Prod.ext (congrFun e 0) (Prod.ext (congrFun e 1) (congrFun e 4))) (drop_eq_iff h q g) v, Fintype.sum_prod_type]
  exact Finset.sum_congr rfl fun a _ => Fintype.sum_prod_type _

end Reduce

/-- A sum over the chunks and the channels of a group, by one number. -/
theorem sum_chunk (f : Fin 32 → Fin 128 → EReal) :
    ∑ n : Fin 32, ∑ l : Fin 128, f n l = ∑ n : Fin 4096, f ⟨n.val / 128, by omega⟩ ⟨n.val % 128, by omega⟩ :=
  Fin.sum_mul_add_congr fun b s hl => by
    congr 1
    · congr 1; exact Fin.ext (by dsimp only; omega)
    · exact Fin.ext (by dsimp only; omega)

variable (a0 a1 : FVec Ideal S2x4096x1024 .f32) (a2 : FVec Ideal S2x4096x6144 .f32) (a3 : FVec Ideal S2048 .f32)
  (a8 a9 : FVec Ideal S1024 .f32) (a12 a13 : FVec Ideal S1024x1024 .f32)

theorem ref_dmix5 (b : Fin 2) (n : Fin 32) (q : Fin 128) (g : Fin 8) (l : Fin 128) :
    val_main_v113 (F := Ideal) a0 a2 a3 a12 a13 (ix5 b n q g l)
      = dmix a0 a2 a3 a12 a13 b ⟨n.val * 128 + q.val, by omega⟩ ⟨g.val * 128 + l.val, by omega⟩ := by
  rw [← ref_dmix]
  pointwise [val_main_v113]

theorem ref_vn5 (b : Fin 2) (n : Fin 32) (q : Fin 128) (g : Fin 8) (l : Fin 128) :
    val_main_v57 (F := Ideal) a2 a8 a9 (ix5 b n q g l)
      = vn a2 a8 a9 b ⟨n.val * 128 + q.val, by omega⟩ ⟨g.val * 128 + l.val, by omega⟩ := by
  rw [← ref_vn]
  pointwise [val_main_v57]

theorem ref_dws (g : Fin 8) (q r : Fin 128) :
    val_main_v121 (F := Ideal) a0 a2 a3 a8 a9 a12 a13 (ix3 g q r) = dws a0 a2 a3 a8 a9 a12 a13 g q r := by
  unfold dws val_main_v121
  refine (dot3 _ _ g q r).trans (Finset.sum_congr rfl fun b _ => ?_)
  refine Eq.trans ?_ (sum_chunk fun n l => dmix a0 a2 a3 a12 a13 b ⟨n.val * 128 + q.val, by omega⟩ ⟨g.val * 128 + l.val, by omega⟩
    * vn a2 a8 a9 b ⟨n.val * 128 + r.val, by omega⟩ ⟨g.val * 128 + l.val, by omega⟩)
  refine Finset.sum_congr rfl fun n _ => Finset.sum_congr rfl fun l _ => ?_
  rw [← ref_dmix5, ← ref_vn5]
  pointwise [val_main_v118]

theorem ref_sumS (g : Fin 8) (q : Fin 128) : val_main_v114 (F := Ideal) a0 a2 a3 a12 a13 (ix2 q g) = dbs a0 a2 a3 a12 a13 g q := by
  unfold dbs val_main_v114
  refine (hostSum_chunks _ _ _ q g).trans ?_
  have z : val_main_cst_19 (F := Ideal) (Shape.Idx.first h_S_) = 0 := Maths.lit_zero
  rw [z, zero_add]
  refine Finset.sum_congr rfl fun b _ => ?_
  refine Eq.trans ?_ (sum_chunk fun n l => dmix a0 a2 a3 a12 a13 b ⟨n.val * 128 + q.val, by omega⟩ ⟨g.val * 128 + l.val, by omega⟩)
  exact Finset.sum_congr rfl fun n _ => Finset.sum_congr rfl fun l _ => ref_dmix5 a0 a2 a3 a12 a13 b n q g l

theorem ref_sumS' (g : Fin 8) (q : Fin 128) : val_main_v116 (F := Ideal) a0 a2 a3 a12 a13 (ix2 q g) = dbs a0 a2 a3 a12 a13 g q := by
  rw [← ref_sumS]
  unfold val_main_v116
  refine (hostSum_chunks _ _ _ q g).trans ?_
  have z : val_main_cst_20 (F := Ideal) (Shape.Idx.first h_S_) = 0 := Maths.lit_zero
  rw [z, zero_add]
  simp only [Fin.sum_univ_one]
  pointwise [val_main_v115]

theorem ref_dbs (k : Fin 1024) : val_main_v236 (F := Ideal) a0 a2 a3 a12 a13 (ix2 0 k)
    = dbs a0 a2 a3 a12 a13 ⟨k.val / 128, by omega⟩ ⟨k.val % 128, by omega⟩ := by
  rw [← ref_sumS']
  pointwise [val_main_v236, val_main_v117]

end Cert.Merge

end

end
-- ==== Proof.Merge.Claim.lean ====
/- The claims about the merge and spatial-gating gradient. -/
module

public import proofs.«01_k».proof.Defs
public import proofs.«01_k».proof.Proof.Gen.Kernel4
public import proofs.«01_k».proof.Proof.Gen.Pre_finite4
public import proofs.«01_k».proof.Proof.Gen.Reference4Ideal.Run
public import proofs.«01_k».proof.Proof.Merge.KernelFrame
public import proofs.«01_k».proof.Proof.Merge.Array
public import proofs.«01_k».proof.Proof.Merge.Reference
public import proofs.«01_k».proof.Proof.Merge.Contract

@[expose] public section

set_option maxRecDepth 16384

noncomputable section

open Idealize.ShloMosaic Idealize.ShloMosaic.TcCoe Idealize.SL.Sem
open Idealize.ShloMosaic.Pipeline (Dat)

namespace Cert.Merge

/-- The frame of the reference: its run ends with its arguments as launched. -/
theorem frame_reference : Cert.quiescent_Reference4Ideal := fun m g _ =>
  (θ_run Cert.Reference4Ideal.defs _ _).mono
    (fun r h => ⟨fun c => (h c).2.2.2.2.2.2.2.2.2, Idealize.ShloMosaic.sem_eq_zero_of_no_sems (by decide) r.2⟩)
    (Cert.Reference4Ideal.Value.run m g)

theorem frame_ideal : Cert.quiescent_Kernel4Ideal := fun m ρ _ => Run.frame (F := Ideal) m ρ

open Cert.Kernel4Ideal in
/-- Under the precondition the gradient of the activated convolution is a real number. -/
theorem real_dact (m : (ℓ : Loc nD τ sig) → Buf (Elt Ideal) ℓ) (h : Cert.Pre_Kernel4Ideal_finite4 m) (c : Dev nD)
    (b : Fin 2) (s : Fin 4096) (k : Fin 1024) :
    Maths.IsReal (dact (A0 m c) (A2 m c) (A3 m c) (A7 m c) (A13 m c) b s k) := by
  have h0 : ∀ i, Maths.IsReal (A0 m c i) := fun i => Maths.isReal_of_test (congrFun (h c).1 i)
  have h7 : ∀ i, Maths.IsReal (A7 m c i) := fun i => Maths.isReal_of_test (congrFun (h c).2.1 i)
  have h13 : ∀ i, Maths.IsReal (A13 m c i) := fun i => Maths.isReal_of_test (congrFun (h c).2.2 i)
  refine Maths.IsReal.sum _ _ fun l _ => Maths.IsReal.mul (Maths.IsReal.mul (Maths.IsReal.sum _ _ fun j _ => (h0 _).mul (h13 _)) ?_) (h7 _)
  exact Maths.isReal_sig _

open Cert.Kernel4Ideal in
/-- The reference's gradient of both gates' bias. -/
theorem ref_dg (m : (ℓ : Loc nD τ sig) → Buf (Elt Ideal) ℓ) (c : Dev nD) (k : Fin 2048) :
    Cert.Reference4Ideal.Read.val_main_v233 (F := Ideal) (A0 m c) (A1 m c) (A2 m c) (A3 m c) (A4 m c) (A5 m c) (A6 m c) (A7 m c) (A8 m c) (A9 m c) (A10 m c) (A11 m c) (A12 m c) (A13 m c) (ix2 0 k)
      = ∑ b : Fin 2, ∑ s : Fin 4096, dg m c b s k := by
  by_cases h : k.val < 1024
  · refine Eq.trans ?_ ((ref_dgA (A0 m c) (A1 m c) (A2 m c) (A3 m c) (A4 m c) (A5 m c) (A6 m c) (A7 m c) (A8 m c) (A9 m c) (A10 m c) (A11 m c) (A12 m c) (A13 m c) ⟨k.val, h⟩).trans ?_)
    · rfl
    · exact Finset.sum_congr rfl fun b _ => Finset.sum_congr rfl fun s _ => by unfold dg; rw [dif_pos h]
  · refine Eq.trans ?_ ((ref_dgB (A0 m c) (A1 m c) (A2 m c) (A3 m c) (A4 m c) (A5 m c) (A6 m c) (A7 m c) (A8 m c) (A9 m c) (A10 m c) (A11 m c) (A12 m c) (A13 m c) ⟨k.val - 1024, by omega⟩).trans ?_)
    · exact congrArg (fun z : Fin 2048 => Cert.Reference4Ideal.Read.val_main_v233 (F := Ideal) (A0 m c) (A1 m c) (A2 m c) (A3 m c) (A4 m c) (A5 m c) (A6 m c) (A7 m c) (A8 m c) (A9 m c) (A10 m c) (A11 m c) (A12 m c) (A13 m c) (ix2 0 z)) (Fin.ext (show k.val = 1024 + (k.val - 1024) by omega))
    · exact Finset.sum_congr rfl fun b _ => Finset.sum_congr rfl fun s _ => by unfold dg; rw [dif_neg h]

set_option maxHeartbeats 8000000 in
/-- Both programs end with the same nine results. -/
theorem algebraic : Cert.algebraic_Kernel4Ideal_Reference4Ideal_pre_finite4 := by
  pair_intro
  · run_from run_values m g
  · have kk : ∀ c, StableHlo.launchContents m' c (Proc.tc.devRef Cert.Reference4Ideal.main_arg0) = A0 m c ∧ StableHlo.launchContents m' c (Proc.tc.devRef Cert.Reference4Ideal.main_arg1) = A1 m c ∧ StableHlo.launchContents m' c (Proc.tc.devRef Cert.Reference4Ideal.main_arg2) = A2 m c ∧ StableHlo.launchContents m' c (Proc.tc.devRef Cert.Reference4Ideal.main_arg3) = A3 m c ∧ StableHlo.launchContents m' c (Proc.tc.devRef Cert.Reference4Ideal.main_arg4) = A4 m c ∧ StableHlo.launchContents m' c (Proc.tc.devRef Cert.Reference4Ideal.main_arg5) = A5 m c ∧ StableHlo.launchContents m' c (Proc.tc.devRef Cert.Reference4Ideal.main_arg6) = A6 m c ∧ StableHlo.launchContents m' c (Proc.tc.devRef Cert.Reference4Ideal.main_arg7) = A7 m c ∧ StableHlo.launchContents m' c (Proc.tc.devRef Cert.Reference4Ideal.main_arg8) = A8 m c ∧ StableHlo.launchContents m' c (Proc.tc.devRef Cert.Reference4Ideal.main_arg9) = A9 m c ∧ StableHlo.launchContents m' c (Proc.tc.devRef Cert.Reference4Ideal.main_arg10) = A10 m c ∧ StableHlo.launchContents m' c (Proc.tc.devRef Cert.Reference4Ideal.main_arg11) = A11 m c ∧ StableHlo.launchContents m' c (Proc.tc.devRef Cert.Reference4Ideal.main_arg12) = A12 m c ∧ StableHlo.launchContents m' c (Proc.tc.devRef Cert.Reference4Ideal.main_arg13) = A13 m c := fun c => by
      obtain ⟨g0, g1, g2, g3, g4, g5, g6, g7, g8, g9, g10, g11, g12, g13⟩ := hagree c
      exact ⟨g0, g1, g2, g3, g4, g5, g6, g7, g8, g9, g10, g11, g12, g13⟩
    run_from Cert.Reference4Ideal.Value.run m' g'
    all_goals obtain ⟨k0, k1, k2, k3, k4, k5, k6, k7, k8, k9, k10, k11, k12, k13⟩ := kk c
    · rw [Cert.Reference4Ideal.Read.val_main_v230_eq, k0, k2, k3, k13]
      refine Eq.trans ?_ (final18 m c).symm
      funext i
      idx_vars i
      exact ref_dyaRows _ _ _ _ i0 i1
    · rw [Cert.Reference4Ideal.Read.val_main_v232_eq, k0, k2, k3, k13]
      refine Eq.trans ?_ (final19 m c).symm
      funext i
      idx_vars i
      exact ref_dybRows _ _ _ _ i0 i1
    · rw [Cert.Reference4Ideal.Read.val_main_v233_eq, k0, k1, k2, k3, k4, k5, k6, k7, k8, k9, k10, k11, k12, k13]
      refine Eq.trans ?_ (final22 m c).symm
      funext i
      idx_vars i
      rw [Subsingleton.elim i0 0]
      exact ref_dg m c i1
    · rw [Cert.Reference4Ideal.Read.val_main_v234_eq, k0, k2, k3, k10, k12, k13]
      refine Eq.trans ?_ (final23 m c).symm
      funext i
      idx_vars i
      rw [Subsingleton.elim i0 0]
      exact ref_dlg _ _ _ _ _ _ i1
    · rw [Cert.Reference4Ideal.Read.val_main_v235_eq, k0, k2, k3, k10, k12, k13]
      refine Eq.trans ?_ (final24 m c).symm
      funext i
      idx_vars i
      rw [Subsingleton.elim i0 0]
      exact ref_dlb _ _ _ _ _ _ i1
    · rw [Cert.Reference4Ideal.Read.val_main_v236_eq, k0, k2, k3, k12, k13]
      refine Eq.trans ?_ (final25 m c).symm
      funext i
      idx_vars i
      rw [Subsingleton.elim i0 0]
      exact ref_dbs _ _ _ _ _ i1
    · refine (Cert.Reference4Ideal.Read.val_main_v121_eq (F := Ideal) (StableHlo.launchContents m' c)).trans ?_
      rw [k0, k2, k3, k8, k9, k12, k13]
      refine Eq.trans ?_ (final26 m c).symm
      funext i
      idx_vars i
      exact ref_dws _ _ _ _ _ _ _ i0 i1 i2
    · rw [Cert.Reference4Ideal.Read.val_main_v237_eq, k0, k1, k2, k3, k4, k5, k6, k7, k13]
      refine Eq.trans ?_ (final27 m c).symm
      funext i
      idx_vars i
      rw [Subsingleton.elim i0 0]
      exact ref_dcg _ _ _ _ _ _ _ _ _ i1 (real_dact m hpre c)
    · rw [Cert.Reference4Ideal.Read.val_main_v238_eq, k0, k1, k2, k3, k4, k5, k6, k7, k13]
      refine Eq.trans ?_ (final28 m c).symm
      funext i
      idx_vars i
      rw [Subsingleton.elim i0 0]
      exact ref_dcb _ _ _ _ _ _ _ _ _ i1 (real_dact m hpre c)

end Cert.Merge

end

end
-- ==== Proof.MixFwd.Spec.lean ====
/- What the forward pass of the first norm and projection computes, element by element. -/
module

public import proofs.«01_k».proof.Proof.Maths

@[expose] public section

set_option maxRecDepth 16384

noncomputable section

open Idealize.ShloMosaic Idealize.ShloMosaic.TcCoe Idealize.SL.Sem
open Idealize.ShloMosaic.Pipeline (Dat)

namespace Cert.MixFwd

/-- A row of the input. -/
def row (x : (⟨3, ![2, 4096, 1024]⟩ : Shape).Idx → EReal) (b : Fin 2) (s : Fin 4096) : Fin 1024 → EReal := fun k => x (ix3 b s k)

/-- The normalised, scaled input at position `(b, s)`, channel `k`. -/
def hid (x : (⟨3, ![2, 4096, 1024]⟩ : Shape).Idx → EReal) (g : (⟨1, ![1024]⟩ : Shape).Idx → EReal)
    (b : Fin 2) (s : Fin 4096) (k : Fin 1024) : EReal := x (ix3 b s k) * Maths.rstd (row x b s) * g (ix1 k)

/-- Its projection. -/
def proj (x : (⟨3, ![2, 4096, 1024]⟩ : Shape).Idx → EReal) (g : (⟨1, ![1024]⟩ : Shape).Idx → EReal)
    (w : (⟨2, ![1024, 6144]⟩ : Shape).Idx → EReal) (b : Fin 2) (s : Fin 4096) (l : Fin 6144) : EReal :=
  ∑ k : Fin 1024, hid x g b s k * w (ix2 k l)

end Cert.MixFwd
-- ==== Proof.MixFwd.Array.lean ====
/- The forward kernel of the first norm and projection: its blocks, its tiles, and the two arrays it leaves. -/
module

public import proofs.«01_k».proof.Proof.Gen.Kernel5Ideal.Value
public import proofs.«01_k».proof.Proof.MixFwd.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixFwd

open Cert.Kernel5Ideal Cert.Kernel5Ideal.Gen

variable (m : (ℓ : Loc nD τ sig) → Buf (Elt Ideal) ℓ)

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

/-- The batch entry and the position of row `r` of block `t`. -/
def bOf (t : Fin cfg0.N) (r : Fin 512) : Fin 2 := ⟨(t.val * 512 + r.val) / 4096, by have := lt_of_lt_of_eq t.isLt N_0; omega⟩
def sOf (t : Fin cfg0.N) (r : Fin 512) : Fin 4096 := ⟨(t.val * 512 + r.val) % 4096, by omega⟩

/-! ### The arguments and their blocks -/

abbrev A0 (c : Dev nD) : FVec Ideal S2x4096x1024 .f32 := m ((c : Thread nD τ).loc main_arg0)
abbrev A1 (c : Dev nD) : FVec Ideal S1024 .f32 := m ((c : Thread nD τ).loc main_arg1)
abbrev A2 (c : Dev nD) : FVec Ideal S1024x6144 .f32 := m ((c : Thread nD τ).loc main_arg2)

theorem blk0 (c : Dev nD) (t : Fin cfg0.N) (r : Fin 512) (l : Fin 1024) :
    iblk m c 0 t (ix2 r l) = A0 m c (ix3 (bOf t r) (sOf t r) l) := by
  blk_point [iblk, V, idx t, bOf, sOf]

theorem blk1 (c : Dev nD) (t : Fin cfg0.N) (l : Fin 1024) : iblk m c 1 t (ix2 0 l) = A1 m c (ix1 l) := by
  blk_point [iblk, V, idx t, bOf, sOf]

theorem blk2 (c : Dev nD) (t : Fin cfg0.N) (i : Fin 4) (k : Fin 1024) (l : Fin 1536) :
    iblk m c 2 t (ix3 i k l) = A2 m c (ix2 k ⟨i.val * 1536 + l.val, by omega⟩) := by
  blk_point [iblk, V, idx t, bOf, sOf]

/-! ### The normalised block -/

/-- The normalised, scaled block of a grid point, as the body writes it. -/
def hTile (c : Dev nD) (t : Fin cfg0.N) : FVec Ideal S512x1024 .bf16 := k0_pay6 (F := Ideal) (iblk m c 0 t) (iblk m c 1 t)

theorem h_pay (x : Vec Ideal S512x1024 .f32) (g : Vec Ideal S1x1024 .f32) (r : Fin 512) (k : Fin 1024) :
    k0_pay6 (F := Ideal) x g (ix2 r k) = x (ix2 r k) * Maths.rstd (fun k => x (ix2 r k)) * g (ix2 0 k) := by
  pointwise [k0_pay6, Maths.rstd]

theorem hTile_at (c : Dev nD) (t : Fin cfg0.N) (r : Fin 512) (k : Fin 1024) :
    hTile m c t (ix2 r k) = hid (A0 m c) (A1 m c) (bOf t r) (sOf t r) k := by
  unfold hTile
  rw [h_pay, blk1]
  simp only [blk0]
  rfl

/-! ### The tiles of the projection -/

/-- The columns from `o` on of shard `i` of the weights, as the body loads them. -/
def slab (w : FVec Ideal S4x1024x1536 .bf16) (i o : Nat) (h : ∀ a, ![i, 0, o] a + S1x1024x512.size a ≤ S4x1024x1536.size a) :
    Vec Ideal S1x1024x512 .bf16 :=
  View.ld w (Rect.unit (s := S4x1024x1536) ![i, 0, o] ![1, 1024, 512] h)

theorem slab_at (w : FVec Ideal S4x1024x1536 .bf16) (i o : Nat) (h) (k : Fin 1024) (l : Fin 512) (hi : i < 4) (hl : o + l.val < 1536) :
    slab w i o h (ix3 0 k l) = w (ix3 ⟨i, hi⟩ k ⟨o + l.val, hl⟩) := by
  refine congrArg w ?_
  idx_ext

theorem prod_pay (a : FVec Ideal S512x1024 .bf16) (w : Vec Ideal S1x1024x512 .bf16) (r l : Fin 512) :
    k0_pay2 (F := Ideal) a w (ix2 r l) = ∑ k : Fin 1024, a (ix2 r k) * w (ix3 0 k l) := by
  pointwise [k0_pay2]

theorem tile (c : Dev nD) (t : Fin cfg0.N) (i o n : Nat) (h) (hi : i < 4) (ho : o + 512 ≤ 1536) (hn : n = i * 1536 + o) (x : S512x512.Idx)
    (y : S512x6144.Idx) (e0 : (y 0).val = (x 0).val) (e1 : (y 1).val = n + (x 1).val) :
    k0_pay2 (F := Ideal) (hTile m c t) (slab (iblk m c 2 t) i o h) x = proj (A0 m c) (A1 m c) (A2 m c) (bOf t (y 0)) (sOf t (y 0)) (y 1) := by
  idx_vars x
  rw [prod_pay]
  have hl : x1.val < 512 := x1.isLt
  have h0 : x0 = y 0 := Fin.ext e0.symm
  rw [← h0]
  refine Finset.sum_congr rfl fun k _ => ?_
  rw [hTile_at, slab_at _ _ _ _ _ _ hi (by omega), blk2]
  congr 3
  exact Fin.ext (by dsimp only at e1 ⊢; omega)

theorem out4_eq (x0 : Vec Ideal S512x1024 .f32) (x1 : Vec Ideal S1x1024 .f32) (x2 : Vec Ideal S4x1024x1536 .bf16) :
    out0_4 (F := Ideal) x0 x1 x2 = View.canon
      [⟨r0_25, k0_pay2 (F := Ideal) (k0_pay6 x0 x1) (slab x2 3 1024 inb_S4x1024x1536_S1x1024x512_3_0_1024)⟩,
       ⟨r0_23, k0_pay2 (F := Ideal) (k0_pay6 x0 x1) (slab x2 3 512 inb_S4x1024x1536_S1x1024x512_3_0_512)⟩,
       ⟨r0_21, k0_pay2 (F := Ideal) (k0_pay6 x0 x1) (slab x2 3 0 inb_S4x1024x1536_S1x1024x512_3_0_0)⟩,
       ⟨r0_19, k0_pay2 (F := Ideal) (k0_pay6 x0 x1) (slab x2 2 1024 inb_S4x1024x1536_S1x1024x512_2_0_1024)⟩,
       ⟨r0_17, k0_pay2 (F := Ideal) (k0_pay6 x0 x1) (slab x2 2 512 inb_S4x1024x1536_S1x1024x512_2_0_512)⟩,
       ⟨r0_15, k0_pay2 (F := Ideal) (k0_pay6 x0 x1) (slab x2 2 0 inb_S4x1024x1536_S1x1024x512_2_0_0)⟩,
       ⟨r0_13, k0_pay2 (F := Ideal) (k0_pay6 x0 x1) (slab x2 1 1024 inb_S4x1024x1536_S1x1024x512_1_0_1024)⟩,
       ⟨r0_11, k0_pay2 (F := Ideal) (k0_pay6 x0 x1) (slab x2 1 512 inb_S4x1024x1536_S1x1024x512_1_0_512)⟩,
       ⟨r0_9, k0_pay2 (F := Ideal) (k0_pay6 x0 x1) (slab x2 1 0 inb_S4x1024x1536_S1x1024x512_1_0_0)⟩,
       ⟨r0_7, k0_pay2 (F := Ideal) (k0_pay6 x0 x1) (slab x2 0 1024 inb_S4x1024x1536_S1x1024x512_0_0_1024)⟩,
       ⟨r0_5, k0_pay2 (F := Ideal) (k0_pay6 x0 x1) (slab x2 0 512 inb_S4x1024x1536_S1x1024x512_0_0_512)⟩,
       ⟨r0_3, k0_pay2 (F := Ideal) (k0_pay6 x0 x1) (slab x2 0 0 inb_S4x1024x1536_S1x1024x512_0_0_0)⟩] := by
  have e0 : View.ld x0 r0_0 = x0 := funext fun i => congrArg x0 (by idx_ext)
  have e1 : View.ld x1 r0_1 = x1 := funext fun i => congrArg x1 (by idx_ext)
  unfold out0_4 k0_pay16
  rw [e0, e1]
  sl_kernel_rfl

theorem out4_at (c : Dev nD) (t : Fin cfg0.N) (y : S512x6144.Idx) :
    out0_4 (F := Ideal) (iblk m c 0 t) (iblk m c 1 t) (iblk m c 2 t) y
      = proj (A0 m c) (A1 m c) (A2 m c) (bOf t (y 0)) (sOf t (y 0)) (y 1) := by
  rw [out4_eq]
  canon_tiles x h using View.cover_of_tiledBy _ ![512, 512] (by sl_kernel_rfl) y
  · exact tile m c t 3 1024 5632 _ (by omega) (by omega) rfl x y (by omega) (by omega)
  · exact tile m c t 3 512 5120 _ (by omega) (by omega) rfl x y (by omega) (by omega)
  · exact tile m c t 3 0 4608 _ (by omega) (by omega) rfl x y (by omega) (by omega)
  · exact tile m c t 2 1024 4096 _ (by omega) (by omega) rfl x y (by omega) (by omega)
  · exact tile m c t 2 512 3584 _ (by omega) (by omega) rfl x y (by omega) (by omega)
  · exact tile m c t 2 0 3072 _ (by omega) (by omega) rfl x y (by omega) (by omega)
  · exact tile m c t 1 1024 2560 _ (by omega) (by omega) rfl x y (by omega) (by omega)
  · exact tile m c t 1 512 2048 _ (by omega) (by omega) rfl x y (by omega) (by omega)
  · exact tile m c t 1 0 1536 _ (by omega) (by omega) rfl x y (by omega) (by omega)
  · exact tile m c t 0 1024 1024 _ (by omega) (by omega) rfl x y (by omega) (by omega)
  · exact tile m c t 0 512 512 _ (by omega) (by omega) rfl x y (by omega) (by omega)
  · exact tile m c t 0 0 0 _ (by omega) (by omega) rfl x y (by omega) (by omega)

/-! ### The two arrays -/

/-- The normalised input, the rows of both batch entries one after the other. -/
def hidArr (c : Dev nD) : FVec Ideal S8192x1024 .bf16 := fun i =>
  hid (A0 m c) (A1 m c) ⟨(i 0).val / 4096, by have : (i 0).val < 8192 := (i 0).isLt; omega⟩ ⟨(i 0).val % 4096, by omega⟩ (i 1)

/-- The projection, likewise. -/
def projArr (c : Dev nD) : FVec Ideal S8192x6144 .bf16 := fun i =>
  proj (A0 m c) (A1 m c) (A2 m c) ⟨(i 0).val / 4096, by have : (i 0).val < 8192 := (i 0).isLt; omega⟩ ⟨(i 0).val % 4096, by omega⟩ (i 1)

set_option maxHeartbeats 1000000 in
theorem final3 (c : Dev nD) : (dats m 0 c).arrAt 3 (cfgs 0).N = hidArr m c := by
  refine (dats m 0 c).arrAt_eq_of_covers 3 _ (by decide +kernel) fun t hf y => ?_
  blk_simp
  rw [after0_3]
  frame_out
  idx_vars y
  refine (hTile_at m c t y0 y1).trans ?_
  unfold hidArr bOf sOf
  blk_simp [idx t]
  exact congrArg _ (Fin.ext (by blk_simp [idx t]))

set_option maxHeartbeats 1000000 in
theorem final4 (c : Dev nD) : (dats m 0 c).arrAt 4 (cfgs 0).N = projArr m c := by
  refine (dats m 0 c).arrAt_eq_of_covers 4 _ (by decide +kernel) fun t hf y => ?_
  blk_simp
  rw [after0_4]
  refine (out4_at m c t y).trans ?_
  unfold projArr bOf sOf
  blk_simp [idx t]
  exact congrArg _ (Fin.ext (by blk_simp [idx t]))

end Cert.MixFwd
-- ==== Proof.MixFwd.Reference.lean ====
/- What the reference of the forward pass of the first norm and projection computes, element by element. -/
module

public import proofs.«01_k».proof.Proof.Gen.Reference5Ideal.Read
public import proofs.«01_k».proof.Proof.MixFwd.Spec

@[expose] public section

set_option maxRecDepth 16384

noncomputable section

open Idealize.ShloMosaic Idealize.ShloMosaic.TcCoe Idealize.SL.Sem
open Idealize.ShloMosaic.Pipeline (Dat)

namespace Cert.MixFwd

open Cert.Reference5Ideal Cert.Reference5Ideal.Gen Cert.Reference5Ideal.Read

variable (x0 : FVec Ideal S2x4096x1024 .f32) (x1 : FVec Ideal S1024 .f32) (x2 : FVec Ideal S1024x6144 .f32)

theorem ref_rstd (b : Fin 2) (s : Fin 4096) : val_main_v7 (F := Ideal) x0 (ix3 b s 0) = Maths.rstd (row x0 b s) := by
  pointwise [val_main_v7, val_main_v6, val_main_v5, val_main_v4, val_main_v3, val_main_v2, val_main_v1, val_main_v0, val_main_cst, val_main_cst_0, val_main_cst_1, row, Maths.rstd]

theorem ref_hid_row (b : Fin 2) (s : Fin 4096) (k : Fin 1024) : val_main_v12 (F := Ideal) x0 x1 (ix3 b s k) = hid x0 x1 b s k := by
  unfold hid
  rw [← ref_rstd]
  pointwise [val_main_v12, val_main_v11, val_main_v10, val_main_v9, val_main_v8]

theorem ref_hid (a : Fin 8192) (k : Fin 1024) : val_main_v15 (F := Ideal) x0 x1 (ix2 a k)
    = hid x0 x1 ⟨a.val / 4096, by omega⟩ ⟨a.val % 4096, by omega⟩ k := by
  rw [← ref_hid_row]
  pointwise [val_main_v15, val_main_v14]

theorem ref_proj (a : Fin 8192) (l : Fin 6144) : val_main_v17 (F := Ideal) x0 x1 x2 (ix2 a l)
    = proj x0 x1 x2 ⟨a.val / 4096, by omega⟩ ⟨a.val % 4096, by omega⟩ l := by
  unfold proj
  simp only [← ref_hid_row]
  pointwise [val_main_v17, val_main_v16, val_main_v13]

end Cert.MixFwd
-- ==== Proof.MixFwd.Claim.lean ====
/- The claims about the forward kernel of the first norm and projection. -/
module

public import proofs.«01_k».proof.Defs
public import proofs.«01_k».proof.Proof.Gen.Reference5Ideal.Run
public import proofs.«01_k».proof.Proof.MixFwd.Array
public import proofs.«01_k».proof.Proof.MixFwd.Reference

@[expose] public section

set_option maxRecDepth 16384

noncomputable section

open Idealize.ShloMosaic Idealize.ShloMosaic.TcCoe Idealize.SL.Sem
open Idealize.ShloMosaic.Pipeline (Dat)

namespace Cert.MixFwd

/-- The frame of the reference: its run ends with its arguments as launched. -/
theorem frame_reference : Cert.quiescent_Reference5Ideal := fun m g _ =>
  (θ_run Cert.Reference5Ideal.defs _ _).mono
    (fun r h => ⟨fun c => (h c).2.2, Idealize.ShloMosaic.sem_eq_zero_of_no_sems (by decide) r.2⟩)
    (Cert.Reference5Ideal.Value.run m g)

/-- Both programs end with the same normalised input and the same projection. -/
theorem algebraic : Cert.algebraic_Kernel5Ideal_Reference5Ideal := by
  pair_intro
  · run_from Cert.Kernel5Ideal.Value.run_blocks m g
  · run_from Cert.Reference5Ideal.Value.run m' g'
    · rw [Cert.Reference5Ideal.Read.val_main_v15_eq]
      refine Eq.trans ?_ (final3 m c).symm
      funext i
      idx_vars i
      exact ref_hid _ _ _ _
    · rw [Cert.Reference5Ideal.Read.val_main_v17_eq]
      refine Eq.trans ?_ (final4 m c).symm
      funext i
      idx_vars i
      exact ref_proj _ _ _ _ _

end Cert.MixFwd
-- ==== Proof.Conv.Claim.lean ====
/- The reference of the convolution's backward call runs to its end. -/
module

public import proofs.«01_k».proof.Defs
public import proofs.«01_k».proof.Proof.Gen.Reference6Ideal.Run

@[expose] public section

set_option maxRecDepth 16384

noncomputable section

open Idealize.ShloMosaic Idealize.ShloMosaic.TcCoe Idealize.SL.Sem

namespace Cert.Conv

/-- The frame of the reference: its run ends with its arguments as launched. -/
theorem frame_reference : Cert.quiescent_Reference6Ideal := fun m g _ =>
  (θ_run Cert.Reference6Ideal.defs _ _).mono
    (fun r h => ⟨fun c => (h c).2.2, Idealize.ShloMosaic.sem_eq_zero_of_no_sems (by decide) r.2⟩)
    (Cert.Reference6Ideal.Value.run m g)

end Cert.Conv
-- ==== Proof.WIn.Spec.lean ====
/- The gradient of the input projection's weight, element by element. -/
module

public import proofs.«01_k».proof.Proof.Maths

@[expose] public section

set_option maxRecDepth 16384

noncomputable section

open Idealize.ShloMosaic Idealize.ShloMosaic.TcCoe Idealize.SL.Sem
open Idealize.ShloMosaic.Pipeline (Dat)

namespace Cert.WIn

/-- The normalised, scaled input in row `n` of the positions of both batch entries, channel `k`. -/
def hid (x : (⟨3, ![2, 4096, 1024]⟩ : Shape).Idx → EReal) (g : (⟨1, ![1024]⟩ : Shape).Idx → EReal) (n : Fin 8192) (k : Fin 1024) : EReal :=
  x (ix3 ⟨n.val / 4096, by omega⟩ ⟨n.val % 4096, by omega⟩ k)
    * Maths.rstd (fun k => x (ix3 ⟨n.val / 4096, by omega⟩ ⟨n.val % 4096, by omega⟩ k)) * g (ix1 k)

/-- The projection's cotangent in row `n`. -/
def cot (d : (⟨3, ![2, 4096, 6144]⟩ : Shape).Idx → EReal) (n : Fin 8192) (l : Fin 6144) : EReal :=
  d (ix3 ⟨n.val / 4096, by omega⟩ ⟨n.val % 4096, by omega⟩ l)

/-- The gradient of the weight: the products of input and cotangent, summed over the rows. -/
def gradW (d : (⟨3, ![2, 4096, 6144]⟩ : Shape).Idx → EReal) (x : (⟨3, ![2, 4096, 1024]⟩ : Shape).Idx → EReal)
    (g : (⟨1, ![1024]⟩ : Shape).Idx → EReal) (k : Fin 1024) (l : Fin 6144) : EReal :=
  ∑ n : Fin 8192, hid x g n k * cot d n l

end Cert.WIn
-- ==== Proof.WIn.Array.lean ====
/- The kernel of the gradient of the input projection's weight: its blocks, its sums over the rows, and the array it leaves. -/
module

public import proofs.«01_k».proof.Proof.Gen.Kernel7Ideal.Value
public import proofs.«01_k».proof.Proof.WIn.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.WIn

open Cert.Kernel7Ideal Cert.Kernel7Ideal.Gen

variable (m : (ℓ : Loc nD τ sig) → Buf (Elt Ideal) ℓ)

theorem idx : ∀ t : Fin cfg0.N, win0_0.index t = ![t.val % 4, 0] ∧ win0_1.index t = ![t.val % 4, t.val / 4]
    ∧ win0_2.index t = ![t.val / 4, 0, 0] :=
  (by decide +kernel : ∀ t : Fin grid0.N, _)

/-- Row `r` of the blocks of point `t`, among the rows of both batch entries, and column `l` among the columns of the weight. -/
def nOf (t : Fin cfg0.N) (r : Fin 2048) : Fin 8192 := ⟨t.val % 4 * 2048 + r.val, by omega⟩
def lOf (t : Fin cfg0.N) (l : Fin 1536) : Fin 6144 := ⟨t.val / 4 * 1536 + l.val, by have := lt_of_lt_of_eq t.isLt N_0; omega⟩

/-! ### The arguments and their blocks -/

abbrev A0 (c : Dev nD) : FVec Ideal S2x4096x6144 .f32 := m ((c : Thread nD τ).loc main_arg0)
abbrev A1 (c : Dev nD) : FVec Ideal S2x4096x1024 .f32 := m ((c : Thread nD τ).loc main_arg1)
abbrev A2 (c : Dev nD) : FVec Ideal S1024 .f32 := m ((c : Thread nD τ).loc main_arg2)

theorem hid_at (c : Dev nD) (n : Fin 8192) (k : Fin 1024) :
    (V m c main_v14 : FVec Ideal S8192x1024 .bf16) (ix2 n k) = hid (A1 m c) (A2 m c) n k := by
  entry_read
  pointwise [hid, Maths.rstd]

theorem cot_at (c : Dev nD) (n : Fin 8192) (l : Fin 6144) :
    (V m c main_v16 : FVec Ideal S8192x6144 .bf16) (ix2 n l) = cot (A0 m c) n l := by
  entry_read
  pointwise [cot]

theorem blk0 (c : Dev nD) (t : Fin cfg0.N) (r : Fin 2048) (k : Fin 1024) :
    iblk m c 0 t (ix2 r k) = hid (A1 m c) (A2 m c) (nOf t r) k := by
  refine Eq.trans ?_ (hid_at m c (nOf t r) k)
  blk_ext [iblk, idx t, nOf]

theorem blk1 (c : Dev nD) (t : Fin cfg0.N) (r : Fin 2048) (l : Fin 1536) :
    iblk m c 1 t (ix2 r l) = cot (A0 m c) (nOf t r) (lOf t l) := by
  refine Eq.trans ?_ (cot_at m c (nOf t r) (lOf t l))
  blk_ext [iblk, idx t, nOf, lOf]

/-! ### What a point adds, and what a run of points leaves -/

theorem zero_pay (i : S1024x1536.Idx) : k0_pay1 (F := Ideal) i = 0 := by
  idx_vars i
  pointwise [k0_pay1]

theorem add_pay (a : Vec Ideal S2048x1024 .bf16) (acc : Vec Ideal S1024x1536 .f32) (b : Vec Ideal S2048x1536 .bf16) (i : S1024x1536.Idx) :
    k0_pay2 (F := Ideal) a acc b i = acc i + ∑ r : Fin 2048, a (ix2 r (i 0)) * b (ix2 r (i 1)) := by
  idx_vars i
  pointwise [k0_pay2]

theorem out_pay (x : Vec Ideal S1024x1536 .f32) (k : Fin 1024) (l : Fin 1536) : k0_pay3 (F := Ideal) x (ix3 0 k l) = x (ix2 k l) := by
  pointwise [k0_pay3]

/-- What point `t` adds to the sums. -/
def term (c : Dev nD) (t : Fin cfg0.N) (i : S1024x1536.Idx) : EReal :=
  ∑ r : Fin 2048, hid (A1 m c) (A2 m c) (nOf t r) (i 0) * cot (A0 m c) (nOf t r) (lOf t (i 1))

theorem add_point (c : Dev nD) (t : Fin cfg0.N) (acc : Vec Ideal S1024x1536 .f32) (i : S1024x1536.Idx) :
    k0_pay2 (F := Ideal) (iblk m c 0 t) acc (iblk m c 1 t) i = acc i + term m c t i := by
  idx_vars i
  rw [add_pay]
  unfold term
  exact congrArg (_ + ·) (Finset.sum_congr rfl fun r _ => congrArg₂ (· * ·) (blk0 m c t r i0) (blk1 m c t r i1))

theorem sums (c : Dev nD) (t : Fin cfg0.N) (ht : t.val % 4 = 3) (k : Fin 1024) (l : Fin 1536) :
    ((outsAt0 m c t.val t.isLt).2 : Vec Ideal S1024x1536 .f32) (ix2 k l) = gradW (A0 m c) (A1 m c) (A2 m c) k (lOf t l) := by
  rw [Pipeline.eq_sum_fin_of_reset_step_apply_of_flush (fun n h => ((outsAt0 m c n h).2 : Vec Ideal S1024x1536 .f32)) 4 (fun _ => (0 : EReal)) (term m c)
    (fun t h i => by
      rw [outsAt0_A m c t h (by omega)]; dsimp only; frame_out
      rw [add_point, zero_pay])
    (fun t h i => by
      by_cases h3 : t.val % 4 = 3
      · rw [outsAt0_C m c t h h3]; dsimp only; frame_out
        rw [add_point]
        exact congrArg (· + _) (congrFun (Memref.IsWhole.read_unread (Val := Elt Ideal) (Memref.isWhole_whole cc0_scratch0) _) i)
      · rw [outsAt0_B m c t h h3]; dsimp only; frame_out
        rw [add_point]
        exact congrArg (· + _) (congrFun (Memref.IsWhole.read_unread (Val := Elt Ideal) (Memref.isWhole_whole cc0_scratch0) _) i))
    t ht (ix2 k l), zero_add]
  unfold gradW term
  refine Fin.sum_mul_add_congr fun s r hl => ?_
  have hn : nOf ⟨4 * (t.val / 4) + s.val, Pipeline.run_point_lt_of_flush t ht s⟩ r = ⟨s.val * 2048 + r.val, hl⟩ :=
    Fin.ext (by unfold nOf; dsimp only; omega)
  have hc : lOf ⟨4 * (t.val / 4) + s.val, Pipeline.run_point_lt_of_flush t ht s⟩ l = lOf t l :=
    Fin.ext (by unfold lOf; dsimp only; omega)
  exact congrArg₂ (fun n q => hid (A1 m c) (A2 m c) n k * cot (A0 m c) n q) hn hc

theorem out_sums (c : Dev nD) (t : Fin cfg0.N) (ht : t.val % 4 = 3) :
    (outsAt0 m c t.val t.isLt).1 = k0_pay3 (F := Ideal) (outsAt0 m c t.val t.isLt).2 := by
  rw [outsAt0_C m c t (by omega) ht]
  dsimp only
  frame_out

/-! ### The array -/

/-- The gradient, its columns split over the four devices. -/
def gradArr (c : Dev nD) : FVec Ideal S4x1024x1536 .bf16 := fun i =>
  gradW (A0 m c) (A1 m c) (A2 m c) (i 1) ⟨(i 0).val * 1536 + (i 2).val, by
    have h0 : (i 0).val < 4 := (i 0).isLt
    have h2 : (i 2).val < 1536 := (i 2).isLt
    omega⟩

set_option maxHeartbeats 1000000 in
theorem final2 (c : Dev nD) : (dats m 0 c).arrAt 2 (cfgs 0).N = gradArr m c := by
  refine (dats m 0 c).arrAt_eq_of_covers 2 _ (by decide +kernel) fun t hf y => ?_
  have ht : t.val % 4 = 3 := (flush0_2 t).mp hf
  blk_simp
  rw [after0_2, out_sums m c t ht]
  idx_vars y
  obtain rfl : y0 = 0 := Subsingleton.elim _ _
  rw [out_pay, sums m c t ht]
  unfold gradArr lOf
  blk_simp [idx t]
  exact congrArg₂ (gradW (A0 m c) (A1 m c) (A2 m c)) (Fin.ext (by blk_simp [idx t])) (Fin.ext (by simp))

end Cert.WIn
-- ==== Proof.WIn.Reference.lean ====
/- What the reference of the gradient of the input projection's weight computes, element by element. -/
module

public import proofs.«01_k».proof.Proof.Gen.Reference7Ideal.Read
public import proofs.«01_k».proof.Proof.WIn.Spec

@[expose] public section

set_option maxRecDepth 16384

noncomputable section

open Idealize.ShloMosaic Idealize.ShloMosaic.TcCoe Idealize.SL.Sem
open Idealize.ShloMosaic.Pipeline (Dat)

namespace Cert.WIn

open Cert.Reference7Ideal Cert.Reference7Ideal.Gen Cert.Reference7Ideal.Read

variable (x0 : FVec Ideal S2x4096x6144 .f32) (x1 : FVec Ideal S2x4096x1024 .f32) (x2 : FVec Ideal S1024 .f32)

theorem ref_rstd (n : Fin 8192) : val_main_v8 (F := Ideal) x1 (ix2 n 0)
    = Maths.rstd (fun k => x1 (ix3 ⟨n.val / 4096, by omega⟩ ⟨n.val % 4096, by omega⟩ k)) := by
  pointwise [val_main_v8, val_main_v7, val_main_v6, val_main_v5, val_main_v4, val_main_v3, val_main_v2, val_main_v1, val_main_v0, val_main_cst, val_main_cst_0, val_main_cst_1, Maths.rstd]

theorem ref_hid (n : Fin 8192) (k : Fin 1024) : val_main_v13 (F := Ideal) x1 x2 (ix2 n k) = hid x1 x2 n k := by
  unfold hid
  rw [← ref_rstd]
  pointwise [val_main_v13, val_main_v12, val_main_v11, val_main_v10, val_main_v9, val_main_v0]

theorem ref_cot (n : Fin 8192) (l : Fin 6144) : val_main_v15 (F := Ideal) x0 (ix2 n l) = cot x0 n l := by
  pointwise [val_main_v15, cot]

theorem ref_dot (l : Fin 6144) (k : Fin 1024) : val_main_v16 (F := Ideal) x0 x1 x2 (ix2 l k)
    = ∑ n : Fin 8192, val_main_v15 (F := Ideal) x0 (ix2 n l) * val_main_v13 (F := Ideal) x1 x2 (ix2 n k) := by
  pointwise [val_main_v16]

theorem ref_grad (j : Fin 4) (k : Fin 1024) (l : Fin 1536) : val_main_v20 (F := Ideal) x0 x1 x2 (ix3 j k l)
    = gradW x0 x1 x2 k ⟨j.val * 1536 + l.val, by omega⟩ := by
  have h : val_main_v20 (F := Ideal) x0 x1 x2 (ix3 j k l) = val_main_v16 (F := Ideal) x0 x1 x2 (ix2 ⟨j.val * 1536 + l.val, by omega⟩ k) := by
    pointwise [val_main_v20, val_main_v19, val_main_v18, val_main_v17]
  rw [h, ref_dot]
  unfold gradW
  refine Finset.sum_congr rfl fun n _ => ?_
  rw [ref_cot, ref_hid, mul_comm]

end Cert.WIn
-- ==== Proof.WIn.Claim.lean ====
/- The claims about the kernel of the gradient of the input projection's weight. -/
module

public import proofs.«01_k».proof.Defs
public import proofs.«01_k».proof.Proof.Gen.Reference7Ideal.Run
public import proofs.«01_k».proof.Proof.WIn.Array
public import proofs.«01_k».proof.Proof.WIn.Reference

@[expose] public section

set_option maxRecDepth 16384

noncomputable section

open Idealize.ShloMosaic Idealize.ShloMosaic.TcCoe Idealize.SL.Sem
open Idealize.ShloMosaic.Pipeline (Dat)

namespace Cert.WIn

/-- The frame of the reference: its run ends with its arguments as launched. -/
theorem frame_reference : Cert.quiescent_Reference7Ideal := fun m g _ =>
  (θ_run Cert.Reference7Ideal.defs _ _).mono
    (fun r h => ⟨fun c => (h c).2, Idealize.ShloMosaic.sem_eq_zero_of_no_sems (by decide) r.2⟩)
    (Cert.Reference7Ideal.Value.run m g)

/-- Both programs end with the same gradient. -/
theorem algebraic : Cert.algebraic_Kernel7Ideal_Reference7Ideal := by
  pair_intro
  · run_from Cert.Kernel7Ideal.Value.run_blocks m g
  · run_from Cert.Reference7Ideal.Value.run m' g'
    rw [Cert.Reference7Ideal.Read.val_main_v20_eq]
    refine Eq.trans ?_ (final2 m c).symm
    funext i
    idx_vars i
    exact ref_grad _ _ _ _ _ _

end Cert.WIn
-- ==== Proof.ConvFwd.Claim.lean ====
/- The reference of the convolution's forward call runs to its end. -/
module

public import proofs.«01_k».proof.Defs
public import proofs.«01_k».proof.Proof.Gen.Reference8Ideal.Run

@[expose] public section

set_option maxRecDepth 16384

noncomputable section

open Idealize.ShloMosaic Idealize.ShloMosaic.TcCoe Idealize.SL.Sem

namespace Cert.ConvFwd

/-- The frame of the reference: its run ends with its arguments as launched. -/
theorem frame_reference : Cert.quiescent_Reference8Ideal := fun m g _ =>
  (θ_run Cert.Reference8Ideal.defs _ _).mono
    (fun r h => ⟨fun c => (h c).2.2.2.2, Idealize.ShloMosaic.sem_eq_zero_of_no_sems (by decide) r.2⟩)
    (Cert.Reference8Ideal.Value.run m g)

end Cert.ConvFwd
-- ==== Proof.lean ====
/- The claims of this directory, put together: one module per call states what it computes and proves its claims
   (`Proof/MixIn`, `Proof/Ffn`, `Proof/Head`, `Proof/Merge`, `Proof/MixFwd`, `Proof/WIn`; of `Proof/Conv` and `Proof/ConvFwd` the
   frames alone); the kernels' frames are the generated ones but in
   `Proof/Head` and `Proof/Merge`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference2Ideal
public import proofs.«01_k».proof.Proof.Gen.Pre_finite2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame.Runs
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.MixIn.Claim
public import proofs.«01_k».proof.Proof.Ffn.Claim
public import proofs.«01_k».proof.Proof.Head.Claim
public import proofs.«01_k».proof.Proof.Merge.Claim
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.MixFwd.Claim
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Conv.Claim
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.WIn.Claim
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.ConvFwd.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite2.Gen.facts, Cert.Pre_finite4.Gen.facts,
  fun m ρ _ => Cert.Kernel.Gen.frame m ρ, fun m ρ _ => Cert.KernelIdeal.Gen.frame m ρ, Cert.MixIn.frame_reference,
  fun m ρ _ => Cert.Kernel2.Gen.frame m ρ, fun m ρ _ => Cert.Kernel2Ideal.Gen.frame m ρ, fun m ρ _ => Cert.Kernel2Ideal.Gen.frame m ρ,
  Cert.Ffn.frame_reference, fun m ρ _ => Cert.Ffn.frame_reference m ρ trivial,
  Cert.Head.frame_kernel, Cert.Head.frame_ideal, Cert.Head.frame_reference,
  Cert.Merge.frame_kernel, Cert.Merge.frame_ideal, fun m ρ _ => Cert.Merge.frame_ideal m ρ trivial,
  Cert.Merge.frame_reference, fun m ρ _ => Cert.Merge.frame_reference m ρ trivial,
  fun m ρ _ => Cert.Kernel5.Gen.frame m ρ, fun m ρ _ => Cert.Kernel5Ideal.Gen.frame m ρ, Cert.MixFwd.frame_reference,
  fun m ρ _ => Cert.Kernel6.Gen.frame m ρ, fun m ρ _ => Cert.Kernel6Ideal.Gen.frame m ρ, Cert.Conv.frame_reference,
  fun m ρ _ => Cert.Kernel7.Gen.frame m ρ, fun m ρ _ => Cert.Kernel7Ideal.Gen.frame m ρ, Cert.WIn.frame_reference,
  fun m ρ _ => Cert.Kernel8.Gen.frame m ρ, fun m ρ _ => Cert.Kernel8Ideal.Gen.frame m ρ, Cert.ConvFwd.frame_reference,
  trivial, Cert.MixIn.algebraic, trivial, Cert.Ffn.algebraic, trivial, Cert.Head.algebraic, trivial, Cert.Merge.algebraic,
  trivial, Cert.MixFwd.algebraic, trivial, trivial, Cert.WIn.algebraic, trivial⟩

end Cert.Proof

end
